-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10)
      ∧ r.2.mem ((c.tc : Thread Cert.Kernel20.nD Cert.Kernel20.τ).loc Cert.Kernel20.main_arg11) = m ((c.tc : Thread Cert.Kernel20.nD Cert.Kernel20.τ).loc Cert.Kernel20.main_arg11)
      ∧ r.2.mem ((c.tc : Thread Cert.Kernel20.nD Cert.Kernel20.τ).loc Cert.Kernel20.main_arg12) = m ((c.tc : Thread Cert.Kernel20.nD Cert.Kernel20.τ).loc Cert.Kernel20.main_arg12)
      ∧ r.2.mem ((c.tc : Thread Cert.Kernel20.nD Cert.Kernel20.τ).loc Cert.Kernel20.main_arg13) = m ((c.tc : Thread Cert.Kernel20.nD Cert.Kernel20.τ).loc Cert.Kernel20.main_arg13))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
      ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
      ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
      ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10)
      ∧ r.2.mem ((c.tc : Thread Cert.Reference20Ideal.nD Cert.Reference20Ideal.τ).loc Cert.Reference20Ideal.main_arg11) = m ((c.tc : Thread Cert.Reference20Ideal.nD Cert.Reference20Ideal.τ).loc Cert.Reference20Ideal.main_arg11)
      ∧ r.2.mem ((c.tc : Thread Cert.Reference20Ideal.nD Cert.Reference20Ideal.τ).loc Cert.Reference20Ideal.main_arg12) = m ((c.tc : Thread Cert.Reference20Ideal.nD Cert.Reference20Ideal.τ).loc Cert.Reference20Ideal.main_arg12)
      ∧ r.2.mem ((c.tc : Thread Cert.Reference20Ideal.nD Cert.Reference20Ideal.τ).loc Cert.Reference20Ideal.main_arg13) = m ((c.tc : Thread Cert.Reference20Ideal.nD Cert.Reference20Ideal.τ).loc Cert.Reference20Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_v67) = v1 c
          ∧ r.2.mem ((c.tc : Thread Cert.Reference8Ideal.nD Cert.Reference8Ideal.τ).loc Cert.Reference8Ideal.main_v68) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel6_Kernel6Ideal : Prop :=
  IdealRules.named_const.Statement Cert.Kernel6Ideal.κ "inv_sqrt_two" .f32 0x3F3504F3#32 (((Real.sqrt 2)⁻¹ : ℝ) : EReal)
  ∧ IdealRules.named_const.Statement Cert.Kernel6Ideal.κ "inv_sqrt_two_pi" .f32 0x3ECC422A#32 (((Real.sqrt (2 * Real.pi))⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v138) = v0 c
          ∧ r.2.mem ((c.tc : Thread Cert.Reference6Ideal.nD Cert.Reference6Ideal.τ).loc Cert.Reference6Ideal.main_v85) = v1 c
          ∧ r.2.mem ((c.tc : Thread Cert.Reference6Ideal.nD Cert.Reference6Ideal.τ).loc Cert.Reference6Ideal.main_v139) = v2 c
          ∧ r.2.mem ((c.tc : Thread Cert.Reference6Ideal.nD Cert.Reference6Ideal.τ).loc Cert.Reference6Ideal.main_v140) = v3 c
          ∧ r.2.mem ((c.tc : Thread Cert.Reference6Ideal.nD Cert.Reference6Ideal.τ).loc Cert.Reference6Ideal.main_v141) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel10_Kernel10Ideal : Prop :=
  IdealRules.named_const.Statement Cert.Kernel10Ideal.κ "inv_sqrt_two" .f32 0x3F3504F3#32 (((Real.sqrt 2)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v33) = v2 c
          ∧ r.2.mem ((c.tc : Thread Cert.Reference11Ideal.nD Cert.Reference11Ideal.τ).loc Cert.Reference11Ideal.main_v35) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v82) = v0 c
          ∧ r.2.mem ((c.tc : Thread Cert.Reference14Ideal.nD Cert.Reference14Ideal.τ).loc Cert.Reference14Ideal.main_v83) = v1 c
          ∧ r.2.mem ((c.tc : Thread Cert.Reference14Ideal.nD Cert.Reference14Ideal.τ).loc Cert.Reference14Ideal.main_v84) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_v47) = v3 c
          ∧ r.2.mem ((c.tc : Thread Cert.Reference17Ideal.nD Cert.Reference17Ideal.τ).loc Cert.Reference17Ideal.main_v28) = v4 c
          ∧ r.2.mem ((c.tc : Thread Cert.Reference17Ideal.nD Cert.Reference17Ideal.τ).loc Cert.Reference17Ideal.main_v34) = v5 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_v1) = v4 c
          ∧ r.2.mem ((c.tc : Thread Cert.Reference18Ideal.nD Cert.Reference18Ideal.τ).loc Cert.Reference18Ideal.main_v49) = v5 c
          ∧ r.2.mem ((c.tc : Thread Cert.Reference18Ideal.nD Cert.Reference18Ideal.τ).loc Cert.Reference18Ideal.main_v30) = v6 c
          ∧ r.2.mem ((c.tc : Thread Cert.Reference18Ideal.nD Cert.Reference18Ideal.τ).loc Cert.Reference18Ideal.main_v36) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)
      ∧ m' ((c.tc : Thread Cert.Reference20Ideal.nD Cert.Reference20Ideal.τ).loc Cert.Reference20Ideal.main_arg11) = m ((c.tc : Thread Cert.Kernel20Ideal.nD Cert.Kernel20Ideal.τ).loc Cert.Kernel20Ideal.main_arg11)
      ∧ m' ((c.tc : Thread Cert.Reference20Ideal.nD Cert.Reference20Ideal.τ).loc Cert.Reference20Ideal.main_arg12) = m ((c.tc : Thread Cert.Kernel20Ideal.nD Cert.Kernel20Ideal.τ).loc Cert.Kernel20Ideal.main_arg12)
      ∧ m' ((c.tc : Thread Cert.Reference20Ideal.nD Cert.Reference20Ideal.τ).loc Cert.Reference20Ideal.main_arg13) = m ((c.tc : Thread Cert.Kernel20Ideal.nD Cert.Kernel20Ideal.τ).loc Cert.Kernel20Ideal.main_arg13)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
          ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
          ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
          ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v21) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10)
          ∧ r.2.mem ((c.tc : Thread Cert.Reference20Ideal.nD Cert.Reference20Ideal.τ).loc Cert.Reference20Ideal.main_arg11) = m' ((c.tc : Thread Cert.Reference20Ideal.nD Cert.Reference20Ideal.τ).loc Cert.Reference20Ideal.main_arg11)
          ∧ r.2.mem ((c.tc : Thread Cert.Reference20Ideal.nD Cert.Reference20Ideal.τ).loc Cert.Reference20Ideal.main_arg12) = m' ((c.tc : Thread Cert.Reference20Ideal.nD Cert.Reference20Ideal.τ).loc Cert.Reference20Ideal.main_arg12)
          ∧ r.2.mem ((c.tc : Thread Cert.Reference20Ideal.nD Cert.Reference20Ideal.τ).loc Cert.Reference20Ideal.main_arg13) = m' ((c.tc : Thread Cert.Reference20Ideal.nD Cert.Reference20Ideal.τ).loc Cert.Reference20Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel6 : Cert.Kernel6.Facts) (hKernel6Ideal : Cert.Kernel6Ideal.Facts) (hReference6Ideal : Cert.Reference6Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite8 : Cert.Pre_finite8.Facts) (hPre_finite9 : Cert.Pre_finite9.Facts) (hPre_finite6 : Cert.Pre_finite6.Facts) (hPre_finite10 : Cert.Pre_finite10.Facts) (hPre_finite11 : Cert.Pre_finite11.Facts) (hPre_finite12 : Cert.Pre_finite12.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Pre_finite10.lean ====
abbrev S2x2048x5120 : Shape := ⟨3, ![2, 2048, 5120]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : FVec F S2x2048x5120 .f32) (main_arg1 : FVec F S2x2048x1024 .f32) (main_arg2 : FVec F S2048 .f32) (main_arg3 : FVec F S2048 .f32) (main_arg4 : FVec F S8x128x128 .f32) (main_arg5 : FVec F S8x128 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_v13 main_v16
-- ==== Pre_finite11.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S2x2048x1024 .f32) (main_arg1 : FVec F S1024 .f32) (main_arg2 : FVec F S1024x5632 .f32) (main_arg3 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_finite12.lean ====
abbrev S2x256x1024 : Shape := ⟨3, ![2, 256, 1024]⟩
abbrev S1024 : Shape := ⟨1, ![1024]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x256x1024 .f32) (main_arg1 : FVec F S1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite14.lean ====
abbrev S2x2048x5120 : Shape := ⟨3, ![2, 2048, 5120]⟩
abbrev S2x2048x1024 : Shape := ⟨3, ![2, 2048, 1024]⟩
abbrev S3x1024 : Shape := ⟨2, ![3, 1024]⟩
abbrev S1x128 : Shape := ⟨2, ![1, 128]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S2x2048x5120 .f32) (main_arg1 : FVec F S2x2048x1024 .f32) (main_arg2 : FVec F S3x1024 .f32) (main_arg3 : FVec F S1x128 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S3x1024 .f32 := Host.absf main_arg2
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Pre_finite2.lean ====
abbrev S2x256x1024 : Shape := ⟨3, ![2, 256, 1024]⟩
abbrev S1024 : Shape := ⟨1, ![1024]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x256x1024 .f32) (main_arg1 : FVec F S1024 .f32) (main_arg2 : FVec F S2x256x1024 .f32) (main_arg3 : FVec F S2x256x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x256x1024 .f32 := Host.absf main_arg2
  let main_cst_2 : FVec F S_ .f32 := constant S_ .f32 0x7F800000#32
  let main_v10 : FVec F S2x256x1024 .f32 := broadcastInDim S2x256x1024 ![] bcast_S_S2x256x1024 main_cst_2
  let main_v11 : IVec S2x256x1024 1 := cmpf .olt main_v9 main_v10
  let main_c_3 : IVec S_ 1 := constantI S_ 1 1#1
  let main_v12 : IVec S_ 1 := (fun x v => Host.reduce IntOp.andi x v reducesTo_S2x256x1024_S_d0_1_2 h_S_) main_v11 main_c_3
  let main_v13 : IVec S_ 1 := andi main_v8 main_v12
  main_v13
-- ==== Pre_finite3.lean ====
abbrev S2x2048x5120 : Shape := ⟨3, ![2, 2048, 5120]⟩
abbrev S1024x5120 : Shape := ⟨2, ![1024, 5120]⟩
abbrev S2x2048x1024 : Shape := ⟨3, ![2, 2048, 1024]⟩
abbrev S1024 : Shape := ⟨1, ![1024]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S1024x5120 : S_.BroadcastsInDim S1024x5120 (![] : Fin 0 → Fin S1024x5120.rank)
  reducesTo_S1024x5120_S_d0_1 : S1024x5120.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x5120 .f32) (main_arg1 : FVec F S1024x5120 .f32) (main_arg2 : FVec F S2x2048x1024 .f32) (main_arg3 : FVec F S1024 .f32) (main_arg4 : FVec F S2x2048x1024 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S1024x5120 .f32 := Host.absf main_arg1
  let main_cst_0 : FVec F S_ .f32 := constant S_ .f32 0x7F800000#32
  let main_v5 : FVec F S1024x5120 .f32 := broadcastInDim S1024x5120 ![] bcast_S_S1024x5120 main_cst_0
  let main_v6 : IVec S1024x5120 1 := cmpf .olt main_v4 main_v5
  let main_c_1 : IVec S_ 1 := constantI S_ 1 1#1
  let main_v7 : IVec S_ 1 := (fun x v => Host.reduce IntOp.andi x v reducesTo_S1024x5120_S_d0_1 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite4.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2x2048x1024 .f32 := Host.absf main_arg4
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  main_v23

def fn {F : FTy → Type} [FloatOps F] (main_arg0 : FVec F S2x2048x1024 .f32) (main_arg1 : FVec F S1024 .f32) (main_arg2 : FVec F S1024x5632 .f32) (main_arg3 : FVec F S2816x1024 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite5.lean ====
abbrev S2x2048x5120 : Shape := ⟨3, ![2, 2048, 5120]⟩
abbrev S2x256x2048 : Shape := ⟨3, ![2, 256, 2048]⟩
abbrev S2x2048x2048 : Shape := ⟨3, ![2, 2048, 2048]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn {F : FTy → Type} [FloatOps F] (main_arg0 : FVec F S2x2048x5120 .f32) (main_arg1 : FVec F S2x256x2048 .f32) (main_arg2 : FVec F S2x2048x2048 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S2x256x2048 .f32 := Host.absf main_arg1
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  let main_v9 : FVec F S2x2048x2048 .f32 := Host.absf main_arg2
  let main_cst_2 : FVec F S_ .f32 := constant S_ .f32 0x7F800000#32
  let main_v10 : FVec F S2x2048x2048 .f32 := broadcastInDim S2x2048x2048 ![] bcast_S_S2x2048x2048 main_cst_2
  let main_v11 : IVec S2x2048x2048 1 := cmpf .olt main_v9 main_v10
  let main_c_3 : IVec S_ 1 := constantI S_ 1 1#1
  let main_v12 : IVec S_ 1 := (fun x v => Host.reduce IntOp.andi x v reducesTo_S2x2048x2048_S_d0_1_2 h_S_) main_v11 main_c_3
  let main_v13 : IVec S_ 1 := andi main_v8 main_v12
  main_v13
-- ==== Pre_finite6.lean ====
abbrev S2x2048x5120 : Shape := ⟨3, ![2, 2048, 5120]⟩
abbrev S2x2048x3072 : Shape := ⟨3, ![2, 2048, 3072]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S2x2048x3072 : S_.BroadcastsInDim S2x2048x3072 (![] : Fin 0 → Fin S2x2048x3072.rank)
  reducesTo_S2x2048x3072_S_d0_1_2 : S2x2048x3072.ReducesTo [0, 1, 2] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128x128 .f32) (main_arg6 : FVec F S8x128 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8x128x128 .f32 := Host.absf main_arg5
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2x2048x5120 .f32) (main_arg1 : FVec F S2x2048x3072 .f32) (main_arg2 : FVec F S2x2048x1024 .f32) (main_arg3 : FVec F S2048 .f32) (main_arg4 : FVec F S2048 .f32) (main_arg5 : FVec F S8x128x128 .f32) (main_arg6 : FVec F S8x128 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S2x2048x3072 .f32 := Host.absf main_arg1
  let main_cst_0 : FVec F S_ .f32 := constant S_ .f32 0x7F800000#32
  let main_v5 : FVec F S2x2048x3072 .f32 := broadcastInDim S2x2048x3072 ![] bcast_S_S2x2048x3072 main_cst_0
  let main_v6 : IVec S2x2048x3072 1 := cmpf .olt main_v4 main_v5
  let main_c_1 : IVec S_ 1 := constantI S_ 1 1#1
  let main_v7 : IVec S_ 1 := (fun x v => Host.reduce IntOp.andi x v reducesTo_S2x2048x3072_S_d0_1_2 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg5 main_arg6 main_v13 main_v16
-- ==== Pre_finite8.lean ====
abbrev S2x2048x5120 : Shape := ⟨3, ![2, 2048, 5120]⟩
abbrev S2x256x2048 : Shape := ⟨3, ![2, 256, 2048]⟩
abbrev S2x2048x3072 : Shape := ⟨3, ![2, 2048, 3072]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  bcast_S_S2x2048x3072 : S_.BroadcastsInDim S2x2048x3072 (![] : Fin 0 → Fin S2x2048x3072.rank)
  reducesTo_S2x2048x3072_S_d0_1_2 : S2x2048x3072.ReducesTo [0, 1, 2] S_

variable [Facts]

def fn {F : FTy → Type} [FloatOps F] (main_arg0 : FVec F S2x2048x5120 .f32) (main_arg1 : FVec F S2x256x2048 .f32) (main_arg2 : FVec F S2x2048x3072 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S2x256x2048 .f32 := Host.absf main_arg1
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  let main_v9 : FVec F S2x2048x3072 .f32 := Host.absf main_arg2
  let main_cst_2 : FVec F S_ .f32 := constant S_ .f32 0x7F800000#32
  let main_v10 : FVec F S2x2048x3072 .f32 := broadcastInDim S2x2048x3072 ![] bcast_S_S2x2048x3072 main_cst_2
  let main_v11 : IVec S2x2048x3072 1 := cmpf .olt main_v9 main_v10
  let main_c_3 : IVec S_ 1 := constantI S_ 1 1#1
  let main_v12 : IVec S_ 1 := (fun x v => Host.reduce IntOp.andi x v reducesTo_S2x2048x3072_S_d0_1_2 h_S_) main_v11 main_c_3
  let main_v13 : IVec S_ 1 := andi main_v8 main_v12
  main_v13
-- ==== Pre_finite9.lean ====
abbrev S2x2048x5120 : Shape := ⟨3, ![2, 2048, 5120]⟩
abbrev S2x256x2048 : Shape := ⟨3, ![2, 256, 2048]⟩
abbrev S_ : Shape := ⟨0, ![]⟩

class Facts : Prop where
  bcast_S_S2x2048x5120 : S_.BroadcastsInDim S2x2048x5120 (![] : Fin 0 → Fin S2x2048x5120.rank)
  reducesTo_S2x2048x5120_S_d0_1_2 : S2x2048x5120.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn {F : FTy → Type} [FloatOps F] (main_arg0 : FVec F S2x2048x5120 .f32) (main_arg1 : FVec F S2x256x2048 .f32) : IVec S_ 1 :=
  let main_v0 : FVec F S2x2048x5120 .f32 := Host.absf main_arg0
  let main_cst : FVec F S_ .f32 := constant S_ .f32 0x7F800000#32
  let main_v1 : FVec F S2x2048x5120 .f32 := broadcastInDim S2x2048x5120 ![] bcast_S_S2x2048x5120 main_cst
  let main_v2 : IVec S2x2048x5120 1 := cmpf .olt main_v0 main_v1
  let main_c : IVec S_ 1 := constantI S_ 1 1#1
  let main_v3 : IVec S_ 1 := (fun x v => Host.reduce IntOp.andi x v reducesTo_S2x2048x5120_S_d0_1_2 h_S_) main_v2 main_c
  let main_v4 : FVec F S2x256x2048 .f32 := Host.absf main_arg1
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  main_v8
-- ==== Kernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k0_cond2 (i : grid0.Coords) : BitVec 1 :=
  let arg0 : BitVec 32 := BitVec.ofNat 32 (i 0).val
  let c0_i32_15 : BitVec 32 := 0#32
  let v40 : BitVec 1 := Scalar.cmpi .sgt arg0 c0_i32_15
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S4096x1024, .bf16⟩
  | .hbm, ⟨73, _⟩ => ⟨S1x1024, .f32⟩
  | .hbm, ⟨74, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel2.lean ====
abbrev S2x256x1024 : Shape := ⟨3, ![2, 256, 1024]⟩
abbrev S1024 : Shape := ⟨1, ![1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .bf16⟩
  | .hbm, ⟨10, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2x256x1024 : Shape := ⟨3, ![2, 256, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1024, .f32⟩
  | .hbm, ⟨20, _⟩ => ⟨S2x256x1024, .f32⟩
  | .hbm, ⟨21, _⟩ => ⟨S1x1x1024, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S1024, .f32⟩
  | .hbm, ⟨32, _⟩ => ⟨S2x256x1024, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S_, .f32⟩
  | .hbm, ⟨44, _⟩ => ⟨S2x256, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S2x256x1024, .f32⟩
  | .hbm, ⟨49, _⟩ => ⟨S2x256x1024, .f32⟩
  | .hbm, ⟨50, _⟩ => ⟨S512x1024, .f32⟩
  | .hbm, ⟨51, _⟩ => ⟨S512x1024, .bf16⟩
  | .hbm, ⟨52, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S2x2048x5120 : Shape := ⟨3, ![2, 2048, 5120]⟩
abbrev S1024x5120 : Shape := ⟨2, ![1024, 5120]⟩
abbrev S2x2048x1024 : Shape := ⟨3, ![2, 2048, 1024]⟩
abbrev S1024 : Shape := ⟨1, ![1024]⟩
abbrev S4096x5120 : Shape := ⟨2, ![4096, 5120]⟩
abbrev S5120x1024 : Shape := ⟨2, ![5120, 1024]⟩
abbrev S4096x1024 : Shape := ⟨2, ![4096, 1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x2048x5120, .f32⟩
  | .hbm, ⟨1, _⟩ => ⟨S1024x5120, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S4096x5120, .f32⟩
  | .hbm, ⟨6, _⟩ => ⟨S4096x5120, .bf16⟩
  | .hbm, ⟨7, _⟩ => ⟨S5120x1024, .f32⟩
  | .hbm, ⟨8, _⟩ => ⟨S5120x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S5120x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_9 : BitVec 32 := 0#32
  let v22 : BitVec 1 := Scalar.cmpi .ne v21 c0_i32_9
  v22

def k0_cond2 (i : grid0.Coords) : BitVec 1 :=
  let arg0 : BitVec 32 := BitVec.ofNat 32 (i 0).val
  let c0_i32_10 : BitVec 32 := 0#32
  let v23 : BitVec 1 := Scalar.cmpi .sgt arg0 c0_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S2x2048x5120 : Shape := ⟨3, ![2, 2048, 5120]⟩
abbrev S1024x5120 : Shape := ⟨2, ![1024, 5120]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x5120, .f32⟩
  | .hbm, ⟨1, _⟩ => ⟨S1024x5120, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5120, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S5632x1024 : Shape := ⟨2, ![5632, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S256x1024 : Shape := ⟨2, ![256, 1024]⟩
abbrev S2x256x2816 : Shape := ⟨3, ![2, 256, 2816]⟩
abbrev S1408x1024 : Shape := ⟨2, ![1408, 1024]⟩
abbrev S256x1408 : Shape := ⟨2, ![256, 1408]⟩
abbrev S1x256x1408 : Shape := ⟨3, ![1, 256, 1408]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩

abbrev nBuf : Space → Nat
  | .hbm => 58
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S2816x1024, .bf16⟩
  | .hbm, ⟨28, _⟩ => ⟨S4096x2816, .f32⟩
  | .hbm, ⟨29, _⟩ => ⟨S2816x1024, .bf16⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S1x4096x2816, .f32⟩
  | .hbm, ⟨49, _⟩ => ⟨S1x4096x2816, .f32⟩
  | .hbm, ⟨50, _⟩ => ⟨S2x4096x2816, .f32⟩
  | .hbm, ⟨51, _⟩ => ⟨S2x4096x2816, .bf16⟩
  | .hbm, ⟨52, _⟩ => ⟨S4096x1024, .bf16⟩
  | .hbm, ⟨53, _⟩ => ⟨S1x1024, .f32⟩
  | .hbm, ⟨54, _⟩ => ⟨S2x4096x2816, .bf16⟩
  | .hbm, ⟨55, _⟩ => ⟨S4096x1024, .f32⟩
  | .hbm, ⟨56, _⟩ => ⟨S4096x1024, .bf16⟩
  | .hbm, ⟨57, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S2x256x2816, .bf16⟩
  | .local _ .vmem, ⟨6, _⟩ => ⟨S2x256x2816, .bf16⟩
  | .local _ .vmem, ⟨7, _⟩ => ⟨S5632x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2x256x2816, .bf16⟩
  | .local _ .vmem, ⟨12, _⟩ => ⟨S2x256x2816, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_47 : BitVec 32 := 0#32
  let v72 : BitVec 1 := Scalar.cmpi .ne v71 c0_i32_47
  v72

def k0_cond2 (i : grid0.Coords) : BitVec 1 :=
  let arg0 : BitVec 32 := BitVec.ofNat 32 (i 0).val
  let c0_i32_48 : BitVec 32 := 0#32
  let v73 : BitVec 1 := Scalar.cmpi .sgt arg0 c0_i32_48
  let v74 : BitVec 32 := Scalar.extui v73
  let c0_i32_49 : BitVec 32 := 0#32
  let v75 : BitVec 1 := Scalar.cmpi .ne v74 c0_i32_49
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S4096x2x2816 : Shape := ⟨3, ![4096, 2, 2816]⟩
abbrev S2x4096x2816 : Shape := ⟨3, ![2, 4096, 2816]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5632, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S_, .f32⟩
  | .hbm, ⟨30, _⟩ => ⟨S2x2048x2816, .f32⟩
  | .hbm, ⟨31, _⟩ => ⟨S2x2048x2816, .f32⟩
  | .hbm, ⟨32, _⟩ => ⟨S_, .f32⟩
  | .hbm, ⟨33, _⟩ => ⟨S2x2048x2816, .f32⟩
  | .hbm, ⟨34, _⟩ => ⟨S2x2048x2816, .f32⟩
  | .hbm, ⟨35, _⟩ => ⟨S_, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048x1024, .f32⟩
  | .hbm, ⟨48, _⟩ => ⟨S2x2048x1024, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S_, .f32⟩
  | .hbm, ⟨53, _⟩ => ⟨S2x2048x5632, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S_, .f32⟩
  | .hbm, ⟨59, _⟩ => ⟨S2x2048x5632, .f32⟩
  | .hbm, ⟨60, _⟩ => ⟨S2x2048x5632, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S2x2048x1024, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S2x2048x1, .f32⟩
  | .hbm, ⟨77, _⟩ => ⟨S_, .f32⟩
  | .hbm, ⟨78, _⟩ => ⟨S2x2048x1, .f32⟩
  | .hbm, ⟨79, _⟩ => ⟨S2x2048x1, .f32⟩
  | .hbm, ⟨80, _⟩ => ⟨S_, .f32⟩
  | .hbm, ⟨81, _⟩ => ⟨S2x2048, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S4096x1024, .f32⟩
  | .hbm, ⟨89, _⟩ => ⟨S4096x2x2816, .f32⟩
  | .hbm, ⟨90, _⟩ => ⟨S2x4096x2816, .f32⟩
  | .hbm, ⟨91, _⟩ => ⟨S2x4096x2816, .bf16⟩
  | .hbm, ⟨92, _⟩ => ⟨S4096x1024, .bf16⟩
  | .hbm, ⟨93, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Kernel5.lean ====
abbrev S2x2048x5120 : Shape := ⟨3, ![2, 2048, 5120]⟩
abbrev S2x256x2048 : Shape := ⟨3, ![2, 256, 2048]⟩
abbrev S2x2048x2048 : Shape := ⟨3, ![2, 2048, 2048]⟩
abbrev S4096x5120 : Shape := ⟨2, ![4096, 5120]⟩
abbrev S512x2048 : Shape := ⟨2, ![512, 2048]⟩
abbrev S4096x2048 : Shape := ⟨2, ![4096, 2048]⟩
abbrev S4096x1024 : Shape := ⟨2, ![4096, 1024]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S2x2048x2048, .f32⟩
  | .hbm, ⟨3, _⟩ => ⟨S4096x5120, .f32⟩
  | .hbm, ⟨4, _⟩ => ⟨S512x2048, .f32⟩
  | .hbm, ⟨5, _⟩ => ⟨S4096x2048, .f32⟩
  | .hbm, ⟨6, _⟩ => ⟨S4096x2048, .bf16⟩
  | .hbm, ⟨7, _⟩ => ⟨S4096x1024, .bf16⟩
  | .hbm, ⟨8, _⟩ => ⟨S512x1024, .f32⟩
  | .hbm, ⟨9, _⟩ => ⟨S512x1024, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v39 : BitVec 1 := Scalar.cmpi .eq arg2 c0_i32
  let v40 : BitVec 32 := Scalar.extui v39
  let c0_i32_18 : BitVec 32 := 0#32
  let v41 : BitVec 1 := Scalar.cmpi .ne v40 c0_i32_18
  v41

def k0_cond2 (i : grid0.Coords) : BitVec 1 :=
  let arg2 : BitVec 32 := BitVec.ofNat 32 (i 2).val
  let c0_i32_19 : BitVec 32 := 0#32
  let v42 : BitVec 1 := Scalar.cmpi .sgt arg2 c0_i32_19
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S2x2048x5120 : Shape := ⟨3, ![2, 2048, 5120]⟩
abbrev S2x256x2048 : Shape := ⟨3, ![2, 256, 2048]⟩
abbrev S2x2048x2048 : Shape := ⟨3, ![2, 2048, 2048]⟩
abbrev S2x2048x1024 : Shape := ⟨3, ![2, 2048, 1024]⟩
abbrev S2x256x1024 : Shape := ⟨3, ![2, 256, 1024]⟩
abbrev S2x256x4x256 : Shape := ⟨4, ![2, 256, 4, 256]⟩
abbrev S2x2048x4x256 : Shape := ⟨4, ![2, 2048, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S4096x1024 : Shape := ⟨2, ![4096, 1024]⟩
abbrev S512x1024 : Shape := ⟨2, ![512, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S2x2048x2048, .f32⟩
  | .hbm, ⟨3, _⟩ => ⟨S2x2048x1024, .f32⟩
  | .hbm, ⟨4, _⟩ => ⟨S2x256x1024, .f32⟩
  | .hbm, ⟨5, _⟩ => ⟨S2x256x4x256, .f32⟩
  | .hbm, ⟨6, _⟩ => ⟨S2x256x1024, .f32⟩
  | .hbm, ⟨7, _⟩ => ⟨S2x256x4x256, .f32⟩
  | .hbm, ⟨8, _⟩ => ⟨S2x2048x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S2x4x2048x1, .f32⟩
  | .hbm, ⟨16, _⟩ => ⟨S2x4x2048x256, .f32⟩
  | .hbm, ⟨17, _⟩ => ⟨S2x4x2048x256, .i1⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S_, .f32⟩
  | .hbm, ⟨22, _⟩ => ⟨S2x4x2048, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .i1⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048, .f32⟩
  | .hbm, ⟨38, _⟩ => ⟨S2x4x2048x1, .f32⟩
  | .hbm, ⟨39, _⟩ => ⟨S2x4x2048x256, .f32⟩
  | .hbm, ⟨40, _⟩ => ⟨S2x4x2048x256, .f32⟩
  | .hbm, ⟨41, _⟩ => ⟨S2x4x2048x256, .f32⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x1, .f32⟩
  | .hbm, ⟨48, _⟩ => ⟨S_, .f32⟩
  | .hbm, ⟨49, _⟩ => ⟨S2x4x2048x1, .f32⟩
  | .hbm, ⟨50, _⟩ => ⟨S2x4x2048x1, .f32⟩
  | .hbm, ⟨51, _⟩ => ⟨S2x4x256x2048, .f32⟩
  | .hbm, ⟨52, _⟩ => ⟨S2x2048x4x256, .f32⟩
  | .hbm, ⟨53, _⟩ => ⟨S2x2048x1024, .f32⟩
  | .hbm, ⟨54, _⟩ => ⟨S2x2048x1024, .f32⟩
  | .hbm, ⟨55, _⟩ => ⟨S2x2048x4x256, .f32⟩
  | .hbm, ⟨56, _⟩ => ⟨S2x4x256x2048, .f32⟩
  | .hbm, ⟨57, _⟩ => ⟨S2x4x2048x256, .f32⟩
  | .hbm, ⟨58, _⟩ => ⟨S2x4x256x256, .f32⟩
  | .hbm, ⟨59, _⟩ => ⟨S2x256x4x256, .f32⟩
  | .hbm, ⟨60, _⟩ => ⟨S2x4x2048x256, .f32⟩
  | .hbm, ⟨61, _⟩ => ⟨S2x4x2048x256, .f32⟩
  | .hbm, ⟨62, _⟩ => ⟨S2x4x2048x256, .f32⟩
  | .hbm, ⟨63, _⟩ => ⟨S_, .f32⟩
  | .hbm, ⟨64, _⟩ => ⟨S2x4x2048, .f32⟩
  | .hbm, ⟨65, _⟩ => ⟨S2x4x2048x1, .f32⟩
  | .hbm, ⟨66, _⟩ => ⟨S2x4x2048x1, .f32⟩
  | .hbm, ⟨67, _⟩ => ⟨S2x4x2048x256, .f32⟩
  | .hbm, ⟨68, _⟩ => ⟨S2x4x2048x256, .f32⟩
  | .hbm, ⟨69, _⟩ => ⟨S_, .f32⟩
  | .hbm, ⟨70, _⟩ => ⟨S2x4x2048, .f32⟩
  | .hbm, ⟨71, _⟩ => ⟨S2x4x2048x256, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048x256, .f32⟩
  | .hbm, ⟨76, _⟩ => ⟨S2x4x2048x256, .f32⟩
  | .hbm, ⟨77, _⟩ => ⟨S2x4x256x256, .f32⟩
  | .hbm, ⟨78, _⟩ => ⟨S2x256x4x256, .f32⟩
  | .hbm, ⟨79, _⟩ => ⟨S2x4x2048x256, .f32⟩
  | .hbm, ⟨80, _⟩ => ⟨S2x2048x4x256, .f32⟩
  | .hbm, ⟨81, _⟩ => ⟨S2x2048x1024, .f32⟩
  | .hbm, ⟨82, _⟩ => ⟨S4096x1024, .f32⟩
  | .hbm, ⟨83, _⟩ => ⟨S4096x1024, .bf16⟩
  | .hbm, ⟨84, _⟩ => ⟨S512x1024, .f32⟩
  | .hbm, ⟨85, _⟩ => ⟨S512x1024, .f32⟩
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel8.lean ====
abbrev S2x2048x5120 : Shape := ⟨3, ![2, 2048, 5120]⟩
abbrev S2x256x2048 : Shape := ⟨3, ![2, 256, 2048]⟩
abbrev S2x2048x3072 : Shape := ⟨3, ![2, 2048, 3072]⟩
abbrev S4096x5120 : Shape := ⟨2, ![4096, 5120]⟩
abbrev S512x2048 : Shape := ⟨2, ![512, 2048]⟩
abbrev S4096x3072 : Shape := ⟨2, ![4096, 3072]⟩
abbrev S4096x1024 : Shape := ⟨2, ![4096, 1024]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S2x2048x3072, .f32⟩
  | .hbm, ⟨3, _⟩ => ⟨S4096x5120, .f32⟩
  | .hbm, ⟨4, _⟩ => ⟨S512x2048, .f32⟩
  | .hbm, ⟨5, _⟩ => ⟨S4096x3072, .f32⟩
  | .hbm, ⟨6, _⟩ => ⟨S4096x3072, .bf16⟩
  | .hbm, ⟨7, _⟩ => ⟨S4096x1024, .bf16⟩
  | .hbm, ⟨8, _⟩ => ⟨S512x1024, .f32⟩
  | .hbm, ⟨9, _⟩ => ⟨S512x1024, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v39 : BitVec 1 := Scalar.cmpi .eq arg2 c0_i32
  let v40 : BitVec 32 := Scalar.extui v39
  let c0_i32_18 : BitVec 32 := 0#32
  let v41 : BitVec 1 := Scalar.cmpi .ne v40 c0_i32_18
  v41

def k0_cond2 (i : grid0.Coords) : BitVec 1 :=
  let arg2 : BitVec 32 := BitVec.ofNat 32 (i 2).val
  let c0_i32_19 : BitVec 32 := 0#32
  let v42 : BitVec 1 := Scalar.cmpi .sgt arg2 c0_i32_19
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference8Ideal.lean ====
abbrev S2x2048x5120 : Shape := ⟨3, ![2, 2048, 5120]⟩
abbrev S2x256x2048 : Shape := ⟨3, ![2, 256, 2048]⟩
abbrev S2x2048x3072 : Shape := ⟨3, ![2, 2048, 3072]⟩
abbrev S2x2048x1024 : Shape := ⟨3, ![2, 2048, 1024]⟩
abbrev S2x256x1024 : Shape := ⟨3, ![2, 256, 1024]⟩
abbrev S2x256x4x256 : Shape := ⟨4, ![2, 256, 4, 256]⟩
abbrev S2x2048x4x256 : Shape := ⟨4, ![2, 2048, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S4096x1024 : Shape := ⟨2, ![4096, 1024]⟩
abbrev S512x1024 : Shape := ⟨2, ![512, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S2x2048x3072, .f32⟩
  | .hbm, ⟨3, _⟩ => ⟨S2x2048x1024, .f32⟩
  | .hbm, ⟨4, _⟩ => ⟨S2x256x1024, .f32⟩
  | .hbm, ⟨5, _⟩ => ⟨S2x256x4x256, .f32⟩
  | .hbm, ⟨6, _⟩ => ⟨S2x256x1024, .f32⟩
  | .hbm, ⟨7, _⟩ => ⟨S2x256x4x256, .f32⟩
  | .hbm, ⟨8, _⟩ => ⟨S2x2048x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S2x4x2048x1, .f32⟩
  | .hbm, ⟨16, _⟩ => ⟨S2x4x2048x256, .f32⟩
  | .hbm, ⟨17, _⟩ => ⟨S2x4x2048x256, .i1⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S_, .f32⟩
  | .hbm, ⟨22, _⟩ => ⟨S2x4x2048, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .i1⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048, .f32⟩
  | .hbm, ⟨38, _⟩ => ⟨S2x4x2048x1, .f32⟩
  | .hbm, ⟨39, _⟩ => ⟨S2x4x2048x256, .f32⟩
  | .hbm, ⟨40, _⟩ => ⟨S2x4x2048x256, .f32⟩
  | .hbm, ⟨41, _⟩ => ⟨S2x4x2048x256, .f32⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x1, .f32⟩
  | .hbm, ⟨48, _⟩ => ⟨S_, .f32⟩
  | .hbm, ⟨49, _⟩ => ⟨S2x4x2048x1, .f32⟩
  | .hbm, ⟨50, _⟩ => ⟨S2x4x2048x1, .f32⟩
  | .hbm, ⟨51, _⟩ => ⟨S2x4x256x2048, .f32⟩
  | .hbm, ⟨52, _⟩ => ⟨S2x2048x4x256, .f32⟩
  | .hbm, ⟨53, _⟩ => ⟨S2x2048x1024, .f32⟩
  | .hbm, ⟨54, _⟩ => ⟨S2x2048x1024, .f32⟩
  | .hbm, ⟨55, _⟩ => ⟨S2x2048x4x256, .f32⟩
  | .hbm, ⟨56, _⟩ => ⟨S2x4x256x2048, .f32⟩
  | .hbm, ⟨57, _⟩ => ⟨S2x4x2048x256, .f32⟩
  | .hbm, ⟨58, _⟩ => ⟨S2x4x256x256, .f32⟩
  | .hbm, ⟨59, _⟩ => ⟨S2x256x4x256, .f32⟩
  | .hbm, ⟨60, _⟩ => ⟨S2x4x2048x256, .f32⟩
  | .hbm, ⟨61, _⟩ => ⟨S2x4x2048x256, .f32⟩
  | .hbm, ⟨62, _⟩ => ⟨S2x4x2048x256, .f32⟩
  | .hbm, ⟨63, _⟩ => ⟨S_, .f32⟩
  | .hbm, ⟨64, _⟩ => ⟨S2x4x2048, .f32⟩
  | .hbm, ⟨65, _⟩ => ⟨S2x4x2048x1, .f32⟩
  | .hbm, ⟨66, _⟩ => ⟨S2x4x2048x1, .f32⟩
  | .hbm, ⟨67, _⟩ => ⟨S2x4x2048x256, .f32⟩
  | .hbm, ⟨68, _⟩ => ⟨S2x4x2048x256, .f32⟩
  | .hbm, ⟨69, _⟩ => ⟨S_, .f32⟩
  | .hbm, ⟨70, _⟩ => ⟨S2x4x2048, .f32⟩
  | .hbm, ⟨71, _⟩ => ⟨S2x4x2048x256, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048x256, .f32⟩
  | .hbm, ⟨76, _⟩ => ⟨S2x4x2048x256, .f32⟩
  | .hbm, ⟨77, _⟩ => ⟨S2x4x256x256, .f32⟩
  | .hbm, ⟨78, _⟩ => ⟨S2x256x4x256, .f32⟩
  | .hbm, ⟨79, _⟩ => ⟨S2x4x2048x256, .f32⟩
  | .hbm, ⟨80, _⟩ => ⟨S2x2048x4x256, .f32⟩
  | .hbm, ⟨81, _⟩ => ⟨S2x2048x1024, .f32⟩
  | .hbm, ⟨82, _⟩ => ⟨S4096x1024, .f32⟩
  | .hbm, ⟨83, _⟩ => ⟨S4096x1024, .bf16⟩
  | .hbm, ⟨84, _⟩ => ⟨S512x1024, .f32⟩
  | .hbm, ⟨85, _⟩ => ⟨S512x1024, .f32⟩
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel9.lean ====
abbrev S2x2048x5120 : Shape := ⟨3, ![2, 2048, 5120]⟩
abbrev S2x256x2048 : Shape := ⟨3, ![2, 256, 2048]⟩
abbrev S4096x5120 : Shape := ⟨2, ![4096, 5120]⟩
abbrev S512x2048 : Shape := ⟨2, ![512, 2048]⟩
abbrev S4096x1024 : Shape := ⟨2, ![4096, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S4096x5120, .f32⟩
  | .hbm, ⟨3, _⟩ => ⟨S512x2048, .f32⟩
  | .hbm, ⟨4, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .bf16⟩
  | .local _ .vmem, ⟨7, _⟩ => ⟨S2048x256, .bf16⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S2x2048x5120 : Shape := ⟨3, ![2, 2048, 5120]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x2048x1024 : Shape := ⟨3, ![2, 2048, 1024]⟩
abbrev S2x2048x4x256 : Shape := ⟨4, ![2, 2048, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x5120, .f32⟩
  | .hbm, ⟨1, _⟩ => ⟨S2x256x2048, .f32⟩
  | .hbm, ⟨2, _⟩ => ⟨S2x256x1024, .f32⟩
  | .hbm, ⟨3, _⟩ => ⟨S2x256x4x256, .f32⟩
  | .hbm, ⟨4, _⟩ => ⟨S2x256x1024, .f32⟩
  | .hbm, ⟨5, _⟩ => ⟨S2x256x4x256, .f32⟩
  | .hbm, ⟨6, _⟩ => ⟨S2x2048x1024, .f32⟩
  | .hbm, ⟨7, _⟩ => ⟨S2x2048x4x256, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S_, .f32⟩
  | .hbm, ⟨15, _⟩ => ⟨S2x4x2048, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .f32⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x256, .f32⟩
  | .hbm, ⟨25, _⟩ => ⟨S2x4x2048x256, .f32⟩
  | .hbm, ⟨26, _⟩ => ⟨S2x4x256x2048, .f32⟩
  | .hbm, ⟨27, _⟩ => ⟨S2x2048x4x256, .f32⟩
  | .hbm, ⟨28, _⟩ => ⟨S2x2048x1024, .f32⟩
  | .hbm, ⟨29, _⟩ => ⟨S4096x1024, .f32⟩
  | .hbm, ⟨30, _⟩ => ⟨S4096x1024, .bf16⟩
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel6.lean ====
abbrev S2x2048x5120 : Shape := ⟨3, ![2, 2048, 5120]⟩
abbrev S2x2048x3072 : Shape := ⟨3, ![2, 2048, 3072]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S4096x5120 : Shape := ⟨2, ![4096, 5120]⟩
abbrev S4096x3072 : Shape := ⟨2, ![4096, 3072]⟩
abbrev S4096x1024 : Shape := ⟨2, ![4096, 1024]⟩
abbrev S1x2048 : Shape := ⟨2, ![1, 2048]⟩
abbrev S128x8 : Shape := ⟨2, ![128, 8]⟩
abbrev S256x2048 : Shape := ⟨2, ![256, 2048]⟩
abbrev S256x1024 : Shape := ⟨2, ![256, 1024]⟩
abbrev S256x5120 : Shape := ⟨2, ![256, 5120]⟩
abbrev S256 : Shape := ⟨1, ![256]⟩
abbrev S256x1 : Shape := ⟨2, ![256, 1]⟩
abbrev S128x128 : Shape := ⟨2, ![128, 128]⟩
abbrev S1x8 : Shape := ⟨2, ![1, 8]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩

abbrev nBuf : Space → Nat
  | .hbm => 20
  | .vmem => 19
  | .smem => 0
  | _ => 0

abbrev bufTy : (tb : Table) → Fin (tcTables nBuf tb) → BufTy
  | .hbm, ⟨0, _⟩ => ⟨S2x2048x5120, .f32⟩
  | .hbm, ⟨1, _⟩ => ⟨S2x2048x3072, .f32⟩
  | .hbm, ⟨2, _⟩ => ⟨S2x2048x1024, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S4096x5120, .f32⟩
  | .hbm, ⟨8, _⟩ => ⟨S4096x3072, .f32⟩
  | .hbm, ⟨9, _⟩ => ⟨S4096x3072, .bf16⟩
  | .hbm, ⟨10, _⟩ => ⟨S4096x1024, .f32⟩
  | .hbm, ⟨11, _⟩ => ⟨S4096x1024, .bf16⟩
  | .hbm, ⟨12, _⟩ => ⟨S1x2048, .f32⟩
  | .hbm, ⟨13, _⟩ => ⟨S1x2048, .f32⟩
  | .hbm, ⟨14, _⟩ => ⟨S128x8, .f32⟩
  | .hbm, ⟨15, _⟩ => ⟨S4096x5120, .bf16⟩
  | .hbm, ⟨16, _⟩ => ⟨S8x128x128, .f32⟩
  | .hbm, ⟨17, _⟩ => ⟨S128x8, .f32⟩
  | .hbm, ⟨18, _⟩ => ⟨S1x2048, .f32⟩
  | .hbm, ⟨19, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S1x2048, .f32⟩
  | .local _ .vmem, ⟨9, _⟩ => ⟨S1x2048, .f32⟩
  | .local _ .vmem, ⟨10, _⟩ => ⟨S8x128x128, .f32⟩
  | .local _ .vmem, ⟨11, _⟩ => ⟨S128x8, .f32⟩
  | .local _ .vmem, ⟨12, _⟩ => ⟨S256x5120, .bf16⟩
  | .local _ .vmem, ⟨13, _⟩ => ⟨S256x5120, .bf16⟩
  | .local _ .vmem, ⟨14, _⟩ => ⟨S8x128x128, .f32⟩
  | .local _ .vmem, ⟨15, _⟩ => ⟨S128x8, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel6Ideal.lean ====
variable {F : FTy → Type} [FloatOps F] [Named F]
def κ : String → Option EReal := fun
  | "inv_sqrt_two" => some (((Real.sqrt 2)⁻¹ : ℝ) : EReal)
  | "inv_sqrt_two_pi" => some (((Real.sqrt (2 * Real.pi))⁻¹ : ℝ) : EReal)
  | _ => none
-- ==== Reference6Ideal.lean ====
abbrev S2x2048x5120 : Shape := ⟨3, ![2, 2048, 5120]⟩
abbrev S2x2048x3072 : Shape := ⟨3, ![2, 2048, 3072]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S4096x5120 : Shape := ⟨2, ![4096, 5120]⟩
abbrev S1x2048 : Shape := ⟨2, ![1, 2048]⟩

abbrev nBuf : Space → Nat
  | .hbm => 194
  | .vmem => 0
  | .smem => 0
  | _ => 0

abbrev hbmTy0_0 (i : Nat) : BufTy := match i % 128 with
  | 0 => ⟨S2x2048x5120, .f32⟩
  | 1 => ⟨S2x2048x3072, .f32⟩
  | 2 => ⟨S2x2048x1024, .f32⟩
  | 3 => ⟨S2048, .f32⟩
  | 4 => ⟨S2048, .f32⟩
  | 5 => ⟨S8x128x128, .f32⟩
  | 6 => ⟨S8x128, .f32⟩
  | 7 => ⟨S2x2048x2048, .f32⟩
  | 8 => ⟨S2x2048x2048, .f32⟩
  | 9 => ⟨S2x2048x1024, .f32⟩
  | 10 => ⟨S_, .f32⟩
  | 11 => ⟨S2x2048x2048, .f32⟩
  | 12 => ⟨S2x2048x2048, .f32⟩
  | 13 => ⟨S2x2048x2048, .f32⟩
  | 14 => ⟨S_, .f32⟩
  | 15 => ⟨S_, .f32⟩
  | 16 => ⟨S2x2048x2048, .f32⟩
  | 17 => ⟨S2x2048x2048, .f32⟩
  | 18 => ⟨S2x2048x2048, .f32⟩
  | 19 => ⟨S_, .f32⟩
  | 20 => ⟨S_, .f32⟩
  | 21 => ⟨S_, .f32⟩
  | 22 => ⟨S_, .f32⟩
  | 23 => ⟨S_, .f32⟩
  | 24 => ⟨S2x2048x2048, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S_, .f32⟩
  | 31 => ⟨S2x2048x2048, .f32⟩
  | 32 => ⟨S2x2048x2048, .f32⟩
  | 33 => ⟨S2x2048x2048, .f32⟩
  | 34 => ⟨S_, .f32⟩
  | 35 => ⟨S_, .f32⟩
  | 36 => ⟨S2x2048x2048, .f32⟩
  | 37 => ⟨S2x2048x2048, .f32⟩
  | 38 => ⟨S2x2048x2048, .f32⟩
  | 39 => ⟨S_, .f32⟩
  | 40 => ⟨S_, .f32⟩
  | 41 => ⟨S_, .f32⟩
  | 42 => ⟨S_, .f32⟩
  | 43 => ⟨S_, .f32⟩
  | 44 => ⟨S2x2048x2048, .f32⟩
  | 45 => ⟨S2x2048x2048, .f32⟩
  | 46 => ⟨S2x2048x2048, .f32⟩
  | 47 => ⟨S2x2048x2048, .f32⟩
  | 48 => ⟨S2x2048x2048, .f32⟩
  | 49 => ⟨S2x2048x2048, .f32⟩
  | 50 => ⟨S_, .f32⟩
  | 51 => ⟨S2x2048, .f32⟩
  | 52 => ⟨S2x2048x1, .f32⟩
  | 53 => ⟨S_, .f32⟩
  | 54 => ⟨S2x2048x1, .f32⟩
  | 55 => ⟨S2x2048x1, .f32⟩
  | 56 => ⟨S2x2048x2048, .f32⟩
  | 57 => ⟨S2x2048x2048, .f32⟩
  | 58 => ⟨S2x2048x2048, .f32⟩
  | 59 => ⟨S_, .f32⟩
  | 60 => ⟨S2x2048, .f32⟩
  | 61 => ⟨S2x2048x1, .f32⟩
  | 62 => ⟨S_, .f32⟩
  | 63 => ⟨S2x2048x1, .f32⟩
  | 64 => ⟨S2x2048x1, .f32⟩
  | 65 => ⟨S_, .f32⟩
  | 66 => ⟨S2x2048x1, .f32⟩
  | 67 => ⟨S2x2048x1, .f32⟩
  | 68 => ⟨S2x2048x1, .f32⟩
  | 69 => ⟨S2x2048x1, .f32⟩
  | 70 => ⟨S_, .f32⟩
  | 71 => ⟨S2x2048x1, .f32⟩
  | 72 => ⟨S2x2048x1, .f32⟩
  | 73 => ⟨S2x2048x2048, .f32⟩
  | 74 => ⟨S2x2048x2048, .f32⟩
  | 75 => ⟨S1x1x2048, .f32⟩
  | 76 => ⟨S2x2048x2048, .f32⟩
  | 77 => ⟨S2x2048x2048, .f32⟩
  | 78 => ⟨S1x1x2048, .f32⟩
  | 79 => ⟨S2x2048x2048, .f32⟩
  | 80 => ⟨S2x2048x2048, .f32⟩
  | 81 => ⟨S2x16x128x8x256, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S1x128x128, .i1⟩
  | 94 => ⟨S_, .f32⟩
  | 95 => ⟨S_, .f32⟩
  | 96 => ⟨S8x128x128, .i1⟩
  | 97 => ⟨S8x128x128, .f32⟩
  | 98 => ⟨S8x128x128, .f32⟩
  | 99 => ⟨S_, .f32⟩
  | 100 => ⟨S8x128x128, .f32⟩
  | 101 => ⟨S8x2x16x256x128, .f32⟩
  | 102 => ⟨S2x16x128x8x256, .f32⟩
  | 103 => ⟨S128x8, .f32⟩
  | 104 => ⟨S1x1x128x8x1, .f32⟩
  | 105 => ⟨S2x16x128x8x256, .f32⟩
  | 106 => ⟨S2x16x128x8x256, .f32⟩
  | 107 => ⟨S2x2048x2048, .f32⟩
  | 108 => ⟨S2x2048x2048, .f32⟩
  | 109 => ⟨S2x2048x2048, .f32⟩
  | 110 => ⟨S2x2048x2048, .f32⟩
  | 111 => ⟨S2x2048x2048, .f32⟩
  | 112 => ⟨S2x16x128x8x256, .f32⟩
  | 113 => ⟨S_, .f32⟩
  | 114 => ⟨S128x8, .f32⟩
  | 115 => ⟨S1x1x128x8x1, .f32⟩
  | 116 => ⟨S_, .f32⟩
  | 117 => ⟨S128x8, .f32⟩
  | 118 => ⟨S8x128, .f32⟩
  | 119 => ⟨S8x2x16x256x128, .f32⟩
  | 120 => ⟨S8x128x128, .f32⟩
  | 121 => ⟨S8x2x16x256x128, .f32⟩
  | 122 => ⟨S2x16x128x8x256, .f32⟩
  | 123 => ⟨S_, .f32⟩
  | 124 => ⟨S8x128x128, .f32⟩
  | 125 => ⟨S8x128x128, .f32⟩
  | 126 => ⟨S2x2048x2048, .f32⟩
  | 127 => ⟨S_, .f32⟩
  | _ => ⟨S2x2048x5120, .f32⟩

abbrev hbmTy0_1 (i : Nat) : BufTy := match i % 128 with
  | 0 => ⟨S2048, .f32⟩
  | 1 => ⟨S1x1x2048, .f32⟩
  | 2 => ⟨S_, .f32⟩
  | 3 => ⟨S2048, .f32⟩
  | 4 => ⟨S2x2048x2048, .f32⟩
  | 5 => ⟨S_, .f32⟩
  | 6 => ⟨S2048, .f32⟩
  | 7 => ⟨S1x1x2048, .f32⟩
  | 8 => ⟨S2x2048x2048, .f32⟩
  | 9 => ⟨S2x2048x2048, .f32⟩
  | 10 => ⟨S_, .f32⟩
  | 11 => ⟨S2048, .f32⟩
  | 12 => ⟨S2x2048x2048, .f32⟩
  | 13 => ⟨S_, .f32⟩
  | 14 => ⟨S2x2048, .f32⟩
  | 15 => ⟨S2x2048x1, .f32⟩
  | 16 => ⟨S2x2048x2048, .f32⟩
  | 17 => ⟨S2x2048x2048, .f32⟩
  | 18 => ⟨S2x2048x1, .f32⟩
  | 19 => ⟨S_, .f32⟩
  | 20 => ⟨S2x2048x1, .f32⟩
  | 21 => ⟨S2x2048x1, .f32⟩
  | 22 => ⟨S_, .f32⟩
  | 23 => ⟨S2x2048, .f32⟩
  | 24 => ⟨S2x2048x2048, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S_, .f32⟩
  | 31 => ⟨S2x2048, .f32⟩
  | 32 => ⟨S2x2048x1, .f32⟩
  | 33 => ⟨S_, .f32⟩
  | 34 => ⟨S2x2048x1, .f32⟩
  | 35 => ⟨S2x2048x1, .f32⟩
  | 36 => ⟨S_, .f32⟩
  | 37 => ⟨S2x2048, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x2048, .f32⟩
  | 43 => ⟨S2x2048x2048, .f32⟩
  | 44 => ⟨S2x2048x2048, .f32⟩
  | 45 => ⟨S2x2048x2048, .f32⟩
  | 46 => ⟨S_, .f32⟩
  | 47 => ⟨S2x2048x2048, .f32⟩
  | 48 => ⟨S2x2048x2048, .f32⟩
  | 49 => ⟨S2x2048x2048, .f32⟩
  | 50 => ⟨S2x2048x2048, .f32⟩
  | 51 => ⟨S2x2048x2048, .f32⟩
  | 52 => ⟨S2x2048x2048, .f32⟩
  | 53 => ⟨S2x2048x2048, .f32⟩
  | 54 => ⟨S2x2048x2048, .f32⟩
  | 55 => ⟨S2x2048x2048, .f32⟩
  | 56 => ⟨S_, .f32⟩
  | 57 => ⟨S2x2048x2048, .f32⟩
  | 58 => ⟨S2x2048x2048, .f32⟩
  | 59 => ⟨S2x2048x2048, .f32⟩
  | 60 => ⟨S2x2048x5120, .f32⟩
  | 61 => ⟨S4096x5120, .f32⟩
  | 62 => ⟨S4096x5120, .bf16⟩
  | 63 => ⟨S128x8, .f32⟩
  | 64 => ⟨S1x2048, .f32⟩
  | 65 => ⟨S1x2048, .f32⟩
  | _ => ⟨S2x2048x5120, .f32⟩

abbrev hbmTy (i : Nat) : BufTy := match i / 128 with
  | 0 => hbmTy0_0 i
  | 1 => hbmTy0_1 i
  | _ => ⟨S2x2048x5120, .f32⟩

abbrev bufTy : (tb : Table) → Fin (tcTables nBuf tb) → BufTy
  | .hbm, ⟨i, _⟩ => hbmTy i
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_call1_v0 : Ref sig .tc := ⟨.hbm, 95, rfl⟩
abbrev main_v64_1 : Ref sig .tc := ⟨.hbm, 96, rfl⟩
abbrev main_call1_v2 : Ref sig .tc := ⟨.hbm, 97, rfl⟩
abbrev main_v64_0 : Ref sig .tc := ⟨.hbm, 98, rfl⟩
abbrev main_call1_cst : Ref sig .tc := ⟨.hbm, 99, rfl⟩
abbrev main_v64_2 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call2_cst : Ref sig .tc := ⟨.hbm, 123, rfl⟩
abbrev main_call2_v0 : Ref sig .tc := ⟨.hbm, 124, rfl⟩
abbrev main_v85 : Ref sig .tc := ⟨.hbm, 125, rfl⟩
abbrev main_v86 : Ref sig .tc := ⟨.hbm, 126, rfl⟩
abbrev main_cst_16 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_cst_24 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_27 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩

abbrev nD : Nat := 1
abbrev τ : Topo := Topo.v7x

variable {F : FTy → Type} [FloatOps F]
-- ==== Kernel10.lean ====
abbrev S2x2048x5120 : Shape := ⟨3, ![2, 2048, 5120]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S4096x5120 : Shape := ⟨2, ![4096, 5120]⟩
abbrev S4096x1024 : Shape := ⟨2, ![4096, 1024]⟩
abbrev S1x2048 : Shape := ⟨2, ![1, 2048]⟩
abbrev S128x8 : Shape := ⟨2, ![128, 8]⟩
abbrev S4096x3072 : Shape := ⟨2, ![4096, 3072]⟩
abbrev S256x2048 : Shape := ⟨2, ![256, 2048]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x2048x5120, .f32⟩
  | .hbm, ⟨1, _⟩ => ⟨S2x2048x1024, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S4096x5120, .f32⟩
  | .hbm, ⟨7, _⟩ => ⟨S4096x1024, .f32⟩
  | .hbm, ⟨8, _⟩ => ⟨S4096x1024, .bf16⟩
  | .hbm, ⟨9, _⟩ => ⟨S1x2048, .f32⟩
  | .hbm, ⟨10, _⟩ => ⟨S1x2048, .f32⟩
  | .hbm, ⟨11, _⟩ => ⟨S128x8, .f32⟩
  | .hbm, ⟨12, _⟩ => ⟨S4096x3072, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S256x3072, .bf16⟩
  | .local _ .vmem, ⟨11, _⟩ => ⟨S256x3072, .bf16⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
variable {F : FTy → Type} [FloatOps F] [Named F]
def κ : String → Option EReal := fun
  | "inv_sqrt_two" => some (((Real.sqrt 2)⁻¹ : ℝ) : EReal)
  | "inv_sqrt_two_pi" => some (((Real.sqrt (2 * Real.pi))⁻¹ : ℝ) : EReal)
  | _ => none
-- ==== Reference10Ideal.lean ====
abbrev S2x2048x5120 : Shape := ⟨3, ![2, 2048, 5120]⟩
abbrev S2x2048x1024 : Shape := ⟨3, ![2, 2048, 1024]⟩
abbrev S2048 : Shape := ⟨1, ![2048]⟩
abbrev S8x128x128 : Shape := ⟨3, ![8, 128, 128]⟩
abbrev S8x128 : Shape := ⟨2, ![8, 128]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S2x2048x3072 : Shape := ⟨3, ![2, 2048, 3072]⟩
abbrev S4096x3072 : Shape := ⟨2, ![4096, 3072]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x5120, .f32⟩
  | .hbm, ⟨1, _⟩ => ⟨S2x2048x1024, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2x2048x2048, .f32⟩
  | .hbm, ⟨7, _⟩ => ⟨S2x2048x2048, .f32⟩
  | .hbm, ⟨8, _⟩ => ⟨S2x2048x1024, .f32⟩
  | .hbm, ⟨9, _⟩ => ⟨S_, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S_, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S_, .f32⟩
  | .hbm, ⟨30, _⟩ => ⟨S2x2048, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x2048, .f32⟩
  | .hbm, ⟨49, _⟩ => ⟨S2x2048x2048, .f32⟩
  | .hbm, ⟨50, _⟩ => ⟨S1x1x2048, .f32⟩
  | .hbm, ⟨51, _⟩ => ⟨S2x2048x2048, .f32⟩
  | .hbm, ⟨52, _⟩ => ⟨S2x2048x2048, .f32⟩
  | .hbm, ⟨53, _⟩ => ⟨S1x1x2048, .f32⟩
  | .hbm, ⟨54, _⟩ => ⟨S2x2048x2048, .f32⟩
  | .hbm, ⟨55, _⟩ => ⟨S2x2048x2048, .f32⟩
  | .hbm, ⟨56, _⟩ => ⟨S2x16x128x8x256, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S_, .f32⟩
  | .hbm, ⟨71, _⟩ => ⟨S8x128x128, .i1⟩
  | .hbm, ⟨72, _⟩ => ⟨S8x128x128, .f32⟩
  | .hbm, ⟨73, _⟩ => ⟨S8x128x128, .f32⟩
  | .hbm, ⟨74, _⟩ => ⟨S8x2x16x256x128, .f32⟩
  | .hbm, ⟨75, _⟩ => ⟨S2x16x128x8x256, .f32⟩
  | .hbm, ⟨76, _⟩ => ⟨S128x8, .f32⟩
  | .hbm, ⟨77, _⟩ => ⟨S1x1x128x8x1, .f32⟩
  | .hbm, ⟨78, _⟩ => ⟨S2x16x128x8x256, .f32⟩
  | .hbm, ⟨79, _⟩ => ⟨S2x16x128x8x256, .f32⟩
  | .hbm, ⟨80, _⟩ => ⟨S2x2048x2048, .f32⟩
  | .hbm, ⟨81, _⟩ => ⟨S2x2048x2048, .f32⟩
  | .hbm, ⟨82, _⟩ => ⟨S2x2048x3072, .f32⟩
  | .hbm, ⟨83, _⟩ => ⟨S4096x3072, .f32⟩
  | .hbm, ⟨84, _⟩ => ⟨S4096x3072, .bf16⟩
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1x1024 : Shape := ⟨2, ![1, 1024]⟩
abbrev S5632x1024 : Shape := ⟨2, ![5632, 1024]⟩
abbrev S2x4096x2816 : Shape := ⟨3, ![2, 4096, 2816]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x256x1408 : Shape := ⟨3, ![1, 256, 1408]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S2x4096x2816, .bf16⟩
  | .hbm, ⟨12, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S2x256x2816, .bf16⟩
  | .local _ .vmem, ⟨10, _⟩ => ⟨S2x256x2816, .bf16⟩
  | .local _ .vmem, ⟨11, _⟩ => ⟨S256x2816, .bf16⟩
  | .local _ .vmem, ⟨12, _⟩ => ⟨S256x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S4096x2816 : Shape := ⟨2, ![4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x5632, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S1x2x2048x2816, .f32⟩
  | .hbm, ⟨46, _⟩ => ⟨S1x2x2048x2816, .f32⟩
  | .hbm, ⟨47, _⟩ => ⟨S2x2x2048x2816, .f32⟩
  | .hbm, ⟨48, _⟩ => ⟨S2x4096x2816, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S2x4096x2816, .bf16⟩
  | .hbm, ⟨58, _⟩ => ⟨S4096x2816, .f32⟩
  | .hbm, ⟨59, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel12.lean ====
abbrev S2x256x1024 : Shape := ⟨3, ![2, 256, 1024]⟩
abbrev S1024 : Shape := ⟨1, ![1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 5
  | .vmem => 3
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S512x1024, .f32⟩
  | .hbm, ⟨3, _⟩ => ⟨S1x1024, .f32⟩
  | .hbm, ⟨4, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference12Ideal.lean ====
abbrev S2x256x1024 : Shape := ⟨3, ![2, 256, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x256x1024, .f32⟩
  | .hbm, ⟨3, _⟩ => ⟨S_, .f32⟩
  | .hbm, ⟨4, _⟩ => ⟨S2x256, .f32⟩
  | .hbm, ⟨5, _⟩ => ⟨S2x256x1, .f32⟩
  | .hbm, ⟨6, _⟩ => ⟨S_, .f32⟩
  | .hbm, ⟨7, _⟩ => ⟨S2x256x1, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S2x256x1, .f32⟩
  | .hbm, ⟨13, _⟩ => ⟨S2x256x1024, .f32⟩
  | .hbm, ⟨14, _⟩ => ⟨S2x256x1024, .f32⟩
  | .hbm, ⟨15, _⟩ => ⟨S1x1x1024, .f32⟩
  | .hbm, ⟨16, _⟩ => ⟨S2x256x1024, .f32⟩
  | .hbm, ⟨17, _⟩ => ⟨S2x256x1024, .f32⟩
  | .hbm, ⟨18, _⟩ => ⟨S512x1024, .f32⟩
  | .hbm, ⟨19, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel14.lean ====
abbrev S2x2048x5120 : Shape := ⟨3, ![2, 2048, 5120]⟩
abbrev S2x2048x1024 : Shape := ⟨3, ![2, 2048, 1024]⟩
abbrev S3x1024 : Shape := ⟨2, ![3, 1024]⟩
abbrev S1x128 : Shape := ⟨2, ![1, 128]⟩
abbrev S4096x1024 : Shape := ⟨2, ![4096, 1024]⟩
abbrev S4096x5120 : Shape := ⟨2, ![4096, 5120]⟩
abbrev S4096x2048 : Shape := ⟨2, ![4096, 2048]⟩
abbrev S2x8x32x128x128 : Shape := ⟨5, ![2, 8, 32, 128, 128]⟩
abbrev S512x1024 : Shape := ⟨2, ![512, 1024]⟩
abbrev S512x2048 : Shape := ⟨2, ![512, 2048]⟩
abbrev S1x8x8x128x128 : Shape := ⟨5, ![1, 8, 8, 128, 128]⟩
abbrev S8x128x128 : Shape := ⟨3, ![8, 128, 128]⟩
abbrev S1024 : Shape := ⟨1, ![1024]⟩
abbrev S1x1024 : Shape := ⟨2, ![1, 1024]⟩
abbrev S64x64 : Shape := ⟨2, ![64, 64]⟩
abbrev S64x1024 : Shape := ⟨2, ![64, 1024]⟩
abbrev S64x128 : Shape := ⟨2, ![64, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S64 : Shape := ⟨1, ![64]⟩
abbrev S64x1 : Shape := ⟨2, ![64, 1]⟩

abbrev nBuf : Space → Nat
  | .hbm => 10
  | .vmem => 19
  | .smem => 0
  | _ => 0

abbrev bufTy : (tb : Table) → Fin (tcTables nBuf tb) → BufTy
  | .hbm, ⟨0, _⟩ => ⟨S2x2048x5120, .f32⟩
  | .hbm, ⟨1, _⟩ => ⟨S2x2048x1024, .f32⟩
  | .hbm, ⟨2, _⟩ => ⟨S3x1024, .f32⟩
  | .hbm, ⟨3, _⟩ => ⟨S1x128, .f32⟩
  | .hbm, ⟨4, _⟩ => ⟨S4096x1024, .f32⟩
  | .hbm, ⟨5, _⟩ => ⟨S4096x1024, .bf16⟩
  | .hbm, ⟨6, _⟩ => ⟨S4096x5120, .f32⟩
  | .hbm, ⟨7, _⟩ => ⟨S4096x2048, .bf16⟩
  | .hbm, ⟨8, _⟩ => ⟨S4096x1024, .f32⟩
  | .hbm, ⟨9, _⟩ => ⟨S2x8x32x128x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S3x1024, .f32⟩
  | .local _ .vmem, ⟨11, _⟩ => ⟨S1x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S1x8x8x128x128, .f32⟩
  | .local _ .vmem, ⟨17, _⟩ => ⟨S1x8x8x128x128, .f32⟩
  | .local _ .vmem, ⟨18, _⟩ => ⟨S8x128x128, .f32⟩
  | _, _ => ⟨S2x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def k0_mult1 : BitVec 32 :=
  let c0_i32_8 : BitVec 32 := 0#32
  let c64_i32 : BitVec 32 := 64#32
  let v23 : BitVec 32 := Scalar.muli c0_i32_8 c64_i32
  v23
def k0_off1 (c0_i32_8 : BitVec 32) : Fin 2 → Nat :=
  let c64_i32 : BitVec 32 := 64#32
  let v23 : BitVec 32 := Scalar.muli c0_i32_8 c64_i32
  let v24 : BitVec 32 := v23
  let v25 : Index := Scalar.indexCast v24
  let c0_9 : Index := 0#32
  ![v25.toNat, 0]
def k0_off2 (c0_i32_8 : BitVec 32) : Fin 2 → Nat :=
  let c64_i32 : BitVec 32 := 64#32
  let v23 : BitVec 32 := Scalar.muli c0_i32_8 c64_i32
  let v24 : BitVec 32 := v23
  let v114 : Index := Scalar.indexCast v24
  let c0_41 : Index := 0#32
  ![v114.toNat, 0]
def k0_off3 (c0_i32_8 : BitVec 32) : Fin 2 → Nat :=
  let c64_i32 : BitVec 32 := 64#32
  let v23 : BitVec 32 := Scalar.muli c0_i32_8 c64_i32
  let v24 : BitVec 32 := v23
  let v131 : Index := Scalar.indexCast v24
  let c0_45 : Index := 0#32
  ![v131.toNat, 0]
def k0_off4 (c0_i32_8 : BitVec 32) : Fin 2 → Nat :=
  let c64_i32 : BitVec 32 := 64#32
  let v23 : BitVec 32 := Scalar.muli c0_i32_8 c64_i32
  let v24 : BitVec 32 := v23
  let v161 : Index := Scalar.indexCast v24
  let c128 : Index := 128#32
  ![v161.toNat, 128]
def k0_off5 (c0_i32_8 : BitVec 32) : Fin 2 → Nat :=
  let c64_i32 : BitVec 32 := 64#32
  let v23 : BitVec 32 := Scalar.muli c0_i32_8 c64_i32
  let v24 : BitVec 32 := v23
  let v178 : Index := Scalar.indexCast v24
  let c128_63 : Index := 128#32
  ![v178.toNat, 128]
def k0_off6 (c0_i32_8 : BitVec 32) : Fin 2 → Nat :=
  let c64_i32 : BitVec 32 := 64#32
  let v23 : BitVec 32 := Scalar.muli c0_i32_8 c64_i32
  let v24 : BitVec 32 := v23
  let v208 : Index := Scalar.indexCast v24
  let c256 : Index := 256#32
  ![v208.toNat, 256]
def k0_off7 (c0_i32_8 : BitVec 32) : Fin 2 → Nat :=
  let c64_i32 : BitVec 32 := 64#32
  let v23 : BitVec 32 := Scalar.muli c0_i32_8 c64_i32
  let v24 : BitVec 32 := v23
  let v225 : Index := Scalar.indexCast v24
  let c256_81 : Index := 256#32
  ![v225.toNat, 256]
def k0_off8 (c0_i32_8 : BitVec 32) : Fin 2 → Nat :=
  let c64_i32 : BitVec 32 := 64#32
  let v23 : BitVec 32 := Scalar.muli c0_i32_8 c64_i32
  let v24 : BitVec 32 := v23
  let v255 : Index := Scalar.indexCast v24
  let c384 : Index := 384#32
  ![v255.toNat, 384]
def k0_off9 (c0_i32_8 : BitVec 32) : Fin 2 → Nat :=
  let c64_i32 : BitVec 32 := 64#32
  let v23 : BitVec 32 := Scalar.muli c0_i32_8 c64_i32
  let v24 : BitVec 32 := v23
  let v272 : Index := Scalar.indexCast v24
  let c384_99 : Index := 384#32
  ![v272.toNat, 384]
def k0_off10 (c0_i32_8 : BitVec 32) : Fin 2 → Nat :=
  let c64_i32 : BitVec 32 := 64#32
  let v23 : BitVec 32 := Scalar.muli c0_i32_8 c64_i32
  let v24 : BitVec 32 := v23
  let v302 : Index := Scalar.indexCast v24
  let c512 : Index := 512#32
  ![v302.toNat, 512]
def k0_off11 (c0_i32_8 : BitVec 32) : Fin 2 → Nat :=
  let c64_i32 : BitVec 32 := 64#32
  let v23 : BitVec 32 := Scalar.muli c0_i32_8 c64_i32
  let v24 : BitVec 32 := v23
  let v319 : Index := Scalar.indexCast v24
  let c512_117 : Index := 512#32
  ![v319.toNat, 512]
def k0_off12 (c0_i32_8 : BitVec 32) : Fin 2 → Nat :=
  let c64_i32 : BitVec 32 := 64#32
  let v23 : BitVec 32 := Scalar.muli c0_i32_8 c64_i32
  let v24 : BitVec 32 := v23
  let v349 : Index := Scalar.indexCast v24
  let c640 : Index := 640#32
  ![v349.toNat, 640]
def k0_off13 (c0_i32_8 : BitVec 32) : Fin 2 → Nat :=
  let c64_i32 : BitVec 32 := 64#32
  let v23 : BitVec 32 := Scalar.muli c0_i32_8 c64_i32
  let v24 : BitVec 32 := v23
  let v366 : Index := Scalar.indexCast v24
  let c640_135 : Index := 640#32
  ![v366.toNat, 640]
def k0_off14 (c0_i32_8 : BitVec 32) : Fin 2 → Nat :=
  let c64_i32 : BitVec 32 := 64#32
  let v23 : BitVec 32 := Scalar.muli c0_i32_8 c64_i32
  let v24 : BitVec 32 := v23
  let v396 : Index := Scalar.indexCast v24
  let c768 : Index := 768#32
  ![v396.toNat, 768]
def k0_off15 (c0_i32_8 : BitVec 32) : Fin 2 → Nat :=
  let c64_i32 : BitVec 32 := 64#32
  let v23 : BitVec 32 := Scalar.muli c0_i32_8 c64_i32
  let v24 : BitVec 32 := v23
  let v413 : Index := Scalar.indexCast v24
  let c768_153 : Index := 768#32
  ![v413.toNat, 768]
def k0_off16 (c0_i32_8 : BitVec 32) : Fin 2 → Nat :=
  let c64_i32 : BitVec 32 := 64#32
  let v23 : BitVec 32 := Scalar.muli c0_i32_8 c64_i32
  let v24 : BitVec 32 := v23
  let v443 : Index := Scalar.indexCast v24
  let c896 : Index := 896#32
  ![v443.toNat, 896]
def k0_off17 (c0_i32_8 : BitVec 32) : Fin 2 → Nat :=
  let c64_i32 : BitVec 32 := 64#32
  let v23 : BitVec 32 := Scalar.muli c0_i32_8 c64_i32
  let v24 : BitVec 32 := v23
  let v460 : Index := Scalar.indexCast v24
  let c896_171 : Index := 896#32
  ![v460.toNat, 896]
def k0_mult2 : BitVec 32 :=
  let c1_i32 : BitVec 32 := 1#32
  let c64_i32_172 : BitVec 32 := 64#32
  let v462 : BitVec 32 := Scalar.muli c1_i32 c64_i32_172
  v462
def k0_mult3 : BitVec 32 :=
  let c2_i32 : BitVec 32 := 2#32
  let c64_i32_350 : BitVec 32 := 64#32
  let v901 : BitVec 32 := Scalar.muli c2_i32 c64_i32_350
  v901
def k0_mult4 : BitVec 32 :=
  let c3_i32 : BitVec 32 := 3#32
  let c64_i32_528 : BitVec 32 := 64#32
  let v1340 : BitVec 32 := Scalar.muli c3_i32 c64_i32_528
  v1340
def k0_mult5 : BitVec 32 :=
  let c4_i32 : BitVec 32 := 4#32
  let c64_i32_706 : BitVec 32 := 64#32
  let v1779 : BitVec 32 := Scalar.muli c4_i32 c64_i32_706
  v1779
def k0_mult6 : BitVec 32 :=
  let c5_i32 : BitVec 32 := 5#32
  let c64_i32_884 : BitVec 32 := 64#32
  let v2218 : BitVec 32 := Scalar.muli c5_i32 c64_i32_884
  v2218
def k0_mult7 : BitVec 32 :=
  let c6_i32 : BitVec 32 := 6#32
  let c64_i32_1062 : BitVec 32 := 64#32
  let v2657 : BitVec 32 := Scalar.muli c6_i32 c64_i32_1062
  v2657
def k0_mult8 : BitVec 32 :=
  let c7_i32 : BitVec 32 := 7#32
  let c64_i32_1240 : BitVec 32 := 64#32
  let v3096 : BitVec 32 := Scalar.muli c7_i32 c64_i32_1240
  v3096
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference14Ideal.lean ====
abbrev S2x2048x5120 : Shape := ⟨3, ![2, 2048, 5120]⟩
abbrev S2x2048x1024 : Shape := ⟨3, ![2, 2048, 1024]⟩
abbrev S3x1024 : Shape := ⟨2, ![3, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S2x2048x8x128 : Shape := ⟨4, ![2, 2048, 8, 128]⟩
abbrev S8x128 : Shape := ⟨2, ![8, 128]⟩
abbrev S1x1x8x128 : Shape := ⟨4, ![1, 1, 8, 128]⟩
abbrev S2x32x64x8x128 : Shape := ⟨5, ![2, 32, 64, 8, 128]⟩
abbrev S32x2x8x64x128 : Shape := ⟨5, ![32, 2, 8, 64, 128]⟩
abbrev S64x64 : Shape := ⟨2, ![64, 64]⟩
abbrev S2x8x128x128 : Shape := ⟨4, ![2, 8, 128, 128]⟩
abbrev S32x2x8x128x128 : Shape := ⟨5, ![32, 2, 8, 128, 128]⟩
abbrev S1x2x8x64x128 : Shape := ⟨5, ![1, 2, 8, 64, 128]⟩
abbrev S2x8x64x128 : Shape := ⟨4, ![2, 8, 64, 128]⟩
abbrev S2x8x1x128 : Shape := ⟨4, ![2, 8, 1, 128]⟩
abbrev S2x8x64x64 : Shape := ⟨4, ![2, 8, 64, 64]⟩
abbrev S2x8x128 : Shape := ⟨3, ![2, 8, 128]⟩
abbrev S2x8x128x1 : Shape := ⟨4, ![2, 8, 128, 1]⟩
abbrev S1x2x8x128x128 : Shape := ⟨5, ![1, 2, 8, 128, 128]⟩
abbrev S128 : Shape := ⟨1, ![128]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x2048x2048 : Shape := ⟨3, ![2, 2048, 2048]⟩
abbrev S4096x2048 : Shape := ⟨2, ![4096, 2048]⟩
abbrev S4096x1024 : Shape := ⟨2, ![4096, 1024]⟩
abbrev S2x8x32x128x128 : Shape := ⟨5, ![2, 8, 32, 128, 128]⟩

abbrev nBuf : Space → Nat
  | .hbm => 207
  | .vmem => 0
  | .smem => 0
  | _ => 0

abbrev hbmTy0_0 (i : Nat) : BufTy := match i % 128 with
  | 0 => ⟨S2x2048x5120, .f32⟩
  | 1 => ⟨S2x2048x1024, .f32⟩
  | 2 => ⟨S3x1024, .f32⟩
  | 3 => ⟨S1x128, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S3x1024, .f32⟩
  | 11 => ⟨S3x1024, .f32⟩
  | 12 => ⟨S3x1024, .f32⟩
  | 13 => ⟨S_, .f32⟩
  | 14 => ⟨S1024, .f32⟩
  | 15 => ⟨S1x1024, .f32⟩
  | 16 => ⟨S3x1024, .f32⟩
  | 17 => ⟨S3x1024, .f32⟩
  | 18 => ⟨S_, .f32⟩
  | 19 => ⟨S_, .f32⟩
  | 20 => ⟨S3x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S_, .f32⟩
  | 29 => ⟨S2x2048x1024, .f32⟩
  | 30 => ⟨S2x2048x1024, .f32⟩
  | 31 => ⟨S_, .f32⟩
  | 32 => ⟨S2x2048x1024, .f32⟩
  | 33 => ⟨S2x2048x1024, .f32⟩
  | 34 => ⟨S2x2048x1024, .f32⟩
  | 35 => ⟨S2x2048x8x128, .f32⟩
  | 36 => ⟨S1x1024, .f32⟩
  | 37 => ⟨S1024, .f32⟩
  | 38 => ⟨S8x128, .f32⟩
  | 39 => ⟨S_, .f32⟩
  | 40 => ⟨S8x128, .f32⟩
  | 41 => ⟨S8x128, .f32⟩
  | 42 => ⟨S2x2048x8x128, .f32⟩
  | 43 => ⟨S2x2048x8x128, .f32⟩
  | 44 => ⟨S2x2048x8x128, .f32⟩
  | 45 => ⟨S_, .f32⟩
  | 46 => ⟨S2x2048x8x128, .f32⟩
  | 47 => ⟨S2x2048x8x128, .f32⟩
  | 48 => ⟨S_, .f32⟩
  | 49 => ⟨S2x2048x8x128, .f32⟩
  | 50 => ⟨S2x2048x8x128, .f32⟩
  | 51 => ⟨S1x1x8x128, .f32⟩
  | 52 => ⟨S2x2048x8x128, .f32⟩
  | 53 => ⟨S2x2048x8x128, .f32⟩
  | 54 => ⟨S1x1x8x128, .f32⟩
  | 55 => ⟨S2x2048x8x128, .f32⟩
  | 56 => ⟨S2x2048x8x128, .f32⟩
  | 57 => ⟨S_, .f32⟩
  | 58 => ⟨S2x2048x8x128, .f32⟩
  | 59 => ⟨S2x2048x8x128, .f32⟩
  | 60 => ⟨S2x2048x8x128, .f32⟩
  | 61 => ⟨S2x2048x8x128, .f32⟩
  | 62 => ⟨S2x32x64x8x128, .f32⟩
  | 63 => ⟨S32x2x8x64x128, .f32⟩
  | 64 => ⟨S2x32x64x8x128, .f32⟩
  | 65 => ⟨S32x2x8x64x128, .f32⟩
  | 66 => ⟨S2x32x64x8x128, .f32⟩
  | 67 => ⟨S32x2x8x64x128, .f32⟩
  | 68 => ⟨S2x32x64x8x128, .f32⟩
  | 69 => ⟨S32x2x8x64x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S_, .f32⟩
  | 82 => ⟨S2x8x128x128, .f32⟩
  | 83 => ⟨S_, .f32⟩
  | 84 => ⟨S32x2x8x64x128, .f32⟩
  | 85 => ⟨S_, .f32⟩
  | 86 => ⟨S32x2x8x128x128, .f32⟩
  | 87 => ⟨S_, .i32⟩
  | 88 => ⟨S32x2x8x64x128, .f32⟩
  | 89 => ⟨S32x2x8x64x128, .f32⟩
  | 90 => ⟨S32x2x8x64x128, .f32⟩
  | 91 => ⟨S32x2x8x64x128, .f32⟩
  | 92 => ⟨S64x64, .i1⟩
  | 93 => ⟨S_, .i32⟩
  | 94 => ⟨S2x8x128x128, .f32⟩
  | 95 => ⟨S32x2x8x64x128, .f32⟩
  | 96 => ⟨S32x2x8x128x128, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x2x8x64x128, .f32⟩
  | 104 => ⟨S2x8x64x128, .f32⟩
  | 105 => ⟨S_, .i32⟩
  | 106 => ⟨S_, .i32⟩
  | 107 => ⟨S_, .i32⟩
  | 108 => ⟨S_, .i32⟩
  | 109 => ⟨S1x2x8x64x128, .f32⟩
  | 110 => ⟨S2x8x64x128, .f32⟩
  | 111 => ⟨S_, .i32⟩
  | 112 => ⟨S_, .i32⟩
  | 113 => ⟨S_, .i32⟩
  | 114 => ⟨S_, .i32⟩
  | 115 => ⟨S1x2x8x64x128, .f32⟩
  | 116 => ⟨S2x8x64x128, .f32⟩
  | 117 => ⟨S_, .i32⟩
  | 118 => ⟨S_, .i32⟩
  | 119 => ⟨S_, .i32⟩
  | 120 => ⟨S_, .i32⟩
  | 121 => ⟨S1x2x8x64x128, .f32⟩
  | 122 => ⟨S2x8x64x128, .f32⟩
  | 123 => ⟨S_, .f32⟩
  | 124 => ⟨S_, .f32⟩
  | 125 => ⟨S2x8x64x128, .f32⟩
  | 126 => ⟨S2x8x1x128, .f32⟩
  | 127 => ⟨S2x8x64x128, .f32⟩
  | _ => ⟨S2x2048x5120, .f32⟩

abbrev hbmTy0_1 (i : Nat) : BufTy := match i % 128 with
  | 0 => ⟨S2x8x64x128, .f32⟩
  | 1 => ⟨S2x8x64x128, .f32⟩
  | 2 => ⟨S2x8x64x128, .f32⟩
  | 3 => ⟨S2x8x64x128, .f32⟩
  | 4 => ⟨S2x8x64x64, .f32⟩
  | 5 => ⟨S_, .f32⟩
  | 6 => ⟨S_, .f32⟩
  | 7 => ⟨S2x8x64x64, .i1⟩
  | 8 => ⟨S2x8x64x64, .f32⟩
  | 9 => ⟨S2x8x64x64, .f32⟩
  | 10 => ⟨S2x8x64x128, .f32⟩
  | 11 => ⟨S2x8x64x128, .f32⟩
  | 12 => ⟨S2x8x64x128, .f32⟩
  | 13 => ⟨S2x8x128, .f32⟩
  | 14 => ⟨S2x8x128, .f32⟩
  | 15 => ⟨S2x8x128x1, .f32⟩
  | 16 => ⟨S2x8x128x128, .f32⟩
  | 17 => ⟨S2x8x128x128, .f32⟩
  | 18 => ⟨S2x8x64x128, .f32⟩
  | 19 => ⟨S2x8x64x128, .f32⟩
  | 20 => ⟨S2x8x64x128, .f32⟩
  | 21 => ⟨S2x8x64x128, .f32⟩
  | 22 => ⟨S2x8x128x128, .f32⟩
  | 23 => ⟨S2x8x128x128, .f32⟩
  | 24 => ⟨S1x2x8x64x128, .f32⟩
  | 25 => ⟨S_, .i32⟩
  | 26 => ⟨S_, .i32⟩
  | 27 => ⟨S_, .i32⟩
  | 28 => ⟨S_, .i32⟩
  | 29 => ⟨S32x2x8x64x128, .f32⟩
  | 30 => ⟨S1x2x8x128x128, .f32⟩
  | 31 => ⟨S_, .i32⟩
  | 32 => ⟨S_, .i32⟩
  | 33 => ⟨S_, .i32⟩
  | 34 => ⟨S_, .i32⟩
  | 35 => ⟨S32x2x8x128x128, .f32⟩
  | 36 => ⟨S_, .i32⟩
  | 37 => ⟨S_, .i32⟩
  | 38 => ⟨S2x32x64x8x128, .f32⟩
  | 39 => ⟨S2x2048x8x128, .f32⟩
  | 40 => ⟨S2x2048x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S128, .f32⟩
  | 46 => ⟨S2x2048x8x128, .f32⟩
  | 47 => ⟨S_, .f32⟩
  | 48 => ⟨S2x2048x8, .f32⟩
  | 49 => ⟨S2x2048x8x1, .f32⟩
  | 50 => ⟨S_, .f32⟩
  | 51 => ⟨S2x2048x8x1, .f32⟩
  | 52 => ⟨S2x2048x8x1, .f32⟩
  | 53 => ⟨S_, .f32⟩
  | 54 => ⟨S2x2048x8x1, .f32⟩
  | 55 => ⟨S2x2048x8x1, .f32⟩
  | 56 => ⟨S2x2048x8x1, .f32⟩
  | 57 => ⟨S2x2048x8x128, .f32⟩
  | 58 => ⟨S2x2048x8x128, .f32⟩
  | 59 => ⟨S1x1x1x128, .f32⟩
  | 60 => ⟨S2x2048x8x128, .f32⟩
  | 61 => ⟨S2x2048x8x128, .f32⟩
  | 62 => ⟨S2x2048x8x128, .f32⟩
  | 63 => ⟨S2x2048x8x128, .f32⟩
  | 64 => ⟨S2x2048x8x128, .f32⟩
  | 65 => ⟨S_, .f32⟩
  | 66 => ⟨S2x2048x8x128, .f32⟩
  | 67 => ⟨S2x2048x8x128, .f32⟩
  | 68 => ⟨S_, .f32⟩
  | 69 => ⟨S2x2048x8x128, .f32⟩
  | 70 => ⟨S2x2048x8x128, .f32⟩
  | 71 => ⟨S2x2048x8x128, .f32⟩
  | 72 => ⟨S2x2048x8x128, .f32⟩
  | 73 => ⟨S2x2048x1024, .f32⟩
  | 74 => ⟨S2x2048x2048, .f32⟩
  | 75 => ⟨S4096x2048, .f32⟩
  | 76 => ⟨S4096x2048, .bf16⟩
  | 77 => ⟨S4096x1024, .f32⟩
  | 78 => ⟨S2x8x32x128x128, .f32⟩
  | _ => ⟨S2x2048x5120, .f32⟩

abbrev hbmTy (i : Nat) : BufTy := match i / 128 with
  | 0 => hbmTy0_0 i
  | 1 => hbmTy0_1 i
  | _ => ⟨S2x2048x5120, .f32⟩

abbrev bufTy : (tb : Table) → Fin (tcTables nBuf tb) → BufTy
  | .hbm, ⟨i, _⟩ => hbmTy i
  | _, _ => ⟨S2x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_c_9 : Ref sig .tc := ⟨.hbm, 87, rfl⟩
abbrev main_v54_0 : Ref sig .tc := ⟨.hbm, 88, rfl⟩
abbrev main_v54_1 : Ref sig .tc := ⟨.hbm, 89, rfl⟩
abbrev main_v54_2 : Ref sig .tc := ⟨.hbm, 90, rfl⟩
abbrev main_v54_3 : Ref sig .tc := ⟨.hbm, 91, rfl⟩
abbrev main_v54_4 : Ref sig .tc := ⟨.hbm, 92, rfl⟩
abbrev main_v54_5 : Ref sig .tc := ⟨.hbm, 93, rfl⟩
abbrev main_v54_6 : Ref sig .tc := ⟨.hbm, 94, rfl⟩
abbrev main_v54_7 : Ref sig .tc := ⟨.hbm, 95, rfl⟩
abbrev main_v54_8 : Ref sig .tc := ⟨.hbm, 96, rfl⟩
abbrev main_while0c_c_21 : Ref sig .tc := ⟨.hbm, 97, rfl⟩
abbrev main_while0c_v85 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v85 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v86 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_call5_v0 : Ref sig .tc := ⟨.hbm, 115, rfl⟩
abbrev main_while0b_v87 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_call6_c_2 : Ref sig .tc := ⟨.hbm, 120, rfl⟩
abbrev main_while0b_call6_v0 : Ref sig .tc := ⟨.hbm, 121, rfl⟩
abbrev main_while0b_v88 : Ref sig .tc := ⟨.hbm, 122, rfl⟩
abbrev main_while0b_call7_call0_cst : Ref sig .tc := ⟨.hbm, 123, rfl⟩
abbrev main_while0b_call7_call0_v0 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_cst_21 : Ref sig .tc := ⟨.hbm, 133, rfl⟩
abbrev main_while0b_call8_v0 : Ref sig .tc := ⟨.hbm, 134, rfl⟩
abbrev main_while0b_call8_v1 : Ref sig .tc := ⟨.hbm, 135, rfl⟩
abbrev main_while0b_call8_v2 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_call9_v0 : Ref sig .tc := ⟨.hbm, 152, rfl⟩
abbrev main_while0b_call9_c : Ref sig .tc := ⟨.hbm, 153, rfl⟩
abbrev main_while0b_call9_c_0 : Ref sig .tc := ⟨.hbm, 154, rfl⟩
abbrev main_while0b_call9_c_1 : Ref sig .tc := ⟨.hbm, 155, rfl⟩
abbrev main_while0b_call9_c_2 : Ref sig .tc := ⟨.hbm, 156, rfl⟩
abbrev main_while0b_v112 : Ref sig .tc := ⟨.hbm, 157, rfl⟩
abbrev main_while0b_call10_v0 : Ref sig .tc := ⟨.hbm, 158, rfl⟩
abbrev main_while0b_call10_c : Ref sig .tc := ⟨.hbm, 159, rfl⟩
abbrev main_while0b_call10_c_0 : Ref sig .tc := ⟨.hbm, 160, rfl⟩
abbrev main_while0b_call10_c_1 : Ref sig .tc := ⟨.hbm, 161, rfl⟩
abbrev main_while0b_call10_c_2 : Ref sig .tc := ⟨.hbm, 162, rfl⟩
abbrev main_while0b_v113 : Ref sig .tc := ⟨.hbm, 163, rfl⟩
abbrev main_while0b_c_22 : Ref sig .tc := ⟨.hbm, 164, rfl⟩
abbrev main_while0b_v114 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_cst_10 : Ref sig .tc := ⟨.hbm, 175, rfl⟩
abbrev main_v64 : Ref sig .tc := ⟨.hbm, 176, rfl⟩
abbrev main_v65 : Ref sig .tc := ⟨.hbm, 177, rfl⟩
abbrev main_cst_11 : Ref sig .tc := ⟨.hbm, 178, rfl⟩
abbrev main_v66 : Ref sig .tc := ⟨.hbm, 179, rfl⟩
abbrev main_v67 : Ref sig .tc := ⟨.hbm, 180, rfl⟩
abbrev main_cst_12 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_call11_v0 : Ref sig .tc := ⟨.hbm, 191, rfl⟩
abbrev main_call11_v1 : Ref sig .tc := ⟨.hbm, 192, rfl⟩
abbrev main_call11_cst : Ref sig .tc := ⟨.hbm, 193, rfl⟩
abbrev main_call11_v2 : Ref sig .tc := ⟨.hbm, 194, rfl⟩
abbrev main_call11_v3 : Ref sig .tc := ⟨.hbm, 195, rfl⟩
abbrev main_call11_cst_0 : Ref sig .tc := ⟨.hbm, 196, rfl⟩
abbrev main_call11_v4 : Ref sig .tc := ⟨.hbm, 197, rfl⟩
abbrev main_call11_v5 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩

abbrev nD : Nat := 1
abbrev τ : Topo := Topo.v7x

variable {F : FTy → Type} [FloatOps F]

abbrev main_while0_count : Scf.Loop 32 := ⟨0#32, 32#32, 1#32⟩
-- ==== Kernel15.lean ====
abbrev S4096x5120 : Shape := ⟨2, ![4096, 5120]⟩
abbrev S4096x1024 : Shape := ⟨2, ![4096, 1024]⟩
abbrev S5120x1024 : Shape := ⟨2, ![5120, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x5120, .bf16⟩
  | .hbm, ⟨3, _⟩ => ⟨S4096x1024, .bf16⟩
  | .hbm, ⟨4, _⟩ => ⟨S5120x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x5120 : Shape := ⟨2, ![4096, 5120]⟩
abbrev S4096x1024 : Shape := ⟨2, ![4096, 1024]⟩
abbrev S5120x1024 : Shape := ⟨2, ![5120, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S5120x1024, .f32⟩
  | .hbm, ⟨3, _⟩ => ⟨S5120x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x5632 : Shape := ⟨2, ![4096, 5632]⟩
abbrev S4096x1024 : Shape := ⟨2, ![4096, 1024]⟩
abbrev S4096x2x2816 : Shape := ⟨3, ![4096, 2, 2816]⟩
abbrev S2x4096x2816 : Shape := ⟨3, ![2, 4096, 2816]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 7
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x2x2816, .f32⟩
  | .hbm, ⟨3, _⟩ => ⟨S2x4096x2816, .f32⟩
  | .hbm, ⟨4, _⟩ => ⟨S2x4096x2816, .bf16⟩
  | .hbm, ⟨5, _⟩ => ⟨S4096x1024, .bf16⟩
  | .hbm, ⟨6, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 1 := Scalar.cmpi .slt arg0 c2_i32
  let c0_i32 : BitVec 32 := 0#32
  let c1_i32 : BitVec 32 := 1#32
  let v1 : BitVec 32 := Scalar.select v0 c0_i32 c1_i32
  let c2_i32_0 : BitVec 32 := 2#32
  let v2 : BitVec 1 := Scalar.cmpi .slt arg0 c2_i32_0
  let c2_i32_1 : BitVec 32 := 2#32
  let v3 : BitVec 32 := Scalar.subi arg0 c2_i32_1
  let v4 : BitVec 32 := Scalar.select v2 arg0 v3
  let c0_i32_2 : BitVec 32 := 0#32
  let c0_i32_3 : BitVec 32 := 0#32
  ![v1.toNat, c0_i32_2.toNat, v4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x5632 : Shape := ⟨2, ![4096, 5632]⟩
abbrev S4096x1024 : Shape := ⟨2, ![4096, 1024]⟩
abbrev S5632x1024 : Shape := ⟨2, ![5632, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S5632x1024, .f32⟩
  | .hbm, ⟨3, _⟩ => ⟨S5632x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S1x256 : Shape := ⟨2, ![1, 256]⟩

abbrev nBuf : Space → Nat
  | .hbm => 14
  | .vmem => 14
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference17Ideal.lean ====
abbrev S1x256 : Shape := ⟨2, ![1, 256]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel18.lean ====
abbrev S8x24x1024 : Shape := ⟨3, ![8, 24, 1024]⟩
abbrev S8x1024x128 : Shape := ⟨3, ![8, 1024, 128]⟩
abbrev S24x1024 : Shape := ⟨2, ![24, 1024]⟩
abbrev S1024x128 : Shape := ⟨2, ![1024, 128]⟩
abbrev S1x24x1024 : Shape := ⟨3, ![1, 24, 1024]⟩
abbrev S1x1024x128 : Shape := ⟨3, ![1, 1024, 128]⟩

abbrev nBuf : Space → Nat
  | .hbm => 16
  | .vmem => 16
  | .smem => 0
  | _ => 0

abbrev bufTy : (tb : Table) → Fin (tcTables nBuf tb) → BufTy
  | .hbm, ⟨0, _⟩ => ⟨S8x24x1024, .f32⟩
  | .hbm, ⟨1, _⟩ => ⟨S8x1024x128, .f32⟩
  | .hbm, ⟨2, _⟩ => ⟨S24x1024, .f32⟩
  | .hbm, ⟨3, _⟩ => ⟨S1024x128, .f32⟩
  | .hbm, ⟨4, _⟩ => ⟨S24x1024, .f32⟩
  | .hbm, ⟨5, _⟩ => ⟨S1024x128, .f32⟩
  | .hbm, ⟨6, _⟩ => ⟨S24x1024, .f32⟩
  | .hbm, ⟨7, _⟩ => ⟨S1024x128, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .local _ .vmem, ⟨0, _⟩ => ⟨S8x24x1024, .f32⟩
  | .local _ .vmem, ⟨1, _⟩ => ⟨S8x1024x128, .f32⟩
  | .local _ .vmem, ⟨2, _⟩ => ⟨S24x1024, .f32⟩
  | .local _ .vmem, ⟨3, _⟩ => ⟨S1024x128, .f32⟩
  | .local _ .vmem, ⟨4, _⟩ => ⟨S24x1024, .f32⟩
  | .local _ .vmem, ⟨5, _⟩ => ⟨S1024x128, .f32⟩
  | .local _ .vmem, ⟨6, _⟩ => ⟨S24x1024, .f32⟩
  | .local _ .vmem, ⟨7, _⟩ => ⟨S1024x128, .f32⟩
  | .local _ .vmem, ⟨8, _⟩ => ⟨S24x1024, .f32⟩
  | .local _ .vmem, ⟨9, _⟩ => ⟨S24x1024, .f32⟩
  | .local _ .vmem, ⟨10, _⟩ => ⟨S24x1024, .f32⟩
  | .local _ .vmem, ⟨11, _⟩ => ⟨S24x1024, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference18Ideal.lean ====
abbrev S8x24x1024 : Shape := ⟨3, ![8, 24, 1024]⟩
abbrev S8x1024x128 : Shape := ⟨3, ![8, 1024, 128]⟩
abbrev S24x1024 : Shape := ⟨2, ![24, 1024]⟩
abbrev S1024x128 : Shape := ⟨2, ![1024, 128]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S8x1024x128, .f32⟩
  | .hbm, ⟨2, _⟩ => ⟨S24x1024, .f32⟩
  | .hbm, ⟨3, _⟩ => ⟨S1024x128, .f32⟩
  | .hbm, ⟨4, _⟩ => ⟨S24x1024, .f32⟩
  | .hbm, ⟨5, _⟩ => ⟨S1024x128, .f32⟩
  | .hbm, ⟨6, _⟩ => ⟨S24x1024, .f32⟩
  | .hbm, ⟨7, _⟩ => ⟨S1024x128, .f32⟩
  | .hbm, ⟨8, _⟩ => ⟨S_, .f32⟩
  | .hbm, ⟨9, _⟩ => ⟨S24x1024, .f32⟩
  | .hbm, ⟨10, _⟩ => ⟨S_, .f32⟩
  | .hbm, ⟨11, _⟩ => ⟨S1024x128, .f32⟩
  | .hbm, ⟨12, _⟩ => ⟨S_, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S24x1024, .f32⟩
  | .hbm, ⟨23, _⟩ => ⟨S_, .f32⟩
  | .hbm, ⟨24, _⟩ => ⟨S24x1024, .f32⟩
  | .hbm, ⟨25, _⟩ => ⟨S24x1024, .f32⟩
  | .hbm, ⟨26, _⟩ => ⟨S24x1024, .f32⟩
  | .hbm, ⟨27, _⟩ => ⟨S_, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | .hbm, ⟨37, _⟩ => ⟨S24x1024, .f32⟩
  | .hbm, ⟨38, _⟩ => ⟨S_, .f32⟩
  | .hbm, ⟨39, _⟩ => ⟨S24x1024, .f32⟩
  | .hbm, ⟨40, _⟩ => ⟨S24x1024, .f32⟩
  | .hbm, ⟨41, _⟩ => ⟨S24x1024, .f32⟩
  | .hbm, ⟨42, _⟩ => ⟨S_, .f32⟩
  | .hbm, ⟨43, _⟩ => ⟨S24x1024, .f32⟩
  | .hbm, ⟨44, _⟩ => ⟨S24x1024, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S_, .f32⟩
  | .hbm, ⟨53, _⟩ => ⟨S1024x128, .f32⟩
  | .hbm, ⟨54, _⟩ => ⟨S1024x128, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x128, .f32⟩
  | .hbm, ⟨59, _⟩ => ⟨S1024x128, .f32⟩
  | .hbm, ⟨60, _⟩ => ⟨S_, .f32⟩
  | .hbm, ⟨61, _⟩ => ⟨S1024x128, .f32⟩
  | .hbm, ⟨62, _⟩ => ⟨S1024x128, .f32⟩
  | .hbm, ⟨63, _⟩ => ⟨S_, .f32⟩
  | .hbm, ⟨64, _⟩ => ⟨S1024x128, .f32⟩
  | .hbm, ⟨65, _⟩ => ⟨S1024x128, .f32⟩
  | .hbm, ⟨66, _⟩ => ⟨S1024x128, .f32⟩
  | .hbm, ⟨67, _⟩ => ⟨S_, .f32⟩
  | .hbm, ⟨68, _⟩ => ⟨S1024x128, .f32⟩
  | .hbm, ⟨69, _⟩ => ⟨S1024x128, .f32⟩
  | .hbm, ⟨70, _⟩ => ⟨S1024x128, .f32⟩
  | .hbm, ⟨71, _⟩ => ⟨S_, .f32⟩
  | .hbm, ⟨72, _⟩ => ⟨S1024x128, .f32⟩
  | .hbm, ⟨73, _⟩ => ⟨S1024x128, .f32⟩
  | .hbm, ⟨74, _⟩ => ⟨S1024x128, .f32⟩
  | .hbm, ⟨75, _⟩ => ⟨S_, .f32⟩
  | .hbm, ⟨76, _⟩ => ⟨S1024x128, .f32⟩
  | .hbm, ⟨77, _⟩ => ⟨S1024x128, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel19.lean ====
abbrev S8x640x1024 : Shape := ⟨3, ![8, 640, 1024]⟩
abbrev S1x1024x640 : Shape := ⟨3, ![1, 1024, 640]⟩
abbrev S8x640x512 : Shape := ⟨3, ![8, 640, 512]⟩
abbrev S1x512x640 : Shape := ⟨3, ![1, 512, 640]⟩
abbrev S640x512 : Shape := ⟨2, ![640, 512]⟩
abbrev S1x640x512 : Shape := ⟨3, ![1, 640, 512]⟩
abbrev S512x640 : Shape := ⟨2, ![512, 640]⟩

abbrev nBuf : Space → Nat
  | .hbm => 9
  | .vmem => 17
  | .smem => 0
  | _ => 0

abbrev bufTy : (tb : Table) → Fin (tcTables nBuf tb) → BufTy
  | .hbm, ⟨0, _⟩ => ⟨S8x640x1024, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S8x640x1024, .bf16⟩
  | .hbm, ⟨5, _⟩ => ⟨S1x1024x640, .f32⟩
  | .hbm, ⟨6, _⟩ => ⟨S1x1024x640, .f32⟩
  | .hbm, ⟨7, _⟩ => ⟨S1x1024x640, .f32⟩
  | .hbm, ⟨8, _⟩ => ⟨S1x1024x640, .f32⟩
  | .local _ .vmem, ⟨0, _⟩ => ⟨S8x640x512, .bf16⟩
  | .local _ .vmem, ⟨1, _⟩ => ⟨S8x640x512, .bf16⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | .local _ .vmem, ⟨16, _⟩ => ⟨S640x512, .f32⟩
  | _, _ => ⟨S8x640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, c0_i32_3.toNat, v3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S8x640x1024 : Shape := ⟨3, ![8, 640, 1024]⟩
abbrev S1x1024x640 : Shape := ⟨3, ![1, 1024, 640]⟩
abbrev S_ : Shape := ⟨0, ![]⟩
abbrev S640x1024 : Shape := ⟨2, ![640, 1024]⟩
abbrev S1024x640 : Shape := ⟨2, ![1024, 640]⟩

abbrev nBuf : Space → Nat
  | .hbm => 43
  | .vmem => 0
  | .smem => 0
  | _ => 0

abbrev bufTy : (tb : Table) → Fin (tcTables nBuf tb) → BufTy
  | .hbm, ⟨0, _⟩ => ⟨S8x640x1024, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S8x640x1024, .bf16⟩
  | .hbm, ⟨5, _⟩ => ⟨S8x640x1024, .f32⟩
  | .hbm, ⟨6, _⟩ => ⟨S_, .f32⟩
  | .hbm, ⟨7, _⟩ => ⟨S640x1024, .f32⟩
  | .hbm, ⟨8, _⟩ => ⟨S1024x640, .f32⟩
  | .hbm, ⟨9, _⟩ => ⟨S1x1024x640, .f32⟩
  | .hbm, ⟨10, _⟩ => ⟨S_, .f32⟩
  | .hbm, ⟨11, _⟩ => ⟨S1x1024x640, .f32⟩
  | .hbm, ⟨12, _⟩ => ⟨S1x1024x640, .f32⟩
  | .hbm, ⟨13, _⟩ => ⟨S_, .f32⟩
  | .hbm, ⟨14, _⟩ => ⟨S1x1024x640, .f32⟩
  | .hbm, ⟨15, _⟩ => ⟨S1x1024x640, .f32⟩
  | .hbm, ⟨16, _⟩ => ⟨S1x1024x640, .f32⟩
  | .hbm, ⟨17, _⟩ => ⟨S_, .f32⟩
  | .hbm, ⟨18, _⟩ => ⟨S1x1024x640, .f32⟩
  | .hbm, ⟨19, _⟩ => ⟨S1x1024x640, .f32⟩
  | .hbm, ⟨20, _⟩ => ⟨S1x1024x640, .f32⟩
  | .hbm, ⟨21, _⟩ => ⟨S_, .f32⟩
  | .hbm, ⟨22, _⟩ => ⟨S1x1024x640, .f32⟩
  | .hbm, ⟨23, _⟩ => ⟨S1x1024x640, .f32⟩
  | .hbm, ⟨24, _⟩ => ⟨S1x1024x640, .f32⟩
  | .hbm, ⟨25, _⟩ => ⟨S_, .f32⟩
  | .hbm, ⟨26, _⟩ => ⟨S1x1024x640, .f32⟩
  | .hbm, ⟨27, _⟩ => ⟨S1x1024x640, .f32⟩
  | .hbm, ⟨28, _⟩ => ⟨S_, .f32⟩
  | .hbm, ⟨29, _⟩ => ⟨S1x1024x640, .f32⟩
  | .hbm, ⟨30, _⟩ => ⟨S1x1024x640, .f32⟩
  | .hbm, ⟨31, _⟩ => ⟨S1x1024x640, .f32⟩
  | .hbm, ⟨32, _⟩ => ⟨S_, .f32⟩
  | .hbm, ⟨33, _⟩ => ⟨S1x1024x640, .f32⟩
  | .hbm, ⟨34, _⟩ => ⟨S1x1024x640, .f32⟩
  | .hbm, ⟨35, _⟩ => ⟨S1x1024x640, .f32⟩
  | .hbm, ⟨36, _⟩ => ⟨S_, .f32⟩
  | .hbm, ⟨37, _⟩ => ⟨S1x1024x640, .f32⟩
  | .hbm, ⟨38, _⟩ => ⟨S1x1024x640, .f32⟩
  | .hbm, ⟨39, _⟩ => ⟨S1x1024x640, .f32⟩
  | .hbm, ⟨40, _⟩ => ⟨S_, .f32⟩
  | .hbm, ⟨41, _⟩ => ⟨S1x1024x640, .f32⟩
  | .hbm, ⟨42, _⟩ => ⟨S1x1024x640, .f32⟩
  | _, _ => ⟨S8x640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel20.lean ====
abbrev S1x1024 : Shape := ⟨2, ![1, 1024]⟩
abbrev S3x1024 : Shape := ⟨2, ![3, 1024]⟩
abbrev S1x128 : Shape := ⟨2, ![1, 128]⟩
abbrev S1x2048 : Shape := ⟨2, ![1, 2048]⟩
abbrev S8x128 : Shape := ⟨2, ![8, 128]⟩
abbrev S24x1024 : Shape := ⟨2, ![24, 1024]⟩

abbrev nBuf : Space → Nat
  | .hbm => 15
  | .vmem => 15
  | .smem => 0
  | _ => 0

abbrev bufTy : (tb : Table) → Fin (tcTables nBuf tb) → BufTy
  | .hbm, ⟨0, _⟩ => ⟨S1x1024, .f32⟩
  | .hbm, ⟨1, _⟩ => ⟨S3x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S1x2048, .f32⟩
  | .hbm, ⟨8, _⟩ => ⟨S1x2048, .f32⟩
  | .hbm, ⟨9, _⟩ => ⟨S8x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x128, .f32⟩
  | .hbm, ⟨14, _⟩ => ⟨S24x1024, .f32⟩
  | .local _ .vmem, ⟨0, _⟩ => ⟨S1x1024, .f32⟩
  | .local _ .vmem, ⟨1, _⟩ => ⟨S3x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S8x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | .local _ .vmem, ⟨14, _⟩ => ⟨S24x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference20Ideal.lean ====
abbrev S1x1024 : Shape := ⟨2, ![1, 1024]⟩
abbrev S3x1024 : Shape := ⟨2, ![3, 1024]⟩
abbrev S1x128 : Shape := ⟨2, ![1, 128]⟩
abbrev S1x2048 : Shape := ⟨2, ![1, 2048]⟩
abbrev S8x128 : Shape := ⟨2, ![8, 128]⟩
abbrev S_ : Shape := ⟨0, ![]⟩
abbrev S1x896 : Shape := ⟨2, ![1, 896]⟩
abbrev S2x1024 : Shape := ⟨2, ![2, 1024]⟩
abbrev S6x1024 : Shape := ⟨2, ![6, 1024]⟩
abbrev S4x1024 : Shape := ⟨2, ![4, 1024]⟩
abbrev S5x1024 : Shape := ⟨2, ![5, 1024]⟩
abbrev S7x1024 : Shape := ⟨2, ![7, 1024]⟩
abbrev S8x1024 : Shape := ⟨2, ![8, 1024]⟩
abbrev S9x1024 : Shape := ⟨2, ![9, 1024]⟩
abbrev S11x1024 : Shape := ⟨2, ![11, 1024]⟩
abbrev S13x1024 : Shape := ⟨2, ![13, 1024]⟩
abbrev S14x1024 : Shape := ⟨2, ![14, 1024]⟩
abbrev S15x1024 : Shape := ⟨2, ![15, 1024]⟩
abbrev S16x1024 : Shape := ⟨2, ![16, 1024]⟩
abbrev S17x1024 : Shape := ⟨2, ![17, 1024]⟩
abbrev S18x1024 : Shape := ⟨2, ![18, 1024]⟩
abbrev S24x1024 : Shape := ⟨2, ![24, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S3x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S1x2048, .f32⟩
  | .hbm, ⟨8, _⟩ => ⟨S1x2048, .f32⟩
  | .hbm, ⟨9, _⟩ => ⟨S8x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x128, .f32⟩
  | .hbm, ⟨14, _⟩ => ⟨S_, .f32⟩
  | .hbm, ⟨15, _⟩ => ⟨S1x896, .f32⟩
  | .hbm, ⟨16, _⟩ => ⟨S1x1024, .f32⟩
  | .hbm, ⟨17, _⟩ => ⟨S2x1024, .f32⟩
  | .hbm, ⟨18, _⟩ => ⟨S2x1024, .f32⟩
  | .hbm, ⟨19, _⟩ => ⟨S1x1024, .f32⟩
  | .hbm, ⟨20, _⟩ => ⟨S_, .f32⟩
  | .hbm, ⟨21, _⟩ => ⟨S1x896, .f32⟩
  | .hbm, ⟨22, _⟩ => ⟨S1x1024, .f32⟩
  | .hbm, ⟨23, _⟩ => ⟨S_, .f32⟩
  | .hbm, ⟨24, _⟩ => ⟨S6x1024, .f32⟩
  | .hbm, ⟨25, _⟩ => ⟨S4x1024, .f32⟩
  | .hbm, ⟨26, _⟩ => ⟨S5x1024, .f32⟩
  | .hbm, ⟨27, _⟩ => ⟨S6x1024, .f32⟩
  | .hbm, ⟨28, _⟩ => ⟨S7x1024, .f32⟩
  | .hbm, ⟨29, _⟩ => ⟨S8x1024, .f32⟩
  | .hbm, ⟨30, _⟩ => ⟨S9x1024, .f32⟩
  | .hbm, ⟨31, _⟩ => ⟨S11x1024, .f32⟩
  | .hbm, ⟨32, _⟩ => ⟨S13x1024, .f32⟩
  | .hbm, ⟨33, _⟩ => ⟨S14x1024, .f32⟩
  | .hbm, ⟨34, _⟩ => ⟨S15x1024, .f32⟩
  | .hbm, ⟨35, _⟩ => ⟨S16x1024, .f32⟩
  | .hbm, ⟨36, _⟩ => ⟨S17x1024, .f32⟩
  | .hbm, ⟨37, _⟩ => ⟨S18x1024, .f32⟩
  | .hbm, ⟨38, _⟩ => ⟨S24x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Proof.Lift.lean ====
module
public import Idealize.ShloMosaic.Lib.Pipeline.ValueKit
public import Idealize.ShloMosaic.Lib.Pointwise
public import Idealize.ShloMosaic.PureOps.Ideal.Laws
public import Idealize.ShloMosaic.Lib.ReduceAll
@[expose] public section
set_option maxRecDepth 16384

noncomputable section
namespace Cert.Lift
open Idealize.ShloMosaic Idealize.ShloMosaic.TcCoe Idealize.SL.Sem

/-- A real vector, seen as an array of ideal floats. -/
def up1 {n : ℕ} (φ : FTy) (x : Fin n → ℝ) : FVec Ideal ⟨1, ![n]⟩ φ := fun i => ((x (i 0) : ℝ) : EReal)
/-- A real matrix, seen as an array of ideal floats. -/
def up2 {n k : ℕ} (φ : FTy) (x : Fin n → Fin k → ℝ) : FVec Ideal ⟨2, ![n, k]⟩ φ := fun i => ((x (i 0) (i 1) : ℝ) : EReal)
/-- A real array of rank three, seen as an array of ideal floats. -/
def up3 {n k l : ℕ} (φ : FTy) (x : Fin n → Fin k → Fin l → ℝ) : FVec Ideal ⟨3, ![n, k, l]⟩ φ :=
  fun i => ((x (i 0) (i 1) (i 2) : ℝ) : EReal)
/-- A real array of rank four, seen as an array of ideal floats. -/
def up4 {n k l p : ℕ} (φ : FTy) (x : Fin n → Fin k → Fin l → Fin p → ℝ) : FVec Ideal ⟨4, ![n, k, l, p]⟩ φ :=
  fun i => ((x (i 0) (i 1) (i 2) (i 3) : ℝ) : EReal)
theorem up1_apply {n : ℕ} (φ : FTy) (x : Fin n → ℝ) (i : Shape.Idx ⟨1, ![n]⟩) : up1 φ x i = ((x (i 0) : ℝ) : EReal) := rfl
theorem up2_apply {n k : ℕ} (φ : FTy) (x : Fin n → Fin k → ℝ) (i : Shape.Idx ⟨2, ![n, k]⟩) :
    up2 φ x i = ((x (i 0) (i 1) : ℝ) : EReal) := rfl
theorem up3_apply {n k l : ℕ} (φ : FTy) (x : Fin n → Fin k → Fin l → ℝ) (i : Shape.Idx ⟨3, ![n, k, l]⟩) :
    up3 φ x i = ((x (i 0) (i 1) (i 2) : ℝ) : EReal) := rfl
theorem up4_apply {n k l p : ℕ} (φ : FTy) (x : Fin n → Fin k → Fin l → Fin p → ℝ) (i : Shape.Idx ⟨4, ![n, k, l, p]⟩) :
    up4 φ x i = ((x (i 0) (i 1) (i 2) (i 3) : ℝ) : EReal) := rfl

/-- A real array of rank five, seen as an array of ideal floats. -/
def up5 {n k l p q : ℕ} (φ : FTy) (x : Fin n → Fin k → Fin l → Fin p → Fin q → ℝ) : FVec Ideal ⟨5, ![n, k, l, p, q]⟩ φ :=
  fun i => ((x (i 0) (i 1) (i 2) (i 3) (i 4) : ℝ) : EReal)
theorem up5_apply {n k l p q : ℕ} (φ : FTy) (x : Fin n → Fin k → Fin l → Fin p → Fin q → ℝ) (i : Shape.Idx ⟨5, ![n, k, l, p, q]⟩) :
    up5 φ x i = ((x (i 0) (i 1) (i 2) (i 3) (i 4) : ℝ) : EReal) := rfl

/-- Arrays of extended reals, by coordinates. -/
def ue1 {n : ℕ} (φ : FTy) (x : Fin n → EReal) : FVec Ideal ⟨1, ![n]⟩ φ := fun i => x (i 0)
def ue2 {n k : ℕ} (φ : FTy) (x : Fin n → Fin k → EReal) : FVec Ideal ⟨2, ![n, k]⟩ φ := fun i => x (i 0) (i 1)
def ue3 {n k l : ℕ} (φ : FTy) (x : Fin n → Fin k → Fin l → EReal) : FVec Ideal ⟨3, ![n, k, l]⟩ φ := fun i => x (i 0) (i 1) (i 2)
theorem ue1_apply {n : ℕ} (φ : FTy) (x : Fin n → EReal) (i : Shape.Idx ⟨1, ![n]⟩) : ue1 φ x i = x (i 0) := rfl
theorem ue2_apply {n k : ℕ} (φ : FTy) (x : Fin n → Fin k → EReal) (i : Shape.Idx ⟨2, ![n, k]⟩) : ue2 φ x i = x (i 0) (i 1) := rfl
theorem ue3_apply {n k l : ℕ} (φ : FTy) (x : Fin n → Fin k → Fin l → EReal) (i : Shape.Idx ⟨3, ![n, k, l]⟩) :
    ue3 φ x i = x (i 0) (i 1) (i 2) := rfl
/-- An array all of whose elements are finite is a real vector. -/
theorem exists_up1 {n : ℕ} (φ : FTy) (x : FVec Ideal ⟨1, ![n]⟩ φ) (h : ∀ i, ∃ r : ℝ, x i = (r : EReal)) : ∃ y, x = up1 φ y := by
  choose f hf using h
  exact ⟨fun a => f (ix1 a), funext fun i => by rw [up1_apply, hf, ← eq_ix1 i]⟩
/-- An array all of whose elements are finite is a real matrix. -/
theorem exists_up2 {n k : ℕ} (φ : FTy) (x : FVec Ideal ⟨2, ![n, k]⟩ φ) (h : ∀ i, ∃ r : ℝ, x i = (r : EReal)) : ∃ y, x = up2 φ y := by
  choose f hf using h
  exact ⟨fun a b => f (ix2 a b), funext fun i => by rw [up2_apply, hf, ← eq_ix2 i]⟩
/-- An array all of whose elements are finite is a real array of rank three. -/
theorem exists_up3 {n k l : ℕ} (φ : FTy) (x : FVec Ideal ⟨3, ![n, k, l]⟩ φ) (h : ∀ i, ∃ r : ℝ, x i = (r : EReal)) :
    ∃ y, x = up3 φ y := by
  choose f hf using h
  exact ⟨fun a b c => f (ix3 a b c), funext fun i => by rw [up3_apply, hf, ← eq_ix3 i]⟩

theorem exists_ue1 {n : ℕ} (φ : FTy) (x : FVec Ideal ⟨1, ![n]⟩ φ) : ∃ y, x = ue1 φ y :=
  ⟨fun a => x (ix1 a), funext fun i => by rw [ue1_apply, ← eq_ix1 i]⟩
theorem exists_ue2 {n k : ℕ} (φ : FTy) (x : FVec Ideal ⟨2, ![n, k]⟩ φ) : ∃ y, x = ue2 φ y :=
  ⟨fun a b => x (ix2 a b), funext fun i => by rw [ue2_apply, ← eq_ix2 i]⟩
theorem exists_ue3 {n k l : ℕ} (φ : FTy) (x : FVec Ideal ⟨3, ![n, k, l]⟩ φ) : ∃ y, x = ue3 φ y :=
  ⟨fun a b c => x (ix3 a b c), funext fun i => by rw [ue3_apply, ← eq_ix3 i]⟩

/-- A number whose absolute value is below infinity is a real number. -/
theorem real_of_abs_lt (x : EReal) (h : max x (-x) < ⊤) : ∃ r : ℝ, x = (r : EReal) := by
  induction x with
  | bot => simp at h
  | top => simp at h
  | coe r => exact ⟨r, rfl⟩

/-- The sum of real numbers, seen as ideal floats, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem c1024 : Ideal.ofBits .f32 0x44800000#32 = ((1024 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_neg_half : Ideal.ofBits .f32 0xBF000000#32 = ((-1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_inf : Ideal.ofBits .f32 0x7F800000#32 = ⊤ := by
  simp [Ideal.ofBits, Ideal.ieee]
/-- The value of the float that is nearest to one millionth. -/
def eps : ℝ := 8796093 * 2 ^ (-43 : ℤ)
theorem eps_pos : 0 < eps := by unfold eps; positivity
theorem c_eps : Ideal.ofBits .f32 0x358637BD#32 = ((eps : ℝ) : EReal) := by
  unfold eps
  simp [Ideal.ofBits, Ideal.ieee, -EReal.coe_mul]

/-- If the conjunction of `|x i| < ∞` over an array holds, every element of the array is a real number. -/
theorem finite_of_reduce {s t u : Shape} [Subsingleton t.Idx] {axes : List (Fin s.rank)} (x : FVec Ideal s .f32) (e : FVec Ideal s .f32)
    (he : ∀ i, e i = (⊤ : EReal)) (init : IVec u 1) (hr : s.ReducesTo axes t) (hu : 0 < u.numel) (j : t.Idx)
    (h : Host.reduce IntOp.andi (cmpf .olt (Host.absf x) e) init hr hu j = 1#1) (i : s.Idx) : ∃ r : ℝ, x i = (r : EReal) := by
  have h1 : cmpf .olt (Host.absf x) e i = 1#1 := Host.reduce_andi_all _ init hr hu j h i
  have h2 : Ideal.cmp .olt (max (x i) (-(x i))) (⊤ : EReal) = 1#1 := by rw [← he i]; exact h1
  refine real_of_abs_lt _ ?_
  by_contra h3
  simp [Ideal.cmp, h3] at h2

/-- Both factors of a conjunction of bits that is one are one. -/
theorem and_one {s : Shape} {x y : IVec s 1} {i : s.Idx} (h : andi x y i = 1#1) : x i = 1#1 ∧ y i = 1#1 := by
  have h' : x i &&& y i = 1#1 := h
  generalize x i = a at *
  generalize y i = b at *
  revert a b
  decide
/-- The constant infinity, spread over an array, is the top element everywhere. -/
theorem inf_apply {t : Shape} {b : (⟨0, ![]⟩ : Shape).BroadcastsInDim t (![] : Fin 0 → Fin t.rank)} (i : t.Idx) :
    broadcastInDim t ![] b (constant (F := Ideal) ⟨0, ![]⟩ .f32 0x7F800000#32) i = (⊤ : EReal) := by
  show Ideal.ofBits .f32 0x7F800000#32 = _
  exact c_inf

/-- A host sum over the first two axes of an array of rank three, read at an index. -/
theorem hostSum_first_two {n k l : ℕ} (h : (⟨3, ![n, k, l]⟩ : Shape).ReducesTo [0, 1] ⟨1, ![l]⟩)
    (v : (⟨3, ![n, k, l]⟩ : Shape).Idx → EReal) (init : EReal) (j : (⟨1, ![l]⟩ : Shape).Idx) :
    Ideal.hostReduceAdd h v init j = init + ∑ a : Fin n, ∑ b : Fin k, v (ix3 a b (j 0)) := by
  unfold Ideal.hostReduceAdd
  rw [Finset.sum_filter, sum_idx3]
  refine congrArg (init + ·) (Finset.sum_congr rfl fun a _ => Finset.sum_congr rfl fun b _ => ?_)
  obtain ⟨p, hp⟩ : ∃ p : Fin l, p = j 0 := ⟨j 0, rfl⟩
  have hd : ∀ c : Fin l, (h.drop (ix3 a b c) = j) ↔ c = p := by
    intro c
    constructor
    · intro e
      rw [hp, ← e]
      rfl
    · intro e
      funext d
      match d with
      | ⟨0, _⟩ => exact Fin.ext (congrArg Fin.val (e.trans hp))
  refine (Finset.sum_congr rfl fun c _ => if_congr (hd c) rfl rfl).trans ?_
  refine (Finset.sum_ite_eq' Finset.univ p (fun c => v (ix3 a b c))).trans ((if_pos (Finset.mem_univ _)).trans ?_)
  exact congrArg (fun q : Fin l => v (ix3 a b q)) hp

/-- A host sum over the first two and the last axis of an array of rank five, read at an index. -/
theorem hostSum_two_last {n k l p q : ℕ} (h : (⟨5, ![n, k, l, p, q]⟩ : Shape).ReducesTo [0, 1, 4] ⟨2, ![l, p]⟩)
    (v : (⟨5, ![n, k, l, p, q]⟩ : Shape).Idx → EReal) (init : EReal) (j : (⟨2, ![l, p]⟩ : Shape).Idx) :
    Ideal.hostReduceAdd h v init j = init + ∑ a : Fin n, ∑ b : Fin k, ∑ e : Fin q, v (ix5 a b (j 0) (j 1) e) := by
  unfold Ideal.hostReduceAdd
  rw [Finset.sum_filter, sum_idx5]
  refine congrArg (init + ·) (Finset.sum_congr rfl fun a _ => Finset.sum_congr rfl fun b _ => ?_)
  obtain ⟨x, hx⟩ : ∃ x : Fin l, x = j 0 := ⟨j 0, rfl⟩
  obtain ⟨y, hy⟩ : ∃ y : Fin p, y = j 1 := ⟨j 1, rfl⟩
  have hd : ∀ (c : Fin l) (d : Fin p) (e : Fin q), (h.drop (ix5 a b c d e) = j) ↔ c = x ∧ d = y := by
    intro c d e
    constructor
    · intro g
      rw [hx, hy, ← g]
      exact ⟨rfl, rfl⟩
    · rintro ⟨g, g'⟩
      funext d
      match d with
      | ⟨0, _⟩ => exact Fin.ext (congrArg Fin.val (g.trans hx))
      | ⟨1, _⟩ => exact Fin.ext (congrArg Fin.val (g'.trans hy))
  refine (Finset.sum_eq_single x (fun c _ hc => ?_) (fun hc => (hc (Finset.mem_univ _)).elim)).trans ?_
  · exact Finset.sum_eq_zero fun d _ => Finset.sum_eq_zero fun e _ => if_neg fun g => hc ((hd c d e).1 g).1
  refine (Finset.sum_eq_single y (fun c _ hc => ?_) (fun hc => (hc (Finset.mem_univ _)).elim)).trans ?_
  · exact Finset.sum_eq_zero fun e _ => if_neg fun g => hc ((hd x c e).1 g).2
  refine Finset.sum_congr rfl fun e _ => (if_pos ((hd x y e).2 ⟨rfl, rfl⟩)).trans ?_
  rw [hx, hy]

theorem div_coe' (x y : ℝ) (h : y ≠ 0) : Ideal.div (x : EReal) (y : EReal) = ((x * (1 / y) : ℝ) : EReal) := by
  rw [Ideal.div_coe h, EReal.coe_mul]

theorem rsqrt_pos (x : ℝ) (h : 0 < x) : Ideal.rsqrt (x : EReal) = (((√x)⁻¹ : ℝ) : EReal) := by
  rw [Ideal.rsqrt_coe, if_neg (not_lt.2 h.le), if_neg h.ne']

theorem c_neg_inf : Ideal.ofBits .f32 0xFF800000#32 = ⊥ := by
  simp [Ideal.ofBits, Ideal.ieee, -EReal.coe_mul]
theorem c_one : Ideal.ofBits .f32 0x3F800000#32 = ((1 : ℝ) : EReal) := by
  simp [Ideal.ofBits, Ideal.ieee, -EReal.coe_mul]; norm_num
theorem c_sixteenth : Ideal.ofBits .f32 0x3D800000#32 = ((1 / 16 : ℝ) : EReal) := by
  simp [Ideal.ofBits, Ideal.ieee, -EReal.coe_mul]; norm_num
/-- The largest of some real numbers, taken from the bottom. -/
theorem fold_max_coe {M : ℕ} [NeZero M] (f : Fin M → ℝ) :
    Finset.fold max (⊥ : EReal) (fun x => ((f x : ℝ) : EReal)) Finset.univ = ((Finset.univ.sup' Finset.univ_nonempty f : ℝ) : EReal) := by
  refine le_antisymm ?_ ?_
  · rw [Finset.fold_max_le]
    exact ⟨bot_le, fun x hx => EReal.coe_le_coe_iff.2 (Finset.le_sup' f hx)⟩
  · obtain ⟨x, hx, h⟩ := Finset.exists_mem_eq_sup' Finset.univ_nonempty f
    rw [h, Finset.le_fold_max]
    exact Or.inr ⟨x, hx, le_refl _⟩

end Cert.Lift
-- ==== Proof.Rms.lean ====
module
public import proofs.«01_k».proof.Proof.Lift
@[expose] public section
set_option maxRecDepth 16384

noncomputable section
namespace Cert.Rms
open Cert.Lift

/-- The mean square of a row of 1024 numbers, plus the norm's small constant. -/
def ms (a : Fin 1024 → ℝ) : ℝ := (∑ k, a k * a k) * (1 / 1024) + eps
/-- The reciprocal root mean square of a row. -/
def rr (a : Fin 1024 → ℝ) : ℝ := (√(ms a))⁻¹
/-- The normalised row. -/
def nrm (a : Fin 1024 → ℝ) (j : Fin 1024) : ℝ := a j * rr a
/-- The gradient with respect to the row of its norm, for the gradient `d` of the normalised row. -/
def dnorm (a d : Fin 1024 → ℝ) (j : Fin 1024) : ℝ := rr a * (d j - nrm a j * ((∑ k, d k * nrm a k) * (1 / 1024)))

theorem ms_pos (a : Fin 1024 → ℝ) : 0 < ms a :=
  add_pos_of_nonneg_of_pos (mul_nonneg (Finset.sum_nonneg fun k _ => mul_self_nonneg _) (by norm_num)) eps_pos
theorem sqrt_pos (a : Fin 1024 → ℝ) : 0 < √(ms a) := Real.sqrt_pos.2 (ms_pos a)
theorem rr_sq (a : Fin 1024 → ℝ) : rr a * rr a = 1 / ms a := by
  unfold rr
  rw [← mul_inv, Real.mul_self_sqrt (ms_pos a).le, one_div]

/-- The slope of the reciprocal root mean square along a row's inner product with the gradient. -/
def slope (a d : Fin 1024 → ℝ) : ℝ := (∑ k, a k * d k) * (-1 / 2 * (rr a * (1 / ms a))) * (1 / 1024)
/-- The gradient as reverse differentiation of the norm's own lines gives it. -/
theorem dnorm_eq (a d : Fin 1024 → ℝ) (j : Fin 1024) : d j * rr a + a j * slope a d + slope a d * a j = dnorm a d j := by
  have h : (∑ k, d k * nrm a k) = (∑ k, a k * d k) * rr a := by
    rw [Finset.sum_mul]
    exact Finset.sum_congr rfl fun k _ => by unfold nrm; ring
  unfold dnorm slope
  rw [h, ← rr_sq]
  unfold nrm
  ring

end Cert.Rms
-- ==== Proof.LossMath.lean ====
module
public import proofs.«01_k».proof.Proof.Rms
@[expose] public section
set_option maxRecDepth 16384

noncomputable section
namespace Cert.LossMath
open Cert.Rms

/-- Token `n` of the two sequences laid one behind the other. -/
def rows (x : Fin 2 → Fin 2048 → Fin 1024 → ℝ) (n : Fin 4096) : Fin 1024 → ℝ :=
  x ⟨n.val / 2048, by omega⟩ ⟨n.val % 2048, by omega⟩
/-- The difference of the scaled norm of a row and its target. -/
def err (a g t : Fin 1024 → ℝ) (j : Fin 1024) : ℝ := nrm a j * g j - t j
/-- The mean square of that difference. -/
def rowLoss (a g t : Fin 1024 → ℝ) : ℝ := (∑ k, err a g t k * err a g t k) * (1 / 1024)
/-- One row's part of the gradient with respect to the scale. -/
def rowDg (a g t : Fin 1024 → ℝ) (j : Fin 1024) : ℝ := err a g t j * (1 / 1024) * nrm a j
/-- The gradient with respect to the row. -/
def rowDx (a g t : Fin 1024 → ℝ) (j : Fin 1024) : ℝ := dnorm a (fun k => err a g t k * (1 / 1024) * g k) j

end Cert.LossMath
-- ==== Proof.LossK.lean ====
module
public import proofs.«01_k».proof.Proof.Gen.KernelIdeal.Value
public import proofs.«01_k».proof.Proof.LossMath
@[expose] public section
set_option maxRecDepth 16384
noncomputable section
namespace Cert.LossK
open Idealize.ShloMosaic Idealize.ShloMosaic.TcCoe Idealize.SL.Sem
open Idealize.ShloMosaic.Pipeline (Dat)
open Cert.KernelIdeal Cert.KernelIdeal.Gen Cert.Lift Cert.Rms Cert.LossMath

section body
variable (x : Fin 512 → Fin 1024 → ℝ) (g : Fin 1 → Fin 1024 → ℝ) (t : Fin 512 → Fin 1024 → ℝ)

theorem pay7 : k0_pay7 (F := Ideal) (up2 .f32 x) = up2 .f32 (fun r _ => rr (x r)) := by
  funext i
  pointwise [k0_pay7, k0_pay5, up2_apply]
  simp only [← EReal.coe_mul, coe_sum, c1024, c_eps]
  rw [div_coe' _ _ (by norm_num), ← EReal.coe_add]
  exact rsqrt_pos _ (ms_pos _)

theorem pay8 : k0_pay8 (F := Ideal) (up2 .f32 x) = up2 .f32 (fun r => nrm (x r)) := by
  funext i
  pointwise [k0_pay8, pay7, k0_pay5, up2_apply]
  rfl

theorem pay9 : k0_pay9 (F := Ideal) (up2 .f32 x) (up2 .f32 g) (up2 .f32 t) = up2 .f32 (fun r => err (x r) (g 0) (t r)) := by
  funext i
  pointwise [k0_pay9, pay8, k0_pay6, up2_apply]
  rfl

theorem pay10 : k0_pay10 (F := Ideal) (up2 .f32 x) (up2 .f32 g) (up2 .f32 t)
    = up2 .f32 (fun _ _ => 1 / 2 * ∑ r, rowLoss (x r) (g 0) (t r)) := by
  funext i
  pointwise [k0_pay10, pay9, up2_apply]
  simp only [← EReal.coe_mul, coe_sum, c1024, c_half]
  simp only [div_coe' _ _ (show (1024 : ℝ) ≠ 0 by norm_num), coe_sum, ← EReal.coe_mul, Finset.univ_unique, Finset.sum_singleton]
  rfl

theorem pay11 : k0_pay11 (F := Ideal) (up2 .f32 x) (up2 .f32 g) (up2 .f32 t)
    = up2 .f32 (fun r j => err (x r) (g 0) (t r) j * (1 / 1024)) := by
  funext i
  pointwise [k0_pay11, pay9, up2_apply]
  rw [c_inv1024]
  rfl

theorem pay12 : k0_pay12 (F := Ideal) (up2 .f32 x) (up2 .f32 g) (up2 .f32 t)
    = up2 .f32 (fun _ j => ∑ r, rowDg (x r) (g 0) (t r) j) := by
  funext i
  pointwise [k0_pay12, pay11, pay8, up2_apply]
  simp only [← EReal.coe_mul, coe_sum]
  rfl

theorem pay3 (i : S512x1024.Idx) : k0_pay3 (F := Ideal) (k0_pay6 (up2 .f32 g)) (k0_pay7 (up2 .f32 x)) (k0_pay8 (up2 .f32 x)) (k0_pay11 (up2 .f32 x) (up2 .f32 g) (up2 .f32 t)) i
    = up2 .f32 (fun r => rowDx (x r) (g 0) (t r)) i := by
  rw [pay7, pay8, pay11]
  pointwise [k0_pay3, k0_pay6, up2_apply]
  simp only [← EReal.coe_mul, coe_sum, c1024]
  rw [div_coe' _ _ (by norm_num)]
  rfl
end body

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] ∧ t.val < 8 :=
  (by decide +kernel : ∀ t : Fin grid0.N, _)

variable (m : (ℓ : Loc nD τ sig) → Buf (Elt Ideal) ℓ) (c : Dev nD)
variable (x : Fin 2 → Fin 2048 → Fin 1024 → ℝ) (g : Fin 1024 → ℝ) (tg : Fin 2 → Fin 2048 → Fin 1024 → ℝ)

/-- The rows of point `t`'s block of a real array of tokens. -/
def blkRows (t : Fin cfg0.N) (x : Fin 2 → Fin 2048 → Fin 1024 → ℝ) (r : Fin 512) : Fin 1024 → ℝ :=
  rows x ⟨t.val * 512 + r.val, by have := (idx t).2.2.2.2.2.2.2; omega⟩

theorem entry0 (hx : m ((c : Thread nD τ).loc main_arg0) = up3 .f32 x) : V m c main_v0 = up2 .f32 (rows x) := by
  funext i
  entry_read
  rw [hx]
  pointwise [up3_apply, up2_apply]
  rfl
theorem entry1 (hg : m ((c : Thread nD τ).loc main_arg1) = up1 .f32 g) : V m c main_v1 = up2 .f32 (fun _ => g) := by
  funext i
  entry_read
  rw [hg]
  pointwise [up1_apply, up2_apply]
theorem entry2 (ht : m ((c : Thread nD τ).loc main_arg2) = up3 .f32 tg) : V m c main_v2 = up2 .f32 (rows tg) := by
  funext i
  entry_read
  rw [ht]
  pointwise [up3_apply, up2_apply]
  rfl

theorem in0 (t : Fin cfg0.N) (hx : m ((c : Thread nD τ).loc main_arg0) = up3 .f32 x) : iblk m c 0 t = up2 .f32 (blkRows t x) := by
  funext y
  have h := entry0 m c x hx
  blk_simp [iblk]
  rw [h, up2_apply]
  refine congrArg _ (congrArg₂ (rows x) (Fin.ext ?_) (Fin.ext ?_)) <;> blk_simp [idx t] <;> try omega
theorem in1 (t : Fin cfg0.N) (hg : m ((c : Thread nD τ).loc main_arg1) = up1 .f32 g) : iblk m c 1 t = up2 .f32 (fun _ => g) := by
  funext y
  have h := entry1 m c g hg
  blk_simp [iblk]
  rw [h, up2_apply]
  refine congrArg _ (congrArg g (Fin.ext ?_)) <;> blk_simp [idx t] <;> try omega
theorem in2 (t : Fin cfg0.N) (ht : m ((c : Thread nD τ).loc main_arg2) = up3 .f32 tg) : iblk m c 2 t = up2 .f32 (blkRows t tg) := by
  funext y
  have h := entry2 m c tg ht
  blk_simp [iblk]
  rw [h, up2_apply]
  refine congrArg _ (congrArg₂ (rows tg) (Fin.ext ?_) (Fin.ext ?_)) <;> blk_simp [idx t] <;> try omega

variable (hx : m ((c : Thread nD τ).loc main_arg0) = up3 .f32 x) (hg : m ((c : Thread nD τ).loc main_arg1) = up1 .f32 g)
  (ht : m ((c : Thread nD τ).loc main_arg2) = up3 .f32 tg)
include hx hg ht

/-- The kernel's gradient with respect to the rows. -/
theorem final3 : (dats m 0 c).arrAt 3 (cfgs 0).N = up2 .f32 (fun n => rowDx (rows x n) g (rows tg n)) := by
  refine (dats m 0 c).arrAt_eq_of_covers 3 _ (by decide +kernel) fun t _ y => ?_
  blk_simp
  have key : up2 (n := 512) (k := 1024) .f32 (fun r => rowDx (blkRows t x r) g (blkRows t tg r)) y
      = up2 .f32 (fun n => rowDx (rows x n) g (rows tg n)) (((cfg0.win 3).blk t).view.emb y) := by
    rw [up2_apply, up2_apply]
    refine congrArg _ (congrArg₂ (fun n j => rowDx (rows x n) g (rows tg n) j) (Fin.ext ?_) (Fin.ext ?_)) <;> blk_simp [idx t] <;> try omega
  refine Eq.trans ?_ key
  rw [after0_3]
  by_cases h0 : t.val % 8 = 0
  · rw [outsAt0_A m c t h0 (by have := (idx t).2.2.2.2.2.2.2; omega)]
    frame_out
    rw [in0 m c x t hx, in1 m c g t hg, in2 m c tg t ht]
    exact pay3 _ _ _ y
  · rw [outsAt0_B m c t h0 (by omega)]
    frame_out
    rw [in0 m c x t hx, in1 m c g t hg, in2 m c tg t ht]
    exact pay3 _ _ _ y

/-- The kernel's gradient with respect to the rows, at the narrow format. -/
theorem final4 : (dats m 0 c).arrAt 4 (cfgs 0).N = up2 .bf16 (fun n => rowDx (rows x n) g (rows tg n)) := by
  refine (dats m 0 c).arrAt_eq_of_covers 4 _ (by decide +kernel) fun t _ y => ?_
  blk_simp
  have key : up2 (n := 512) (k := 1024) .bf16 (fun r => rowDx (blkRows t x r) g (blkRows t tg r)) y
      = up2 .bf16 (fun n => rowDx (rows x n) g (rows tg n)) (((cfg0.win 4).blk t).view.emb y) := by
    rw [up2_apply, up2_apply]
    refine congrArg _ (congrArg₂ (fun n j => rowDx (rows x n) g (rows tg n) j) (Fin.ext ?_) (Fin.ext ?_)) <;> blk_simp [idx t] <;> try omega
  refine Eq.trans ?_ key
  rw [after0_4]
  by_cases h0 : t.val % 8 = 0
  · rw [outsAt0_A m c t h0 (by have := (idx t).2.2.2.2.2.2.2; omega)]
    frame_out
    rw [in0 m c x t hx, in1 m c g t hg, in2 m c tg t ht]
    pointwise [k0_pay4]
    exact pay3 _ _ _ y
  · rw [outsAt0_B m c t h0 (by omega)]
    frame_out
    rw [in0 m c x t hx, in1 m c g t hg, in2 m c tg t ht]
    pointwise [k0_pay4]
    exact pay3 _ _ _ y

/-- The kernel's gradient with respect to the scale. -/
theorem final5 : (dats m 0 c).arrAt 5 (cfgs 0).N = up2 .f32 (fun _ j => ∑ n, rowDg (rows x n) g (rows tg n) j) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => 0)
    (fun p j => ((∑ r, rowDg (blkRows p x r) g (blkRows p tg r) (j 1) : ℝ) : EReal))
    (fun t h j => by
      rw [outsAt0_A m c t h (by have := (idx t).2.2.2.2.2.2.2; omega)]; frame_out
      rw [in0 m c x t hx, in1 m c g t hg, in2 m c tg t ht, pay12, up2_apply]; exact (zero_add _).symm)
    (fun t h j => by
      rw [outsAt0_B m c t h (by omega)]; frame_out
      pointwise [k0_pay1]
      rw [in0 m c x t hx, in1 m c g t hg, in2 m c tg t ht, pay12, up2_apply])
    (le_of_eq N_0) t0_7 rfl j, zero_add]
  refine (coe_sum (Finset.univ : Finset (Fin 8)) _).trans ?_
  rw [up2_apply]
  exact congrArg _ (Fin.sum_mul_add_congr fun p r hl => rfl)

/-- The kernel's loss, at every lane. -/
theorem final6 : (dats m 0 c).arrAt 6 (cfgs 0).N = up2 .f32 (fun _ _ => 1 / 2 * ∑ n, rowLoss (rows x n) g (rows tg n)) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0)
    (fun p j => ((1 / 2 * ∑ r, rowLoss (blkRows p x r) g (blkRows p tg r) : ℝ) : EReal))
    (fun t h j => by
      rw [outsAt0_A m c t h (by have := (idx t).2.2.2.2.2.2.2; omega)]; frame_out
      rw [in0 m c x t hx, in1 m c g t hg, in2 m c tg t ht, pay10, up2_apply]; exact (zero_add _).symm)
    (fun t h j => by
      rw [outsAt0_B m c t h (by omega)]; frame_out
      pointwise [k0_pay2]
      rw [in0 m c x t hx, in1 m c g t hg, in2 m c tg t ht, pay10, up2_apply])
    (le_of_eq N_0) t0_7 rfl j, zero_add]
  refine (coe_sum (Finset.univ : Finset (Fin 8)) _).trans ?_
  rw [up2_apply, ← Finset.mul_sum]
  exact congrArg (fun z : ℝ => ((1 / 2 * z : ℝ) : EReal)) (Fin.sum_mul_add_congr fun p r hl => rfl)

omit hx hg ht in
/-- The kernel's run from real arguments: its four results as real arrays, its arguments unchanged. -/
theorem run (ρ : Dev nD → PrngReg)
    (x : Dev nD → Fin 2 → Fin 2048 → Fin 1024 → ℝ) (g : Dev nD → Fin 1024 → ℝ) (t : Dev nD → Fin 2 → Fin 2048 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (ht : ∀ c : Dev nD, m ((c.tc : Thread nD τ).loc main_arg2) = up3 .f32 (t c)) :
    θ_run defs (onTc (τ := τ) (main (F := Ideal))) ⟨m, fun _ => 0, ρ⟩ fun r => ∀ c : Dev nD,
      r.2.mem ((c.tc : Thread nD τ).loc main_v3_0) = up2 .f32 (fun n => rowDx (rows (x c) n) (g c) (rows (t c) n))
      ∧ r.2.mem ((c.tc : Thread nD τ).loc main_v3_1) = up2 .bf16 (fun n => rowDx (rows (x c) n) (g c) (rows (t c) n))
      ∧ r.2.mem ((c.tc : Thread nD τ).loc main_v3_2) = up2 .f32 (fun _ j => ∑ n, rowDg (rows (x c) n) (g c) (rows (t c) n) j)
      ∧ r.2.mem ((c.tc : Thread nD τ).loc main_v3_3) = up2 .f32 (fun _ _ => 1 / 2 * ∑ n, rowLoss (rows (x c) n) (g c) (rows (t c) n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.KernelIdeal.Value.run_blocks m ρ)
  obtain ⟨h0, h1, h2, h3, h4⟩ := h c
  exact ⟨h0.trans (final3 m c _ _ _ (hx c) (hg c) (ht c)), h1.trans (final4 m c _ _ _ (hx c) (hg c) (ht c)),
    h2.trans (final5 m c _ _ _ (hx c) (hg c) (ht c)), h3.trans (final6 m c _ _ _ (hx c) (hg c) (ht c)), h4⟩

end Cert.LossK
-- ==== Proof.LossR.lean ====
module
public import proofs.«01_k».proof.Proof.Gen.ReferenceIdeal.Read
public import proofs.«01_k».proof.Proof.LossMath
@[expose] public section
set_option maxRecDepth 16384
noncomputable section
namespace Cert.LossR
open Idealize.ShloMosaic Idealize.ShloMosaic.TcCoe Idealize.SL.Sem
open Cert.ReferenceIdeal Cert.ReferenceIdeal.Gen Cert.ReferenceIdeal.Read Cert.Lift Cert.Rms Cert.LossMath

variable (x : Fin 2 → Fin 2048 → Fin 1024 → ℝ) (g : Fin 1024 → ℝ) (t : Fin 2 → Fin 2048 → Fin 1024 → ℝ)

theorem v6 : val_main_v6 (F := Ideal) (up3 .f32 x) = up3 .f32 (fun b s _ => ms (x b s)) := by
  funext i
  pointwise [val_main_v6, val_main_v5, val_main_cst_1, val_main_v4, val_main_v3, val_main_cst_0, val_main_v2, val_main_v1, val_main_cst, val_main_v0, up3_apply]
  simp only [← EReal.coe_mul, coe_sum, c1024, c_eps, zero_add]
  rw [div_coe' _ _ (by norm_num), ← EReal.coe_add]
  rfl
theorem v7 : val_main_v7 (F := Ideal) (up3 .f32 x) = up3 .f32 (fun b s _ => rr (x b s)) := by
  funext i
  pointwise [val_main_v7, v6, up3_apply]
  exact rsqrt_pos _ (ms_pos _)
theorem v10 : val_main_v10 (F := Ideal) (up3 .f32 x) = up3 .f32 (fun b s _ => -1 / 2 * (rr (x b s) * (1 / ms (x b s)))) := by
  funext i
  pointwise [val_main_v10, val_main_v9, val_main_cst_2, val_main_v8, v7, v6, up3_apply]
  rw [div_coe' _ _ (ms_pos _).ne', c_neg_half]
  rfl
theorem v12 : val_main_v12 (F := Ideal) (up3 .f32 x) = up3 .f32 (fun b s => nrm (x b s)) := by
  funext i
  pointwise [val_main_v12, val_main_v11, v7, up3_apply]
  rfl
theorem v16 : val_main_v16 (F := Ideal) (up3 .f32 x) (up1 .f32 g) (up3 .f32 t) = up3 .f32 (fun b s => err (x b s) g (t b s)) := by
  funext i
  pointwise [val_main_v16, val_main_v15, val_main_v14, val_main_v13, v12, up3_apply, up1_apply]
  rfl
theorem v22 : val_main_v22 (F := Ideal) (up3 .f32 x) (up1 .f32 g) (up3 .f32 t) = up2 .f32 (fun b s => rowLoss (x b s) g (t b s)) := by
  funext i
  pointwise [val_main_v22, val_main_v21, val_main_cst_5, val_main_v20, val_main_cst_4, val_main_v17, v16, up3_apply, up2_apply]
  simp only [← EReal.coe_mul, coe_sum, c1024, zero_add]
  rw [div_coe' _ _ (by norm_num)]
  rfl
theorem v30 : val_main_v30 (F := Ideal) (up3 .f32 x) (up1 .f32 g) (up3 .f32 t) = up3 .f32 (fun b s j => err (x b s) g (t b s) j * (1 / 1024)) := by
  funext i
  pointwise [val_main_v30, val_main_v29, val_main_v28, val_main_v27, val_main_cst_10, val_main_v26, val_main_v25, val_main_cst_9, val_main_cst_8, val_main_v19, val_main_v18, val_main_cst_3, v16, up3_apply]
  rw [c_half, c1024, c_two, div_coe' _ _ (by norm_num), ← EReal.coe_mul, ← EReal.coe_mul]
  refine congrArg _ ?_
  ring
theorem v35 : val_main_v35 (F := Ideal) (up3 .f32 x) (up1 .f32 g) (up3 .f32 t) = up3 .f32 (fun b s j => err (x b s) g (t b s) j * (1 / 1024) * g j) := by
  funext i
  pointwise [val_main_v35, val_main_v34, val_main_v13, v30, up3_apply, up1_apply]
  rfl
theorem v44 : val_main_v44 (F := Ideal) (up3 .f32 x) (up1 .f32 g) (up3 .f32 t)
    = up3 .f32 (fun b s _ => slope (x b s) (fun j => err (x b s) g (t b s) j * (1 / 1024) * g j)) := by
  funext i
  pointwise [val_main_v44, val_main_v43, val_main_cst_14, val_main_v42, val_main_v39, val_main_v38, val_main_cst_13, val_main_v37, v35, v10, up3_apply]
  simp only [← EReal.coe_mul, coe_sum, c1024, zero_add]
  rw [div_coe' _ _ (by norm_num)]
  rfl
theorem v51 : val_main_v51 (F := Ideal) (up3 .f32 x) (up1 .f32 g) (up3 .f32 t) = up2 .f32 (fun n => rowDx (rows x n) g (rows t n)) := by
  funext i
  pointwise [val_main_v51, val_main_v50, val_main_v49, val_main_v48, val_main_v47, val_main_v46, val_main_v45, val_main_cst_15, val_main_v41, val_main_v40, v44, v35, v7, up3_apply, up2_apply]
  simp only [Finset.univ_unique, Finset.sum_singleton, zero_add, ← EReal.coe_mul, ← EReal.coe_add]
  exact congrArg _ (dnorm_eq (rows x (i 0)) (fun j => err (rows x (i 0)) g (rows t (i 0)) j * (1 / 1024) * g j) (i 1))
theorem v52 : val_main_v52 (F := Ideal) (up3 .f32 x) (up1 .f32 g) (up3 .f32 t) = up2 .bf16 (fun n => rowDx (rows x n) g (rows t n)) := by
  funext i
  pointwise [val_main_v52, v51, up2_apply]
theorem v53 : val_main_v53 (F := Ideal) (up3 .f32 x) (up1 .f32 g) (up3 .f32 t) = up2 .f32 (fun _ j => ∑ n, rowDg (rows x n) g (rows t n) j) := by
  funext i
  pointwise [val_main_v53, val_main_v36, val_main_cst_12, val_main_v33, val_main_v32, val_main_cst_11, val_main_v31, v30, v12, up3_apply, up2_apply]
  rw [hostSum_first_two]
  pointwise [up3_apply]
  simp only [hostSum_first_two]
  pointwise [up3_apply]
  simp only [Finset.univ_unique, Finset.sum_singleton, ← EReal.coe_mul, coe_sum]
  exact congrArg _ ((Fin.sum_divmod_congr (S := 2048) fun n ha hs => mul_comm _ _).symm)
theorem v54 : val_main_v54 (F := Ideal) (up3 .f32 x) (up1 .f32 g) (up3 .f32 t) = up2 .f32 (fun _ _ => 1 / 2 * ∑ n, rowLoss (rows x n) g (rows t n)) := by
  funext i
  pointwise [val_main_v54, val_main_v24, val_main_cst_7, val_main_v23, val_main_cst_6, v22, up2_apply]
  simp only [coe_sum, c_half, ← EReal.coe_mul]
  refine congrArg (fun z : ℝ => ((1 / 2 * z : ℝ) : EReal)) ?_
  exact (Fin.sum_divmod_congr (S := 2048) fun n ha hs => rfl).symm

/-- The reference's run from real arguments: its four results as real arrays, its arguments unchanged. -/
theorem run (m : (ℓ : Loc nD τ sig) → Buf (Elt Ideal) ℓ) (ρ : Dev nD → PrngReg)
    (x : Dev nD → Fin 2 → Fin 2048 → Fin 1024 → ℝ) (g : Dev nD → Fin 1024 → ℝ) (t : Dev nD → Fin 2 → Fin 2048 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (ht : ∀ c : Dev nD, m ((c.tc : Thread nD τ).loc main_arg2) = up3 .f32 (t c)) :
    θ_run defs (onTc (τ := τ) (main (F := Ideal))) ⟨m, fun _ => 0, ρ⟩ fun r => ∀ c : Dev nD,
      r.2.mem ((c.tc : Thread nD τ).loc main_v51) = up2 .f32 (fun n => rowDx (rows (x c) n) (g c) (rows (t c) n))
      ∧ r.2.mem ((c.tc : Thread nD τ).loc main_v52) = up2 .bf16 (fun n => rowDx (rows (x c) n) (g c) (rows (t c) n))
      ∧ r.2.mem ((c.tc : Thread nD τ).loc main_v53) = up2 .f32 (fun _ j => ∑ n, rowDg (rows (x c) n) (g c) (rows (t c) n) j)
      ∧ r.2.mem ((c.tc : Thread nD τ).loc main_v54) = up2 .f32 (fun _ _ => 1 / 2 * ∑ n, rowLoss (rows (x c) n) (g c) (rows (t c) n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ReferenceIdeal.Value.run m ρ)
  obtain ⟨h0, h1, h2, h3, h4⟩ := h c
  exact ⟨h0.trans ((val_main_v51_eq m c).trans (by rw [hx, hg, ht]; exact v51 _ _ _)),
    h1.trans ((val_main_v52_eq m c).trans (by rw [hx, hg, ht]; exact v52 _ _ _)),
    h2.trans ((val_main_v53_eq _ _ _).trans (by rw [hx, hg, ht]; exact v53 _ _ _)),
    h3.trans ((val_main_v54_eq _ _ _).trans (by rw [hx, hg, ht]; exact v54 _ _ _)), h4⟩
end Cert.LossR
-- ==== Proof.Loss.lean ====
module
public import proofs.«01_k».proof.Defs
public import proofs.«01_k».proof.Proof.Gen.Kernel
public import proofs.«01_k».proof.Proof.Gen.Kernel.Frame
public import proofs.«01_k».proof.Proof.Gen.Pre_finite
public import proofs.«01_k».proof.Proof.LossK
public import proofs.«01_k».proof.Proof.LossR
public import Idealize.ShloMosaic.Adequacy
public import Idealize.ShloMosaic.Init
public import Idealize.ShloMosaic.Lib.Quiescent
@[expose] public section
set_option maxRecDepth 16384
noncomputable section
namespace Cert.Loss
open Idealize.ShloMosaic Idealize.ShloMosaic.TcCoe Idealize.SL.Sem Cert.Lift

/-- The precondition says that the three arguments are arrays of real numbers. -/
theorem real (x : FVec Ideal Cert.Pre_finite.S2x2048x1024 .f32) (g : FVec Ideal Cert.Pre_finite.S1024 .f32)
    (t : FVec Ideal Cert.Pre_finite.S2x2048x1024 .f32)
    (h : @Cert.Pre_finite.fn Cert.Pre_finite.Gen.facts Ideal _ x g t = fun _ => 1#1) :
    ∃ (x' : Fin 2 → Fin 2048 → Fin 1024 → ℝ) (g' : Fin 1024 → ℝ) (t' : Fin 2 → Fin 2048 → Fin 1024 → ℝ),
      x = up3 .f32 x' ∧ g = up1 .f32 g' ∧ t = up3 .f32 t' := by
  have h0 := congrFun h (fun a => a.elim0)
  dsimp only [Cert.Pre_finite.fn] at h0
  obtain ⟨h1, h2⟩ := and_one h0
  obtain ⟨h3, h4⟩ := and_one h1
  obtain ⟨x', hx⟩ := exists_up3 .f32 x (finite_of_reduce x _ inf_apply _ _ _ _ h3)
  obtain ⟨g', hg⟩ := exists_up1 .f32 g (finite_of_reduce g _ inf_apply _ _ _ _ h4)
  obtain ⟨t', ht⟩ := exists_up3 .f32 t (finite_of_reduce t _ inf_apply _ _ _ _ h2)
  exact ⟨x', g', t', hx, hg, ht⟩

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) :=
  fun m ρ _ => Cert.KernelIdeal.Gen.frame m ρ
theorem frame_ideal_pre : Cert.quiescent_KernelIdeal_pre_finite (hKernelIdeal := Cert.KernelIdeal.Gen.facts) (hPre_finite := Cert.Pre_finite.Gen.facts) :=
  fun m ρ _ => Cert.KernelIdeal.Gen.frame m ρ
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩) (Cert.ReferenceIdeal.Value.run m ρ)
theorem frame_reference_pre : Cert.quiescent_ReferenceIdeal_pre_finite (hReferenceIdeal := Cert.ReferenceIdeal.Gen.facts) (hPre_finite := Cert.Pre_finite.Gen.facts) :=
  fun m ρ _ => frame_reference m ρ trivial

/-- The loss head's four results are its reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  choose x gg t hx hg ht using fun c => real _ _ _ (hpre c)
  exact ⟨_, _, _, _, Cert.LossK.run m g x gg t hx hg ht,
    Cert.LossR.run m' g' x gg t (fun c => (hagree c).1.trans (hx c)) (fun c => (hagree c).2.1.trans (hg c))
      (fun c => (hagree c).2.2.trans (ht c))⟩
end Cert.Loss
-- ==== Proof.NormMath.lean ====
module
public import proofs.«01_k».proof.Proof.Rms
public import Mathlib.Data.EReal.Operations
@[expose] public section
set_option maxRecDepth 16384

noncomputable section
namespace Cert.NormMath
open Cert.Rms

/-- Row `n` of the sequences of a batch laid one behind the other. -/
def flat {R : Type} {B S D : ℕ} (N : ℕ) (h : N = B * S) (x : Fin B → Fin S → Fin D → R) (n : Fin N) : Fin D → R :=
  x ⟨n.val / S, Nat.div_lt_of_lt_mul (by rw [Nat.mul_comm, ← h]; exact n.isLt)⟩
    ⟨n.val % S, Nat.mod_lt _ (Nat.pos_of_ne_zero fun e => by have := n.isLt; subst e; omega)⟩
/-- The gradient with respect to a row that is passed on (gradient `e`) and normed and scaled by `g` (gradient `d`). -/
def rowDx (a g d : Fin 1024 → ℝ) (e : Fin 1024 → EReal) (j : Fin 1024) : EReal := e j + ((dnorm a (fun k => d k * g k) j : ℝ) : EReal)
/-- One row's part of the gradient with respect to the scale. -/
def rowDg (a d : Fin 1024 → ℝ) (j : Fin 1024) : ℝ := d j * nrm a j

/-- The gradient with respect to a scaled norm from that of its product with `w`. -/
def back (w : Fin 1024 → Fin 5120 → ℝ) (d : Fin 5120 → ℝ) (j : Fin 1024) : ℝ := ∑ k, d k * w j k
theorem rowDx_eq (a g d : Fin 1024 → ℝ) (e : Fin 1024 → EReal) (j : Fin 1024) :
    e j + ((d j * g j * rr a : ℝ) : EReal) + ((a j * slope a (fun k => d k * g k) : ℝ) : EReal) + ((slope a (fun k => d k * g k) * a j : ℝ) : EReal)
      = rowDx a g d e j := by
  unfold rowDx
  rw [← dnorm_eq, EReal.coe_add, EReal.coe_add, add_assoc, add_assoc, add_assoc]

end Cert.NormMath
-- ==== Proof.Norm2K.lean ====
module
public import proofs.«01_k».proof.Proof.Gen.Kernel2Ideal.Value
public import proofs.«01_k».proof.Proof.Lift
public import proofs.«01_k».proof.Proof.NormMath
@[expose] public section
set_option maxRecDepth 16384
noncomputable section
namespace Cert.Norm2K
open Idealize.ShloMosaic Idealize.ShloMosaic.TcCoe Idealize.SL.Sem
open Idealize.ShloMosaic.Pipeline (Dat)
open Cert.Kernel2Ideal Cert.Kernel2Ideal.Gen Cert.Lift Cert.Rms Cert.NormMath

section body
variable (x : Fin 512 → Fin 1024 → ℝ) (g : Fin 1 → Fin 1024 → ℝ) (d : Fin 512 → Fin 1024 → ℝ) (e : Fin 512 → Fin 1024 → EReal)

theorem pay4 : k0_pay4 (F := Ideal) (up2 .f32 x) = up2 .f32 (fun r _ => rr (x r)) := by
  funext i
  pointwise [k0_pay4, k0_pay3, up2_apply, ue2_apply]
  simp only [← EReal.coe_mul, coe_sum, c1024, c_eps]
  rw [div_coe' _ _ (by norm_num), ← EReal.coe_add]
  exact rsqrt_pos _ (ms_pos _)
theorem pay5 : k0_pay5 (F := Ideal) (up2 .f32 x) = up2 .f32 (fun r => nrm (x r)) := by
  funext i
  pointwise [k0_pay5, pay4, k0_pay3, up2_apply, ue2_apply]
  rfl
theorem pay7 : k0_pay7 (F := Ideal) (up2 .f32 x) (up2 .f32 d) = up2 .f32 (fun _ j => ∑ r, rowDg (x r) (d r) j) := by
  funext i
  pointwise [k0_pay7, k0_pay6, pay5, up2_apply, ue2_apply]
  simp only [← EReal.coe_mul, coe_sum]
  rfl
theorem pay1 : k0_pay1 (F := Ideal) (k0_pay9 (ue2 .f32 e)) (k0_pay10 (up2 .f32 x) (up2 .f32 d) (up2 .f32 g))
    = ue2 .f32 (fun r => rowDx (x r) (g 0) (d r) (e r)) := by
  funext i
  pointwise [k0_pay1, k0_pay9, k0_pay10, k0_pay6, pay5, pay4, up2_apply, ue2_apply]
  simp only [← EReal.coe_mul, coe_sum, c1024]
  rw [div_coe' _ _ (by norm_num)]
  rfl
end body

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)
variable (x : Fin 2 → Fin 256 → Fin 1024 → ℝ) (g : Fin 1024 → ℝ) (d : Fin 2 → Fin 256 → Fin 1024 → ℝ) (e : Fin 2 → Fin 256 → Fin 1024 → EReal)

theorem in0 (t : Fin cfg0.N) (hx : m ((c : Thread nD τ).loc main_arg0) = up3 .f32 x) : iblk m c 0 t = up2 .f32 (flat 512 rfl x) := by
  have h : V m c main_v0 = up2 .f32 (flat 512 rfl x) := by
    funext i
    entry_read
    rw [hx]
    pointwise [up3_apply, ue3_apply, up2_apply, ue2_apply]
    rfl
  funext y
  blk_simp [iblk]
  rw [h, up2_apply]
  refine congrArg _ (congrArg₂ (flat 512 rfl x) (Fin.ext ?_) (Fin.ext ?_)) <;> blk_simp [idx t] <;> try omega
theorem in1 (t : Fin cfg0.N) (hx : m ((c : Thread nD τ).loc main_arg1) = up1 .f32 g) : iblk m c 1 t = up2 .f32 (fun _ => g) := by
  have h : V m c main_v1 = up2 .f32 (fun _ => g) := by
    funext i
    entry_read
    rw [hx]
    pointwise [up1_apply, up2_apply, ue2_apply]
  funext y
  blk_simp [iblk]
  rw [h, up2_apply]
  refine congrArg _ (congrArg g (Fin.ext ?_)) <;> blk_simp [idx t] <;> try omega
theorem in2 (t : Fin cfg0.N) (hx : m ((c : Thread nD τ).loc main_arg2) = up3 .f32 d) : iblk m c 2 t = up2 .f32 (flat 512 rfl d) := by
  have h : V m c main_v2 = up2 .f32 (flat 512 rfl d) := by
    funext i
    entry_read
    rw [hx]
    pointwise [up3_apply, ue3_apply, up2_apply, ue2_apply]
    rfl
  funext y
  blk_simp [iblk]
  rw [h, up2_apply]
  refine congrArg _ (congrArg₂ (flat 512 rfl d) (Fin.ext ?_) (Fin.ext ?_)) <;> blk_simp [idx t] <;> try omega
theorem in3 (t : Fin cfg0.N) (hx : m ((c : Thread nD τ).loc main_arg3) = ue3 .f32 e) : iblk m c 3 t = ue2 .f32 (flat 512 rfl e) := by
  have h : V m c main_v3 = ue2 .f32 (flat 512 rfl e) := by
    funext i
    entry_read
    rw [hx]
    pointwise [ue3_apply, ue2_apply]
    rfl
  funext y
  blk_simp [iblk]
  rw [h, ue2_apply]
  refine (congrArg₂ (flat 512 rfl e) (Fin.ext ?_) (Fin.ext ?_)) <;> blk_simp [idx t] <;> try omega

variable (hx : m ((c : Thread nD τ).loc main_arg0) = up3 .f32 x) (hg : m ((c : Thread nD τ).loc main_arg1) = up1 .f32 g)
  (hd : m ((c : Thread nD τ).loc main_arg2) = up3 .f32 d) (he : m ((c : Thread nD τ).loc main_arg3) = ue3 .f32 e)
include hx hg hd he

/-- The gradient with respect to the rows. -/
theorem final4 : (dats m 0 c).arrAt 4 (cfgs 0).N = ue2 .f32 (fun n => rowDx (flat 512 rfl x n) g (flat 512 rfl d n) (flat 512 rfl e n)) := by
  refine (dats m 0 c).arrAt_eq_of_after_last 4 t0_0 (by decide +kernel) _ fun j => ?_
  blk_simp
  rw [after0_4]
  unfold Gen.outsAt0
  frame_out
  rw [in0 m c x t0_0 hx, in1 m c g t0_0 hg, in2 m c d t0_0 hd, in3 m c e t0_0 he]
  exact congrFun (pay1 _ _ _ _) j
/-- The same at the narrow format. -/
theorem final5 : (dats m 0 c).arrAt 5 (cfgs 0).N = ue2 .bf16 (fun n => rowDx (flat 512 rfl x n) g (flat 512 rfl d n) (flat 512 rfl e n)) := by
  refine (dats m 0 c).arrAt_eq_of_after_last 5 t0_0 (by decide +kernel) _ fun j => ?_
  blk_simp
  rw [after0_5]
  unfold Gen.outsAt0
  frame_out
  rw [in0 m c x t0_0 hx, in1 m c g t0_0 hg, in2 m c d t0_0 hd, in3 m c e t0_0 he]
  pointwise [k0_pay2, pay1]
  rfl
/-- The gradient with respect to the scale. -/
theorem final6 : (dats m 0 c).arrAt 6 (cfgs 0).N = up2 .f32 (fun _ j => ∑ n, rowDg (flat 512 rfl x n) (flat 512 rfl d n) j) := by
  refine (dats m 0 c).arrAt_eq_of_after_last 6 t0_0 (by decide +kernel) _ fun j => ?_
  blk_simp
  rw [after0_6]
  unfold Gen.outsAt0
  frame_out
  rw [in0 m c x t0_0 hx, in2 m c d t0_0 hd, pay7]

omit hx hg hd he in
/-- The kernel's run from real arguments. -/
theorem run (ρ : Dev nD → PrngReg)
    (x : Dev nD → Fin 2 → Fin 256 → Fin 1024 → ℝ) (g : Dev nD → Fin 1024 → ℝ) (d : Dev nD → Fin 2 → Fin 256 → Fin 1024 → ℝ) (e : Dev nD → Fin 2 → Fin 256 → Fin 1024 → EReal)
    (hx : ∀ c : Dev nD, m ((c.tc : Thread nD τ).loc main_arg0) = up3 .f32 (x c)) (hg : ∀ c : Dev nD, m ((c.tc : Thread nD τ).loc main_arg1) = up1 .f32 (g c))
    (hd : ∀ c : Dev nD, m ((c.tc : Thread nD τ).loc main_arg2) = up3 .f32 (d c)) (he : ∀ c : Dev nD, m ((c.tc : Thread nD τ).loc main_arg3) = ue3 .f32 (e c)) :
    θ_run defs (onTc (τ := τ) (main (F := Ideal))) ⟨m, fun _ => 0, ρ⟩ fun r => ∀ c : Dev nD,
      r.2.mem ((c.tc : Thread nD τ).loc main_v4_0) = ue2 .f32 (fun n => rowDx (flat 512 rfl (x c) n) (g c) (flat 512 rfl (d c) n) (flat 512 rfl (e c) n))
      ∧ r.2.mem ((c.tc : Thread nD τ).loc main_v4_1) = ue2 .bf16 (fun n => rowDx (flat 512 rfl (x c) n) (g c) (flat 512 rfl (d c) n) (flat 512 rfl (e c) n))
      ∧ r.2.mem ((c.tc : Thread nD τ).loc main_v4_2) = up2 .f32 (fun _ j => ∑ n, rowDg (flat 512 rfl (x c) n) (flat 512 rfl (d c) n) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Kernel2Ideal.Value.run_blocks m ρ)
  obtain ⟨h0, h1, h2, h3⟩ := h c
  exact ⟨h0.trans (final4 m c _ _ _ _ (hx c) (hg c) (hd c) (he c)), h1.trans (final5 m c _ _ _ _ (hx c) (hg c) (hd c) (he c)),
    h2.trans (final6 m c _ _ _ _ (hx c) (hg c) (hd c) (he c)), h3⟩

end Cert.Norm2K
-- ==== Proof.Norm2R.lean ====
module
public import proofs.«01_k».proof.Proof.Gen.Reference2Ideal.Read
public import proofs.«01_k».proof.Proof.Lift
public import proofs.«01_k».proof.Proof.NormMath
@[expose] public section
set_option maxRecDepth 16384
noncomputable section
namespace Cert.Norm2R
open Idealize.ShloMosaic Idealize.ShloMosaic.TcCoe Idealize.SL.Sem
open Cert.Reference2Ideal Cert.Reference2Ideal.Gen Cert.Reference2Ideal.Read Cert.Lift Cert.Rms Cert.NormMath

variable (x : Fin 2 → Fin 256 → Fin 1024 → ℝ) (g : Fin 1024 → ℝ) (d : Fin 2 → Fin 256 → Fin 1024 → ℝ) (e : Fin 2 → Fin 256 → Fin 1024 → EReal)

theorem v6 : val_main_v6 (F := Ideal) (up3 .f32 x) = up3 .f32 (fun b s _ => ms (x b s)) := by
  funext i
  pointwise [val_main_v6, val_main_v5, val_main_cst_1, val_main_v4, val_main_v3, val_main_cst_0, val_main_v2, val_main_v1, val_main_cst, val_main_v0, up3_apply]
  simp only [← EReal.coe_mul, coe_sum, c1024, c_eps, zero_add]
  rw [div_coe' _ _ (by norm_num), ← EReal.coe_add]
  rfl
theorem v7 : val_main_v7 (F := Ideal) (up3 .f32 x) = up3 .f32 (fun b s _ => rr (x b s)) := by
  funext i
  pointwise [val_main_v7, v6, up3_apply]
  exact rsqrt_pos _ (ms_pos _)
theorem v10 : val_main_v10 (F := Ideal) (up3 .f32 x) = up3 .f32 (fun b s _ => -1 / 2 * (rr (x b s) * (1 / ms (x b s)))) := by
  funext i
  pointwise [val_main_v10, val_main_v9, val_main_cst_2, val_main_v8, v7, v6, up3_apply]
  rw [div_coe' _ _ (ms_pos _).ne', c_neg_half]
  rfl
theorem v12 : val_main_v12 (F := Ideal) (up3 .f32 x) = up3 .f32 (fun b s => nrm (x b s)) := by
  funext i
  pointwise [val_main_v12, val_main_v11, v7, up3_apply]
  rfl
theorem v20 : val_main_v20 (F := Ideal) (up1 .f32 g) (up3 .f32 d) = up3 .f32 (fun b s j => d b s j * g j) := by
  funext i
  pointwise [val_main_v20, val_main_v19, val_main_v13, up3_apply, up1_apply]
  rfl
theorem v30 : val_main_v30 (F := Ideal) (up3 .f32 x) (up1 .f32 g) (up3 .f32 d)
    = up3 .f32 (fun b s _ => slope (x b s) (fun j => d b s j * g j)) := by
  funext i
  pointwise [val_main_v30, val_main_v29, val_main_cst_6, val_main_v28, val_main_v24, val_main_v23, val_main_cst_5, val_main_v22, v20, v10, up3_apply]
  simp only [← EReal.coe_mul, coe_sum, c1024, zero_add]
  rw [div_coe' _ _ (by norm_num)]
  rfl
theorem v37 : val_main_v37 (F := Ideal) (up3 .f32 x) (up1 .f32 g) (up3 .f32 d) (ue3 .f32 e)
    = ue2 .f32 (fun n => rowDx (flat 512 rfl x n) g (flat 512 rfl d n) (flat 512 rfl e n)) := by
  funext i
  pointwise [val_main_v37, val_main_v36, val_main_v35, val_main_v34, val_main_v33, val_main_v32, val_main_v31, val_main_cst_7, val_main_v27, val_main_v26, val_main_v25, v30, v20, v7, up3_apply, ue3_apply, up2_apply, ue2_apply]
  simp only [Finset.univ_unique, Finset.sum_singleton, zero_add, ← EReal.coe_mul, ← EReal.coe_add]
  exact (rowDx_eq (flat 512 rfl x (i 0)) g (flat 512 rfl d (i 0)) (flat 512 rfl e (i 0)) (i 1))
theorem v38 : val_main_v38 (F := Ideal) (up3 .f32 x) (up1 .f32 g) (up3 .f32 d) (ue3 .f32 e)
    = ue2 .bf16 (fun n => rowDx (flat 512 rfl x n) g (flat 512 rfl d n) (flat 512 rfl e n)) := by
  funext i
  pointwise [val_main_v38, v37, up2_apply, ue2_apply]
theorem v39 : val_main_v39 (F := Ideal) (up3 .f32 x) (up3 .f32 d) = up2 .f32 (fun _ j => ∑ n, rowDg (flat 512 rfl x n) (flat 512 rfl d n) j) := by
  funext i
  pointwise [val_main_v39, val_main_v21, val_main_cst_4, val_main_v18, val_main_v17, val_main_cst_3, val_main_v16, v12, up3_apply, ue3_apply, up2_apply, ue2_apply]
  rw [hostSum_first_two]
  pointwise [up3_apply]
  simp only [hostSum_first_two]
  pointwise [up3_apply]
  simp only [Finset.univ_unique, Finset.sum_singleton, ← EReal.coe_mul, coe_sum]
  exact congrArg _ ((Fin.sum_divmod_congr (S := 256) fun n ha hs => mul_comm _ _).symm)

/-- The reference's run from real arguments. -/
theorem run (m : (ℓ : Loc nD τ sig) → Buf (Elt Ideal) ℓ) (ρ : Dev nD → PrngReg)
    (x : Dev nD → Fin 2 → Fin 256 → Fin 1024 → ℝ) (g : Dev nD → Fin 1024 → ℝ) (d : Dev nD → Fin 2 → Fin 256 → Fin 1024 → ℝ) (e : Dev nD → Fin 2 → Fin 256 → Fin 1024 → EReal)
    (hx : ∀ c : Dev nD, m ((c.tc : Thread nD τ).loc main_arg0) = up3 .f32 (x c)) (hg : ∀ c : Dev nD, m ((c.tc : Thread nD τ).loc main_arg1) = up1 .f32 (g c))
    (hd : ∀ c : Dev nD, m ((c.tc : Thread nD τ).loc main_arg2) = up3 .f32 (d c)) (he : ∀ c : Dev nD, m ((c.tc : Thread nD τ).loc main_arg3) = ue3 .f32 (e c)) :
    θ_run defs (onTc (τ := τ) (main (F := Ideal))) ⟨m, fun _ => 0, ρ⟩ fun r => ∀ c : Dev nD,
      r.2.mem ((c.tc : Thread nD τ).loc main_v37) = ue2 .f32 (fun n => rowDx (flat 512 rfl (x c) n) (g c) (flat 512 rfl (d c) n) (flat 512 rfl (e c) n))
      ∧ r.2.mem ((c.tc : Thread nD τ).loc main_v38) = ue2 .bf16 (fun n => rowDx (flat 512 rfl (x c) n) (g c) (flat 512 rfl (d c) n) (flat 512 rfl (e c) n))
      ∧ r.2.mem ((c.tc : Thread nD τ).loc main_v39) = up2 .f32 (fun _ j => ∑ n, rowDg (flat 512 rfl (x c) n) (flat 512 rfl (d c) n) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference2Ideal.Value.run m ρ)
  obtain ⟨h0, h1, h2, h3⟩ := h c
  exact ⟨h0.trans ((val_main_v37_eq m c).trans (by rw [hx, hg, hd, he]; exact v37 _ _ _ _)),
    h1.trans ((val_main_v38_eq m c).trans (by rw [hx, hg, hd, he]; exact v38 _ _ _ _)),
    h2.trans ((val_main_v39_eq _ _).trans (by rw [hx, hd]; exact v39 _ _)), h3⟩
end Cert.Norm2R
-- ==== Proof.Norm2.lean ====
module
public import proofs.«01_k».proof.Defs
public import proofs.«01_k».proof.Proof.Gen.Kernel2
public import proofs.«01_k».proof.Proof.Gen.Kernel2.Frame
public import proofs.«01_k».proof.Proof.Gen.Pre_finite2
public import proofs.«01_k».proof.Proof.Norm2K
public import proofs.«01_k».proof.Proof.Norm2R
public import Idealize.ShloMosaic.Adequacy
public import Idealize.ShloMosaic.Init
public import Idealize.ShloMosaic.Lib.Quiescent
@[expose] public section
set_option maxRecDepth 16384
noncomputable section
namespace Cert.Norm2
open Idealize.ShloMosaic Idealize.ShloMosaic.TcCoe Idealize.SL.Sem Cert.Lift

/-- The precondition says that the arguments it speaks of are arrays of real numbers. -/
theorem real (x : FVec Ideal Cert.Pre_finite2.S2x256x1024 .f32)
    (g : FVec Ideal Cert.Pre_finite2.S1024 .f32)
    (d : FVec Ideal Cert.Pre_finite2.S2x256x1024 .f32)
    (e : FVec Ideal Cert.Pre_finite2.S2x256x1024 .f32)
    (h : @Cert.Pre_finite2.fn Cert.Pre_finite2.Gen.facts Ideal _ x g d e = fun _ => 1#1) :
    ∃ (x' : Fin 2 → Fin 256 → Fin 1024 → ℝ) (g' : Fin 1024 → ℝ) (d' : Fin 2 → Fin 256 → Fin 1024 → ℝ) (e' : Fin 2 → Fin 256 → Fin 1024 → EReal),
      x = up3 .f32 x' ∧ g = up1 .f32 g' ∧ d = up3 .f32 d' ∧ e = ue3 .f32 e' := by
  have h0 := congrFun h (fun a => a.elim0)
  dsimp only [Cert.Pre_finite2.fn] at h0
  obtain ⟨a1, b1⟩ := and_one h0
  obtain ⟨a2, b2⟩ := and_one a1
  obtain ⟨e', ee⟩ := exists_ue3 .f32 e
  obtain ⟨x', ex⟩ := exists_up3 .f32 x (finite_of_reduce x _ inf_apply _ _ _ _ a2)
  obtain ⟨g', eg⟩ := exists_up1 .f32 g (finite_of_reduce g _ inf_apply _ _ _ _ b2)
  obtain ⟨d', ed⟩ := exists_up3 .f32 d (finite_of_reduce d _ inf_apply _ _ _ _ b1)
  exact ⟨x', g', d', e', ex, eg, ed, ee⟩

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) :=
  fun m ρ _ => Cert.Kernel2Ideal.Gen.frame m ρ
theorem frame_ideal_pre : Cert.quiescent_Kernel2Ideal_pre_finite2 (hKernel2Ideal := Cert.Kernel2Ideal.Gen.facts) (hPre_finite2 := Cert.Pre_finite2.Gen.facts) :=
  fun m ρ _ => Cert.Kernel2Ideal.Gen.frame m ρ
theorem frame_reference : Cert.quiescent_Reference2Ideal (hReference2Ideal := Cert.Reference2Ideal.Gen.facts) :=
  fun m ρ _ => (θ_run Cert.Reference2Ideal.defs _ _).mono
    (fun r h => ⟨fun c => (h c).2.2.2, sem_eq_zero_of_no_sems (by decide) r.2⟩) (Cert.Reference2Ideal.Value.run m ρ)
theorem frame_reference_pre : Cert.quiescent_Reference2Ideal_pre_finite2 (hReference2Ideal := Cert.Reference2Ideal.Gen.facts) (hPre_finite2 := Cert.Pre_finite2.Gen.facts) :=
  fun m ρ _ => frame_reference m ρ trivial

/-- The norm's gradients are its reference's. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m0 g0 m1 g1 hpre hagree
  choose x g d e hx hg hd he using fun c => real _ _ _ _ (hpre c)
  exact ⟨_, _, _, Cert.Norm2K.run m0 g0 x g d e hx hg hd he,
    Cert.Norm2R.run m1 g1 x g d e
      (fun c => (hagree c).1.trans (hx c))
      (fun c => (hagree c).2.1.trans (hg c))
      (fun c => (hagree c).2.2.1.trans (hd c))
      (fun c => (hagree c).2.2.2.trans (he c))⟩
end Cert.Norm2
-- ==== Proof.Norm3K.lean ====
module
public import proofs.«01_k».proof.Proof.Gen.Kernel3Ideal.Value
public import proofs.«01_k».proof.Proof.Lift
public import proofs.«01_k».proof.Proof.NormMath
@[expose] public section
set_option maxRecDepth 16384
noncomputable section
namespace Cert.Norm3K
open Idealize.ShloMosaic Idealize.ShloMosaic.TcCoe Idealize.SL.Sem
open Idealize.ShloMosaic.Pipeline (Dat)
open Cert.Kernel3Ideal Cert.Kernel3Ideal.Gen Cert.Lift Cert.Rms Cert.NormMath

section body
variable (d : Fin 512 → Fin 5120 → ℝ) (w : Fin 5120 → Fin 1024 → ℝ) (x : Fin 512 → Fin 1024 → ℝ) (g : Fin 1 → Fin 1024 → ℝ) (e : Fin 512 → Fin 1024 → EReal)

theorem pay3 : k0_pay3 (F := Ideal) (up2 .bf16 d) (up2 .bf16 w) = up2 .f32 (fun r => back (fun j k => w k j) (d r)) := by
  funext i
  pointwise [k0_pay3, up2_apply, ue2_apply]
  simp only [← EReal.coe_mul, coe_sum, zero_add]
  rfl
theorem pay5 : k0_pay5 (F := Ideal) (up2 .f32 x) = up2 .f32 (fun r _ => rr (x r)) := by
  funext i
  pointwise [k0_pay5, k0_pay4, up2_apply, ue2_apply]
  simp only [← EReal.coe_mul, coe_sum, c1024, c_eps]
  rw [div_coe' _ _ (by norm_num), ← EReal.coe_add]
  exact rsqrt_pos _ (ms_pos _)
theorem pay6 : k0_pay6 (F := Ideal) (up2 .f32 x) = up2 .f32 (fun r => nrm (x r)) := by
  funext i
  pointwise [k0_pay6, pay5, k0_pay4, up2_apply, ue2_apply]
  rfl
theorem pay7 : k0_pay7 (F := Ideal) (up2 .bf16 d) (up2 .bf16 w) (up2 .f32 x)
    = up2 .f32 (fun _ j => ∑ r, rowDg (x r) (back (fun j k => w k j) (d r)) j) := by
  funext i
  pointwise [k0_pay7, pay3, pay6, up2_apply, ue2_apply]
  simp only [← EReal.coe_mul, coe_sum]
  rfl
theorem pay1 : k0_pay1 (F := Ideal) (k0_pay5 (up2 .f32 x)) (k0_pay6 (up2 .f32 x)) (k0_pay9 (up2 .bf16 d) (up2 .bf16 w) (up2 .f32 g)) (k0_pay10 (ue2 .f32 e))
      (k0_pay11 (up2 .bf16 d) (up2 .bf16 w) (up2 .f32 x) (up2 .f32 g)) k0_pay12
    = ue2 .f32 (fun r => rowDx (x r) (g 0) (back (fun j k => w k j) (d r)) (e r)) := by
  funext i
  pointwise [k0_pay1, k0_pay9, k0_pay10, k0_pay11, k0_pay12, pay3, pay6, pay5, up2_apply, ue2_apply]
  simp only [← EReal.coe_mul, coe_sum, c1024]
  rw [div_coe' _ _ (by norm_num)]
  rfl
end body

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ t.val < 8 :=
  (by decide +kernel : ∀ t : Fin grid0.N, _)
theorem lt8 (t : Fin cfg0.N) : t.val < 8 := (idx t).2.2.2.2.2.2.2.2

variable (m : (ℓ : Loc nD τ sig) → Buf (Elt Ideal) ℓ) (c : Dev nD)
variable (d : Fin 2 → Fin 2048 → Fin 5120 → ℝ) (w : Fin 1024 → Fin 5120 → ℝ) (x : Fin 2 → Fin 2048 → Fin 1024 → ℝ) (g : Fin 1024 → ℝ) (e : Fin 2 → Fin 2048 → Fin 1024 → EReal)

/-- The rows of point `t`'s block of a real array of tokens. -/
def blkRows {R : Type} {D : ℕ} (t : Fin cfg0.N) (x : Fin 2 → Fin 2048 → Fin D → R) (r : Fin 512) : Fin D → R :=
  flat 4096 rfl x ⟨t.val * 512 + r.val, by have := lt8 t; omega⟩

theorem in0 (t : Fin cfg0.N) (hd : m ((c : Thread nD τ).loc main_arg0) = up3 .f32 d) : iblk m c 0 t = up2 .bf16 (blkRows t d) := by
  have h : V m c main_v1 = up2 .bf16 (flat 4096 rfl d) := by
    funext i
    entry_read
    rw [hd]
    pointwise [up3_apply, ue3_apply, up2_apply, ue2_apply]
    rfl
  funext y
  blk_simp [iblk]
  rw [h, up2_apply]
  refine congrArg _ (congrArg₂ (flat 4096 rfl d) (Fin.ext ?_) (Fin.ext ?_)) <;> blk_simp [idx t] <;> try omega
theorem in1 (t : Fin cfg0.N) (hw : m ((c : Thread nD τ).loc main_arg1) = up2 .f32 w) : iblk m c 1 t = up2 .bf16 (fun k j => w j k) := by
  have h : V m c main_v3 = up2 .bf16 (fun k j => w j k) := by
    funext i
    entry_read
    rw [hw]
    pointwise [up2_apply, ue2_apply]
  funext y
  blk_simp [iblk]
  rw [h, up2_apply]
  refine congrArg _ (congrArg₂ w (Fin.ext ?_) (Fin.ext ?_)) <;> blk_simp [idx t] <;> try omega
theorem in3 (t : Fin cfg0.N) (hg : m ((c : Thread nD τ).loc main_arg3) = up1 .f32 g) : iblk m c 3 t = up2 .f32 (fun _ => g) := by
  have h : V m c main_v5 = up2 .f32 (fun _ => g) := by
    funext i
    entry_read
    rw [hg]
    pointwise [up1_apply, up2_apply, ue2_apply]
  funext y
  blk_simp [iblk]
  rw [h, up2_apply]
  refine congrArg _ (congrArg g (Fin.ext ?_)) <;> blk_simp [idx t] <;> try omega
theorem in2 (t : Fin cfg0.N) (hx : m ((c : Thread nD τ).loc main_arg2) = up3 .f32 x) : iblk m c 2 t = up2 .f32 (blkRows t x) := by
  have h : V m c main_v4 = up2 .f32 (flat 4096 rfl x) := by
    funext i
    entry_read
    rw [hx]
    pointwise [up3_apply, ue3_apply, up2_apply, ue2_apply]
    rfl
  funext y
  blk_simp [iblk]
  rw [h, up2_apply]
  refine congrArg _ (congrArg₂ (flat 4096 rfl x) (Fin.ext ?_) (Fin.ext ?_)) <;> blk_simp [idx t] <;> try omega
theorem in4 (t : Fin cfg0.N) (he : m ((c : Thread nD τ).loc main_arg4) = ue3 .f32 e) : iblk m c 4 t = ue2 .f32 (blkRows t e) := by
  have h : V m c main_v6 = ue2 .f32 (flat 4096 rfl e) := by
    funext i
    entry_read
    rw [he]
    pointwise [ue3_apply, ue2_apply]
    rfl
  funext y
  blk_simp [iblk]
  rw [h, ue2_apply]
  refine (congrArg₂ (flat 4096 rfl e) (Fin.ext ?_) (Fin.ext ?_)) <;> blk_simp [idx t] <;> try omega

variable (hd : m ((c : Thread nD τ).loc main_arg0) = up3 .f32 d) (hw : m ((c : Thread nD τ).loc main_arg1) = up2 .f32 w)
  (hx : m ((c : Thread nD τ).loc main_arg2) = up3 .f32 x) (hg : m ((c : Thread nD τ).loc main_arg3) = up1 .f32 g)
  (he : m ((c : Thread nD τ).loc main_arg4) = ue3 .f32 e)
include hd hw hx hg he

/-- The gradient with respect to the rows. -/
theorem final5 : (dats m 0 c).arrAt 5 (cfgs 0).N = ue2 .f32 (fun n => rowDx (flat 4096 rfl x n) g (back w (flat 4096 rfl d n)) (flat 4096 rfl e n)) := by
  refine (dats m 0 c).arrAt_eq_of_covers 5 _ (by decide +kernel) fun t _ y => ?_
  blk_simp
  have key : ue2 (n := 512) (k := 1024) .f32 (fun r => rowDx (blkRows t x r) g (back w (blkRows t d r)) (blkRows t e r)) y
      = ue2 .f32 (fun n => rowDx (flat 4096 rfl x n) g (back w (flat 4096 rfl d n)) (flat 4096 rfl e n)) (((cfg0.win 5).blk t).view.emb y) := by
    rw [ue2_apply, ue2_apply]
    refine (congrArg₂ (fun n j => rowDx (flat 4096 rfl x n) g (back w (flat 4096 rfl d n)) (flat 4096 rfl e n) j) (Fin.ext ?_) (Fin.ext ?_)) <;> blk_simp [idx t] <;> try omega
  refine Eq.trans ?_ key
  rw [after0_5]
  by_cases h0 : t.val % 8 = 0
  · rw [outsAt0_A m c t h0 (by have := lt8 t; omega)]
    frame_out
    rw [in0 m c d t hd, in1 m c w t hw, in2 m c x t hx, in3 m c g t hg, in4 m c e t he]
    exact congrFun (pay1 _ _ _ _ _) y
  · rw [outsAt0_B m c t h0 (by omega)]
    frame_out
    rw [in0 m c d t hd, in1 m c w t hw, in2 m c x t hx, in3 m c g t hg, in4 m c e t he]
    exact congrFun (pay1 _ _ _ _ _) y

/-- The same at the narrow format. -/
theorem final6 : (dats m 0 c).arrAt 6 (cfgs 0).N = ue2 .bf16 (fun n => rowDx (flat 4096 rfl x n) g (back w (flat 4096 rfl d n)) (flat 4096 rfl e n)) := by
  refine (dats m 0 c).arrAt_eq_of_covers 6 _ (by decide +kernel) fun t _ y => ?_
  blk_simp
  have key : ue2 (n := 512) (k := 1024) .bf16 (fun r => rowDx (blkRows t x r) g (back w (blkRows t d r)) (blkRows t e r)) y
      = ue2 .bf16 (fun n => rowDx (flat 4096 rfl x n) g (back w (flat 4096 rfl d n)) (flat 4096 rfl e n)) (((cfg0.win 6).blk t).view.emb y) := by
    rw [ue2_apply, ue2_apply]
    refine (congrArg₂ (fun n j => rowDx (flat 4096 rfl x n) g (back w (flat 4096 rfl d n)) (flat 4096 rfl e n) j) (Fin.ext ?_) (Fin.ext ?_)) <;> blk_simp [idx t] <;> try omega
  refine Eq.trans ?_ key
  rw [after0_6]
  by_cases h0 : t.val % 8 = 0
  · rw [outsAt0_A m c t h0 (by have := lt8 t; omega)]
    frame_out
    rw [in0 m c d t hd, in1 m c w t hw, in2 m c x t hx, in3 m c g t hg, in4 m c e t he]
    pointwise [k0_pay2, pay1]
    rfl
  · rw [outsAt0_B m c t h0 (by omega)]
    frame_out
    rw [in0 m c d t hd, in1 m c w t hw, in2 m c x t hx, in3 m c g t hg, in4 m c e t he]
    pointwise [k0_pay2, pay1]
    rfl

/-- The gradient with respect to the scale. -/
theorem final7 : (dats m 0 c).arrAt 7 (cfgs 0).N = up2 .f32 (fun _ j => ∑ n, rowDg (flat 4096 rfl x n) (back w (flat 4096 rfl d n)) j) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun p j => ((∑ r, rowDg (blkRows p x r) (back w (blkRows p d r)) (j 1) : ℝ) : EReal))
    (fun t h j => by
      rw [outsAt0_A m c t h (by have := lt8 t; omega)]; frame_out
      rw [in0 m c d t hd, in1 m c w t hw, in2 m c x t hx, pay7, up2_apply]; exact (zero_add _).symm)
    (fun t h j => by
      rw [outsAt0_B m c t h (by omega)]; frame_out
      pointwise [k0_pay8]
      rw [in0 m c d t hd, in1 m c w t hw, in2 m c x t hx, pay7, up2_apply])
    (le_of_eq N_0) t0_7 rfl j, zero_add]
  refine (coe_sum (Finset.univ : Finset (Fin 8)) _).trans ?_
  rw [up2_apply]
  exact congrArg _ (Fin.sum_mul_add_congr fun p r hl => rfl)

omit hd hw hx hg he in
/-- The run from real arguments. -/
theorem run (ρ : Dev nD → PrngReg)
    (d : Dev nD → Fin 2 → Fin 2048 → Fin 5120 → ℝ) (w : Dev nD → Fin 1024 → Fin 5120 → ℝ)
    (x : Dev nD → Fin 2 → Fin 2048 → Fin 1024 → ℝ) (g : Dev nD → Fin 1024 → ℝ) (e : Dev nD → Fin 2 → Fin 2048 → Fin 1024 → EReal)
    (hd : ∀ c : Dev nD, m ((c.tc : Thread nD τ).loc main_arg0) = up3 .f32 (d c)) (hw : ∀ c : Dev nD, m ((c.tc : Thread nD τ).loc main_arg1) = up2 .f32 (w c))
    (hx : ∀ c : Dev nD, m ((c.tc : Thread nD τ).loc main_arg2) = up3 .f32 (x c)) (hg : ∀ c : Dev nD, m ((c.tc : Thread nD τ).loc main_arg3) = up1 .f32 (g c))
    (he : ∀ c : Dev nD, m ((c.tc : Thread nD τ).loc main_arg4) = ue3 .f32 (e c)) :
    θ_run defs (onTc (τ := τ) (main (F := Ideal))) ⟨m, fun _ => 0, ρ⟩ fun r => ∀ c : Dev nD,
      r.2.mem ((c.tc : Thread nD τ).loc main_v7_0) = ue2 .f32 (fun n => rowDx (flat 4096 rfl (x c) n) (g c) (back (w c) (flat 4096 rfl (d c) n)) (flat 4096 rfl (e c) n))
      ∧ r.2.mem ((c.tc : Thread nD τ).loc main_v7_1) = ue2 .bf16 (fun n => rowDx (flat 4096 rfl (x c) n) (g c) (back (w c) (flat 4096 rfl (d c) n)) (flat 4096 rfl (e c) n))
      ∧ r.2.mem ((c.tc : Thread nD τ).loc main_v7_2) = up2 .f32 (fun _ j => ∑ n, rowDg (flat 4096 rfl (x c) n) (back (w c) (flat 4096 rfl (d c) n)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Kernel3Ideal.Value.run_blocks m ρ)
  obtain ⟨h0, h1, h2, h3⟩ := h c
  exact ⟨h0.trans (final5 m c _ _ _ _ _ (hd c) (hw c) (hx c) (hg c) (he c)), h1.trans (final6 m c _ _ _ _ _ (hd c) (hw c) (hx c) (hg c) (he c)),
    h2.trans (final7 m c _ _ _ _ _ (hd c) (hw c) (hx c) (hg c) (he c)), h3⟩

end Cert.Norm3K
-- ==== Proof.Norm3R.lean ====
module
public import proofs.«01_k».proof.Proof.Gen.Reference3Ideal.Read
public import proofs.«01_k».proof.Proof.Lift
public import proofs.«01_k».proof.Proof.NormMath
@[expose] public section
set_option maxRecDepth 16384
noncomputable section
namespace Cert.Norm3R
open Idealize.ShloMosaic Idealize.ShloMosaic.TcCoe Idealize.SL.Sem
open Cert.Reference3Ideal Cert.Reference3Ideal.Gen Cert.Reference3Ideal.Read Cert.Lift Cert.Rms Cert.NormMath

variable (d : Fin 2 → Fin 2048 → Fin 5120 → ℝ) (w : Fin 1024 → Fin 5120 → ℝ) (x : Fin 2 → Fin 2048 → Fin 1024 → ℝ) (g : Fin 1024 → ℝ) (e : Fin 2 → Fin 2048 → Fin 1024 → EReal)

theorem v6 : val_main_v6 (F := Ideal) (up3 .f32 x) = up3 .f32 (fun b s _ => ms (x b s)) := by
  funext i
  pointwise [val_main_v6, val_main_v5, val_main_cst_1, val_main_v4, val_main_v3, val_main_cst_0, val_main_v2, val_main_v1, val_main_cst, val_main_v0, up3_apply]
  simp only [← EReal.coe_mul, coe_sum, c1024, c_eps, zero_add]
  rw [div_coe' _ _ (by norm_num), ← EReal.coe_add]
  rfl
theorem v7 : val_main_v7 (F := Ideal) (up3 .f32 x) = up3 .f32 (fun b s _ => rr (x b s)) := by
  funext i
  pointwise [val_main_v7, v6, up3_apply]
  exact rsqrt_pos _ (ms_pos _)
theorem v10 : val_main_v10 (F := Ideal) (up3 .f32 x) = up3 .f32 (fun b s _ => -1 / 2 * (rr (x b s) * (1 / ms (x b s)))) := by
  funext i
  pointwise [val_main_v10, val_main_v9, val_main_cst_2, val_main_v8, v7, v6, up3_apply]
  rw [div_coe' _ _ (ms_pos _).ne', c_neg_half]
  rfl
theorem v12 : val_main_v12 (F := Ideal) (up3 .f32 x) = up3 .f32 (fun b s => nrm (x b s)) := by
  funext i
  pointwise [val_main_v12, val_main_v11, v7, up3_apply]
  rfl
theorem v17 : val_main_v17 (F := Ideal) (up3 .f32 d) (up2 .f32 w) = up3 .f32 (fun b s => back w (d b s)) := by
  funext i
  pointwise [val_main_v17, up3_apply, ue3_apply, up2_apply, ue2_apply]
  simp only [← EReal.coe_mul, coe_sum, zero_add]
  rfl
theorem v22 : val_main_v22 (F := Ideal) (up3 .f32 d) (up2 .f32 w) (up1 .f32 g) = up3 .f32 (fun b s j => back w (d b s) j * g j) := by
  funext i
  pointwise [val_main_v22, val_main_v21, val_main_v13, v17, up3_apply, up1_apply]
  rfl
theorem v32 : val_main_v32 (F := Ideal) (up3 .f32 d) (up2 .f32 w) (up3 .f32 x) (up1 .f32 g)
    = up3 .f32 (fun b s _ => slope (x b s) (fun j => back w (d b s) j * g j)) := by
  funext i
  pointwise [val_main_v32, val_main_v31, val_main_cst_6, val_main_v30, val_main_v26, val_main_v25, val_main_cst_5, val_main_v24, v22, v10, up3_apply]
  simp only [← EReal.coe_mul, coe_sum, c1024, zero_add]
  rw [div_coe' _ _ (by norm_num)]
  rfl
theorem v39 : val_main_v39 (F := Ideal) (up3 .f32 d) (up2 .f32 w) (up3 .f32 x) (up1 .f32 g) (ue3 .f32 e)
    = ue2 .f32 (fun n => rowDx (flat 4096 rfl x n) g (back w (flat 4096 rfl d n)) (flat 4096 rfl e n)) := by
  funext i
  pointwise [val_main_v39, val_main_v38, val_main_v37, val_main_v36, val_main_v35, val_main_v34, val_main_v33, val_main_cst_7, val_main_v29, val_main_v28, val_main_v27, v32, v22, v7, up3_apply, ue3_apply, up2_apply, ue2_apply]
  simp only [Finset.univ_unique, Finset.sum_singleton, zero_add, ← EReal.coe_mul, ← EReal.coe_add]
  exact (rowDx_eq (flat 4096 rfl x (i 0)) g (back w (flat 4096 rfl d (i 0))) (flat 4096 rfl e (i 0)) (i 1))
theorem v40 : val_main_v40 (F := Ideal) (up3 .f32 d) (up2 .f32 w) (up3 .f32 x) (up1 .f32 g) (ue3 .f32 e)
    = ue2 .bf16 (fun n => rowDx (flat 4096 rfl x n) g (back w (flat 4096 rfl d n)) (flat 4096 rfl e n)) := by
  funext i
  pointwise [val_main_v40, v39, up2_apply, ue2_apply]
theorem v41 : val_main_v41 (F := Ideal) (up3 .f32 d) (up2 .f32 w) (up3 .f32 x) = up2 .f32 (fun _ j => ∑ n, rowDg (flat 4096 rfl x n) (back w (flat 4096 rfl d n)) j) := by
  funext i
  pointwise [val_main_v41, val_main_v23, val_main_cst_4, val_main_v20, val_main_v19, val_main_cst_3, val_main_v18, v12, v17, up3_apply, ue3_apply, up2_apply, ue2_apply]
  rw [hostSum_first_two]
  pointwise [up3_apply]
  simp only [hostSum_first_two]
  pointwise [up3_apply]
  simp only [Finset.univ_unique, Finset.sum_singleton, ← EReal.coe_mul, coe_sum]
  exact congrArg _ ((Fin.sum_divmod_congr (S := 2048) fun n ha hs => mul_comm _ _).symm)

/-- The run from real arguments. -/
theorem run (m : (ℓ : Loc nD τ sig) → Buf (Elt Ideal) ℓ) (ρ : Dev nD → PrngReg)
    (d : Dev nD → Fin 2 → Fin 2048 → Fin 5120 → ℝ) (w : Dev nD → Fin 1024 → Fin 5120 → ℝ)
    (x : Dev nD → Fin 2 → Fin 2048 → Fin 1024 → ℝ) (g : Dev nD → Fin 1024 → ℝ) (e : Dev nD → Fin 2 → Fin 2048 → Fin 1024 → EReal)
    (hd : ∀ c : Dev nD, m ((c.tc : Thread nD τ).loc main_arg0) = up3 .f32 (d c)) (hw : ∀ c : Dev nD, m ((c.tc : Thread nD τ).loc main_arg1) = up2 .f32 (w c))
    (hx : ∀ c : Dev nD, m ((c.tc : Thread nD τ).loc main_arg2) = up3 .f32 (x c)) (hg : ∀ c : Dev nD, m ((c.tc : Thread nD τ).loc main_arg3) = up1 .f32 (g c))
    (he : ∀ c : Dev nD, m ((c.tc : Thread nD τ).loc main_arg4) = ue3 .f32 (e c)) :
    θ_run defs (onTc (τ := τ) (main (F := Ideal))) ⟨m, fun _ => 0, ρ⟩ fun r => ∀ c : Dev nD,
      r.2.mem ((c.tc : Thread nD τ).loc main_v39) = ue2 .f32 (fun n => rowDx (flat 4096 rfl (x c) n) (g c) (back (w c) (flat 4096 rfl (d c) n)) (flat 4096 rfl (e c) n))
      ∧ r.2.mem ((c.tc : Thread nD τ).loc main_v40) = ue2 .bf16 (fun n => rowDx (flat 4096 rfl (x c) n) (g c) (back (w c) (flat 4096 rfl (d c) n)) (flat 4096 rfl (e c) n))
      ∧ r.2.mem ((c.tc : Thread nD τ).loc main_v41) = up2 .f32 (fun _ j => ∑ n, rowDg (flat 4096 rfl (x c) n) (back (w c) (flat 4096 rfl (d c) n)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference3Ideal.Value.run m ρ)
  obtain ⟨h0, h1, h2, h3⟩ := h c
  exact ⟨h0.trans ((val_main_v39_eq m c).trans (by rw [hd, hw, hx, hg, he]; exact v39 _ _ _ _ _)),
    h1.trans ((val_main_v40_eq m c).trans (by rw [hd, hw, hx, hg, he]; exact v40 _ _ _ _ _)),
    h2.trans ((val_main_v41_eq _ _ _).trans (by rw [hd, hw, hx]; exact v41 _ _ _)), h3⟩
end Cert.Norm3R
-- ==== Proof.Norm3.lean ====
module
public import proofs.«01_k».proof.Defs
public import proofs.«01_k».proof.Proof.Gen.Kernel3
public import proofs.«01_k».proof.Proof.Gen.Kernel3.Frame
public import proofs.«01_k».proof.Proof.Gen.Pre_finite3
public import proofs.«01_k».proof.Proof.Norm3K
public import proofs.«01_k».proof.Proof.Norm3R
public import Idealize.ShloMosaic.Adequacy
public import Idealize.ShloMosaic.Init
public import Idealize.ShloMosaic.Lib.Quiescent
@[expose] public section
set_option maxRecDepth 16384
noncomputable section
namespace Cert.Norm3
open Idealize.ShloMosaic Idealize.ShloMosaic.TcCoe Idealize.SL.Sem Cert.Lift

/-- The precondition says that the arguments it speaks of are arrays of real numbers. -/
theorem real (d : FVec Ideal Cert.Pre_finite3.S2x2048x5120 .f32)
    (w : FVec Ideal Cert.Pre_finite3.S1024x5120 .f32)
    (x : FVec Ideal Cert.Pre_finite3.S2x2048x1024 .f32)
    (g : FVec Ideal Cert.Pre_finite3.S1024 .f32)
    (e : FVec Ideal Cert.Pre_finite3.S2x2048x1024 .f32)
    (h : @Cert.Pre_finite3.fn Cert.Pre_finite3.Gen.facts Ideal _ d w x g e = fun _ => 1#1) :
    ∃ (d' : Fin 2 → Fin 2048 → Fin 5120 → ℝ) (w' : Fin 1024 → Fin 5120 → ℝ) (x' : Fin 2 → Fin 2048 → Fin 1024 → ℝ) (g' : Fin 1024 → ℝ) (e' : Fin 2 → Fin 2048 → Fin 1024 → EReal),
      d = up3 .f32 d' ∧ w = up2 .f32 w' ∧ x = up3 .f32 x' ∧ g = up1 .f32 g' ∧ e = ue3 .f32 e' := by
  have h0 := congrFun h (fun a => a.elim0)
  dsimp only [Cert.Pre_finite3.fn, Cert.Pre_finite3.fn_part1] at h0
  obtain ⟨a1, b1⟩ := and_one h0
  obtain ⟨a2, b2⟩ := and_one a1
  obtain ⟨a3, b3⟩ := and_one a2
  obtain ⟨e', ee⟩ := exists_ue3 .f32 e
  obtain ⟨d', ed⟩ := exists_up3 .f32 d (finite_of_reduce d _ inf_apply _ _ _ _ a3)
  obtain ⟨w', ew⟩ := exists_up2 .f32 w (finite_of_reduce w _ inf_apply _ _ _ _ b3)
  obtain ⟨x', ex⟩ := exists_up3 .f32 x (finite_of_reduce x _ inf_apply _ _ _ _ b2)
  obtain ⟨g', eg⟩ := exists_up1 .f32 g (finite_of_reduce g _ inf_apply _ _ _ _ b1)
  exact ⟨d', w', x', g', e', ed, ew, ex, eg, ee⟩

theorem frame_kernel : Cert.quiescent_Kernel3 (hKernel3 := Cert.Kernel3.Gen.facts) := fun m ρ _ => Cert.Kernel3.Gen.frame m ρ
theorem frame_ideal : Cert.quiescent_Kernel3Ideal (hKernel3Ideal := Cert.Kernel3Ideal.Gen.facts) :=
  fun m ρ _ => Cert.Kernel3Ideal.Gen.frame m ρ
theorem frame_ideal_pre : Cert.quiescent_Kernel3Ideal_pre_finite3 (hKernel3Ideal := Cert.Kernel3Ideal.Gen.facts) (hPre_finite3 := Cert.Pre_finite3.Gen.facts) :=
  fun m ρ _ => Cert.Kernel3Ideal.Gen.frame m ρ
theorem frame_reference : Cert.quiescent_Reference3Ideal (hReference3Ideal := Cert.Reference3Ideal.Gen.facts) :=
  fun m ρ _ => (θ_run Cert.Reference3Ideal.defs _ _).mono
    (fun r h => ⟨fun c => (h c).2.2.2, sem_eq_zero_of_no_sems (by decide) r.2⟩) (Cert.Reference3Ideal.Value.run m ρ)
theorem frame_reference_pre : Cert.quiescent_Reference3Ideal_pre_finite3 (hReference3Ideal := Cert.Reference3Ideal.Gen.facts) (hPre_finite3 := Cert.Pre_finite3.Gen.facts) :=
  fun m ρ _ => frame_reference m ρ trivial

/-- The gradients of the norm and the product behind it are the reference's. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m0 g0 m1 g1 hpre hagree
  choose d w x g e hd hw hx hg he using fun c => real _ _ _ _ _ (hpre c)
  exact ⟨_, _, _, Cert.Norm3K.run m0 g0 d w x g e hd hw hx hg he,
    Cert.Norm3R.run m1 g1 d w x g e
      (fun c => (hagree c).1.trans (hd c))
      (fun c => (hagree c).2.1.trans (hw c))
      (fun c => (hagree c).2.2.1.trans (hx c))
      (fun c => (hagree c).2.2.2.1.trans (hg c))
      (fun c => (hagree c).2.2.2.2.trans (he c))⟩
end Cert.Norm3
-- ==== Proof.FfnMath.lean ====
module
public import proofs.«01_k».proof.Proof.NormMath
public import Mathlib.Analysis.SpecialFunctions.Trigonometric.DerivHyp
@[expose] public section
set_option maxRecDepth 16384

noncomputable section
namespace Cert.FfnMath
open Cert.Rms Cert.NormMath

/-- The logistic function. -/
def sg (x : ℝ) : ℝ := 1 / (1 + Real.exp (-x))
theorem sg_tanh (x : ℝ) : 1 / 2 * Real.tanh (1 / 2 * x) + 1 / 2 = sg x := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add, add_neg_cancel, Real.exp_zero]
  have p1 := Real.exp_pos (1 / 2 * x)
  have p2 := Real.exp_pos (-(1 / 2 * x))
  unfold sg
  rw [Real.tanh_eq_sinh_div_cosh, Real.sinh_eq, Real.cosh_eq, h1]
  generalize Real.exp (1 / 2 * x) = u at *
  generalize Real.exp (-(1 / 2 * x)) = v at *
  have q1 : (u + v) ≠ 0 := by positivity
  have q2 : (1 + v * v) ≠ 0 := by positivity
  field_simp
  linear_combination (2 * v) * h2

/-- The left and the right half of the columns. -/
def lo (j : Fin 2816) : Fin 5632 := ⟨j.val, by omega⟩
def hi (j : Fin 2816) : Fin 5632 := ⟨2816 + j.val, by omega⟩
/-- The scaled norm of a row, and its product with the input weights. -/
def hid (a g : Fin 1024 → ℝ) (k : Fin 1024) : ℝ := nrm a k * g k
def pre (w : Fin 1024 → Fin 5632 → ℝ) (a g : Fin 1024 → ℝ) (j : Fin 5632) : ℝ := ∑ k, hid a g k * w k j
/-- The factors of the two halves' gradients: the gate's slope times the other half, and the gate. -/
def slot (w : Fin 1024 → Fin 5632 → ℝ) (a g : Fin 1024 → ℝ) (p : Fin 2) (j : Fin 2816) : ℝ :=
  if p.val = 0 then pre w a g (hi j) * (sg (pre w a g (lo j)) + pre w a g (lo j) * sg (pre w a g (lo j)) * (1 - sg (pre w a g (lo j))))
  else pre w a g (lo j) * sg (pre w a g (lo j))
/-- The gradient with respect to the activation, for an output that is halved. -/
def da (o : Fin 2816 → Fin 1024 → ℝ) (dy : Fin 1024 → ℝ) (j : Fin 2816) : ℝ := (∑ k, dy k * o j k) * (1 / 2)
/-- The gradient with respect to the two halves, from their factors `z`. -/
def dz (o : Fin 2816 → Fin 1024 → ℝ) (dy : Fin 1024 → ℝ) (z : Fin 2 → Fin 2816 → ℝ) (p : Fin 2) (j : Fin 2816) : ℝ := da o dy j * z p j
/-- The gradient with respect to the scaled norm, from that of the two halves. -/
def dh (w : Fin 1024 → Fin 5632 → ℝ) (d : Fin 2 → Fin 2816 → ℝ) (k : Fin 1024) : ℝ := ∑ j, d 0 j * w k (lo j) + ∑ j, d 1 j * w k (hi j)

/-- The gradient with respect to both halves as one row. -/
def dzf (o : Fin 2816 → Fin 1024 → ℝ) (dy : Fin 1024 → ℝ) (z : Fin 2 → Fin 2816 → ℝ) (j : Fin 5632) : ℝ :=
  if h : j.val < 2816 then dz o dy z 0 ⟨j.val, h⟩ else dz o dy z 1 ⟨j.val - 2816, by omega⟩
theorem dzf_eq (o : Fin 2816 → Fin 1024 → ℝ) (dy : Fin 1024 → ℝ) (z : Fin 2 → Fin 2816 → ℝ) (p : Fin 2) (j : Fin 2816) (n : Fin 5632)
    (h : n.val = p.val * 2816 + j.val) : dzf o dy z n = dz o dy z p j := by
  obtain ⟨p, hp⟩ := p
  dsimp only at h
  unfold dzf
  by_cases q : n.val < 2816
  · rw [dif_pos q]
    exact congrArg₂ (dz o dy z) (Fin.ext (by dsimp only [Fin.val_zero]; omega)) (Fin.ext (by dsimp only; omega))
  · rw [dif_neg q]
    exact congrArg₂ (dz o dy z) (Fin.ext (by rw [Fin.val_one]; dsimp only; omega)) (Fin.ext (by dsimp only; omega))
theorem sum_split {a b N : ℕ} (h : N = a + b) (f : Fin N → ℝ) :
    ∑ j, f j = ∑ j : Fin a, f ⟨j.val, by omega⟩ + ∑ j : Fin b, f ⟨a + j.val, by omega⟩ := by
  subst h
  exact Fin.sum_univ_add f
theorem sum_dzf (o : Fin 2816 → Fin 1024 → ℝ) (dy : Fin 1024 → ℝ) (z : Fin 2 → Fin 2816 → ℝ) (w : Fin 1024 → Fin 5632 → ℝ) (k : Fin 1024) :
    ∑ j, dzf o dy z j * w k j = dh w (dz o dy z) k := by
  unfold dh
  refine (sum_split (a := 2816) (b := 2816) (by norm_num) (fun j => dzf o dy z j * w k j)).trans ?_
  refine congrArg₂ (· + ·) (Finset.sum_congr rfl fun j _ => ?_) (Finset.sum_congr rfl fun j _ => ?_)
  · refine congrArg₂ (· * ·) ?_ rfl
    exact dif_pos j.isLt
  · refine congrArg₂ (· * ·) ?_ rfl
    refine (dif_neg (by show ¬ 2816 + j.val < 2816; omega)).trans ?_
    refine congrArg _ (Fin.ext ?_)
    show 2816 + j.val - 2816 = j.val
    omega
/-- The gradient of the left half as reverse differentiation gives it. -/
theorem left_eq (dx up y : ℝ) : dx * up * sg y + y * (dx * up) * (sg y * (1 - sg y)) = dx * (up * (sg y + y * sg y * (1 - sg y))) := by ring

/-- The gradient with respect to a row of the feed-forward layer with its residual connection. -/
def outX (w : Fin 1024 → Fin 5632 → ℝ) (o : Fin 2816 → Fin 1024 → ℝ) (a g dy : Fin 1024 → ℝ) : Fin 1024 → EReal :=
  rowDx a g (dh w (dz o dy (slot w a g))) (fun k => ((dy k : ℝ) : EReal))
/-- One row's part of the gradient with respect to the norm's scale. -/
def outG (w : Fin 1024 → Fin 5632 → ℝ) (o : Fin 2816 → Fin 1024 → ℝ) (a g dy : Fin 1024 → ℝ) : Fin 1024 → ℝ :=
  rowDg a (dh w (dz o dy (slot w a g)))

end Cert.FfnMath
-- ==== Proof.FfnK.lean ====
module
public import proofs.«01_k».proof.Proof.Gen.Kernel4Ideal.Value
public import proofs.«01_k».proof.Proof.Lift
public import proofs.«01_k».proof.Proof.FfnMath
@[expose] public section
set_option maxRecDepth 16384
noncomputable section
namespace Cert.FfnK
open Idealize.ShloMosaic Idealize.ShloMosaic.TcCoe Idealize.SL.Sem
open Idealize.ShloMosaic.Pipeline (Dat)
open Cert.Kernel4Ideal Cert.Kernel4Ideal.Gen Cert.Lift Cert.Rms Cert.NormMath Cert.FfnMath

theorem at_all {α β : Type} {f g : α → β} (q : α) (h : ∀ q, f q = g q) {b : β} (hb : g q = b) : f q = b := (h q).trans hb

section body
variable (H : Fin 256 → Fin 1024 → ℝ) (x e : Fin 256 → Fin 1024 → ℝ) (g : Fin 1 → Fin 1024 → ℝ)

theorem pay17 : k0_pay17 (F := Ideal) (up2 .f32 x) = up2 .f32 (fun r _ => ms (x r)) := by
  funext i
  pointwise [k0_pay17, k0_pay16, up2_apply]
  simp only [← EReal.coe_mul, coe_sum, c1024, c_eps]
  rw [div_coe' _ _ (by norm_num), ← EReal.coe_add]
  rfl
theorem pay16 : k0_pay16 (F := Ideal) (up2 .f32 x) = up2 .f32 x := by
  funext i
  pointwise [k0_pay16, up2_apply]
theorem pay1 : k0_pay1 (F := Ideal) (up2 .f32 (fun r _ => ms (x r))) = up2 .f32 (fun r _ => rr (x r)) := by
  funext i
  pointwise [k0_pay1, up2_apply]
  exact rsqrt_pos _ (ms_pos _)
theorem pay2 : k0_pay2 (F := Ideal) (up2 .f32 x) (up2 .f32 (fun r _ => ms (x r))) = up2 .f32 (fun r => nrm (x r)) := by
  funext i
  pointwise [k0_pay2, pay1, up2_apply]
  rfl
theorem pay3 : k0_pay3 (F := Ideal) (up2 .f32 H) (up2 .f32 x) (up2 .f32 (fun r _ => ms (x r))) = up2 .f32 (fun _ j => ∑ r, rowDg (x r) (H r) j) := by
  funext i
  pointwise [k0_pay3, pay2, up2_apply]
  simp only [← EReal.coe_mul, coe_sum]
  rfl
theorem pay4 (v : Vec Ideal S1x1024 .f32) (y : S1x1024.Idx) : k0_pay4 (F := Ideal) (up2 .f32 H) (up2 .f32 x) (up2 .f32 (fun r _ => ms (x r))) v y
    = v y + ((∑ r, rowDg (x r) (H r) (y 1) : ℝ) : EReal) := by
  pointwise [k0_pay4, pay3, up2_apply]
theorem pay5 : k0_pay5 (F := Ideal) (up2 .f32 H) (up2 .f32 x) (up2 .f32 (fun r _ => ms (x r))) (up2 .f32 g) (up2 .f32 e)
    = ue2 .f32 (fun r => rowDx (x r) (g 0) (H r) (fun k => ((e r k : ℝ) : EReal))) := by
  funext i
  pointwise [k0_pay5, pay2, pay1, up2_apply, ue2_apply]
  simp only [← EReal.coe_mul, coe_sum, c1024]
  rw [div_coe' _ _ (by norm_num)]
  rfl
theorem pay6 : k0_pay6 (F := Ideal) (up2 .f32 H) (up2 .f32 x) (up2 .f32 (fun r _ => ms (x r))) (up2 .f32 g) (up2 .f32 e)
    = ue2 .bf16 (fun r => rowDx (x r) (g 0) (H r) (fun k => ((e r k : ℝ) : EReal))) := by
  funext i
  pointwise [k0_pay6, pay5, ue2_apply]
theorem pay15 (a b : Fin 1 → Fin 256 → Fin 2816 → ℝ) (u v : Fin 2816 → Fin 1024 → ℝ) :
    k0_pay15 (F := Ideal) (up3 .bf16 a) (up2 .bf16 u) (up3 .bf16 b) (up2 .bf16 v) = up2 .f32 (fun r k => ∑ j, a 0 r j * u j k + ∑ j, b 0 r j * v j k) := by
  funext i
  pointwise [k0_pay15, up3_apply, up2_apply]
  simp only [← EReal.coe_mul, coe_sum, ← EReal.coe_add]
theorem pay15_of (w : Fin 1024 → Fin 5632 → ℝ) (d : Fin 256 → Fin 2 → Fin 2816 → ℝ) {a b : Vec Ideal S1x256x2816 .bf16} {u v : Vec Ideal S2816x1024 .bf16}
    (ha : a = up3 (n := 1) .bf16 (fun _ r => d r 0)) (hu : u = up2 .bf16 (fun j k => w k (lo j))) (hb : b = up3 (n := 1) .bf16 (fun _ r => d r 1))
    (hv : v = up2 .bf16 (fun j k => w k (hi j))) : k0_pay15 (F := Ideal) a u b v = up2 .f32 (fun r => dh w (d r)) := by
  rw [ha, hu, hb, hv, pay15]
  rfl
theorem dz_at (o : Fin 2816 → Fin 1024 → ℝ) (dy : Fin 256 → Fin 1024 → ℝ) (z : Fin 256 → Fin 2 → Fin 2816 → ℝ) {r n : Fin 256} {p q : Fin 2} {j k : Fin 2816}
    (h0 : q.val = p.val) (h1 : n.val = r.val) (h2 : k.val = j.val) :
    (((∑ i, dy r i * o j i) * (1 / 2) * z r p j : ℝ) : EReal) = ((dz o (dy n) (z n) q k : ℝ) : EReal) := by
  obtain rfl := Fin.ext h0
  obtain rfl := Fin.ext h1
  obtain rfl := Fin.ext h2
  rfl
end body

theorem idx : ∀ t : Fin cfg0.N, win0_0.index t = ![t.val, 0] ∧ win0_1.index t = ![t.val, 0] ∧ win0_2.index t = ![0, 0]
    ∧ win0_3.index t = ![0, t.val, 0] ∧ win0_4.index t = ![0, 0] ∧ win0_5.index t = ![t.val, 0] ∧ win0_6.index t = ![0, 0]
    ∧ win0_7.index t = ![0, t.val, 0] ∧ win0_8.index t = ![t.val, 0] ∧ win0_9.index t = ![t.val, 0] ∧ win0_10.index t = ![0, 0] ∧ t.val < 16 :=
  (by decide +kernel : ∀ t : Fin grid0.N, _)
theorem lt16 (t : Fin cfg0.N) : t.val < 16 := (idx t).2.2.2.2.2.2.2.2.2.2.2

variable (m : (ℓ : Loc nD τ sig) → Buf (Elt Ideal) ℓ) (c : Dev nD)

section point
variable (t : Fin cfg0.N) (dy x : Fin 256 → Fin 1024 → ℝ) (o : Fin 2816 → Fin 1024 → ℝ) (z : Fin 256 → Fin 2 → Fin 2816 → ℝ) (w : Fin 1024 → Fin 5632 → ℝ) (g : Fin 1024 → ℝ)
variable (e0 : iblk m c 0 t = up2 .bf16 dy) (e1 : iblk m c 1 t = up2 .f32 dy) (e2 : iblk m c 2 t = up2 .bf16 o)
  (e3 : iblk m c 3 t = up3 .bf16 (fun p r => z r p)) (e4 : iblk m c 4 t = up2 .bf16 (fun j k => w k j)) (e5 : iblk m c 5 t = up2 .f32 x) (e6 : iblk m c 6 t = up2 .f32 (fun _ => g))
include e0 e1 e2 e3 e4 e5 e6

theorem dz_A (h0 : t.val % 16 = 0) (y : S2x256x2816.Idx) : (outsAt0 m c t.val t.isLt).1 y = up3 .bf16 (fun p r => dz o (dy r) (z r) p) y := by
  rw [outsAt0_A m c t h0 (by have := lt16 t; omega)]
  frame_out
  rw [e0, e2, e3]
  clear e0 e1 e2 e3 e4 e5 e6 h0
  canon_tiles x h
  all_goals (pointwise [k0_pay9, k0_pay10, k0_pay12, k0_pay13, k0_pay14, k0_pay8, k0_pay11, k0_pay7, up2_apply, up3_apply, h0, h1, h2])
  all_goals simp only [← EReal.coe_mul, coe_sum, c_half]
  all_goals refine dz_at o dy z ?_ ?_ ?_
  all_goals first | rfl | omega | exact (Fin.val_one 0).symm ▸ (by omega)
theorem dz_B (h0 : ¬ t.val % 16 = 0) (y : S2x256x2816.Idx) : (outsAt0 m c t.val t.isLt).1 y = up3 .bf16 (fun p r => dz o (dy r) (z r) p) y := by
  rw [outsAt0_B m c t h0 (by omega)]
  frame_out
  rw [e0, e2, e3]
  clear e0 e1 e2 e3 e4 e5 e6 h0
  canon_tiles x h
  all_goals (pointwise [k0_pay9, k0_pay10, k0_pay12, k0_pay13, k0_pay14, k0_pay8, k0_pay11, k0_pay7, up2_apply, up3_apply, h0, h1, h2])
  all_goals simp only [← EReal.coe_mul, coe_sum, c_half]
  all_goals refine dz_at o dy z ?_ ?_ ?_
  all_goals first | rfl | omega | exact (Fin.val_one 0).symm ▸ (by omega)
theorem dx_A8 (h0 : t.val % 16 = 0) (y : S256x1024.Idx) : (outsAt0 m c t.val t.isLt).2.1 y
    = ue2 .f32 (fun r => rowDx (x r) g (dh w (dz o (dy r) (z r))) (fun k => ((dy r k : ℝ) : EReal))) y := by
  rw [outsAt0_A m c t h0 (by have := lt16 t; omega)]
  frame_out
  rw [e0, e1, e2, e3, e4, e5, e6, pay16, pay17]
  clear e0 e1 e2 e3 e4 e5 e6 h0
  refine (congrFun (congrArg (fun q => k0_pay5 q _ _ _ _) (pay15_of w (fun r => dz o (dy r) (z r)) ?_ ?_ ?_ ?_)) y).trans (congrFun (pay5 _ _ _ _) y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
theorem dx_A9 (h0 : t.val % 16 = 0) (y : S256x1024.Idx) : (outsAt0 m c t.val t.isLt).2.2.1 y
    = ue2 .bf16 (fun r => rowDx (x r) g (dh w (dz o (dy r) (z r))) (fun k => ((dy r k : ℝ) : EReal))) y := by
  rw [outsAt0_A m c t h0 (by have := lt16 t; omega)]
  frame_out
  rw [e0, e1, e2, e3, e4, e5, e6, pay16, pay17]
  clear e0 e1 e2 e3 e4 e5 e6 h0
  refine (congrFun (congrArg (fun q => k0_pay6 q _ _ _ _) (pay15_of w (fun r => dz o (dy r) (z r)) ?_ ?_ ?_ ?_)) y).trans (congrFun (pay6 _ _ _ _) y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
theorem dx_B8 (h0 : ¬ t.val % 16 = 0) (y : S256x1024.Idx) : (outsAt0 m c t.val t.isLt).2.1 y
    = ue2 .f32 (fun r => rowDx (x r) g (dh w (dz o (dy r) (z r))) (fun k => ((dy r k : ℝ) : EReal))) y := by
  rw [outsAt0_B m c t h0 (by omega)]
  frame_out
  rw [e0, e1, e2, e3, e4, e5, e6, pay16, pay17]
  clear e0 e1 e2 e3 e4 e5 e6 h0
  refine (congrFun (congrArg (fun q => k0_pay5 q _ _ _ _) (pay15_of w (fun r => dz o (dy r) (z r)) ?_ ?_ ?_ ?_)) y).trans (congrFun (pay5 _ _ _ _) y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
theorem dx_B9 (h0 : ¬ t.val % 16 = 0) (y : S256x1024.Idx) : (outsAt0 m c t.val t.isLt).2.2.1 y
    = ue2 .bf16 (fun r => rowDx (x r) g (dh w (dz o (dy r) (z r))) (fun k => ((dy r k : ℝ) : EReal))) y := by
  rw [outsAt0_B m c t h0 (by omega)]
  frame_out
  rw [e0, e1, e2, e3, e4, e5, e6, pay16, pay17]
  clear e0 e1 e2 e3 e4 e5 e6 h0
  refine (congrFun (congrArg (fun q => k0_pay6 q _ _ _ _) (pay15_of w (fun r => dz o (dy r) (z r)) ?_ ?_ ?_ ?_)) y).trans (congrFun (pay6 _ _ _ _) y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
theorem dg_A (h0 : t.val % 16 = 0) (y : S1x1024.Idx) : (outsAt0 m c t.val t.isLt).2.2.2 y
    = ((∑ r, rowDg (x r) (dh w (dz o (dy r) (z r))) (y 1) : ℝ) : EReal) := by
  rw [outsAt0_A m c t h0 (by have := lt16 t; omega)]
  frame_out
  rw [e0, e2, e3, e4, e5, pay16, pay17]
  clear e0 e1 e2 e3 e4 e5 e6 h0
  refine (congrFun (congrArg (fun q => k0_pay3 q _ _) (pay15_of w (fun r => dz o (dy r) (z r)) ?_ ?_ ?_ ?_)) y).trans (congrFun (pay3 _ _) y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
theorem dg_B (h0 : ¬ t.val % 16 = 0) (y : S1x1024.Idx) : (outsAt0 m c t.val t.isLt).2.2.2 y
    = (outsAt0 m c (t.val - 1) (Nat.lt_of_le_of_lt (Nat.sub_le _ _) t.isLt)).2.2.2 y + ((∑ r, rowDg (x r) (dh w (dz o (dy r) (z r))) (y 1) : ℝ) : EReal) := by
  rw [outsAt0_B m c t h0 (by omega)]
  frame_out
  rw [e0, e2, e3, e4, e5, pay16, pay17]
  clear e0 e1 e2 e3 e4 e5 e6 h0
  refine (congrFun (congrArg (fun q => k0_pay4 q _ _ _) (pay15_of w (fun r => dz o (dy r) (z r)) ?_ ?_ ?_ ?_)) y).trans (pay4 _ _ _ y)
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
  · rw [View.readCov_eq_canon']
    funext j
    refine at_all (g := up3 .bf16 (fun p r => dz o (dy r) (z r) p)) _ ?_ ?_
    · intro y
      canon_tiles x h
      all_goals (pointwise [k0_pay9, k0_pay10, k0_pay12, k0_pay13, k0_pay14, k0_pay8, k0_pay11, k0_pay7, up2_apply, up3_apply, h0, h1, h2])
      all_goals simp only [← EReal.coe_mul, coe_sum, c_half]
      all_goals refine dz_at o dy z ?_ ?_ ?_
      all_goals first | rfl | omega | exact (Fin.val_one 0).symm ▸ (by omega)
    · pointwise [up3_apply]
  · funext i
    pointwise [up2_apply]
    rfl
end point

variable (x : Fin 2 → Fin 2048 → Fin 1024 → ℝ) (g : Fin 1024 → ℝ) (w : Fin 1024 → Fin 5632 → ℝ) (o : Fin 2816 → Fin 1024 → ℝ) (d : Fin 2 → Fin 2048 → Fin 1024 → ℝ)

/-- Row `r` of point `t`'s block, among all tokens. -/
def row (t : Fin cfg0.N) (r : Fin 256) : Fin 4096 := ⟨t.val * 256 + r.val, by have := lt16 t; omega⟩

theorem vx (hx : m ((c : Thread nD τ).loc main_arg0) = up3 .f32 x) : V m c main_v0 = up2 .f32 (flat 4096 rfl x) := by
  funext i
  entry_read
  rw [hx]
  pointwise [up3_apply, up2_apply]
  rfl
theorem vw (hw : m ((c : Thread nD τ).loc main_arg2) = up2 .f32 w) : V m c main_v2 = up2 .bf16 (fun j k => w k j) := by
  funext i
  entry_read
  rw [hw]
  pointwise [up2_apply]
theorem vh (hx : m ((c : Thread nD τ).loc main_arg0) = up3 .f32 x) (hg : m ((c : Thread nD τ).loc main_arg1) = up1 .f32 g) :
    V m c main_v18 = up2 .bf16 (fun n => hid (flat 4096 rfl x n) g) := by
  have h12 : V m c main_v12 = up2 .f32 (fun n _ => ms (flat 4096 rfl x n)) := by
    funext i
    entry_read
    rw [hx]
    pointwise [up3_apply, up2_apply]
    simp only [← EReal.coe_mul, coe_sum, c1024, c_eps, zero_add]
    rw [div_coe' _ _ (by norm_num), ← EReal.coe_add]
    rfl
  have h13 : V m c main_v13 = up2 .f32 (fun n _ => rr (flat 4096 rfl x n)) := by
    have s : @Eq (FVec Ideal S4096x1 .f32) (V m c main_v13) ((fun (a12 : FVec Ideal S4096x1 .f32) => Host.rsqrt a12) (V m c main_v12)) := by entry_read; rfl
    rw [s, h12]
    funext i
    pointwise [up2_apply]
    exact rsqrt_pos _ (ms_pos _)
  have s : @Eq (FVec Ideal S4096x1024 .bf16) (V m c main_v18) ((fun (a0 : FVec Ideal S4096x1024 .f32) (a13 : FVec Ideal S4096x1 .f32) (a5 : FVec Ideal S1x1024 .f32) => truncf .bf16 (mulf (mulf a0 (broadcastInDim S4096x1024 ![0, 1] bcast_S4096x1_S4096x1024_0_1 a13))
      (broadcastInDim S4096x1024 ![0, 1] bcast_S1x1024_S4096x1024_0_1 a5)) bitsLt_bf16_f32) (V m c main_v0) (V m c main_v13) (V m c main_v5)) := by entry_read; rfl
  have h5 : V m c main_v5 = up2 .f32 (fun _ => g) := by
    funext i
    entry_read
    rw [hg]
    pointwise [up1_apply, up2_apply]
  rw [s, vx m c x hx, h13, h5]
  funext i
  pointwise [up2_apply]
  rfl

section saved
variable (hx : m ((c : Thread nD τ).loc main_arg0) = up3 .f32 x) (hg : m ((c : Thread nD τ).loc main_arg1) = up1 .f32 g) (hw : m ((c : Thread nD τ).loc main_arg2) = up2 .f32 w)
include hx hg hw
theorem v20 : V m c main_v20 = up2 .f32 (fun n j => pre w (flat 4096 rfl x n) g (lo j)) := by
  have s : @Eq (FVec Ideal S4096x2816 .f32) (V m c main_v20) ((fun (a18 : FVec Ideal S4096x1024 .bf16) (a2 : FVec Ideal S5632x1024 .bf16) => Host.dotGeneral dot_S4096x1024_S2816x1024_S4096x2816_1_1_0_0_n_n none a18
      (extractStridedSlice S2816x1024 ![0, 0] a2 slices_S5632x1024_S2816x1024_0_0)) (V m c main_v18) (V m c main_v2)) := by entry_read; rfl
  rw [s, vh m c x g hx hg, vw m c w hw]
  funext i
  pointwise [up2_apply]
  simp only [← EReal.coe_mul, coe_sum, zero_add]
  rfl
theorem v22 : V m c main_v22 = up2 .f32 (fun n j => pre w (flat 4096 rfl x n) g (hi j)) := by
  have s : @Eq (FVec Ideal S4096x2816 .f32) (V m c main_v22) ((fun (a18 : FVec Ideal S4096x1024 .bf16) (a2 : FVec Ideal S5632x1024 .bf16) => Host.dotGeneral dot_S4096x1024_S2816x1024_S4096x2816_1_1_0_0_n_n none a18
      (extractStridedSlice S2816x1024 ![2816, 0] a2 slices_S5632x1024_S2816x1024_2816_0)) (V m c main_v18) (V m c main_v2)) := by entry_read; rfl
  rw [s, vh m c x g hx hg, vw m c w hw]
  funext i
  pointwise [up2_apply]
  simp only [← EReal.coe_mul, coe_sum, zero_add]
  rfl
theorem v29 : V m c main_v29 = up2 .f32 (fun n j => sg (pre w (flat 4096 rfl x n) g (lo j))) := by
  have s : @Eq (FVec Ideal S4096x2816 .f32) (V m c main_v29) ((fun (a20 : FVec Ideal S4096x2816 .f32) => addf (mulf (broadcastInDim S4096x2816 ![] bcast_S_S4096x2816 (constant S_ .f32 0x3F000000#32))
      (Host.tanh (mulf (broadcastInDim S4096x2816 ![] bcast_S_S4096x2816 (constant S_ .f32 0x3F000000#32)) a20)))
      (broadcastInDim S4096x2816 ![] bcast_S_S4096x2816 (constant S_ .f32 0x3F000000#32))) (V m c main_v20)) := by entry_read; rfl
  rw [s, v20 m c x g w hx hg hw]
  funext i
  pointwise [up2_apply]
  simp only [c_half, ← EReal.coe_mul, Ideal.tanh_coe, ← EReal.coe_add]
  exact congrArg _ (sg_tanh _)
theorem v39 : V m c main_v39 = up3 .bf16 (fun p n => slot w (flat 4096 rfl x n) g p) := by
  have s30 : @Eq (FVec Ideal S4096x2816 .f32) (V m c main_v30) ((fun (a20 : FVec Ideal S4096x2816 .f32) (a29 : FVec Ideal S4096x2816 .f32) => mulf a20 a29) (V m c main_v20) (V m c main_v29)) := by entry_read; rfl
  have s35 : @Eq (FVec Ideal S4096x2816 .f32) (V m c main_v35) ((fun (a22 : FVec Ideal S4096x2816 .f32) (a29 : FVec Ideal S4096x2816 .f32) (a30 : FVec Ideal S4096x2816 .f32) => mulf a22 (addf a29
      (mulf a30 (subf (broadcastInDim S4096x2816 ![] bcast_S_S4096x2816 (constant S_ .f32 0x3F800000#32)) a29)))) (V m c main_v22) (V m c main_v29) (V m c main_v30)) := by entry_read; rfl
  have h30 : V m c main_v30 = up2 .f32 (fun n j => pre w (flat 4096 rfl x n) g (lo j) * sg (pre w (flat 4096 rfl x n) g (lo j))) := by
    rw [s30, v20 m c x g w hx hg hw, v29 m c x g w hx hg hw]
    funext i
    pointwise [up2_apply]
    rfl
  have h35 : V m c main_v35 = up2 .f32 (fun n => slot w (flat 4096 rfl x n) g 0) := by
    rw [s35, h30, v22 m c x g w hx hg hw, v29 m c x g w hx hg hw]
    funext i
    pointwise [up2_apply]
    rw [← EReal.coe_one]
    simp only [← EReal.coe_mul, ← EReal.coe_sub, ← EReal.coe_add]
    rfl
  have s39 : @Eq (FVec Ideal S2x4096x2816 .bf16) (V m c main_v39) ((fun (a b : FVec Ideal S4096x2816 .f32) => truncf .bf16 (concatenate S2x4096x2816 0 [⟨S1x4096x2816, broadcastInDim S1x4096x2816 ![1, 2] bcast_S4096x2816_S1x4096x2816_1_2 a⟩,
      ⟨S1x4096x2816, broadcastInDim S1x4096x2816 ![1, 2] bcast_S4096x2816_S1x4096x2816_1_2 b⟩] concatenates_S1x4096x2816_S1x4096x2816_S2x4096x2816_d0) bitsLt_bf16_f32) (V m c main_v35) (V m c main_v30)) := by entry_read; rfl
  rw [s39, h35, h30]
  funext i
  pointwise [up2_apply, up3_apply]
  by_cases h : (i 0).val < 1
  · rw [dif_pos h]
    refine congrArg (fun a => ((slot w (flat 4096 rfl x (i 1)) g a (i 2) : ℝ) : EReal)) (Fin.ext ?_)
    show 0 = (i 0).val
    omega
  · rw [dif_neg h]
    exact congrArg _ (if_neg (by omega)).symm
end saved

theorem vd (hd : m ((c : Thread nD τ).loc main_arg4) = up3 .f32 d) : V m c main_v4 = up2 .f32 (flat 4096 rfl d) := by
  funext i
  entry_read
  rw [hd]
  pointwise [up3_apply, up2_apply]
  rfl
theorem vd16 (hd : m ((c : Thread nD τ).loc main_arg4) = up3 .f32 d) : V m c main_v40 = up2 .bf16 (flat 4096 rfl d) := by
  funext i
  entry_read
  rw [hd]
  pointwise [up3_apply, up2_apply]
  rfl
theorem in0 (t : Fin cfg0.N) (hd : m ((c : Thread nD τ).loc main_arg4) = up3 .f32 d) : iblk m c 0 t = up2 .bf16 (fun r => flat 4096 rfl d (row t r)) := by
  funext y
  blk_simp [iblk]
  rw [vd16 m c d hd, up2_apply]
  refine congrArg _ (congrArg₂ (flat 4096 rfl d) (Fin.ext ?_) (Fin.ext ?_)) <;> blk_simp [idx t] <;> first | omega | rfl
theorem in1 (t : Fin cfg0.N) (hd : m ((c : Thread nD τ).loc main_arg4) = up3 .f32 d) : iblk m c 1 t = up2 .f32 (fun r => flat 4096 rfl d (row t r)) := by
  funext y
  blk_simp [iblk]
  rw [vd m c d hd, up2_apply]
  refine congrArg _ (congrArg₂ (flat 4096 rfl d) (Fin.ext ?_) (Fin.ext ?_)) <;> blk_simp [idx t] <;> first | omega | rfl
theorem in5 (t : Fin cfg0.N) (hx : m ((c : Thread nD τ).loc main_arg0) = up3 .f32 x) : iblk m c 5 t = up2 .f32 (fun r => flat 4096 rfl x (row t r)) := by
  funext y
  blk_simp [iblk]
  rw [vx m c x hx, up2_apply]
  refine congrArg _ (congrArg₂ (flat 4096 rfl x) (Fin.ext ?_) (Fin.ext ?_)) <;> blk_simp [idx t] <;> first | omega | rfl
theorem in2 (t : Fin cfg0.N) (ho : m ((c : Thread nD τ).loc main_arg3) = up2 .f32 o) : iblk m c 2 t = up2 .bf16 o := by
  have h : V m c main_v3 = up2 .bf16 o := by
    funext i
    entry_read
    rw [ho]
    pointwise [up2_apply]
  funext y
  blk_simp [iblk]
  rw [h, up2_apply]
  refine congrArg _ (congrArg₂ o (Fin.ext ?_) (Fin.ext ?_)) <;> blk_simp [idx t] <;> try omega
theorem in4 (t : Fin cfg0.N) (hw : m ((c : Thread nD τ).loc main_arg2) = up2 .f32 w) : iblk m c 4 t = up2 .bf16 (fun j k => w k j) := by
  funext y
  blk_simp [iblk]
  rw [vw m c w hw, up2_apply]
  refine congrArg _ (congrArg₂ w (Fin.ext ?_) (Fin.ext ?_)) <;> blk_simp [idx t] <;> try omega
theorem in6 (t : Fin cfg0.N) (hg : m ((c : Thread nD τ).loc main_arg1) = up1 .f32 g) : iblk m c 6 t = up2 .f32 (fun _ => g) := by
  have h : V m c main_v41 = up2 .f32 (fun _ => g) := by
    funext i
    entry_read
    rw [hg]
    pointwise [up1_apply, up2_apply]
  funext y
  blk_simp [iblk]
  rw [h, up2_apply]
  refine congrArg _ (congrArg g (Fin.ext ?_)) <;> blk_simp [idx t] <;> try omega
theorem in3 (t : Fin cfg0.N) (hx : m ((c : Thread nD τ).loc main_arg0) = up3 .f32 x) (hg : m ((c : Thread nD τ).loc main_arg1) = up1 .f32 g) (hw : m ((c : Thread nD τ).loc main_arg2) = up2 .f32 w) :
    iblk m c 3 t = up3 .bf16 (fun p r => slot w (flat 4096 rfl x (row t r)) g p) := by
  funext y
  blk_simp [iblk]
  rw [v39 m c x g w hx hg hw, up3_apply, up3_apply]
  have e0 : ((cfg0.win 3).blk t).view.emb y 0 = y 0 := by refine Fin.ext ?_; blk_simp [idx t] <;> omega
  have e1 : ((cfg0.win 3).blk t).view.emb y 1 = row t (y 1) := by refine Fin.ext ?_; blk_simp [idx t] <;> first | rfl | omega
  have e2 : ((cfg0.win 3).blk t).view.emb y 2 = y 2 := by refine Fin.ext ?_; blk_simp [idx t] <;> omega
  rw [e0, e1, e2]

variable (hx : m ((c : Thread nD τ).loc main_arg0) = up3 .f32 x) (hg : m ((c : Thread nD τ).loc main_arg1) = up1 .f32 g) (hw : m ((c : Thread nD τ).loc main_arg2) = up2 .f32 w)
  (ho : m ((c : Thread nD τ).loc main_arg3) = up2 .f32 o) (hd : m ((c : Thread nD τ).loc main_arg4) = up3 .f32 d)
include hx hg hw ho hd

/-- The gradient with respect to the two halves, one plane each. -/
theorem final7 : (dats m 0 c).arrAt 7 (cfgs 0).N = up3 .bf16 (fun p n => dz o (flat 4096 rfl d n) (slot w (flat 4096 rfl x n) g) p) := by
  refine (dats m 0 c).arrAt_eq_of_covers 7 _ (by decide +kernel) fun t _ y => ?_
  blk_simp
  have key : up3 (n := 2) (k := 256) (l := 2816) .bf16 (fun p r => dz o (flat 4096 rfl d (row t r)) (slot w (flat 4096 rfl x (row t r)) g) p) y
      = up3 .bf16 (fun p n => dz o (flat 4096 rfl d n) (slot w (flat 4096 rfl x n) g) p) (((cfg0.win 7).blk t).view.emb y) := by
    rw [up3_apply, up3_apply]
    have e0 : ((cfg0.win 7).blk t).view.emb y 0 = y 0 := by refine Fin.ext ?_; blk_simp [idx t] <;> omega
    have e1 : ((cfg0.win 7).blk t).view.emb y 1 = row t (y 1) := by refine Fin.ext ?_; blk_simp [idx t] <;> first | rfl | omega
    have e2 : ((cfg0.win 7).blk t).view.emb y 2 = y 2 := by refine Fin.ext ?_; blk_simp [idx t] <;> omega
    rw [e0, e1, e2]
  refine Eq.trans ?_ key
  rw [after0_7]
  by_cases h0 : t.val % 16 = 0
  · exact dz_A m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
  · exact dz_B m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
/-- The gradient with respect to the rows. -/
theorem final8 : (dats m 0 c).arrAt 8 (cfgs 0).N = ue2 .f32 (fun n => outX w o (flat 4096 rfl x n) g (flat 4096 rfl d n)) := by
  refine (dats m 0 c).arrAt_eq_of_covers 8 _ (by decide +kernel) fun t _ y => ?_
  blk_simp
  have key : ue2 (n := 256) (k := 1024) .f32 (fun r => outX w o (flat 4096 rfl x (row t r)) g (flat 4096 rfl d (row t r))) y
      = ue2 .f32 (fun n => outX w o (flat 4096 rfl x n) g (flat 4096 rfl d n)) (((cfg0.win 8).blk t).view.emb y) := by
    rw [ue2_apply, ue2_apply]
    refine (congrArg₂ (fun n j => outX w o (flat 4096 rfl x n) g (flat 4096 rfl d n) j) (Fin.ext ?_) (Fin.ext ?_)) <;> blk_simp [idx t] <;> first | rfl | omega
  refine Eq.trans ?_ key
  rw [after0_8]
  by_cases h0 : t.val % 16 = 0
  · exact dx_A8 m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
  · exact dx_B8 m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
/-- The gradient with respect to the rows at the narrow format. -/
theorem final9 : (dats m 0 c).arrAt 9 (cfgs 0).N = ue2 .bf16 (fun n => outX w o (flat 4096 rfl x n) g (flat 4096 rfl d n)) := by
  refine (dats m 0 c).arrAt_eq_of_covers 9 _ (by decide +kernel) fun t _ y => ?_
  blk_simp
  have key : ue2 (n := 256) (k := 1024) .bf16 (fun r => outX w o (flat 4096 rfl x (row t r)) g (flat 4096 rfl d (row t r))) y
      = ue2 .bf16 (fun n => outX w o (flat 4096 rfl x n) g (flat 4096 rfl d n)) (((cfg0.win 9).blk t).view.emb y) := by
    rw [ue2_apply, ue2_apply]
    refine (congrArg₂ (fun n j => outX w o (flat 4096 rfl x n) g (flat 4096 rfl d n) j) (Fin.ext ?_) (Fin.ext ?_)) <;> blk_simp [idx t] <;> first | rfl | omega
  refine Eq.trans ?_ key
  rw [after0_9]
  by_cases h0 : t.val % 16 = 0
  · exact dx_A9 m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
  · exact dx_B9 m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h0 y
/-- The gradient with respect to the norm's scale. -/
theorem final10 : (dats m 0 c).arrAt 10 (cfgs 0).N = up2 .f32 (fun _ j => ∑ n, outG w o (flat 4096 rfl x n) g (flat 4096 rfl d n) j) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0)
    (fun p j => ((∑ r, outG w o (flat 4096 rfl x (row p r)) g (flat 4096 rfl d (row p r)) (j 1) : ℝ) : EReal))
    (fun t h j => (dg_A m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h j).trans (zero_add _).symm)
    (fun t h j => dg_B m c t (fun r => flat 4096 rfl d (row t r)) (fun r => flat 4096 rfl x (row t r)) o (fun r => slot w (flat 4096 rfl x (row t r)) g) w g (in0 m c d t hd) (in1 m c d t hd) (in2 m c o t ho) (in3 m c x g w t hx hg hw) (in4 m c w t hw) (in5 m c x t hx) (in6 m c g t hg) h j)
    (le_of_eq N_0) t0_15 rfl j, zero_add]
  refine (coe_sum (Finset.univ : Finset (Fin 16)) _).trans ?_
  rw [up2_apply]
  exact congrArg _ (Fin.sum_mul_add_congr fun p r hl => rfl)

omit hx hg hw ho hd in
/-- The run from real arguments. -/
theorem run (ρ : Dev nD → PrngReg)
    (x : Dev nD → Fin 2 → Fin 2048 → Fin 1024 → ℝ) (g : Dev nD → Fin 1024 → ℝ) (w : Dev nD → Fin 1024 → Fin 5632 → ℝ)
    (o : Dev nD → Fin 2816 → Fin 1024 → ℝ) (d : Dev nD → Fin 2 → Fin 2048 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (hw : ∀ c : Dev nD, m ((c.tc : Thread nD τ).loc main_arg2) = up2 .f32 (w c)) (ho : ∀ c : Dev nD, m ((c.tc : Thread nD τ).loc main_arg3) = up2 .f32 (o c))
    (hd : ∀ c : Dev nD, m ((c.tc : Thread nD τ).loc main_arg4) = up3 .f32 (d c)) :
    θ_run defs (onTc (τ := τ) (main (F := Ideal))) ⟨m, fun _ => 0, ρ⟩ fun r => ∀ c : Dev nD,
      r.2.mem ((c.tc : Thread nD τ).loc main_v42_0) = up3 .bf16 (fun p n => dz (o c) (flat 4096 rfl (d c) n) (slot (w c) (flat 4096 rfl (x c) n) (g c)) p)
      ∧ r.2.mem ((c.tc : Thread nD τ).loc main_v42_1) = ue2 .f32 (fun n => outX (w c) (o c) (flat 4096 rfl (x c) n) (g c) (flat 4096 rfl (d c) n))
      ∧ r.2.mem ((c.tc : Thread nD τ).loc main_v42_2) = ue2 .bf16 (fun n => outX (w c) (o c) (flat 4096 rfl (x c) n) (g c) (flat 4096 rfl (d c) n))
      ∧ r.2.mem ((c.tc : Thread nD τ).loc main_v42_3) = up2 .f32 (fun _ j => ∑ n, outG (w c) (o c) (flat 4096 rfl (x c) n) (g c) (flat 4096 rfl (d c) n) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Kernel4Ideal.Value.run_blocks m ρ)
  obtain ⟨h0, h1, h2, h3, h4⟩ := h c
  exact ⟨h0.trans (final7 m c _ _ _ _ _ (hx c) (hg c) (hw c) (ho c) (hd c)), h1.trans (final8 m c _ _ _ _ _ (hx c) (hg c) (hw c) (ho c) (hd c)),
    h2.trans (final9 m c _ _ _ _ _ (hx c) (hg c) (hw c) (ho c) (hd c)), h3.trans (final10 m c _ _ _ _ _ (hx c) (hg c) (hw c) (ho c) (hd c)), h4⟩

end Cert.FfnK
-- ==== Proof.FfnR.lean ====
module
public import proofs.«01_k».proof.Proof.Gen.Reference4Ideal.Read
public import proofs.«01_k».proof.Proof.Lift
public import proofs.«01_k».proof.Proof.FfnMath
@[expose] public section
set_option maxRecDepth 16384
noncomputable section
namespace Cert.FfnR
open Idealize.ShloMosaic Idealize.ShloMosaic.TcCoe Idealize.SL.Sem
open Cert.Reference4Ideal Cert.Reference4Ideal.Gen Cert.Reference4Ideal.Read Cert.Lift Cert.Rms Cert.NormMath Cert.FfnMath

variable (x : Fin 2 → Fin 2048 → Fin 1024 → ℝ) (g : Fin 1024 → ℝ) (w : Fin 1024 → Fin 5632 → ℝ) (o : Fin 2816 → Fin 1024 → ℝ) (d : Fin 2 → Fin 2048 → Fin 1024 → ℝ)

theorem v6 : val_main_v6 (F := Ideal) (up3 .f32 x) = up3 .f32 (fun b s _ => ms (x b s)) := by
  funext i
  pointwise [val_main_v6, val_main_v5, val_main_cst_1, val_main_v4, val_main_v3, val_main_cst_0, val_main_v2, val_main_v1, val_main_cst, val_main_v0, up3_apply]
  simp only [← EReal.coe_mul, coe_sum, c1024, c_eps, zero_add]
  rw [div_coe' _ _ (by norm_num), ← EReal.coe_add]
  rfl
theorem v7 : val_main_v7 (F := Ideal) (up3 .f32 x) = up3 .f32 (fun b s _ => rr (x b s)) := by
  funext i
  pointwise [val_main_v7, v6, up3_apply]
  exact rsqrt_pos _ (ms_pos _)
theorem v10 : val_main_v10 (F := Ideal) (up3 .f32 x) = up3 .f32 (fun b s _ => -1 / 2 * (rr (x b s) * (1 / ms (x b s)))) := by
  funext i
  pointwise [val_main_v10, val_main_v9, val_main_cst_2, val_main_v8, v7, v6, up3_apply]
  rw [div_coe' _ _ (ms_pos _).ne', c_neg_half]
  rfl
theorem v12 : val_main_v12 (F := Ideal) (up3 .f32 x) = up3 .f32 (fun b s => nrm (x b s)) := by
  funext i
  pointwise [val_main_v12, val_main_v11, v7, up3_apply]
  rfl
theorem v16 : val_main_v16 (F := Ideal) (up3 .f32 x) (up1 .f32 g) (up2 .f32 w) = up3 .f32 (fun b s => pre w (x b s) g) := by
  funext i
  pointwise [val_main_v16, val_main_v15, val_main_v14, val_main_v13, v12, up3_apply, up2_apply, up1_apply]
  simp only [← EReal.coe_mul, coe_sum, zero_add]
  rfl
theorem v17 : val_main_v17 (F := Ideal) (up3 .f32 x) (up1 .f32 g) (up2 .f32 w) = up3 .f32 (fun b s j => pre w (x b s) g (lo j)) := by
  funext i
  pointwise [val_main_v17, v16, up3_apply]
  rfl
theorem v19 : val_main_v19 (F := Ideal) (up3 .f32 x) (up1 .f32 g) (up2 .f32 w) = up3 .f32 (fun b s j => pre w (x b s) g (hi j)) := by
  funext i
  pointwise [val_main_v19, v16, up3_apply]
  rfl
theorem v18_2 : val_main_v18_2 (F := Ideal) (up3 .f32 x) (up1 .f32 g) (up2 .f32 w) = up3 .f32 (fun b s j => sg (pre w (x b s) g (lo j))) := by
  funext i
  pointwise [val_main_v18_2, val_main_call0_v4, val_main_call0_cst_0, val_main_call0_v3, val_main_call0_v2, val_main_call0_cst, val_main_call0_v1, val_main_call0_v0, v17, up3_apply]
  simp only [← EReal.coe_neg, Ideal.exp_coe]
  rw [← EReal.coe_one, ← EReal.coe_add, div_coe' _ _ (by have := Real.exp_pos (-pre w (x (i 0) (i 1)) g (lo (i 2))); positivity)]
  refine congrArg _ ?_
  rw [one_mul]
  rfl
theorem v18_1 : val_main_v18_1 (F := Ideal) (up3 .f32 x) (up1 .f32 g) (up2 .f32 w)
    = up3 .f32 (fun b s j => sg (pre w (x b s) g (lo j)) * (1 - sg (pre w (x b s) g (lo j)))) := by
  funext i
  pointwise [val_main_v18_1, val_main_call0_v7, val_main_call0_v6, val_main_call0_cst_1, v18_2, up3_apply]
  rw [← EReal.coe_one, ← EReal.coe_sub]
  rfl
theorem v18_0 : val_main_v18_0 (F := Ideal) (up3 .f32 x) (up1 .f32 g) (up2 .f32 w)
    = up3 .f32 (fun b s j => pre w (x b s) g (lo j) * sg (pre w (x b s) g (lo j))) := by
  funext i
  pointwise [val_main_v18_0, v17, v18_2, up3_apply]
  rfl
theorem v26 : val_main_v26 (F := Ideal) (up2 .f32 o) (up3 .f32 d) = up3 .f32 (fun b s => da o (d b s)) := by
  funext i
  pointwise [val_main_v26, val_main_v25, val_main_v24, val_main_cst_4, up3_apply, up2_apply]
  simp only [← EReal.coe_mul, coe_sum, zero_add, c_half]
  refine congrArg _ ?_
  unfold da
  rw [Finset.sum_mul]
  exact Finset.sum_congr rfl fun k _ => by ring
theorem v27 : val_main_v27 (F := Ideal) (up3 .f32 x) (up1 .f32 g) (up2 .f32 w) (up2 .f32 o) (up3 .f32 d)
    = up3 .f32 (fun b s => dz o (d b s) (slot w (x b s) g) 1) := by
  funext i
  pointwise [val_main_v27, v18_0, v26, up3_apply]
  rw [← EReal.coe_mul]
  exact congrArg _ (mul_comm _ _)
theorem v30 : val_main_v30 (F := Ideal) (up3 .f32 x) (up1 .f32 g) (up2 .f32 w) (up2 .f32 o) (up3 .f32 d)
    = up3 .f32 (fun b s => dz o (d b s) (slot w (x b s) g) 0) := by
  funext i
  pointwise [val_main_v30, val_main_call1_v2, val_main_call1_v1, val_main_call1_v0, val_main_v28, v17, v19, v18_1, v18_2, v26, up3_apply]
  simp only [← EReal.coe_mul, ← EReal.coe_add]
  exact congrArg _ (left_eq _ _ _)
theorem v32 : val_main_v32 (F := Ideal) (up3 .f32 x) (up1 .f32 g) (up2 .f32 w) (up2 .f32 o) (up3 .f32 d)
    = up3 .f32 (fun b s => dzf o (d b s) (slot w (x b s) g)) := by
  funext i
  by_cases h : (i 2).val < 2816
  · pointwise [val_main_v32, val_main_v31, val_main_v29, val_main_cst_5, val_main_cst_6, v27, v30, up3_apply, h]
    rw [dif_neg (by omega), zero_add]
    exact congrArg _ (dif_pos h : dzf o _ _ (i 2) = _).symm
  · pointwise [val_main_v32, val_main_v31, val_main_v29, val_main_cst_5, val_main_cst_6, v27, v30, up3_apply, h]
    rw [dif_pos ⟨by omega, by have : (i 2).val < 5632 := (i 2).isLt; omega⟩]
    exact congrArg _ (dif_neg h : dzf o _ _ (i 2) = _).symm
theorem v33 : val_main_v33 (F := Ideal) (up3 .f32 x) (up1 .f32 g) (up2 .f32 w) (up2 .f32 o) (up3 .f32 d)
    = up3 .f32 (fun b s => dh w (dz o (d b s) (slot w (x b s) g))) := by
  funext i
  pointwise [val_main_v33, v32, up3_apply, up2_apply]
  simp only [← EReal.coe_mul, coe_sum, zero_add]
  exact congrArg _ (sum_dzf _ _ _ _ _)
theorem v38 : val_main_v38 (F := Ideal) (up3 .f32 x) (up1 .f32 g) (up2 .f32 w) (up2 .f32 o) (up3 .f32 d)
    = up3 .f32 (fun b s j => dh w (dz o (d b s) (slot w (x b s) g)) j * g j) := by
  funext i
  pointwise [val_main_v38, val_main_v37, val_main_v13, v33, up3_apply, up1_apply]
  rfl
theorem v48 : val_main_v48 (F := Ideal) (up3 .f32 x) (up1 .f32 g) (up2 .f32 w) (up2 .f32 o) (up3 .f32 d)
    = up2 .f32 (fun b s => slope (x b s) (fun j => dh w (dz o (d b s) (slot w (x b s) g)) j * g j)) := by
  funext i
  pointwise [val_main_v48, val_main_cst_11, val_main_v47, val_main_v46, val_main_cst_10, val_main_v45, val_main_v42, val_main_v41, val_main_cst_9, val_main_v40, v38, v10, up3_apply, up2_apply]
  simp only [Finset.univ_unique, Finset.sum_singleton, ← EReal.coe_mul, coe_sum, c1024, zero_add]
  rw [div_coe' _ _ (by norm_num)]
  rfl
theorem v55 : val_main_v55 (F := Ideal) (up3 .f32 x) (up1 .f32 g) (up2 .f32 w) (up2 .f32 o) (up3 .f32 d)
    = ue2 .f32 (fun n => outX w o (flat 4096 rfl x n) g (flat 4096 rfl d n)) := by
  funext i
  pointwise [val_main_v55, val_main_v54, val_main_v53, val_main_v52, val_main_v51, val_main_v50, val_main_v49, val_main_v44, val_main_v43, v48, v38, v7, up3_apply, ue2_apply, up2_apply]
  simp only [← EReal.coe_mul, ← EReal.coe_add]
  refine (congrArg (fun q : ℝ => ((d _ _ _ + q : ℝ) : EReal)) (dnorm_eq (flat 4096 rfl x (i 0)) (fun j => dh w (dz o (flat 4096 rfl d (i 0)) (slot w (flat 4096 rfl x (i 0)) g)) j * g j) (i 1))).trans ?_
  rw [EReal.coe_add]
  rfl
theorem v59 : val_main_v59 (F := Ideal) (up3 .f32 x) (up1 .f32 g) (up2 .f32 w) (up2 .f32 o) (up3 .f32 d)
    = ue2 .bf16 (fun n => outX w o (flat 4096 rfl x n) g (flat 4096 rfl d n)) := by
  funext i
  pointwise [val_main_v59, v55, ue2_apply]
theorem v58 : val_main_v58 (F := Ideal) (up3 .f32 x) (up1 .f32 g) (up2 .f32 w) (up2 .f32 o) (up3 .f32 d)
    = up3 .bf16 (fun p n => dz o (flat 4096 rfl d n) (slot w (flat 4096 rfl x n) g) p) := by
  funext i
  pointwise [val_main_v58, val_main_v57, val_main_v56, v32, up3_apply]
  exact congrArg _ (dzf_eq _ _ _ _ _ _ rfl)
theorem v60 : val_main_v60 (F := Ideal) (up3 .f32 x) (up1 .f32 g) (up2 .f32 w) (up2 .f32 o) (up3 .f32 d)
    = up2 .f32 (fun _ j => ∑ n, outG w o (flat 4096 rfl x n) g (flat 4096 rfl d n) j) := by
  funext i
  pointwise [val_main_v60, val_main_v39, val_main_cst_8, val_main_v36, val_main_v35, val_main_cst_7, val_main_v34, v12, v33, up3_apply, up2_apply]
  rw [hostSum_first_two]
  pointwise [up3_apply]
  simp only [hostSum_first_two]
  pointwise [up3_apply]
  simp only [Finset.univ_unique, Finset.sum_singleton, ← EReal.coe_mul, coe_sum]
  exact congrArg _ ((Fin.sum_divmod_congr (S := 2048) fun n ha hs => mul_comm _ _).symm)

/-- The run from real arguments. -/
theorem run (m : (ℓ : Loc nD τ sig) → Buf (Elt Ideal) ℓ) (ρ : Dev nD → PrngReg)
    (x : Dev nD → Fin 2 → Fin 2048 → Fin 1024 → ℝ) (g : Dev nD → Fin 1024 → ℝ) (w : Dev nD → Fin 1024 → Fin 5632 → ℝ)
    (o : Dev nD → Fin 2816 → Fin 1024 → ℝ) (d : Dev nD → Fin 2 → Fin 2048 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (hw : ∀ c : Dev nD, m ((c.tc : Thread nD τ).loc main_arg2) = up2 .f32 (w c)) (ho : ∀ c : Dev nD, m ((c.tc : Thread nD τ).loc main_arg3) = up2 .f32 (o c))
    (hd : ∀ c : Dev nD, m ((c.tc : Thread nD τ).loc main_arg4) = up3 .f32 (d c)) :
    θ_run defs (onTc (τ := τ) (main (F := Ideal))) ⟨m, fun _ => 0, ρ⟩ fun r => ∀ c : Dev nD,
      r.2.mem ((c.tc : Thread nD τ).loc main_v58) = up3 .bf16 (fun p n => dz (o c) (flat 4096 rfl (d c) n) (slot (w c) (flat 4096 rfl (x c) n) (g c)) p)
      ∧ r.2.mem ((c.tc : Thread nD τ).loc main_v55) = ue2 .f32 (fun n => outX (w c) (o c) (flat 4096 rfl (x c) n) (g c) (flat 4096 rfl (d c) n))
      ∧ r.2.mem ((c.tc : Thread nD τ).loc main_v59) = ue2 .bf16 (fun n => outX (w c) (o c) (flat 4096 rfl (x c) n) (g c) (flat 4096 rfl (d c) n))
      ∧ r.2.mem ((c.tc : Thread nD τ).loc main_v60) = up2 .f32 (fun _ j => ∑ n, outG (w c) (o c) (flat 4096 rfl (x c) n) (g c) (flat 4096 rfl (d c) n) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference4Ideal.Value.run m ρ)
  obtain ⟨h0, h1, h2, h3, h4⟩ := h c
  exact ⟨h0.trans ((val_main_v58_eq m c).trans (by rw [hd, hw, hx, hg, ho]; exact v58 _ _ _ _ _)),
    h1.trans ((val_main_v55_eq m c).trans (by rw [hd, hw, hx, hg, ho]; exact v55 _ _ _ _ _)),
    h2.trans ((val_main_v59_eq m c).trans (by rw [hd, hw, hx, hg, ho]; exact v59 _ _ _ _ _)),
    h3.trans ((val_main_v60_eq m c).trans (by rw [hd, hw, hx, hg, ho]; exact v60 _ _ _ _ _)), h4⟩
end Cert.FfnR
-- ==== Proof.Ffn.lean ====
module
public import proofs.«01_k».proof.Defs
public import proofs.«01_k».proof.Proof.Gen.Kernel4
public import proofs.«01_k».proof.Proof.Gen.Kernel4.Frame
public import proofs.«01_k».proof.Proof.Gen.Pre_finite4
public import proofs.«01_k».proof.Proof.FfnK
public import proofs.«01_k».proof.Proof.FfnR
public import Idealize.ShloMosaic.Adequacy
public import Idealize.ShloMosaic.Init
public import Idealize.ShloMosaic.Lib.Quiescent
@[expose] public section
set_option maxRecDepth 16384
noncomputable section
namespace Cert.Ffn
open Idealize.ShloMosaic Idealize.ShloMosaic.TcCoe Idealize.SL.Sem Cert.Lift

/-- The precondition says that the arguments it speaks of are arrays of real numbers. -/
theorem real (x : FVec Ideal Cert.Pre_finite4.S2x2048x1024 .f32)
    (g : FVec Ideal Cert.Pre_finite4.S1024 .f32)
    (w : FVec Ideal Cert.Pre_finite4.S1024x5632 .f32)
    (o : FVec Ideal Cert.Pre_finite4.S2816x1024 .f32)
    (d : FVec Ideal Cert.Pre_finite4.S2x2048x1024 .f32)
    (h : @Cert.Pre_finite4.fn Cert.Pre_finite4.Gen.facts Ideal _ x g w o d = fun _ => 1#1) :
    ∃ (x' : Fin 2 → Fin 2048 → Fin 1024 → ℝ) (g' : Fin 1024 → ℝ) (w' : Fin 1024 → Fin 5632 → ℝ) (o' : Fin 2816 → Fin 1024 → ℝ) (d' : Fin 2 → Fin 2048 → Fin 1024 → ℝ),
      x = up3 .f32 x' ∧ g = up1 .f32 g' ∧ w = up2 .f32 w' ∧ o = up2 .f32 o' ∧ d = up3 .f32 d' := by
  have h0 := congrFun h (fun a => a.elim0)
  dsimp only [Cert.Pre_finite4.fn, Cert.Pre_finite4.fn_part1] at h0
  obtain ⟨a1, b1⟩ := and_one h0
  obtain ⟨a2, b2⟩ := and_one a1
  obtain ⟨a3, b3⟩ := and_one a2
  obtain ⟨a4, b4⟩ := and_one a3
  obtain ⟨x', ex⟩ := exists_up3 .f32 x (finite_of_reduce x _ inf_apply _ _ _ _ a4)
  obtain ⟨g', eg⟩ := exists_up1 .f32 g (finite_of_reduce g _ inf_apply _ _ _ _ b4)
  obtain ⟨w', ew⟩ := exists_up2 .f32 w (finite_of_reduce w _ inf_apply _ _ _ _ b3)
  obtain ⟨o', eo⟩ := exists_up2 .f32 o (finite_of_reduce o _ inf_apply _ _ _ _ b2)
  obtain ⟨d', ed⟩ := exists_up3 .f32 d (finite_of_reduce d _ inf_apply _ _ _ _ b1)
  exact ⟨x', g', w', o', d', ex, eg, ew, eo, ed⟩

theorem frame_kernel : Cert.quiescent_Kernel4 (hKernel4 := Cert.Kernel4.Gen.facts) := fun m ρ _ => Cert.Kernel4.Gen.frame m ρ
theorem frame_ideal : Cert.quiescent_Kernel4Ideal (hKernel4Ideal := Cert.Kernel4Ideal.Gen.facts) :=
  fun m ρ _ => Cert.Kernel4Ideal.Gen.frame m ρ
theorem frame_ideal_pre : Cert.quiescent_Kernel4Ideal_pre_finite4 (hKernel4Ideal := Cert.Kernel4Ideal.Gen.facts) (hPre_finite4 := Cert.Pre_finite4.Gen.facts) :=
  fun m ρ _ => Cert.Kernel4Ideal.Gen.frame m ρ
theorem frame_reference : Cert.quiescent_Reference4Ideal (hReference4Ideal := Cert.Reference4Ideal.Gen.facts) :=
  fun m ρ _ => (θ_run Cert.Reference4Ideal.defs _ _).mono
    (fun r h => ⟨fun c => (h c).2.2.2.2, sem_eq_zero_of_no_sems (by decide) r.2⟩) (Cert.Reference4Ideal.Value.run m ρ)
theorem frame_reference_pre : Cert.quiescent_Reference4Ideal_pre_finite4 (hReference4Ideal := Cert.Reference4Ideal.Gen.facts) (hPre_finite4 := Cert.Pre_finite4.Gen.facts) :=
  fun m ρ _ => frame_reference m ρ trivial

/-- The gradients of the gated feed-forward layer are its reference's. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m0 g0 m1 g1 hpre hagree
  choose x g w o d hx hg hw ho hd using fun c => real _ _ _ _ _ (hpre c)
  exact ⟨_, _, _, _, Cert.FfnK.run m0 g0 x g w o d hx hg hw ho hd,
    Cert.FfnR.run m1 g1 x g w o d
      (fun c => (hagree c).1.trans (hx c))
      (fun c => (hagree c).2.1.trans (hg c))
      (fun c => (hagree c).2.2.1.trans (hw c))
      (fun c => (hagree c).2.2.2.1.trans (ho c))
      (fun c => (hagree c).2.2.2.2.trans (hd c))⟩
end Cert.Ffn
-- ==== Proof.AttnMath.lean ====
module
public import Mathlib.Analysis.SpecialFunctions.Exp
public import Mathlib.Tactic.Ring
public import Mathlib.Tactic.FieldSimp
public import Mathlib.Algebra.BigOperators.Group.Finset.Basic
@[expose] public section
set_option maxRecDepth 16384

noncomputable section
namespace Cert.AttnMath

variable {D M : ℕ} [NeZero M]

/-- The score of a query `q` at key `m`. -/
def score (q : Fin D → ℝ) (K : Fin M → Fin D → ℝ) (m : Fin M) : ℝ := (∑ d, q d * K m d) * (1 / 16)
/-- The largest of some numbers. -/
def top (s : Fin M → ℝ) : ℝ := Finset.univ.sup' Finset.univ_nonempty s
/-- The exponentials of some numbers less the largest. -/
def ex (s : Fin M → ℝ) (m : Fin M) : ℝ := Real.exp (s m - top s)
def tot (s : Fin M → ℝ) : ℝ := ∑ m, ex s m
/-- The weights. -/
def prob (s : Fin M → ℝ) (m : Fin M) : ℝ := ex s m * (1 / tot s)
/-- The gradient with respect to a score, from the gradients `dp` with respect to the weights. -/
def dscore (s dp : Fin M → ℝ) (m : Fin M) : ℝ := prob s m * (dp m - ∑ k, dp k * prob s k) * (1 / 16)

theorem tot_pos (s : Fin M → ℝ) : 0 < tot s := Finset.sum_pos (fun _ _ => Real.exp_pos _) Finset.univ_nonempty

/-- The same gradient, as the derivative of the quotient. -/
theorem dscore_eq (s dp : Fin M → ℝ) (m : Fin M) :
    (dp m * (1 / tot s) + -(∑ k, dp k * (1 / (tot s * tot s)) * ex s k)) * ex s m * (1 / 16) = dscore s dp m := by
  have h := (tot_pos s).ne'
  have e : ∑ k, dp k * (1 / (tot s * tot s)) * ex s k = (∑ k, dp k * prob s k) * (1 / tot s) := by
    rw [Finset.sum_mul]
    refine Finset.sum_congr rfl fun k _ => ?_
    unfold prob
    field_simp
  rw [e]
  unfold dscore prob
  ring

/-- The heads of the query, of the key, of the value and of the output's gradient. -/
def qh (z : Fin 2 → Fin 2048 → Fin 5120 → ℝ) (b : Fin 2) (t : Fin 2048) (h : Fin 4) (d : Fin 256) : ℝ := z b t ⟨4096 + (h.val * 256 + d.val), by omega⟩
def kh (kv : Fin 2 → Fin 256 → Fin 2048 → ℝ) (b : Fin 2) (t : Fin 256) (h : Fin 4) (d : Fin 256) : ℝ := kv b t ⟨h.val * 256 + d.val, by omega⟩
def vh (kv : Fin 2 → Fin 256 → Fin 2048 → ℝ) (b : Fin 2) (t : Fin 256) (h : Fin 4) (d : Fin 256) : ℝ := kv b t ⟨1024 + (h.val * 256 + d.val), by omega⟩
def oh (dc : Fin 2 → Fin 2048 → Fin 2048 → ℝ) (b : Fin 2) (t : Fin 2048) (h : Fin 4) (d : Fin 256) : ℝ := dc b t ⟨1024 + (h.val * 256 + d.val), by omega⟩

variable (q o : Fin 2 → Fin 2048 → Fin 4 → Fin 256 → ℝ) (k v : Fin 2 → Fin 256 → Fin 4 → Fin 256 → ℝ)
/-- The scores of a query's row. -/
def sc (b : Fin 2) (h : Fin 4) (t : Fin 2048) : Fin 256 → ℝ := score (q b t h) (fun m => k b m h)
/-- The gradients with respect to the weights of a query's row. -/
def dp (b : Fin 2) (h : Fin 4) (t : Fin 2048) (m : Fin 256) : ℝ := ∑ d, o b t h d * v b m h d
def ds (b : Fin 2) (h : Fin 4) (t : Fin 2048) : Fin 256 → ℝ := dscore (sc q k b h t) (dp o v b h t)
/-- The gradients with respect to query, key and value, by head. -/
def dq (b : Fin 2) (t : Fin 2048) (h : Fin 4) (d : Fin 256) : ℝ := ∑ m, ds q o k v b h t m * k b m h d
def dk (b : Fin 2) (m : Fin 256) (h : Fin 4) (d : Fin 256) : ℝ := ∑ t, ds q o k v b h t m * q b t h d
def dv (b : Fin 2) (m : Fin 256) (h : Fin 4) (d : Fin 256) : ℝ := ∑ t, prob (sc q k b h t) m * o b t h d
/-- An array by head as rows, the heads side by side. -/
def rows {T N : ℕ} (e : N = 2 * T) (x : Fin 2 → Fin T → Fin 4 → Fin 256 → ℝ) (n : Fin N) (j : Fin 1024) : ℝ :=
  x ⟨n.val / T, Nat.div_lt_of_lt_mul (by have := n.isLt; omega)⟩
    ⟨n.val % T, Nat.mod_lt _ (Nat.pos_of_ne_zero fun e => by have := n.isLt; subst e; omega)⟩ ⟨j.val / 256, by omega⟩ ⟨j.val % 256, by omega⟩

end Cert.AttnMath
-- ==== Proof.AttnK.lean ====
module
public import proofs.«01_k».proof.Proof.Gen.Kernel5Ideal.Value
public import proofs.«01_k».proof.Proof.Lift
public import proofs.«01_k».proof.Proof.AttnMath
@[expose] public section
set_option maxRecDepth 16384
noncomputable section
namespace Cert.AttnK
open Idealize.ShloMosaic Idealize.ShloMosaic.TcCoe Idealize.SL.Sem
open Idealize.ShloMosaic.Pipeline (Dat)
open Cert.Kernel5Ideal Cert.Kernel5Ideal.Gen Cert.Lift Cert.AttnMath

section body
variable (q : Fin 2048 → Fin 256 → ℝ) (k v : Fin 256 → Fin 256 → ℝ) (o : Fin 2048 → Fin 256 → ℝ)

theorem pay7 : k0_pay7 (F := Ideal) (up2 .f32 q) (up2 .f32 k) = up2 .f32 (fun t => prob (score (q t) k)) := by
  funext i
  pointwise [k0_pay7, k0_pay4, k0_pay5, up2_apply]
  simp only [← EReal.coe_mul, coe_sum, c_sixteenth, zero_add, c_neg_inf, fold_max_coe, ← EReal.coe_sub, Ideal.exp_coe]
  exact div_coe' _ _ (tot_pos (score (q (i 0)) k)).ne'
theorem pay8 : k0_pay8 (F := Ideal) (up2 .f32 q) (up2 .f32 k) (up2 .bf16 o) = up2 .f32 (fun m d => ∑ t, prob (score (q t) k) m * o t d) := by
  funext i
  pointwise [k0_pay8, pay7, k0_pay6, up2_apply]
  simp only [← EReal.coe_mul, coe_sum, zero_add]
theorem pay9 : k0_pay9 (F := Ideal) (up2 .f32 q) (up2 .f32 k) (up2 .f32 v) (up2 .bf16 o)
    = up2 .bf16 (fun t => dscore (score (q t) k) (fun m => ∑ d, o t d * v m d)) := by
  funext i
  pointwise [k0_pay9, pay7, k0_pay6, up2_apply]
  simp only [← EReal.coe_mul, coe_sum, zero_add, c_sixteenth, ← EReal.coe_sub]
  rfl
theorem pay10 : k0_pay10 (F := Ideal) (up2 .f32 q) (up2 .f32 k) (up2 .f32 v) (up2 .bf16 o)
    = up2 .bf16 (fun t d => ∑ m, dscore (score (q t) k) (fun m => ∑ d, o t d * v m d) m * k m d) := by
  funext i
  pointwise [k0_pay10, pay9, k0_pay5, up2_apply]
  simp only [← EReal.coe_mul, coe_sum, zero_add]
theorem pay1 : k0_pay1 (F := Ideal) (k0_pay4 (up2 .f32 q)) (k0_pay9 (up2 .f32 q) (up2 .f32 k) (up2 .f32 v) (up2 .bf16 o))
    = up2 .f32 (fun m d => ∑ t, dscore (score (q t) k) (fun m => ∑ d, o t d * v m d) m * q t d) := by
  funext i
  pointwise [k0_pay1, pay9, k0_pay4, up2_apply]
  simp only [← EReal.coe_mul, coe_sum, zero_add]
end body

theorem idx : ∀ t : Fin cfg0.N, win0_0.index t = ![t.val / 4, 16 + t.val % 4] ∧ win0_1.index t = ![t.val / 4, t.val % 4]
    ∧ win0_2.index t = ![t.val / 4, 4 + t.val % 4] ∧ win0_3.index t = ![t.val / 4, 4 + t.val % 4]
    ∧ win0_4.index t = ![t.val / 4, t.val % 4] ∧ win0_5.index t = ![t.val / 4, t.val % 4] ∧ win0_6.index t = ![t.val / 4, t.val % 4] ∧ t.val < 8 :=
  (by decide +kernel : ∀ t : Fin grid0.N, _)
theorem lt8 (t : Fin cfg0.N) : t.val < 8 := (idx t).2.2.2.2.2.2.2
/-- The sequence and the head of a grid point. -/
def seq (t : Fin cfg0.N) : Fin 2 := ⟨t.val / 4, by have := lt8 t; omega⟩
def head (t : Fin cfg0.N) : Fin 4 := ⟨t.val % 4, by omega⟩

variable (m : (ℓ : Loc nD τ sig) → Buf (Elt Ideal) ℓ) (c : Dev nD)
variable (z : Fin 2 → Fin 2048 → Fin 5120 → ℝ) (kv : Fin 2 → Fin 256 → Fin 2048 → ℝ) (dc : Fin 2 → Fin 2048 → Fin 2048 → ℝ)

theorem in0 (t : Fin cfg0.N) (hz : m ((c : Thread nD τ).loc main_arg0) = up3 .f32 z) :
    iblk m c 0 t = up2 .f32 (fun r d => qh z (seq t) r (head t) d) := by
  have h : V m c main_v0 = up2 .f32 (fun n : Fin 4096 => z ⟨n.val / 2048, by omega⟩ ⟨n.val % 2048, by omega⟩) := by
    funext i
    entry_read
    rw [hz]
    pointwise [up3_apply, up2_apply]
  funext y
  have h0 : (y 0).val < 2048 := (y 0).isLt
  have h1 : (y 1).val < 256 := (y 1).isLt
  have ht := lt8 t
  blk_simp [iblk]
  rw [h, up2_apply, up2_apply]
  refine congrArg _ (congr (congrArg₂ z (Fin.ext ?_) (Fin.ext ?_)) (Fin.ext ?_)) <;> blk_simp [idx t, seq, head] <;> (try dsimp only) <;> try omega
theorem in1 (t : Fin cfg0.N) (hkv : m ((c : Thread nD τ).loc main_arg1) = up3 .f32 kv) :
    iblk m c 1 t = up2 .f32 (fun r d => kh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
theorem in2 (t : Fin cfg0.N) (hkv : m ((c : Thread nD τ).loc main_arg1) = up3 .f32 kv) :
    iblk m c 2 t = up2 .f32 (fun r d => vh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
theorem in3 (t : Fin cfg0.N) (hdc : m ((c : Thread nD τ).loc main_arg2) = up3 .f32 dc) :
    iblk m c 3 t = up2 .bf16 (fun r d => oh dc (seq t) r (head t) d) := by
  have h : V m c main_v3 = up2 .bf16 (fun n : Fin 4096 => dc ⟨n.val / 2048, by omega⟩ ⟨n.val % 2048, by omega⟩) := by
    funext i
    entry_read
    rw [hdc]
    pointwise [up3_apply, up2_apply]
  funext y
  have h0 : (y 0).val < 2048 := (y 0).isLt
  have h1 : (y 1).val < 256 := (y 1).isLt
  have ht := lt8 t
  blk_simp [iblk]
  rw [h, up2_apply, up2_apply]
  refine congrArg _ (congr (congrArg₂ dc (Fin.ext ?_) (Fin.ext ?_)) (Fin.ext ?_)) <;> blk_simp [idx t, seq, head] <;> (try dsimp only) <;> try omega

variable (hz : m ((c : Thread nD τ).loc main_arg0) = up3 .f32 z) (hkv : m ((c : Thread nD τ).loc main_arg1) = up3 .f32 kv)
  (hdc : m ((c : Thread nD τ).loc main_arg2) = up3 .f32 dc)
include hz hkv hdc

/-- The gradient with respect to the query. -/
theorem final4 : (dats m 0 c).arrAt 4 (cfgs 0).N = up2 .bf16 (rows (N := 4096) rfl (dq (qh z) (oh dc) (kh kv) (vh kv))) := by
  refine (dats m 0 c).arrAt_eq_of_covers 4 _ (by decide +kernel) fun t _ y => ?_
  have h0 : (y 0).val < 2048 := (y 0).isLt
  have h1 : (y 1).val < 256 := (y 1).isLt
  have ht := lt8 t
  blk_simp
  have key : up2 (n := 2048) (k := 256) .bf16 (fun r d => (dq (qh z) (oh dc) (kh kv) (vh kv)) (seq t) r (head t) d) y
      = up2 .bf16 (rows (N := 4096) rfl (dq (qh z) (oh dc) (kh kv) (vh kv))) (((cfg0.win 4).blk t).view.emb y) := by
    rw [up2_apply, up2_apply]
    unfold rows
    refine congrArg _ (congr (congr (congrArg₂ (dq (qh z) (oh dc) (kh kv) (vh kv)) (Fin.ext ?_) (Fin.ext ?_)) (Fin.ext ?_)) (Fin.ext ?_)) <;> blk_simp [idx t, seq, head] <;> (try dsimp only) <;> try omega
  refine Eq.trans ?_ key
  rw [after0_4]
  unfold Gen.outsAt0
  frame_out
  rw [in0 m c z t hz, in1 m c kv t hkv, in3 m c dc t hdc, in2 m c kv t hkv]
  exact congrFun (pay10 _ _ _ _) y

/-- The gradient with respect to the key. -/
theorem final5 : (dats m 0 c).arrAt 5 (cfgs 0).N = up2 .f32 (rows (N := 512) rfl (dk (qh z) (oh dc) (kh kv) (vh kv))) := by
  refine (dats m 0 c).arrAt_eq_of_covers 5 _ (by decide +kernel) fun t _ y => ?_
  have h0 : (y 0).val < 256 := (y 0).isLt
  have h1 : (y 1).val < 256 := (y 1).isLt
  have ht := lt8 t
  blk_simp
  have key : up2 (n := 256) (k := 256) .f32 (fun r d => (dk (qh z) (oh dc) (kh kv) (vh kv)) (seq t) r (head t) d) y
      = up2 .f32 (rows (N := 512) rfl (dk (qh z) (oh dc) (kh kv) (vh kv))) (((cfg0.win 5).blk t).view.emb y) := by
    rw [up2_apply, up2_apply]
    unfold rows
    refine congrArg _ (congr (congr (congrArg₂ (dk (qh z) (oh dc) (kh kv) (vh kv)) (Fin.ext ?_) (Fin.ext ?_)) (Fin.ext ?_)) (Fin.ext ?_)) <;> blk_simp [idx t, seq, head] <;> (try dsimp only) <;> try omega
  refine Eq.trans ?_ key
  rw [after0_5]
  unfold Gen.outsAt0
  frame_out
  rw [in0 m c z t hz, in1 m c kv t hkv, in3 m c dc t hdc, in2 m c kv t hkv]
  exact congrFun (pay1 _ _ _ _) y

/-- The gradient with respect to the value. -/
theorem final6 : (dats m 0 c).arrAt 6 (cfgs 0).N = up2 .f32 (rows (N := 512) rfl (dv (qh z) (oh dc) (kh kv))) := by
  refine (dats m 0 c).arrAt_eq_of_covers 6 _ (by decide +kernel) fun t _ y => ?_
  have h0 : (y 0).val < 256 := (y 0).isLt
  have h1 : (y 1).val < 256 := (y 1).isLt
  have ht := lt8 t
  blk_simp
  have key : up2 (n := 256) (k := 256) .f32 (fun r d => (dv (qh z) (oh dc) (kh kv)) (seq t) r (head t) d) y
      = up2 .f32 (rows (N := 512) rfl (dv (qh z) (oh dc) (kh kv))) (((cfg0.win 6).blk t).view.emb y) := by
    rw [up2_apply, up2_apply]
    unfold rows
    refine congrArg _ (congr (congr (congrArg₂ (dv (qh z) (oh dc) (kh kv)) (Fin.ext ?_) (Fin.ext ?_)) (Fin.ext ?_)) (Fin.ext ?_)) <;> blk_simp [idx t, seq, head] <;> (try dsimp only) <;> try omega
  refine Eq.trans ?_ key
  rw [after0_6]
  unfold Gen.outsAt0
  frame_out
  rw [in0 m c z t hz, in1 m c kv t hkv, in3 m c dc t hdc]
  exact congrFun (pay8 _ _ _) y

omit hz hkv hdc in
/-- The run from real arguments. -/
theorem run (ρ : Dev nD → PrngReg)
    (z : Dev nD → Fin 2 → Fin 2048 → Fin 5120 → ℝ) (kv : Dev nD → Fin 2 → Fin 256 → Fin 2048 → ℝ) (dc : Dev nD → Fin 2 → Fin 2048 → Fin 2048 → ℝ)
    (hz : ∀ c : Dev nD, m ((c.tc : Thread nD τ).loc main_arg0) = up3 .f32 (z c)) (hkv : ∀ c : Dev nD, m ((c.tc : Thread nD τ).loc main_arg1) = up3 .f32 (kv c))
    (hdc : ∀ c : Dev nD, m ((c.tc : Thread nD τ).loc main_arg2) = up3 .f32 (dc c)) :
    θ_run defs (onTc (τ := τ) (main (F := Ideal))) ⟨m, fun _ => 0, ρ⟩ fun r => ∀ c : Dev nD,
      r.2.mem ((c.tc : Thread nD τ).loc main_v4_0) = up2 .bf16 (rows (N := 4096) rfl (dq (qh (z c)) (oh (dc c)) (kh (kv c)) (vh (kv c))))
      ∧ r.2.mem ((c.tc : Thread nD τ).loc main_v4_1) = up2 .f32 (rows (N := 512) rfl (dk (qh (z c)) (oh (dc c)) (kh (kv c)) (vh (kv c))))
      ∧ r.2.mem ((c.tc : Thread nD τ).loc main_v4_2) = up2 .f32 (rows (N := 512) rfl (dv (qh (z c)) (oh (dc c)) (kh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Kernel5Ideal.Value.run_blocks m ρ)
  obtain ⟨h0, h1, h2, h3⟩ := h c
  exact ⟨h0.trans (final4 m c _ _ _ (hz c) (hkv c) (hdc c)), h1.trans (final5 m c _ _ _ (hz c) (hkv c) (hdc c)),
    h2.trans (final6 m c _ _ _ (hz c) (hkv c) (hdc c)), h3⟩
end Cert.AttnK
-- ==== Proof.AttnR.lean ====
module
public import proofs.«01_k».proof.Proof.Gen.Reference5Ideal.Read
public import proofs.«01_k».proof.Proof.Lift
public import proofs.«01_k».proof.Proof.AttnMath
@[expose] public section
set_option maxRecDepth 16384
noncomputable section
namespace Cert.AttnR
open Idealize.ShloMosaic Idealize.ShloMosaic.TcCoe Idealize.SL.Sem
open Cert.Reference5Ideal Cert.Reference5Ideal.Gen Cert.Reference5Ideal.Read Cert.Lift Cert.AttnMath

variable (z : Fin 2 → Fin 2048 → Fin 5120 → ℝ) (kv : Fin 2 → Fin 256 → Fin 2048 → ℝ) (dc : Fin 2 → Fin 2048 → Fin 2048 → ℝ)

theorem v5 : val_main_v5 (F := Ideal) (up3 .f32 z) = up4 .f32 (qh z) := by
  funext i
  pointwise [val_main_v5, val_main_v0, up3_apply, up4_apply]
  rfl
theorem v2 : val_main_v2 (F := Ideal) (up3 .f32 kv) = up4 .f32 (kh kv) := by
  funext i
  pointwise [val_main_v2, val_main_v1, up3_apply, up4_apply]
  rfl
theorem v4 : val_main_v4 (F := Ideal) (up3 .f32 kv) = up4 .f32 (vh kv) := by
  funext i
  pointwise [val_main_v4, val_main_v3, up3_apply, up4_apply]
  rfl
theorem v42 : val_main_v42 (F := Ideal) (up3 .f32 dc) = up4 .f32 (fun b h d t => oh dc b t h d) := by
  funext i
  pointwise [val_main_v42, val_main_v41, val_main_v40, up3_apply, up4_apply]
  rfl
theorem v8 : val_main_v8 (F := Ideal) (up3 .f32 z) (up3 .f32 kv) = up4 .f32 (fun b h t => sc (qh z) (kh kv) b h t) := by
  funext i
  pointwise [val_main_v8, val_main_v7, val_main_cst, val_main_v6, v5, v2, up4_apply]
  simp only [← EReal.coe_mul, coe_sum, c_sixteenth, zero_add]
  rfl
theorem v9 : val_main_v9 (F := Ideal) (up3 .f32 z) (up3 .f32 kv) = up3 .f32 (fun b h t => top (sc (qh z) (kh kv) b h t)) := by
  funext i
  unfold val_main_v9
  rw [v8]
  pointwise [val_main_cst_0, up4_apply, up3_apply]
  rw [c_neg_inf, fold_max_coe]
  rfl
theorem v16 : val_main_v16 (F := Ideal) (up3 .f32 z) (up3 .f32 kv) = up3 .f32 (fun b h t => top (sc (qh z) (kh kv) b h t)) := by
  funext i
  unfold val_main_v16
  rw [v9]
  pointwise [val_main_v15, val_main_cst_2, up3_apply]
  rw [c_neg_inf]
  exact max_eq_right bot_le
theorem v29 : val_main_v29 (F := Ideal) (up3 .f32 z) (up3 .f32 kv) = up4 .f32 (fun b h t => ex (sc (qh z) (kh kv) b h t)) := by
  funext i
  pointwise [val_main_v29, val_main_v28, val_main_v27, val_main_v26, v16, v8, up4_apply, up3_apply]
  rfl
theorem v31 : val_main_v31 (F := Ideal) (up3 .f32 z) (up3 .f32 kv) = up4 .f32 (fun b h t _ => tot (sc (qh z) (kh kv) b h t)) := by
  funext i
  pointwise [val_main_v31, val_main_v30, val_main_cst_8, v29, up4_apply, up3_apply]
  simp only [coe_sum, zero_add]
  rfl
theorem v33 : val_main_v33 (F := Ideal) (up3 .f32 z) (up3 .f32 kv) = up4 .f32 (fun b h t => prob (sc (qh z) (kh kv) b h t)) := by
  funext i
  pointwise [val_main_v33, val_main_v32, v29, v31, up4_apply]
  exact div_coe' _ _ (tot_pos _).ne'
theorem v36 : val_main_v36 (F := Ideal) (up3 .f32 z) (up3 .f32 kv)
    = up4 .f32 (fun b h t _ => 1 / (tot (sc (qh z) (kh kv) b h t) * tot (sc (qh z) (kh kv) b h t))) := by
  funext i
  pointwise [val_main_v36, val_main_v35, val_main_v34, val_main_cst_9, v31, up4_apply]
  rw [← EReal.coe_one, ← EReal.coe_mul]
  exact (div_coe' _ _ (mul_pos (tot_pos _) (tot_pos _)).ne').trans (congrArg _ (one_mul _))
theorem v43 : val_main_v43 (F := Ideal) (up3 .f32 kv) (up3 .f32 dc) = up4 .f32 (fun b h t => dp (oh dc) (vh kv) b h t) := by
  funext i
  pointwise [val_main_v43, v42, v4, up4_apply]
  simp only [← EReal.coe_mul, coe_sum, zero_add]
  rfl
theorem v59 : val_main_v59 (F := Ideal) (up3 .f32 z) (up3 .f32 kv) (up3 .f32 dc) = up4 .f32 (fun b h t => ds (qh z) (oh dc) (kh kv) (vh kv) b h t) := by
  funext i
  pointwise [val_main_v59, val_main_v58, val_main_cst_12, val_main_v57, val_main_v56, val_main_v55, val_main_v54, val_main_cst_11, val_main_v53, val_main_v52, val_main_v51, val_main_v50,
    val_main_v49, val_main_cst_10, val_main_v48, val_main_v47, val_main_v46, v43, v36, v31, v29, up4_apply]
  simp only [Finset.univ_unique, Finset.sum_singleton, zero_add, ← EReal.coe_mul, coe_sum, c_sixteenth, div_coe' _ _ (tot_pos _).ne', ← EReal.coe_add, ← EReal.coe_neg]
  exact congrArg _ (dscore_eq (sc (qh z) (kh kv) (i 0) (i 1) (i 2)) (dp (oh dc) (vh kv) (i 0) (i 1) (i 2)) (i 3))
theorem v66 : val_main_v66 (F := Ideal) (up3 .f32 z) (up3 .f32 kv) (up3 .f32 dc) = up2 .bf16 (rows (N := 4096) rfl (dq (qh z) (oh dc) (kh kv) (vh kv))) := by
  funext i
  pointwise [val_main_v66, val_main_v65, val_main_v64, val_main_v63, val_main_v62, v59, v2, up4_apply, up2_apply]
  simp only [← EReal.coe_mul, coe_sum, zero_add]
  rfl
theorem v67 : val_main_v67 (F := Ideal) (up3 .f32 z) (up3 .f32 kv) (up3 .f32 dc) = up2 .f32 (rows (N := 512) rfl (dk (qh z) (oh dc) (kh kv) (vh kv))) := by
  funext i
  pointwise [val_main_v67, val_main_v61, val_main_v60, v59, v5, up4_apply, up2_apply]
  simp only [← EReal.coe_mul, coe_sum, zero_add]
  rfl
theorem v68 : val_main_v68 (F := Ideal) (up3 .f32 z) (up3 .f32 kv) (up3 .f32 dc) = up2 .f32 (rows (N := 512) rfl (dv (qh z) (oh dc) (kh kv))) := by
  funext i
  pointwise [val_main_v68, val_main_v45, val_main_v44, v42, v33, up4_apply, up2_apply]
  simp only [← EReal.coe_mul, coe_sum, zero_add]
  exact congrArg _ (Finset.sum_congr rfl fun t _ => mul_comm _ _)

/-- The run from real arguments. -/
theorem run (m : (ℓ : Loc nD τ sig) → Buf (Elt Ideal) ℓ) (ρ : Dev nD → PrngReg)
    (z : Dev nD → Fin 2 → Fin 2048 → Fin 5120 → ℝ) (kv : Dev nD → Fin 2 → Fin 256 → Fin 2048 → ℝ) (dc : Dev nD → Fin 2 → Fin 2048 → Fin 2048 → ℝ)
    (hz : ∀ c : Dev nD, m ((c.tc : Thread nD τ).loc main_arg0) = up3 .f32 (z c)) (hkv : ∀ c : Dev nD, m ((c.tc : Thread nD τ).loc main_arg1) = up3 .f32 (kv c))
    (hdc : ∀ c : Dev nD, m ((c.tc : Thread nD τ).loc main_arg2) = up3 .f32 (dc c)) :
    θ_run defs (onTc (τ := τ) (main (F := Ideal))) ⟨m, fun _ => 0, ρ⟩ fun r => ∀ c : Dev nD,
      r.2.mem ((c.tc : Thread nD τ).loc main_v66) = up2 .bf16 (rows (N := 4096) rfl (dq (qh (z c)) (oh (dc c)) (kh (kv c)) (vh (kv c))))
      ∧ r.2.mem ((c.tc : Thread nD τ).loc main_v67) = up2 .f32 (rows (N := 512) rfl (dk (qh (z c)) (oh (dc c)) (kh (kv c)) (vh (kv c))))
      ∧ r.2.mem ((c.tc : Thread nD τ).loc main_v68) = up2 .f32 (rows (N := 512) rfl (dv (qh (z c)) (oh (dc c)) (kh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Reference5Ideal.Value.run m ρ)
  obtain ⟨h0, h1, h2, h3⟩ := h c
  exact ⟨h0.trans ((val_main_v66_eq m c).trans (by rw [hz, hkv, hdc]; exact v66 _ _ _)),
    h1.trans ((val_main_v67_eq m c).trans (by rw [hz, hkv, hdc]; exact v67 _ _ _)),
    h2.trans ((val_main_v68_eq _ _ _).trans (by rw [hz, hkv, hdc]; exact v68 _ _ _)), h3⟩
end Cert.AttnR
-- ==== Proof.Attn.lean ====
module
public import proofs.«01_k».proof.Defs
public import proofs.«01_k».proof.Proof.Gen.Kernel5
public import proofs.«01_k».proof.Proof.Gen.Kernel5.Frame
public import proofs.«01_k».proof.Proof.Gen.Pre_finite5
public import proofs.«01_k».proof.Proof.AttnK
public import proofs.«01_k».proof.Proof.AttnR
public import Idealize.ShloMosaic.Adequacy
public import Idealize.ShloMosaic.Init
public import Idealize.ShloMosaic.Lib.Quiescent
@[expose] public section
set_option maxRecDepth 16384
noncomputable section
namespace Cert.Attn
open Idealize.ShloMosaic Idealize.ShloMosaic.TcCoe Idealize.SL.Sem Cert.Lift

/-- The precondition says that the arguments it speaks of are arrays of real numbers. -/
theorem real (z : FVec Ideal Cert.Pre_finite5.S2x2048x5120 .f32)
    (kv : FVec Ideal Cert.Pre_finite5.S2x256x2048 .f32)
    (dc : FVec Ideal Cert.Pre_finite5.S2x2048x2048 .f32)
    (h : @Cert.Pre_finite5.fn Cert.Pre_finite5.Gen.facts Ideal _ z kv dc = fun _ => 1#1) :
    ∃ (z' : Fin 2 → Fin 2048 → Fin 5120 → ℝ) (kv' : Fin 2 → Fin 256 → Fin 2048 → ℝ) (dc' : Fin 2 → Fin 2048 → Fin 2048 → ℝ),
      z = up3 .f32 z' ∧ kv = up3 .f32 kv' ∧ dc = up3 .f32 dc' := by
  have h0 := congrFun h (fun a => a.elim0)
  dsimp only [Cert.Pre_finite5.fn] at h0
  obtain ⟨a1, b1⟩ := and_one h0
  obtain ⟨a2, b2⟩ := and_one a1
  obtain ⟨z', ez⟩ := exists_up3 .f32 z (finite_of_reduce z _ inf_apply _ _ _ _ a2)
  obtain ⟨kv', ekv⟩ := exists_up3 .f32 kv (finite_of_reduce kv _ inf_apply _ _ _ _ b2)
  obtain ⟨dc', edc⟩ := exists_up3 .f32 dc (finite_of_reduce dc _ inf_apply _ _ _ _ b1)
  exact ⟨z', kv', dc', ez, ekv, edc⟩

theorem frame_kernel : Cert.quiescent_Kernel5 (hKernel5 := Cert.Kernel5.Gen.facts) := fun m ρ _ => Cert.Kernel5.Gen.frame m ρ
theorem frame_ideal : Cert.quiescent_Kernel5Ideal (hKernel5Ideal := Cert.Kernel5Ideal.Gen.facts) :=
  fun m ρ _ => Cert.Kernel5Ideal.Gen.frame m ρ
theorem frame_ideal_pre : Cert.quiescent_Kernel5Ideal_pre_finite5 (hKernel5Ideal := Cert.Kernel5Ideal.Gen.facts) (hPre_finite5 := Cert.Pre_finite5.Gen.facts) :=
  fun m ρ _ => Cert.Kernel5Ideal.Gen.frame m ρ
theorem frame_reference : Cert.quiescent_Reference5Ideal (hReference5Ideal := Cert.Reference5Ideal.Gen.facts) :=
  fun m ρ _ => (θ_run Cert.Reference5Ideal.defs _ _).mono
    (fun r h => ⟨fun c => (h c).2.2.2, sem_eq_zero_of_no_sems (by decide) r.2⟩) (Cert.Reference5Ideal.Value.run m ρ)
theorem frame_reference_pre : Cert.quiescent_Reference5Ideal_pre_finite5 (hReference5Ideal := Cert.Reference5Ideal.Gen.facts) (hPre_finite5 := Cert.Pre_finite5.Gen.facts) :=
  fun m ρ _ => frame_reference m ρ trivial

/-- The gradients of the memory attention are its reference's. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m0 g0 m1 g1 hpre hagree
  choose z kv dc hz hkv hdc using fun c => real _ _ _ (hpre c)
  exact ⟨_, _, _, Cert.AttnK.run m0 g0 z kv dc hz hkv hdc,
    Cert.AttnR.run m1 g1 z kv dc
      (fun c => (hagree c).1.trans (hz c))
      (fun c => (hagree c).2.1.trans (hkv c))
      (fun c => (hagree c).2.2.trans (hdc c))⟩
end Cert.Attn
-- ==== Proof.Attn1R.lean ====
module
public import proofs.«01_k».proof.Proof.Gen.Reference8Ideal.Read
public import proofs.«01_k».proof.Proof.AttnR
public import proofs.«01_k».proof.Proof.AttnMath
@[expose] public section
set_option maxRecDepth 16384
noncomputable section
namespace Cert.Attn1R
open Idealize.ShloMosaic Idealize.ShloMosaic.TcCoe Idealize.SL.Sem
open Cert.Reference8Ideal Cert.Reference8Ideal.Gen Cert.Reference8Ideal.Read Cert.Lift Cert.AttnMath

/-- The last columns of a wider gradient, as the columns of the narrower one. -/
def sh (dc : Fin 2 → Fin 2048 → Fin 3072 → ℝ) (b : Fin 2) (t : Fin 2048) (j : Fin 2048) : ℝ := dc b t ⟨1024 + j.val, by omega⟩

variable (z : Fin 2 → Fin 2048 → Fin 5120 → ℝ) (kv : Fin 2 → Fin 256 → Fin 2048 → ℝ) (dc : Fin 2 → Fin 2048 → Fin 3072 → ℝ)

theorem v40 : val_main_v40 (F := Ideal) (up3 .f32 dc) = Cert.Reference5Ideal.Read.val_main_v40 (F := Ideal) (up3 .f32 (sh dc)) := by
  funext i
  pointwise [val_main_v40, Cert.Reference5Ideal.Read.val_main_v40, up3_apply]
  refine congrArg _ (congrArg (dc (i 0) (i 1)) (Fin.ext ?_))
  show 2048 + (i 2).val = 1024 + (1024 + (i 2).val)
  omega
theorem v42 : val_main_v42 (F := Ideal) (up3 .f32 dc) = Cert.Reference5Ideal.Read.val_main_v42 (F := Ideal) (up3 .f32 (sh dc)) := by
  unfold val_main_v42 val_main_v41
  rw [v40]
  rfl
theorem v43 : val_main_v43 (F := Ideal) (up3 .f32 kv) (up3 .f32 dc) = Cert.Reference5Ideal.Read.val_main_v43 (F := Ideal) (up3 .f32 kv) (up3 .f32 (sh dc)) := by
  unfold val_main_v43
  rw [v42]
  rfl
theorem v59 : val_main_v59 (F := Ideal) (up3 .f32 z) (up3 .f32 kv) (up3 .f32 dc) = Cert.Reference5Ideal.Read.val_main_v59 (F := Ideal) (up3 .f32 z) (up3 .f32 kv) (up3 .f32 (sh dc)) := by
  unfold val_main_v59 val_main_v57 val_main_v56 val_main_v55 val_main_v54 val_main_v53 val_main_v51 val_main_v50 val_main_v49 val_main_v48 val_main_v47
  rw [v43]
  rfl
theorem v66 : val_main_v66 (F := Ideal) (up3 .f32 z) (up3 .f32 kv) (up3 .f32 dc) = Cert.Reference5Ideal.Read.val_main_v66 (F := Ideal) (up3 .f32 z) (up3 .f32 kv) (up3 .f32 (sh dc)) := by
  unfold val_main_v66 val_main_v65 val_main_v64 val_main_v63 val_main_v62
  rw [v59]
  rfl
theorem v67 : val_main_v67 (F := Ideal) (up3 .f32 z) (up3 .f32 kv) (up3 .f32 dc) = Cert.Reference5Ideal.Read.val_main_v67 (F := Ideal) (up3 .f32 z) (up3 .f32 kv) (up3 .f32 (sh dc)) := by
  unfold val_main_v67 val_main_v61 val_main_v60
  rw [v59]
  rfl
theorem v68 : val_main_v68 (F := Ideal) (up3 .f32 z) (up3 .f32 kv) (up3 .f32 dc) = Cert.Reference5Ideal.Read.val_main_v68 (F := Ideal) (up3 .f32 z) (up3 .f32 kv) (up3 .f32 (sh dc)) := by
  unfold val_main_v68 val_main_v45 val_main_v44
  rw [v42]
  rfl

/-- The run from real arguments. -/
theorem run (m : (ℓ : Loc nD τ sig) → Buf (Elt Ideal) ℓ) (ρ : Dev nD → PrngReg)
    (z : Dev nD → Fin 2 → Fin 2048 → Fin 5120 → ℝ) (kv : Dev nD → Fin 2 → Fin 256 → Fin 2048 → ℝ) (dc : Dev nD → Fin 2 → Fin 2048 → Fin 3072 → ℝ)
    (hz : ∀ c : Dev nD, m ((c.tc : Thread nD τ).loc main_arg0) = up3 .f32 (z c)) (hkv : ∀ c : Dev nD, m ((c.tc : Thread nD τ).loc main_arg1) = up3 .f32 (kv c))
    (hdc : ∀ c : Dev nD, m ((c.tc : Thread nD τ).loc main_arg2) = up3 .f32 (dc c)) :
    θ_run defs (onTc (τ := τ) (main (F := Ideal))) ⟨m, fun _ => 0, ρ⟩ fun r => ∀ c : Dev nD,
      r.2.mem ((c.tc : Thread nD τ).loc main_v66) = up2 .bf16 (rows (N := 4096) rfl (dq (qh (z c)) (oh (sh (dc c))) (kh (kv c)) (vh (kv c))))
      ∧ r.2.mem ((c.tc : Thread nD τ).loc main_v67) = up2 .f32 (rows (N := 512) rfl (dk (qh (z c)) (oh (sh (dc c))) (kh (kv c)) (vh (kv c))))
      ∧ r.2.mem ((c.tc : Thread nD τ).loc main_v68) = up2 .f32 (rows (N := 512) rfl (dv (qh (z c)) (oh (sh (dc c))) (kh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Reference8Ideal.Value.run m ρ)
  obtain ⟨h0, h1, h2, h3⟩ := h c
  exact ⟨h0.trans ((val_main_v66_eq m c).trans (by rw [hz, hkv, hdc]; exact (v66 _ _ _).trans (AttnR.v66 _ _ _))),
    h1.trans ((val_main_v67_eq m c).trans (by rw [hz, hkv, hdc]; exact (v67 _ _ _).trans (AttnR.v67 _ _ _))),
    h2.trans ((val_main_v68_eq _ _ _).trans (by rw [hz, hkv, hdc]; exact (v68 _ _ _).trans (AttnR.v68 _ _ _))), h3⟩
end Cert.Attn1R
-- ==== Proof.Attn1K.lean ====
module
public import proofs.«01_k».proof.Proof.Gen.Kernel8Ideal.Value
public import proofs.«01_k».proof.Proof.AttnK
public import proofs.«01_k».proof.Proof.Attn1R
@[expose] public section
set_option maxRecDepth 16384
noncomputable section
namespace Cert.Attn1K
open Idealize.ShloMosaic Idealize.ShloMosaic.TcCoe Idealize.SL.Sem
open Idealize.ShloMosaic.Pipeline (Dat)
open Cert.Attn1R (sh)
open Cert.Kernel8Ideal Cert.Kernel8Ideal.Gen Cert.Lift Cert.AttnMath

theorem idx : ∀ t : Fin cfg0.N, win0_0.index t = ![t.val / 4, 16 + t.val % 4] ∧ win0_1.index t = ![t.val / 4, t.val % 4]
    ∧ win0_2.index t = ![t.val / 4, 4 + t.val % 4] ∧ win0_3.index t = ![t.val / 4, 8 + t.val % 4]
    ∧ win0_4.index t = ![t.val / 4, t.val % 4] ∧ win0_5.index t = ![t.val / 4, t.val % 4] ∧ win0_6.index t = ![t.val / 4, t.val % 4] ∧ t.val < 8 :=
  (by decide +kernel : ∀ t : Fin grid0.N, _)
theorem lt8 (t : Fin cfg0.N) : t.val < 8 := (idx t).2.2.2.2.2.2.2
/-- The sequence and the head of a grid point. -/
def seq (t : Fin cfg0.N) : Fin 2 := ⟨t.val / 4, by have := lt8 t; omega⟩
def head (t : Fin cfg0.N) : Fin 4 := ⟨t.val % 4, by omega⟩

variable (m : (ℓ : Loc nD τ sig) → Buf (Elt Ideal) ℓ) (c : Dev nD)
variable (z : Fin 2 → Fin 2048 → Fin 5120 → ℝ) (kv : Fin 2 → Fin 256 → Fin 2048 → ℝ) (dc : Fin 2 → Fin 2048 → Fin 3072 → ℝ)

theorem in0 (t : Fin cfg0.N) (hz : m ((c : Thread nD τ).loc main_arg0) = up3 .f32 z) :
    iblk m c 0 t = up2 .f32 (fun r d => qh z (seq t) r (head t) d) := by
  have h : V m c main_v0 = up2 .f32 (fun n : Fin 4096 => z ⟨n.val / 2048, by omega⟩ ⟨n.val % 2048, by omega⟩) := by
    funext i
    entry_read
    rw [hz]
    pointwise [up3_apply, up2_apply]
  funext y
  have h0 : (y 0).val < 2048 := (y 0).isLt
  have h1 : (y 1).val < 256 := (y 1).isLt
  have ht := lt8 t
  blk_simp [iblk]
  rw [h, up2_apply, up2_apply]
  refine congrArg _ (congr (congrArg₂ z (Fin.ext ?_) (Fin.ext ?_)) (Fin.ext ?_)) <;> blk_simp [idx t, seq, head] <;> (try dsimp only) <;> try omega
theorem in1 (t : Fin cfg0.N) (hkv : m ((c : Thread nD τ).loc main_arg1) = up3 .f32 kv) :
    iblk m c 1 t = up2 .f32 (fun r d => kh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
theorem in2 (t : Fin cfg0.N) (hkv : m ((c : Thread nD τ).loc main_arg1) = up3 .f32 kv) :
    iblk m c 2 t = up2 .f32 (fun r d => vh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
theorem in3 (t : Fin cfg0.N) (hdc : m ((c : Thread nD τ).loc main_arg2) = up3 .f32 dc) :
    iblk m c 3 t = up2 .bf16 (fun r d => oh (sh dc) (seq t) r (head t) d) := by
  have h : V m c main_v3 = up2 .bf16 (fun n : Fin 4096 => dc ⟨n.val / 2048, by omega⟩ ⟨n.val % 2048, by omega⟩) := by
    funext i
    entry_read
    rw [hdc]
    pointwise [up3_apply, up2_apply]
  funext y
  have h0 : (y 0).val < 2048 := (y 0).isLt
  have h1 : (y 1).val < 256 := (y 1).isLt
  have ht := lt8 t
  blk_simp [iblk]
  rw [h, up2_apply, up2_apply]
  refine congrArg _ (congr (congrArg₂ dc (Fin.ext ?_) (Fin.ext ?_)) (Fin.ext ?_)) <;> blk_simp [idx t, seq, head] <;> (try dsimp only) <;> try omega

variable (hz : m ((c : Thread nD τ).loc main_arg0) = up3 .f32 z) (hkv : m ((c : Thread nD τ).loc main_arg1) = up3 .f32 kv)
  (hdc : m ((c : Thread nD τ).loc main_arg2) = up3 .f32 dc)
include hz hkv hdc

/-- The gradient with respect to the query. -/
theorem final4 : (dats m 0 c).arrAt 4 (cfgs 0).N = up2 .bf16 (rows (N := 4096) rfl (dq (qh z) (oh (sh dc)) (kh kv) (vh kv))) := by
  refine (dats m 0 c).arrAt_eq_of_covers 4 _ (by decide +kernel) fun t _ y => ?_
  have h0 : (y 0).val < 2048 := (y 0).isLt
  have h1 : (y 1).val < 256 := (y 1).isLt
  have ht := lt8 t
  blk_simp
  have key : up2 (n := 2048) (k := 256) .bf16 (fun r d => (dq (qh z) (oh (sh dc)) (kh kv) (vh kv)) (seq t) r (head t) d) y
      = up2 .bf16 (rows (N := 4096) rfl (dq (qh z) (oh (sh dc)) (kh kv) (vh kv))) (((cfg0.win 4).blk t).view.emb y) := by
    rw [up2_apply, up2_apply]
    unfold rows
    refine congrArg _ (congr (congr (congrArg₂ (dq (qh z) (oh (sh dc)) (kh kv) (vh kv)) (Fin.ext ?_) (Fin.ext ?_)) (Fin.ext ?_)) (Fin.ext ?_)) <;> blk_simp [idx t, seq, head] <;> (try dsimp only) <;> try omega
  refine Eq.trans ?_ key
  rw [after0_4]
  unfold Gen.outsAt0
  frame_out
  rw [in0 m c z t hz, in1 m c kv t hkv, in3 m c dc t hdc, in2 m c kv t hkv]
  exact congrFun (AttnK.pay10 _ _ _ _) y

/-- The gradient with respect to the key. -/
theorem final5 : (dats m 0 c).arrAt 5 (cfgs 0).N = up2 .f32 (rows (N := 512) rfl (dk (qh z) (oh (sh dc)) (kh kv) (vh kv))) := by
  refine (dats m 0 c).arrAt_eq_of_covers 5 _ (by decide +kernel) fun t _ y => ?_
  have h0 : (y 0).val < 256 := (y 0).isLt
  have h1 : (y 1).val < 256 := (y 1).isLt
  have ht := lt8 t
  blk_simp
  have key : up2 (n := 256) (k := 256) .f32 (fun r d => (dk (qh z) (oh (sh dc)) (kh kv) (vh kv)) (seq t) r (head t) d) y
      = up2 .f32 (rows (N := 512) rfl (dk (qh z) (oh (sh dc)) (kh kv) (vh kv))) (((cfg0.win 5).blk t).view.emb y) := by
    rw [up2_apply, up2_apply]
    unfold rows
    refine congrArg _ (congr (congr (congrArg₂ (dk (qh z) (oh (sh dc)) (kh kv) (vh kv)) (Fin.ext ?_) (Fin.ext ?_)) (Fin.ext ?_)) (Fin.ext ?_)) <;> blk_simp [idx t, seq, head] <;> (try dsimp only) <;> try omega
  refine Eq.trans ?_ key
  rw [after0_5]
  unfold Gen.outsAt0
  frame_out
  rw [in0 m c z t hz, in1 m c kv t hkv, in3 m c dc t hdc, in2 m c kv t hkv]
  exact congrFun (AttnK.pay1 _ _ _ _) y

/-- The gradient with respect to the value. -/
theorem final6 : (dats m 0 c).arrAt 6 (cfgs 0).N = up2 .f32 (rows (N := 512) rfl (dv (qh z) (oh (sh dc)) (kh kv))) := by
  refine (dats m 0 c).arrAt_eq_of_covers 6 _ (by decide +kernel) fun t _ y => ?_
  have h0 : (y 0).val < 256 := (y 0).isLt
  have h1 : (y 1).val < 256 := (y 1).isLt
  have ht := lt8 t
  blk_simp
  have key : up2 (n := 256) (k := 256) .f32 (fun r d => (dv (qh z) (oh (sh dc)) (kh kv)) (seq t) r (head t) d) y
      = up2 .f32 (rows (N := 512) rfl (dv (qh z) (oh (sh dc)) (kh kv))) (((cfg0.win 6).blk t).view.emb y) := by
    rw [up2_apply, up2_apply]
    unfold rows
    refine congrArg _ (congr (congr (congrArg₂ (dv (qh z) (oh (sh dc)) (kh kv)) (Fin.ext ?_) (Fin.ext ?_)) (Fin.ext ?_)) (Fin.ext ?_)) <;> blk_simp [idx t, seq, head] <;> (try dsimp only) <;> try omega
  refine Eq.trans ?_ key
  rw [after0_6]
  unfold Gen.outsAt0
  frame_out
  rw [in0 m c z t hz, in1 m c kv t hkv, in3 m c dc t hdc]
  exact congrFun (AttnK.pay8 _ _ _) y

omit hz hkv hdc in
/-- The run from real arguments. -/
theorem run (ρ : Dev nD → PrngReg)
    (z : Dev nD → Fin 2 → Fin 2048 → Fin 5120 → ℝ) (kv : Dev nD → Fin 2 → Fin 256 → Fin 2048 → ℝ) (dc : Dev nD → Fin 2 → Fin 2048 → Fin 3072 → ℝ)
    (hz : ∀ c : Dev nD, m ((c.tc : Thread nD τ).loc main_arg0) = up3 .f32 (z c)) (hkv : ∀ c : Dev nD, m ((c.tc : Thread nD τ).loc main_arg1) = up3 .f32 (kv c))
    (hdc : ∀ c : Dev nD, m ((c.tc : Thread nD τ).loc main_arg2) = up3 .f32 (dc c)) :
    θ_run defs (onTc (τ := τ) (main (F := Ideal))) ⟨m, fun _ => 0, ρ⟩ fun r => ∀ c : Dev nD,
      r.2.mem ((c.tc : Thread nD τ).loc main_v4_0) = up2 .bf16 (rows (N := 4096) rfl (dq (qh (z c)) (oh (sh (dc c))) (kh (kv c)) (vh (kv c))))
      ∧ r.2.mem ((c.tc : Thread nD τ).loc main_v4_1) = up2 .f32 (rows (N := 512) rfl (dk (qh (z c)) (oh (sh (dc c))) (kh (kv c)) (vh (kv c))))
      ∧ r.2.mem ((c.tc : Thread nD τ).loc main_v4_2) = up2 .f32 (rows (N := 512) rfl (dv (qh (z c)) (oh (sh (dc c))) (kh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Kernel8Ideal.Value.run_blocks m ρ)
  obtain ⟨h0, h1, h2, h3⟩ := h c
  exact ⟨h0.trans (final4 m c _ _ _ (hz c) (hkv c) (hdc c)), h1.trans (final5 m c _ _ _ (hz c) (hkv c) (hdc c)),
    h2.trans (final6 m c _ _ _ (hz c) (hkv c) (hdc c)), h3⟩
end Cert.Attn1K
-- ==== Proof.Attn1.lean ====
module
public import proofs.«01_k».proof.Defs
public import proofs.«01_k».proof.Proof.Gen.Kernel8
public import proofs.«01_k».proof.Proof.Gen.Kernel8.Frame
public import proofs.«01_k».proof.Proof.Gen.Pre_finite8
public import proofs.«01_k».proof.Proof.Attn1K
public import proofs.«01_k».proof.Proof.Attn1R
public import Idealize.ShloMosaic.Adequacy
public import Idealize.ShloMosaic.Init
public import Idealize.ShloMosaic.Lib.Quiescent
@[expose] public section
set_option maxRecDepth 16384
noncomputable section
namespace Cert.Attn1
open Idealize.ShloMosaic Idealize.ShloMosaic.TcCoe Idealize.SL.Sem Cert.Lift

/-- The precondition says that the arguments it speaks of are arrays of real numbers. -/
theorem real (z : FVec Ideal Cert.Pre_finite8.S2x2048x5120 .f32)
    (kv : FVec Ideal Cert.Pre_finite8.S2x256x2048 .f32)
    (dc : FVec Ideal Cert.Pre_finite8.S2x2048x3072 .f32)
    (h : @Cert.Pre_finite8.fn Cert.Pre_finite8.Gen.facts Ideal _ z kv dc = fun _ => 1#1) :
    ∃ (z' : Fin 2 → Fin 2048 → Fin 5120 → ℝ) (kv' : Fin 2 → Fin 256 → Fin 2048 → ℝ) (dc' : Fin 2 → Fin 2048 → Fin 3072 → ℝ),
      z = up3 .f32 z' ∧ kv = up3 .f32 kv' ∧ dc = up3 .f32 dc' := by
  have h0 := congrFun h (fun a => a.elim0)
  dsimp only [Cert.Pre_finite8.fn] at h0
  obtain ⟨a1, b1⟩ := and_one h0
  obtain ⟨a2, b2⟩ := and_one a1
  obtain ⟨z', ez⟩ := exists_up3 .f32 z (finite_of_reduce z _ inf_apply _ _ _ _ a2)
  obtain ⟨kv', ekv⟩ := exists_up3 .f32 kv (finite_of_reduce kv _ inf_apply _ _ _ _ b2)
  obtain ⟨dc', edc⟩ := exists_up3 .f32 dc (finite_of_reduce dc _ inf_apply _ _ _ _ b1)
  exact ⟨z', kv', dc', ez, ekv, edc⟩

theorem frame_kernel : Cert.quiescent_Kernel8 (hKernel8 := Cert.Kernel8.Gen.facts) := fun m ρ _ => Cert.Kernel8.Gen.frame m ρ
theorem frame_ideal : Cert.quiescent_Kernel8Ideal (hKernel8Ideal := Cert.Kernel8Ideal.Gen.facts) :=
  fun m ρ _ => Cert.Kernel8Ideal.Gen.frame m ρ
theorem frame_ideal_pre : Cert.quiescent_Kernel8Ideal_pre_finite8 (hKernel8Ideal := Cert.Kernel8Ideal.Gen.facts) (hPre_finite8 := Cert.Pre_finite8.Gen.facts) :=
  fun m ρ _ => Cert.Kernel8Ideal.Gen.frame m ρ
theorem frame_reference : Cert.quiescent_Reference8Ideal (hReference8Ideal := Cert.Reference8Ideal.Gen.facts) :=
  fun m ρ _ => (θ_run Cert.Reference8Ideal.defs _ _).mono
    (fun r h => ⟨fun c => (h c).2.2.2, sem_eq_zero_of_no_sems (by decide) r.2⟩) (Cert.Reference8Ideal.Value.run m ρ)
theorem frame_reference_pre : Cert.quiescent_Reference8Ideal_pre_finite8 (hReference8Ideal := Cert.Reference8Ideal.Gen.facts) (hPre_finite8 := Cert.Pre_finite8.Gen.facts) :=
  fun m ρ _ => frame_reference m ρ trivial

/-- The gradients of the second layer's memory attention are its reference's. -/
theorem algebraic : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m0 g0 m1 g1 hpre hagree
  choose z kv dc hz hkv hdc using fun c => real _ _ _ (hpre c)
  exact ⟨_, _, _, Cert.Attn1K.run m0 g0 z kv dc hz hkv hdc,
    Cert.Attn1R.run m1 g1 z kv dc
      (fun c => (hagree c).1.trans (hz c))
      (fun c => (hagree c).2.1.trans (hkv c))
      (fun c => (hagree c).2.2.trans (hdc c))⟩
end Cert.Attn1
-- ==== Proof.AttnFMath.lean ====
module
public import proofs.«01_k».proof.Proof.AttnMath
@[expose] public section
noncomputable section
namespace Cert.AttnMath

/-- The attention's output, by head. -/
def att (q : Fin 2 → Fin 2048 → Fin 4 → Fin 256 → ℝ) (k v : Fin 2 → Fin 256 → Fin 4 → Fin 256 → ℝ) (b : Fin 2) (t : Fin 2048) (h : Fin 4) (d : Fin 256) : ℝ :=
  ∑ m, prob (sc q k b h t) m * v b m h d

end Cert.AttnMath
-- ==== Proof.AttnFK.lean ====
module
public import proofs.«01_k».proof.Proof.Gen.Kernel9Ideal.Value
public import proofs.«01_k».proof.Proof.Lift
public import proofs.«01_k».proof.Proof.AttnFMath
@[expose] public section
set_option maxRecDepth 16384
noncomputable section
namespace Cert.AttnFK
open Idealize.ShloMosaic Idealize.ShloMosaic.TcCoe Idealize.SL.Sem
open Idealize.ShloMosaic.Pipeline (Dat)
open Cert.Kernel9Ideal Cert.Kernel9Ideal.Gen Cert.Lift Cert.AttnMath

theorem pay1 (q : Fin 2048 → Fin 256 → ℝ) (k v : Fin 256 → Fin 256 → ℝ) : k0_pay1 (F := Ideal) (up2 .f32 q) (up2 .f32 k) (up2 .f32 v)
    = up2 .bf16 (fun t d => ∑ m, prob (score (q t) k) m * v m d) := by
  funext i
  pointwise [k0_pay1, up2_apply]
  simp only [← EReal.coe_mul, coe_sum, c_sixteenth, zero_add, c_neg_inf, fold_max_coe, ← EReal.coe_sub, Ideal.exp_coe]
  refine (Finset.sum_congr rfl fun m _ => (congrArg (· * _) (div_coe' _ _ (tot_pos (score (q (i 0)) k)).ne')).trans (EReal.coe_mul _ _).symm).trans (coe_sum _ _)

theorem idx : ∀ t : Fin cfg0.N, win0_0.index t = ![t.val / 4, 16 + t.val % 4] ∧ win0_1.index t = ![t.val / 4, t.val % 4]
    ∧ win0_2.index t = ![t.val / 4, 4 + t.val % 4] ∧ win0_3.index t = ![t.val / 4, t.val % 4] ∧ t.val < 8 :=
  (by decide +kernel : ∀ t : Fin grid0.N, _)
theorem lt8 (t : Fin cfg0.N) : t.val < 8 := (idx t).2.2.2.2
/-- The sequence and the head of a grid point. -/
def seq (t : Fin cfg0.N) : Fin 2 := ⟨t.val / 4, by have := lt8 t; omega⟩
def head (t : Fin cfg0.N) : Fin 4 := ⟨t.val % 4, by omega⟩

variable (m : (ℓ : Loc nD τ sig) → Buf (Elt Ideal) ℓ) (c : Dev nD)
variable (z : Fin 2 → Fin 2048 → Fin 5120 → ℝ) (kv : Fin 2 → Fin 256 → Fin 2048 → ℝ)

theorem in0 (t : Fin cfg0.N) (hz : m ((c : Thread nD τ).loc main_arg0) = up3 .f32 z) :
    iblk m c 0 t = up2 .f32 (fun r d => qh z (seq t) r (head t) d) := by
  have h : V m c main_v0 = up2 .f32 (fun n : Fin 4096 => z ⟨n.val / 2048, by omega⟩ ⟨n.val % 2048, by omega⟩) := by
    funext i
    entry_read
    rw [hz]
    pointwise [up3_apply, up2_apply]
  funext y
  have h0 : (y 0).val < 2048 := (y 0).isLt
  have h1 : (y 1).val < 256 := (y 1).isLt
  have ht := lt8 t
  blk_simp [iblk]
  rw [h, up2_apply, up2_apply]
  refine congrArg _ (congr (congrArg₂ z (Fin.ext ?_) (Fin.ext ?_)) (Fin.ext ?_)) <;> blk_simp [idx t, seq, head] <;> (try dsimp only) <;> try omega
theorem in1 (t : Fin cfg0.N) (hkv : m ((c : Thread nD τ).loc main_arg1) = up3 .f32 kv) :
    iblk m c 1 t = up2 .f32 (fun r d => kh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
theorem in2 (t : Fin cfg0.N) (hkv : m ((c : Thread nD τ).loc main_arg1) = up3 .f32 kv) :
    iblk m c 2 t = up2 .f32 (fun r d => vh kv (seq t) r (head t) d) := by
  have h : V m c main_v1 = up2 .f32 (fun n : Fin 512 => kv ⟨n.val / 256, by omega⟩ ⟨n.val % 256, by omega⟩) := by
    funext i
    entry_read
    rw [hkv]
    pointwise [up3_apply, up2_apply]
  funext y
  have h0 : (y 0).val < 256 := (y 0).isLt
  have h1 : (y 1).val < 256 := (y 1).isLt
  have ht := lt8 t
  blk_simp [iblk]
  rw [h, up2_apply, up2_apply]
  refine congrArg _ (congr (congrArg₂ kv (Fin.ext ?_) (Fin.ext ?_)) (Fin.ext ?_)) <;> blk_simp [idx t, seq, head] <;> (try dsimp only) <;> try omega
variable (hz : m ((c : Thread nD τ).loc main_arg0) = up3 .f32 z) (hkv : m ((c : Thread nD τ).loc main_arg1) = up3 .f32 kv)
include hz hkv

/-- The attention's output. -/
theorem final3 : (dats m 0 c).arrAt 3 (cfgs 0).N = up2 .bf16 (rows (N := 4096) rfl (att (qh z) (kh kv) (vh kv))) := by
  refine (dats m 0 c).arrAt_eq_of_covers 3 _ (by decide +kernel) fun t _ y => ?_
  have h0 : (y 0).val < 2048 := (y 0).isLt
  have h1 : (y 1).val < 256 := (y 1).isLt
  have ht := lt8 t
  blk_simp
  have key : up2 (n := 2048) (k := 256) .bf16 (fun r d => (att (qh z) (kh kv) (vh kv)) (seq t) r (head t) d) y
      = up2 .bf16 (rows (N := 4096) rfl (att (qh z) (kh kv) (vh kv))) (((cfg0.win 3).blk t).view.emb y) := by
    rw [up2_apply, up2_apply]
    unfold rows
    refine congrArg _ (congr (congr (congrArg₂ (att (qh z) (kh kv) (vh kv)) (Fin.ext ?_) (Fin.ext ?_)) (Fin.ext ?_)) (Fin.ext ?_)) <;> blk_simp [idx t, seq, head] <;> (try dsimp only) <;> try omega
  refine Eq.trans ?_ key
  rw [after0_3]
  unfold out0_3
  frame_out
  rw [in0 m c z t hz, in1 m c kv t hkv, in2 m c kv t hkv]
  exact congrFun (pay1 _ _ _) y

omit hz hkv in
set_option maxHeartbeats 4000000 in
/-- The run from real arguments. -/
theorem run (ρ : Dev nD → PrngReg)
    (z : Dev nD → Fin 2 → Fin 2048 → Fin 5120 → ℝ) (kv : Dev nD → Fin 2 → Fin 256 → Fin 2048 → ℝ)
    (hz : ∀ c : Dev nD, m ((c.tc : Thread nD τ).loc main_arg0) = up3 .f32 (z c)) (hkv : ∀ c : Dev nD, m ((c.tc : Thread nD τ).loc main_arg1) = up3 .f32 (kv c)) :
    θ_run defs (onTc (τ := τ) (main (F := Ideal))) ⟨m, fun _ => 0, ρ⟩ fun r => ∀ c : Dev nD,
      r.2.mem ((c.tc : Thread nD τ).loc main_v2) = up2 .bf16 (rows (N := 4096) rfl (att (qh (z c)) (kh (kv c)) (vh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Kernel9Ideal.Value.run_blocks m ρ)
  obtain ⟨h0, h1⟩ := h c
  exact ⟨h0.trans (final3 m c _ _ (hz c) (hkv c)), h1⟩
end Cert.AttnFK
-- ==== Proof.AttnFR.lean ====
module
public import proofs.«01_k».proof.Proof.Gen.Reference9Ideal.Read
public import proofs.«01_k».proof.Proof.AttnFMath
public import proofs.«01_k».proof.Proof.AttnR
@[expose] public section
set_option maxRecDepth 16384
noncomputable section
namespace Cert.AttnFR
open Idealize.ShloMosaic Idealize.ShloMosaic.TcCoe Idealize.SL.Sem
open Cert.Reference9Ideal Cert.Reference9Ideal.Gen Cert.Reference9Ideal.Read Cert.Lift Cert.AttnMath

variable (z : Fin 2 → Fin 2048 → Fin 5120 → ℝ) (kv : Fin 2 → Fin 256 → Fin 2048 → ℝ)

theorem v8 : val_main_v8 (F := Ideal) (up3 .f32 z) (up3 .f32 kv) = up4 .f32 (fun b h t => sc (qh z) (kh kv) b h t) := AttnR.v8 z kv
theorem v9 : val_main_v9 (F := Ideal) (up3 .f32 z) (up3 .f32 kv) = up3 .f32 (fun b h t => top (sc (qh z) (kh kv) b h t)) := AttnR.v9 z kv
theorem v3 : val_main_v3 (F := Ideal) (up3 .f32 kv) = up4 .f32 (vh kv) := AttnR.v4 kv
theorem v11 : val_main_v11 (F := Ideal) (up3 .f32 z) (up3 .f32 kv) = up3 .f32 (fun b h t => top (sc (qh z) (kh kv) b h t)) := by
  funext i
  unfold val_main_v11
  rw [v9]
  pointwise [val_main_v10, val_main_cst_1, up3_apply]
  rw [c_neg_inf]
  exact max_eq_right bot_le
theorem v15 : val_main_v15 (F := Ideal) (up3 .f32 z) (up3 .f32 kv) = up4 .f32 (fun b h t => ex (sc (qh z) (kh kv) b h t)) := by
  funext i
  pointwise [val_main_v15, val_main_v14, val_main_v13, val_main_v12, v11, v8, up4_apply, up3_apply]
  rfl
theorem v19 : val_main_v19 (F := Ideal) (up3 .f32 z) (up3 .f32 kv) = up4 .f32 (fun b h t => prob (sc (qh z) (kh kv) b h t)) := by
  funext i
  pointwise [val_main_v19, val_main_v18, val_main_v17, val_main_v16, val_main_cst_2, v15, up4_apply]
  simp only [coe_sum, zero_add]
  exact div_coe' _ _ (tot_pos _).ne'
theorem v24 : val_main_v24 (F := Ideal) (up3 .f32 z) (up3 .f32 kv) = up2 .bf16 (rows (N := 4096) rfl (att (qh z) (kh kv) (vh kv))) := by
  funext i
  pointwise [val_main_v24, val_main_v23, val_main_v22, val_main_v21, val_main_v20, v19, v3, up4_apply, up2_apply]
  simp only [← EReal.coe_mul, coe_sum, zero_add]
  exact congrArg _ (Finset.sum_congr rfl fun t _ => mul_comm _ _)

set_option maxHeartbeats 4000000 in
/-- The run from real arguments. -/
theorem run (m : (ℓ : Loc nD τ sig) → Buf (Elt Ideal) ℓ) (ρ : Dev nD → PrngReg)
    (z : Dev nD → Fin 2 → Fin 2048 → Fin 5120 → ℝ) (kv : Dev nD → Fin 2 → Fin 256 → Fin 2048 → ℝ)
    (hz : ∀ c : Dev nD, m ((c.tc : Thread nD τ).loc main_arg0) = up3 .f32 (z c)) (hkv : ∀ c : Dev nD, m ((c.tc : Thread nD τ).loc main_arg1) = up3 .f32 (kv c)) :
    θ_run defs (onTc (τ := τ) (main (F := Ideal))) ⟨m, fun _ => 0, ρ⟩ fun r => ∀ c : Dev nD,
      r.2.mem ((c.tc : Thread nD τ).loc main_v24) = up2 .bf16 (rows (N := 4096) rfl (att (qh (z c)) (kh (kv c)) (vh (kv c))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference9Ideal.Value.run m ρ)
  obtain ⟨h0, h1⟩ := h c
  exact ⟨h0.trans ((val_main_v24_eq _ _).trans (by rw [hz, hkv]; exact v24 _ _)), h1⟩
end Cert.AttnFR
-- ==== Proof.AttnF.lean ====
module
public import proofs.«01_k».proof.Defs
public import proofs.«01_k».proof.Proof.Gen.Kernel9
public import proofs.«01_k».proof.Proof.Gen.Kernel9.Frame
public import proofs.«01_k».proof.Proof.Gen.Pre_finite9
public import proofs.«01_k».proof.Proof.AttnFK
public import proofs.«01_k».proof.Proof.AttnFR
public import Idealize.ShloMosaic.Adequacy
public import Idealize.ShloMosaic.Init
public import Idealize.ShloMosaic.Lib.Quiescent
@[expose] public section
set_option maxRecDepth 16384
noncomputable section
namespace Cert.AttnF
open Idealize.ShloMosaic Idealize.ShloMosaic.TcCoe Idealize.SL.Sem Cert.Lift

/-- The precondition says that the arguments it speaks of are arrays of real numbers. -/
theorem real (z : FVec Ideal Cert.Pre_finite9.S2x2048x5120 .f32)
    (kv : FVec Ideal Cert.Pre_finite9.S2x256x2048 .f32)
    (h : @Cert.Pre_finite9.fn Cert.Pre_finite9.Gen.facts Ideal _ z kv = fun _ => 1#1) :
    ∃ (z' : Fin 2 → Fin 2048 → Fin 5120 → ℝ) (kv' : Fin 2 → Fin 256 → Fin 2048 → ℝ),
      z = up3 .f32 z' ∧ kv = up3 .f32 kv' := by
  have h0 := congrFun h (fun a => a.elim0)
  dsimp only [Cert.Pre_finite9.fn] at h0
  obtain ⟨a1, b1⟩ := and_one h0
  obtain ⟨z', ez⟩ := exists_up3 .f32 z (finite_of_reduce z _ inf_apply _ _ _ _ a1)
  obtain ⟨kv', ekv⟩ := exists_up3 .f32 kv (finite_of_reduce kv _ inf_apply _ _ _ _ b1)
  exact ⟨z', kv', ez, ekv⟩

theorem frame_kernel : Cert.quiescent_Kernel9 (hKernel9 := Cert.Kernel9.Gen.facts) := fun m ρ _ => Cert.Kernel9.Gen.frame m ρ
theorem frame_ideal : Cert.quiescent_Kernel9Ideal (hKernel9Ideal := Cert.Kernel9Ideal.Gen.facts) :=
  fun m ρ _ => Cert.Kernel9Ideal.Gen.frame m ρ
theorem frame_ideal_pre : Cert.quiescent_Kernel9Ideal_pre_finite9 (hKernel9Ideal := Cert.Kernel9Ideal.Gen.facts) (hPre_finite9 := Cert.Pre_finite9.Gen.facts) :=
  fun m ρ _ => Cert.Kernel9Ideal.Gen.frame m ρ
theorem frame_reference : Cert.quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩) (Cert.Reference9Ideal.Value.run m ρ)
theorem frame_reference_pre : Cert.quiescent_Reference9Ideal_pre_finite9 (hReference9Ideal := Cert.Reference9Ideal.Gen.facts) (hPre_finite9 := Cert.Pre_finite9.Gen.facts) :=
  fun m ρ _ => frame_reference m ρ trivial

/-- The output of the memory attention is its reference's. -/
theorem algebraic : Cert.algebraic_Kernel9Ideal_Reference9Ideal_pre_finite9 (hKernel9Ideal := Cert.Kernel9Ideal.Gen.facts)
    (hReference9Ideal := Cert.Reference9Ideal.Gen.facts) (hPre_finite9 := Cert.Pre_finite9.Gen.facts) := by
  intro m0 g0 m1 g1 hpre hagree
  choose z kv hz hkv using fun c => real _ _ (hpre c)
  exact ⟨_, Cert.AttnFK.run m0 g0 z kv hz hkv,
    Cert.AttnFR.run m1 g1 z kv
      (fun c => (hagree c).1.trans (hz c))
      (fun c => (hagree c).2.trans (hkv c))⟩
end Cert.AttnF
-- ==== Proof.GateMath.lean ====
module
public import proofs.«01_k».proof.Proof.Lift
import Idealize.ShloMosaic.PureOps.Ideal.Laws
@[expose] public section
set_option maxRecDepth 16384
noncomputable section
namespace Cert.GateMath
open Idealize.ShloMosaic Cert.Lift

/-- The error function. -/
def erfR (x : ℝ) : ℝ := 2 / Real.sqrt Real.pi * ∫ t in (0 : ℝ)..x, Real.exp (-(t ^ 2))
theorem erf_up (x : ℝ) : Ideal.erf (x : EReal) = ((erfR x : ℝ) : EReal) := rfl
theorem erfR_neg (x : ℝ) : erfR (-x) = -erfR x := by
  have h := Ideal.erf_neg (x : EReal)
  rw [← EReal.coe_neg, erf_up, erf_up, ← EReal.coe_neg] at h
  exact EReal.coe_injective h
theorem erfc_up (x : ℝ) : Ideal.erfc (x : EReal) = ((1 - erfR x : ℝ) : EReal) := by
  rw [Ideal.erfc, erf_up, ← EReal.coe_one, ← EReal.coe_sub]

/-- One over the root of two, and of two pi. -/
def rt : ℝ := (Real.sqrt 2)⁻¹
def rp : ℝ := (Real.sqrt (2 * Real.pi))⁻¹
/-- The normal distribution's cumulative function, the gelu and its slope. -/
def cdf (x : ℝ) : ℝ := 1 / 2 * (1 + erfR (x * rt))
def gl (x : ℝ) : ℝ := x * cdf x
def dgl (x : ℝ) : ℝ := cdf x + x * (Real.exp (-1 / 2 * x * x) * rp)
theorem rt_sq : rt * rt = 1 / 2 := by
  unfold rt
  rw [← mul_inv, Real.mul_self_sqrt (by norm_num), one_div]
theorem gl_eq (x : ℝ) : 1 / 2 * x * (1 - erfR (-x * rt)) = gl x := by
  unfold gl cdf
  rw [neg_mul, erfR_neg]
  ring
theorem dgl_eq (x d : ℝ) :
    -(-2 * (1 / Real.sqrt Real.pi) * Real.exp (-(-x * rt) * (-x * rt)) * (1 / 2 * x * d) * rt) + 1 / 2 * (d * (1 - erfR (-x * rt))) = d * dgl x := by
  have h : -(-x * rt) * (-x * rt) = -1 / 2 * x * x := by
    rw [show -(-x * rt) * (-x * rt) = -(x * x * (rt * rt)) by ring, rt_sq]
    ring
  have hp : rp = rt * (1 / Real.sqrt Real.pi) := by
    unfold rp rt
    rw [Real.sqrt_mul (by norm_num), mul_inv, one_div]
  have he : erfR (-x * rt) = -erfR (x * rt) := by rw [neg_mul, erfR_neg]
  unfold dgl cdf
  rw [h, he, hp]
  ring

/-- The mean of a row of 2048 numbers, the centred row, its variance with the norm's small constant, the reciprocal
    deviation and the normalised row. -/
def mu (y : Fin 2048 → ℝ) : ℝ := (∑ k, y k) * (1 / 2048)
def xc (y : Fin 2048 → ℝ) (j : Fin 2048) : ℝ := y j - mu y
def va (y : Fin 2048 → ℝ) : ℝ := (∑ k, xc y k * xc y k) * (1 / 2048) + eps
def rs (y : Fin 2048 → ℝ) : ℝ := (√(va y))⁻¹
def vh (y : Fin 2048 → ℝ) (j : Fin 2048) : ℝ := xc y j * rs y
/-- The gradient with respect to the row, for the gradient `d` of the normalised row. -/
def dln (y d : Fin 2048 → ℝ) (j : Fin 2048) : ℝ := rs y * (d j - mu d - vh y j * mu (fun k => d k * vh y k))
theorem va_pos (y : Fin 2048 → ℝ) : 0 < va y :=
  add_pos_of_nonneg_of_pos (mul_nonneg (Finset.sum_nonneg fun k _ => mul_self_nonneg _) (by norm_num)) eps_pos
theorem rs_sq (y : Fin 2048 → ℝ) : rs y * rs y = 1 / va y := by
  unfold rs
  rw [← mul_inv, Real.mul_self_sqrt (va_pos y).le, one_div]
theorem sum_xc (y : Fin 2048 → ℝ) : ∑ k, xc y k = 0 := by
  unfold xc mu
  rw [Finset.sum_sub_distrib, Finset.sum_const, Finset.card_univ, Fintype.card_fin]
  simp only [nsmul_eq_mul]
  push_cast
  ring
/-- The slope of the reciprocal deviation along the gradient. -/
def sl (y d : Fin 2048 → ℝ) : ℝ := (∑ k, xc y k * d k) * (-1 / 2 * (rs y * (1 / va y))) * (1 / 2048)
/-- The gradient as reverse differentiation of the norm's own lines gives it, before the mean's part. -/
def dxc (y d : Fin 2048 → ℝ) (j : Fin 2048) : ℝ := d j * rs y + xc y j * sl y d + sl y d * xc y j
theorem dln_eq (y d : Fin 2048 → ℝ) (j : Fin 2048) : dxc y d j + (∑ k, -dxc y d k) * (1 / 2048) = dln y d j := by
  have hd : (∑ k, -dxc y d k) = -((∑ k, d k) * rs y) := by
    rw [Finset.sum_neg_distrib]
    unfold dxc
    rw [Finset.sum_add_distrib, Finset.sum_add_distrib, ← Finset.sum_mul, ← Finset.sum_mul, ← Finset.mul_sum, sum_xc]
    ring
  have h : (∑ k, d k * vh y k) = (∑ k, xc y k * d k) * rs y := by
    rw [Finset.sum_mul]
    exact Finset.sum_congr rfl fun k _ => by unfold vh; ring
  rw [hd]
  unfold dln mu
  rw [h]
  unfold dxc sl vh
  rw [← rs_sq]
  ring

/-- The comparison of two places of a chunk, as the bit the programs compute. -/
theorem below : ∀ a t : Fin 128, IntOp.cmpi .sge (IntOp.addi (BitVec.ofNat 32 a.val) 0#32) (BitVec.ofNat 32 t.val) = if t.val ≤ a.val then 1#1 else 0#1 := by
  decide +kernel
theorem sel_bit {α : Type} (p : Prop) [Decidable p] (x y : α) : Scalar.select (if p then 1#1 else 0#1) x y = if p then x else y := by
  by_cases h : p <;> simp [Scalar.select, h]
/-- The group of a lane. -/
def gr (j : Fin 2048) : Fin 8 := ⟨j.val / 256, by omega⟩
/-- A lane of a group. -/
def ln (g : Fin 8) (l : Fin 256) : Fin 2048 := ⟨g.val * 256 + l.val, by omega⟩
/-- The weights below the diagonal. -/
def low (w : Fin 8 → Fin 128 → Fin 128 → ℝ) (g : Fin 8) (a s : Fin 128) : ℝ := if s.val ≤ a.val then w g a s else 0

section chunk
variable (w : Fin 8 → Fin 128 → Fin 128 → ℝ) (bs : Fin 8 → Fin 128 → ℝ)
variable (u v d : Fin 128 → Fin 2048 → ℝ)
/-- The mixed rows of a chunk. -/
def mixed (a : Fin 128) (j : Fin 2048) : ℝ := (∑ s, low w (gr j) a s * v s j) + bs (gr j) a
/-- The gradient of the mixed rows' sources, for the gradient `d` of the mixed rows. -/
def dsrc (s : Fin 128) (j : Fin 2048) : ℝ := ∑ a, low w (gr j) a s * d a j
/-- A chunk's parts of the gradients of the weights and the biases. -/
def dwt (g : Fin 8) (a s : Fin 128) : ℝ := ∑ l, d a (ln g l) * v s (ln g l)
def dbi (g : Fin 8) (a : Fin 128) : ℝ := ∑ l, d a (ln g l)
end chunk

/-- A row of a chunk among all the rows. -/
def at4 (k : Fin 32) (a : Fin 128) : Fin 4096 := ⟨k.val * 128 + a.val, by omega⟩
/-- A row's chunk, and its place there. -/
def ck (n : Fin 4096) : Fin 32 := ⟨n.val / 128, by omega⟩
def pl (n : Fin 4096) : Fin 128 := ⟨n.val % 128, by omega⟩

section whole
variable (zu zv dt : Fin 4096 → Fin 2048 → ℝ) (g b : Fin 2048 → ℝ) (w : Fin 8 → Fin 128 → Fin 128 → ℝ) (bs : Fin 8 → Fin 128 → ℝ)
/-- The gate's second factor before it is mixed. -/
def vv (n : Fin 4096) (j : Fin 2048) : ℝ := vh (fun k => gl (zv n k)) j * g j + b j
/-- The gradient of the mixed rows. -/
def dm (n : Fin 4096) (j : Fin 2048) : ℝ := dt n j * gl (zu n j)
/-- The gradient of the first half. -/
def dzu (n : Fin 4096) (j : Fin 2048) : ℝ := dt n j * mixed w bs (fun a => vv zv g b (at4 (ck n) a)) (pl n) j * dgl (zu n j)
/-- The gradient of the normalised rows. -/
def dvv (n : Fin 4096) (j : Fin 2048) : ℝ := dsrc w (fun a => dm zu dt (at4 (ck n) a)) (pl n) j
/-- The gradient of the second half. -/
def dzv (n : Fin 4096) (j : Fin 2048) : ℝ := dln (fun k => gl (zv n k)) (fun k => dvv zu dt w n k * g k) j * dgl (zv n j)
/-- The gradients of the weights, the biases, the norm's gain and its bias. -/
def dw (γ : Fin 8) (a s : Fin 128) : ℝ := if s.val ≤ a.val then ∑ k, dwt (fun a => vv zv g b (at4 k a)) (fun a => dm zu dt (at4 k a)) γ a s else 0
def db (a : Fin 128) (γ : Fin 8) : ℝ := ∑ k, dbi (fun a => dm zu dt (at4 k a)) γ a
def dgain (j : Fin 2048) : ℝ := ∑ n, dvv zu dt w n j * vh (fun k => gl (zv n k)) j
def dbias (j : Fin 2048) : ℝ := ∑ n, dvv zu dt w n j
end whole

/-- A row of a sequence among all the rows, a chunk of a sequence among all the chunks. -/
def row (s : Fin 2) (r : Fin 2048) : Fin 4096 := ⟨s.val * 2048 + r.val, by omega⟩
def ch (s : Fin 2) (k : Fin 16) : Fin 32 := ⟨s.val * 16 + k.val, by omega⟩
/-- An array of all the rows, seen sequence by sequence, and the other way round. -/
def stk {N : ℕ} (f : Fin 4096 → Fin N → ℝ) (s : Fin 2) (r : Fin 2048) (j : Fin N) : ℝ := f (row s r) j
def flat {A : Type} {N : ℕ} (f : Fin 2 → Fin 2048 → Fin N → A) (n : Fin 4096) (j : Fin N) : A := f ⟨n.val / 2048, by omega⟩ ⟨n.val % 2048, by omega⟩ j
theorem stk_flat {N : ℕ} (f : Fin 2 → Fin 2048 → Fin N → ℝ) : stk (flat f) = f := by
  funext s r j
  unfold stk flat row
  have h1 : (⟨(s.val * 2048 + r.val) / 2048, by omega⟩ : Fin 2) = s := Fin.ext (by dsimp only; omega)
  have h2 : (⟨(s.val * 2048 + r.val) % 2048, by omega⟩ : Fin 2048) = r := Fin.ext (by dsimp only; omega)
  dsimp only
  rw [h1, h2]
/-- A sum over all the rows or chunks, sequence by sequence. -/
theorem sum_row (f : Fin 4096 → ℝ) : ∑ s, ∑ r, f (row s r) = ∑ n, f n := by
  rw [← Fintype.sum_prod_type']
  exact Fintype.sum_equiv (finProdFinEquiv (m := 2) (n := 2048)) _ _ fun p => congrArg f (Fin.ext (by simp [row, finProdFinEquiv]; ring))
theorem sum_ch (f : Fin 32 → ℝ) : ∑ s, ∑ k, f (ch s k) = ∑ k, f k := by
  rw [← Fintype.sum_prod_type']
  exact Fintype.sum_equiv (finProdFinEquiv (m := 2) (n := 16)) _ _ fun p => congrArg f (Fin.ext (by simp [ch, finProdFinEquiv]; ring))
theorem ck_row (s : Fin 2) (r : Fin 2048) : ck (row s r) = ch s ⟨r.val / 128, by omega⟩ := Fin.ext (by simp only [ck, row, ch]; omega)
theorem pl_row (s : Fin 2) (r : Fin 2048) : pl (row s r) = ⟨r.val % 128, by omega⟩ := Fin.ext (by simp only [pl, row]; omega)
theorem ln_gr (j : Fin 2048) : ln (gr j) ⟨j.val % 256, by omega⟩ = j := Fin.ext (by simp only [ln, gr]; omega)
theorem at_row (s : Fin 2) (k : Fin 16) (a : Fin 128) : row s ⟨k.val * 128 + a.val, by omega⟩ = at4 (ch s k) a := Fin.ext (by simp only [row, at4, ch]; omega)
/-- The mixed rows and their sources' gradient, at a row of a sequence. -/
theorem mixed_row (w : Fin 8 → Fin 128 → Fin 128 → ℝ) (bs : Fin 8 → Fin 128 → ℝ) (f : Fin 4096 → Fin 2048 → ℝ) (s : Fin 2) (r j : Fin 2048) :
    (∑ x, low w ⟨j.val / 256, by omega⟩ ⟨r.val % 128, by omega⟩ x * f (at4 (ch s ⟨r.val / 128, by omega⟩) x) (ln ⟨j.val / 256, by omega⟩ ⟨j.val % 256, by omega⟩))
      + bs ⟨j.val / 256, by omega⟩ ⟨r.val % 128, by omega⟩ = mixed w bs (fun a => f (at4 (ck (row s r)) a)) (pl (row s r)) j := by
  unfold mixed
  rw [ck_row, pl_row]
  refine congrArg (· + _) (Finset.sum_congr rfl fun x _ => ?_)
  exact congrArg (fun q => _ * f _ q) (ln_gr j)
theorem dsrc_row (w : Fin 8 → Fin 128 → Fin 128 → ℝ) (f : Fin 4096 → Fin 2048 → ℝ) (s : Fin 2) (r j : Fin 2048) :
    (∑ x, low w ⟨j.val / 256, by omega⟩ x ⟨r.val % 128, by omega⟩ * f (at4 (ch s ⟨r.val / 128, by omega⟩) x) (ln ⟨j.val / 256, by omega⟩ ⟨j.val % 256, by omega⟩))
      = dsrc w (fun a => f (at4 (ck (row s r)) a)) (pl (row s r)) j := by
  unfold dsrc
  rw [ck_row, pl_row]
  refine Finset.sum_congr rfl fun x _ => ?_
  exact congrArg (fun q => _ * f _ q) (ln_gr j)
/-- The three thirds of the projections, and the gradient's. -/
def lo {A : Type} (z : Fin 4096 → Fin 5120 → A) (n : Fin 4096) (j : Fin 2048) : A := z n ⟨j.val, by omega⟩
def hi {A : Type} (z : Fin 4096 → Fin 5120 → A) (n : Fin 4096) (j : Fin 2048) : A := z n ⟨2048 + j.val, by omega⟩
def fst {A : Type} (d : Fin 4096 → Fin 3072 → A) (n : Fin 4096) (j : Fin 2048) : A := d n ⟨j.val, by omega⟩
def cat3 (x y : Fin 4096 → Fin 2048 → ℝ) (q : Fin 4096 → Fin 1024 → EReal) (n : Fin 4096) (j : Fin 5120) : EReal :=
  if h : j.val < 2048 then ((x n ⟨j.val, h⟩ : ℝ) : EReal) else if h' : j.val < 4096 then ((y n ⟨j.val - 2048, by omega⟩ : ℝ) : EReal) else q n ⟨j.val - 4096, by omega⟩
theorem stk_row {N : ℕ} (f : Fin 4096 → Fin N → ℝ) (n : Fin 4096) : stk f ⟨n.val / 2048, by omega⟩ ⟨n.val % 2048, by omega⟩ = f n := by
  have h : row ⟨n.val / 2048, by omega⟩ ⟨n.val % 2048, by omega⟩ = n := Fin.ext (by simp only [row]; omega)
  unfold stk
  rw [h]
/-- The three thirds side by side, sequence by sequence. -/
theorem cat_row (x y : Fin 4096 → Fin 2048 → ℝ) (q : Fin 2 → Fin 2048 → Fin 1024 → EReal) (n : Fin 4096) (j : Fin 5120) :
    (if h : j.val < 2048 then ((stk x ⟨n.val / 2048, by omega⟩ ⟨n.val % 2048, by omega⟩ ⟨j.val, h⟩ : ℝ) : EReal)
      else if h : j.val - 2048 < 2048 then ((stk y ⟨n.val / 2048, by omega⟩ ⟨n.val % 2048, by omega⟩ ⟨j.val - 2048, h⟩ : ℝ) : EReal)
      else q ⟨n.val / 2048, by omega⟩ ⟨n.val % 2048, by omega⟩ ⟨j.val - 2048 - 2048, by omega⟩) = cat3 x y (flat q) n j := by
  rw [stk_row, stk_row]
  unfold cat3
  by_cases h : j.val < 2048
  · rw [dif_pos h, dif_pos h]
  · rw [dif_neg h, dif_neg h]
    by_cases h' : j.val < 4096
    · rw [dif_pos h', dif_pos (by omega)]
    · rw [dif_neg h', dif_neg (by omega)]
      rfl
end Cert.GateMath
-- ==== Proof.GateB.lean ====
module
public import proofs.«01_k».proof.Proof.Gen.Kernel6Ideal.Skeleton
public import proofs.«01_k».proof.Proof.Lift
public import proofs.«01_k».proof.Proof.GateMath
@[expose] public section
set_option maxRecDepth 16384
noncomputable section
namespace Cert.GateB
open Idealize.ShloMosaic Idealize.ShloMosaic.TcCoe Idealize.SL.Sem
open Cert.Kernel6Ideal Cert.Kernel6Ideal.Gen Cert.Lift Cert.GateMath

theorem n_rt : Named.named (F := Ideal) κ "inv_sqrt_two" (φ := .f32) 0x3F3504F3#32 = ((rt : ℝ) : EReal) :=
  IdealRules.named_const.ideal_named_scalar _ _ _ _ rfl
theorem n_rp : Named.named (F := Ideal) κ "inv_sqrt_two_pi" (φ := .f32) 0x3ECC422A#32 = ((rp : ℝ) : EReal) :=
  IdealRules.named_const.ideal_named_scalar _ _ _ _ rfl

theorem erf_f (x : ℝ) : FloatOps.erf (F := Ideal) (φ := .f32) (x : EReal) = ((erfR x : ℝ) : EReal) := rfl
section body
variable (q : Ideal .f32) (hq : q = ((1 / 2 : ℝ) : EReal))
variable (zu zv dt : Fin 256 → Fin 2048 → ℝ) (g b : Fin 2048 → ℝ) (w : Fin 8 → Fin 128 → Fin 128 → ℝ) (bs : Fin 8 → Fin 128 → ℝ)

/-- The block's normalised rows, and the gradient of its mixed rows. -/
def nb (n : Fin 256) (j : Fin 2048) : ℝ := vh (fun k => gl (zv n k)) j
def vb (n : Fin 256) (j : Fin 2048) : ℝ := nb zv n j * g j + b j
def mb (n : Fin 256) (j : Fin 2048) : ℝ := dt n j * gl (zu n j)

theorem pay8 : k0_pay8 (F := Ideal) (up2 .f32 zu) = up2 .f32 (fun n j => cdf (zu n j)) := by
  funext i
  pointwise [k0_pay8, k0_pay7, up2_apply]
  rw [n_rt, ← EReal.coe_mul, erf_f, c_half, ← EReal.coe_one, ← EReal.coe_add, ← EReal.coe_mul]
  rfl
theorem pay9 : k0_pay9 (F := Ideal) (up2 .f32 zu) = up2 .f32 (fun n j => gl (zu n j)) := by
  funext i
  pointwise [k0_pay9, pay8, k0_pay7, up2_apply]
  rw [← EReal.coe_mul]
  rfl
theorem pay10 : k0_pay10 (F := Ideal) (up2 .f32 zu) = up2 .f32 (fun n j => dgl (zu n j)) := by
  funext i
  pointwise [k0_pay10, pay8, k0_pay7, up2_apply]
  rw [n_rp, c_neg_half, ← EReal.coe_mul, ← EReal.coe_mul, Ideal.exp_coe, ← EReal.coe_mul, ← EReal.coe_mul, ← EReal.coe_add]
  rfl
include hq in
theorem pay15 : k0_pay15 (F := Ideal) (k0_pay14 (up2 .f32 zv)) q = up2 .f32 (fun n j => cdf (zv n j)) := by
  funext i
  pointwise [k0_pay15, k0_pay14, k0_pay12, up2_apply]
  rw [n_rt, hq, ← EReal.coe_mul, erf_f, ← EReal.coe_one, ← EReal.coe_add, ← EReal.coe_mul]
  rfl
include hq in
theorem pay16 : k0_pay16 (F := Ideal) (k0_pay12 (up2 .f32 zv)) (k0_pay14 (up2 .f32 zv)) q = up2 .f32 (fun n j => dgl (zv n j)) := by
  funext i
  pointwise [k0_pay16, pay15 q hq, k0_pay12, up2_apply]
  rw [n_rp, c_neg_half, ← EReal.coe_mul, ← EReal.coe_mul, Ideal.exp_coe, ← EReal.coe_mul, ← EReal.coe_mul, ← EReal.coe_add]
  rfl
include hq in
theorem pay17 : k0_pay17 (F := Ideal) (k0_pay12 (up2 .f32 zv)) (k0_pay14 (up2 .f32 zv)) q = up2 .f32 (fun n j => xc (fun k => gl (zv n k)) j) := by
  funext i
  pointwise [k0_pay17, pay15 q hq, k0_pay12, up2_apply]
  simp only [← EReal.coe_mul, coe_sum, c2048, zero_add]
  rw [div_coe' _ _ (by norm_num), ← EReal.coe_sub]
  rfl
include hq in
theorem pay18 : k0_pay18 (F := Ideal) (k0_pay12 (up2 .f32 zv)) (k0_pay14 (up2 .f32 zv)) q = up2 .f32 (fun n _ => rs (fun k => gl (zv n k))) := by
  funext i
  pointwise [k0_pay18, pay17 q hq, up2_apply]
  simp only [← EReal.coe_mul, coe_sum, c2048, c_eps, zero_add]
  rw [div_coe' _ _ (by norm_num), ← EReal.coe_add]
  exact rsqrt_pos _ (va_pos _)
include hq in
theorem pay19 : k0_pay19 (F := Ideal) (k0_pay12 (up2 .f32 zv)) (k0_pay14 (up2 .f32 zv)) q = up2 .f32 (nb zv) := by
  funext i
  pointwise [k0_pay19, pay18 q hq, pay17 q hq, up2_apply]
  rw [← EReal.coe_mul]
  rfl
include hq in
theorem pay20 : k0_pay20 (F := Ideal) (k0_pay11 (up2 .f32 (fun _ => g))) (k0_pay12 (up2 .f32 zv)) (k0_pay13 (up2 .f32 (fun _ => b))) (k0_pay14 (up2 .f32 zv)) q
    = up2 .bf16 (vb zv g b) := by
  funext i
  pointwise [k0_pay20, pay19 q hq, k0_pay11, k0_pay13, up2_apply]
  rw [← EReal.coe_mul, ← EReal.coe_add]
  rfl
theorem pay22 : k0_pay22 (F := Ideal) (k0_pay9 (up2 .f32 zu)) (up2 .bf16 dt) = up2 .f32 (mb zu dt) := by
  funext i
  pointwise [k0_pay22, pay9, k0_pay21, up2_apply]
  rw [← EReal.coe_mul]
  rfl
theorem pay23 : k0_pay23 (F := Ideal) (k0_pay9 (up2 .f32 zu)) (up2 .bf16 dt) = up2 .bf16 (mb zu dt) := by
  funext i
  pointwise [k0_pay23, pay22, up2_apply]
include hq in
theorem pay1 (d : Fin 256 → Fin 2048 → ℝ) :
    k0_pay1 (F := Ideal) (k0_pay16 (k0_pay12 (up2 .f32 zv)) (k0_pay14 (up2 .f32 zv)) q)
      (k0_pay18 (k0_pay12 (up2 .f32 zv)) (k0_pay14 (up2 .f32 zv)) q)
      (k0_pay19 (k0_pay12 (up2 .f32 zv)) (k0_pay14 (up2 .f32 zv)) q)
      (k0_pay119 (k0_pay11 (up2 .f32 (fun _ => g))) (up2 .f32 d))
    = up2 .bf16 (fun n j => dln (fun k => gl (zv n k)) (fun k => d n k * g k) j * dgl (zv n j)) := by
  funext i
  pointwise [k0_pay1, pay16 q hq, pay18 q hq, pay19 q hq, k0_pay119, k0_pay11, up2_apply]
  simp only [← EReal.coe_mul, coe_sum, c2048, zero_add]
  rw [div_coe' _ _ (by norm_num), div_coe' _ _ (by norm_num), ← EReal.coe_sub, ← EReal.coe_mul, ← EReal.coe_sub, ← EReal.coe_mul, ← EReal.coe_mul]
  rfl
include hq in
theorem pay117 (d : Fin 256 → Fin 2048 → ℝ) (P : FVec Ideal ⟨2, ![1, 2048]⟩ .f32) (i) :
    k0_pay117 (F := Ideal) (k0_pay19 (k0_pay12 (up2 .f32 zv)) (k0_pay14 (up2 .f32 zv)) q) (up2 .f32 d) P i
      = P i + ((∑ n, d n (i 1) * nb zv n (i 1) : ℝ) : EReal) := by
  pointwise [k0_pay117, pay19 q hq, up2_apply]
  simp only [← EReal.coe_mul, coe_sum, zero_add]
theorem pay118 (d : Fin 256 → Fin 2048 → ℝ) (P : FVec Ideal ⟨2, ![1, 2048]⟩ .f32) (i) :
    k0_pay118 (F := Ideal) (up2 .f32 d) P i = P i + ((∑ n, d n (i 1) : ℝ) : EReal) := by
  pointwise [k0_pay118, up2_apply]
  simp only [← EReal.coe_mul, coe_sum, zero_add]

/-- The block's mixed rows, the gradient of their sources, and of the first half. -/
def pt (n : Fin 256) (s : Fin 128) : Fin 256 := ⟨n.val / 128 * 128 + s.val, by omega⟩
def ql (n : Fin 256) : Fin 128 := ⟨n.val % 128, by omega⟩
def zub (n : Fin 256) (j : Fin 2048) : ℝ := dt n j * mixed w bs (fun s => vb zv g b (pt n s)) (ql n) j * dgl (zu n j)
def vvb (n : Fin 256) (j : Fin 2048) : ℝ := dsrc w (fun s => mb zu dt (pt n s)) (ql n) j
theorem sel_low (a s : Fin 128) (r : ℝ) : Scalar.select (IntOp.cmpi .sge (BitVec.ofNat 32 a.val) (BitVec.ofNat 32 s.val)) (r : EReal) 0
    = ((if s.val ≤ a.val then r else 0 : ℝ) : EReal) := by
  have h := below a s
  rw [show IntOp.addi (BitVec.ofNat 32 a.val) 0#32 = BitVec.ofNat 32 a.val from BitVec.add_zero _] at h
  rw [h, sel_bit]
  split <;> rfl
/-- A masked product at the entry it is meant for. -/
theorem sel_one (F : Fin 256 → Fin 2048 → ℝ) {γ : Fin 8} {a s : Fin 128} {r : Fin 256} {k : Fin 2048} (γ' : Fin 8) (a' s' : Fin 128) (r' : Fin 256) (k' : Fin 2048)
    (hγ : γ.val = γ'.val) (ha : a.val = a'.val) (hs : s.val = s'.val) (hr : r.val = r'.val) (hk : k.val = k'.val) :
    Scalar.select (IntOp.cmpi .sge (BitVec.ofNat 32 a.val) (BitVec.ofNat 32 s.val)) (((w γ a s : ℝ) : EReal) * ((F r k : ℝ) : EReal)) 0
      = ((low w γ' a' s' * F r' k' : ℝ) : EReal) := by
  obtain rfl : γ = γ' := Fin.ext hγ
  obtain rfl : a = a' := Fin.ext ha
  obtain rfl : s = s' := Fin.ext hs
  obtain rfl : r = r' := Fin.ext hr
  obtain rfl : k = k' := Fin.ext hk
  rw [← EReal.coe_mul, sel_low]
  unfold low
  rw [ite_mul, zero_mul]
theorem dv_piece (y0 : Fin 256) (y1 : Fin 2048) {f : Fin 128 → EReal} (h : ∀ s, f s = ((low w (gr y1) s (ql y0) * mb zu dt (pt y0 s) y1 : ℝ) : EReal)) :
    (∑ a : Fin 128, f a) = ((vvb zu dt w y0 y1 : ℝ) : EReal) :=
  (Finset.sum_congr rfl fun s _ => h s).trans (coe_sum _ _)
/-- The block of the gradient of the projections: its three parts side by side. -/
def cB (x y : Fin 256 → Fin 2048 → ℝ) (Q : Fin 256 → Fin 1024 → EReal) (n : Fin 256) (j : Fin 5120) : EReal :=
  if h : j.val < 2048 then ((x n ⟨j.val, h⟩ : ℝ) : EReal) else if h' : j.val < 4096 then ((y n ⟨j.val - 2048, by omega⟩ : ℝ) : EReal) else Q n ⟨j.val - 4096, by omega⟩
theorem dz_piece (Y : Fin 256 → Fin 2048 → ℝ) (Q : Fin 256 → Fin 1024 → EReal) (y0 : Fin 256) (y1 : Fin 5120) {γ : Fin 8} {x0 : Fin 128} {n : Fin 256} {j : Fin 2048} {f : Fin 128 → EReal}
    (hn : n.val = y0.val) (hj : j.val = y1.val) (hγ : γ.val = j.val / 256) (hx : x0.val = n.val % 128)
    (h : ∀ s, f s = ((low w (gr j) (ql n) s * vb zv g b (pt n s) j : ℝ) : EReal)) :
    ((dt n j : ℝ) : EReal) * ((∑ s : Fin 128, f s) + ((bs γ x0 : ℝ) : EReal)) * ((dgl (zu n j) : ℝ) : EReal)
      = cB (zub zu zv dt g b w bs) Y Q y0 y1 := by
  obtain rfl : n = y0 := Fin.ext hn
  have hl : y1.val < 2048 := hj ▸ j.isLt
  obtain rfl : j = ⟨y1.val, hl⟩ := Fin.ext hj
  obtain rfl : γ = gr ⟨y1.val, hl⟩ := Fin.ext hγ
  obtain rfl : x0 = ql n := Fin.ext hx
  simp only [h, ← EReal.coe_mul, coe_sum, ← EReal.coe_add]
  unfold cB
  rw [dif_pos hl]
  rfl
theorem cB_m (X Y : Fin 256 → Fin 2048 → ℝ) (Q : Fin 256 → Fin 1024 → EReal) (y0 : Fin 256) (y1 : Fin 5120) (n : Fin 256) (j : Fin 2048)
    (hn : y0.val = n.val) (hj : y1.val = 2048 + j.val) : ((Y n j : ℝ) : EReal) = cB X Y Q y0 y1 := by
  obtain rfl : y0 = n := Fin.ext hn
  unfold cB
  rw [dif_neg (by omega), dif_pos (by omega)]
  exact congrArg (fun q => ((Y y0 q : ℝ) : EReal)) (Fin.ext (by dsimp only; omega))
theorem cB_r (X Y : Fin 256 → Fin 2048 → ℝ) (Q : Fin 256 → Fin 1024 → EReal) (y0 : Fin 256) (y1 : Fin 5120) (n : Fin 256) (j : Fin 1024)
    (hn : y0.val = n.val) (hj : y1.val = 4096 + j.val) : Q n j = cB X Y Q y0 y1 := by
  obtain rfl : y0 = n := Fin.ext hn
  unfold cB
  rw [dif_neg (by omega), dif_neg (by omega)]
  exact congrArg (Q y0) (Fin.ext (by dsimp only; omega))
/-- A row of one of the block's two chunks, and the block's parts of the gradients of the weights and the biases. -/
def hf (o : Fin 2) (a : Fin 128) : Fin 256 := ⟨o.val * 128 + a.val, by omega⟩
def dwB (γ : Fin 8) (a s : Fin 128) : ℝ := if s.val ≤ a.val then ∑ o, dwt (fun a => vb zv g b (hf o a)) (fun a => mb zu dt (hf o a)) γ a s else 0
def dbB (a : Fin 128) (γ : Fin 8) : ℝ := ∑ o, dbi (fun a => mb zu dt (hf o a)) γ a
/-- A product of two entries at the places they are meant for. -/
theorem mul_one_at (F G : Fin 256 → Fin 2048 → ℝ) {r s : Fin 256} {j k : Fin 2048} (r' s' : Fin 256) (j' : Fin 2048)
    (hr : r.val = r'.val) (hs : s.val = s'.val) (hj : j.val = j'.val) (hk : k.val = j'.val) : ((F r j : ℝ) : EReal) * ((G s k : ℝ) : EReal) = ((F r' j' * G s' j' : ℝ) : EReal) := by
  obtain rfl : r = r' := Fin.ext hr
  obtain rfl : s = s' := Fin.ext hs
  obtain rfl : j = j' := Fin.ext hj
  obtain rfl : k = j := Fin.ext hk
  exact (EReal.coe_mul _ _).symm
theorem dw_piece (γ : Fin 8) (a' s' : Fin 128) {a s : Fin 128} {f e : Fin 256 → EReal} (ha : a'.val = a.val) (hs : s'.val = s.val)
    (hf0 : ∀ l, f l = ((mb zu dt (hf 0 a') (ln γ l) * vb zv g b (hf 0 s') (ln γ l) : ℝ) : EReal))
    (hf1 : ∀ l, e l = ((mb zu dt (hf 1 a') (ln γ l) * vb zv g b (hf 1 s') (ln γ l) : ℝ) : EReal)) :
    Scalar.select (IntOp.cmpi .sge (BitVec.ofNat 32 a.val) (BitVec.ofNat 32 s.val)) ((∑ l : Fin 256, f l) + ∑ l : Fin 256, e l) 0 = ((dwB zu zv dt g b γ a' s' : ℝ) : EReal) := by
  obtain rfl : a' = a := Fin.ext ha
  obtain rfl : s' = s := Fin.ext hs
  simp only [hf0, hf1, coe_sum, ← EReal.coe_add, sel_low]
  unfold dwB dwt
  rw [Fin.sum_univ_two]
theorem at_ix3 (p : FVec Ideal ⟨3, ![8, 128, 128]⟩ .f32) (y : Shape.Idx ⟨3, ![8, 128, 128]⟩) {γ : Fin 8} {a s : Fin 128} (hγ : (y 0).val = γ.val) (ha : (y 1).val = a.val) (hs : (y 2).val = s.val) :
    p (ix3 γ a s) = p y := by
  refine congrArg p (funext fun x => ?_)
  match x with
  | ⟨0, _⟩ => exact Fin.ext hγ.symm
  | ⟨1, _⟩ => exact Fin.ext ha.symm
  | ⟨2, _⟩ => exact Fin.ext hs.symm
theorem hot (γ : Fin 8) (k : ℕ) (hk : k < 8) : FloatOps.sitofp (F := Ideal) FTy.f32 (BitVec.setWidth 32 (IntOp.cmpi CmpIPredicate.eq (BitVec.ofNat 32 γ.val) (BitVec.ofNat 32 k)))
    = ((if γ.val = k then 1 else 0 : ℝ) : EReal) := by
  have h : ∀ γ k : Fin 8, (BitVec.setWidth 32 (IntOp.cmpi CmpIPredicate.eq (BitVec.ofNat 32 γ.val) (BitVec.ofNat 32 k.val))) = if γ.val = k.val then 1#32 else 0#32 := by decide +kernel
  rw [h γ ⟨k, hk⟩]
  by_cases e : γ.val = k
  · rw [if_pos e, if_pos e]
    show (((1#32 : BitVec 32).toInt : ℝ) : EReal) = _
    norm_num
  · rw [if_neg e, if_neg e]
    show (((0#32 : BitVec 32).toInt : ℝ) : EReal) = _
    norm_num
/-- An entry at the place it is meant for. -/
theorem one_at (F : Fin 256 → Fin 2048 → ℝ) {r : Fin 256} {j : Fin 2048} (r' : Fin 256) (j' : Fin 2048) (hr : r.val = r'.val) (hj : j.val = j'.val) :
    ((F r j : ℝ) : EReal) = ((F r' j' : ℝ) : EReal) := by
  obtain rfl : r = r' := Fin.ext hr
  obtain rfl : j = j' := Fin.ext hj
  rfl
/-- A group's column of the biases' gradient. -/
def dbG (a : Fin 128) (k : Fin 8) : ℝ := (∑ l, mb zu dt (hf 0 a) (ln k l)) + ∑ l, mb zu dt (hf 1 a) (ln k l)
theorem db_one (a : Fin 128) (γ : Fin 8) (k : Fin 8) {f e : Fin 256 → EReal} {h : EReal} (hh : h = ((if γ.val = k.val then 1 else 0 : ℝ) : EReal))
    (h0 : ∀ l, f l = ((mb zu dt (hf 0 a) (ln k l) : ℝ) : EReal)) (h1 : ∀ l, e l = ((mb zu dt (hf 1 a) (ln k l) : ℝ) : EReal)) :
    ((∑ l, f l) + ∑ l, e l) * h = ((dbG zu dt a k * (if γ.val = k.val then 1 else 0) : ℝ) : EReal) := by
  simp only [hh, h0, h1, coe_sum, ← EReal.coe_add, ← EReal.coe_mul]
  rfl
theorem db_piece (a : Fin 128) (γ : Fin 8) {q0 q1 q2 q3 q4 q5 q6 q7 : EReal} (h0 : q0 = ((dbG zu dt a 0 * (if γ.val = 0 then 1 else 0) : ℝ) : EReal)) (h1 : q1 = ((dbG zu dt a 1 * (if γ.val = 1 then 1 else 0) : ℝ) : EReal)) (h2 : q2 = ((dbG zu dt a 2 * (if γ.val = 2 then 1 else 0) : ℝ) : EReal)) (h3 : q3 = ((dbG zu dt a 3 * (if γ.val = 3 then 1 else 0) : ℝ) : EReal)) (h4 : q4 = ((dbG zu dt a 4 * (if γ.val = 4 then 1 else 0) : ℝ) : EReal)) (h5 : q5 = ((dbG zu dt a 5 * (if γ.val = 5 then 1 else 0) : ℝ) : EReal)) (h6 : q6 = ((dbG zu dt a 6 * (if γ.val = 6 then 1 else 0) : ℝ) : EReal)) (h7 : q7 = ((dbG zu dt a 7 * (if γ.val = 7 then 1 else 0) : ℝ) : EReal)) :
    q0 + q1 + q2 + q3 + q4 + q5 + q6 + q7 = ((dbB zu dt a γ : ℝ) : EReal) := by
  rw [h0, h1, h2, h3, h4, h5, h6, h7]
  simp only [← EReal.coe_add]
  unfold dbB dbi
  rw [Fin.sum_univ_two]
  refine congrArg _ ?_
  fin_cases γ <;> norm_num <;> rfl
end body
/-- The rows of point `t` of an array of all the rows. -/
def at256 (t : Fin 16) (r : Fin 256) : Fin 4096 := ⟨t.val * 256 + r.val, by omega⟩
def bR {A : Type} {N : ℕ} (t : Fin 16) (f : Fin 4096 → Fin N → A) (r : Fin 256) : Fin N → A := f (at256 t r)
theorem at_pt (t : Fin 16) (r : Fin 256) (s : Fin 128) : at256 t (pt r s) = at4 (ck (at256 t r)) s := Fin.ext (by simp only [at256, pt, at4, ck]; omega)
theorem ql_at (t : Fin 16) (r : Fin 256) : ql r = pl (at256 t r) := Fin.ext (by simp only [at256, ql, pl]; omega)
end Cert.GateB
-- ==== Proof.GateP.lean ====
module
public import proofs.«01_k».proof.Proof.Gen.Kernel6Ideal.Value
public import proofs.«01_k».proof.Proof.GateB
public import Idealize.ShloMosaic.Lib.Pipeline.ReadBack
@[expose] public section
set_option maxRecDepth 16384
set_option maxHeartbeats 4000000
noncomputable section
namespace Cert.GateP
open Idealize.ShloMosaic Idealize.ShloMosaic.TcCoe Idealize.SL.Sem
open Cert.Kernel6Ideal Cert.Kernel6Ideal.Gen Cert.Lift Cert.GateMath Cert.GateB
theorem half : (FloatOps.ofBits FTy.f32 1056964608#32 : Ideal .f32) = ((1 / 2 : ℝ) : EReal) := c_half
theorem idx_whole (j : S256x2048.Idx) : (Rect.unit ![0, 0] ![256, 2048] inb_S256x2048_S256x2048_0_0).idx j = j := by
  funext a
  refine Fin.ext ?_
  rw [Rect.idx_unit_val]
  fin_cases a <;> exact Nat.zero_add _
/-- Pieces stored over an earlier fill, read where one of them lies. -/
theorem canon_over {S : Shape} {e : EltTy} (q : View.Piece (Elt Ideal) S e) (y : S.Idx) :
    ∀ L : List (View.Piece (Elt Ideal) S e), (∃ p ∈ L, y ∈ p.1.set) → View.canon (L ++ [q]) y = View.canon L y
  | [], h => by obtain ⟨p, hp, _⟩ := h; exact absurd hp List.not_mem_nil
  | p :: L, h => by
    by_cases hm : y ∈ p.1.set
    · obtain ⟨x, rfl⟩ := p.1.exists_idx_of_mem hm
      exact (View.canon_cons_emb p.1 p.2 (L ++ [q]) x).trans (View.canon_cons_emb p.1 p.2 L x).symm
    · rw [List.cons_append, View.canon_cons_of_not_mem _ _ hm, View.canon_cons_of_not_mem _ _ hm]
      refine canon_over q y L ?_
      obtain ⟨r, hr, hyr⟩ := h
      rcases List.mem_cons.mp hr with rfl | hr'
      · exact absurd hyr hm
      · exact ⟨r, hr', hyr⟩
section point
variable (m : (ℓ : Loc nD τ sig) → Buf (Elt Ideal) ℓ) (c : Dev nD) (t : Fin cfg0.N)
variable (zu zv dt : Fin 256 → Fin 2048 → ℝ) (g b : Fin 2048 → ℝ) (w : Fin 8 → Fin 128 → Fin 128 → ℝ) (bs : Fin 8 → Fin 128 → ℝ) (Q : Fin 256 → Fin 1024 → EReal)
variable (e0 : X0_0 m c t = up2 .f32 zu) (e1 : X0_1 m c t = up2 .f32 zv) (e2 : X0_2 m c t = up2 .bf16 dt) (e3 : iblk m c 3 t = ue2 .bf16 Q)
  (e4 : iblk m c 4 t = up2 .f32 (fun _ => g)) (e5 : iblk m c 5 t = up2 .f32 (fun _ => b)) (e6 : iblk m c 6 t = up3 .f32 w) (e7 : iblk m c 7 t = up2 .f32 (fun a γ => bs γ a))
include e0 e1 e2 e3 e4 e5 e6 e7
/-- The projections' gradient after the first point. -/
theorem dz_A (h0 : t.val % 16 = 0) (y : S256x5120.Idx) : (outsAt0 m c t.val t.isLt).1 y
    = cB (zub zu zv dt g b w bs) (fun n j => dln (fun k => gl (zv n k)) (fun k => vvb zu dt w n k * g k) j * dgl (zv n j)) Q (y 0) (y 1) := by
  rw [outsAt0_A m c t h0]
  frame_out
  rw [e0, e1, e2, e3, e4, e5, e6, e7, pay20 _ half, pay23, pay10]
  clear e0 e1 e2 e3 e4 e5 e6 e7 h0
  canon_tiles x h using View.cover_of_tiledBy _ ![128, 256] (by sl_kernel_rfl) _
  case piece0 =>
    refine (congrFun (congrArg (fun q => k0_pay1 _ _ _ (k0_pay119 _ q)) (?_ : _ = up2 .f32 (vvb zu dt w))) x).trans ((congrFun (pay1 _ half zv g _) x).trans ((up2_apply _ _ x).trans (cB_m (zub zu zv dt g b w bs) (fun n j => dln (fun k => gl (zv n k)) (fun k => vvb zu dt w n k * g k) j * dgl (zv n j)) Q (y 0) (y 1) (x 0) (x 1) h0 h1)))
    clear h0 h1
    · rw [View.readCov_eq_canon']
      funext j
      refine (congrArg (View.canon _) (?_ : _ = (j : S256x2048.Idx))).trans ?_
      · exact idx_whole j
      rw [up2_apply]
      canon_tiles x h
      all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
      all_goals refine dv_piece zu dt w (j 0) (j 1) fun s => sel_one w (mb zu dt) (gr (j 1)) s (ql (j 0)) (pt (j 0) s) (j 1) ?_ ?_ ?_ ?_ ?_
      all_goals first | omega | (simp only [gr, ql, pt, hf, ln]; omega)
  case piece17 =>
    pointwise [k0_pay2, up2_apply, up3_apply, ue2_apply, h0, h1]
    exact cB_r _ _ _ _ _ (x 0) (x 1) h0 h1
  all_goals (pointwise [k0_pay28, k0_pay32, k0_pay40, k0_pay39, k0_pay42, k0_pay52, k0_pay54, k0_pay62, k0_pay67, k0_pay73, k0_pay79, k0_pay77, k0_pay78, k0_pay84, k0_pay88, k0_pay96, k0_pay95, k0_pay98, k0_pay108, k0_pay110, k0_pay21, k0_pay25, k0_pay2, k0_pay27, k0_pay36, k0_pay49, k0_pay61, k0_pay72, k0_pay83, k0_pay92, k0_pay105, k0_pay24, up2_apply, up3_apply, h0, h1])
  all_goals refine dz_piece zu zv dt g b w bs _ Q (y 0) (y 1) ?_ ?_ ?_ ?_ fun s => sel_one w (vb zv g b) _ _ s _ _ ?_ ?_ ?_ ?_ ?_
  all_goals first | omega | (simp only [gr, ql, pt, hf, ln]; omega)
/-- The projections' gradient after a later point. -/
theorem dz_B (h0 : ¬ t.val % 16 = 0) (y : S256x5120.Idx) : (outsAt0 m c t.val t.isLt).1 y
    = cB (zub zu zv dt g b w bs) (fun n j => dln (fun k => gl (zv n k)) (fun k => vvb zu dt w n k * g k) j * dgl (zv n j)) Q (y 0) (y 1) := by
  rw [outsAt0_B m c t h0]
  frame_out
  rw [e0, e1, e2, e3, e4, e5, e6, e7, pay20 _ half, pay23, pay10]
  clear e0 e1 e2 e3 e4 e5 e6 e7 h0
  canon_tiles x h using View.cover_of_tiledBy _ ![128, 256] (by sl_kernel_rfl) _
  case piece0 =>
    refine (congrFun (congrArg (fun q => k0_pay1 _ _ _ (k0_pay119 _ q)) (?_ : _ = up2 .f32 (vvb zu dt w))) x).trans ((congrFun (pay1 _ half zv g _) x).trans ((up2_apply _ _ x).trans (cB_m (zub zu zv dt g b w bs) (fun n j => dln (fun k => gl (zv n k)) (fun k => vvb zu dt w n k * g k) j * dgl (zv n j)) Q (y 0) (y 1) (x 0) (x 1) h0 h1)))
    clear h0 h1
    · rw [View.readCov_eq_canon']
      funext j
      refine (congrArg (View.canon _) (?_ : _ = (j : S256x2048.Idx))).trans ?_
      · exact idx_whole j
      rw [up2_apply]
      canon_tiles x h
      all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
      all_goals refine dv_piece zu dt w (j 0) (j 1) fun s => sel_one w (mb zu dt) (gr (j 1)) s (ql (j 0)) (pt (j 0) s) (j 1) ?_ ?_ ?_ ?_ ?_
      all_goals first | omega | (simp only [gr, ql, pt, hf, ln]; omega)
  case piece17 =>
    pointwise [k0_pay2, up2_apply, up3_apply, ue2_apply, h0, h1]
    exact cB_r _ _ _ _ _ (x 0) (x 1) h0 h1
  all_goals (pointwise [k0_pay28, k0_pay32, k0_pay40, k0_pay39, k0_pay42, k0_pay52, k0_pay54, k0_pay62, k0_pay67, k0_pay73, k0_pay79, k0_pay77, k0_pay78, k0_pay84, k0_pay88, k0_pay96, k0_pay95, k0_pay98, k0_pay108, k0_pay110, k0_pay21, k0_pay25, k0_pay2, k0_pay27, k0_pay36, k0_pay49, k0_pay61, k0_pay72, k0_pay83, k0_pay92, k0_pay105, k0_pay24, up2_apply, up3_apply, h0, h1])
  all_goals refine dz_piece zu zv dt g b w bs _ Q (y 0) (y 1) ?_ ?_ ?_ ?_ fun s => sel_one w (vb zv g b) _ _ s _ _ ?_ ?_ ?_ ?_ ?_
  all_goals first | omega | (simp only [gr, ql, pt, hf, ln]; omega)
/-- The weights' gradient after the first point. -/
theorem dw_A (h0 : t.val % 16 = 0) (y : S8x128x128.Idx) : (outsAt0 m c t.val t.isLt).2.1 y
    = ((dwB zu zv dt g b (y 0) (y 1) (y 2) : ℝ) : EReal) := by
  rw [outsAt0_A m c t h0]
  frame_open
  simp (disch := decide) only [↓View.readCov_skip, ↓View.readCov_cons_toLoadRect, ↓View.readCov_fill]
  frame_out
  rw [e0, e1, e2, e4, e5, pay20 _ half, pay23]
  clear e0 e1 e2 e3 e4 e5 e6 e7 h0
  refine (canon_over _ y [_, _, _, _, _, _, _, _] (View.cover_of_tiled _ ![1, 128, 128] (by sl_kernel_rfl) y)).trans ?_
  canon_tiles x h
  all_goals (pointwise [k0_pay34, k0_pay29, k0_pay47, k0_pay43, k0_pay37, k0_pay59, k0_pay58, k0_pay55, k0_pay50, k0_pay70, k0_pay63, k0_pay81, k0_pay74, k0_pay90, k0_pay85, k0_pay103, k0_pay99, k0_pay93, k0_pay115, k0_pay114, k0_pay111, k0_pay106, k0_pay24, k0_pay3, up2_apply, up3_apply, h0, h1])
  all_goals refine dw_piece zu zv dt g b (y 0) (y 1) (y 2) h1 h2 (fun l => mul_one_at (mb zu dt) (vb zv g b) _ _ _ ?_ ?_ ?_ ?_) (fun l => mul_one_at (mb zu dt) (vb zv g b) _ _ _ ?_ ?_ ?_ ?_)
  all_goals first | omega | (simp only [gr, ql, pt, hf, ln]; omega)
/-- The weights' gradient after a later point. -/
theorem dw_B (h0 : ¬ t.val % 16 = 0) (y : S8x128x128.Idx) : (outsAt0 m c t.val t.isLt).2.1 y
    = (outsAt0 m c (t.val - 1) (Nat.lt_of_le_of_lt (Nat.sub_le _ _) t.isLt)).2.1 y + ((dwB zu zv dt g b (y 0) (y 1) (y 2) : ℝ) : EReal) := by
  rw [outsAt0_B m c t h0]
  frame_out
  generalize (outsAt0 m c (t.val - 1) (Nat.lt_of_le_of_lt (Nat.sub_le _ _) t.isLt)).2.1 = p
  rw [e0, e1, e2, e4, e5, pay20 _ half, pay23]
  clear e0 e1 e2 e3 e4 e5 e6 e7 h0
  canon_tiles x h
  all_goals (pointwise [k0_pay34, k0_pay29, k0_pay47, k0_pay43, k0_pay37, k0_pay59, k0_pay58, k0_pay55, k0_pay50, k0_pay70, k0_pay63, k0_pay81, k0_pay74, k0_pay90, k0_pay85, k0_pay103, k0_pay99, k0_pay93, k0_pay115, k0_pay114, k0_pay111, k0_pay106, k0_pay24, up2_apply, up3_apply, h0, h1])
  all_goals refine congrArg₂ (· + ·) (at_ix3 p y (by rw [h0]; omega) h1 h2) (dw_piece zu zv dt g b (y 0) (y 1) (y 2) h1 h2 (fun l => mul_one_at (mb zu dt) (vb zv g b) _ _ _ ?_ ?_ ?_ ?_) (fun l => mul_one_at (mb zu dt) (vb zv g b) _ _ _ ?_ ?_ ?_ ?_))
  all_goals first | omega | (simp only [gr, ql, pt, hf, ln]; omega)
/-- The biases' gradient after the first point. -/
theorem db_A (h0 : t.val % 16 = 0) (y : S128x8.Idx) : (outsAt0 m c t.val t.isLt).2.2.1 y
    = ((dbB zu dt (y 0) (y 1) : ℝ) : EReal) := by
  rw [outsAt0_A m c t h0]
  frame_out
  rw [e0, e2, pay22]
  clear e0 e1 e2 e3 e4 e5 e6 e7 h0
  pointwise [k0_pay116, k0_pay104, k0_pay91, k0_pay82, k0_pay71, k0_pay60, k0_pay48, k0_pay35, k0_pay26, k0_pay30, k0_pay38, k0_pay44, k0_pay51, k0_pay56, k0_pay64, k0_pay68, k0_pay75, k0_pay86, k0_pay94, k0_pay100, k0_pay107, k0_pay112, k0_pay4, up2_apply, up3_apply]
  refine (db_piece zu dt (y 0) (y 1)
    (db_one zu dt (y 0) (y 1) 0 (hot (y 1) 0 (by omega)) (fun l => one_at (mb zu dt) _ _ ?_ ?_) (fun l => one_at (mb zu dt) _ _ ?_ ?_))
    (db_one zu dt (y 0) (y 1) 1 (hot (y 1) 1 (by omega)) (fun l => one_at (mb zu dt) _ _ ?_ ?_) (fun l => one_at (mb zu dt) _ _ ?_ ?_))
    (db_one zu dt (y 0) (y 1) 2 (hot (y 1) 2 (by omega)) (fun l => one_at (mb zu dt) _ _ ?_ ?_) (fun l => one_at (mb zu dt) _ _ ?_ ?_))
    (db_one zu dt (y 0) (y 1) 3 (hot (y 1) 3 (by omega)) (fun l => one_at (mb zu dt) _ _ ?_ ?_) (fun l => one_at (mb zu dt) _ _ ?_ ?_))
    (db_one zu dt (y 0) (y 1) 4 (hot (y 1) 4 (by omega)) (fun l => one_at (mb zu dt) _ _ ?_ ?_) (fun l => one_at (mb zu dt) _ _ ?_ ?_))
    (db_one zu dt (y 0) (y 1) 5 (hot (y 1) 5 (by omega)) (fun l => one_at (mb zu dt) _ _ ?_ ?_) (fun l => one_at (mb zu dt) _ _ ?_ ?_))
    (db_one zu dt (y 0) (y 1) 6 (hot (y 1) 6 (by omega)) (fun l => one_at (mb zu dt) _ _ ?_ ?_) (fun l => one_at (mb zu dt) _ _ ?_ ?_))
    (db_one zu dt (y 0) (y 1) 7 (hot (y 1) 7 (by omega)) (fun l => one_at (mb zu dt) _ _ ?_ ?_) (fun l => one_at (mb zu dt) _ _ ?_ ?_)))
  all_goals first | omega | (simp only [hf, ln]; omega)
/-- The biases' gradient after a later point. -/
theorem db_B (h0 : ¬ t.val % 16 = 0) (y : S128x8.Idx) : (outsAt0 m c t.val t.isLt).2.2.1 y
    = (outsAt0 m c (t.val - 1) (Nat.lt_of_le_of_lt (Nat.sub_le _ _) t.isLt)).2.2.1 y + ((dbB zu dt (y 0) (y 1) : ℝ) : EReal) := by
  rw [outsAt0_B m c t h0]
  frame_out
  generalize (outsAt0 m c (t.val - 1) (Nat.lt_of_le_of_lt (Nat.sub_le _ _) t.isLt)).2.2.1 = p
  rw [e0, e2, pay22]
  clear e0 e1 e2 e3 e4 e5 e6 e7 h0
  pointwise [k0_pay116, k0_pay104, k0_pay91, k0_pay82, k0_pay71, k0_pay60, k0_pay48, k0_pay35, k0_pay26, k0_pay30, k0_pay38, k0_pay44, k0_pay51, k0_pay56, k0_pay64, k0_pay68, k0_pay75, k0_pay86, k0_pay94, k0_pay100, k0_pay107, k0_pay112, up2_apply, up3_apply]
  refine congrArg (p y + ·) (db_piece zu dt (y 0) (y 1)
    (db_one zu dt (y 0) (y 1) 0 (hot (y 1) 0 (by omega)) (fun l => one_at (mb zu dt) _ _ ?_ ?_) (fun l => one_at (mb zu dt) _ _ ?_ ?_))
    (db_one zu dt (y 0) (y 1) 1 (hot (y 1) 1 (by omega)) (fun l => one_at (mb zu dt) _ _ ?_ ?_) (fun l => one_at (mb zu dt) _ _ ?_ ?_))
    (db_one zu dt (y 0) (y 1) 2 (hot (y 1) 2 (by omega)) (fun l => one_at (mb zu dt) _ _ ?_ ?_) (fun l => one_at (mb zu dt) _ _ ?_ ?_))
    (db_one zu dt (y 0) (y 1) 3 (hot (y 1) 3 (by omega)) (fun l => one_at (mb zu dt) _ _ ?_ ?_) (fun l => one_at (mb zu dt) _ _ ?_ ?_))
    (db_one zu dt (y 0) (y 1) 4 (hot (y 1) 4 (by omega)) (fun l => one_at (mb zu dt) _ _ ?_ ?_) (fun l => one_at (mb zu dt) _ _ ?_ ?_))
    (db_one zu dt (y 0) (y 1) 5 (hot (y 1) 5 (by omega)) (fun l => one_at (mb zu dt) _ _ ?_ ?_) (fun l => one_at (mb zu dt) _ _ ?_ ?_))
    (db_one zu dt (y 0) (y 1) 6 (hot (y 1) 6 (by omega)) (fun l => one_at (mb zu dt) _ _ ?_ ?_) (fun l => one_at (mb zu dt) _ _ ?_ ?_))
    (db_one zu dt (y 0) (y 1) 7 (hot (y 1) 7 (by omega)) (fun l => one_at (mb zu dt) _ _ ?_ ?_) (fun l => one_at (mb zu dt) _ _ ?_ ?_)))
  all_goals first | omega | (simp only [hf, ln]; omega)
/-- The gain's gradient after the first point. -/
theorem dg_A (h0 : t.val % 16 = 0) (y : S1x2048.Idx) : (outsAt0 m c t.val t.isLt).2.2.2.1 y
    = ((∑ n, vvb zu dt w n (y 1) * nb zv n (y 1) : ℝ) : EReal) := by
  rw [outsAt0_A m c t h0]
  frame_out
  rw [e0, e1, e2, e6, pay23]
  clear e0 e1 e2 e3 e4 e5 e6 e7 h0
  refine (congrArg (fun q => k0_pay117 _ q _ y) (?_ : _ = up2 .f32 (vvb zu dt w))).trans ((pay117 _ half zv _ _ y).trans ?_)
  rotate_left
  · pointwise [k0_pay5]
  · rw [View.readCov_eq_canon']
    funext j
    refine (congrArg (View.canon _) (?_ : _ = (j : S256x2048.Idx))).trans ?_
    · exact idx_whole j
    rw [up2_apply]
    canon_tiles x h
    all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
    all_goals refine dv_piece zu dt w (j 0) (j 1) fun s => sel_one w (mb zu dt) (gr (j 1)) s (ql (j 0)) (pt (j 0) s) (j 1) ?_ ?_ ?_ ?_ ?_
    all_goals first | omega | (simp only [gr, ql, pt, hf, ln]; omega)
/-- The gain's gradient after a later point. -/
theorem dg_B (h0 : ¬ t.val % 16 = 0) (y : S1x2048.Idx) : (outsAt0 m c t.val t.isLt).2.2.2.1 y
    = (outsAt0 m c (t.val - 1) (Nat.lt_of_le_of_lt (Nat.sub_le _ _) t.isLt)).2.2.2.1 y + ((∑ n, vvb zu dt w n (y 1) * nb zv n (y 1) : ℝ) : EReal) := by
  rw [outsAt0_B m c t h0]
  frame_out
  rw [e0, e1, e2, e6, pay23]
  clear e0 e1 e2 e3 e4 e5 e6 e7 h0
  refine (congrArg (fun q => k0_pay117 _ q _ y) (?_ : _ = up2 .f32 (vvb zu dt w))).trans (pay117 _ half zv _ _ y)
  · rw [View.readCov_eq_canon']
    funext j
    refine (congrArg (View.canon _) (?_ : _ = (j : S256x2048.Idx))).trans ?_
    · exact idx_whole j
    rw [up2_apply]
    canon_tiles x h
    all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
    all_goals refine dv_piece zu dt w (j 0) (j 1) fun s => sel_one w (mb zu dt) (gr (j 1)) s (ql (j 0)) (pt (j 0) s) (j 1) ?_ ?_ ?_ ?_ ?_
    all_goals first | omega | (simp only [gr, ql, pt, hf, ln]; omega)
/-- The norm's bias's gradient after the first point. -/
theorem gb_A (h0 : t.val % 16 = 0) (y : S1x2048.Idx) : (outsAt0 m c t.val t.isLt).2.2.2.2 y
    = ((∑ n, vvb zu dt w n (y 1) : ℝ) : EReal) := by
  rw [outsAt0_A m c t h0]
  frame_out
  rw [e0, e2, e6, pay23]
  clear e0 e1 e2 e3 e4 e5 e6 e7 h0
  refine (congrArg (fun q => k0_pay118 q _ y) (?_ : _ = up2 .f32 (vvb zu dt w))).trans ((pay118 _ _ y).trans ?_)
  rotate_left
  · pointwise [k0_pay6]
  · rw [View.readCov_eq_canon']
    funext j
    refine (congrArg (View.canon _) (?_ : _ = (j : S256x2048.Idx))).trans ?_
    · exact idx_whole j
    rw [up2_apply]
    canon_tiles x h
    all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
    all_goals refine dv_piece zu dt w (j 0) (j 1) fun s => sel_one w (mb zu dt) (gr (j 1)) s (ql (j 0)) (pt (j 0) s) (j 1) ?_ ?_ ?_ ?_ ?_
    all_goals first | omega | (simp only [gr, ql, pt, hf, ln]; omega)
/-- The norm's bias's gradient after a later point. -/
theorem gb_B (h0 : ¬ t.val % 16 = 0) (y : S1x2048.Idx) : (outsAt0 m c t.val t.isLt).2.2.2.2 y
    = (outsAt0 m c (t.val - 1) (Nat.lt_of_le_of_lt (Nat.sub_le _ _) t.isLt)).2.2.2.2 y + ((∑ n, vvb zu dt w n (y 1) : ℝ) : EReal) := by
  rw [outsAt0_B m c t h0]
  frame_out
  rw [e0, e2, e6, pay23]
  clear e0 e1 e2 e3 e4 e5 e6 e7 h0
  refine (congrArg (fun q => k0_pay118 q _ y) (?_ : _ = up2 .f32 (vvb zu dt w))).trans (pay118 _ _ y)
  · rw [View.readCov_eq_canon']
    funext j
    refine (congrArg (View.canon _) (?_ : _ = (j : S256x2048.Idx))).trans ?_
    · exact idx_whole j
    rw [up2_apply]
    canon_tiles x h
    all_goals (pointwise [k0_pay31, k0_pay33, k0_pay41, k0_pay46, k0_pay45, k0_pay53, k0_pay57, k0_pay66, k0_pay65, k0_pay69, k0_pay76, k0_pay80, k0_pay87, k0_pay89, k0_pay97, k0_pay102, k0_pay101, k0_pay109, k0_pay113, k0_pay27, k0_pay36, k0_pay49, k0_pay61, k0_pay72, k0_pay83, k0_pay92, k0_pay105, k0_pay24, up2_apply, up3_apply, h0, h1])
    all_goals refine dv_piece zu dt w (j 0) (j 1) fun s => sel_one w (mb zu dt) (gr (j 1)) s (ql (j 0)) (pt (j 0) s) (j 1) ?_ ?_ ?_ ?_ ?_
    all_goals first | omega | (simp only [gr, ql, pt, hf, ln]; omega)
end point
end Cert.GateP
-- ==== Proof.GateK.lean ====
module
public import proofs.«01_k».proof.Proof.GateP
@[expose] public section
set_option maxRecDepth 16384
noncomputable section
namespace Cert.GateK
open Idealize.ShloMosaic Idealize.ShloMosaic.TcCoe Idealize.SL.Sem
open Idealize.ShloMosaic.Pipeline (Dat)
open Cert.Kernel6Ideal Cert.Kernel6Ideal.Gen Cert.Lift Cert.GateMath Cert.GateB Cert.GateP

theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0] ∧ win0_6.index t = ![0, 0, 0] ∧ win0_7.index t = ![0, 0]
    ∧ win0_8.index t = ![t.val, 0] ∧ win0_9.index t = ![0, 0, 0] ∧ win0_10.index t = ![0, 0] ∧ win0_11.index t = ![0, 0] ∧ win0_12.index t = ![0, 0] ∧ t.val < 16 :=
  (by decide +kernel : ∀ t : Fin grid0.N, _)
theorem lt16 (t : Fin cfg0.N) : t.val < 16 := (idx t).2.2.2.2.2.2.2.2.2.2.2.2.2

section rows
variable (t : Fin 16) (zu zv dt : Fin 4096 → Fin 2048 → ℝ) (g b : Fin 2048 → ℝ) (w : Fin 8 → Fin 128 → Fin 128 → ℝ) (bs : Fin 8 → Fin 128 → ℝ)
theorem zub_row (r : Fin 256) (j : Fin 2048) : zub (bR t zu) (bR t zv) (bR t dt) g b w bs r j = dzu zu zv dt g b w bs (at256 t r) j := by
  show dt (at256 t r) j * mixed w bs (fun s => vv zv g b (at256 t (pt r s))) (ql r) j * _ = _
  simp only [at_pt, ql_at t]
  rfl
theorem vvb_row (r : Fin 256) (j : Fin 2048) : vvb (bR t zu) (bR t dt) w r j = dvv zu dt w (at256 t r) j := by
  show dsrc w (fun s => dm zu dt (at256 t (pt r s))) (ql r) j = _
  simp only [at_pt, ql_at t]
  rfl
theorem dzv_row (r : Fin 256) (j : Fin 2048) :
    dln (fun k => gl (bR t zv r k)) (fun k => vvb (bR t zu) (bR t dt) w r k * g k) j * dgl (bR t zv r j) = dzv zu zv dt g w (at256 t r) j := by
  simp only [vvb_row]
  rfl
theorem cB_row (q : Fin 4096 → Fin 1024 → EReal) (r : Fin 256) (j : Fin 5120) :
    cB (zub (bR t zu) (bR t zv) (bR t dt) g b w bs) (fun n j => dln (fun k => gl (bR t zv n k)) (fun k => vvb (bR t zu) (bR t dt) w n k * g k) j * dgl (bR t zv n j)) (bR t q) r j
      = cat3 (dzu zu zv dt g b w bs) (dzv zu zv dt g w) q (at256 t r) j := by
  unfold cB cat3
  simp only [zub_row, dzv_row]
  rfl
/-- A chunk of a point among all the chunks. -/
def ch2 (t : Fin 16) (o : Fin 2) : Fin 32 := ⟨t.val * 2 + o.val, by omega⟩
theorem at_hf (o : Fin 2) (a : Fin 128) : at256 t (hf o a) = at4 (ch2 t o) a := Fin.ext (by simp only [at256, hf, at4, ch2]; omega)
theorem sum_dw (γ : Fin 8) (a s : Fin 128) : ∑ t, dwB (bR t zu) (bR t zv) (bR t dt) g b γ a s = dw zu zv dt g b γ a s := by
  unfold dwB dw
  split
  · refine Fin.sum_mul_add_congr (L := 32) (f := fun k => dwt (fun a => vv zv g b (at4 k a)) (fun a => dm zu dt (at4 k a)) γ a s) fun t o _ => ?_
    show dwt (fun a => vv zv g b (at256 t (hf o a))) (fun a => dm zu dt (at256 t (hf o a))) γ a s = _
    simp only [at_hf]
    rfl
  · exact Finset.sum_const_zero
theorem sum_db (a : Fin 128) (γ : Fin 8) : ∑ t, dbB (bR t zu) (bR t dt) a γ = db zu dt a γ := by
  unfold dbB db
  refine Fin.sum_mul_add_congr (L := 32) (f := fun k => dbi (fun a => dm zu dt (at4 k a)) γ a) fun t o _ => ?_
  show dbi (fun a => dm zu dt (at256 t (hf o a))) γ a = _
  simp only [at_hf]
  rfl
theorem sum_dg (j : Fin 2048) : ∑ t, ∑ n, vvb (bR t zu) (bR t dt) w n j * nb (bR t zv) n j = dgain zu zv dt w j := by
  unfold dgain
  refine Fin.sum_mul_add_congr (L := 4096) (f := fun n => dvv zu dt w n j * vh (fun k => gl (zv n k)) j) fun t r _ => ?_
  rw [vvb_row]
  rfl
theorem sum_gb (j : Fin 2048) : ∑ t, ∑ n, vvb (bR t zu) (bR t dt) w n j = dbias zu dt w j := by
  unfold dbias
  exact Fin.sum_mul_add_congr (L := 4096) (f := fun n => dvv zu dt w n j) fun t r _ => vvb_row t zu dt w r j
end rows

variable (m : (ℓ : Loc nD τ sig) → Buf (Elt Ideal) ℓ) (c : Dev nD)
variable (z : Fin 2 → Fin 2048 → Fin 5120 → ℝ) (dc : Fin 2 → Fin 2048 → Fin 3072 → ℝ) (q : Fin 2 → Fin 2048 → Fin 1024 → EReal)
    (g b : Fin 2048 → ℝ) (w : Fin 8 → Fin 128 → Fin 128 → ℝ) (bs : Fin 8 → Fin 128 → ℝ)
/-- A grid point, as a number below its bound. -/
def pN (t : Fin cfg0.N) : Fin 16 := ⟨t.val, lt16 t⟩

section ins
variable (hz : m ((c : Thread nD τ).loc main_arg0) = up3 .f32 z)
include hz
theorem v0 : V m c main_v0 = up2 .f32 (flat z) := by
  funext i
  entry_read
  rw [hz]
  pointwise [up3_apply, up2_apply]
  rfl
theorem in0 (t : Fin cfg0.N) : X0_0 m c t = up2 .f32 (bR (pN t) (lo (flat z))) := by
  funext y
  have ht := lt16 t
  unfold X0_0 Pipeline.Window.fill
  rw [dif_pos (moved0_0 t y)]
  blk_simp [iblk]
  rw [v0 m c z hz, up2_apply, up2_apply]
  refine congrArg _ (congrArg₂ (flat z) (Fin.ext ?_) (Fin.ext ?_)) <;> blk_simp [idx t] <;> try rfl
theorem in1 (t : Fin cfg0.N) : X0_1 m c t = up2 .f32 (bR (pN t) (hi (flat z))) := by
  funext y
  have ht := lt16 t
  unfold X0_1 Pipeline.Window.fill
  rw [dif_pos (moved0_1 t y)]
  blk_simp [iblk]
  rw [v0 m c z hz, up2_apply, up2_apply]
  refine congrArg _ (congrArg₂ (flat z) (Fin.ext ?_) (Fin.ext ?_)) <;> blk_simp [idx t] <;> try rfl
end ins
theorem in2 (hdc : m ((c : Thread nD τ).loc main_arg1) = up3 .f32 dc) (t : Fin cfg0.N) : X0_2 m c t = up2 .bf16 (bR (pN t) (fst (flat dc))) := by
  have h : V m c main_v2 = up2 .bf16 (flat dc) := by
    funext i
    entry_read
    rw [hdc]
    pointwise [up3_apply, up2_apply]
    rfl
  funext y
  have ht := lt16 t
  unfold X0_2 Pipeline.Window.fill
  rw [dif_pos (moved0_2 t y)]
  blk_simp [iblk]
  rw [h, up2_apply, up2_apply]
  refine congrArg _ (congrArg₂ (flat dc) (Fin.ext ?_) (Fin.ext ?_)) <;> blk_simp [idx t] <;> try rfl
theorem in3 (hq : m ((c : Thread nD τ).loc main_arg2) = ue3 .f32 q) (t : Fin cfg0.N) : iblk m c 3 t = ue2 .bf16 (bR (pN t) (flat q)) := by
  have h : V m c main_v4 = ue2 .bf16 (flat q) := by
    funext i
    entry_read
    rw [hq]
    pointwise [ue3_apply, ue2_apply]
    rfl
  funext y
  blk_simp [iblk]
  rw [h, ue2_apply, ue2_apply]
  refine congrArg₂ (flat q) (Fin.ext ?_) (Fin.ext ?_) <;> blk_simp [idx t] <;> try rfl
theorem in4 (hg : m ((c : Thread nD τ).loc main_arg3) = up1 .f32 g) (t : Fin cfg0.N) : iblk m c 4 t = up2 .f32 (fun _ => g) := by
  have h : V m c main_v5 = up2 .f32 (fun _ => g) := by
    funext i
    entry_read
    rw [hg]
    pointwise [up1_apply, up2_apply]
  funext y
  blk_simp [iblk]
  rw [h, up2_apply]
  refine congrArg _ (congrArg g (Fin.ext ?_)) <;> blk_simp [idx t] <;> try omega
theorem in5 (hb : m ((c : Thread nD τ).loc main_arg4) = up1 .f32 b) (t : Fin cfg0.N) : iblk m c 5 t = up2 .f32 (fun _ => b) := by
  have h : V m c main_v6 = up2 .f32 (fun _ => b) := by
    funext i
    entry_read
    rw [hb]
    pointwise [up1_apply, up2_apply]
  funext y
  blk_simp [iblk]
  rw [h, up2_apply]
  refine congrArg _ (congrArg b (Fin.ext ?_)) <;> blk_simp [idx t] <;> try omega
theorem in6 (hw : m ((c : Thread nD τ).loc main_arg5) = up3 .f32 w) (t : Fin cfg0.N) : iblk m c 6 t = up3 .f32 w := by
  have h : V m c main_arg5 = up3 .f32 w := by
    entry_read
    exact hw
  funext y
  blk_simp [iblk]
  rw [h, up3_apply]
  refine congrArg _ (congr (congrArg₂ w (Fin.ext ?_) (Fin.ext ?_)) (Fin.ext ?_)) <;> blk_simp [idx t] <;> try omega
theorem in7 (hbs : m ((c : Thread nD τ).loc main_arg6) = up2 .f32 bs) (t : Fin cfg0.N) : iblk m c 7 t = up2 .f32 (fun a γ => bs γ a) := by
  have h : V m c main_v7 = up2 .f32 (fun a γ => bs γ a) := by
    funext i
    entry_read
    rw [hbs]
    pointwise [up2_apply]
  funext y
  blk_simp [iblk]
  rw [h, up2_apply]
  refine congrArg _ (congrArg₂ bs (Fin.ext ?_) (Fin.ext ?_)) <;> blk_simp [idx t] <;> try omega

variable (hz : m ((c : Thread nD τ).loc main_arg0) = up3 .f32 z) (hdc : m ((c : Thread nD τ).loc main_arg1) = up3 .f32 dc)
  (hq : m ((c : Thread nD τ).loc main_arg2) = ue3 .f32 q) (hg : m ((c : Thread nD τ).loc main_arg3) = up1 .f32 g)
  (hb : m ((c : Thread nD τ).loc main_arg4) = up1 .f32 b) (hw : m ((c : Thread nD τ).loc main_arg5) = up3 .f32 w)
  (hbs : m ((c : Thread nD τ).loc main_arg6) = up2 .f32 bs)
include hz hdc hq hg hb hw hbs

/-- The gradient with respect to the projections. -/
theorem final8 : (dats m 0 c).arrAt 8 (cfgs 0).N = ue2 .bf16 (cat3 (dzu (lo (flat z)) (hi (flat z)) (fst (flat dc)) g b w bs) (dzv (lo (flat z)) (hi (flat z)) (fst (flat dc)) g w) (flat q)) := by
  refine (dats m 0 c).arrAt_eq_of_covers 8 _ (by decide +kernel) fun t _ y => ?_
  have ht := lt16 t
  blk_simp
  have key : cat3 (dzu (lo (flat z)) (hi (flat z)) (fst (flat dc)) g b w bs) (dzv (lo (flat z)) (hi (flat z)) (fst (flat dc)) g w) (flat q) (at256 (pN t) (y 0)) (y 1)
      = ue2 .bf16 (cat3 (dzu (lo (flat z)) (hi (flat z)) (fst (flat dc)) g b w bs) (dzv (lo (flat z)) (hi (flat z)) (fst (flat dc)) g w) (flat q)) (((cfg0.win 8).blk t).view.emb y) := by
    rw [ue2_apply]
    refine congrArg₂ (cat3 _ _ _) (Fin.ext ?_) (Fin.ext ?_) <;> blk_simp [idx t] <;> try rfl
  refine Eq.trans ?_ key
  rw [after0_8]
  by_cases h0 : t.val % 16 = 0
  · exact (dz_A m c t _ _ _ g b w bs _ (in0 m c z hz t) (in1 m c z hz t) (in2 m c dc hdc t) (in3 m c q hq t) (in4 m c g hg t) (in5 m c b hb t) (in6 m c w hw t) (in7 m c bs hbs t) h0 y).trans (cB_row _ _ _ _ _ _ _ _ _ _ _)
  · exact (dz_B m c t _ _ _ g b w bs _ (in0 m c z hz t) (in1 m c z hz t) (in2 m c dc hdc t) (in3 m c q hq t) (in4 m c g hg t) (in5 m c b hb t) (in6 m c w hw t) (in7 m c bs hbs t) h0 y).trans (cB_row _ _ _ _ _ _ _ _ _ _ _)

/-- The gradient with respect to the mixing weights. -/
theorem final9 : (dats m 0 c).arrAt 9 (cfgs 0).N = up3 .f32 (dw (lo (flat z)) (hi (flat z)) (fst (flat dc)) g b) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun p j => ((dwB (bR p (lo (flat z)) ) (bR p (hi (flat z)) ) (bR p (fst (flat dc)) ) g b (j 0) (j 1) (j 2) : ℝ) : EReal))
    (fun t h j => (dw_A m c t _ _ _ g b w bs _ (in0 m c z hz t) (in1 m c z hz t) (in2 m c dc hdc t) (in3 m c q hq t) (in4 m c g hg t) (in5 m c b hb t) (in6 m c w hw t) (in7 m c bs hbs t) h j).trans (zero_add _).symm)
    (fun t h j => dw_B m c t _ _ _ g b w bs _ (in0 m c z hz t) (in1 m c z hz t) (in2 m c dc hdc t) (in3 m c q hq t) (in4 m c g hg t) (in5 m c b hb t) (in6 m c w hw t) (in7 m c bs hbs t) h j)
    (le_of_eq N_0) t0_15 rfl j, zero_add]
  refine (coe_sum (Finset.univ : Finset (Fin 16)) _).trans ?_
  rw [up3_apply]
  exact congrArg _ (sum_dw _ _ _ g b _ _ _)
/-- The gradient with respect to the mixing biases. -/
theorem final10 : (dats m 0 c).arrAt 10 (cfgs 0).N = up2 .f32 (db (lo (flat z)) (fst (flat dc)) ) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
    (fun p j => ((dbB (bR p (lo (flat z)) ) (bR p (fst (flat dc)) ) (j 0) (j 1) : ℝ) : EReal))
    (fun t h j => (db_A m c t _ _ _ g b w bs _ (in0 m c z hz t) (in1 m c z hz t) (in2 m c dc hdc t) (in3 m c q hq t) (in4 m c g hg t) (in5 m c b hb t) (in6 m c w hw t) (in7 m c bs hbs t) h j).trans (zero_add _).symm)
    (fun t h j => db_B m c t _ _ _ g b w bs _ (in0 m c z hz t) (in1 m c z hz t) (in2 m c dc hdc t) (in3 m c q hq t) (in4 m c g hg t) (in5 m c b hb t) (in6 m c w hw t) (in7 m c bs hbs t) h j)
    (le_of_eq N_0) t0_15 rfl j, zero_add]
  refine (coe_sum (Finset.univ : Finset (Fin 16)) _).trans ?_
  rw [up2_apply]
  exact congrArg _ (sum_db _ _ _ _)
/-- The gradient with respect to the norm's gain. -/
theorem final11 : (dats m 0 c).arrAt 11 (cfgs 0).N = up2 .f32 (fun _ j => dgain (lo (flat z)) (hi (flat z)) (fst (flat dc)) w j) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0)
    (fun p j => ((∑ n, vvb (bR p (lo (flat z)) ) (bR p (fst (flat dc)) ) w n (j 1) * nb (bR p (hi (flat z)) ) n (j 1) : ℝ) : EReal))
    (fun t h j => (dg_A m c t _ _ _ g b w bs _ (in0 m c z hz t) (in1 m c z hz t) (in2 m c dc hdc t) (in3 m c q hq t) (in4 m c g hg t) (in5 m c b hb t) (in6 m c w hw t) (in7 m c bs hbs t) h j).trans (zero_add _).symm)
    (fun t h j => dg_B m c t _ _ _ g b w bs _ (in0 m c z hz t) (in1 m c z hz t) (in2 m c dc hdc t) (in3 m c q hq t) (in4 m c g hg t) (in5 m c b hb t) (in6 m c w hw t) (in7 m c bs hbs t) h j)
    (le_of_eq N_0) t0_15 rfl j, zero_add]
  refine (coe_sum (Finset.univ : Finset (Fin 16)) _).trans ?_
  rw [up2_apply]
  exact congrArg _ (sum_dg _ _ _ w _)
/-- The gradient with respect to the norm's bias. -/
theorem final12 : (dats m 0 c).arrAt 12 (cfgs 0).N = up2 .f32 (fun _ j => dbias (lo (flat z)) (fst (flat dc)) w j) := by
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => 0)
    (fun p j => ((∑ n, vvb (bR p (lo (flat z)) ) (bR p (fst (flat dc)) ) w n (j 1) : ℝ) : EReal))
    (fun t h j => (gb_A m c t _ _ _ g b w bs _ (in0 m c z hz t) (in1 m c z hz t) (in2 m c dc hdc t) (in3 m c q hq t) (in4 m c g hg t) (in5 m c b hb t) (in6 m c w hw t) (in7 m c bs hbs t) h j).trans (zero_add _).symm)
    (fun t h j => gb_B m c t _ _ _ g b w bs _ (in0 m c z hz t) (in1 m c z hz t) (in2 m c dc hdc t) (in3 m c q hq t) (in4 m c g hg t) (in5 m c b hb t) (in6 m c w hw t) (in7 m c bs hbs t) h j)
    (le_of_eq N_0) t0_15 rfl j, zero_add]
  refine (coe_sum (Finset.univ : Finset (Fin 16)) _).trans ?_
  rw [up2_apply]
  exact congrArg _ (sum_gb _ _ w _)
omit hz hdc hq hg hb hw hbs in
/-- The run from real arguments. -/
theorem run (ρ : Dev nD → PrngReg)
    (z : Dev nD → Fin 2 → Fin 2048 → Fin 5120 → ℝ) (dc : Dev nD → Fin 2 → Fin 2048 → Fin 3072 → ℝ) (q : Dev nD → Fin 2 → Fin 2048 → Fin 1024 → EReal)
    (g b : Dev nD → Fin 2048 → ℝ) (w : Dev nD → Fin 8 → Fin 128 → Fin 128 → ℝ) (bs : Dev nD → Fin 8 → Fin 128 → ℝ)
    (hz : ∀ c : Dev nD, m ((c.tc : Thread nD τ).loc main_arg0) = up3 .f32 (z c)) (hdc : ∀ c : Dev nD, m ((c.tc : Thread nD τ).loc main_arg1) = up3 .f32 (dc c))
    (hq : ∀ c : Dev nD, m ((c.tc : Thread nD τ).loc main_arg2) = ue3 .f32 (q c)) (hg : ∀ c : Dev nD, m ((c.tc : Thread nD τ).loc main_arg3) = up1 .f32 (g c))
    (hb : ∀ c : Dev nD, m ((c.tc : Thread nD τ).loc main_arg4) = up1 .f32 (b c)) (hw : ∀ c : Dev nD, m ((c.tc : Thread nD τ).loc main_arg5) = up3 .f32 (w c))
    (hbs : ∀ c : Dev nD, m ((c.tc : Thread nD τ).loc main_arg6) = up2 .f32 (bs c)) :
    θ_run defs (onTc (τ := τ) (main (F := Ideal))) ⟨m, fun _ => 0, ρ⟩ fun r => ∀ c : Dev nD,
      r.2.mem ((c.tc : Thread nD τ).loc main_v8_0) = ue2 .bf16 (cat3 (dzu (lo (flat (z c))) (hi (flat (z c))) (fst (flat (dc c))) (g c) (b c) (w c) (bs c)) (dzv (lo (flat (z c))) (hi (flat (z c))) (fst (flat (dc c))) (g c) (w c)) (flat (q c)))
      ∧ r.2.mem ((c.tc : Thread nD τ).loc main_v8_1) = up3 .f32 (dw (lo (flat (z c))) (hi (flat (z c))) (fst (flat (dc c))) (g c) (b c))
      ∧ r.2.mem ((c.tc : Thread nD τ).loc main_v8_2) = up2 .f32 (db (lo (flat (z c))) (fst (flat (dc c))))
      ∧ r.2.mem ((c.tc : Thread nD τ).loc main_v8_3) = up2 .f32 (fun _ j => dgain (lo (flat (z c))) (hi (flat (z c))) (fst (flat (dc c))) (w c) j)
      ∧ r.2.mem ((c.tc : Thread nD τ).loc main_v8_4) = up2 .f32 (fun _ j => dbias (lo (flat (z c))) (fst (flat (dc c))) (w c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Kernel6Ideal.Value.run_blocks m ρ)
  obtain ⟨h0, h1, h2, h3, h4, h5⟩ := h c
  exact ⟨h0.trans (final8 m c _ _ _ _ _ _ _ (hz c) (hdc c) (hq c) (hg c) (hb c) (hw c) (hbs c)), h1.trans (final9 m c _ _ _ _ _ _ _ (hz c) (hdc c) (hq c) (hg c) (hb c) (hw c) (hbs c)), h2.trans (final10 m c _ _ _ _ _ _ _ (hz c) (hdc c) (hq c) (hg c) (hb c) (hw c) (hbs c)), h3.trans (final11 m c _ _ _ _ _ _ _ (hz c) (hdc c) (hq c) (hg c) (hb c) (hw c) (hbs c)), h4.trans (final12 m c _ _ _ _ _ _ _ (hz c) (hdc c) (hq c) (hg c) (hb c) (hw c) (hbs c)), h5⟩
end Cert.GateK
-- ==== Proof.GateR.lean ====
module
public import proofs.«01_k».proof.Proof.Gen.Reference6Ideal.Read
public import proofs.«01_k».proof.Proof.GateMath
@[expose] public section
set_option maxRecDepth 16384
noncomputable section
namespace Cert.GateR
open Idealize.ShloMosaic Idealize.ShloMosaic.TcCoe Idealize.SL.Sem
open Cert.Reference6Ideal Cert.Reference6Ideal.Gen Cert.Reference6Ideal.Read Cert.Lift Cert.GateMath

variable (z : Fin 4096 → Fin 5120 → ℝ) (dc : Fin 4096 → Fin 3072 → ℝ) (g b : Fin 2048 → ℝ)
  (w : Fin 8 → Fin 128 → Fin 128 → ℝ) (bs : Fin 8 → Fin 128 → ℝ)

theorem sqrt_half : Ideal.sqrt (Ideal.ofBits .f32 0x3F000000#32) = ((rt : ℝ) : EReal) := by
  rw [c_half, Ideal.sqrt_coe, if_neg (by norm_num)]
  unfold rt
  rw [one_div, Real.sqrt_inv]
theorem v6 : val_main_v6 (F := Ideal) = fun _ => ((rt : ℝ) : EReal) := funext fun i => sqrt_half
theorem v22 : val_main_v22 (F := Ideal) = fun _ => ((rt : ℝ) : EReal) := funext fun i => sqrt_half
theorem c_pi : Ideal.div (Ideal.ofBits .f32 0xC0000000#32) (Ideal.sqrt (Ideal.acos (Ideal.ofBits .f32 0xBF800000#32))) = ((-2 * (1 / Real.sqrt Real.pi) : ℝ) : EReal) := by
  have h1 : Ideal.ofBits .f32 0xBF800000#32 = ((-1 : ℝ) : EReal) := by
    simp [Ideal.ofBits, Ideal.ieee, -EReal.coe_mul]; norm_num
  have h2 : Ideal.ofBits .f32 0xC0000000#32 = ((-2 : ℝ) : EReal) := by
    simp [Ideal.ofBits, Ideal.ieee, -EReal.coe_mul]; norm_num
  have h3 : Ideal.acos ((-1 : ℝ) : EReal) = ((Real.pi : ℝ) : EReal) := by
    show (if -1 ≤ (-1 : ℝ) ∧ (-1 : ℝ) ≤ 1 then ((Real.arccos (-1) : ℝ) : EReal) else ⊥) = _
    rw [if_pos (by norm_num), Real.arccos_neg_one]
  rw [h1, h2, h3, Ideal.sqrt_coe, if_neg (not_lt.2 Real.pi_pos.le)]
  exact div_coe' _ _ (Real.sqrt_pos.2 Real.pi_pos).ne'
theorem v12 : val_main_v12 (F := Ideal) = fun _ => ((-2 * (1 / Real.sqrt Real.pi) : ℝ) : EReal) := funext fun i => c_pi
theorem v28 : val_main_v28 (F := Ideal) = fun _ => ((-2 * (1 / Real.sqrt Real.pi) : ℝ) : EReal) := funext fun i => c_pi

theorem v8 : val_main_v8 (F := Ideal) (up3 .f32 (stk z)) = up3 .f32 (stk (fun n j => -lo z n j * rt)) := by
  funext i
  pointwise [val_main_v8, val_main_v7, v6, val_main_v5, val_main_v0, up3_apply]
  simp only [← EReal.coe_mul, ← EReal.coe_neg]
  rfl
theorem v24 : val_main_v24 (F := Ideal) (up3 .f32 (stk z)) = up3 .f32 (stk (fun n j => -hi z n j * rt)) := by
  funext i
  pointwise [val_main_v24, val_main_v23, v22, val_main_v21, val_main_v1, up3_apply]
  simp only [← EReal.coe_mul, ← EReal.coe_neg]
  rfl
theorem v9 : val_main_v9 (F := Ideal) (up3 .f32 (stk z)) = up3 .f32 (stk (fun n j => 1 - erfR (-lo z n j * rt))) := by
  funext i
  pointwise [val_main_v9, v8, up3_apply]
  exact erfc_up _
theorem v25 : val_main_v25 (F := Ideal) (up3 .f32 (stk z)) = up3 .f32 (stk (fun n j => 1 - erfR (-hi z n j * rt))) := by
  funext i
  pointwise [val_main_v25, v24, up3_apply]
  exact erfc_up _
theorem v18 : val_main_v18 (F := Ideal) (up3 .f32 (stk z)) = up3 .f32 (stk (fun n j => gl (lo z n j))) := by
  funext i
  pointwise [val_main_v18, v9, val_main_v4, val_main_v3, val_main_cst, val_main_v0, up3_apply]
  rw [c_half, ← EReal.coe_mul, ← EReal.coe_mul]
  exact congrArg _ (gl_eq _)
theorem v34 : val_main_v34 (F := Ideal) (up3 .f32 (stk z)) = up3 .f32 (stk (fun n j => gl (hi z n j))) := by
  funext i
  pointwise [val_main_v34, v25, val_main_v20, val_main_v19, val_main_cst_3, val_main_v1, up3_apply]
  rw [c_half, ← EReal.coe_mul, ← EReal.coe_mul]
  exact congrArg _ (gl_eq _)
theorem v40 : val_main_v40 (F := Ideal) (up3 .f32 (stk z)) = up3 .f32 (stk (fun n => xc (fun k => gl (hi z n k)))) := by
  funext i
  pointwise [val_main_v40, val_main_v39, val_main_v38, val_main_v37, val_main_cst_8, val_main_v36, val_main_v35, val_main_cst_7, v34, up3_apply]
  simp only [coe_sum, zero_add, c2048]
  rw [div_coe' _ _ (by norm_num), ← EReal.coe_sub]
  rfl
theorem v47 : val_main_v47 (F := Ideal) (up3 .f32 (stk z)) = up3 .f32 (stk (fun n (_ : Fin 1) => va (fun k => gl (hi z n k)))) := by
  funext i
  pointwise [val_main_v47, val_main_v46, val_main_cst_11, val_main_v45, val_main_v44, val_main_cst_10, val_main_v43, val_main_v42, val_main_cst_9, val_main_v41, v40, up3_apply]
  simp only [← EReal.coe_mul, coe_sum, zero_add, c2048, c_eps]
  rw [div_coe' _ _ (by norm_num), ← EReal.coe_add]
  rfl
theorem v48 : val_main_v48 (F := Ideal) (up3 .f32 (stk z)) = up3 .f32 (stk (fun n (_ : Fin 1) => rs (fun k => gl (hi z n k)))) := by
  funext i
  pointwise [val_main_v48, v47, up3_apply]
  exact rsqrt_pos _ (va_pos _)
theorem v51 : val_main_v51 (F := Ideal) (up3 .f32 (stk z))
    = up3 .f32 (stk (fun n (_ : Fin 1) => -1 / 2 * (rs (fun k => gl (hi z n k)) * (1 / va (fun k => gl (hi z n k)))))) := by
  funext i
  pointwise [val_main_v51, val_main_v50, val_main_cst_12, val_main_v49, v48, v47, up3_apply]
  refine (congrArg₂ _ c_neg_half (div_coe' _ _ (va_pos _).ne')).trans ?_
  rw [← EReal.coe_mul]
  rfl
theorem v53 : val_main_v53 (F := Ideal) (up3 .f32 (stk z)) = up3 .f32 (stk (fun n => vh (fun k => gl (hi z n k)))) := by
  funext i
  pointwise [val_main_v53, val_main_v52, v48, v40, up3_apply]
  rw [← EReal.coe_mul]
  rfl
theorem v59 : val_main_v59 (F := Ideal) (up3 .f32 (stk z)) (up1 .f32 g) (up1 .f32 b) = up3 .f32 (stk (vv (hi z) g b)) := by
  funext i
  pointwise [val_main_v59, val_main_v58, val_main_v57, val_main_v56, val_main_v55, val_main_v54, v53, up3_apply, up1_apply]
  rw [← EReal.coe_mul, ← EReal.coe_add]
  rfl
theorem v60 : val_main_v60 (F := Ideal) (up3 .f32 (stk z)) (up1 .f32 g) (up1 .f32 b)
    = up5 .f32 (fun s k a γ l => vv (hi z) g b (at4 (ch s k) a) (ln γ l)) := by
  funext i
  pointwise [val_main_v60, v59, up3_apply, up5_apply]
  exact congrArg (fun n => ((vv (hi z) g b n (ln (i 3) (i 4)) : ℝ) : EReal)) (at_row (i 0) (i 1) (i 2))
theorem v64_1 : val_main_v64_1 (F := Ideal) = fun i => if (i 2).val ≤ (i 1).val then 1#1 else 0#1 := by
  funext i
  pointwise [val_main_v64_1, val_main_v63, val_main_v62, val_main_call0_v5, val_main_call0_c_0, val_main_call0_v4, val_main_call0_v3, val_main_call0_v2, val_main_call0_v1, val_main_call0_c, val_main_call0_v0, val_main_v61, val_main_c]
  exact (congrArg (fun q => Scalar.select q 1#1 0#1) (below (i 1) (i 2))).trans (sel_bit _ _ _)
theorem v64_0 : val_main_v64_0 (F := Ideal) (up3 .f32 w) = up3 .f32 (low w) := by
  funext i
  pointwise [val_main_v64_0, v64_1, val_main_call1_v2, val_main_call1_v0, val_main_cst_13, up3_apply]
  refine (sel_bit _ _ _).trans ?_
  unfold low
  split
  · rfl
  · exact (Ideal.ofBits_zero .f32).trans EReal.coe_zero.symm
/-- The product's three contracted axes. -/
def c3 : Fin 2 × Fin 16 × Fin 256 ≃ dot_S8x2x16x256x128_S2x16x128x8x256_S8x128x128_123_014_4_2_0_3.contr.Idx where
  toFun p := fun x => match x with
    | ⟨0, _⟩ => p.1
    | ⟨1, _⟩ => p.2.1
    | ⟨2, _⟩ => p.2.2
  invFun k := (k ⟨0, by decide⟩, k ⟨1, by decide⟩, k ⟨2, by decide⟩)
  left_inv p := rfl
  right_inv k := by
    funext x
    match x with
    | ⟨0, _⟩ => rfl
    | ⟨1, _⟩ => rfl
    | ⟨2, _⟩ => rfl
theorem dot3 (V : FVec Ideal S8x2x16x256x128 .f32) (W : FVec Ideal S2x16x128x8x256 .f32) (i : S8x128x128.Idx) :
    Host.dotGeneral dot_S8x2x16x256x128_S2x16x128x8x256_S8x128x128_123_014_4_2_0_3 none V W i
      = ∑ a : Fin 2, ∑ b : Fin 16, ∑ l : Fin 256, V (ix5 (i 0) a b l (i 1)) * W (ix5 a b (i 2) (i 0) l) := by
  refine (zero_add (∑ k, V (dot_S8x2x16x256x128_S2x16x128x8x256_S8x128x128_123_014_4_2_0_3.lhsIdx i k) * W (dot_S8x2x16x256x128_S2x16x128x8x256_S8x128x128_123_014_4_2_0_3.rhsIdx i k))).trans ?_
  rw [← Equiv.sum_comp c3, Fintype.sum_prod_type]
  refine Finset.sum_congr rfl fun a _ => (Fintype.sum_prod_type _).trans ?_
  refine Finset.sum_congr rfl fun b _ => Finset.sum_congr rfl fun l _ => congrArg₂ (· * ·) (congrArg V ?_) (congrArg W ?_)
  · funext d
    match d with
    | ⟨0, _⟩ => rfl
    | ⟨1, _⟩ => rfl
    | ⟨2, _⟩ => rfl
    | ⟨3, _⟩ => rfl
    | ⟨4, _⟩ => rfl
  · funext d
    match d with
    | ⟨0, _⟩ => rfl
    | ⟨1, _⟩ => rfl
    | ⟨2, _⟩ => rfl
    | ⟨3, _⟩ => rfl
    | ⟨4, _⟩ => rfl
theorem v65 : val_main_v65 (F := Ideal) (up3 .f32 (stk z)) (up1 .f32 g) (up1 .f32 b) (up3 .f32 w)
    = up5 .f32 (fun γ s k l a => ∑ t, low w γ a t * vv (hi z) g b (at4 (ch s k) t) (ln γ l)) := by
  funext i
  pointwise [val_main_v65, v60, v64_0, up3_apply, up5_apply]
  simp only [← EReal.coe_mul, coe_sum]
  exact congrArg _ (Finset.sum_congr rfl fun t _ => mul_comm _ _)
theorem v71 : val_main_v71 (F := Ideal) (up3 .f32 (stk z)) (up1 .f32 g) (up1 .f32 b) (up3 .f32 w) (up2 .f32 bs)
    = up3 .f32 (stk (fun n j => mixed w bs (fun a => vv (hi z) g b (at4 (ck n) a)) (pl n) j)) := by
  funext i
  pointwise [val_main_v71, val_main_v70, val_main_v69, val_main_v68, val_main_v67, val_main_v66, v65, up3_apply, up5_apply, up2_apply]
  rw [← EReal.coe_add]
  exact congrArg _ (mixed_row w bs (vv (hi z) g b) (i 0) (i 1) (i 2))
theorem v76 : val_main_v76 (F := Ideal) (up3 .f32 (stk z)) (up3 .f32 (stk dc))
    = up5 .f32 (fun s k a γ l => dm (lo z) (fst dc) (at4 (ch s k) a) (ln γ l)) := by
  funext i
  pointwise [val_main_v76, val_main_v74, val_main_v73, v18, up3_apply, up5_apply]
  rw [← EReal.coe_mul]
  exact congrArg _ ((mul_comm _ _).trans (congrArg (fun n => dm (lo z) (fst dc) n (ln (i 3) (i 4))) (at_row (i 0) (i 1) (i 2))))
theorem v77 : val_main_v77 (F := Ideal) (up3 .f32 (stk z)) (up3 .f32 (stk dc)) = up2 .f32 (db (lo z) (fst dc)) := by
  funext i
  pointwise [val_main_v77, val_main_cst_14]
  rw [hostSum_two_last]
  simp only [v76, up5_apply, coe_sum, zero_add]
  exact congrArg _ (sum_ch (fun k => dbi (fun a => dm (lo z) (fst dc) (at4 k a)) (i 1) (i 0)))
theorem v80 : val_main_v80 (F := Ideal) (up3 .f32 (stk z)) (up3 .f32 (stk dc)) = up2 .f32 (fun γ a => db (lo z) (fst dc) a γ) := by
  funext i
  pointwise [val_main_v80, val_main_v79, val_main_v78, v77, val_main_cst_15, up2_apply]
  rw [hostSum_two_last]
  pointwise [v77, up2_apply]
  simp only [Finset.univ_unique, Finset.sum_singleton]
theorem v139 : val_main_v139 (F := Ideal) (up3 .f32 (stk z)) (up3 .f32 (stk dc)) = up2 .f32 (db (lo z) (fst dc)) := by
  funext i
  pointwise [val_main_v139, v80, up2_apply]
theorem v81 : val_main_v81 (F := Ideal) (up3 .f32 (stk z)) (up3 .f32 (stk dc))
    = up5 .f32 (fun γ s k l a => dm (lo z) (fst dc) (at4 (ch s k) a) (ln γ l)) := by
  funext i
  pointwise [val_main_v81, v76, up5_apply]
theorem v85 : val_main_v85 (F := Ideal) (up3 .f32 (stk z)) (up3 .f32 (stk dc)) (up1 .f32 g) (up1 .f32 b)
    = up3 .f32 (dw (lo z) (hi z) (fst dc) g b) := by
  have h : val_main_v82 (F := Ideal) (up3 .f32 (stk z)) (up3 .f32 (stk dc)) (up1 .f32 g) (up1 .f32 b)
      = up3 .f32 (fun γ a s => ∑ k, dwt (fun a => vv (hi z) g b (at4 k a)) (fun a => dm (lo z) (fst dc) (at4 k a)) γ a s) := by
    funext i
    unfold val_main_v82
    rw [dot3, v81, v60]
    simp only [up5_apply, ← EReal.coe_mul, coe_sum]
    exact congrArg _ (sum_ch (fun k => dwt (fun a => vv (hi z) g b (at4 k a)) (fun a => dm (lo z) (fst dc) (at4 k a)) (i 0) (i 1) (i 2)))
  funext i
  pointwise [val_main_v85, v64_1, h, val_main_call2_v0, val_main_call2_cst, up3_apply]
  refine (sel_bit _ _ _).trans ?_
  unfold dw
  split
  · rfl
  · first | rfl | exact (Ideal.ofBits_zero .f32).trans EReal.coe_zero.symm
theorem v86 : val_main_v86 (F := Ideal) (up3 .f32 (stk z)) (up3 .f32 (stk dc)) (up3 .f32 w)
    = up3 .f32 (stk (dvv (lo z) (fst dc) w)) := by
  funext i
  pointwise [val_main_v86, val_main_v84, val_main_v83, v81, v64_0, up5_apply, up3_apply]
  simp only [← EReal.coe_mul, coe_sum]
  exact congrArg _ ((Finset.sum_congr rfl fun t _ => mul_comm _ _).trans (dsrc_row w (dm (lo z) (fst dc)) (i 0) (i 1) (i 2)))
theorem v141 : val_main_v141 (F := Ideal) (up3 .f32 (stk z)) (up3 .f32 (stk dc)) (up3 .f32 w)
    = up2 .f32 (fun _ j => dbias (lo z) (fst dc) w j) := by
  funext i
  pointwise [val_main_v141, val_main_v89, val_main_cst_17, val_main_v88, val_main_v87, val_main_cst_16]
  rw [hostSum_first_two]
  pointwise []
  rw [hostSum_first_two]
  pointwise [v86, up3_apply]
  simp only [Finset.univ_unique, Finset.sum_singleton, coe_sum, zero_add]
  exact congrArg _ (sum_row (fun n => dvv (lo z) (fst dc) w n (i 1)))
theorem v140 : val_main_v140 (F := Ideal) (up3 .f32 (stk z)) (up3 .f32 (stk dc)) (up3 .f32 w)
    = up2 .f32 (fun _ j => dgain (lo z) (hi z) (fst dc) w j) := by
  funext i
  pointwise [val_main_v140, val_main_v95, val_main_cst_19, val_main_v92, val_main_v91, val_main_cst_18]
  rw [hostSum_first_two]
  pointwise []
  rw [hostSum_first_two]
  pointwise [val_main_v90, v86, v53, up3_apply]
  simp only [Finset.univ_unique, Finset.sum_singleton, ← EReal.coe_mul, coe_sum, zero_add]
  refine congrArg _ ((sum_row (fun n => vh (fun k => gl (hi z n k)) (i 1) * dvv (lo z) (fst dc) w n (i 1))).trans ?_)
  exact Finset.sum_congr rfl fun n _ => mul_comm _ _
/-- The gradient that reaches the normalised row, times the gain. -/
def dd (w : Fin 8 → Fin 128 → Fin 128 → ℝ) (n : Fin 4096) (k : Fin 2048) : ℝ := dvv (lo z) (fst dc) w n k * g k
theorem v94 : val_main_v94 (F := Ideal) (up3 .f32 (stk z)) (up3 .f32 (stk dc)) (up1 .f32 g) (up3 .f32 w) = up3 .f32 (stk (dd z dc g w)) := by
  funext i
  pointwise [val_main_v94, val_main_v93, val_main_v54, v86, up3_apply, up1_apply]
  rw [← EReal.coe_mul]
  rfl
theorem v104 : val_main_v104 (F := Ideal) (up3 .f32 (stk z)) (up3 .f32 (stk dc)) (up1 .f32 g) (up3 .f32 w)
    = up2 .f32 (fun s r => sl (fun k => gl (hi z (row s r) k)) (dd z dc g w (row s r))) := by
  funext i
  pointwise [val_main_v104, val_main_cst_22, val_main_v103, val_main_v102, val_main_cst_21, val_main_v101, v51, val_main_v98, val_main_v97, val_main_cst_20, val_main_v96, v94, v40, up3_apply, up2_apply]
  simp only [Finset.univ_unique, Finset.sum_singleton, ← EReal.coe_mul, coe_sum, zero_add, c2048]
  rw [div_coe' _ _ (by norm_num)]
  rfl
theorem v109 : val_main_v109 (F := Ideal) (up3 .f32 (stk z)) (up3 .f32 (stk dc)) (up1 .f32 g) (up3 .f32 w)
    = up3 .f32 (stk (fun n => dxc (fun k => gl (hi z n k)) (dd z dc g w n))) := by
  funext i
  pointwise [val_main_v109, val_main_v108, val_main_v107, val_main_v106, val_main_v105, v104, val_main_v100, val_main_v99, v48, v94, v40, up3_apply, up2_apply]
  simp only [← EReal.coe_mul, ← EReal.coe_add]
  rfl
theorem v117 : val_main_v117 (F := Ideal) (up3 .f32 (stk z)) (up3 .f32 (stk dc)) (up1 .f32 g) (up3 .f32 w)
    = up3 .f32 (stk (fun n => dln (fun k => gl (hi z n k)) (dd z dc g w n))) := by
  funext i
  pointwise [val_main_v117, val_main_v116, val_main_v115, val_main_cst_25, val_main_v114, val_main_v113, val_main_cst_24, val_main_v112, val_main_v111, val_main_cst_23, val_main_v110, v109, up3_apply]
  simp only [Finset.univ_unique, Finset.sum_singleton, ← EReal.coe_neg, coe_sum, zero_add, c2048]
  rw [div_coe' _ _ (by norm_num), ← EReal.coe_add]
  exact congrArg _ (dln_eq (fun k => gl (hi z (row (i 0) (i 1)) k)) (dd z dc g w (row (i 0) (i 1))) (i 2))
theorem v126 : val_main_v126 (F := Ideal) (up3 .f32 (stk z)) (up3 .f32 (stk dc)) (up1 .f32 g) (up3 .f32 w)
    = up3 .f32 (stk (dzv (lo z) (hi z) (fst dc) g w)) := by
  funext i
  pointwise [val_main_v126, val_main_v125, val_main_v124, val_main_cst_26, val_main_v123, val_main_v122, val_main_v121, v22, val_main_v120, val_main_v119, val_main_v118, v117, v25, val_main_v20, val_main_v19, val_main_cst_3, val_main_v1,
    val_main_v33, val_main_v32, v28, val_main_v31, val_main_v30, val_main_v29, v24, up3_apply]
  simp only [← EReal.coe_neg, ← EReal.coe_mul, c_half, Ideal.exp_coe, ← EReal.coe_add]
  exact congrArg _ (dgl_eq (hi z (row (i 0) (i 1)) (i 2)) (dln (fun k => gl (hi z (row (i 0) (i 1)) k)) (dd z dc g w (row (i 0) (i 1))) (i 2)))
theorem v135 : val_main_v135 (F := Ideal) (up3 .f32 (stk z)) (up3 .f32 (stk dc)) (up1 .f32 g) (up1 .f32 b) (up3 .f32 w) (up2 .f32 bs)
    = up3 .f32 (stk (dzu (lo z) (hi z) (fst dc) g b w bs)) := by
  funext i
  pointwise [val_main_v135, val_main_v134, val_main_v133, val_main_cst_27, val_main_v132, val_main_v131, val_main_v130, v6, val_main_v129, val_main_v128, val_main_v127, val_main_v75, val_main_v73, v71, v9, val_main_v4, val_main_v3, val_main_cst, val_main_v0,
    val_main_v17, val_main_v16, v12, val_main_v15, val_main_v14, val_main_v13, v8, up3_apply]
  simp only [← EReal.coe_neg, ← EReal.coe_mul, c_half, Ideal.exp_coe, ← EReal.coe_add]
  exact congrArg _ (dgl_eq (lo z (row (i 0) (i 1)) (i 2)) _)
theorem v138 (q : Fin 2 → Fin 2048 → Fin 1024 → EReal) : val_main_v138 (F := Ideal) (up3 .f32 (stk z)) (up3 .f32 (stk dc)) (ue3 .f32 q) (up1 .f32 g) (up1 .f32 b) (up3 .f32 w) (up2 .f32 bs)
    = ue2 .bf16 (cat3 (dzu (lo z) (hi z) (fst dc) g b w bs) (dzv (lo z) (hi z) (fst dc) g w) (flat q)) := by
  funext i
  pointwise [val_main_v138, val_main_v137, val_main_v136, v135, v126, up3_apply, ue3_apply, ue2_apply]
  exact cat_row _ _ q (i 0) (i 1)
/-- The run from real arguments. -/
theorem run (m : (ℓ : Loc nD τ sig) → Buf (Elt Ideal) ℓ) (ρ : Dev nD → PrngReg)
    (z : Dev nD → Fin 2 → Fin 2048 → Fin 5120 → ℝ) (dc : Dev nD → Fin 2 → Fin 2048 → Fin 3072 → ℝ) (q : Dev nD → Fin 2 → Fin 2048 → Fin 1024 → EReal)
    (g b : Dev nD → Fin 2048 → ℝ) (w : Dev nD → Fin 8 → Fin 128 → Fin 128 → ℝ) (bs : Dev nD → Fin 8 → Fin 128 → ℝ)
    (hz : ∀ c : Dev nD, m ((c.tc : Thread nD τ).loc main_arg0) = up3 .f32 (z c)) (hdc : ∀ c : Dev nD, m ((c.tc : Thread nD τ).loc main_arg1) = up3 .f32 (dc c))
    (hq : ∀ c : Dev nD, m ((c.tc : Thread nD τ).loc main_arg2) = ue3 .f32 (q c)) (hg : ∀ c : Dev nD, m ((c.tc : Thread nD τ).loc main_arg3) = up1 .f32 (g c))
    (hb : ∀ c : Dev nD, m ((c.tc : Thread nD τ).loc main_arg4) = up1 .f32 (b c)) (hw : ∀ c : Dev nD, m ((c.tc : Thread nD τ).loc main_arg5) = up3 .f32 (w c))
    (hbs : ∀ c : Dev nD, m ((c.tc : Thread nD τ).loc main_arg6) = up2 .f32 (bs c)) :
    θ_run defs (onTc (τ := τ) (main (F := Ideal))) ⟨m, fun _ => 0, ρ⟩ fun r => ∀ c : Dev nD,
      r.2.mem ((c.tc : Thread nD τ).loc main_v138) = ue2 .bf16 (cat3 (dzu (lo (flat (z c))) (hi (flat (z c))) (fst (flat (dc c))) (g c) (b c) (w c) (bs c)) (dzv (lo (flat (z c))) (hi (flat (z c))) (fst (flat (dc c))) (g c) (w c)) (flat (q c)))
      ∧ r.2.mem ((c.tc : Thread nD τ).loc main_v85) = up3 .f32 (dw (lo (flat (z c))) (hi (flat (z c))) (fst (flat (dc c))) (g c) (b c))
      ∧ r.2.mem ((c.tc : Thread nD τ).loc main_v139) = up2 .f32 (db (lo (flat (z c))) (fst (flat (dc c))))
      ∧ r.2.mem ((c.tc : Thread nD τ).loc main_v140) = up2 .f32 (fun _ j => dgain (lo (flat (z c))) (hi (flat (z c))) (fst (flat (dc c))) (w c) j)
      ∧ r.2.mem ((c.tc : Thread nD τ).loc main_v141) = up2 .f32 (fun _ j => dbias (lo (flat (z c))) (fst (flat (dc c))) (w c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference6Ideal.Value.run m ρ)
  obtain ⟨h0, h1, h2, h3, h4, h5⟩ := h c
  have hz' : up3 .f32 (z c) = up3 .f32 (stk (flat (z c))) := by rw [stk_flat]
  have hd' : up3 .f32 (dc c) = up3 .f32 (stk (flat (dc c))) := by rw [stk_flat]
  refine ⟨h0.trans ((val_main_v138_eq _).trans ?_), h1.trans ((val_main_v85_eq _).trans ?_), h2.trans ((val_main_v139_eq _).trans ?_),
    h3.trans ((val_main_v140_eq _).trans ?_), h4.trans ((val_main_v141_eq _).trans ?_), h5⟩
  · show val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = _
    rw [hz, hdc, hq, hg, hb, hw, hbs, hz', hd']; exact v138 _ _ _ _ _ _ _
  · show val_main_v85 (F := Ideal) (m ((c.tc : Thread nD τ).loc main_arg0)) (m ((c.tc : Thread nD τ).loc main_arg1)) (m ((c.tc : Thread nD τ).loc main_arg3)) (m ((c.tc : Thread nD τ).loc main_arg4)) = _
    rw [hz, hdc, hg, hb, hz', hd']; exact v85 _ _ _ _
  · show val_main_v139 (F := Ideal) (m ((c.tc : Thread nD τ).loc main_arg0)) (m ((c.tc : Thread nD τ).loc main_arg1)) = _
    rw [hz, hdc, hz', hd']; exact v139 _ _
  · show val_main_v140 (F := Ideal) (m ((c.tc : Thread nD τ).loc main_arg0)) (m ((c.tc : Thread nD τ).loc main_arg1)) (m ((c.tc : Thread nD τ).loc main_arg5)) = _
    rw [hz, hdc, hw, hz', hd']; exact v140 _ _ _
  · show val_main_v141 (F := Ideal) (m ((c.tc : Thread nD τ).loc main_arg0)) (m ((c.tc : Thread nD τ).loc main_arg1)) (m ((c.tc : Thread nD τ).loc main_arg5)) = _
    rw [hz, hdc, hw, hz', hd']; exact v141 _ _ _
end Cert.GateR
-- ==== Proof.Gate.lean ====
module
public import proofs.«01_k».proof.Defs
public import proofs.«01_k».proof.Proof.Gen.Kernel6
public import proofs.«01_k».proof.Proof.Gen.Kernel6.Frame
public import proofs.«01_k».proof.Proof.Gen.Pre_finite6
public import proofs.«01_k».proof.Proof.GateK
public import proofs.«01_k».proof.Proof.GateR
public import Idealize.ShloMosaic.Adequacy
public import Idealize.ShloMosaic.Init
public import Idealize.ShloMosaic.Lib.Quiescent
@[expose] public section
set_option maxRecDepth 16384
noncomputable section
namespace Cert.Gate
open Idealize.ShloMosaic Idealize.ShloMosaic.TcCoe Idealize.SL.Sem Cert.Lift

/-- The precondition says that the arguments it speaks of are arrays of real numbers. -/
theorem real (z : FVec Ideal Cert.Pre_finite6.S2x2048x5120 .f32)
    (dc : FVec Ideal Cert.Pre_finite6.S2x2048x3072 .f32)
    (q : FVec Ideal Cert.Pre_finite6.S2x2048x1024 .f32)
    (g : FVec Ideal Cert.Pre_finite6.S2048 .f32)
    (b : FVec Ideal Cert.Pre_finite6.S2048 .f32)
    (w : FVec Ideal Cert.Pre_finite6.S8x128x128 .f32)
    (bs : FVec Ideal Cert.Pre_finite6.S8x128 .f32)
    (h : @Cert.Pre_finite6.fn Cert.Pre_finite6.Gen.facts Ideal _ z dc q g b w bs = fun _ => 1#1) :
    ∃ (z' : Fin 2 → Fin 2048 → Fin 5120 → ℝ) (dc' : Fin 2 → Fin 2048 → Fin 3072 → ℝ) (q' : Fin 2 → Fin 2048 → Fin 1024 → EReal) (g' : Fin 2048 → ℝ) (b' : Fin 2048 → ℝ) (w' : Fin 8 → Fin 128 → Fin 128 → ℝ) (bs' : Fin 8 → Fin 128 → ℝ),
      z = up3 .f32 z' ∧ dc = up3 .f32 dc' ∧ q = ue3 .f32 q' ∧ g = up1 .f32 g' ∧ b = up1 .f32 b' ∧ w = up3 .f32 w' ∧ bs = up2 .f32 bs' := by
  have h0 := congrFun h (fun a => a.elim0)
  dsimp only [Cert.Pre_finite6.fn, Cert.Pre_finite6.fn_part1] at h0
  obtain ⟨a1, b1⟩ := and_one h0
  obtain ⟨a2, b2⟩ := and_one a1
  obtain ⟨a3, b3⟩ := and_one a2
  obtain ⟨a4, b4⟩ := and_one a3
  obtain ⟨a5, b5⟩ := and_one a4
  obtain ⟨q', eq⟩ := exists_ue3 .f32 q
  obtain ⟨z', ez⟩ := exists_up3 .f32 z (finite_of_reduce z _ inf_apply _ _ _ _ a5)
  obtain ⟨dc', edc⟩ := exists_up3 .f32 dc (finite_of_reduce dc _ inf_apply _ _ _ _ b5)
  obtain ⟨g', eg⟩ := exists_up1 .f32 g (finite_of_reduce g _ inf_apply _ _ _ _ b4)
  obtain ⟨b', eb⟩ := exists_up1 .f32 b (finite_of_reduce b _ inf_apply _ _ _ _ b3)
  obtain ⟨w', ew⟩ := exists_up3 .f32 w (finite_of_reduce w _ inf_apply _ _ _ _ b2)
  obtain ⟨bs', ebs⟩ := exists_up2 .f32 bs (finite_of_reduce bs _ inf_apply _ _ _ _ b1)
  exact ⟨z', dc', q', g', b', w', bs', ez, edc, eq, eg, eb, ew, ebs⟩

theorem frame_kernel : Cert.quiescent_Kernel6 (hKernel6 := Cert.Kernel6.Gen.facts) := fun m ρ _ => Cert.Kernel6.Gen.frame m ρ
theorem frame_ideal : Cert.quiescent_Kernel6Ideal (hKernel6Ideal := Cert.Kernel6Ideal.Gen.facts) :=
  fun m ρ _ => Cert.Kernel6Ideal.Gen.frame m ρ
theorem frame_ideal_pre : Cert.quiescent_Kernel6Ideal_pre_finite6 (hKernel6Ideal := Cert.Kernel6Ideal.Gen.facts) (hPre_finite6 := Cert.Pre_finite6.Gen.facts) :=
  fun m ρ _ => Cert.Kernel6Ideal.Gen.frame m ρ
theorem frame_reference : Cert.quiescent_Reference6Ideal (hReference6Ideal := Cert.Reference6Ideal.Gen.facts) :=
  fun m ρ _ => (θ_run Cert.Reference6Ideal.defs _ _).mono
    (fun r h => ⟨fun c => (h c).2.2.2.2.2, sem_eq_zero_of_no_sems (by decide) r.2⟩) (Cert.Reference6Ideal.Value.run m ρ)
theorem frame_reference_pre : Cert.quiescent_Reference6Ideal_pre_finite6 (hReference6Ideal := Cert.Reference6Ideal.Gen.facts) (hPre_finite6 := Cert.Pre_finite6.Gen.facts) :=
  fun m ρ _ => frame_reference m ρ trivial

/-- The gradients of the spatial gate are its reference's. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m0 g0 m1 g1 hpre hagree
  choose z dc q g b w bs hz hdc hq hg hb hw hbs using fun c => real _ _ _ _ _ _ _ (hpre c)
  exact ⟨_, _, _, _, _, Cert.GateK.run m0 g0 z dc q g b w bs hz hdc hq hg hb hw hbs,
    Cert.GateR.run m1 g1 z dc q g b w bs
      (fun c => (hagree c).1.trans (hz c))
      (fun c => (hagree c).2.1.trans (hdc c))
      (fun c => (hagree c).2.2.1.trans (hq c))
      (fun c => (hagree c).2.2.2.1.trans (hg c))
      (fun c => (hagree c).2.2.2.2.1.trans (hb c))
      (fun c => (hagree c).2.2.2.2.2.1.trans (hw c))
      (fun c => (hagree c).2.2.2.2.2.2.trans (hbs c))⟩
/-- The two named constants round to the literals of the kernel. -/
theorem preserve : Cert.preserves_Kernel6_Kernel6Ideal :=
  ⟨IdealRules.named_const.statement Cert.Kernel6Ideal.κ "inv_sqrt_two" .f32 0x3F3504F3#32 (((Real.sqrt 2)⁻¹ : ℝ) : EReal) rfl,
   IdealRules.named_const.statement Cert.Kernel6Ideal.κ "inv_sqrt_two_pi" .f32 0x3ECC422A#32 (((Real.sqrt (2 * Real.pi))⁻¹ : ℝ) : EReal) rfl⟩
end Cert.Gate
-- ==== Proof.GateFMath.lean ====
module
public import proofs.«01_k».proof.Proof.GateMath
@[expose] public section
set_option maxRecDepth 16384
noncomputable section
namespace Cert.GateMath

/-- The gate's output at a row. -/
def gt (zu zv : Fin 4096 → Fin 2048 → ℝ) (g b : Fin 2048 → ℝ) (w : Fin 8 → Fin 128 → Fin 128 → ℝ) (bs : Fin 8 → Fin 128 → ℝ) (n : Fin 4096) (j : Fin 2048) : ℝ :=
  gl (zu n j) * mixed w bs (fun a => vv zv g b (at4 (ck n) a)) (pl n) j
/-- The gate's output and the memory attention's, side by side. -/
def cat2 (x : Fin 4096 → Fin 2048 → ℝ) (q : Fin 4096 → Fin 1024 → EReal) (n : Fin 4096) (j : Fin 3072) : EReal :=
  if h : j.val < 2048 then ((x n ⟨j.val, h⟩ : ℝ) : EReal) else q n ⟨j.val - 2048, by omega⟩
theorem cat2_row (x : Fin 4096 → Fin 2048 → ℝ) (q : Fin 2 → Fin 2048 → Fin 1024 → EReal) (n : Fin 4096) (j : Fin 3072) :
    (if h : j.val < 2048 then ((stk x ⟨n.val / 2048, by omega⟩ ⟨n.val % 2048, by omega⟩ ⟨j.val, h⟩ : ℝ) : EReal)
      else q ⟨n.val / 2048, by omega⟩ ⟨n.val % 2048, by omega⟩ ⟨j.val - 2048, by omega⟩) = cat2 x (flat q) n j := by
  rw [stk_row]
  rfl
end Cert.GateMath
-- ==== Proof.GateFB.lean ====
module
public import proofs.«01_k».proof.Proof.Gen.Kernel10Ideal.Skeleton
public import proofs.«01_k».proof.Proof.Lift
public import proofs.«01_k».proof.Proof.GateFMath
public import proofs.«01_k».proof.Proof.GateB
@[expose] public section
set_option maxRecDepth 16384
noncomputable section
namespace Cert.GateFB
open Idealize.ShloMosaic Idealize.ShloMosaic.TcCoe Idealize.SL.Sem
open Cert.Kernel10Ideal Cert.Kernel10Ideal.Gen Cert.Lift Cert.GateMath Cert.GateB

theorem n_rt : Named.named (F := Ideal) κ "inv_sqrt_two" (φ := .f32) 0x3F3504F3#32 = ((rt : ℝ) : EReal) :=
  IdealRules.named_const.ideal_named_scalar _ _ _ _ rfl
section body
variable (q : Ideal .f32) (hq : q = ((2048 : ℝ) : EReal))
variable (zu zv : Fin 256 → Fin 2048 → ℝ) (g b : Fin 2048 → ℝ) (w : Fin 8 → Fin 128 → Fin 128 → ℝ) (bs : Fin 8 → Fin 128 → ℝ)

theorem pay2 : k0_pay2 (F := Ideal) (up2 .f32 zu) = up2 .f32 (fun n j => gl (zu n j)) := by
  funext i
  pointwise [k0_pay2, up2_apply]
  rw [n_rt, ← EReal.coe_mul, erf_f, c_half, ← EReal.coe_one, ← EReal.coe_add, ← EReal.coe_mul, ← EReal.coe_mul]
  rfl
theorem pay5 : k0_pay5 (F := Ideal) (up2 .f32 zv) = up2 .f32 (fun n j => xc (fun k => gl (zv n k)) j) := by
  funext i
  pointwise [k0_pay5, up2_apply]
  simp only [n_rt, c_half, c2048, ← EReal.coe_mul, erf_f, ← EReal.coe_one, ← EReal.coe_add, coe_sum, zero_add]
  rw [div_coe' _ _ (by norm_num), ← EReal.coe_sub]
  rfl
theorem pay6 : k0_pay6 (F := Ideal) (up2 .f32 zv) = up2 .f32 (fun n (_ : Fin 1) => ∑ k, xc (fun k => gl (zv n k)) k * xc (fun k => gl (zv n k)) k) := by
  funext i
  pointwise [k0_pay6, pay5, up2_apply]
  simp only [← EReal.coe_mul, coe_sum, zero_add]
include hq in
theorem pay7 : k0_pay7 (F := Ideal) (k0_pay3 (up2 .f32 (fun _ => g))) (k0_pay4 (up2 .f32 (fun _ => b))) (k0_pay5 (up2 .f32 zv)) (k0_pay6 (up2 .f32 zv)) q
    = up2 .bf16 (vb zv g b) := by
  funext i
  pointwise [k0_pay7, k0_pay3, k0_pay4, pay5, pay6, up2_apply]
  rw [hq, div_coe' _ _ (by norm_num), c_eps, ← EReal.coe_add]
  refine (congrArg (fun s => _ * s * _ + _) (rsqrt_pos _ (va_pos (fun k => gl (zv (i 0) k))))).trans ?_
  simp only [← EReal.coe_mul, ← EReal.coe_add]
  rfl
end body
end Cert.GateFB
-- ==== Proof.GateFK.lean ====
module
public import proofs.«01_k».proof.Proof.Gen.Kernel10Ideal.Value
public import proofs.«01_k».proof.Proof.GateFB
@[expose] public section
set_option maxRecDepth 16384
set_option maxHeartbeats 4000000
noncomputable section
namespace Cert.GateFK
open Idealize.ShloMosaic Idealize.ShloMosaic.TcCoe Idealize.SL.Sem
open Idealize.ShloMosaic.Pipeline (Dat)
open Cert.Kernel10Ideal Cert.Kernel10Ideal.Gen Cert.Lift Cert.GateMath Cert.GateB Cert.GateFB

theorem n2048 : (FloatOps.ofBits FTy.f32 0x45000000#32 : Ideal .f32) = ((2048 : ℝ) : EReal) := c2048
/-- A block's gate, and the block of the result. -/
def gb (zu zv : Fin 256 → Fin 2048 → ℝ) (g b : Fin 2048 → ℝ) (w : Fin 8 → Fin 128 → Fin 128 → ℝ) (bs : Fin 8 → Fin 128 → ℝ) (n : Fin 256) (j : Fin 2048) : ℝ :=
  gl (zu n j) * mixed w bs (fun s => vb zv g b (pt n s)) (ql n) j
def cF (x : Fin 256 → Fin 2048 → ℝ) (Q : Fin 256 → Fin 1024 → EReal) (n : Fin 256) (j : Fin 3072) : EReal :=
  if h : j.val < 2048 then ((x n ⟨j.val, h⟩ : ℝ) : EReal) else Q n ⟨j.val - 2048, by omega⟩
section pieces
variable (zu zv : Fin 256 → Fin 2048 → ℝ) (g b : Fin 2048 → ℝ) (w : Fin 8 → Fin 128 → Fin 128 → ℝ) (bs : Fin 8 → Fin 128 → ℝ)
theorem gb_piece (Q : Fin 256 → Fin 1024 → EReal) (y0 : Fin 256) (y1 : Fin 3072) {γ : Fin 8} {x0 : Fin 128} {n : Fin 256} {j : Fin 2048} {f : Fin 128 → EReal}
    (hn : n.val = y0.val) (hj : j.val = y1.val) (hγ : γ.val = j.val / 256) (hx : x0.val = n.val % 128)
    (h : ∀ s, f s = ((low w (gr j) (ql n) s * vb zv g b (pt n s) j : ℝ) : EReal)) :
    ((gl (zu n j) : ℝ) : EReal) * ((∑ s : Fin 128, f s) + ((bs γ x0 : ℝ) : EReal)) = cF (gb zu zv g b w bs) Q y0 y1 := by
  obtain rfl : n = y0 := Fin.ext hn
  have hl : y1.val < 2048 := hj ▸ j.isLt
  obtain rfl : j = ⟨y1.val, hl⟩ := Fin.ext hj
  obtain rfl : γ = gr ⟨y1.val, hl⟩ := Fin.ext hγ
  obtain rfl : x0 = ql n := Fin.ext hx
  simp only [h, ← EReal.coe_mul, coe_sum, ← EReal.coe_add]
  unfold cF
  rw [dif_pos hl]
  rfl
theorem cF_r (X : Fin 256 → Fin 2048 → ℝ) (Q : Fin 256 → Fin 1024 → EReal) (y0 : Fin 256) (y1 : Fin 3072) (n : Fin 256) (j : Fin 1024)
    (hn : y0.val = n.val) (hj : y1.val = 2048 + j.val) : Q n j = cF X Q y0 y1 := by
  obtain rfl : y0 = n := Fin.ext hn
  unfold cF
  rw [dif_neg (by omega)]
  exact congrArg (Q y0) (Fin.ext (by dsimp only; omega))
end pieces

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ t.val < 16 :=
  (by decide +kernel : ∀ t : Fin grid0.N, _)
theorem lt16 (t : Fin cfg0.N) : t.val < 16 := (idx t).2.2.2.2.2.2.2.2
theorem gb_row (t : Fin 16) (zu zv : Fin 4096 → Fin 2048 → ℝ) (g b : Fin 2048 → ℝ) (w : Fin 8 → Fin 128 → Fin 128 → ℝ) (bs : Fin 8 → Fin 128 → ℝ) (r : Fin 256) (j : Fin 2048) :
    gb (bR t zu) (bR t zv) g b w bs r j = gt zu zv g b w bs (at256 t r) j := by
  show gl (zu (at256 t r) j) * mixed w bs (fun s => vv zv g b (at256 t (pt r s))) (ql r) j = _
  simp only [at_pt, ql_at t]
  rfl
theorem cF_row (t : Fin 16) (zu zv : Fin 4096 → Fin 2048 → ℝ) (g b : Fin 2048 → ℝ) (w : Fin 8 → Fin 128 → Fin 128 → ℝ) (bs : Fin 8 → Fin 128 → ℝ)
    (q : Fin 4096 → Fin 1024 → EReal) (r : Fin 256) (j : Fin 3072) :
    cF (gb (bR t zu) (bR t zv) g b w bs) (bR t q) r j = cat2 (gt zu zv g b w bs) q (at256 t r) j := by
  unfold cF cat2
  simp only [gb_row]
  rfl

variable (m : (ℓ : Loc nD τ sig) → Buf (Elt Ideal) ℓ) (c : Dev nD)
section point
variable (t : Fin cfg0.N) (zu zv : Fin 256 → Fin 2048 → ℝ) (g b : Fin 2048 → ℝ) (w : Fin 8 → Fin 128 → Fin 128 → ℝ) (bs : Fin 8 → Fin 128 → ℝ) (Q : Fin 256 → Fin 1024 → EReal)
variable (e0 : X0_0 m c t = up2 .f32 zu) (e1 : X0_1 m c t = up2 .f32 zv) (e2 : iblk m c 2 t = ue2 .bf16 Q)
  (e3 : iblk m c 3 t = up2 .f32 (fun _ => g)) (e4 : iblk m c 4 t = up2 .f32 (fun _ => b)) (e5 : iblk m c 5 t = up3 .f32 w) (e6 : iblk m c 6 t = up2 .f32 (fun a γ => bs γ a))
include e0 e1 e2 e3 e4 e5 e6
/-- The block after a point. -/
theorem at_point (y : S256x3072.Idx) : outsAt0 m c t y = cF (gb zu zv g b w bs) Q (y 0) (y 1) := by
  unfold outsAt0 out0_A_7
  frame_out
  rw [e0, e1, e2, e3, e4, e5, e6, pay2]
  clear e0 e1 e2 e3 e4 e5 e6
  canon_tiles x h using View.cover_of_tiledBy _ ![128, 256] (by sl_kernel_rfl) _
  case piece16 =>
    pointwise [k0_pay1, ue2_apply, h0, h1]
    exact cF_r _ _ (y 0) (y 1) (x 0) (x 1) h0 h1
  all_goals (pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, pay7 _ c2048, pay7 _ n2048, up2_apply, up3_apply, h0, h1])
  all_goals refine gb_piece zu zv g b w bs Q (y 0) (y 1) ?_ ?_ ?_ ?_ fun s => sel_one w (vb zv g b) _ _ s _ _ ?_ ?_ ?_ ?_ ?_
  all_goals first | omega | (simp only [gr, ql, pt, hf, ln]; omega)
end point

variable (z : Fin 2 → Fin 2048 → Fin 5120 → ℝ) (q : Fin 2 → Fin 2048 → Fin 1024 → EReal)
    (g b : Fin 2048 → ℝ) (w : Fin 8 → Fin 128 → Fin 128 → ℝ) (bs : Fin 8 → Fin 128 → ℝ)
/-- A grid point, as a number below its bound. -/
def pN (t : Fin cfg0.N) : Fin 16 := ⟨t.val, lt16 t⟩

section ins
variable (hz : m ((c : Thread nD τ).loc main_arg0) = up3 .f32 z)
include hz
theorem v0 : V m c main_v0 = up2 .f32 (flat z) := by
  funext i
  entry_read
  rw [hz]
  pointwise [up3_apply, up2_apply]
  rfl
theorem in0 (t : Fin cfg0.N) : X0_0 m c t = up2 .f32 (bR (pN t) (lo (flat z))) := by
  funext y
  have ht := lt16 t
  unfold X0_0 Pipeline.Window.fill
  rw [dif_pos (moved0_0 t y)]
  blk_simp [iblk]
  rw [v0 m c z hz, up2_apply, up2_apply]
  refine congrArg _ (congrArg₂ (flat z) (Fin.ext ?_) (Fin.ext ?_)) <;> blk_simp [idx t] <;> try rfl
theorem in1 (t : Fin cfg0.N) : X0_1 m c t = up2 .f32 (bR (pN t) (hi (flat z))) := by
  funext y
  have ht := lt16 t
  unfold X0_1 Pipeline.Window.fill
  rw [dif_pos (moved0_1 t y)]
  blk_simp [iblk]
  rw [v0 m c z hz, up2_apply, up2_apply]
  refine congrArg _ (congrArg₂ (flat z) (Fin.ext ?_) (Fin.ext ?_)) <;> blk_simp [idx t] <;> try rfl
end ins
theorem in2 (hq : m ((c : Thread nD τ).loc main_arg1) = ue3 .f32 q) (t : Fin cfg0.N) : iblk m c 2 t = ue2 .bf16 (bR (pN t) (flat q)) := by
  have h : V m c main_v2 = ue2 .bf16 (flat q) := by
    funext i
    entry_read
    rw [hq]
    pointwise [ue3_apply, ue2_apply]
    rfl
  funext y
  blk_simp [iblk]
  rw [h, ue2_apply, ue2_apply]
  refine congrArg₂ (flat q) (Fin.ext ?_) (Fin.ext ?_) <;> blk_simp [idx t] <;> try rfl
theorem in3 (hg : m ((c : Thread nD τ).loc main_arg2) = up1 .f32 g) (t : Fin cfg0.N) : iblk m c 3 t = up2 .f32 (fun _ => g) := by
  have h : V m c main_v3 = up2 .f32 (fun _ => g) := by
    funext i
    entry_read
    rw [hg]
    pointwise [up1_apply, up2_apply]
  funext y
  blk_simp [iblk]
  rw [h, up2_apply]
  refine congrArg _ (congrArg g (Fin.ext ?_)) <;> blk_simp [idx t] <;> try omega
theorem in4 (hb : m ((c : Thread nD τ).loc main_arg3) = up1 .f32 b) (t : Fin cfg0.N) : iblk m c 4 t = up2 .f32 (fun _ => b) := by
  have h : V m c main_v4 = up2 .f32 (fun _ => b) := by
    funext i
    entry_read
    rw [hb]
    pointwise [up1_apply, up2_apply]
  funext y
  blk_simp [iblk]
  rw [h, up2_apply]
  refine congrArg _ (congrArg b (Fin.ext ?_)) <;> blk_simp [idx t] <;> try omega
theorem in5 (hw : m ((c : Thread nD τ).loc main_arg4) = up3 .f32 w) (t : Fin cfg0.N) : iblk m c 5 t = up3 .f32 w := by
  have h : V m c main_arg4 = up3 .f32 w := by
    entry_read
    exact hw
  funext y
  blk_simp [iblk]
  rw [h, up3_apply]
  refine congrArg _ (congr (congrArg₂ w (Fin.ext ?_) (Fin.ext ?_)) (Fin.ext ?_)) <;> blk_simp [idx t] <;> try omega
theorem in6 (hbs : m ((c : Thread nD τ).loc main_arg5) = up2 .f32 bs) (t : Fin cfg0.N) : iblk m c 6 t = up2 .f32 (fun a γ => bs γ a) := by
  have h : V m c main_v5 = up2 .f32 (fun a γ => bs γ a) := by
    funext i
    entry_read
    rw [hbs]
    pointwise [up2_apply]
  funext y
  blk_simp [iblk]
  rw [h, up2_apply]
  refine congrArg _ (congrArg₂ bs (Fin.ext ?_) (Fin.ext ?_)) <;> blk_simp [idx t] <;> try omega

variable (hz : m ((c : Thread nD τ).loc main_arg0) = up3 .f32 z)
  (hq : m ((c : Thread nD τ).loc main_arg1) = ue3 .f32 q) (hg : m ((c : Thread nD τ).loc main_arg2) = up1 .f32 g)
  (hb : m ((c : Thread nD τ).loc main_arg3) = up1 .f32 b) (hw : m ((c : Thread nD τ).loc main_arg4) = up3 .f32 w)
  (hbs : m ((c : Thread nD τ).loc main_arg5) = up2 .f32 bs)
include hz hq hg hb hw hbs

/-- The gate's output and the memory attention's. -/
theorem final7 : (dats m 0 c).arrAt 7 (cfgs 0).N = ue2 .bf16 (cat2 (gt (lo (flat z)) (hi (flat z)) g b w bs) (flat q)) := by
  refine (dats m 0 c).arrAt_eq_of_covers 7 _ (by decide +kernel) fun t _ y => ?_
  have ht := lt16 t
  blk_simp
  have key : cat2 (gt (lo (flat z)) (hi (flat z)) g b w bs) (flat q) (at256 (pN t) (y 0)) (y 1)
      = ue2 .bf16 (cat2 (gt (lo (flat z)) (hi (flat z)) g b w bs) (flat q)) (((cfg0.win 7).blk t).view.emb y) := by
    rw [ue2_apply]
    refine congrArg₂ (cat2 _ _) (Fin.ext ?_) (Fin.ext ?_) <;> blk_simp [idx t] <;> try rfl
  refine Eq.trans ?_ key
  rw [after0_7]
  exact (at_point m c t _ _ g b w bs _ (in0 m c z hz t) (in1 m c z hz t) (in2 m c q hq t) (in3 m c g hg t) (in4 m c b hb t) (in5 m c w hw t) (in6 m c bs hbs t) y).trans (cF_row _ _ _ _ _ _ _ _ _ _)

omit hz hq hg hb hw hbs in
/-- The run from real arguments. -/
theorem run (ρ : Dev nD → PrngReg)
    (z : Dev nD → Fin 2 → Fin 2048 → Fin 5120 → ℝ) (q : Dev nD → Fin 2 → Fin 2048 → Fin 1024 → EReal)
    (g b : Dev nD → Fin 2048 → ℝ) (w : Dev nD → Fin 8 → Fin 128 → Fin 128 → ℝ) (bs : Dev nD → Fin 8 → Fin 128 → ℝ)
    (hz : ∀ c : Dev nD, m ((c.tc : Thread nD τ).loc main_arg0) = up3 .f32 (z c))
    (hq : ∀ c : Dev nD, m ((c.tc : Thread nD τ).loc main_arg1) = ue3 .f32 (q c)) (hg : ∀ c : Dev nD, m ((c.tc : Thread nD τ).loc main_arg2) = up1 .f32 (g c))
    (hb : ∀ c : Dev nD, m ((c.tc : Thread nD τ).loc main_arg3) = up1 .f32 (b c)) (hw : ∀ c : Dev nD, m ((c.tc : Thread nD τ).loc main_arg4) = up3 .f32 (w c))
    (hbs : ∀ c : Dev nD, m ((c.tc : Thread nD τ).loc main_arg5) = up2 .f32 (bs c)) :
    θ_run defs (onTc (τ := τ) (main (F := Ideal))) ⟨m, fun _ => 0, ρ⟩ fun r => ∀ c : Dev nD,
      r.2.mem ((c.tc : Thread nD τ).loc main_v6) = ue2 .bf16 (cat2 (gt (lo (flat (z c))) (hi (flat (z c))) (g c) (b c) (w c) (bs c)) (flat (q c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Kernel10Ideal.Value.run_blocks m ρ)
  obtain ⟨h0, h1⟩ := h c
  exact ⟨h0.trans (final7 m c _ _ _ _ _ _ (hz c) (hq c) (hg c) (hb c) (hw c) (hbs c)), h1⟩
end Cert.GateFK
-- ==== Proof.GateFR.lean ====
module
public import proofs.«01_k».proof.Proof.Gen.Reference10Ideal.Read
public import proofs.«01_k».proof.Proof.GateFMath
public import proofs.«01_k».proof.Proof.GateR
@[expose] public section
set_option maxRecDepth 16384
noncomputable section
namespace Cert.GateFR
open Idealize.ShloMosaic Idealize.ShloMosaic.TcCoe Idealize.SL.Sem
open Cert.Reference10Ideal Cert.Reference10Ideal.Gen Cert.Reference10Ideal.Read Cert.Lift Cert.GateMath

variable (z : Fin 4096 → Fin 5120 → ℝ) (q : Fin 2 → Fin 2048 → Fin 1024 → EReal) (g b : Fin 2048 → ℝ)
  (w : Fin 8 → Fin 128 → Fin 128 → ℝ) (bs : Fin 8 → Fin 128 → ℝ)

theorem v10 : val_main_v10 (F := Ideal) (up3 .f32 (stk z)) = up3 .f32 (stk (fun n j => gl (lo z n j))) := GateR.v18 z
theorem v41 : val_main_v41 (F := Ideal) (up3 .f32 (stk z)) (up1 .f32 g) (up1 .f32 b)
    = up5 .f32 (fun s k a γ l => vv (hi z) g b (at4 (ch s k) a) (ln γ l)) := GateR.v60 z g b
theorem v45 : val_main_v45 (F := Ideal) (up3 .f32 w) = up3 .f32 (low w) := GateR.v64_0 w
theorem v46 : val_main_v46 (F := Ideal) (up3 .f32 (stk z)) (up1 .f32 g) (up1 .f32 b) (up3 .f32 w)
    = up5 .f32 (fun γ s k l a => ∑ t, low w γ a t * vv (hi z) g b (at4 (ch s k) t) (ln γ l)) := by
  unfold val_main_v46
  rw [v41, v45, ← GateR.v60, ← GateR.v64_0]
  exact GateR.v65 z g b w
theorem v52 : val_main_v52 (F := Ideal) (up3 .f32 (stk z)) (up1 .f32 g) (up1 .f32 b) (up3 .f32 w) (up2 .f32 bs)
    = up3 .f32 (stk (fun n j => mixed w bs (fun a => vv (hi z) g b (at4 (ck n) a)) (pl n) j)) := by
  funext i
  pointwise [val_main_v52, val_main_v51, val_main_v50, val_main_v49, val_main_v48, val_main_v47, v46, up3_apply, up5_apply, up2_apply]
  rw [← EReal.coe_add]
  exact congrArg _ (mixed_row w bs (vv (hi z) g b) (i 0) (i 1) (i 2))
theorem v53 : val_main_v53 (F := Ideal) (up3 .f32 (stk z)) (up1 .f32 g) (up1 .f32 b) (up3 .f32 w) (up2 .f32 bs)
    = up3 .f32 (stk (gt (lo z) (hi z) g b w bs)) := by
  funext i
  pointwise [val_main_v53, v52, v10, up3_apply]
  rw [← EReal.coe_mul]
  rfl
theorem v56 : val_main_v56 (F := Ideal) (up3 .f32 (stk z)) (ue3 .f32 q) (up1 .f32 g) (up1 .f32 b) (up3 .f32 w) (up2 .f32 bs)
    = ue2 .bf16 (cat2 (gt (lo z) (hi z) g b w bs) (flat q)) := by
  funext i
  pointwise [val_main_v56, val_main_v55, val_main_v54, v53, up3_apply, ue3_apply, ue2_apply]
  exact cat2_row _ _ _ _

set_option maxHeartbeats 4000000 in
/-- The run from real arguments. -/
theorem run (m : (ℓ : Loc nD τ sig) → Buf (Elt Ideal) ℓ) (ρ : Dev nD → PrngReg)
    (z : Dev nD → Fin 2 → Fin 2048 → Fin 5120 → ℝ) (q : Dev nD → Fin 2 → Fin 2048 → Fin 1024 → EReal)
    (g b : Dev nD → Fin 2048 → ℝ) (w : Dev nD → Fin 8 → Fin 128 → Fin 128 → ℝ) (bs : Dev nD → Fin 8 → Fin 128 → ℝ)
    (hz : ∀ c : Dev nD, m ((c.tc : Thread nD τ).loc main_arg0) = up3 .f32 (z c))
    (hq : ∀ c : Dev nD, m ((c.tc : Thread nD τ).loc main_arg1) = ue3 .f32 (q c)) (hg : ∀ c : Dev nD, m ((c.tc : Thread nD τ).loc main_arg2) = up1 .f32 (g c))
    (hb : ∀ c : Dev nD, m ((c.tc : Thread nD τ).loc main_arg3) = up1 .f32 (b c)) (hw : ∀ c : Dev nD, m ((c.tc : Thread nD τ).loc main_arg4) = up3 .f32 (w c))
    (hbs : ∀ c : Dev nD, m ((c.tc : Thread nD τ).loc main_arg5) = up2 .f32 (bs c)) :
    θ_run defs (onTc (τ := τ) (main (F := Ideal))) ⟨m, fun _ => 0, ρ⟩ fun r => ∀ c : Dev nD,
      r.2.mem ((c.tc : Thread nD τ).loc main_v56) = ue2 .bf16 (cat2 (gt (lo (flat (z c))) (hi (flat (z c))) (g c) (b c) (w c) (bs c)) (flat (q c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference10Ideal.Value.run m ρ)
  obtain ⟨h0, h1⟩ := h c
  have hz' : up3 .f32 (z c) = up3 .f32 (stk (flat (z c))) := by rw [stk_flat]
  refine ⟨h0.trans ((val_main_v56_eq m c).trans ?_), h1⟩
  rw [hz, hq, hg, hb, hw, hbs, hz']
  exact v56 _ _ _ _ _ _
end Cert.GateFR
-- ==== Proof.GateF.lean ====
module
public import proofs.«01_k».proof.Defs
public import proofs.«01_k».proof.Proof.Gen.Kernel10
public import proofs.«01_k».proof.Proof.Gen.Kernel10.Frame
public import proofs.«01_k».proof.Proof.Gen.Pre_finite10
public import proofs.«01_k».proof.Proof.GateFK
public import proofs.«01_k».proof.Proof.GateFR
public import Idealize.ShloMosaic.Adequacy
public import Idealize.ShloMosaic.Init
public import Idealize.ShloMosaic.Lib.Quiescent
@[expose] public section
set_option maxRecDepth 16384
noncomputable section
namespace Cert.GateF
open Idealize.ShloMosaic Idealize.ShloMosaic.TcCoe Idealize.SL.Sem Cert.Lift

/-- The precondition says that the arguments it speaks of are arrays of real numbers. -/
theorem real (z : FVec Ideal Cert.Pre_finite10.S2x2048x5120 .f32)
    (q : FVec Ideal Cert.Pre_finite10.S2x2048x1024 .f32)
    (g : FVec Ideal Cert.Pre_finite10.S2048 .f32)
    (b : FVec Ideal Cert.Pre_finite10.S2048 .f32)
    (w : FVec Ideal Cert.Pre_finite10.S8x128x128 .f32)
    (bs : FVec Ideal Cert.Pre_finite10.S8x128 .f32)
    (h : @Cert.Pre_finite10.fn Cert.Pre_finite10.Gen.facts Ideal _ z q g b w bs = fun _ => 1#1) :
    ∃ (z' : Fin 2 → Fin 2048 → Fin 5120 → ℝ) (q' : Fin 2 → Fin 2048 → Fin 1024 → EReal) (g' : Fin 2048 → ℝ) (b' : Fin 2048 → ℝ) (w' : Fin 8 → Fin 128 → Fin 128 → ℝ) (bs' : Fin 8 → Fin 128 → ℝ),
      z = up3 .f32 z' ∧ q = ue3 .f32 q' ∧ g = up1 .f32 g' ∧ b = up1 .f32 b' ∧ w = up3 .f32 w' ∧ bs = up2 .f32 bs' := by
  have h0 := congrFun h (fun a => a.elim0)
  dsimp only [Cert.Pre_finite10.fn, Cert.Pre_finite10.fn_part1] at h0
  obtain ⟨a1, b1⟩ := and_one h0
  obtain ⟨a2, b2⟩ := and_one a1
  obtain ⟨a3, b3⟩ := and_one a2
  obtain ⟨a4, b4⟩ := and_one a3
  obtain ⟨q', eq⟩ := exists_ue3 .f32 q
  obtain ⟨z', ez⟩ := exists_up3 .f32 z (finite_of_reduce z _ inf_apply _ _ _ _ a4)
  obtain ⟨g', eg⟩ := exists_up1 .f32 g (finite_of_reduce g _ inf_apply _ _ _ _ b4)
  obtain ⟨b', eb⟩ := exists_up1 .f32 b (finite_of_reduce b _ inf_apply _ _ _ _ b3)
  obtain ⟨w', ew⟩ := exists_up3 .f32 w (finite_of_reduce w _ inf_apply _ _ _ _ b2)
  obtain ⟨bs', ebs⟩ := exists_up2 .f32 bs (finite_of_reduce bs _ inf_apply _ _ _ _ b1)
  exact ⟨z', q', g', b', w', bs', ez, eq, eg, eb, ew, ebs⟩

theorem frame_kernel : Cert.quiescent_Kernel10 (hKernel10 := Cert.Kernel10.Gen.facts) := fun m ρ _ => Cert.Kernel10.Gen.frame m ρ
theorem frame_ideal : Cert.quiescent_Kernel10Ideal (hKernel10Ideal := Cert.Kernel10Ideal.Gen.facts) :=
  fun m ρ _ => Cert.Kernel10Ideal.Gen.frame m ρ
theorem frame_ideal_pre : Cert.quiescent_Kernel10Ideal_pre_finite10 (hKernel10Ideal := Cert.Kernel10Ideal.Gen.facts) (hPre_finite10 := Cert.Pre_finite10.Gen.facts) :=
  fun m ρ _ => Cert.Kernel10Ideal.Gen.frame m ρ
theorem frame_reference : Cert.quiescent_Reference10Ideal (hReference10Ideal := Cert.Reference10Ideal.Gen.facts) :=
  fun m ρ _ => (θ_run Cert.Reference10Ideal.defs _ _).mono
    (fun r h => ⟨fun c => (h c).2, sem_eq_zero_of_no_sems (by decide) r.2⟩) (Cert.Reference10Ideal.Value.run m ρ)
theorem frame_reference_pre : Cert.quiescent_Reference10Ideal_pre_finite10 (hReference10Ideal := Cert.Reference10Ideal.Gen.facts) (hPre_finite10 := Cert.Pre_finite10.Gen.facts) :=
  fun m ρ _ => frame_reference m ρ trivial

/-- The output of the spatial gate is its reference's. -/
theorem algebraic : Cert.algebraic_Kernel10Ideal_Reference10Ideal_pre_finite10 (hKernel10Ideal := Cert.Kernel10Ideal.Gen.facts)
    (hReference10Ideal := Cert.Reference10Ideal.Gen.facts) (hPre_finite10 := Cert.Pre_finite10.Gen.facts) := by
  intro m0 g0 m1 g1 hpre hagree
  choose z q g b w bs hz hq hg hb hw hbs using fun c => real _ _ _ _ _ _ (hpre c)
  exact ⟨_, Cert.GateFK.run m0 g0 z q g b w bs hz hq hg hb hw hbs,
    Cert.GateFR.run m1 g1 z q g b w bs
      (fun c => (hagree c).1.trans (hz c))
      (fun c => (hagree c).2.1.trans (hq c))
      (fun c => (hagree c).2.2.1.trans (hg c))
      (fun c => (hagree c).2.2.2.1.trans (hb c))
      (fun c => (hagree c).2.2.2.2.1.trans (hw c))
      (fun c => (hagree c).2.2.2.2.2.trans (hbs c))⟩
/-- The named constant rounds to the literal of the kernel, wherever it stands. -/
theorem preserve : Cert.preserves_Kernel10_Kernel10Ideal :=
  IdealRules.named_const.statement Cert.Kernel10Ideal.κ "inv_sqrt_two" .f32 0x3F3504F3#32 (((Real.sqrt 2)⁻¹ : ℝ) : EReal) rfl
end Cert.GateF
-- ==== Proof.FfnFMath.lean ====
module
public import proofs.«01_k».proof.Proof.FfnMath
@[expose] public section

noncomputable section
namespace Cert.FfnFMath
open Cert.Rms Cert.NormMath Cert.FfnMath

/-- The gated activation of a row. -/
def act (w : Fin 1024 → Fin 5632 → ℝ) (a g : Fin 1024 → ℝ) (j : Fin 2816) : ℝ :=
  pre w a g (lo j) * sg (pre w a g (lo j)) * pre w a g (hi j)
/-- A row after the half step of the feed-forward layer. -/
def step (w : Fin 1024 → Fin 5632 → ℝ) (o : Fin 2816 → Fin 1024 → ℝ) (a g : Fin 1024 → ℝ) (k : Fin 1024) : ℝ :=
  a k + 1 / 2 * ∑ j, act w a g j * o j k
/-- The same from its two parts, wherever the row and the column are written. -/
theorem act_at (w : Fin 1024 → Fin 5632 → ℝ) (x : Fin 256 → Fin 1024 → ℝ) (g : Fin 1024 → ℝ) {r n : Fin 256} {j : Fin 2816} {p q : Fin 5632}
    (hn : r.val = n.val) (hp : p.val = j.val) (hq : q.val = 2816 + j.val) :
    (((∑ k, hid (x r) g k * w k p) * sg (∑ k, hid (x r) g k * w k p) * ∑ k, hid (x r) g k * w k q : ℝ) : EReal) = ((act w (x n) g j : ℝ) : EReal) := by
  obtain rfl := Fin.ext hn
  obtain rfl : p = lo j := Fin.ext hp
  obtain rfl : q = hi j := Fin.ext hq
  rfl
theorem slot0_at (w : Fin 1024 → Fin 5632 → ℝ) (x : Fin 256 → Fin 1024 → ℝ) (g : Fin 1024 → ℝ) {r n : Fin 256} {j : Fin 2816} {p q : Fin 5632} {s : Fin 2}
    (hs : s.val = 0) (hn : r.val = n.val) (hp : p.val = j.val) (hq : q.val = 2816 + j.val) :
    (((∑ k, hid (x r) g k * w k q) * (sg (∑ k, hid (x r) g k * w k p)
      + (∑ k, hid (x r) g k * w k p) * sg (∑ k, hid (x r) g k * w k p) * (1 - sg (∑ k, hid (x r) g k * w k p))) : ℝ) : EReal) = ((slot w (x n) g s j : ℝ) : EReal) := by
  obtain rfl := Fin.ext hn
  obtain rfl : p = lo j := Fin.ext hp
  obtain rfl : q = hi j := Fin.ext hq
  unfold slot
  rw [if_pos hs]
  rfl
theorem slot1_at (w : Fin 1024 → Fin 5632 → ℝ) (x : Fin 256 → Fin 1024 → ℝ) (g : Fin 1024 → ℝ) {r n : Fin 256} {j : Fin 2816} {p : Fin 5632} {s : Fin 2}
    (hs : s.val = 1) (hn : r.val = n.val) (hp : p.val = j.val) :
    (((∑ k, hid (x r) g k * w k p) * sg (∑ k, hid (x r) g k * w k p) : ℝ) : EReal) = ((slot w (x n) g s j : ℝ) : EReal) := by
  obtain rfl := Fin.ext hn
  obtain rfl : p = lo j := Fin.ext hp
  unfold slot
  rw [if_neg (by omega)]
  rfl
end Cert.FfnFMath
-- ==== Proof.FfnFK.lean ====
module
public import proofs.«01_k».proof.Proof.Gen.Kernel11Ideal.Value
public import proofs.«01_k».proof.Proof.Lift
public import proofs.«01_k».proof.Proof.FfnFMath
@[expose] public section
set_option maxRecDepth 16384
noncomputable section
namespace Cert.FfnFK
open Idealize.ShloMosaic Idealize.ShloMosaic.TcCoe Idealize.SL.Sem
open Idealize.ShloMosaic.Pipeline (Dat)
open Cert.Kernel11Ideal Cert.Kernel11Ideal.Gen Cert.Lift Cert.Rms Cert.NormMath Cert.FfnMath Cert.FfnFMath

theorem at_all {α β : Type} {f g : α → β} (q : α) (h : ∀ q, f q = g q) {b : β} (hb : g q = b) : f q = b := (h q).trans hb

section body
variable (x : Fin 256 → Fin 1024 → ℝ) (g : Fin 1024 → ℝ) (u : Fin 1408 → Fin 1024 → ℝ) (G U : Fin 256 → Fin 1408 → ℝ)

theorem pay5 : k0_pay5 (F := Ideal) (up2 .f32 x) (up2 .f32 (fun (_ : Fin 1) => g)) = up2 .bf16 (fun r => hid (x r) g) := by
  funext i
  pointwise [k0_pay5, k0_pay4, up2_apply]
  simp only [← EReal.coe_mul, coe_sum, c1024, c_eps]
  rw [div_coe' _ _ (by norm_num), ← EReal.coe_add]
  refine (congrArg (fun q : EReal => ((x _ _ : ℝ) : EReal) * q * ((g _ : ℝ) : EReal)) (rsqrt_pos _ (ms_pos _))).trans ?_
  rfl
theorem pay6 : k0_pay6 (F := Ideal) (up2 .f32 x) (up2 .f32 (fun (_ : Fin 1) => g)) (up2 .bf16 u) = up2 .f32 (fun r j => ∑ k, hid (x r) g k * u j k) := by
  funext i
  pointwise [k0_pay6, pay5, up2_apply]
  simp only [← EReal.coe_mul, coe_sum]
theorem pay7 : k0_pay7 (F := Ideal) (up2 .f32 x) (up2 .f32 (fun (_ : Fin 1) => g)) (up2 .bf16 u) = up2 .f32 (fun r j => ∑ k, hid (x r) g k * u j k) := by
  funext i
  pointwise [k0_pay7, pay5, up2_apply]
  simp only [← EReal.coe_mul, coe_sum]
theorem pay14 : k0_pay14 (F := Ideal) (up2 .bf16 (fun r => hid (x r) g)) (up2 .bf16 u) = up2 .f32 (fun r j => ∑ k, hid (x r) g k * u j k) := by
  funext i
  pointwise [k0_pay14, up2_apply]
  simp only [← EReal.coe_mul, coe_sum]
theorem pay15 : k0_pay15 (F := Ideal) (up2 .bf16 (fun r => hid (x r) g)) (up2 .bf16 u) = up2 .f32 (fun r j => ∑ k, hid (x r) g k * u j k) := by
  funext i
  pointwise [k0_pay15, up2_apply]
  simp only [← EReal.coe_mul, coe_sum]
theorem pay8 : k0_pay8 (F := Ideal) (up2 .f32 x) (up2 .f32 (fun (_ : Fin 1) => g)) (up2 .bf16 u) = up2 .f32 (fun r j => sg (∑ k, hid (x r) g k * u j k)) := by
  funext i
  pointwise [k0_pay8, pay6, up2_apply]
  simp only [c_half, ← EReal.coe_mul, Ideal.tanh_coe, ← EReal.coe_add]
  exact congrArg _ (sg_tanh _)
theorem pay16 : k0_pay16 (F := Ideal) (up2 .bf16 (fun r => hid (x r) g)) (up2 .bf16 u) = up2 .f32 (fun r j => sg (∑ k, hid (x r) g k * u j k)) := by
  funext i
  pointwise [k0_pay16, pay14, up2_apply]
  simp only [c_half, ← EReal.coe_mul, Ideal.tanh_coe, ← EReal.coe_add]
  exact congrArg _ (sg_tanh _)
theorem pay3 (a : Fin 256 → Fin 2816 → ℝ) (o : Fin 2816 → Fin 1024 → ℝ) : k0_pay3 (F := Ideal) (up2 .f32 x) (up2 .bf16 a) (up2 .bf16 o)
    = up2 .f32 (fun r k => x r k + 1 / 2 * ∑ j, a r j * o j k) := by
  funext i
  pointwise [k0_pay3, up2_apply]
  simp only [← EReal.coe_mul, coe_sum, c_half, ← EReal.coe_add]
end body

theorem ld0 (w : Fin 1024 → Fin 5632 → ℝ) : @Eq (FVec Ideal S1408x1024 .bf16) (View.ld (Val := Elt Ideal) (S := S5632x1024) (e' := .bf16) (up2 .bf16 (fun j k => w k j)) (Rect.unit (s := S5632x1024) ![0, 0] ![1408, 1024] inb_S5632x1024_S1408x1024_0_0))
    (up2 .bf16 (fun (j : Fin 1408) k => w k ⟨0 + j.val, by omega⟩)) := by
  funext i
  pointwise [up2_apply]
  try rfl
theorem ld1408 (w : Fin 1024 → Fin 5632 → ℝ) : @Eq (FVec Ideal S1408x1024 .bf16) (View.ld (Val := Elt Ideal) (S := S5632x1024) (e' := .bf16) (up2 .bf16 (fun j k => w k j)) (Rect.unit (s := S5632x1024) ![1408, 0] ![1408, 1024] inb_S5632x1024_S1408x1024_1408_0))
    (up2 .bf16 (fun (j : Fin 1408) k => w k ⟨1408 + j.val, by omega⟩)) := by
  funext i
  pointwise [up2_apply]
  try rfl
theorem ld2816 (w : Fin 1024 → Fin 5632 → ℝ) : @Eq (FVec Ideal S1408x1024 .bf16) (View.ld (Val := Elt Ideal) (S := S5632x1024) (e' := .bf16) (up2 .bf16 (fun j k => w k j)) (Rect.unit (s := S5632x1024) ![2816, 0] ![1408, 1024] inb_S5632x1024_S1408x1024_2816_0))
    (up2 .bf16 (fun (j : Fin 1408) k => w k ⟨2816 + j.val, by omega⟩)) := by
  funext i
  pointwise [up2_apply]
  try rfl
theorem ld4224 (w : Fin 1024 → Fin 5632 → ℝ) : @Eq (FVec Ideal S1408x1024 .bf16) (View.ld (Val := Elt Ideal) (S := S5632x1024) (e' := .bf16) (up2 .bf16 (fun j k => w k j)) (Rect.unit (s := S5632x1024) ![4224, 0] ![1408, 1024] inb_S5632x1024_S1408x1024_4224_0))
    (up2 .bf16 (fun (j : Fin 1408) k => w k ⟨4224 + j.val, by omega⟩)) := by
  funext i
  pointwise [up2_apply]
  try rfl
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0, t.val, 0]
    ∧ win0_7.index t = ![t.val, 0] ∧ t.val < 16 :=
  (by decide +kernel : ∀ t : Fin grid0.N, _)
theorem lt16 (t : Fin cfg0.N) : t.val < 16 := (idx t).2.2.2.2.2.2.2.2

variable (m : (ℓ : Loc nD τ sig) → Buf (Elt Ideal) ℓ) (c : Dev nD)

section point
variable (t : Fin cfg0.N) (x : Fin 256 → Fin 1024 → ℝ) (g : Fin 1024 → ℝ) (w : Fin 1024 → Fin 5632 → ℝ) (o : Fin 2816 → Fin 1024 → ℝ)
variable (e0 : iblk m c 0 t = up2 .f32 x) (e1 : iblk m c 1 t = up2 .f32 (fun _ => g)) (e2 : iblk m c 2 t = up2 .bf16 (fun j k => w k j)) (e3 : iblk m c 3 t = up2 .bf16 o)
include e0 e1 e2 e3

theorem out_h (y : S256x1024.Idx) : (outsAt0 m c t).2.1 y = up2 .bf16 (fun r => hid (x r) g) y := by
  unfold outsAt0 out0_A_5
  frame_out
  rw [e0, e1, pay5]
theorem out_act (y : S256x2816.Idx) : (outsAt0 m c t).2.2.2 y = up2 .bf16 (fun r => act w (x r) g) y := by
  unfold outsAt0 out0_A_7
  frame_out
  rw [e0, e1, e2, pay5, ld0, ld1408, ld2816, ld4224]
  clear e0 e1 e2 e3
  canon_tiles x h
  all_goals (pointwise [k0_pay13, k0_pay9, k0_pay2, k0_pay17, k0_pay10, k0_pay11, k0_pay12, k0_pay18, k0_pay1, k0_pay19, pay6, pay7, pay8, pay14, pay15, pay16, up2_apply, up3_apply, h0, h1])
  all_goals simp only [← EReal.coe_mul]
  all_goals exact act_at w _ g (by omega) (by dsimp only; omega) (by dsimp only; omega)
theorem out_z (y : S2x256x2816.Idx) : (outsAt0 m c t).2.2.1 y = up3 .bf16 (fun p r => slot w (x r) g p) y := by
  unfold outsAt0 out0_A_6
  frame_out
  rw [e0, e1, e2, pay5, ld0, ld1408, ld2816, ld4224]
  clear e0 e1 e2 e3
  canon_tiles x h
  all_goals (pointwise [k0_pay13, k0_pay9, k0_pay2, k0_pay17, k0_pay10, k0_pay11, k0_pay12, k0_pay18, k0_pay1, k0_pay19, pay6, pay7, pay8, pay14, pay15, pay16, up2_apply, up3_apply, h0, h1, h2])
  all_goals try simp only [← EReal.coe_one]
  all_goals simp only [← EReal.coe_mul, ← EReal.coe_sub, ← EReal.coe_add]

  all_goals first
    | exact slot0_at w _ g (by omega) (by omega) (by dsimp only; omega) (by dsimp only; omega)
    | exact slot1_at w _ g (by omega) (by omega) (by dsimp only; omega)
theorem out_y (y : S256x1024.Idx) : (outsAt0 m c t).1 y = up2 .f32 (fun r => step w o (x r) g) y := by
  unfold outsAt0 out0_A_4
  frame_out
  rw [e0, e1, e2, e3, pay5, ld0, ld1408, ld2816, ld4224]
  clear e0 e1 e2 e3
  refine (congrFun (congrArg₂ (fun p q => k0_pay3 p q _) (?_ : _ = up2 .f32 x) (?_ : _ = up2 .bf16 (fun r => act w (x r) g))) y).trans (congrFun (pay3 _ _ _) y)
  · funext i
    pointwise [k0_pay4]
  · rw [View.readCov_eq_canon']
    funext j
    refine at_all (g := up2 .bf16 (fun r => act w (x r) g)) _ ?_ ?_
    · intro y
      canon_tiles x h
      all_goals (pointwise [k0_pay13, k0_pay9, k0_pay2, k0_pay17, k0_pay10, k0_pay11, k0_pay12, k0_pay18, k0_pay1, k0_pay19, pay6, pay7, pay8, pay14, pay15, pay16, up2_apply, up3_apply, h0, h1])
      all_goals simp only [← EReal.coe_mul]
      all_goals exact act_at w _ g (by omega) (by dsimp only; omega) (by dsimp only; omega)
    · pointwise [up2_apply]
end point

variable (x : Fin 2 → Fin 2048 → Fin 1024 → ℝ) (g : Fin 1024 → ℝ) (w : Fin 1024 → Fin 5632 → ℝ) (o : Fin 2816 → Fin 1024 → ℝ)

/-- Row `r` of point `t`'s block, among all tokens. -/
def row (t : Fin cfg0.N) (r : Fin 256) : Fin 4096 := ⟨t.val * 256 + r.val, by have := lt16 t; omega⟩

theorem in0 (t : Fin cfg0.N) (hx : m ((c : Thread nD τ).loc main_arg0) = up3 .f32 x) : iblk m c 0 t = up2 .f32 (fun r => flat 4096 rfl x (row t r)) := by
  have h : V m c main_v0 = up2 .f32 (flat 4096 rfl x) := by
    funext i
    entry_read
    rw [hx]
    pointwise [up3_apply, up2_apply]
    rfl
  funext y
  blk_simp [iblk]
  rw [h, up2_apply]
  refine congrArg _ (congrArg₂ (flat 4096 rfl x) (Fin.ext ?_) (Fin.ext ?_)) <;> blk_simp [idx t] <;> first | omega | rfl
theorem in1 (t : Fin cfg0.N) (hg : m ((c : Thread nD τ).loc main_arg1) = up1 .f32 g) : iblk m c 1 t = up2 .f32 (fun _ => g) := by
  have h : V m c main_v1 = up2 .f32 (fun _ => g) := by
    funext i
    entry_read
    rw [hg]
    pointwise [up1_apply, up2_apply]
  funext y
  blk_simp [iblk]
  rw [h, up2_apply]
  refine congrArg _ (congrArg g (Fin.ext ?_)) <;> blk_simp [idx t] <;> try omega
theorem in2 (t : Fin cfg0.N) (hw : m ((c : Thread nD τ).loc main_arg2) = up2 .f32 w) : iblk m c 2 t = up2 .bf16 (fun j k => w k j) := by
  have h : V m c main_v3 = up2 .bf16 (fun j k => w k j) := by
    funext i
    entry_read
    rw [hw]
    pointwise [up2_apply]
  funext y
  blk_simp [iblk]
  rw [h, up2_apply]
  refine congrArg _ (congrArg₂ w (Fin.ext ?_) (Fin.ext ?_)) <;> blk_simp [idx t] <;> try omega
theorem in3 (t : Fin cfg0.N) (ho : m ((c : Thread nD τ).loc main_arg3) = up2 .f32 o) : iblk m c 3 t = up2 .bf16 o := by
  have h : V m c main_v4 = up2 .bf16 o := by
    funext i
    entry_read
    rw [ho]
    pointwise [up2_apply]
  funext y
  blk_simp [iblk]
  rw [h, up2_apply]
  refine congrArg _ (congrArg₂ o (Fin.ext ?_) (Fin.ext ?_)) <;> blk_simp [idx t] <;> try omega

section outs
variable (hx : m ((c : Thread nD τ).loc main_arg0) = up3 .f32 x) (hg : m ((c : Thread nD τ).loc main_arg1) = up1 .f32 g)
  (hw : m ((c : Thread nD τ).loc main_arg2) = up2 .f32 w) (ho : m ((c : Thread nD τ).loc main_arg3) = up2 .f32 o)
include hx hg hw ho
theorem out4 : (dats m 0 c).arrAt 4 cfg0.N = up2 .f32 (fun n => step w o (flat 4096 rfl x n) g) := by
  refine (dats m 0 c).arrAt_eq_of_covers 4 _ (by decide +kernel) fun t _ y => ?_
  blk_simp
  have key := out_y m c t _ g w o (in0 m c x t hx) (in1 m c g t hg) (in2 m c w t hw) (in3 m c o t ho) y
  refine Eq.trans ?_ (key.trans ?_)
  · rw [after0_4]
  · rw [up2_apply, up2_apply]
    have e0 : ((cfg0.win 4).blk t).view.emb y 0 = row t (y 0) := by refine Fin.ext ?_; blk_simp [idx t] <;> first | rfl | omega
    have e1 : ((cfg0.win 4).blk t).view.emb y 1 = y 1 := by refine Fin.ext ?_; blk_simp [idx t] <;> first | rfl | omega
    rw [e0, e1]
theorem out5 : (dats m 0 c).arrAt 5 cfg0.N = up2 .bf16 (fun n => hid (flat 4096 rfl x n) g) := by
  refine (dats m 0 c).arrAt_eq_of_covers 5 _ (by decide +kernel) fun t _ y => ?_
  blk_simp
  have key := out_h m c t _ g w o (in0 m c x t hx) (in1 m c g t hg) (in2 m c w t hw) (in3 m c o t ho) y
  refine Eq.trans ?_ (key.trans ?_)
  · rw [after0_5]
  · rw [up2_apply, up2_apply]
    have e0 : ((cfg0.win 5).blk t).view.emb y 0 = row t (y 0) := by refine Fin.ext ?_; blk_simp [idx t] <;> first | rfl | omega
    have e1 : ((cfg0.win 5).blk t).view.emb y 1 = y 1 := by refine Fin.ext ?_; blk_simp [idx t] <;> first | rfl | omega
    rw [e0, e1]
theorem out6 : (dats m 0 c).arrAt 6 cfg0.N = up3 .bf16 (fun p n => slot w (flat 4096 rfl x n) g p) := by
  refine (dats m 0 c).arrAt_eq_of_covers 6 _ (by decide +kernel) fun t _ y => ?_
  blk_simp
  have key := out_z m c t _ g w o (in0 m c x t hx) (in1 m c g t hg) (in2 m c w t hw) (in3 m c o t ho) y
  refine Eq.trans ?_ (key.trans ?_)
  · rw [after0_6]
  · rw [up3_apply, up3_apply]
    have e0 : ((cfg0.win 6).blk t).view.emb y 0 = y 0 := by refine Fin.ext ?_; blk_simp [idx t] <;> first | rfl | omega
    have e1 : ((cfg0.win 6).blk t).view.emb y 1 = row t (y 1) := by refine Fin.ext ?_; blk_simp [idx t] <;> first | rfl | omega
    have e2 : ((cfg0.win 6).blk t).view.emb y 2 = y 2 := by refine Fin.ext ?_; blk_simp [idx t] <;> first | rfl | omega
    rw [e0, e1, e2]
theorem out7 : (dats m 0 c).arrAt 7 cfg0.N = up2 .bf16 (fun n => act w (flat 4096 rfl x n) g) := by
  refine (dats m 0 c).arrAt_eq_of_covers 7 _ (by decide +kernel) fun t _ y => ?_
  blk_simp
  have key := out_act m c t _ g w o (in0 m c x t hx) (in1 m c g t hg) (in2 m c w t hw) (in3 m c o t ho) y
  refine Eq.trans ?_ (key.trans ?_)
  · rw [after0_7]
  · rw [up2_apply, up2_apply]
    have e0 : ((cfg0.win 7).blk t).view.emb y 0 = row t (y 0) := by refine Fin.ext ?_; blk_simp [idx t] <;> first | rfl | omega
    have e1 : ((cfg0.win 7).blk t).view.emb y 1 = y 1 := by refine Fin.ext ?_; blk_simp [idx t] <;> first | rfl | omega
    rw [e0, e1]
end outs

/-- The run from real arguments. -/
theorem run (ρ : Dev nD → PrngReg) (x : Dev nD → Fin 2 → Fin 2048 → Fin 1024 → ℝ) (g : Dev nD → Fin 1024 → ℝ) (w : Dev nD → Fin 1024 → Fin 5632 → ℝ)
    (o : Dev nD → Fin 2816 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (hw : ∀ c : Dev nD, m ((c.tc : Thread nD τ).loc main_arg2) = up2 .f32 (w c)) (ho : ∀ c : Dev nD, m ((c.tc : Thread nD τ).loc main_arg3) = up2 .f32 (o c)) :
    θ_run defs (onTc (τ := τ) (main (F := Ideal))) ⟨m, fun _ => 0, ρ⟩ fun r => ∀ c : Dev nD,
      r.2.mem ((c.tc : Thread nD τ).loc main_v5_0) = up2 .f32 (fun n => step (w c) (o c) (flat 4096 rfl (x c) n) (g c))
      ∧ r.2.mem ((c.tc : Thread nD τ).loc main_v5_1) = up2 .bf16 (fun n => hid (flat 4096 rfl (x c) n) (g c))
      ∧ r.2.mem ((c.tc : Thread nD τ).loc main_v5_2) = up3 .bf16 (fun p n => slot (w c) (flat 4096 rfl (x c) n) (g c) p)
      ∧ r.2.mem ((c.tc : Thread nD τ).loc main_v5_3) = up2 .bf16 (fun n => act (w c) (flat 4096 rfl (x c) n) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Kernel11Ideal.Value.run_blocks m ρ)
  obtain ⟨h0, h1, h2, h3, h4⟩ := h c
  exact ⟨h0.trans (out4 m c _ _ _ _ (hx c) (hg c) (hw c) (ho c)), h1.trans (out5 m c _ _ _ _ (hx c) (hg c) (hw c) (ho c)),
    h2.trans (out6 m c _ _ _ _ (hx c) (hg c) (hw c) (ho c)), h3.trans (out7 m c _ _ _ _ (hx c) (hg c) (hw c) (ho c)), h4⟩
end Cert.FfnFK
-- ==== Proof.FfnFR.lean ====
module
public import proofs.«01_k».proof.Proof.Gen.Reference11Ideal.Read
public import proofs.«01_k».proof.Proof.Lift
public import proofs.«01_k».proof.Proof.FfnFMath
@[expose] public section
set_option maxRecDepth 16384
noncomputable section
namespace Cert.FfnFR
open Idealize.ShloMosaic Idealize.ShloMosaic.TcCoe Idealize.SL.Sem
open Cert.Reference11Ideal Cert.Reference11Ideal.Gen Cert.Reference11Ideal.Read Cert.Lift Cert.Rms Cert.NormMath Cert.FfnMath Cert.FfnFMath

variable (x : Fin 2 → Fin 2048 → Fin 1024 → ℝ) (g : Fin 1024 → ℝ) (w : Fin 1024 → Fin 5632 → ℝ) (o : Fin 2816 → Fin 1024 → ℝ)

theorem v7 : val_main_v7 (F := Ideal) (up3 .f32 x) = up3 .f32 (fun b s _ => rr (x b s)) := by
  have v6 : val_main_v6 (F := Ideal) (up3 .f32 x) = up3 .f32 (fun b s _ => ms (x b s)) := by
    funext i
    pointwise [val_main_v6, val_main_v5, val_main_cst_1, val_main_v4, val_main_v3, val_main_cst_0, val_main_v2, val_main_v1, val_main_cst, val_main_v0, up3_apply]
    simp only [← EReal.coe_mul, coe_sum, c1024, c_eps, zero_add]
    rw [div_coe' _ _ (by norm_num), ← EReal.coe_add]
    rfl
  funext i
  pointwise [val_main_v7, v6, up3_apply]
  exact rsqrt_pos _ (ms_pos _)
theorem v12 : val_main_v12 (F := Ideal) (up3 .f32 x) (up1 .f32 g) = up3 .f32 (fun b s => hid (x b s) g) := by
  funext i
  pointwise [val_main_v12, val_main_v11, val_main_v10, val_main_v9, val_main_v8, v7, up3_apply, up1_apply]
  rfl
theorem v13 : val_main_v13 (F := Ideal) (up3 .f32 x) (up1 .f32 g) (up2 .f32 w) = up3 .f32 (fun b s => pre w (x b s) g) := by
  funext i
  pointwise [val_main_v13, v12, up3_apply, up2_apply]
  simp only [← EReal.coe_mul, coe_sum, zero_add]
  rfl
theorem v14 : val_main_v14 (F := Ideal) (up3 .f32 x) (up1 .f32 g) (up2 .f32 w) = up3 .f32 (fun b s j => pre w (x b s) g (lo j)) := by
  funext i
  pointwise [val_main_v14, v13, up3_apply]
  rfl
theorem v15 : val_main_v15 (F := Ideal) (up3 .f32 x) (up1 .f32 g) (up2 .f32 w) = up3 .f32 (fun b s j => pre w (x b s) g (hi j)) := by
  funext i
  pointwise [val_main_v15, v13, up3_apply]
  rfl
theorem v16_2 : val_main_v16_2 (F := Ideal) (up3 .f32 x) (up1 .f32 g) (up2 .f32 w) = up3 .f32 (fun b s j => sg (pre w (x b s) g (lo j))) := by
  funext i
  pointwise [val_main_v16_2, val_main_call0_v4, val_main_call0_cst_0, val_main_call0_v3, val_main_call0_v2, val_main_call0_cst, val_main_call0_v1, val_main_call0_v0, v14, up3_apply]
  simp only [← EReal.coe_neg, Ideal.exp_coe]
  rw [← EReal.coe_one, ← EReal.coe_add, div_coe' _ _ (by have := Real.exp_pos (-pre w (x (i 0) (i 1)) g (lo (i 2))); positivity)]
  refine congrArg _ ?_
  rw [one_mul]
  rfl
theorem v16_0 : val_main_v16_0 (F := Ideal) (up3 .f32 x) (up1 .f32 g) (up2 .f32 w)
    = up3 .f32 (fun b s j => pre w (x b s) g (lo j) * sg (pre w (x b s) g (lo j))) := by
  funext i
  pointwise [val_main_v16_0, v14, v16_2, up3_apply]
  rfl
theorem v17 : val_main_v17 (F := Ideal) (up3 .f32 x) (up1 .f32 g) (up2 .f32 w) = up3 .f32 (fun b s => act w (x b s) g) := by
  funext i
  pointwise [val_main_v17, v16_0, v15, up3_apply]
  rfl
theorem v19 : val_main_v19 (F := Ideal) (up3 .f32 x) (up1 .f32 g) (up2 .f32 w) = up3 .f32 (fun b s => slot w (x b s) g 1) := by
  funext i
  pointwise [val_main_v19, val_main_v18, val_main_cst_2, v16_0, up3_apply]
  rfl
theorem v21 : val_main_v21 (F := Ideal) (up3 .f32 x) (up1 .f32 g) (up2 .f32 w) = up3 .f32 (fun b s => slot w (x b s) g 0) := by
  funext i
  pointwise [val_main_v21, val_main_call1_v2, val_main_call1_v1, val_main_call1_v0, val_main_v20, val_main_v18, val_main_cst_2, val_main_v16_1, val_main_call0_v7, val_main_call0_v6, val_main_call0_cst_1, v14, v15, v16_2, up3_apply]
  simp only [← EReal.coe_one, ← EReal.coe_mul, ← EReal.coe_sub, ← EReal.coe_add]
  refine congrArg _ ?_
  show _ = slot w (x (i 0) (i 1)) g 0 (i 2)
  unfold slot
  rw [if_pos (Fin.val_zero 2)]
  ring
theorem v25 : val_main_v25 (F := Ideal) (up3 .f32 x) (up1 .f32 g) (up2 .f32 w) = up3 .f32 (fun p n => slot w (flat 4096 rfl x n) g p) := by
  funext i
  by_cases h : (i 0).val < 1
  · pointwise [val_main_v25, val_main_v24, val_main_v23, val_main_v22, v19, v21, up3_apply, h]
    exact congrArg (fun a => ((slot w (flat 4096 rfl x (i 1)) g a (i 2) : ℝ) : EReal)) (Fin.ext (by show 0 = (i 0).val; omega))
  · pointwise [val_main_v25, val_main_v24, val_main_v23, val_main_v22, v19, v21, up3_apply, h]
    exact congrArg (fun a => ((slot w (flat 4096 rfl x (i 1)) g a (i 2) : ℝ) : EReal)) (Fin.ext (by have : (i 0).val < 2 := (i 0).isLt; show 1 = (i 0).val; omega))
theorem v33 : val_main_v33 (F := Ideal) (up3 .f32 x) (up1 .f32 g) (up2 .f32 w) = up3 .bf16 (fun p n => slot w (flat 4096 rfl x n) g p) := by
  funext i
  pointwise [val_main_v33, v25, up3_apply]
theorem v32 : val_main_v32 (F := Ideal) (up3 .f32 x) (up1 .f32 g) = up2 .bf16 (fun n => hid (flat 4096 rfl x n) g) := by
  funext i
  pointwise [val_main_v32, val_main_v31, v12, up3_apply, up2_apply]
  rfl
theorem v35 : val_main_v35 (F := Ideal) (up3 .f32 x) (up1 .f32 g) (up2 .f32 w) = up2 .bf16 (fun n => act w (flat 4096 rfl x n) g) := by
  funext i
  pointwise [val_main_v35, val_main_v34, v17, up3_apply, up2_apply]
  rfl
theorem v30 : val_main_v30 (F := Ideal) (up3 .f32 x) (up1 .f32 g) (up2 .f32 w) (up2 .f32 o) = up2 .f32 (fun n => step w o (flat 4096 rfl x n) g) := by
  funext i
  pointwise [val_main_v30, val_main_v29, val_main_v28, val_main_v27, val_main_cst_3, val_main_v26, v17, up3_apply, up2_apply]
  simp only [← EReal.coe_mul, coe_sum, zero_add, c_half, ← EReal.coe_add]
  rfl

set_option maxHeartbeats 4000000 in
/-- The run from real arguments. -/
theorem run (m : (ℓ : Loc nD τ sig) → Buf (Elt Ideal) ℓ) (ρ : Dev nD → PrngReg)
    (x : Dev nD → Fin 2 → Fin 2048 → Fin 1024 → ℝ) (g : Dev nD → Fin 1024 → ℝ) (w : Dev nD → Fin 1024 → Fin 5632 → ℝ)
    (o : Dev nD → Fin 2816 → Fin 1024 → ℝ)
    (hx : ∀ c : Dev nD, m ((c.tc : Thread nD τ).loc main_arg0) = up3 .f32 (x c)) (hg : ∀ c : Dev nD, m ((c.tc : Thread nD τ).loc main_arg1) = up1 .f32 (g c))
    (hw : ∀ c : Dev nD, m ((c.tc : Thread nD τ).loc main_arg2) = up2 .f32 (w c)) (ho : ∀ c : Dev nD, m ((c.tc : Thread nD τ).loc main_arg3) = up2 .f32 (o c)) :
    θ_run defs (onTc (τ := τ) (main (F := Ideal))) ⟨m, fun _ => 0, ρ⟩ fun r => ∀ c : Dev nD,
      r.2.mem ((c.tc : Thread nD τ).loc main_v30) = up2 .f32 (fun n => step (w c) (o c) (flat 4096 rfl (x c) n) (g c))
      ∧ r.2.mem ((c.tc : Thread nD τ).loc main_v32) = up2 .bf16 (fun n => hid (flat 4096 rfl (x c) n) (g c))
      ∧ r.2.mem ((c.tc : Thread nD τ).loc main_v33) = up3 .bf16 (fun p n => slot (w c) (flat 4096 rfl (x c) n) (g c) p)
      ∧ r.2.mem ((c.tc : Thread nD τ).loc main_v35) = up2 .bf16 (fun n => act (w c) (flat 4096 rfl (x c) n) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference11Ideal.Value.run m ρ)
  obtain ⟨h0, h1, h2, h3, h4⟩ := h c
  exact ⟨h0.trans ((val_main_v30_eq _ _ _ _).trans (by rw [hw, hx, hg, ho]; exact v30 _ _ _ _)),
    h1.trans ((val_main_v32_eq _ _).trans (by rw [hx, hg]; exact v32 _ _)),
    h2.trans ((val_main_v33_eq m c).trans (by rw [hw, hx, hg]; exact v33 _ _ _)),
    h3.trans ((val_main_v35_eq _ _ _).trans (by rw [hw, hx, hg]; exact v35 _ _ _)), h4⟩
end Cert.FfnFR
-- ==== Proof.FfnF.lean ====
module
public import proofs.«01_k».proof.Defs
public import proofs.«01_k».proof.Proof.Gen.Kernel11
public import proofs.«01_k».proof.Proof.Gen.Kernel11.Frame
public import proofs.«01_k».proof.Proof.Gen.Pre_finite11
public import proofs.«01_k».proof.Proof.FfnFK
public import proofs.«01_k».proof.Proof.FfnFR
public import Idealize.ShloMosaic.Adequacy
public import Idealize.ShloMosaic.Init
public import Idealize.ShloMosaic.Lib.Quiescent
@[expose] public section
set_option maxRecDepth 16384
noncomputable section
namespace Cert.FfnF
open Idealize.ShloMosaic Idealize.ShloMosaic.TcCoe Idealize.SL.Sem Cert.Lift

/-- The precondition says that the arguments it speaks of are arrays of real numbers. -/
theorem real (x : FVec Ideal Cert.Pre_finite11.S2x2048x1024 .f32)
    (g : FVec Ideal Cert.Pre_finite11.S1024 .f32)
    (w : FVec Ideal Cert.Pre_finite11.S1024x5632 .f32)
    (o : FVec Ideal Cert.Pre_finite11.S2816x1024 .f32)
    (h : @Cert.Pre_finite11.fn Cert.Pre_finite11.Gen.facts Ideal _ x g w o = fun _ => 1#1) :
    ∃ (x' : Fin 2 → Fin 2048 → Fin 1024 → ℝ) (g' : Fin 1024 → ℝ) (w' : Fin 1024 → Fin 5632 → ℝ) (o' : Fin 2816 → Fin 1024 → ℝ),
      x = up3 .f32 x' ∧ g = up1 .f32 g' ∧ w = up2 .f32 w' ∧ o = up2 .f32 o' := by
  have h0 := congrFun h (fun a => a.elim0)
  dsimp only [Cert.Pre_finite11.fn, Cert.Pre_finite11.fn_part1] at h0
  obtain ⟨a1, b1⟩ := and_one h0
  obtain ⟨a2, b2⟩ := and_one a1
  obtain ⟨a3, b3⟩ := and_one a2
  obtain ⟨x', ex⟩ := exists_up3 .f32 x (finite_of_reduce x _ inf_apply _ _ _ _ a3)
  obtain ⟨g', eg⟩ := exists_up1 .f32 g (finite_of_reduce g _ inf_apply _ _ _ _ b3)
  obtain ⟨w', ew⟩ := exists_up2 .f32 w (finite_of_reduce w _ inf_apply _ _ _ _ b2)
  obtain ⟨o', eo⟩ := exists_up2 .f32 o (finite_of_reduce o _ inf_apply _ _ _ _ b1)
  exact ⟨x', g', w', o', ex, eg, ew, eo⟩

theorem frame_kernel : Cert.quiescent_Kernel11 (hKernel11 := Cert.Kernel11.Gen.facts) := fun m ρ _ => Cert.Kernel11.Gen.frame m ρ
theorem frame_ideal : Cert.quiescent_Kernel11Ideal (hKernel11Ideal := Cert.Kernel11Ideal.Gen.facts) :=
  fun m ρ _ => Cert.Kernel11Ideal.Gen.frame m ρ
theorem frame_ideal_pre : Cert.quiescent_Kernel11Ideal_pre_finite11 (hKernel11Ideal := Cert.Kernel11Ideal.Gen.facts) (hPre_finite11 := Cert.Pre_finite11.Gen.facts) :=
  fun m ρ _ => Cert.Kernel11Ideal.Gen.frame m ρ
theorem frame_reference : Cert.quiescent_Reference11Ideal (hReference11Ideal := Cert.Reference11Ideal.Gen.facts) :=
  fun m ρ _ => (θ_run Cert.Reference11Ideal.defs _ _).mono
    (fun r h => ⟨fun c => (h c).2.2.2.2, sem_eq_zero_of_no_sems (by decide) r.2⟩) (Cert.Reference11Ideal.Value.run m ρ)
theorem frame_reference_pre : Cert.quiescent_Reference11Ideal_pre_finite11 (hReference11Ideal := Cert.Reference11Ideal.Gen.facts) (hPre_finite11 := Cert.Pre_finite11.Gen.facts) :=
  fun m ρ _ => frame_reference m ρ trivial

/-- The feed-forward layer's half step and what it saves are its reference's. -/
theorem algebraic : Cert.algebraic_Kernel11Ideal_Reference11Ideal_pre_finite11 (hKernel11Ideal := Cert.Kernel11Ideal.Gen.facts)
    (hReference11Ideal := Cert.Reference11Ideal.Gen.facts) (hPre_finite11 := Cert.Pre_finite11.Gen.facts) := by
  intro m0 g0 m1 g1 hpre hagree
  choose x g w o hx hg hw ho using fun c => real _ _ _ _ (hpre c)
  exact ⟨_, _, _, _, Cert.FfnFK.run m0 g0 x g w o hx hg hw ho,
    Cert.FfnFR.run m1 g1 x g w o
      (fun c => (hagree c).1.trans (hx c))
      (fun c => (hagree c).2.1.trans (hg c))
      (fun c => (hagree c).2.2.1.trans (hw c))
      (fun c => (hagree c).2.2.2.trans (ho c))⟩
end Cert.FfnF
-- ==== Proof.RmsFK.lean ====
module
public import proofs.«01_k».proof.Proof.Gen.Kernel12Ideal.Value
public import proofs.«01_k».proof.Proof.Lift
public import proofs.«01_k».proof.Proof.FfnMath
@[expose] public section
set_option maxRecDepth 16384
noncomputable section
namespace Cert.RmsFK
open Idealize.ShloMosaic Idealize.ShloMosaic.TcCoe Idealize.SL.Sem
open Idealize.ShloMosaic.Pipeline (Dat)
open Cert.Kernel12Ideal Cert.Kernel12Ideal.Gen Cert.Lift Cert.Rms Cert.NormMath Cert.FfnMath

theorem pay1 (x : Fin 512 → Fin 1024 → ℝ) (g : Fin 1024 → ℝ) : k0_pay1 (F := Ideal) (up2 .f32 x) (up2 .f32 (fun (_ : Fin 1) => g)) = up2 .bf16 (fun r => hid (x r) g) := by
  funext i
  pointwise [k0_pay1, up2_apply]
  simp only [← EReal.coe_mul, coe_sum, c1024, c_eps]
  rw [div_coe' _ _ (by norm_num), ← EReal.coe_add]
  refine (congrArg (fun q : EReal => ((x _ _ : ℝ) : EReal) * q * ((g _ : ℝ) : EReal)) (rsqrt_pos _ (ms_pos _))).trans ?_
  rfl

variable (m : (ℓ : Loc nD τ sig) → Buf (Elt Ideal) ℓ) (c : Dev nD) (x : Fin 2 → Fin 256 → Fin 1024 → ℝ) (g : Fin 1024 → ℝ)

theorem idx : ∀ t : Fin cfg0.N, win0_0.index t = ![0, 0] ∧ win0_1.index t = ![0, 0] ∧ win0_2.index t = ![0, 0] :=
  (by decide +kernel : ∀ t : Fin grid0.N, _)
theorem in0 (t : Fin cfg0.N) (hx : m ((c : Thread nD τ).loc main_arg0) = up3 .f32 x) : iblk m c 0 t = up2 .f32 (flat 512 rfl x) := by
  have h : V m c main_v0 = up2 .f32 (flat 512 rfl x) := by
    funext i
    entry_read
    rw [hx]
    pointwise [up3_apply, up2_apply]
    rfl
  funext y
  blk_simp [iblk]
  rw [h, up2_apply]
  refine congrArg _ (congrArg₂ (flat 512 rfl x) (Fin.ext ?_) (Fin.ext ?_)) <;> blk_simp [idx t] <;> first | omega | rfl
theorem in1 (t : Fin cfg0.N) (hg : m ((c : Thread nD τ).loc main_arg1) = up1 .f32 g) : iblk m c 1 t = up2 .f32 (fun _ => g) := by
  have h : V m c main_v1 = up2 .f32 (fun _ => g) := by
    funext i
    entry_read
    rw [hg]
    pointwise [up1_apply, up2_apply]
  funext y
  blk_simp [iblk]
  rw [h, up2_apply]
  refine congrArg _ (congrArg g (Fin.ext ?_)) <;> blk_simp [idx t] <;> try omega
theorem out2 (hx : m ((c : Thread nD τ).loc main_arg0) = up3 .f32 x) (hg : m ((c : Thread nD τ).loc main_arg1) = up1 .f32 g) :
    (dats m 0 c).arrAt 2 cfg0.N = up2 .bf16 (fun n => hid (flat 512 rfl x n) g) := by
  refine (dats m 0 c).arrAt_eq_of_covers 2 _ (by decide +kernel) fun t _ y => ?_
  blk_simp
  have key : out0_2 (iblk m c 0 t) (iblk m c 1 t) y = up2 .bf16 (fun n => hid (flat 512 rfl x n) g) y := by
    rw [in0 m c x t hx, in1 m c g t hg]
    unfold out0_2
    frame_out
    rw [pay1]
  refine Eq.trans ?_ (key.trans ?_)
  · rw [after0_2]
  · rw [up2_apply, up2_apply]
    have e0 : ((cfg0.win 2).blk t).view.emb y 0 = y 0 := by refine Fin.ext ?_; blk_simp [idx t] <;> first | rfl | omega
    have e1 : ((cfg0.win 2).blk t).view.emb y 1 = y 1 := by refine Fin.ext ?_; blk_simp [idx t] <;> first | rfl | omega
    rw [e0, e1]

/-- The run from real arguments. -/
theorem run (ρ : Dev nD → PrngReg) (x : Dev nD → Fin 2 → Fin 256 → Fin 1024 → ℝ) (g : Dev nD → Fin 1024 → ℝ)
    (hx : ∀ c : Dev nD, m ((c.tc : Thread nD τ).loc main_arg0) = up3 .f32 (x c)) (hg : ∀ c : Dev nD, m ((c.tc : Thread nD τ).loc main_arg1) = up1 .f32 (g c)) :
    θ_run defs (onTc (τ := τ) (main (F := Ideal))) ⟨m, fun _ => 0, ρ⟩ fun r => ∀ c : Dev nD,
      r.2.mem ((c.tc : Thread nD τ).loc main_v2) = up2 .bf16 (fun n => hid (flat 512 rfl (x c) n) (g c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Kernel12Ideal.Value.run_blocks m ρ)
  obtain ⟨h0, h1⟩ := h c
  exact ⟨h0.trans (out2 m c _ _ (hx c) (hg c)), h1⟩
end Cert.RmsFK
-- ==== Proof.RmsFR.lean ====
module
public import proofs.«01_k».proof.Proof.Gen.Reference12Ideal.Read
public import proofs.«01_k».proof.Proof.Lift
public import proofs.«01_k».proof.Proof.FfnMath
@[expose] public section
set_option maxRecDepth 16384
noncomputable section
namespace Cert.RmsFR
open Idealize.ShloMosaic Idealize.ShloMosaic.TcCoe Idealize.SL.Sem
open Cert.Reference12Ideal Cert.Reference12Ideal.Gen Cert.Reference12Ideal.Read Cert.Lift Cert.Rms Cert.NormMath Cert.FfnMath

variable (x : Fin 2 → Fin 256 → Fin 1024 → ℝ) (g : Fin 1024 → ℝ)

theorem v14 : val_main_v14 (F := Ideal) (up3 .f32 x) (up1 .f32 g) = up2 .bf16 (fun n => hid (flat 512 rfl x n) g) := by
  have v6 : val_main_v6 (F := Ideal) (up3 .f32 x) = up3 .f32 (fun b s _ => ms (x b s)) := by
    funext i
    pointwise [val_main_v6, val_main_v5, val_main_cst_1, val_main_v4, val_main_v3, val_main_cst_0, val_main_v2, val_main_v1, val_main_cst, val_main_v0, up3_apply]
    simp only [← EReal.coe_mul, coe_sum, c1024, c_eps, zero_add]
    rw [div_coe' _ _ (by norm_num), ← EReal.coe_add]
    rfl
  have v7 : val_main_v7 (F := Ideal) (up3 .f32 x) = up3 .f32 (fun b s _ => rr (x b s)) := by
    funext i
    pointwise [val_main_v7, v6, up3_apply]
    exact rsqrt_pos _ (ms_pos _)
  funext i
  pointwise [val_main_v14, val_main_v13, val_main_v12, val_main_v11, val_main_v10, val_main_v9, val_main_v8, v7, up3_apply, up1_apply, up2_apply]
  rfl

/-- The run from real arguments. -/
theorem run (m : (ℓ : Loc nD τ sig) → Buf (Elt Ideal) ℓ) (ρ : Dev nD → PrngReg)
    (x : Dev nD → Fin 2 → Fin 256 → Fin 1024 → ℝ) (g : Dev nD → Fin 1024 → ℝ)
    (hx : ∀ c : Dev nD, m ((c.tc : Thread nD τ).loc main_arg0) = up3 .f32 (x c)) (hg : ∀ c : Dev nD, m ((c.tc : Thread nD τ).loc main_arg1) = up1 .f32 (g c)) :
    θ_run defs (onTc (τ := τ) (main (F := Ideal))) ⟨m, fun _ => 0, ρ⟩ fun r => ∀ c : Dev nD,
      r.2.mem ((c.tc : Thread nD τ).loc main_v14) = up2 .bf16 (fun n => hid (flat 512 rfl (x c) n) (g c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference12Ideal.Value.run m ρ)
  obtain ⟨h0, h1⟩ := h c
  exact ⟨h0.trans ((val_main_v14_eq _ _).trans (by rw [hx, hg]; exact v14 _ _)), h1⟩
end Cert.RmsFR
-- ==== Proof.RmsF.lean ====
module
public import proofs.«01_k».proof.Defs
public import proofs.«01_k».proof.Proof.Gen.Kernel12
public import proofs.«01_k».proof.Proof.Gen.Kernel12.Frame
public import proofs.«01_k».proof.Proof.Gen.Pre_finite12
public import proofs.«01_k».proof.Proof.RmsFK
public import proofs.«01_k».proof.Proof.RmsFR
public import Idealize.ShloMosaic.Adequacy
public import Idealize.ShloMosaic.Init
public import Idealize.ShloMosaic.Lib.Quiescent
@[expose] public section
set_option maxRecDepth 16384
noncomputable section
namespace Cert.RmsF
open Idealize.ShloMosaic Idealize.ShloMosaic.TcCoe Idealize.SL.Sem Cert.Lift

/-- The precondition says that the arguments it speaks of are arrays of real numbers. -/
theorem real (x : FVec Ideal Cert.Pre_finite12.S2x256x1024 .f32)
    (g : FVec Ideal Cert.Pre_finite12.S1024 .f32)
    (h : @Cert.Pre_finite12.fn Cert.Pre_finite12.Gen.facts Ideal _ x g = fun _ => 1#1) :
    ∃ (x' : Fin 2 → Fin 256 → Fin 1024 → ℝ) (g' : Fin 1024 → ℝ),
      x = up3 .f32 x' ∧ g = up1 .f32 g' := by
  have h0 := congrFun h (fun a => a.elim0)
  dsimp only [Cert.Pre_finite12.fn] at h0
  obtain ⟨a1, b1⟩ := and_one h0
  obtain ⟨x', ex⟩ := exists_up3 .f32 x (finite_of_reduce x _ inf_apply _ _ _ _ a1)
  obtain ⟨g', eg⟩ := exists_up1 .f32 g (finite_of_reduce g _ inf_apply _ _ _ _ b1)
  exact ⟨x', g', ex, eg⟩

theorem frame_kernel : Cert.quiescent_Kernel12 (hKernel12 := Cert.Kernel12.Gen.facts) := fun m ρ _ => Cert.Kernel12.Gen.frame m ρ
theorem frame_ideal : Cert.quiescent_Kernel12Ideal (hKernel12Ideal := Cert.Kernel12Ideal.Gen.facts) :=
  fun m ρ _ => Cert.Kernel12Ideal.Gen.frame m ρ
theorem frame_ideal_pre : Cert.quiescent_Kernel12Ideal_pre_finite12 (hKernel12Ideal := Cert.Kernel12Ideal.Gen.facts) (hPre_finite12 := Cert.Pre_finite12.Gen.facts) :=
  fun m ρ _ => Cert.Kernel12Ideal.Gen.frame m ρ
theorem frame_reference : Cert.quiescent_Reference12Ideal (hReference12Ideal := Cert.Reference12Ideal.Gen.facts) :=
  fun m ρ _ => (θ_run Cert.Reference12Ideal.defs _ _).mono
    (fun r h => ⟨fun c => (h c).2, sem_eq_zero_of_no_sems (by decide) r.2⟩) (Cert.Reference12Ideal.Value.run m ρ)
theorem frame_reference_pre : Cert.quiescent_Reference12Ideal_pre_finite12 (hReference12Ideal := Cert.Reference12Ideal.Gen.facts) (hPre_finite12 := Cert.Pre_finite12.Gen.facts) :=
  fun m ρ _ => frame_reference m ρ trivial

/-- The scaled norm of the memory is its reference's. -/
theorem algebraic : Cert.algebraic_Kernel12Ideal_Reference12Ideal_pre_finite12 (hKernel12Ideal := Cert.Kernel12Ideal.Gen.facts)
    (hReference12Ideal := Cert.Reference12Ideal.Gen.facts) (hPre_finite12 := Cert.Pre_finite12.Gen.facts) := by
  intro m0 g0 m1 g1 hpre hagree
  choose x g hx hg using fun c => real _ _ (hpre c)
  exact ⟨_, Cert.RmsFK.run m0 g0 x g hx hg,
    Cert.RmsFR.run m1 g1 x g
      (fun c => (hagree c).1.trans (hx c))
      (fun c => (hagree c).2.trans (hg c))⟩
end Cert.RmsF
-- ==== Proof.HgrnMath.lean ====
module
public import proofs.«01_k».proof.Proof.FfnMath
public import proofs.«01_k».proof.Proof.AttnMath
@[expose] public section
set_option maxRecDepth 16384
noncomputable section
namespace Cert.HgrnMath
open Cert.FfnMath Cert.AttnMath Cert.Lift

/-- The forget gate's lower bound at a column: the first weight of the column's three logits. -/
def low (l : Fin 3 → Fin 1024 → ℝ) (j : Fin 1024) : ℝ := prob (fun r => l r j) 0
/-- The forget gate, for its lower bound `a`. -/
def gate (a x : ℝ) : ℝ := a + (1 - a) * sg x
theorem low_pos (l : Fin 3 → Fin 1024 → ℝ) (j : Fin 1024) : 0 < low l j :=
  mul_pos (Real.exp_pos _) (one_div_pos.2 (tot_pos _))
theorem low_le (l : Fin 3 → Fin 1024 → ℝ) (j : Fin 1024) : low l j ≤ 1 := by
  unfold low prob
  rw [mul_one_div, div_le_one (tot_pos _)]
  exact Finset.single_le_sum (f := ex fun r => l r j) (fun _ _ => (Real.exp_pos _).le) (Finset.mem_univ 0)
theorem gate_pos {a : ℝ} (h : 0 < a ∧ a ≤ 1) (x : ℝ) : 0 < gate a x :=
  add_pos_of_pos_of_nonneg h.1 (mul_nonneg (sub_nonneg.2 h.2) (by unfold sg; positivity))

/-- The sum of the first `t + 1` of 64 numbers. -/
def cum (f : Fin 64 → ℝ) (t : Fin 64) : ℝ := ∑ s : Fin 64, if s.val ≤ t.val then f s else 0
/-- Column `d` of the head that starts at column `o`. -/
def col (o : ℕ) (d : Fin 128) : Fin 1024 := ⟨(o + d.val) % 1024, Nat.mod_lt _ (by norm_num)⟩

variable (lo : Fin 1024 → ℝ)
section chunk
variable (zq zf zi : Fin 64 → Fin 1024 → ℝ)
/-- The running sum of the gates' logarithms in a chunk. -/
def cm (t : Fin 64) (j : Fin 1024) : ℝ := cum (fun s => Real.log (gate (lo j) (zf s j))) t
/-- The decayed queries, the keys with the decay taken back, the keys decayed to the chunk's end, the chunk's decay. -/
def Aq (t : Fin 64) (j : Fin 1024) : ℝ := zq t j * sg (zq t j) * Real.exp (cm lo zf t j)
def Ai (t : Fin 64) (j : Fin 1024) : ℝ := (1 - gate (lo j) (zf t j)) * Real.exp (-(cm lo zf t j))
def Ad (t : Fin 64) (j : Fin 1024) : ℝ := (1 - gate (lo j) (zf t j)) * Real.exp (cm lo zf 63 j - cm lo zf t j)
def Al (j : Fin 1024) : ℝ := Real.exp (cm lo zf 63 j)
/-- A head's outputs and next state, from its state `S`. -/
def outF (o : ℕ) (S : Fin 128 → Fin 128 → ℝ) (t : Fin 64) (w : Fin 128) : ℝ :=
  (∑ s : Fin 64, if s.val ≤ t.val then (∑ d, Aq lo zq zf t (col o d) * Ai lo zf s (col o d)) * zi s (col o w) else 0)
    + ∑ d, Aq lo zq zf t (col o d) * S d w
def nextF (o : ℕ) (S : Fin 128 → Fin 128 → ℝ) (d w : Fin 128) : ℝ :=
  S d w * Al lo zf (col o d) + ∑ s, zi s (col o w) * Ad lo zf s (col o d)
end chunk
/-- The state of the head that starts at column `o`, before chunk `n`. -/
def state (zf zi : ℕ → Fin 64 → Fin 1024 → ℝ) (o : ℕ) : ℕ → Fin 128 → Fin 128 → ℝ
  | 0 => fun _ _ => 0
  | n + 1 => nextF lo (zf n) (zi n) o (state zf zi o n)
/-- The head's outputs in chunk `n`. -/
def outs (zq zf zi : ℕ → Fin 64 → Fin 1024 → ℝ) (o n : ℕ) : Fin 64 → Fin 128 → ℝ := outF lo (zq n) (zf n) (zi n) o (state lo zf zi o n)
/-- A gated and normalised row of a head's outputs. -/
def ms128 (y : Fin 128 → ℝ) : ℝ := (∑ k, y k * y k) * (1 / 128) + eps
theorem ms128_pos (y : Fin 128 → ℝ) : 0 < ms128 y :=
  add_pos_of_nonneg_of_pos (mul_nonneg (Finset.sum_nonneg fun k _ => mul_self_nonneg _) (by norm_num)) eps_pos
def gated (g : Fin 128 → ℝ) (y : Fin 128 → ℝ) (x : ℝ) (w : Fin 128) : ℝ := y w * (√(ms128 y))⁻¹ * g w * (x * sg x)
theorem c128 : Idealize.ShloMosaic.Ideal.ofBits .f32 0x43000000#32 = ((128 : ℝ) : EReal) := by
  simp [Idealize.ShloMosaic.Ideal.ofBits, Idealize.ShloMosaic.Ideal.ieee, -EReal.coe_mul]; norm_num
end Cert.HgrnMath
-- ==== Proof.HgrnP.lean ====
module
public import proofs.«01_k».proof.Proof.Gen.Kernel14Ideal.Value
public import proofs.«01_k».proof.Proof.HgrnMath
public import Idealize.ShloMosaic.Lib.Pipeline.ReadBack
public import proofs.«01_k».proof.Proof.GateMath
@[expose] public section
set_option maxRecDepth 16384
noncomputable section
namespace Cert.HgrnP
open Idealize.ShloMosaic Idealize.ShloMosaic.TcCoe Idealize.SL.Sem
open Cert.Kernel14Ideal Cert.Kernel14Ideal.Gen Cert.Lift Cert.HgrnMath Cert.FfnMath Cert.AttnMath Cert.GateMath

theorem ext2 {n k : ℕ} {φ : FTy} {x y : FVec Ideal ⟨2, ![n, k]⟩ φ} (h : ∀ a b, x (ix2 a b) = y (ix2 a b)) : x = y :=
  funext fun i => by rw [eq_ix2 i]; exact h _ _
theorem ext3 {n k l : ℕ} {φ : FTy} {x y : FVec Ideal ⟨3, ![n, k, l]⟩ φ} (h : ∀ a b c, x (ix3 a b c) = y (ix3 a b c)) : x = y :=
  funext fun i => by rw [eq_ix3 i]; exact h _ _ _
theorem below64 : ∀ a t : Fin 64, IntOp.cmpi .sge (BitVec.ofNat 32 a.val) (BitVec.ofNat 32 t.val) = if t.val ≤ a.val then 1#1 else 0#1 := by
  decide +kernel
theorem mask (a t : Fin 64) : k0_pay3 (ix2 a t) = if t.val ≤ a.val then 1#1 else 0#1 := by
  pointwise [k0_pay3]
  exact below64 a t
/-- The triangle of ones. -/
theorem tri : (k0_pay4 : FVec Ideal S64x64 .f32) = up2 .f32 (fun a t => if t.val ≤ a.val then 1 else 0) := by
  funext i
  have h := mask (i 0) (i 1)
  rw [← eq_ix2 i] at h
  pointwise [k0_pay4, up2_apply]
  rw [h]
  by_cases p : (i 1).val ≤ (i 0).val
  · rw [if_pos p, if_pos p]
    show ((((1 : ℤ) : ℝ)) : EReal) = _
    norm_num
  · rw [if_neg p, if_neg p]
    show ((((0 : ℤ) : ℝ)) : EReal) = _
    norm_num

variable (lo : Fin 1024 → ℝ) (zq zf zi zg : Fin 64 → Fin 1024 → ℝ)
theorem gateP : k0_pay10 (up2 .f32 (fun _ : Fin 1 => lo)) (k0_pay8 (up2 .f32 zf)) k0_pay9 = up2 .f32 (fun t j => gate (lo j) (zf t j)) := by
  funext i
  pointwise [k0_pay10, k0_pay8, k0_pay9, up2_apply]
  simp only [c_half, c_one, Ideal.tanh_coe, ← EReal.coe_mul, ← EReal.coe_sub, ← EReal.coe_add, sg_tanh]
  rfl

section arrays
variable {lo} (hl : ∀ j, 0 < lo j ∧ lo j ≤ 1)
include hl
theorem cumP : k0_pay12 (up2 .f32 (fun _ : Fin 1 => lo)) k0_pay4 (k0_pay8 (up2 .f32 zf)) k0_pay9 = up2 .f32 (cm lo zf) := by
  have e : log (up2 FTy.f32 (fun t j => gate (lo j) (zf t j)) : FVec Ideal S64x1024 .f32) = up2 .f32 (fun t j => Real.log (gate (lo j) (zf t j))) :=
    funext fun i => (Ideal.log_coe _).trans (if_neg (not_le.2 (gate_pos (hl _) _)))
  refine ext2 fun a b => ?_
  unfold k0_pay12
  rw [gateP, tri]
  rw [e]
  pointwise [up2_apply]
  simp only [zero_add, ← EReal.coe_mul, coe_sum]
  unfold cm cum
  refine congrArg _ (Finset.sum_congr rfl fun s _ => ?_)
  show (if s.val ≤ a.val then (1 : ℝ) else 0) * Real.log (gate (lo b) (zf s b)) = if s.val ≤ a.val then Real.log (gate (lo b) (zf s b)) else 0
  by_cases p : s.val ≤ a.val
  · rw [if_pos p, if_pos p]
    exact one_mul _
  · rw [if_neg p, if_neg p]
    exact zero_mul _
theorem lastP : k0_pay13 (up2 .f32 (fun _ : Fin 1 => lo)) k0_pay4 (k0_pay8 (up2 .f32 zf)) k0_pay9 = up2 .f32 (fun _ : Fin 1 => cm lo zf 63) := by
  refine ext2 fun a b => ?_
  unfold k0_pay13
  rw [cumP zf hl]
  pointwise [up2_apply]
theorem keyP : k0_pay11 (up2 .f32 (fun _ : Fin 1 => lo)) (k0_pay8 (up2 .f32 zf)) k0_pay9 = up2 .f32 (fun t j => 1 - gate (lo j) (zf t j)) := by
  refine ext2 fun a b => ?_
  unfold k0_pay11
  rw [gateP]
  pointwise [up2_apply]
  rw [← EReal.coe_one, ← EReal.coe_sub]
theorem qP : k0_pay15 (up2 .f32 (fun _ : Fin 1 => lo)) k0_pay4 (k0_pay7 (up2 .f32 zq)) (k0_pay8 (up2 .f32 zf)) k0_pay9 = up2 .bf16 (Aq lo zq zf) := by
  refine ext2 fun a b => ?_
  unfold k0_pay15
  rw [cumP zf hl]
  pointwise [k0_pay7, up2_apply]
  simp only [c_half, Ideal.tanh_coe, Ideal.exp_coe, ← EReal.coe_mul, ← EReal.coe_add, sg_tanh]
  rfl
theorem iP : k0_pay16 (up2 .f32 (fun _ : Fin 1 => lo)) k0_pay4 (k0_pay8 (up2 .f32 zf)) k0_pay9 = up2 .bf16 (Ai lo zf) := by
  refine ext2 fun a b => ?_
  unfold k0_pay16
  rw [cumP zf hl, keyP zf hl]
  pointwise [up2_apply]
  simp only [zero_sub, ← EReal.coe_neg, Ideal.exp_coe, ← EReal.coe_mul]
  rfl
theorem dP : k0_pay17 (up2 .f32 (fun _ : Fin 1 => lo)) k0_pay4 (k0_pay8 (up2 .f32 zf)) k0_pay9 = up2 .bf16 (Ad lo zf) := by
  refine ext2 fun a b => ?_
  unfold k0_pay17
  rw [cumP zf hl, keyP zf hl, lastP zf hl]
  pointwise [up2_apply]
  simp only [← EReal.coe_sub, Ideal.exp_coe, ← EReal.coe_mul]
  rfl
theorem lP : k0_pay18 (up2 .f32 (fun _ : Fin 1 => lo)) k0_pay4 (k0_pay8 (up2 .f32 zf)) k0_pay9 = up2 .f32 (fun _ : Fin 1 => Al lo zf) := by
  refine ext2 fun a b => ?_
  unfold k0_pay18
  rw [lastP zf hl]
  pointwise [up2_apply]
  simp only [Ideal.exp_coe]
  rfl
end arrays
theorem vP : k0_pay14 (up2 .f32 zi) = up2 .bf16 zi := by
  refine ext2 fun a b => ?_
  pointwise [k0_pay14, up2_apply]
theorem zP : k0_pay21 (k0_pay19 (up2 .f32 zg)) (k0_pay20 (up2 .f32 zg)) = up2 .f32 (fun t j => zg t j * sg (zg t j)) := by
  refine ext2 fun a b => ?_
  pointwise [k0_pay21, k0_pay19, k0_pay20, up2_apply]
  simp only [c_half, Ideal.tanh_coe, ← EReal.coe_mul, ← EReal.coe_add, sg_tanh]

/-- A state, as the kernel keeps it: the values' axis first. -/
def upS (S : Fin 128 → Fin 128 → ℝ) : FVec Ideal S1x128x128 .f32 := up3 .f32 (fun _ w d => S d w)

section head
variable (off : ℕ) (hs : S64x1024.Slices ![0, off] S64x128) (hs1 : S1x1024.Slices ![0, off] S1x128)
/-- A head's next state, as an expression of the kernel's body, for the head's first column. -/
def opNext (V KD : FVec Ideal S64x1024 .bf16) (D : FVec Ideal S1x1024 .f32) (s : FVec Ideal S1x128x128 .f32) : FVec Ideal S1x128x128 .f32 :=
  shapeCast S1x128x128 (addf (mulf (shapeCast S128x128 s shapeCasts_S1x128x128_S128x128) (broadcastTo S128x128 (extractStridedSlice S1x128 ![0, off] D hs1) broadcasts_S1x128_S128x128))
    (matmul dot_S64x128_S64x128_S128x128_0_0_1_1_n_n none (extractStridedSlice S64x128 ![0, off] V hs) (extractStridedSlice S64x128 ![0, off] KD hs) (constant S128x128 .f32 0x00000000#32)))
    shapeCasts_S128x128_S1x128x128
/-- A head's outputs. -/
def opOut (V Q KI : FVec Ideal S64x1024 .bf16) (s : FVec Ideal S1x128x128 .f32) : FVec Ideal S64x128 .f32 :=
  addf (matmul dot_S64x64_S64x128_S64x128_1_0_0_1_n_n none
      (truncf .bf16 (select k0_pay3 (matmul dot_S64x128_S64x128_S64x64_1_1_0_0_n_n none (extractStridedSlice S64x128 ![0, off] Q hs) (extractStridedSlice S64x128 ![0, off] KI hs) (constant S64x64 .f32 0x00000000#32))
        (broadcast S64x64 (Scalar.ofBits .f32 0x00000000#32))) bitsLt_bf16_f32)
      (extractStridedSlice S64x128 ![0, off] V hs) (constant S64x128 .f32 0x00000000#32))
    (matmul dot_S64x128_S128x128_S64x128_1_1_0_0_n_n none (extractStridedSlice S64x128 ![0, off] Q hs)
      (truncf .bf16 (shapeCast S128x128 s shapeCasts_S1x128x128_S128x128) bitsLt_bf16_f32) (constant S64x128 .f32 0x00000000#32))
/-- A head's outputs, normalised and gated. -/
def opGated (g : FVec Ideal S1x128 .f32) (Z : FVec Ideal S64x1024 .f32) (y : FVec Ideal S64x128 .f32) : FVec Ideal S64x128 .bf16 :=
  truncf .bf16 (mulf (mulf (mulf y (broadcastTo S64x128 (rsqrt (addf (divf (shapeCast S64x1 (multiReduction .add [1] S64 (mulf y y) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 g broadcasts_S1x128_S64x128)) (extractStridedSlice S64x128 ![0, off] Z hs)) bitsLt_bf16_f32
variable (S : Fin 128 → Fin 128 → ℝ)
theorem coe_ite (p : Prop) [Decidable p] (x : ℝ) : (if p then ((x : ℝ) : EReal) else 0) = ((if p then x else 0 : ℝ) : EReal) := by
  by_cases h : p
  · rw [if_pos h, if_pos h]
  · rw [if_neg h, if_neg h, EReal.coe_zero]
theorem hcol {off : ℕ} (d : Fin 128) (p : off + d.val < 1024) : (⟨off + d.val, p⟩ : Fin 1024) = col off d :=
  Fin.ext (Nat.mod_eq_of_lt p).symm
theorem nextP : opNext off hs hs1 (up2 .bf16 zi) (up2 .bf16 (Ad lo zf)) (up2 .f32 fun _ : Fin 1 => Al lo zf) (upS S) = upS (nextF lo zf zi off S) := by
  unfold upS
  refine ext3 fun a w d => ?_
  pointwise [opNext, up3_apply, up2_apply]
  simp only [hcol, ← EReal.coe_mul, coe_sum, ← EReal.coe_add]
  rfl
theorem outP : opOut off hs (up2 .bf16 zi) (up2 .bf16 (Aq lo zq zf)) (up2 .bf16 (Ai lo zf)) (upS S) = up2 .f32 (outF lo zq zf zi off S) := by
  unfold upS
  refine ext2 fun a w => ?_
  pointwise [opOut, up3_apply, up2_apply]
  simp only [hcol, mask, sel_bit, ← EReal.coe_mul, coe_sum, coe_ite, ← EReal.coe_add]
  rfl
theorem gatedP (g : Fin 128 → ℝ) (Z : Fin 64 → Fin 1024 → ℝ) (y : Fin 64 → Fin 128 → ℝ) :
    opGated off hs (up2 .f32 fun _ : Fin 1 => g) (up2 .f32 Z) (up2 .f32 y) = up2 .bf16 (fun t w => y t w * (√(ms128 (y t)))⁻¹ * g w * Z t (col off w)) := by
  refine ext2 fun a b => ?_
  pointwise [opGated, up2_apply]
  simp only [hcol, c128, c_eps, ← EReal.coe_mul, coe_sum, ← EReal.coe_add]
  rw [div_coe' _ _ (by norm_num), ← EReal.coe_add, show (∑ i, y a i * y a i) * (1 / 128) + eps = ms128 (y a) from rfl, rsqrt_pos _ (ms128_pos (y a)), ← EReal.coe_mul, ← EReal.coe_mul, ← EReal.coe_mul]
end head

/-- The lower bounds. -/
theorem lowP (l : Fin 3 → Fin 1024 → ℝ) : k0_pay2 (up2 .f32 l) = up2 .f32 (fun _ : Fin 1 => low l) := by
  refine ext2 fun a b => ?_
  pointwise [k0_pay2, up2_apply]
  rw [c_neg_inf, fold_max_coe]
  simp only [← EReal.coe_sub, Ideal.exp_coe, coe_sum]
  exact div_coe' _ _ (tot_pos fun r => l r b).ne'

variable (z : ℕ → Fin 64 → Fin 1024 → ℝ) (N : ℕ)
/-- Eight chunks' rows, one below the other. -/
def rows8 (r : Fin 512) (j : Fin 1024) : ℝ := z (N + r.val / 64) ⟨r.val % 64, Nat.mod_lt _ (by norm_num)⟩ j
theorem ld64 (off : ℕ) (hd : off % 64 = 0) (inb) :
    @Eq (FVec Ideal S64x1024 .f32) (View.ld (Val := Elt Ideal) (S := S512x1024) (e' := .f32) (up2 .f32 (rows8 z N)) (Rect.unit (s := S512x1024) ![off, 0] ![64, 1024] inb)) (up2 .f32 (z (N + off / 64))) := by
  refine ext2 fun a b => ?_
  pointwise [up2_apply]
  refine congrArg _ (congrFun (congrArg₂ z ?_ (Fin.ext ?_)) b)
  · show N + (off + a.val) / 64 = N + off / 64
    omega
  · show (off + a.val) % 64 = a.val
    omega
section st
variable (lo : Fin 1024 → ℝ) (zf zi : ℕ → Fin 64 → Fin 1024 → ℝ)
/-- The heads' states before chunk `n`, as the kernel carries them. -/
def carried (n : ℕ) : FVec Ideal S8x128x128 .f32 := up3 .f32 (fun h w d => state lo zf zi (128 * h.val) n d w)
theorem pay6 : k0_pay6 = carried lo zf zi 0 := by
  refine ext3 fun a b d => ?_
  pointwise [k0_pay6, carried, up3_apply]
  exact EReal.coe_zero.symm
theorem ldS (n h : ℕ) (inb) :
    @Eq (FVec Ideal S1x128x128 .f32) (View.ld (Val := Elt Ideal) (S := S8x128x128) (e' := .f32) (carried lo zf zi n) (Rect.unit (s := S8x128x128) ![h, 0, 0] ![1, 128, 128] inb)) (upS (state lo zf zi (128 * h) n)) := by
  refine ext3 fun a b d => ?_
  unfold upS carried
  pointwise [up3_apply]
variable {lo} {zf} {zi}
theorem next_rule {off n : ℕ} {hs hs1 V K D s} (hS : s = upS (state lo zf zi off n)) (hV : V = up2 .bf16 (zi n)) (hK : K = up2 .bf16 (Ad lo (zf n)))
    (hD : D = up2 .f32 fun _ : Fin 1 => Al lo (zf n)) : opNext off hs hs1 V K D s = upS (state lo zf zi off (n + 1)) := by
  subst hS hV hK hD
  exact nextP _ _ _ _ _ _ _
theorem v_rule {x : FVec Ideal S64x1024 .f32} {r} (h : x = up2 .f32 r) : k0_pay14 x = up2 .bf16 r := h ▸ vP r
theorem out_rule {zq : ℕ → Fin 64 → Fin 1024 → ℝ} {off n : ℕ} {hs V Q K s} (hS : s = upS (state lo zf zi off n)) (hV : V = up2 .bf16 (zi n)) (hQ : Q = up2 .bf16 (Aq lo (zq n) (zf n)))
    (hK : K = up2 .bf16 (Ai lo (zf n))) : opOut off hs V Q K s = up2 .f32 (outs lo zq zf zi off n) := by
  subst hS hV hQ hK
  exact outP _ _ _ _ _ _ _
theorem gated_rule {off : ℕ} {hs} {g : Fin 128 → ℝ} {Z y} {r : Fin 64 → Fin 1024 → ℝ} {Y : Fin 64 → Fin 128 → ℝ} (hy : y = up2 .f32 Y) (hZ : Z = up2 .f32 (fun t j => r t j * sg (r t j))) :
    opGated off hs (up2 .f32 fun _ : Fin 1 => g) Z y = up2 .bf16 (fun t w => gated g (Y t) (r t (col off w)) w) := by
  subst hy hZ
  exact gatedP _ _ _ _ _
section low
variable (hl : ∀ j, 0 < lo j ∧ lo j ≤ 1) {x y : FVec Ideal S64x1024 .f32} {r w : Fin 64 → Fin 1024 → ℝ}
theorem z_rule (h : x = up2 .f32 r) : k0_pay21 (k0_pay19 x) (k0_pay20 x) = up2 .f32 (fun t j => r t j * sg (r t j)) := h ▸ zP r
include hl
theorem d_rule (h : x = up2 .f32 r) : k0_pay17 (up2 .f32 (fun _ : Fin 1 => lo)) k0_pay4 (k0_pay8 x) k0_pay9 = up2 .bf16 (Ad lo r) := h ▸ dP r hl
theorem l_rule (h : x = up2 .f32 r) : k0_pay18 (up2 .f32 (fun _ : Fin 1 => lo)) k0_pay4 (k0_pay8 x) k0_pay9 = up2 .f32 (fun _ : Fin 1 => Al lo r) := h ▸ lP r hl
theorem i_rule (h : x = up2 .f32 r) : k0_pay16 (up2 .f32 (fun _ : Fin 1 => lo)) k0_pay4 (k0_pay8 x) k0_pay9 = up2 .bf16 (Ai lo r) := h ▸ iP r hl
theorem q_rule (hq : y = up2 .f32 w) (h : x = up2 .f32 r) : k0_pay15 (up2 .f32 (fun _ : Fin 1 => lo)) k0_pay4 (k0_pay7 y) (k0_pay8 x) k0_pay9 = up2 .bf16 (Aq lo w r) := by
  subst hq h
  exact qP w r hl
end low

section places
variable {N : ℕ} {zq zg : ℕ → Fin 64 → Fin 1024 → ℝ}
variable (lo zq zf zi N) in
/-- A block's outputs. -/
def outB (r : Fin 512) (j : Fin 1024) : ℝ :=
  outs lo zq zf zi (128 * (j.val / 128)) (N + r.val / 64) ⟨r.val % 64, Nat.mod_lt _ (by norm_num)⟩ ⟨j.val % 128, Nat.mod_lt _ (by norm_num)⟩
theorem outB_at {k h : ℕ} {r : Fin 512} {j : Fin 1024} {t : Fin 64} {w : Fin 128} (hr : r.val = 64 * k + t.val) (hj : j.val = 128 * h + w.val) :
    outB lo zf zi N zq r j = outs lo zq zf zi (128 * h) (N + k) t w := by
  have e0 : r.val / 64 = k := by omega
  have e1 : j.val / 128 = h := by omega
  unfold outB
  rw [e0, e1]
  exact congrArg₂ (outs lo zq zf zi (128 * h) (N + k)) (Fin.ext (by show r.val % 64 = _; omega)) (Fin.ext (by show j.val % 128 = _; omega))
variable (lo zq zf zi zg N) in
/-- A block of the joined result: the gated outputs and the memory's. -/
def catB (g : Fin 128 → ℝ) (M : Fin 512 → Fin 1024 → EReal) (r : Fin 512) (j : Fin 2048) : EReal :=
  if h : j.val < 1024 then ((gated g (fun w => outs lo zq zf zi (128 * (j.val / 128)) (N + r.val / 64) ⟨r.val % 64, Nat.mod_lt _ (by norm_num)⟩ w)
    (zg (N + r.val / 64) ⟨r.val % 64, Nat.mod_lt _ (by norm_num)⟩ ⟨j.val, h⟩) ⟨j.val % 128, Nat.mod_lt _ (by norm_num)⟩ : ℝ) : EReal) else M r ⟨j.val - 1024, by omega⟩
theorem catB_at {g : Fin 128 → ℝ} {M : Fin 512 → Fin 1024 → EReal} {k h : ℕ} {r : Fin 512} {j : Fin 2048} {t : Fin 64} {w : Fin 128} (hh : h < 8) (hr : r.val = 64 * k + t.val) (hj : j.val = 128 * h + w.val) :
    catB lo zf zi N zq zg g M r j = ((gated g (outs lo zq zf zi (128 * h) (N + k) t) (zg (N + k) t (col (128 * h) w)) w : ℝ) : EReal) := by
  have e0 : r.val / 64 = k := by omega
  have e1 : j.val / 128 = h := by omega
  have e2 : (⟨r.val % 64, Nat.mod_lt _ (by norm_num)⟩ : Fin 64) = t := Fin.ext (by show r.val % 64 = _; omega)
  have e3 : (⟨j.val % 128, Nat.mod_lt _ (by norm_num)⟩ : Fin 128) = w := Fin.ext (by show j.val % 128 = _; omega)
  have l : j.val < 1024 := by omega
  unfold catB
  rw [dif_pos l, e0, e1, e2, e3]
  exact congrArg _ (congrArg (fun x => gated g _ (zg (N + k) t x) w) (Fin.ext (by show j.val = (128 * h + w.val) % 1024; omega)))

theorem st_piece {h n : ℕ} {p : FVec Ideal S1x128x128 .f32}
    (hp : p = upS (state lo zf zi (128 * h) n)) (inb : ∀ a, (![h, 0, 0] : Fin 3 → ℕ) a + (![1, 128, 128] : Fin 3 → ℕ) a ≤ S8x128x128.size a) : ∀ x, p x = carried lo zf zi n ((Rect.unit (s := S8x128x128) ![h, 0, 0] ![1, 128, 128] inb).emb x) := by
  intro x
  subst hp
  unfold upS carried
  rw [up3_apply, up3_apply]
  have h0 : (((Rect.unit (s := S8x128x128) ![h, 0, 0] ![1, 128, 128] inb).emb x) 0).val = h + (x 0).val := ValueKit.rect_emb_unit_val _ _ _ _ _
  have h1 : (((Rect.unit (s := S8x128x128) ![h, 0, 0] ![1, 128, 128] inb).emb x) 1).val = 0 + (x 1).val := ValueKit.rect_emb_unit_val _ _ _ _ _
  have h2 : (((Rect.unit (s := S8x128x128) ![h, 0, 0] ![1, 128, 128] inb).emb x) 2).val = 0 + (x 2).val := ValueKit.rect_emb_unit_val _ _ _ _ _
  have hx : (x 0).val = 0 := Nat.lt_one_iff.1 (x 0).isLt
  rw [h0, hx, Nat.add_zero]
  exact congrArg _ (congrArg₂ (state lo zf zi (128 * h) n) (Fin.ext (h2.trans (Nat.zero_add _)).symm) (Fin.ext (h1.trans (Nat.zero_add _)).symm))
variable (lo zf zi N) in
/-- A block of the states before its chunks. -/
def allB : FVec Ideal S1x8x8x128x128 .f32 := up5 .f32 (fun _ h n w d => state lo zf zi (128 * h.val) (N + n.val) d w)
/-- A state as it is stored among all the states. -/
def opAll (s : FVec Ideal S1x128x128 .f32) : FVec Ideal S1x1x1x128x128 .f32 :=
  shapeCast S1x1x1x128x128 (shapeCast S128x128 s shapeCasts_S1x128x128_S128x128) shapeCasts_S128x128_S1x1x1x128x128
theorem all_rule {s s' : FVec Ideal S1x128x128 .f32} (h : s = s') : opAll s = opAll s' := h ▸ rfl
theorem all_piece {h k : ℕ} {p : FVec Ideal S1x1x1x128x128 .f32}
    (hp : p = opAll (upS (state lo zf zi (128 * h) (N + k)))) (inb : ∀ a, (![0, h, k, 0, 0] : Fin 5 → ℕ) a + (![1, 1, 1, 128, 128] : Fin 5 → ℕ) a ≤ S1x8x8x128x128.size a) : ∀ x, p x
      = allB lo zf zi N ((Rect.unit (s := S1x8x8x128x128) ![0, h, k, 0, 0] ![1, 1, 1, 128, 128] inb).emb x) := by
  intro x
  subst hp
  have h0 : (((Rect.unit (s := S1x8x8x128x128) ![0, h, k, 0, 0] ![1, 1, 1, 128, 128] inb).emb x) 1).val = h + (x 1).val := ValueKit.rect_emb_unit_val _ _ _ _ _
  have h1 : (((Rect.unit (s := S1x8x8x128x128) ![0, h, k, 0, 0] ![1, 1, 1, 128, 128] inb).emb x) 2).val = k + (x 2).val := ValueKit.rect_emb_unit_val _ _ _ _ _
  have h2 : (((Rect.unit (s := S1x8x8x128x128) ![0, h, k, 0, 0] ![1, 1, 1, 128, 128] inb).emb x) 3).val = 0 + (x 3).val := ValueKit.rect_emb_unit_val _ _ _ _ _
  have h3 : (((Rect.unit (s := S1x8x8x128x128) ![0, h, k, 0, 0] ![1, 1, 1, 128, 128] inb).emb x) 4).val = 0 + (x 4).val := ValueKit.rect_emb_unit_val _ _ _ _ _
  have hx : (x 1).val = 0 := Nat.lt_one_iff.1 (x 1).isLt
  have hy : (x 2).val = 0 := Nat.lt_one_iff.1 (x 2).isLt
  unfold opAll upS allB
  pointwise [up3_apply, up5_apply]
  rw [h0, h1, hx, hy, Nat.add_zero, Nat.add_zero]
  exact congrArg _ (congrArg₂ (state lo zf zi (128 * h) (N + k)) (Fin.ext (h3.trans (Nat.zero_add _)).symm) (Fin.ext (h2.trans (Nat.zero_add _)).symm))
theorem out_piece (k : ℕ) {o1 o0 : ℕ} {p : FVec Ideal S64x128 .f32}
    (h1 : 128 * (o1 / 128) = o1) (h0 : o0 = 64 * k) (hp : p = up2 .f32 (outs lo zq zf zi o1 (N + k))) (inb : ∀ a, (![o0, o1] : Fin 2 → ℕ) a + (![64, 128] : Fin 2 → ℕ) a ≤ S512x1024.size a) : ∀ x, p x = up2 FTy.f32 (outB lo zf zi N zq) ((Rect.unit (s := S512x1024) ![o0, o1] ![64, 128] inb).emb x) := by
  intro x
  subst hp h0
  rw [up2_apply, up2_apply]
  refine congrArg _ ((outB_at (k := k) (h := o1 / 128) (t := x 0) (w := x 1) (ValueKit.rect_emb_unit_val _ _ _ _ _) ?_).trans (by rw [h1])).symm
  rw [h1]
  exact ValueKit.rect_emb_unit_val _ _ _ _ _
theorem cat_piece (k : ℕ) {g : Fin 128 → ℝ} {M : Fin 512 → Fin 1024 → EReal} {o1 o0 : ℕ} {p : FVec Ideal S64x128 .bf16}
    (h1 : 128 * (o1 / 128) = o1) (hh : o1 / 128 < 8) (h0 : o0 = 64 * k)
    (hp : p = up2 .bf16 (fun t w => gated g (outs lo zq zf zi o1 (N + k) t) (zg (N + k) t (col o1 w)) w)) (inb : ∀ a, (![o0, o1] : Fin 2 → ℕ) a + (![64, 128] : Fin 2 → ℕ) a ≤ S512x2048.size a) : ∀ x, p x = ue2 FTy.bf16 (catB lo zf zi N zq zg g M) ((Rect.unit (s := S512x2048) ![o0, o1] ![64, 128] inb).emb x) := by
  intro x
  subst hp h0
  rw [up2_apply, ue2_apply]
  refine ((catB_at (k := k) hh (t := x 0) (w := x 1) (ValueKit.rect_emb_unit_val _ _ _ _ _) ?_).trans (by rw [h1])).symm
  rw [h1]
  exact ValueKit.rect_emb_unit_val _ _ _ _ _
theorem mem_piece {g : Fin 128 → ℝ} {M : Fin 512 → Fin 1024 → EReal}
     (inb : ∀ a, (![0, 1024] : Fin 2 → ℕ) a + (![512, 1024] : Fin 2 → ℕ) a ≤ S512x2048.size a) : ∀ x,
    k0_pay5 (ue2 .bf16 M) x = ue2 FTy.bf16 (catB lo zf zi N zq zg g M) ((Rect.unit (s := S512x2048) ![0, 1024] ![512, 1024] inb).emb x) := by
  intro x
  have h0 : (((Rect.unit (s := S512x2048) ![0, 1024] ![512, 1024] inb).emb x) 0).val = 0 + (x 0).val := ValueKit.rect_emb_unit_val _ _ _ _ _
  have h1 : (((Rect.unit (s := S512x2048) ![0, 1024] ![512, 1024] inb).emb x) 1).val = 1024 + (x 1).val := ValueKit.rect_emb_unit_val _ _ _ _ _
  pointwise [k0_pay5, ue2_apply]
  unfold catB
  rw [dif_neg (by omega)]
  exact congrArg₂ M (Fin.ext (h0.trans (Nat.zero_add _)).symm) (Fin.ext (by show (x 1).val = _ - 1024; omega))
end places
end st
theorem canon_take {Val : EltTy → Type} {S : Shape} {e : EltTy} [∀ e, Nonempty (Val e)] (n : ℕ) (G : S.Idx → Val e) (L : List (View.Piece Val S e)) (h : View.PiecesOf G (L.take n)) (y : S.Idx)
    (hc : ∃ p ∈ L.take n, y ∈ p.1.set) : View.canon L y = G y := by
  have := View.canon_append_of_piecesOf G (L.drop n) (L.take n) h y hc
  rwa [List.take_append_drop] at this
end Cert.HgrnP
-- ==== Proof.HgrnF.lean ====
module
public import proofs.«01_k».proof.Proof.HgrnP
public import Idealize.ShloMosaic.Lib.Pipeline.ReadBack
@[expose] public section
set_option maxRecDepth 16384
set_option maxHeartbeats 4000000
noncomputable section
namespace Cert.HgrnF
open Idealize.ShloMosaic Idealize.ShloMosaic.TcCoe Idealize.SL.Sem
open Idealize.ShloMosaic.Pipeline (Dat)
open Cert.Kernel14Ideal Cert.Kernel14Ideal.Gen Cert.Lift Cert.HgrnMath Cert.HgrnP
variable (m : (ℓ : Loc nD τ sig) → Buf (Elt Ideal) ℓ) (c : Dev nD)
variable (t : Fin cfg0.N) (l : Fin 3 → Fin 1024 → ℝ) (g : Fin 128 → ℝ) (zq zf zi zg : ℕ → Fin 64 → Fin 1024 → ℝ) (M : Fin 512 → Fin 1024 → EReal) (N : ℕ)
  (e0 : iblk m c 0 t = up2 .f32 (rows8 zq N)) (e1 : iblk m c 1 t = up2 .f32 (rows8 zf N)) (e2 : iblk m c 2 t = up2 .f32 (rows8 zi N)) (e3 : iblk m c 3 t = up2 .f32 (rows8 zg N))
  (e4 : iblk m c 4 t = ue2 .bf16 M) (e5 : iblk m c 5 t = up2 .f32 l) (e6 : iblk m c 6 t = up2 .f32 fun _ : Fin 1 => g)
  (hN : t.val % 4 = 0 → N = 0)
  (hS : ¬ t.val % 4 = 0 → (outsAt0 m c (t.val - 1) (Nat.lt_of_le_of_lt (Nat.sub_le _ _) t.isLt)).2.2.2 = carried (low l) zf zi N)
include e0 e1 e2 e3 e4 e5 e6 hN hS
/-- What a point of the grid leaves in its blocks and in the carried state. -/
theorem outs_at : (∀ y, (outsAt0 m c t.val t.isLt).1 y = ue2 FTy.bf16 (catB (low l) zf zi N zq zg g M) y)
    ∧ (∀ y, (outsAt0 m c t.val t.isLt).2.1 y = up2 FTy.f32 (outB (low l) zf zi N zq) y)
    ∧ (∀ y, (outsAt0 m c t.val t.isLt).2.2.1 y = allB (low l) zf zi N y)
    ∧ (∀ y, (outsAt0 m c t.val t.isLt).2.2.2 y = carried (low l) zf zi (N + 8) y) := by
  have hl : ∀ j, 0 < low l j ∧ low l j ≤ 1 := fun j => ⟨low_pos l j, low_le l j⟩
  by_cases h0 : t.val % 4 = 0
  have hp : (k0_pay6 : FVec Ideal S8x128x128 .f32) = carried (low l) zf zi N := (pay6 (low l) zf zi).trans (by rw [hN h0])
  rw [outsAt0_A m c t h0]
  rotate_left
  rw [outsAt0_B m c t h0]
  all_goals
    dsimp only
    frame_open
    simp (disch := decide) only [↓View.readCov_skip, ↓View.readCov_cons_toLoadRect, ↓View.readCov_fill]
    frame_out
    rw [e0, e1, e2, e3, e4, e5, e6, lowP]
  rw [read_unread_whole, hS h0]
  rotate_left
  rw [hp]
  clear hp
  all_goals
    clear hS hN e0 e1 e2 e3 e4 e5 e6
    dsimp only [k0_pay1, k0_pay22, k0_pay23, k0_pay24, k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64, k0_pay65, k0_pay66, k0_pay67, k0_pay68, k0_pay69, k0_pay70, k0_pay71,
    k0_pay84, k0_pay85, k0_pay86, k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198, k0_pay199, k0_pay200, k0_pay201, k0_pay214, k0_pay215,
    k0_pay216, k0_pay217, k0_pay218, k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257, k0_pay258, k0_pay259, k0_pay260,
    k0_pay261, k0_pay262, k0_pay263, k0_pay274, k0_pay275, k0_pay276, k0_pay277, k0_pay278, k0_pay279, k0_pay280, k0_pay281, k0_pay282, k0_pay283, k0_pay284, k0_pay285,
    k0_pay286, k0_pay287, k0_pay288, k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312, k0_pay313, k0_pay314, k0_pay315,
    k0_pay316, k0_pay317, k0_pay318, k0_pay319, k0_pay320, k0_pay321, k0_pay322, k0_pay323, k0_pay324, k0_pay325, k0_pay338, k0_pay339, k0_pay340, k0_pay341, k0_pay342,
    k0_pay343, k0_pay344, k0_pay345, k0_pay346, k0_pay347, k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383, k0_pay384, k0_pay385, k0_pay386, k0_pay387,
    k0_pay388, k0_pay404, k0_pay405, k0_pay406, k0_pay407, k0_pay408, k0_pay409, k0_pay410, k0_pay411, k0_pay412, k0_pay413, k0_pay414, k0_pay415, k0_pay416, k0_pay417,
    k0_pay418, k0_pay419, k0_pay420, k0_pay421, k0_pay422, k0_pay423, k0_pay424, k0_pay425, k0_pay426, k0_pay427, k0_pay428, k0_pay429, k0_pay430, k0_pay431, k0_pay432,
    k0_pay433, k0_pay434, k0_pay435, k0_pay436, k0_pay437, k0_pay438, k0_pay439, k0_pay440, k0_pay441, k0_pay442, k0_pay443, k0_pay444, k0_pay445, k0_pay446, k0_pay447,
    k0_pay448, k0_pay449, k0_pay450, k0_pay451, k0_pay452, k0_pay453, k0_pay466, k0_pay467, k0_pay468, k0_pay469, k0_pay470, k0_pay471, k0_pay472, k0_pay473, k0_pay474,
    k0_pay475, k0_pay476, k0_pay477, k0_pay478, k0_pay479, k0_pay480, k0_pay481, k0_pay482, k0_pay483, k0_pay484, k0_pay485, k0_pay486, k0_pay487, k0_pay488, k0_pay489,
    k0_pay490, k0_pay491, k0_pay492, k0_pay493, k0_pay494, k0_pay495, k0_pay496, k0_pay497, k0_pay498, k0_pay499, k0_pay500, k0_pay501, k0_pay502, k0_pay503, k0_pay504,
    k0_pay505, k0_pay506, k0_pay507, k0_pay508, k0_pay509, k0_pay510, k0_pay511, k0_pay512, k0_pay513, k0_pay514, k0_pay515, k0_pay516, k0_pay517]
    refine ⟨fun y => canon_take 65 _ _ ?_ y ?_, fun y => canon_take 64 _ _ ?_ y ?_, fun y => canon_take 64 _ _ ?_ y ?_, fun y => canon_take 8 _ _ ?_ y ?_⟩
    rotate_left
    exact View.cover_of_tiledBy (List.take 65 _) ![64, 128] (by sl_kernel_rfl) _
    rotate_left
    exact View.cover_of_tiledBy (List.take 64 _) ![64, 128] (by sl_kernel_rfl) _
    rotate_left
    exact View.cover_of_tiledBy (List.take 64 _) ![1, 1, 1, 128, 128] (by sl_kernel_rfl) _
    rotate_left
    exact View.cover_of_tiledBy (List.take 8 _) ![1, 128, 128] (by sl_kernel_rfl) _
    · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
      iterate 8
        · refine cat_piece 7 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 7
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 6 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 6
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 5 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 5
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 4 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 4
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 3 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 3
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 2 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 2
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 1 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 1
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine cat_piece 0 ?_ ?_ ?_ ?_ (by decide)
          · decide
          · decide
          · rfl
          refine gated_rule ?_ (z_rule (ld64 _ _ _ (by decide) _))
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          exact ldS _ _ _ _ _ _
      · exact mem_piece (by decide)
    · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_, ?_, ?_, ?_, trivial⟩
      iterate 8
        · refine out_piece 7 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 7
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 6 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 6
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 5 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 5
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 4 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 4
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 3 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 3
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 2 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 2
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 1 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          iterate 1
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine out_piece 0 ?_ ?_ ?_ (by decide)
          · decide
          · rfl
          refine out_rule ?_ ?_ ?_ ?_
          rotate_left
          · exact v_rule (ld64 _ _ _ (by decide) _)
          · exact q_rule hl (ld64 _ _ _ (by decide) _) (ld64 _ _ _ (by decide) _)
          · exact i_rule hl (ld64 _ _ _ (by decide) _)
          exact ldS _ _ _ _ _ _
    · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_, ?_, ?_, ?_, trivial⟩
      iterate 8
        · refine all_piece ?_ (by decide)
          dsimp only
          refine all_rule ?_
          iterate 7
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 6
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 5
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 4
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 3
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 2
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          iterate 1
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
      iterate 8
        · refine all_piece ?_ (by decide)
          dsimp only
          refine all_rule ?_
          exact ldS _ _ _ _ _ _
    · refine ⟨?_, ?_, ?_, ?_, ?_, ?_, ?_, ?_, trivial⟩
      iterate 8
        · refine st_piece ?_ (by decide)
          iterate 8
            refine next_rule ?_ ?_ ?_ ?_
            rotate_left
            · exact v_rule (ld64 _ _ _ (by decide) _)
            · exact d_rule hl (ld64 _ _ _ (by decide) _)
            · exact l_rule hl (ld64 _ _ _ (by decide) _)
          exact ldS _ _ _ _ _ _
-- ==== Proof.HgrnA.lean ====
module
public import proofs.«01_k».proof.Proof.HgrnMath
@[expose] public section
set_option maxRecDepth 16384
noncomputable section
namespace Cert.HgrnA
open Cert.HgrnMath Cert.Lift

/-- A batch's chunk of 64 rows, of the columns from `o` on. -/
def zc (z : Fin 2 → Fin 2048 → Fin 5120 → ℝ) (b : Fin 2) (o n : ℕ) (t : Fin 64) (j : Fin 1024) : ℝ :=
  z b ⟨(64 * n + t.val) % 2048, Nat.mod_lt _ (by norm_num)⟩ ⟨(o + j.val) % 5120, Nat.mod_lt _ (by norm_num)⟩
variable (l : Fin 3 → Fin 1024 → ℝ) (z : Fin 2 → Fin 2048 → Fin 5120 → ℝ)
/-- A head's outputs in a chunk, and its state before it. -/
def oc (b : Fin 2) (h n : ℕ) : Fin 64 → Fin 128 → ℝ := outs (low l) (zc z b 0) (zc z b 1024) (zc z b 2048) (128 * h) n
def sc (b : Fin 2) (h n : ℕ) : Fin 128 → Fin 128 → ℝ := state (low l) (zc z b 1024) (zc z b 2048) (128 * h) n
/-- The batch, the chunk and the row in it, of a row of both batches. -/
def bt (r : Fin 4096) : Fin 2 := ⟨r.val / 2048, by omega⟩
def ch (r : Fin 4096) : ℕ := r.val % 2048 / 64
def rt (r : Fin 4096) : Fin 64 := ⟨r.val % 64, Nat.mod_lt _ (by norm_num)⟩
/-- The outputs before the norm. -/
def oAll (r : Fin 4096) (j : Fin 1024) : ℝ := oc l z (bt r) (j.val / 128) (ch r) (rt r) ⟨j.val % 128, Nat.mod_lt _ (by norm_num)⟩
/-- All the states. -/
def sAll (b : Fin 2) (h : Fin 8) (n : Fin 32) (w d : Fin 128) : ℝ := sc l z b h.val n.val d w
/-- The gated outputs beside the memory's. -/
def cAll (g : Fin 128 → ℝ) (M : Fin 2 → Fin 2048 → Fin 1024 → EReal) (r : Fin 4096) (j : Fin 2048) : EReal :=
  if h : j.val < 1024 then ((gated g (oc l z (bt r) (j.val / 128) (ch r) (rt r)) (zc z (bt r) 3072 (ch r) (rt r) ⟨j.val, h⟩)
    ⟨j.val % 128, Nat.mod_lt _ (by norm_num)⟩ : ℝ) : EReal)
  else M (bt r) ⟨r.val % 2048, Nat.mod_lt _ (by norm_num)⟩ ⟨j.val - 1024, by omega⟩
end Cert.HgrnA
-- ==== Proof.HgrnK.lean ====
module
public import proofs.«01_k».proof.Proof.HgrnF
public import proofs.«01_k».proof.Proof.HgrnA
@[expose] public section
set_option maxRecDepth 16384
noncomputable section
namespace Cert.HgrnK
open Idealize.ShloMosaic Idealize.ShloMosaic.TcCoe Idealize.SL.Sem
open Idealize.ShloMosaic.Pipeline (Dat)
open Cert.Kernel14Ideal Cert.Kernel14Ideal.Gen Cert.Lift Cert.HgrnMath Cert.HgrnP Cert.HgrnA

theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![0, 0] ∧ win0_6.index t = ![0, 0]
    ∧ win0_7.index t = ![t.val, 0] ∧ win0_8.index t = ![t.val, 0] ∧ win0_9.index t = ![t.val / 4, 0, t.val % 4, 0, 0] ∧ t.val < 8 :=
  (by decide +kernel : ∀ t : Fin grid0.N, _)
theorem lt8 (t : Fin cfg0.N) : t.val < 8 := (idx t).2.2.2.2.2.2.2.2.2.2
/-- A point's batch, its first chunk, and its rows among all. -/
def pb (t : Fin cfg0.N) : Fin 2 := ⟨t.val / 4, by have := lt8 t; omega⟩
def p0 (t : Fin cfg0.N) : ℕ := 8 * (t.val % 4)
def row (t : Fin cfg0.N) (r : Fin 512) : Fin 4096 := ⟨512 * t.val + r.val, by have := lt8 t; omega⟩
/-- Both batches' rows, one below the other. -/
def flat {α : Type} {k : ℕ} (z : Fin 2 → Fin 2048 → Fin k → α) (r : Fin 4096) (j : Fin k) : α :=
  z (bt r) ⟨r.val % 2048, Nat.mod_lt _ (by norm_num)⟩ j
theorem flat_rows (z : Fin 2 → Fin 2048 → Fin 5120 → ℝ) (o : ℕ) (ho : o + 1024 ≤ 5120) (t : Fin cfg0.N) (r : Fin 512) (j : Fin 1024) :
    flat z (row t r) ⟨o + j.val, by omega⟩ = rows8 (zc z (pb t) o) (p0 t) r j := by
  have ht := lt8 t
  unfold flat rows8 zc
  have e : bt (row t r) = pb t := Fin.ext (by show (512 * t.val + r.val) / 2048 = t.val / 4; omega)
  rw [e]
  refine congrArg₂ (z (pb t)) (Fin.ext ?_) (Fin.ext ?_)
  · show (512 * t.val + r.val) % 2048 = (64 * (8 * (t.val % 4) + r.val / 64) + r.val % 64) % 2048
    omega
  · show o + j.val = (o + j.val) % 5120
    omega

variable (m : (ℓ : Loc nD τ sig) → Buf (Elt Ideal) ℓ) (c : Dev nD)
  (z : Fin 2 → Fin 2048 → Fin 5120 → ℝ) (M : Fin 2 → Fin 2048 → Fin 1024 → EReal) (l : Fin 3 → Fin 1024 → ℝ) (g : Fin 128 → ℝ)
section ins
variable (hz : m ((c : Thread nD τ).loc main_arg0) = up3 .f32 z)
include hz
theorem v2 : V m c main_v2 = up2 .f32 (flat z) := by
  funext i
  entry_read
  rw [hz]
  pointwise [up3_apply, up2_apply]
  rfl
theorem in0 (t : Fin cfg0.N) : iblk m c 0 t = up2 .f32 (rows8 (zc z (pb t) 0) (p0 t)) := by
  funext y
  blk_simp [iblk]
  rw [v2 m c z hz, up2_apply, up2_apply]
  refine congrArg _ (Eq.trans ?_ (flat_rows z 0 (by norm_num) t (y 0) (y 1)))
  refine congrArg₂ (flat z) (Fin.ext ?_) (Fin.ext ?_) <;> blk_simp [idx t] <;> (try simp only [row]) <;> try omega
theorem in1 (t : Fin cfg0.N) : iblk m c 1 t = up2 .f32 (rows8 (zc z (pb t) 1024) (p0 t)) := by
  funext y
  blk_simp [iblk]
  rw [v2 m c z hz, up2_apply, up2_apply]
  refine congrArg _ (Eq.trans ?_ (flat_rows z 1024 (by norm_num) t (y 0) (y 1)))
  refine congrArg₂ (flat z) (Fin.ext ?_) (Fin.ext ?_) <;> blk_simp [idx t] <;> (try simp only [row]) <;> try omega
theorem in2 (t : Fin cfg0.N) : iblk m c 2 t = up2 .f32 (rows8 (zc z (pb t) 2048) (p0 t)) := by
  funext y
  blk_simp [iblk]
  rw [v2 m c z hz, up2_apply, up2_apply]
  refine congrArg _ (Eq.trans ?_ (flat_rows z 2048 (by norm_num) t (y 0) (y 1)))
  refine congrArg₂ (flat z) (Fin.ext ?_) (Fin.ext ?_) <;> blk_simp [idx t] <;> (try simp only [row]) <;> try omega
theorem in3 (t : Fin cfg0.N) : iblk m c 3 t = up2 .f32 (rows8 (zc z (pb t) 3072) (p0 t)) := by
  funext y
  blk_simp [iblk]
  rw [v2 m c z hz, up2_apply, up2_apply]
  refine congrArg _ (Eq.trans ?_ (flat_rows z 3072 (by norm_num) t (y 0) (y 1)))
  refine congrArg₂ (flat z) (Fin.ext ?_) (Fin.ext ?_) <;> blk_simp [idx t] <;> (try simp only [row]) <;> try omega
end ins
theorem in4 (hM : m ((c : Thread nD τ).loc main_arg1) = ue3 .f32 M) (t : Fin cfg0.N) : iblk m c 4 t = ue2 .bf16 (fun r j => flat M (row t r) j) := by
  have h : V m c main_v1 = ue2 .bf16 (flat M) := by
    funext i
    entry_read
    rw [hM]
    pointwise [ue3_apply, ue2_apply]
    rfl
  funext y
  blk_simp [iblk]
  rw [h, ue2_apply, ue2_apply]
  refine congrArg₂ (flat M) (Fin.ext ?_) (Fin.ext ?_) <;> blk_simp [idx t] <;> (try simp only [row]) <;> try omega
theorem in5 (hl : m ((c : Thread nD τ).loc main_arg2) = up2 .f32 l) (t : Fin cfg0.N) : iblk m c 5 t = up2 .f32 l := by
  have h : V m c main_arg2 = up2 .f32 l := hl
  funext y
  blk_simp [iblk]
  rw [h, up2_apply, up2_apply]
  refine congrArg _ (congrArg₂ l (Fin.ext ?_) (Fin.ext ?_)) <;> blk_simp [idx t] <;> try omega
theorem in6 (hg : m ((c : Thread nD τ).loc main_arg3) = up2 .f32 fun _ : Fin 1 => g) (t : Fin cfg0.N) : iblk m c 6 t = up2 .f32 fun _ : Fin 1 => g := by
  have h : V m c main_arg3 = up2 .f32 fun _ : Fin 1 => g := hg
  funext y
  blk_simp [iblk]
  rw [h, up2_apply, up2_apply]
  refine congrArg _ (congrArg g (Fin.ext ?_)) <;> blk_simp [idx t] <;> try omega

variable (hz : m ((c : Thread nD τ).loc main_arg0) = up3 .f32 z) (hM : m ((c : Thread nD τ).loc main_arg1) = ue3 .f32 M)
  (hl : m ((c : Thread nD τ).loc main_arg2) = up2 .f32 l) (hg : m ((c : Thread nD τ).loc main_arg3) = up2 .f32 fun _ : Fin 1 => g)
include hz hM hl hg
/-- What a point leaves, once the point before it has left its batch's state. -/
theorem after (t : Fin cfg0.N)
    (hS : ¬ t.val % 4 = 0 → (outsAt0 m c (t.val - 1) (Nat.lt_of_le_of_lt (Nat.sub_le _ _) t.isLt)).2.2.2
      = carried (low l) (zc z (pb t) 1024) (zc z (pb t) 2048) (p0 t)) :
    (∀ y, (outsAt0 m c t.val t.isLt).1 y = ue2 FTy.bf16 (catB (low l) (zc z (pb t) 1024) (zc z (pb t) 2048) (p0 t) (zc z (pb t) 0) (zc z (pb t) 3072) g (fun r j => flat M (row t r) j)) y)
    ∧ (∀ y, (outsAt0 m c t.val t.isLt).2.1 y = up2 FTy.f32 (outB (low l) (zc z (pb t) 1024) (zc z (pb t) 2048) (p0 t) (zc z (pb t) 0)) y)
    ∧ (∀ y, (outsAt0 m c t.val t.isLt).2.2.1 y = allB (low l) (zc z (pb t) 1024) (zc z (pb t) 2048) (p0 t) y)
    ∧ (∀ y, (outsAt0 m c t.val t.isLt).2.2.2 y = carried (low l) (zc z (pb t) 1024) (zc z (pb t) 2048) (p0 t + 8) y) :=
  HgrnF.outs_at m c t l g (zc z (pb t) 0) (zc z (pb t) 1024) (zc z (pb t) 2048) (zc z (pb t) 3072) (fun r j => flat M (row t r) j) (p0 t)
    (in0 m c z hz t) (in1 m c z hz t) (in2 m c z hz t) (in3 m c z hz t) (in4 m c M hM t) (in5 m c l hl t) (in6 m c g hg t)
    (fun h => by unfold p0; rw [h]) hS
/-- The state that a point finds. -/
theorem before : ∀ n (hn : n < cfg0.N), ¬ n % 4 = 0 → (outsAt0 m c (n - 1) (Nat.lt_of_le_of_lt (Nat.sub_le _ _) hn)).2.2.2
      = carried (low l) (zc z (pb ⟨n, hn⟩) 1024) (zc z (pb ⟨n, hn⟩) 2048) (p0 ⟨n, hn⟩)
  | 0, _, h => absurd rfl h
  | n + 1, hn, h => by
    have a := (after m c z M l g hz hM hl hg ⟨n, Nat.lt_of_succ_lt hn⟩ (before n (Nat.lt_of_succ_lt hn))).2.2.2
    have e : pb ⟨n + 1, hn⟩ = pb ⟨n, Nat.lt_of_succ_lt hn⟩ := Fin.ext (by show (n + 1) / 4 = n / 4; omega)
    have e' : p0 ⟨n + 1, hn⟩ = p0 ⟨n, Nat.lt_of_succ_lt hn⟩ + 8 := by show 8 * ((n + 1) % 4) = 8 * (n % 4) + 8; omega
    rw [e, e']
    exact funext a
theorem at_point (t : Fin cfg0.N) :
    (∀ y, (outsAt0 m c t.val t.isLt).1 y = ue2 FTy.bf16 (catB (low l) (zc z (pb t) 1024) (zc z (pb t) 2048) (p0 t) (zc z (pb t) 0) (zc z (pb t) 3072) g (fun r j => flat M (row t r) j)) y)
    ∧ (∀ y, (outsAt0 m c t.val t.isLt).2.1 y = up2 FTy.f32 (outB (low l) (zc z (pb t) 1024) (zc z (pb t) 2048) (p0 t) (zc z (pb t) 0)) y)
    ∧ (∀ y, (outsAt0 m c t.val t.isLt).2.2.1 y = allB (low l) (zc z (pb t) 1024) (zc z (pb t) 2048) (p0 t) y)
    ∧ (∀ y, (outsAt0 m c t.val t.isLt).2.2.2 y = carried (low l) (zc z (pb t) 1024) (zc z (pb t) 2048) (p0 t + 8) y) := after m c z M l g hz hM hl hg t (before m c z M l g hz hM hl hg t.val t.isLt)
theorem arr7 : (dats m 0 c).arrAt 7 cfg0.N = ue2 .bf16 (cAll l z g M) := by
  refine (dats m 0 c).arrAt_eq_of_covers 7 _ (by decide +kernel) fun t _ y => ?_
  have ht := lt8 t
  blk_simp
  have key : ue2 .bf16 (catB (low l) (zc z (pb t) 1024) (zc z (pb t) 2048) (p0 t) (zc z (pb t) 0) (zc z (pb t) 3072) g (fun r j => flat M (row t r) j)) y
      = ue2 .bf16 (cAll l z g M) (((cfg0.win 7).blk t).view.emb y) := by
    rw [ue2_apply, ue2_apply]
    have e0 : (((cfg0.win 7).blk t).view.emb y) 0 = row t (y 0) := Fin.ext (by blk_simp [idx t]; try simp only [row]; try omega)
    have e1 : (((cfg0.win 7).blk t).view.emb y) 1 = y 1 := Fin.ext (by blk_simp [idx t]; try omega)
    rw [e0, e1]
    have hy : (y 0).val < 512 := (y 0).isLt
    have f0 : bt (row t (y 0)) = pb t := Fin.ext (by show (512 * t.val + (y 0).val) / 2048 = t.val / 4; omega)
    have f1 : ch (row t (y 0)) = p0 t + (y 0).val / 64 := by show (512 * t.val + (y 0).val) % 2048 / 64 = 8 * (t.val % 4) + (y 0).val / 64; omega
    have f2 : rt (row t (y 0)) = ⟨(y 0).val % 64, Nat.mod_lt _ (by norm_num)⟩ := Fin.ext (by show (512 * t.val + (y 0).val) % 64 = (y 0).val % 64; omega)
    unfold catB cAll
    rw [f1, f2]
    simp only [flat]
    rw [f0]
    rfl
  refine Eq.trans ?_ key
  rw [after0_7]
  exact (at_point m c z M l g hz hM hl hg t).1 y
theorem arr8 : (dats m 0 c).arrAt 8 cfg0.N = up2 .f32 (oAll l z) := by
  refine (dats m 0 c).arrAt_eq_of_covers 8 _ (by decide +kernel) fun t _ y => ?_
  have ht := lt8 t
  blk_simp
  have key : up2 .f32 (outB (low l) (zc z (pb t) 1024) (zc z (pb t) 2048) (p0 t) (zc z (pb t) 0)) y
      = up2 .f32 (oAll l z) (((cfg0.win 8).blk t).view.emb y) := by
    rw [up2_apply, up2_apply]
    have e0 : (((cfg0.win 8).blk t).view.emb y) 0 = row t (y 0) := Fin.ext (by blk_simp [idx t]; try simp only [row]; try omega)
    have e1 : (((cfg0.win 8).blk t).view.emb y) 1 = y 1 := Fin.ext (by blk_simp [idx t]; try omega)
    rw [e0, e1]
    have hy : (y 0).val < 512 := (y 0).isLt
    have f0 : bt (row t (y 0)) = pb t := Fin.ext (by show (512 * t.val + (y 0).val) / 2048 = t.val / 4; omega)
    have f1 : ch (row t (y 0)) = p0 t + (y 0).val / 64 := by show (512 * t.val + (y 0).val) % 2048 / 64 = 8 * (t.val % 4) + (y 0).val / 64; omega
    have f2 : rt (row t (y 0)) = ⟨(y 0).val % 64, Nat.mod_lt _ (by norm_num)⟩ := Fin.ext (by show (512 * t.val + (y 0).val) % 64 = (y 0).val % 64; omega)
    unfold outB oAll
    rw [f1, f2, f0]
    rfl
  refine Eq.trans ?_ key
  rw [after0_8]
  exact (at_point m c z M l g hz hM hl hg t).2.1 y
theorem arr9 : (dats m 0 c).arrAt 9 cfg0.N = up5 .f32 (sAll l z) := by
  refine (dats m 0 c).arrAt_eq_of_covers 9 _ (by decide +kernel) fun t _ y => ?_
  have ht := lt8 t
  blk_simp
  have key : allB (low l) (zc z (pb t) 1024) (zc z (pb t) 2048) (p0 t) y = up5 .f32 (sAll l z) (((cfg0.win 9).blk t).view.emb y) := by
    unfold allB
    rw [up5_apply, up5_apply]
    have e0 : (((cfg0.win 9).blk t).view.emb y) 0 = pb t := Fin.ext (by blk_simp [idx t]; try simp only [pb]; try omega)
    have e1 : (((cfg0.win 9).blk t).view.emb y) 1 = y 1 := Fin.ext (by blk_simp [idx t]; try omega)
    have e2 : ((((cfg0.win 9).blk t).view.emb y) 2).val = p0 t + (y 2).val := by blk_simp [idx t]; try simp only [p0]; try omega
    have e3 : (((cfg0.win 9).blk t).view.emb y) 3 = y 3 := Fin.ext (by blk_simp [idx t]; try omega)
    have e4 : (((cfg0.win 9).blk t).view.emb y) 4 = y 4 := Fin.ext (by blk_simp [idx t]; try omega)
    unfold sAll
    rw [e0, e1, e2, e3, e4]
    rfl
  refine Eq.trans ?_ key
  rw [after0_9]
  exact (at_point m c z M l g hz hM hl hg t).2.2.1 y
omit hz hM hl hg in
/-- The run from arguments of real numbers, the memory's outputs free. -/
theorem run (ρ : Dev nD → PrngReg) (z : Dev nD → Fin 2 → Fin 2048 → Fin 5120 → ℝ) (M : Dev nD → Fin 2 → Fin 2048 → Fin 1024 → EReal) (l : Dev nD → Fin 3 → Fin 1024 → ℝ) (g : Dev nD → Fin 128 → ℝ)
    (hz : ∀ c : Dev nD, m ((c : Thread nD τ).loc main_arg0) = up3 .f32 (z c)) (hM : ∀ c : Dev nD, m ((c : Thread nD τ).loc main_arg1) = ue3 .f32 (M c))
    (hl : ∀ c : Dev nD, m ((c : Thread nD τ).loc main_arg2) = up2 .f32 (l c)) (hg : ∀ c : Dev nD, m ((c : Thread nD τ).loc main_arg3) = up2 .f32 fun _ : Fin 1 => g c) :
    θ_run defs (onTc (τ := τ) (main (F := Ideal))) ⟨m, fun _ => 0, ρ⟩ fun r => ∀ c : Dev nD,
      r.2.mem ((c : Thread nD τ).loc main_v3_0) = ue2 .bf16 (cAll (l c) (z c) (g c) (M c))
      ∧ r.2.mem ((c : Thread nD τ).loc main_v3_1) = up2 .f32 (oAll (l c) (z c))
      ∧ r.2.mem ((c : Thread nD τ).loc main_v3_2) = up5 .f32 (sAll (l c) (z c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr7 m c (z c) (M c) (l c) (g c) (hz c) (hM c) (hl c) (hg c)),
      (h c).2.1.trans (arr8 m c (z c) (M c) (l c) (g c) (hz c) (hM c) (hl c) (hg c)),
      (h c).2.2.1.trans (arr9 m c (z c) (M c) (l c) (g c) (hz c) (hM c) (hl c) (hg c)), (h c).2.2.2⟩) (Cert.Kernel14Ideal.Value.run_blocks m ρ)
end Cert.HgrnK
-- ==== Proof.HgrnS.lean ====
module
public import proofs.«01_k».proof.Proof.Gen.Reference14Ideal.Run
public import proofs.«01_k».proof.Proof.Gen.Reference14Ideal.Step
public import Idealize.ShloMosaic.Lib.DynamicIndex
public import Idealize.ShloMosaic.Lib.Pipeline.Value
public import proofs.«01_k».proof.Proof.HgrnA
public import proofs.«01_k».proof.Proof.GateMath
@[expose] public section
set_option maxRecDepth 16384
noncomputable section
namespace Cert.HgrnS
open Idealize.ShloMosaic Idealize.ShloMosaic.TcCoe Idealize.SL.Sem
open Cert.FfnMath Cert.Reference14Ideal Cert.Reference14Ideal.Gen Cert.Reference14Ideal.Value Cert.Lift Cert.HgrnMath Cert.HgrnA

/-- Adding a list's numbers one after the other. -/
theorem foldl_add {ι : Type} (f : ι → EReal) : ∀ (l : List ι) (v : EReal), l.foldl (fun r n => r + f n) v = v + (l.map f).sum
  | [], v => (add_zero v).symm
  | a :: l, v => by
    rw [List.foldl_cons, foldl_add f l, List.map_cons, List.sum_cons, add_assoc]
/-- A windowed sum, as a sum over the window's positions. -/
theorem window_sum {s t : Shape} (w st lo hi : Fin s.rank → ℕ) (h : s.ReduceWindows w st lo hi t) (x : s.Idx → EReal) (v : EReal) (j : t.Idx) :
    Ideal.hostReduceWindowAdd w st lo hi h x v j = v + ∑ k : (⟨s.rank, w⟩ : Shape).Idx,
      (if hin : ∀ a, lo a ≤ (j (a.cast h.1.symm)).val * st a + (k a).val ∧ (j (a.cast h.1.symm)).val * st a + (k a).val - lo a < s.size a
        then x (fun a => ⟨(j (a.cast h.1.symm)).val * st a + (k a).val - lo a, (hin a).2⟩) else v) := by
  unfold Ideal.hostReduceWindowAdd Host.reduceWindow
  dsimp only
  rw [foldl_add, ← Fin.sum_univ_def]
  refine congrArg _ (Eq.trans (Finset.sum_congr rfl fun n _ => ?_) (Equiv.sum_comp (⟨s.rank, w⟩ : Shape).rowMajor.symm fun k => (if hin : ∀ a, lo a ≤ (j (a.cast h.1.symm)).val * st a + (k a).val ∧ (j (a.cast h.1.symm)).val * st a + (k a).val - lo a < s.size a
        then x (fun a => ⟨(j (a.cast h.1.symm)).val * st a + (k a).val - lo a, (hin a).2⟩) else v)))
  by_cases hin : ∀ a, lo a ≤ (j (a.cast h.1.symm)).val * st a + ((⟨s.rank, w⟩ : Shape).rowMajor.symm n a).val ∧ (j (a.cast h.1.symm)).val * st a + ((⟨s.rank, w⟩ : Shape).rowMajor.symm n a).val - lo a < s.size a
  · rw [dif_pos hin, dif_pos hin]
  · rw [dif_neg hin, dif_neg hin]
/-- The running sums over a chunk's rows. -/
theorem cumsum (x : Fin 2 → Fin 8 → Fin 64 → Fin 128 → ℝ) :
    @Eq (FVec Ideal S2x8x64x128 .f32) (Host.reduceWindowAdd ![1, 1, 64, 1] ![1, 1, 1, 1] ![0, 0, 63, 0] ![0, 0, 0, 0] (up4 .f32 x : FVec Ideal S2x8x64x128 .f32)
      (broadcastInDim S_ ![] bcast_S_S_ (constant S_ .f32 0x00000000#32 : FVec Ideal S_ .f32)) reduceWindows_S2x8x64x128_S2x8x64x128_w1s1p0_0_w1s1p0_0_w64s1p63_0_w1s1p0_0 h_S_)
      (up4 .f32 fun b h t d => cum (fun s => x b h s d) t) := by
  funext i
  rw [eq_ix4 i]
  generalize i 0 = b, i 1 = h, i 2 = t, i 3 = d
  change Fin 2 at b
  change Fin 8 at h
  change Fin 64 at t
  change Fin 128 at d
  have z0 : (broadcastInDim S_ ![] bcast_S_S_ (constant S_ .f32 0x00000000#32 : FVec Ideal S_ .f32)) (Shape.Idx.first h_S_) = (0 : EReal) := by
    pointwise
  refine (window_sum ![1, 1, 64, 1] ![1, 1, 1, 1] ![0, 0, 63, 0] ![0, 0, 0, 0] reduceWindows_S2x8x64x128_S2x8x64x128_w1s1p0_0_w1s1p0_0_w64s1p63_0_w1s1p0_0 (up4 .f32 x) _ (ix4 b h t d)).trans ?_
  rw [z0, zero_add, sum_idx4]
  simp only [Fin.sum_univ_one]
  show _ = ((cum (fun s => x b h s d) t : ℝ) : EReal)
  unfold cum
  rw [← coe_sum]
  symm
  refine Fintype.sum_equiv (Equiv.subRight (t + 1)) _ _ fun s => ?_
  have e : ((Equiv.subRight (t + 1)) s).val = (s.val + 63 - t.val) % 64 := by
    show (s - (t + 1)).val = _
    rw [Fin.sub_def, Fin.val_add]
    show (64 - (t.val + 1) % 64 + s.val) % 64 = _
    omega
  generalize (Equiv.subRight (t + 1)) s = n at e
  have hh := h.isLt
  have hd := d.isLt
  have hb := b.isLt
  have ht := t.isLt
  have hs' := s.isLt
  by_cases hs : s.val ≤ t.val
  · rw [if_pos hs, dif_pos]
    · refine congrArg (fun r : ℝ => (r : EReal)) ?_
      have e1 : (⟨b.val * 1 + 0 - 0, by omega⟩ : Fin 2) = b := Fin.ext (by simp)
      have e2 : (⟨h.val * 1 + 0 - 0, by omega⟩ : Fin 8) = h := Fin.ext (by simp)
      have e3 : (⟨t.val * 1 + n.val - 63, by omega⟩ : Fin 64) = s := Fin.ext (by show t.val * 1 + n.val - 63 = s.val; omega)
      have e4 : (⟨d.val * 1 + 0 - 0, by omega⟩ : Fin 128) = d := Fin.ext (by simp)
      exact (congr (congr (congr (congrArg x e1) e2) e3) e4).symm
    · intro a
      fin_cases a
      · show 0 ≤ b.val * 1 + 0 ∧ b.val * 1 + 0 - 0 < 2
        omega
      · show 0 ≤ h.val * 1 + 0 ∧ h.val * 1 + 0 - 0 < 8
        omega
      · show 63 ≤ t.val * 1 + n.val ∧ t.val * 1 + n.val - 63 < 64
        omega
      · show 0 ≤ d.val * 1 + 0 ∧ d.val * 1 + 0 - 0 < 128
        omega
  · rw [if_neg hs, dif_neg]
    · rfl
    · intro q
      have q2 : 63 ≤ t.val * 1 + n.val := (q 2).1
      omega
/-- The first running sum over three rows. -/
theorem cum3 (x : Fin 3 → Fin 1024 → ℝ) (b : Fin 1024) :
    (Host.reduceWindowAdd ![3, 1] ![1, 1] ![2, 0] ![0, 0] (up2 .f32 x : FVec Ideal S3x1024 .f32)
      (broadcastInDim S_ ![] bcast_S_S_ (constant S_ .f32 0x00000000#32 : FVec Ideal S_ .f32)) reduceWindows_S3x1024_S3x1024_w3s1p2_0_w1s1p0_0 h_S_ : FVec Ideal S3x1024 .f32) (ix2 0 b)
      = ((x 0 b : ℝ) : EReal) := by
  have z0 : (broadcastInDim S_ ![] bcast_S_S_ (constant S_ .f32 0x00000000#32 : FVec Ideal S_ .f32)) (Shape.Idx.first h_S_) = (0 : EReal) := by
    pointwise
  refine (window_sum ![3, 1] ![1, 1] ![2, 0] ![0, 0] reduceWindows_S3x1024_S3x1024_w3s1p2_0_w1s1p0_0 (up2 .f32 x) _ (ix2 0 b)).trans ?_
  rw [z0, zero_add, sum_idx2, Fin.sum_univ_three]
  simp only [Fin.sum_univ_one]
  have hb := b.isLt
  rw [dif_neg, dif_neg, dif_pos, zero_add, zero_add]
  · exact congrArg (fun r : ℝ => (r : EReal)) (congrArg (x 0) (Fin.ext (by show b.val * 1 + 0 - 0 = b.val; omega) : (⟨b.val * 1 + 0 - 0, by omega⟩ : Fin 1024) = b))
  · intro a
    fin_cases a
    · show 2 ≤ 0 * 1 + 2 ∧ 0 * 1 + 2 - 2 < 3
      omega
    · show 0 ≤ b.val * 1 + 0 ∧ b.val * 1 + 0 - 0 < 1024
      omega
  · intro q
    have q2 : 2 ≤ 0 * 1 + 1 := (q 0).1
    omega
  · intro q
    have q2 : 2 ≤ 0 * 1 + 0 := (q 0).1
    omega
theorem num : ∀ j : Fin 32, (BitVec.ofNat 32 j.val).toInt = (j.val : ℤ) := by decide +kernel
/-- A trip's slice. -/
theorem slice_at (x : Fin 32 → Fin 2 → Fin 8 → Fin 64 → Fin 128 → ℝ) (j : Fin 32) (n : IVec S_ 32) (hn : n = constantI S_ 32 (BitVec.ofNat 32 j.val)) :
    @Eq (FVec Ideal S2x8x64x128 .f32) (shapeCast S2x8x64x128 (Host.dynamicSlice S1x2x8x64x128 (up5 .f32 x : FVec Ideal S32x2x8x64x128 .f32) (fun k => (((![n, constantI S_ 32 0#32, constantI S_ 32 0#32, constantI S_ 32 0#32, constantI S_ 32 0#32] : Fin 5 → (⟨S_, .i32⟩ : BufTy).Contents (Elt Ideal))) k (Shape.Idx.first h_S_)).toInt) sliceFits_S32x2x8x64x128_S1x2x8x64x128) shapeCasts_S1x2x8x64x128_S2x8x64x128)
      (up4 .f32 (x j)) := by
  subst hn
  have hj := j.isLt
  have hf : S32x2x8x64x128.Slices ![j.val, 0, 0, 0, 0] S1x2x8x64x128 := ⟨rfl, fun a => by fin_cases a <;> simp [S32x2x8x64x128, S1x2x8x64x128] <;> omega⟩
  rw [Host.dynamicSlice_eq_extractStridedSlice _ _ _ ![j.val, 0, 0, 0, 0] _ hf]
  · funext i
    pointwise [up5_apply, up4_apply]
  · intro a
    fin_cases a
    · show (BitVec.ofNat 32 j.val).toInt = (j.val : ℤ)
      exact num j
    all_goals rfl

/-- A trip's update. -/
theorem store_at {n0 n1 n2 n3 : ℕ} (x : FVec Ideal ⟨5, ![32, n0, n1, n2, n3]⟩ .f32) (u : FVec Ideal ⟨5, ![1, n0, n1, n2, n3]⟩ .f32) (j : Fin 32) (n : IVec S_ 32) (hn : n = constantI S_ 32 (BitVec.ofNat 32 j.val))
    (hf : (⟨5, ![32, n0, n1, n2, n3]⟩ : Shape).Slices (fun _ => 0) ⟨5, ![1, n0, n1, n2, n3]⟩)
    (O : Fin 32 → Fin n0 → Fin n1 → Fin n2 → Fin n3 → ℝ) (hu : ∀ a b c d, u (ix5 0 a b c d) = ((O j a b c d : ℝ) : EReal)) (hx : ∀ i : Shape.Idx ⟨5, ![32, n0, n1, n2, n3]⟩, (i 0).val < j.val → x i = up5 .f32 O i)
    (i : Shape.Idx ⟨5, ![32, n0, n1, n2, n3]⟩) (hi : (i 0).val < j.val + 1) :
    Host.dynamicUpdateSlice x u (fun k => (((![n, constantI S_ 32 0#32, constantI S_ 32 0#32, constantI S_ 32 0#32, constantI S_ 32 0#32] : Fin 5 → (⟨S_, .i32⟩ : BufTy).Contents (Elt Ideal))) k (Shape.Idx.first h_S_)).toInt) hf i
      = up5 .f32 O i := by
  subst hn
  have hj := j.isLt
  have sl : (⟨5, ![32, n0, n1, n2, n3]⟩ : Shape).Slices ![j.val, 0, 0, 0, 0] ⟨5, ![1, n0, n1, n2, n3]⟩ := ⟨rfl, fun a => by fin_cases a <;> simp <;> omega⟩
  refine (congrFun (Host.dynamicUpdateSlice_eq_updateSlice (α := EReal) (s := ⟨5, ![32, n0, n1, n2, n3]⟩) (u := ⟨5, ![1, n0, n1, n2, n3]⟩) _ _ _ _ ![j.val, 0, 0, 0, 0] ?_ sl) i).trans ?_
  rotate_left
  · rw [updateSlice_apply]
    by_cases h : (i 0).val = j.val
    · rw [dif_pos]
      · have e0 : i 0 = j := Fin.ext h
        refine Eq.trans (congrArg u ?_) ((hu (i 1) (i 2) (i 3) (i 4)).trans (congrArg (fun k : Fin 32 => ((O k (i 1) (i 2) (i 3) (i 4) : ℝ) : EReal)) e0.symm))
        refine (Shape.Idx.norm5 _).trans ?_
        refine congr (congr (congr (congr (congrArg ix5 (Fin.ext ?_)) (Fin.ext ?_)) (Fin.ext ?_)) (Fin.ext ?_)) (Fin.ext ?_)
        · show (i 0).val - j.val = 0
          omega
        all_goals rfl
      · intro a
        fin_cases a
        · show j.val ≤ (i 0).val ∧ (i 0).val < j.val + 1
          omega
        · exact ⟨Nat.zero_le _, by have : (i 1).val < n0 := (i 1).isLt; show (i 1).val < 0 + n0; omega⟩
        · exact ⟨Nat.zero_le _, by have : (i 2).val < n1 := (i 2).isLt; show (i 2).val < 0 + n1; omega⟩
        · exact ⟨Nat.zero_le _, by have : (i 3).val < n2 := (i 3).isLt; show (i 3).val < 0 + n2; omega⟩
        · exact ⟨Nat.zero_le _, by have : (i 4).val < n3 := (i 4).isLt; show (i 4).val < 0 + n3; omega⟩
    · rw [dif_neg]
      · exact hx i (by omega)
      · intro q
        have q2 : j.val ≤ (i 0).val := (q 0).1
        omega
  · intro a
    fin_cases a
    · show (min (max ((BitVec.ofNat 32 j.val).toInt) 0) ((32 - 1 : ℕ) : ℤ)).toNat = j.val
      rw [num j]
      omega
    all_goals show (min (max (0 : ℤ) 0) _).toNat = 0; simp

variable (l : Fin 3 → Fin 1024 → ℝ) (z : Fin 2 → Fin 2048 → Fin 5120 → ℝ)
/-- The queries, keys, values and logarithms of the gates, of a chunk, a batch and a head. -/
def cq (n : Fin 32) (b : Fin 2) (h : Fin 8) (t : Fin 64) (d : Fin 128) : ℝ := zc z b 0 n t (col (128 * h) d) * sg (zc z b 0 n t (col (128 * h) d))
def ck (n : Fin 32) (b : Fin 2) (h : Fin 8) (t : Fin 64) (d : Fin 128) : ℝ := 1 - gate (low l (col (128 * h) d)) (zc z b 1024 n t (col (128 * h) d))
def cv (n : Fin 32) (b : Fin 2) (h : Fin 8) (t : Fin 64) (d : Fin 128) : ℝ := zc z b 2048 n t (col (128 * h) d)
def cl (n : Fin 32) (b : Fin 2) (h : Fin 8) (t : Fin 64) (d : Fin 128) : ℝ := Real.log (gate (low l (col (128 * h) d)) (zc z b 1024 n t (col (128 * h) d)))
/-- The mask of the positions not after a row. -/
theorem mask_at (a t : Fin 64) : Step.K_main_v50 (F := Ideal) (ix2 a t) = if t.val ≤ a.val then 1#1 else 0#1 := by
  have h : ∀ a t : Fin 64, Scalar.select (IntOp.cmpi .sge (IntOp.addi (BitVec.ofNat 32 a.val) 0#32) (BitVec.ofNat 32 t.val)) 1#1 0#1 = if t.val ≤ a.val then 1#1 else 0#1 := by decide +kernel
  pointwise [Step.K_main_v50, Step.K_main_v49, Step.K_main_call2_v5, Step.K_main_call2_v4, Step.K_main_call2_v3, Step.K_main_call2_v2, Step.K_main_call2_v1, Step.K_main_call2_v0, Step.K_main_c, Step.K_main_call2_c, Step.K_main_call2_c_0]
  exact h a t
/-- What the contents before trip `j` hold. -/
structure Holds (V : Valuation τ sig (Elt Ideal)) (j : ℕ) : Prop where
  h0 : V (Proc.devRef .tc main_v54_0) = up5 .f32 (cq z)
  h1 : V (Proc.devRef .tc main_v54_1) = up5 .f32 (ck l z)
  h2 : V (Proc.devRef .tc main_v54_2) = up5 .f32 (cv z)
  h3 : V (Proc.devRef .tc main_v54_3) = up5 .f32 (cl l z)
  h4 : V (Proc.devRef .tc main_v54_4) = Step.K_main_v50
  h5 : V (Proc.devRef .tc main_v54_5) = constantI S_ 32 (BitVec.ofNat 32 j)
  h6 : V (Proc.devRef .tc main_v54_6) = up4 .f32 fun (b : Fin 2) (h : Fin 8) => sc l z b h.val j
  h7 : ∀ i : S32x2x8x64x128.Idx, (i 0).val < j → V (Proc.devRef .tc main_v54_7) i = up5 .f32 (fun (n : Fin 32) (b : Fin 2) (h : Fin 8) => oc l z b h.val n.val) i
  h8 : ∀ i : S32x2x8x128x128.Idx, (i 0).val < j → V (Proc.devRef .tc main_v54_8) i = up5 .f32 (fun (n : Fin 32) (b : Fin 2) (h : Fin 8) => sc l z b h.val n.val) i
section trip
variable {V : Valuation τ sig (Elt Ideal)} {j : Fin 32} (H : Holds l z V j.val)
include H
theorem v86 : res_main_while0b_v86 V = up4 .f32 (ck l z j) := by
  unfold res_main_while0b_v86
  rw [H.h1]
  exact slice_at _ j _ H.h5
theorem v87 : res_main_while0b_v87 V = up4 .f32 (cv z j) := by
  unfold res_main_while0b_v87
  rw [H.h2]
  exact slice_at _ j _ H.h5
theorem v89 : res_main_while0b_v89 V = up4 .f32 (fun b h t d => cm (low l) (zc z b 1024 j) t (col (128 * h) d)) := by
  unfold res_main_while0b_v89
  rw [H.h3]
  exact (congrArg (fun u : FVec Ideal S2x8x64x128 .f32 => (Host.reduceWindowAdd ![1, 1, 64, 1] ![1, 1, 1, 1] ![0, 0, 63, 0] ![0, 0, 0, 0] u
    (broadcastInDim S_ ![] bcast_S_S_ (constant S_ .f32 0x00000000#32 : FVec Ideal S_ .f32)) reduceWindows_S2x8x64x128_S2x8x64x128_w1s1p0_0_w1s1p0_0_w64s1p63_0_w1s1p0_0 h_S_ : FVec Ideal S2x8x64x128 .f32)) (slice_at _ j _ H.h5)).trans (cumsum _)
theorem v90 : res_main_while0b_v90 V = up4 .f32 (fun b h (_ : Fin 1) d => cm (low l) (zc z b 1024 j) 63 (col (128 * h) d)) := by
  funext i
  unfold res_main_while0b_v90
  rw [v89 l z H]
  pointwise [up4_apply]
theorem v92 : res_main_while0b_v92 V = up4 .f32 (fun b h t d => Aq (low l) (zc z b 0 j) (zc z b 1024 j) t (col (128 * h) d)) := by
  unfold res_main_while0b_v92
  rw [H.h0, v89 l z H]
  refine (congrArg (fun u : FVec Ideal S2x8x64x128 .f32 => mulf u (Host.exp (up4 .f32 fun b h t d => cm (low l) (zc z b 1024 j) t (col (128 * h) d)))) (slice_at _ j _ H.h5)).trans ?_
  funext i
  pointwise [up4_apply]
  rfl
theorem next : step_main_v54_6 V = up4 .f32 fun (b : Fin 2) (h : Fin 8) => sc l z b h.val (j.val + 1) := by
  unfold step_main_v54_6
  rw [v86 l z H, v87 l z H, v89 l z H, v90 l z H, H.h6]
  refine (funext fun (i : S2x8x128x128.Idx) => ?_ : @Eq (FVec Ideal S2x8x128x128 .f32) (addf _ _) _)
  rw [eq_ix4 i]
  generalize i 0 = b, i 1 = h, i 2 = e, i 3 = d
  change Fin 2 at b
  change Fin 8 at h
  change Fin 128 at e
  change Fin 128 at d
  pointwise [up4_apply]
  simp only [← EReal.coe_mul, ← EReal.coe_neg, ← EReal.coe_sub, ← EReal.coe_add, coe_sum, Ideal.exp_coe, zero_add]
  refine congrArg (fun r : ℝ => (r : EReal)) ?_
  show _ = nextF (low l) (zc z b 1024 j) (zc z b 2048 j) (128 * h.val) (sc l z b h j) e d
  unfold nextF
  refine congrArg₂ (· + ·) (mul_comm _ _) (Finset.sum_congr rfl fun t _ => (mul_comm _ _))
theorem out : step_main_v54_7 V = Host.dynamicUpdateSlice (V (Proc.devRef .tc main_v54_7)) (broadcastInDim S1x2x8x64x128 ![1, 2, 3, 4] bcast_S2x8x64x128_S1x2x8x64x128_1_2_3_4 (up4 .f32 fun (b : Fin 2) (h : Fin 8) => oc l z b h.val j.val))
    (fun k => (((![V (Proc.devRef .tc main_v54_5), constantI S_ 32 0#32, constantI S_ 32 0#32, constantI S_ 32 0#32, constantI S_ 32 0#32] : Fin 5 → (⟨S_, .i32⟩ : BufTy).Contents (Elt Ideal))) k (Shape.Idx.first h_S_)).toInt) updateFits_S32x2x8x64x128_S1x2x8x64x128 := by
  unfold step_main_v54_7
  rw [v86 l z H, v87 l z H, v89 l z H, v92 l z H, H.h6, H.h4]
  refine congrArg (fun u : FVec Ideal S2x8x64x128 .f32 => Host.dynamicUpdateSlice (V (Proc.devRef .tc main_v54_7)) (broadcastInDim S1x2x8x64x128 ![1, 2, 3, 4] bcast_S2x8x64x128_S1x2x8x64x128_1_2_3_4 u)
    (fun k => (((![V (Proc.devRef .tc main_v54_5), constantI S_ 32 0#32, constantI S_ 32 0#32, constantI S_ 32 0#32, constantI S_ 32 0#32] : Fin 5 → (⟨S_, .i32⟩ : BufTy).Contents (Elt Ideal))) k (Shape.Idx.first h_S_)).toInt) updateFits_S32x2x8x64x128_S1x2x8x64x128) ?_
  funext i
  rw [eq_ix4 i]
  generalize i 0 = b, i 1 = h, i 2 = t, i 3 = d
  change Fin 2 at b
  change Fin 8 at h
  change Fin 64 at t
  change Fin 128 at d
  pointwise [up4_apply]
  simp only [mask_at, Cert.GateMath.sel_bit, ← EReal.coe_neg, ← EReal.coe_mul, ← EReal.coe_sub, ← EReal.coe_add, coe_sum, Ideal.exp_coe, zero_add]
  have z0 : (id (constant S_ .f32 0x00000000#32 : FVec Ideal S_ .f32)) ix0 = ((0 : ℝ) : EReal) := by
    show (constant S_ .f32 0x00000000#32 : FVec Ideal S_ .f32) ix0 = _
    pointwise
    rfl
  simp only [z0, ← apply_ite (fun r : ℝ => (r : EReal)), ← EReal.coe_mul, coe_sum, ← EReal.coe_add]
  refine congrArg (fun r : ℝ => (r : EReal)) ?_
  show _ = outF (low l) (zc z b 0 j) (zc z b 1024 j) (zc z b 2048 j) (128 * h.val) (sc l z b h j) t d
  unfold outF
  refine congrArg₂ (· + ·) (Finset.sum_congr rfl fun s _ => ?_) rfl
  rw [ite_mul, zero_mul]
  rfl
theorem trip : Holds l z (STEP V) (j.val + 1) where
  h0 := (STEP_main_v54_0 V).trans H.h0
  h1 := (STEP_main_v54_1 V).trans H.h1
  h2 := (STEP_main_v54_2 V).trans H.h2
  h3 := (STEP_main_v54_3 V).trans H.h3
  h4 := (STEP_main_v54_4 V).trans H.h4
  h5 := by
    rw [STEP_main_v54_5]
    unfold step_main_v54_5
    rw [H.h5]
    funext i
    show BitVec.ofNat 32 j.val + 1#32 = BitVec.ofNat 32 (j.val + 1)
    rw [BitVec.ofNat_add]
  h6 := (STEP_main_v54_6 V).trans (next l z H)
  h7 i hi := by
    rw [STEP_main_v54_7, out l z H]
    exact store_at _ _ j _ H.h5 _ _ (fun a b c d => by pointwise [up4_apply]) H.h7 i hi
  h8 i hi := by
    rw [STEP_main_v54_8]
    unfold step_main_v54_8
    rw [H.h6]
    exact store_at _ _ j _ H.h5 _ _ (fun a b c d => by pointwise [up4_apply]) H.h8 i hi
end trip
theorem trips {V : Valuation τ sig (Elt Ideal)} (H : Holds l z V 0) : ∀ k, k ≤ 32 → Holds l z (STEP^[k] V) k
  | 0, _ => H
  | k + 1, hk => by
    rw [Function.iterate_succ_apply']
    exact trip l z (j := ⟨k, by omega⟩) (trips H k (by omega))
end Cert.HgrnS
-- ==== Proof.HgrnR.lean ====
module
public import proofs.«01_k».proof.Proof.HgrnS
@[expose] public section
set_option maxRecDepth 16384
noncomputable section
namespace Cert.HgrnR
open Idealize.ShloMosaic Idealize.ShloMosaic.TcCoe Idealize.SL.Sem
open Idealize.ShloMosaic.StableHlo
open Cert.Reference14Ideal Cert.Reference14Ideal.Gen Cert.Reference14Ideal.Value Cert.Reference14Ideal.Step Cert.Lift Cert.HgrnMath Cert.HgrnA Cert.HgrnS Cert.FfnMath Cert.AttnMath

variable (l : Fin 3 → Fin 1024 → ℝ) (z : Fin 2 → Fin 2048 → Fin 5120 → ℝ)
theorem sg_div (x : ℝ) : Ideal.div 1 (1 + Ideal.exp (-(x : EReal))) = ((sg x : ℝ) : EReal) := by
  simp only [← EReal.coe_neg, Ideal.exp_coe]
  rw [← EReal.coe_one, ← EReal.coe_add, div_coe' _ _ (by have := Real.exp_pos (-x); positivity), one_mul]
  rfl
theorem col_at (h : Fin 8) (d : Fin 128) (hb : h.val * 128 + d.val < 1024) : col (128 * h.val) d = ⟨h.val * 128 + d.val, hb⟩ :=
  Fin.ext (by show (128 * h.val + d.val) % 1024 = h.val * 128 + d.val; omega)
theorem zc_at (o : ℕ) (ho : o + 1024 ≤ 5120) (b : Fin 2) (n : Fin 32) (t : Fin 64) (h : Fin 8) (d : Fin 128) (h1 : n.val * 64 + t.val < 2048) (h2 : o + (h.val * 128 + d.val) < 5120) :
    zc z b o n t (col (128 * h) d) = z b ⟨n.val * 64 + t.val, h1⟩ ⟨o + (h.val * 128 + d.val), h2⟩ := by
  unfold zc
  refine congrArg₂ (z b) (Fin.ext ?_) (Fin.ext ?_)
  · show (64 * n.val + t.val) % 2048 = n.val * 64 + t.val
    omega
  · show (o + (128 * h.val + d.val) % 1024) % 5120 = o + (h.val * 128 + d.val)
    omega
theorem a2 : A_main_v2 (F := Ideal) (up3 .f32 z) (up2 .f32 l) = up1 .f32 (fun b => top fun r => l r b) := by
  funext i
  pointwise [A_main_v2, A_main_v0, K_main_v1, K_main_cst_0, K_main_cst, up1_apply, up2_apply]
  rw [c_neg_inf, fold_max_coe]
  exact max_eq_right bot_le
theorem a10 : A_main_v10 (F := Ideal) (up3 .f32 z) (up2 .f32 l) = up2 .f32 (fun r b => prob (fun r => l r b) r) := by
  funext i
  pointwise [A_main_v10, A_main_v9, A_main_v8, A_main_v7, A_main_v6, A_main_v5, A_main_v4, A_main_v3, K_main_cst_1, a2, up1_apply, up2_apply]
  simp only [← EReal.coe_sub, Ideal.exp_coe, coe_sum, zero_add]
  exact div_coe' _ _ (tot_pos _).ne'
theorem a19 : A_main_v19 (F := Ideal) (up3 .f32 z) (up2 .f32 l) = up2 .f32 (fun _ : Fin 1 => low l) := by
  funext i
  have h := cum3 (fun r b => prob (fun r => l r b) r) (i 1)
  unfold A_main_v19 A_main_v11
  rw [a10]
  pointwise [up2_apply]
  exact h
theorem a21 : A_main_v21 (F := Ideal) (up3 .f32 z) (up2 .f32 l) = up2 .f32 (fun (h : Fin 8) d => low l (col (128 * h) d)) := by
  funext i
  pointwise [A_main_v21, A_main_v20, a19, up2_apply]
  exact congrArg (fun k => ((low l k : ℝ) : EReal)) (col_at (i 0) (i 1) _).symm
theorem a18 : A_main_v18 (F := Ideal) (up3 .f32 z) (up2 .f32 l) = up4 .f32 (fun b t h d => z b t ⟨h.val * 128 + d.val, by omega⟩ * sg (z b t ⟨h.val * 128 + d.val, by omega⟩)) := by
  funext i
  pointwise [A_main_v18, A_main_v17, A_main_call1_v5, A_main_call1_v3, A_main_call1_v1, A_main_call1_v0, K_main_call1_v2, K_main_call1_v4, K_main_call1_cst, K_main_call1_cst_0, A_main_v12, up3_apply, up4_apply]
  rw [sg_div, ← EReal.coe_mul]
theorem a36 : A_main_v36 (F := Ideal) (up3 .f32 z) (up2 .f32 l) = up4 .f32 (fun b t (h : Fin 8) d => gate (low l (col (128 * h) d)) (z b t ⟨1024 + (h.val * 128 + d.val), by omega⟩)) := by
  funext i
  pointwise [A_main_v36, A_main_v35, A_main_v34, A_main_v33, A_main_v32, A_main_v31, A_main_v30, A_main_v28, A_main_v26, A_main_v25, A_main_v24, A_main_v23, A_main_v13, K_main_v29, K_main_v27, K_main_v22, K_main_cst_2, K_main_cst_3, K_main_cst_4, a21, up2_apply, up3_apply, up4_apply]
  rw [sg_div, ← EReal.coe_one, ← EReal.coe_sub, ← EReal.coe_mul, ← EReal.coe_add]
  rfl
theorem a42 : A_main_v42 (F := Ideal) (up3 .f32 z) (up2 .f32 l) = up5 .f32 (cq z) := by
  funext i
  pointwise [A_main_v42, A_main_v41, a18, up4_apply, up5_apply]
  have e := (zc_at z 0 (by norm_num) (i 1) (i 0) (i 3) (i 2) (i 4) (by have : (i 0).val < 32 := (i 0).isLt; have : (i 3).val < 64 := (i 3).isLt; omega) (by have : (i 2).val < 8 := (i 2).isLt; have : (i 4).val < 128 := (i 4).isLt; omega))
  simp only [Nat.zero_add] at e
  exact congrArg (fun x : ℝ => ((x * sg x : ℝ) : EReal)) e.symm
theorem a44 : A_main_v44 (F := Ideal) (up3 .f32 z) (up2 .f32 l) = up5 .f32 (ck l z) := by
  funext i
  pointwise [A_main_v44, A_main_v43, A_main_v38, K_main_v37, K_main_cst_5, a36, up4_apply, up5_apply]
  rw [← EReal.coe_one, ← EReal.coe_sub]
  exact congrArg (fun x : ℝ => ((1 - gate (low l (col (128 * (i 2).val) (i 4))) x : ℝ) : EReal)) (zc_at z 1024 (by norm_num) (i 1) (i 0) (i 3) (i 2) (i 4) (by have : (i 0).val < 32 := (i 0).isLt; have : (i 3).val < 64 := (i 3).isLt; omega) (by have : (i 2).val < 8 := (i 2).isLt; have : (i 4).val < 128 := (i 4).isLt; omega)).symm
theorem a46 : A_main_v46 (F := Ideal) (up3 .f32 z) (up2 .f32 l) = up5 .f32 (cv z) := by
  funext i
  pointwise [A_main_v46, A_main_v45, A_main_v39, A_main_v14, up3_apply, up5_apply]
  exact congrArg (fun x : ℝ => ((x : ℝ) : EReal)) (zc_at z 2048 (by norm_num) (i 1) (i 0) (i 3) (i 2) (i 4) (by have : (i 0).val < 32 := (i 0).isLt; have : (i 3).val < 64 := (i 3).isLt; omega) (by have : (i 2).val < 8 := (i 2).isLt; have : (i 4).val < 128 := (i 4).isLt; omega)).symm
theorem a48 : A_main_v48 (F := Ideal) (up3 .f32 z) (up2 .f32 l) = up5 .f32 (cl l z) := by
  funext i
  pointwise [A_main_v48, A_main_v47, A_main_v40, a36, up4_apply, up5_apply]
  refine ((Ideal.log_coe _).trans (if_neg (not_le.2 (gate_pos ⟨low_pos _ _, low_le _ _⟩ _)))).trans ?_
  exact congrArg (fun x : ℝ => ((Real.log (gate (low l (col (128 * (i 2).val) (i 4))) x) : ℝ) : EReal)) (zc_at z 1024 (by norm_num) (i 1) (i 0) (i 3) (i 2) (i 4) (by have : (i 0).val < 32 := (i 0).isLt; have : (i 3).val < 64 := (i 3).isLt; omega) (by have : (i 2).val < 8 := (i 2).isLt; have : (i 4).val < 128 := (i 4).isLt; omega)).symm

variable (m : (ℓ : Loc nD τ sig) → Buf (Elt Ideal) ℓ) (c : Dev nD)
theorem entry (hz : m ((c.tc : Thread nD τ).loc main_arg0) = up3 .f32 z) (hl : m ((c.tc : Thread nD τ).loc main_arg2) = up2 .f32 l) :
    Holds l z (entryContents preI m c) 0 := by
  have e0 : entryContents preI m c (Proc.devRef .tc main_v54_0) = A_main_v42 (m ((c.tc : Thread nD τ).loc main_arg0)) (m ((c.tc : Thread nD τ).loc main_arg2)) := by
    simp only [entryContents, afterL_cons, afterL_nil]
    after_reads_simp
    rfl
  have e1 : entryContents preI m c (Proc.devRef .tc main_v54_1) = A_main_v44 (m ((c.tc : Thread nD τ).loc main_arg0)) (m ((c.tc : Thread nD τ).loc main_arg2)) := by
    simp only [entryContents, afterL_cons, afterL_nil]
    after_reads_simp
    rfl
  have e2 : entryContents preI m c (Proc.devRef .tc main_v54_2) = A_main_v46 (m ((c.tc : Thread nD τ).loc main_arg0)) (m ((c.tc : Thread nD τ).loc main_arg2)) := by
    simp only [entryContents, afterL_cons, afterL_nil]
    after_reads_simp
    rfl
  have e3 : entryContents preI m c (Proc.devRef .tc main_v54_3) = A_main_v48 (m ((c.tc : Thread nD τ).loc main_arg0)) (m ((c.tc : Thread nD τ).loc main_arg2)) := by
    simp only [entryContents, afterL_cons, afterL_nil]
    after_reads_simp
    rfl
  have e4 : entryContents preI m c (Proc.devRef .tc main_v54_4) = K_main_v50 := by
    simp only [entryContents, afterL_cons, afterL_nil]
    after_reads_simp
    rfl
  have e5 : entryContents preI m c (Proc.devRef .tc main_v54_5) = K_main_c_9 := by
    simp only [entryContents, afterL_cons, afterL_nil]
    after_reads_simp
    rfl
  have e6 : entryContents preI m c (Proc.devRef .tc main_v54_6) = K_main_v51 := by
    simp only [entryContents, afterL_cons, afterL_nil]
    after_reads_simp
    rfl
  rw [hz, hl] at e0 e1 e2 e3
  exact
    { h0 := e0.trans (a42 l z), h1 := e1.trans (a44 l z), h2 := e2.trans (a46 l z), h3 := e3.trans (a48 l z), h4 := e4, h5 := e5
      h6 := e6.trans (by
        funext i
        pointwise [K_main_v51, K_main_cst_6, up4_apply]
        rfl)
      h7 := fun i h => absurd h (Nat.not_lt_zero _), h8 := fun i h => absurd h (Nat.not_lt_zero _) }
theorem ch_eq (r : Fin 4096) : r.val / 64 % 32 = ch r := by unfold ch; omega
theorem gate_div (g y : Fin 128 → ℝ) (x : ℝ) (w : Fin 128) :
    (y w : EReal) * Ideal.rsqrt (Ideal.div (∑ k, (y k : EReal) * (y k : EReal)) (Ideal.ofBits .f32 0x43000000#32) + Ideal.ofBits .f32 0x358637BD#32) * (g w : EReal)
      * ((x : EReal) * Ideal.div 1 (1 + Ideal.exp (-(x : EReal)))) = ((gated g y x w : ℝ) : EReal) := by
  rw [sg_div, c128, c_eps]
  simp only [← EReal.coe_mul, coe_sum]
  rw [div_coe' _ _ (by norm_num), ← EReal.coe_add, show (∑ k, y k * y k) * (1 / 128) + eps = ms128 y from rfl, rsqrt_pos _ (ms128_pos y)]
  simp only [← EReal.coe_mul]
  rfl
theorem cAll_lt (g : Fin 128 → ℝ) (M : Fin 2 → Fin 2048 → Fin 1024 → EReal) (r : Fin 4096) (j : Fin 2048) (h : j.val < 1024) :
    cAll l z g M r j = ((gated g (oc l z ⟨r.val / 2048, by omega⟩ (j.val / 128) (r.val % 2048 / 64) ⟨r.val % 2048 % 64, by omega⟩)
      (z ⟨r.val / 2048, by omega⟩ ⟨r.val % 2048, by omega⟩ ⟨3072 + (j.val / 128 * 128 + j.val % 128), by omega⟩) ⟨j.val % 128, by omega⟩ : ℝ) : EReal) := by
  have e1 : rt r = ⟨r.val % 2048 % 64, by omega⟩ := Fin.ext (by show r.val % 64 = r.val % 2048 % 64; omega)
  have e2 : zc z (bt r) 3072 (ch r) (rt r) ⟨j.val, h⟩ = z ⟨r.val / 2048, by omega⟩ ⟨r.val % 2048, by omega⟩ ⟨3072 + (j.val / 128 * 128 + j.val % 128), by omega⟩ := by
    unfold zc
    refine congrArg₂ (z (bt r)) (Fin.ext ?_) (Fin.ext ?_)
    · show (64 * (r.val % 2048 / 64) + r.val % 64) % 2048 = r.val % 2048
      omega
    · show (3072 + j.val) % 5120 = 3072 + (j.val / 128 * 128 + j.val % 128)
      omega
  unfold cAll
  rw [dif_pos h, e2, e1]
  rfl
theorem cAll_ge (g : Fin 128 → ℝ) (M : Fin 2 → Fin 2048 → Fin 1024 → EReal) (r : Fin 4096) (j : Fin 2048) (h : ¬ j.val < 1024) :
    cAll l z g M r j = M ⟨r.val / 2048, by omega⟩ ⟨r.val % 2048, by omega⟩ ⟨j.val - 1024, by omega⟩ := by
  unfold cAll
  rw [dif_neg h]
  rfl
section res
variable {V : Valuation τ sig (Elt Ideal)} (H : Holds l z V 32)
include H
theorem outs_all : @Eq (FVec Ideal S32x2x8x64x128 .f32) (V (Proc.devRef .tc main_v54_7)) (up5 .f32 (fun (n : Fin 32) (b : Fin 2) (h : Fin 8) => oc l z b h.val n.val)) := funext fun i => H.h7 i (i 0).isLt
theorem states_all : @Eq (FVec Ideal S32x2x8x128x128 .f32) (V (Proc.devRef .tc main_v54_8)) (up5 .f32 (fun (n : Fin 32) (b : Fin 2) (h : Fin 8) => sc l z b h.val n.val)) := funext fun i => H.h8 i (i 0).isLt
/-- The states before each chunk. -/
theorem r84 : out_main_v84 V = up5 .f32 (sAll l z) := by
  unfold out_main_v84
  rw [states_all l z H]
  refine (funext fun (i : S2x8x32x128x128.Idx) => ?_ : @Eq (FVec Ideal S2x8x32x128x128 .f32) _ _)
  pointwise [up5_apply]
  rfl
/-- The outputs before the norm. -/
theorem r83 : out_main_v83 V = up2 .f32 (oAll l z) := by
  unfold out_main_v83
  rw [outs_all l z H]
  refine (funext fun (i : S4096x1024.Idx) => ?_ : @Eq (FVec Ideal S4096x1024 .f32) _ _)
  pointwise [up5_apply, up2_apply]
  unfold oAll
  exact congrArg (fun n : ℕ => ((oc l z (bt (i 0)) ((i 1).val / 128) n (rt (i 0)) ⟨(i 1).val % 128, Nat.mod_lt _ (by norm_num)⟩ : ℝ) : EReal)) (ch_eq (i 0))
/-- The gated outputs beside the memory's. -/
theorem r82 (g : Fin 128 → ℝ) (M : Fin 2 → Fin 2048 → Fin 1024 → EReal) (e0 : V (Proc.devRef .tc main_arg0) = up3 .f32 z) (e1 : V (Proc.devRef .tc main_arg1) = ue3 .f32 M)
    (e3 : V (Proc.devRef .tc main_arg3) = up2 .f32 fun _ : Fin 1 => g) : out_main_v82 V = ue2 .bf16 (cAll l z g M) := by
  unfold out_main_v82
  rw [outs_all l z H, e0, e1, e3]
  refine (funext fun (i : S4096x2048.Idx) => ?_ : @Eq (FVec Ideal S4096x2048 .bf16) _ _)
  by_cases h : (i 1).val < 1024
  · pointwise [up5_apply, up3_apply, up2_apply, ue3_apply, ue2_apply, h]
    exact (gate_div g _ _ _).trans (cAll_lt l z g M (i 0) (i 1) h).symm
  · pointwise [up5_apply, up3_apply, up2_apply, ue3_apply, ue2_apply, h]
    exact (cAll_ge l z g M (i 0) (i 1) h).symm
end res

set_option maxHeartbeats 4000000 in
/-- The run from arguments of real numbers, the memory's outputs free. -/
theorem run (m : (ℓ : Loc nD τ sig) → Buf (Elt Ideal) ℓ) (ρ : Dev nD → PrngReg) (z : Dev nD → Fin 2 → Fin 2048 → Fin 5120 → ℝ) (M : Dev nD → Fin 2 → Fin 2048 → Fin 1024 → EReal) (l : Dev nD → Fin 3 → Fin 1024 → ℝ) (g : Dev nD → Fin 128 → ℝ)
    (hz : ∀ c : Dev nD, m ((c.tc : Thread nD τ).loc main_arg0) = up3 .f32 (z c)) (hM : ∀ c : Dev nD, m ((c.tc : Thread nD τ).loc main_arg1) = ue3 .f32 (M c))
    (hl : ∀ c : Dev nD, m ((c.tc : Thread nD τ).loc main_arg2) = up2 .f32 (l c)) (hg : ∀ c : Dev nD, m ((c.tc : Thread nD τ).loc main_arg3) = up2 .f32 fun _ : Fin 1 => g c) :
    θ_run defs (onTc (τ := τ) (main (F := Ideal))) ⟨m, fun _ => 0, ρ⟩ fun r => ∀ c : Dev nD,
      r.2.mem ((c.tc : Thread nD τ).loc main_v82) = ue2 .bf16 (cAll (l c) (z c) (g c) (M c))
      ∧ r.2.mem ((c.tc : Thread nD τ).loc main_v83) = up2 .f32 (oAll (l c) (z c))
      ∧ r.2.mem ((c.tc : Thread nD τ).loc main_v84) = up5 .f32 (sAll (l c) (z c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference14Ideal.Value.run m ρ)
  obtain ⟨h0, h1, h2, h3⟩ := h c
  have H := trips (l c) (z c) (entry (l c) (z c) m c (hz c) (hl c)) 32 le_rfl
  exact ⟨h0.trans (r82 _ _ H (g c) (M c) ((iter_main_arg0 m c 32).trans (hz c)) ((iter_main_arg1 m c 32).trans (hM c)) ((iter_main_arg3 m c 32).trans (hg c))),
    h1.trans (r83 _ _ H), h2.trans (r84 _ _ H), h3⟩
end Cert.HgrnR
-- ==== Proof.Hgrn.lean ====
module
public import proofs.«01_k».proof.Defs
public import proofs.«01_k».proof.Proof.Gen.Kernel14
public import proofs.«01_k».proof.Proof.Gen.Kernel14.Frame
public import proofs.«01_k».proof.Proof.Gen.Pre_finite14
public import proofs.«01_k».proof.Proof.HgrnK
public import proofs.«01_k».proof.Proof.HgrnR
public import Idealize.ShloMosaic.Adequacy
public import Idealize.ShloMosaic.Init
public import Idealize.ShloMosaic.Lib.Quiescent
@[expose] public section
set_option maxRecDepth 16384
noncomputable section
namespace Cert.Hgrn
open Idealize.ShloMosaic Idealize.ShloMosaic.TcCoe Idealize.SL.Sem Cert.Lift

/-- The precondition says that the arguments it speaks of are arrays of real numbers. -/
theorem real (z : FVec Ideal Cert.Pre_finite14.S2x2048x5120 .f32)
    (M : FVec Ideal Cert.Pre_finite14.S2x2048x1024 .f32)
    (l : FVec Ideal Cert.Pre_finite14.S3x1024 .f32)
    (g : FVec Ideal Cert.Pre_finite14.S1x128 .f32)
    (h : @Cert.Pre_finite14.fn Cert.Pre_finite14.Gen.facts Ideal _ z M l g = fun _ => 1#1) :
    ∃ (z' : Fin 2 → Fin 2048 → Fin 5120 → ℝ) (M' : Fin 2 → Fin 2048 → Fin 1024 → EReal) (l' : Fin 3 → Fin 1024 → ℝ) (g' : Fin 1 → Fin 128 → ℝ),
      z = up3 .f32 z' ∧ M = ue3 .f32 M' ∧ l = up2 .f32 l' ∧ g = up2 .f32 g' := by
  have h0 := congrFun h (fun a => a.elim0)
  dsimp only [Cert.Pre_finite14.fn] at h0
  obtain ⟨a1, b1⟩ := and_one h0
  obtain ⟨a2, b2⟩ := and_one a1
  obtain ⟨M', eM⟩ := exists_ue3 .f32 M
  obtain ⟨z', ez⟩ := exists_up3 .f32 z (finite_of_reduce z _ inf_apply _ _ _ _ a2)
  obtain ⟨l', el⟩ := exists_up2 .f32 l (finite_of_reduce l _ inf_apply _ _ _ _ b2)
  obtain ⟨g', eg⟩ := exists_up2 .f32 g (finite_of_reduce g _ inf_apply _ _ _ _ b1)
  exact ⟨z', M', l', g', ez, eM, el, eg⟩

/-- An array of one row is that row repeated. -/
theorem row (g : Fin 1 → Fin 128 → ℝ) : up2 .f32 g = up2 .f32 fun _ : Fin 1 => g 0 :=
  congrArg (up2 .f32) (funext fun i => congrArg g (Subsingleton.elim i 0))

theorem frame_kernel : Cert.quiescent_Kernel14 (hKernel14 := Cert.Kernel14.Gen.facts) := fun m ρ _ => Cert.Kernel14.Gen.frame m ρ
theorem frame_ideal : Cert.quiescent_Kernel14Ideal (hKernel14Ideal := Cert.Kernel14Ideal.Gen.facts) :=
  fun m ρ _ => Cert.Kernel14Ideal.Gen.frame m ρ
theorem frame_ideal_pre : Cert.quiescent_Kernel14Ideal_pre_finite14 (hKernel14Ideal := Cert.Kernel14Ideal.Gen.facts) (hPre_finite14 := Cert.Pre_finite14.Gen.facts) :=
  fun m ρ _ => Cert.Kernel14Ideal.Gen.frame m ρ
theorem frame_reference : Cert.quiescent_Reference14Ideal (hReference14Ideal := Cert.Reference14Ideal.Gen.facts) :=
  fun m ρ _ => (θ_run Cert.Reference14Ideal.defs _ _).mono
    (fun r h => ⟨fun c => (h c).2.2.2, sem_eq_zero_of_no_sems (by decide) r.2⟩) (Cert.Reference14Ideal.Value.run m ρ)
theorem frame_reference_pre : Cert.quiescent_Reference14Ideal_pre_finite14 (hReference14Ideal := Cert.Reference14Ideal.Gen.facts) (hPre_finite14 := Cert.Pre_finite14.Gen.facts) :=
  fun m ρ _ => frame_reference m ρ trivial

/-- The gated outputs, the outputs before the norm and the chunks' states are those of the recurrence. -/
theorem algebraic : Cert.algebraic_Kernel14Ideal_Reference14Ideal_pre_finite14 (hKernel14Ideal := Cert.Kernel14Ideal.Gen.facts)
    (hReference14Ideal := Cert.Reference14Ideal.Gen.facts) (hPre_finite14 := Cert.Pre_finite14.Gen.facts) := by
  intro m0 g0 m1 g1 hpre hagree
  choose z M l g hz hM hl hg using fun c => real _ _ _ _ (hpre c)
  exact ⟨_, _, _, Cert.HgrnK.run m0 g0 z M l (fun c => g c 0) hz hM hl (fun c => (hg c).trans (row (g c))),
    Cert.HgrnR.run m1 g1 z M l (fun c => g c 0)
      (fun c => (hagree c).1.trans (hz c))
      (fun c => (hagree c).2.1.trans (hM c))
      (fun c => (hagree c).2.2.1.trans (hl c))
      (fun c => (hagree c).2.2.2.trans ((hg c).trans (row (g c))))⟩
end Cert.Hgrn
-- ==== Proof.MmMath.lean ====
module
public import proofs.«01_k».proof.Proof.Lift
@[expose] public section
noncomputable section
namespace Cert.MmMath

/-- The product of a matrix's transpose with a matrix, one sum over the rows for each entry. -/
def tn {n k l : ℕ} (a : Fin n → Fin k → EReal) (b : Fin n → Fin l → EReal) (i : Fin k) (j : Fin l) : EReal := ∑ t, a t i * b t j
end Cert.MmMath
-- ==== Proof.MmK.lean ====
module
public import proofs.«01_k».proof.Proof.Gen.Kernel15Ideal.Value
public import proofs.«01_k».proof.Proof.MmMath
@[expose] public section
set_option maxRecDepth 16384
noncomputable section
namespace Cert.MmK
open Idealize.ShloMosaic Idealize.ShloMosaic.TcCoe Idealize.SL.Sem
open Idealize.ShloMosaic.Pipeline (Dat)
open Cert.Kernel15Ideal Cert.Kernel15Ideal.Gen Cert.Lift Cert.MmMath

theorem idx : ∀ t : Fin cfg0.N, win0_0.index t = ![0, t.val] ∧ win0_1.index t = ![0, 0] ∧ win0_2.index t = ![t.val, 0] ∧ t.val < 5 :=
  (by decide +kernel : ∀ t : Fin grid0.N, _)
theorem lt5 (t : Fin cfg0.N) : t.val < 5 := (idx t).2.2.2
/-- A grid point's block of a thousand and twenty-four columns. -/
def col (t : Fin cfg0.N) (j : Fin 1024) : Fin 5120 := ⟨1024 * t.val + j.val, by have := lt5 t; omega⟩

variable (m : (ℓ : Loc nD τ sig) → Buf (Elt Ideal) ℓ) (c : Dev nD) (a : Fin 4096 → Fin 5120 → EReal) (b : Fin 4096 → Fin 1024 → EReal)
theorem in0 (ha : m ((c : Thread nD τ).loc main_arg0) = ue2 .f32 a) (t : Fin cfg0.N) : iblk m c 0 t = ue2 .bf16 fun n j => a n (col t j) := by
  have h : V m c main_v0 = ue2 .bf16 a := by
    funext i
    entry_read
    rw [ha]
    pointwise [ue2_apply]
  funext y
  blk_simp [iblk]
  rw [h, ue2_apply, ue2_apply]
  refine congrArg₂ a (Fin.ext ?_) (Fin.ext ?_) <;> blk_simp [idx t, col] <;> (try simp only [col]) <;> try omega
theorem in1 (hb : m ((c : Thread nD τ).loc main_arg1) = ue2 .f32 b) (t : Fin cfg0.N) : iblk m c 1 t = ue2 .bf16 b := by
  have h : V m c main_v1 = ue2 .bf16 b := by
    funext i
    entry_read
    rw [hb]
    pointwise [ue2_apply]
  funext y
  blk_simp [iblk]
  rw [h, ue2_apply, ue2_apply]
  refine congrArg₂ b (Fin.ext ?_) (Fin.ext ?_) <;> blk_simp [idx t] <;> try omega
variable (ha : m ((c : Thread nD τ).loc main_arg0) = ue2 .f32 a) (hb : m ((c : Thread nD τ).loc main_arg1) = ue2 .f32 b)
include ha hb
/-- The block after a point. -/
theorem at_point (t : Fin cfg0.N) (y : S1024x1024.Idx) : out0_2 (iblk m c 0 t) (iblk m c 1 t) y = tn a b (col t (y 0)) (y 1) := by
  unfold out0_2
  frame_out
  rw [in0 m c a ha, in1 m c b hb]
  pointwise [k0_pay1, ue2_apply]
  rfl
theorem arr : (dats m 0 c).arrAt 2 cfg0.N = ue2 .bf16 (tn a b) := by
  refine (dats m 0 c).arrAt_eq_of_covers 2 _ (by decide +kernel) fun t _ y => ?_
  have ht := lt5 t
  blk_simp
  have key : tn a b (col t (y 0)) (y 1) = ue2 .bf16 (tn a b) (((cfg0.win 2).blk t).view.emb y) := by
    rw [ue2_apply]
    refine congrArg₂ (tn a b) (Fin.ext ?_) (Fin.ext ?_) <;> blk_simp [idx t] <;> (try simp only [col]) <;> try omega
  refine Eq.trans ?_ key
  rw [after0_2]
  exact at_point m c a b ha hb t y
omit ha hb in
/-- The run from any arguments. -/
theorem run (ρ : Dev nD → PrngReg) (a : Dev nD → Fin 4096 → Fin 5120 → EReal) (b : Dev nD → Fin 4096 → Fin 1024 → EReal)
    (ha : ∀ c : Dev nD, m ((c : Thread nD τ).loc main_arg0) = ue2 .f32 (a c)) (hb : ∀ c : Dev nD, m ((c : Thread nD τ).loc main_arg1) = ue2 .f32 (b c)) :
    θ_run defs (onTc (τ := τ) (main (F := Ideal))) ⟨m, fun _ => 0, ρ⟩ fun r => ∀ c : Dev nD,
      r.2.mem ((c : Thread nD τ).loc main_v2) = ue2 .bf16 (tn (a c) (b c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c (a c) (b c) (ha c) (hb c)), (h c).2⟩) (Cert.Kernel15Ideal.Value.run_blocks m ρ)
end Cert.MmK
-- ==== Proof.MmR.lean ====
module
public import proofs.«01_k».proof.Proof.Gen.Reference15Ideal.Run
public import proofs.«01_k».proof.Proof.MmMath
@[expose] public section
set_option maxRecDepth 16384
noncomputable section
namespace Cert.MmR
open Idealize.ShloMosaic Idealize.ShloMosaic.TcCoe Idealize.SL.Sem
open Cert.Reference15Ideal Cert.Reference15Ideal.Gen Cert.Lift Cert.MmMath

theorem val (a : Fin 4096 → Fin 5120 → EReal) (b : Fin 4096 → Fin 1024 → EReal) :
    truncf .bf16 (Host.dotGeneral (F := Ideal) dot_S4096x5120_S4096x1024_S5120x1024_0_0_1_1_n_n none (ue2 .f32 a) (ue2 .f32 b)) bitsLt_bf16_f32 = ue2 .bf16 (tn a b) := by
  funext i
  pointwise [ue2_apply]
  rfl
/-- The run from any arguments. -/
theorem run (m : (ℓ : Loc nD τ sig) → Buf (Elt Ideal) ℓ) (ρ : Dev nD → PrngReg) (a : Dev nD → Fin 4096 → Fin 5120 → EReal) (b : Dev nD → Fin 4096 → Fin 1024 → EReal)
    (ha : ∀ c : Dev nD, m ((c.tc : Thread nD τ).loc main_arg0) = ue2 .f32 (a c)) (hb : ∀ c : Dev nD, m ((c.tc : Thread nD τ).loc main_arg1) = ue2 .f32 (b c)) :
    θ_run defs (onTc (τ := τ) (main (F := Ideal))) ⟨m, fun _ => 0, ρ⟩ fun r => ∀ c : Dev nD,
      r.2.mem ((c.tc : Thread nD τ).loc main_v1) = ue2 .bf16 (tn (a c) (b c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [ha c, hb c]; exact val _ _), (h c).2⟩) (Cert.Reference15Ideal.Value.run m ρ)
end Cert.MmR
-- ==== Proof.Mm.lean ====
module
public import proofs.«01_k».proof.Defs
public import proofs.«01_k».proof.Proof.Gen.Kernel15
public import proofs.«01_k».proof.Proof.Gen.Kernel15.Frame
public import proofs.«01_k».proof.Proof.MmK
public import proofs.«01_k».proof.Proof.MmR
public import Idealize.ShloMosaic.Adequacy
public import Idealize.ShloMosaic.Init
public import Idealize.ShloMosaic.Lib.Quiescent
@[expose] public section
set_option maxRecDepth 16384
noncomputable section
namespace Cert.Mm
open Idealize.ShloMosaic Idealize.ShloMosaic.TcCoe Idealize.SL.Sem Cert.Lift

theorem frame_kernel : Cert.quiescent_Kernel15 (hKernel15 := Cert.Kernel15.Gen.facts) := fun m ρ _ => Cert.Kernel15.Gen.frame m ρ
theorem frame_ideal : Cert.quiescent_Kernel15Ideal (hKernel15Ideal := Cert.Kernel15Ideal.Gen.facts) :=
  fun m ρ _ => Cert.Kernel15Ideal.Gen.frame m ρ
theorem frame_reference : Cert.quiescent_Reference15Ideal (hReference15Ideal := Cert.Reference15Ideal.Gen.facts) :=
  fun m ρ _ => (θ_run Cert.Reference15Ideal.defs _ _).mono
    (fun r h => ⟨fun c => (h c).2, sem_eq_zero_of_no_sems (by decide) r.2⟩) (Cert.Reference15Ideal.Value.run m ρ)

/-- The weight's gradient is its reference's. -/
theorem algebraic : Cert.algebraic_Kernel15Ideal_Reference15Ideal (hKernel15Ideal := Cert.Kernel15Ideal.Gen.facts)
    (hReference15Ideal := Cert.Reference15Ideal.Gen.facts) := by
  intro m0 g0 m1 g1 _ hagree
  choose a ha using fun c : Dev Cert.Kernel15Ideal.nD => exists_ue2 .f32 (m0 ((c.tc : Thread Cert.Kernel15Ideal.nD Cert.Kernel15Ideal.τ).loc Cert.Kernel15Ideal.main_arg0))
  choose b hb using fun c : Dev Cert.Kernel15Ideal.nD => exists_ue2 .f32 (m0 ((c.tc : Thread Cert.Kernel15Ideal.nD Cert.Kernel15Ideal.τ).loc Cert.Kernel15Ideal.main_arg1))
  exact ⟨_, Cert.MmK.run m0 g0 a b ha hb,
    Cert.MmR.run m1 g1 a b
      (fun c => (hagree c).1.trans (ha c))
      (fun c => (hagree c).2.trans (hb c))⟩
end Cert.Mm
-- ==== Proof.PlanesK.lean ====
module
public import proofs.«01_k».proof.Proof.Gen.Kernel16Ideal.Value
public import proofs.«01_k».proof.Proof.MmMath
@[expose] public section
set_option maxRecDepth 16384
noncomputable section
namespace Cert.PlanesK
open Idealize.ShloMosaic Idealize.ShloMosaic.TcCoe Idealize.SL.Sem
open Idealize.ShloMosaic.Pipeline (Dat)
open Cert.Kernel16Ideal Cert.Kernel16Ideal.Gen Cert.Lift Cert.MmMath

theorem idx : ∀ t : Fin cfg0.N, win0_0.index t = ![t.val / 2, 0, t.val % 2] ∧ win0_1.index t = ![0, 0] ∧ win0_2.index t = ![t.val, 0] ∧ t.val < 4 :=
  (by decide +kernel : ∀ t : Fin grid0.N, _)
theorem lt4 (t : Fin cfg0.N) : t.val < 4 := (idx t).2.2.2
/-- A grid point's block of columns. -/
def col (t : Fin cfg0.N) (j : Fin 1408) : Fin 5632 := ⟨1408 * t.val + j.val, by have := lt4 t; omega⟩

variable (m : (ℓ : Loc nD τ sig) → Buf (Elt Ideal) ℓ) (c : Dev nD) (a : Fin 4096 → Fin 5632 → EReal) (b : Fin 4096 → Fin 1024 → EReal)
theorem in0 (ha : m ((c : Thread nD τ).loc main_arg0) = ue2 .f32 a) (t : Fin cfg0.N) : iblk m c 0 t = ue3 .bf16 fun _ n j => a n (col t j) := by
  have ht := lt4 t
  have h : V m c main_v2 = ue3 .bf16 fun p n (j : Fin 2816) => a n ⟨p.val * 2816 + j.val, by omega⟩ := by
    funext i
    entry_read
    rw [ha]
    pointwise [ue2_apply, ue3_apply]
  funext y
  blk_simp [iblk]
  rw [h, ue3_apply, ue3_apply]
  refine congrArg₂ a (Fin.ext ?_) (Fin.ext ?_) <;> blk_simp [idx t] <;> (try simp only [col]) <;> try omega
theorem in1 (hb : m ((c : Thread nD τ).loc main_arg1) = ue2 .f32 b) (t : Fin cfg0.N) : iblk m c 1 t = ue2 .bf16 b := by
  have h : V m c main_v3 = ue2 .bf16 b := by
    funext i
    entry_read
    rw [hb]
    pointwise [ue2_apply]
  funext y
  blk_simp [iblk]
  rw [h, ue2_apply, ue2_apply]
  refine congrArg₂ b (Fin.ext ?_) (Fin.ext ?_) <;> blk_simp [idx t] <;> try omega
variable (ha : m ((c : Thread nD τ).loc main_arg0) = ue2 .f32 a) (hb : m ((c : Thread nD τ).loc main_arg1) = ue2 .f32 b)
include ha hb
/-- The block after a point. -/
theorem at_point (t : Fin cfg0.N) (y : S1408x1024.Idx) : out0_2 (iblk m c 0 t) (iblk m c 1 t) y = tn a b (col t (y 0)) (y 1) := by
  unfold out0_2
  frame_out
  rw [in0 m c a ha, in1 m c b hb]
  pointwise [k0_pay1, ue2_apply, ue3_apply]
  rfl
theorem arr : (dats m 0 c).arrAt 2 cfg0.N = ue2 .bf16 (tn a b) := by
  refine (dats m 0 c).arrAt_eq_of_covers 2 _ (by decide +kernel) fun t _ y => ?_
  have ht := lt4 t
  blk_simp
  have key : tn a b (col t (y 0)) (y 1) = ue2 .bf16 (tn a b) (((cfg0.win 2).blk t).view.emb y) := by
    rw [ue2_apply]
    refine congrArg₂ (tn a b) (Fin.ext ?_) (Fin.ext ?_) <;> blk_simp [idx t] <;> (try simp only [col]) <;> try omega
  refine Eq.trans ?_ key
  rw [after0_2]
  exact at_point m c a b ha hb t y
omit ha hb in
/-- The run from any arguments. -/
theorem run (ρ : Dev nD → PrngReg) (a : Dev nD → Fin 4096 → Fin 5632 → EReal) (b : Dev nD → Fin 4096 → Fin 1024 → EReal)
    (ha : ∀ c : Dev nD, m ((c : Thread nD τ).loc main_arg0) = ue2 .f32 (a c)) (hb : ∀ c : Dev nD, m ((c : Thread nD τ).loc main_arg1) = ue2 .f32 (b c)) :
    θ_run defs (onTc (τ := τ) (main (F := Ideal))) ⟨m, fun _ => 0, ρ⟩ fun r => ∀ c : Dev nD,
      r.2.mem ((c : Thread nD τ).loc main_v4) = ue2 .bf16 (tn (a c) (b c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c (a c) (b c) (ha c) (hb c)), (h c).2⟩) (Cert.Kernel16Ideal.Value.run_blocks m ρ)
end Cert.PlanesK
-- ==== Proof.PlanesR.lean ====
module
public import proofs.«01_k».proof.Proof.Gen.Reference16Ideal.Run
public import proofs.«01_k».proof.Proof.MmMath
@[expose] public section
set_option maxRecDepth 16384
noncomputable section
namespace Cert.PlanesR
open Idealize.ShloMosaic Idealize.ShloMosaic.TcCoe Idealize.SL.Sem
open Cert.Reference16Ideal Cert.Reference16Ideal.Gen Cert.Lift Cert.MmMath

theorem val (a : Fin 4096 → Fin 5632 → EReal) (b : Fin 4096 → Fin 1024 → EReal) :
    truncf .bf16 (Host.dotGeneral (F := Ideal) dot_S4096x5632_S4096x1024_S5632x1024_0_0_1_1_n_n none (ue2 .f32 a) (ue2 .f32 b)) bitsLt_bf16_f32 = ue2 .bf16 (tn a b) := by
  funext i
  pointwise [ue2_apply]
  rfl
/-- The run from any arguments. -/
theorem run (m : (ℓ : Loc nD τ sig) → Buf (Elt Ideal) ℓ) (ρ : Dev nD → PrngReg) (a : Dev nD → Fin 4096 → Fin 5632 → EReal) (b : Dev nD → Fin 4096 → Fin 1024 → EReal)
    (ha : ∀ c : Dev nD, m ((c.tc : Thread nD τ).loc main_arg0) = ue2 .f32 (a c)) (hb : ∀ c : Dev nD, m ((c.tc : Thread nD τ).loc main_arg1) = ue2 .f32 (b c)) :
    θ_run defs (onTc (τ := τ) (main (F := Ideal))) ⟨m, fun _ => 0, ρ⟩ fun r => ∀ c : Dev nD,
      r.2.mem ((c.tc : Thread nD τ).loc main_v1) = ue2 .bf16 (tn (a c) (b c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [ha c, hb c]; exact val _ _), (h c).2⟩) (Cert.Reference16Ideal.Value.run m ρ)
end Cert.PlanesR
-- ==== Proof.Planes.lean ====
module
public import proofs.«01_k».proof.Defs
public import proofs.«01_k».proof.Proof.Gen.Kernel16
public import proofs.«01_k».proof.Proof.Gen.Kernel16.Frame
public import proofs.«01_k».proof.Proof.PlanesK
public import proofs.«01_k».proof.Proof.PlanesR
public import Idealize.ShloMosaic.Adequacy
public import Idealize.ShloMosaic.Init
public import Idealize.ShloMosaic.Lib.Quiescent
@[expose] public section
set_option maxRecDepth 16384
noncomputable section
namespace Cert.Planes
open Idealize.ShloMosaic Idealize.ShloMosaic.TcCoe Idealize.SL.Sem Cert.Lift

theorem frame_kernel : Cert.quiescent_Kernel16 (hKernel16 := Cert.Kernel16.Gen.facts) := fun m ρ _ => Cert.Kernel16.Gen.frame m ρ
theorem frame_ideal : Cert.quiescent_Kernel16Ideal (hKernel16Ideal := Cert.Kernel16Ideal.Gen.facts) :=
  fun m ρ _ => Cert.Kernel16Ideal.Gen.frame m ρ
theorem frame_reference : Cert.quiescent_Reference16Ideal (hReference16Ideal := Cert.Reference16Ideal.Gen.facts) :=
  fun m ρ _ => (θ_run Cert.Reference16Ideal.defs _ _).mono
    (fun r h => ⟨fun c => (h c).2, sem_eq_zero_of_no_sems (by decide) r.2⟩) (Cert.Reference16Ideal.Value.run m ρ)

/-- The gradient of the weight of a gated product is its reference's. -/
theorem algebraic : Cert.algebraic_Kernel16Ideal_Reference16Ideal (hKernel16Ideal := Cert.Kernel16Ideal.Gen.facts)
    (hReference16Ideal := Cert.Reference16Ideal.Gen.facts) := by
  intro m0 g0 m1 g1 _ hagree
  choose a ha using fun c : Dev Cert.Kernel16Ideal.nD => exists_ue2 .f32 (m0 ((c.tc : Thread Cert.Kernel16Ideal.nD Cert.Kernel16Ideal.τ).loc Cert.Kernel16Ideal.main_arg0))
  choose b hb using fun c : Dev Cert.Kernel16Ideal.nD => exists_ue2 .f32 (m0 ((c.tc : Thread Cert.Kernel16Ideal.nD Cert.Kernel16Ideal.τ).loc Cert.Kernel16Ideal.main_arg1))
  exact ⟨_, Cert.PlanesK.run m0 g0 a b ha hb,
    Cert.PlanesR.run m1 g1 a b
      (fun c => (hagree c).1.trans (ha c))
      (fun c => (hagree c).2.trans (hb c))⟩
end Cert.Planes
-- ==== Proof.AdamMath.lean ====
module
public import proofs.«01_k».proof.Proof.Lift
@[expose] public section
noncomputable section
namespace Cert.AdamMath
open Idealize.ShloMosaic

/-- The new first moment, from the gradient and the old first moment. -/
def mo (g p : EReal) : EReal := Ideal.ofBits .f32 0x3F666666#32 * p + Ideal.ofBits .f32 0x3DCCCCCD#32 * g
/-- The new second moment, from the gradient and the old second moment. -/
def ve (g q : EReal) : EReal := Ideal.ofBits .f32 0x3F7FBE77#32 * q + Ideal.ofBits .f32 0x3A83126F#32 * (g * g)
/-- The step, from the weight, the gradient and the old moments. -/
def de (w g p q : EReal) : EReal :=
  Ideal.ofBits .f32 0xBA83126F#32 * (Ideal.div (Ideal.div (mo g p) (Ideal.ofBits .f32 0x3F26BD02#32))
    (Ideal.sqrt (Ideal.div (ve g q) (Ideal.ofBits .f32 0x3C231ACC#32)) + Ideal.ofBits .f32 0x322BCC77#32) + Ideal.ofBits .f32 0x3C23D70A#32 * w)
/-- The sum over the eight devices. -/
def su {n k : ℕ} (s : Fin 8 → Fin n → Fin k → EReal) (i : Fin n) (j : Fin k) : EReal := ∑ d, s d i j
theorem su_eq {n k : ℕ} (s : Fin 8 → Fin n → Fin k → EReal) (i : Fin n) (j : Fin k) :
    s 0 i j + s 1 i j + s 2 i j + s 3 i j + s 4 i j + s 5 i j + s 6 i j + s 7 i j = su s i j := by
  unfold su
  rw [Fin.sum_univ_eight]
end Cert.AdamMath
-- ==== Proof.VecsK.lean ====
module
public import proofs.«01_k».proof.Proof.Gen.Kernel17Ideal.Value
public import proofs.«01_k».proof.Proof.AdamMath
@[expose] public section
set_option maxRecDepth 16384
noncomputable section
namespace Cert.VecsK
open Idealize.ShloMosaic Idealize.ShloMosaic.TcCoe Idealize.SL.Sem
open Cert.Kernel17Ideal Cert.Kernel17Ideal.Gen Cert.Lift Cert.AdamMath

/-- The run from any arguments. -/
theorem run (m : (ℓ : Loc nD τ sig) → Buf (Elt Ideal) ℓ) (ρ : Dev nD → PrngReg)
    (g : Dev nD → Fin 1 → Fin 256 → EReal) (g' : Dev nD → Fin 1 → Fin 256 → EReal) (w : Dev nD → Fin 1 → Fin 256 → EReal) (w' : Dev nD → Fin 1 → Fin 256 → EReal) (p : Dev nD → Fin 1 → Fin 256 → EReal) (p' : Dev nD → Fin 1 → Fin 256 → EReal) (q : Dev nD → Fin 1 → Fin 256 → EReal) (q' : Dev nD → Fin 1 → Fin 256 → EReal)
    (hg : ∀ c : Dev nD, m ((c : Thread nD τ).loc main_arg0) = ue2 .f32 (g c))
    (hg' : ∀ c : Dev nD, m ((c : Thread nD τ).loc main_arg1) = ue2 .f32 (g' c))
    (hw : ∀ c : Dev nD, m ((c : Thread nD τ).loc main_arg2) = ue2 .f32 (w c))
    (hw' : ∀ c : Dev nD, m ((c : Thread nD τ).loc main_arg3) = ue2 .f32 (w' c))
    (hp : ∀ c : Dev nD, m ((c : Thread nD τ).loc main_arg4) = ue2 .f32 (p c))
    (hp' : ∀ c : Dev nD, m ((c : Thread nD τ).loc main_arg5) = ue2 .f32 (p' c))
    (hq : ∀ c : Dev nD, m ((c : Thread nD τ).loc main_arg6) = ue2 .f32 (q c))
    (hq' : ∀ c : Dev nD, m ((c : Thread nD τ).loc main_arg7) = ue2 .f32 (q' c)) :
    θ_run defs (onTc (τ := τ) (main (F := Ideal))) ⟨m, fun _ => 0, ρ⟩ fun r => ∀ c : Dev nD,
      r.2.mem ((c : Thread nD τ).loc main_v0_0) = ue2 .f32 (fun i j => de (w c i j) (g c i j) (p c i j) (q c i j))
      ∧ r.2.mem ((c : Thread nD τ).loc main_v0_1) = ue2 .f32 (fun i j => mo (g c i j) (p c i j))
      ∧ r.2.mem ((c : Thread nD τ).loc main_v0_2) = ue2 .f32 (fun i j => ve (g c i j) (q c i j))
      ∧ r.2.mem ((c : Thread nD τ).loc main_v0_3) = ue2 .f32 (fun i j => de (w' c i j) (g' c i j) (p' c i j) (q' c i j))
      ∧ r.2.mem ((c : Thread nD τ).loc main_v0_4) = ue2 .f32 (fun i j => mo (g' c i j) (p' c i j))
      ∧ r.2.mem ((c : Thread nD τ).loc main_v0_5) = ue2 .f32 (fun i j => ve (g' c i j) (q' c i j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (by
        rw [hw c, hg c, hp c, hq c]
        funext i
        pointwise [ue2_apply]
        rfl),
      (h c).2.1.trans (by
        rw [hg c, hp c]
        funext i
        pointwise [ue2_apply]
        rfl),
      (h c).2.2.1.trans (by
        rw [hg c, hq c]
        funext i
        pointwise [ue2_apply]
        rfl),
      (h c).2.2.2.1.trans (by
        rw [hw' c, hg' c, hp' c, hq' c]
        funext i
        pointwise [ue2_apply]
        rfl),
      (h c).2.2.2.2.1.trans (by
        rw [hg' c, hp' c]
        funext i
        pointwise [ue2_apply]
        rfl),
      (h c).2.2.2.2.2.1.trans (by
        rw [hg' c, hq' c]
        funext i
        pointwise [ue2_apply]
        rfl),
      (h c).2.2.2.2.2.2⟩) (Cert.Kernel17Ideal.Value.run m ρ)
end Cert.VecsK
-- ==== Proof.VecsR.lean ====
module
public import proofs.«01_k».proof.Proof.Gen.Reference17Ideal.Run
public import proofs.«01_k».proof.Proof.AdamMath
@[expose] public section
set_option maxRecDepth 16384
noncomputable section
namespace Cert.VecsR
open Idealize.ShloMosaic Idealize.ShloMosaic.TcCoe Idealize.SL.Sem
open Cert.Reference17Ideal Cert.Reference17Ideal.Gen Cert.Lift Cert.AdamMath

/-- The run from any arguments. -/
theorem run (m : (ℓ : Loc nD τ sig) → Buf (Elt Ideal) ℓ) (ρ : Dev nD → PrngReg)
    (g : Dev nD → Fin 1 → Fin 256 → EReal) (g' : Dev nD → Fin 1 → Fin 256 → EReal) (w : Dev nD → Fin 1 → Fin 256 → EReal) (w' : Dev nD → Fin 1 → Fin 256 → EReal) (p : Dev nD → Fin 1 → Fin 256 → EReal) (p' : Dev nD → Fin 1 → Fin 256 → EReal) (q : Dev nD → Fin 1 → Fin 256 → EReal) (q' : Dev nD → Fin 1 → Fin 256 → EReal)
    (hg : ∀ c : Dev nD, m ((c.tc : Thread nD τ).loc main_arg0) = ue2 .f32 (g c))
    (hg' : ∀ c : Dev nD, m ((c.tc : Thread nD τ).loc main_arg1) = ue2 .f32 (g' c))
    (hw : ∀ c : Dev nD, m ((c.tc : Thread nD τ).loc main_arg2) = ue2 .f32 (w c))
    (hw' : ∀ c : Dev nD, m ((c.tc : Thread nD τ).loc main_arg3) = ue2 .f32 (w' c))
    (hp : ∀ c : Dev nD, m ((c.tc : Thread nD τ).loc main_arg4) = ue2 .f32 (p c))
    (hp' : ∀ c : Dev nD, m ((c.tc : Thread nD τ).loc main_arg5) = ue2 .f32 (p' c))
    (hq : ∀ c : Dev nD, m ((c.tc : Thread nD τ).loc main_arg6) = ue2 .f32 (q c))
    (hq' : ∀ c : Dev nD, m ((c.tc : Thread nD τ).loc main_arg7) = ue2 .f32 (q' c)) :
    θ_run defs (onTc (τ := τ) (main (F := Ideal))) ⟨m, fun _ => 0, ρ⟩ fun r => ∀ c : Dev nD,
      r.2.mem ((c.tc : Thread nD τ).loc main_v23) = ue2 .f32 (fun i j => de (w c i j) (g c i j) (p c i j) (q c i j))
      ∧ r.2.mem ((c.tc : Thread nD τ).loc main_v4) = ue2 .f32 (fun i j => mo (g c i j) (p c i j))
      ∧ r.2.mem ((c.tc : Thread nD τ).loc main_v10) = ue2 .f32 (fun i j => ve (g c i j) (q c i j))
      ∧ r.2.mem ((c.tc : Thread nD τ).loc main_v47) = ue2 .f32 (fun i j => de (w' c i j) (g' c i j) (p' c i j) (q' c i j))
      ∧ r.2.mem ((c.tc : Thread nD τ).loc main_v28) = ue2 .f32 (fun i j => mo (g' c i j) (p' c i j))
      ∧ r.2.mem ((c.tc : Thread nD τ).loc main_v34) = ue2 .f32 (fun i j => ve (g' c i j) (q' c i j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (by
        rw [hw c, hg c, hp c, hq c]
        funext i
        pointwise [ue2_apply]
        rfl),
      (h c).2.1.trans (by
        rw [hg c, hp c]
        funext i
        pointwise [ue2_apply]
        rfl),
      (h c).2.2.1.trans (by
        rw [hg c, hq c]
        funext i
        pointwise [ue2_apply]
        rfl),
      (h c).2.2.2.1.trans (by
        rw [hw' c, hg' c, hp' c, hq' c]
        funext i
        pointwise [ue2_apply]
        rfl),
      (h c).2.2.2.2.1.trans (by
        rw [hg' c, hp' c]
        funext i
        pointwise [ue2_apply]
        rfl),
      (h c).2.2.2.2.2.1.trans (by
        rw [hg' c, hq' c]
        funext i
        pointwise [ue2_apply]
        rfl),
      (h c).2.2.2.2.2.2⟩) (Cert.Reference17Ideal.Value.run m ρ)
end Cert.VecsR
-- ==== Proof.Vecs.lean ====
module
public import proofs.«01_k».proof.Defs
public import proofs.«01_k».proof.Proof.Gen.Kernel17
public import proofs.«01_k».proof.Proof.Gen.Kernel17.Frame
public import proofs.«01_k».proof.Proof.VecsK
public import proofs.«01_k».proof.Proof.VecsR
public import Idealize.ShloMosaic.Adequacy
public import Idealize.ShloMosaic.Init
public import Idealize.ShloMosaic.Lib.Quiescent
@[expose] public section
set_option maxRecDepth 16384
noncomputable section
namespace Cert.Vecs
open Idealize.ShloMosaic Idealize.ShloMosaic.TcCoe Idealize.SL.Sem Cert.Lift

theorem frame_kernel : Cert.quiescent_Kernel17 (hKernel17 := Cert.Kernel17.Gen.facts) := fun m ρ _ => Cert.Kernel17.Gen.frame m ρ
theorem frame_ideal : Cert.quiescent_Kernel17Ideal (hKernel17Ideal := Cert.Kernel17Ideal.Gen.facts) :=
  fun m ρ _ => Cert.Kernel17Ideal.Gen.frame m ρ
theorem frame_reference : Cert.quiescent_Reference17Ideal (hReference17Ideal := Cert.Reference17Ideal.Gen.facts) :=
  fun m ρ _ => (θ_run Cert.Reference17Ideal.defs _ _).mono
    (fun r h => ⟨fun c => (h c).2.2.2.2.2.2, sem_eq_zero_of_no_sems (by decide) r.2⟩) (Cert.Reference17Ideal.Value.run m ρ)

/-- The update of the two vectors is its reference's. -/
theorem algebraic : Cert.algebraic_Kernel17Ideal_Reference17Ideal (hKernel17Ideal := Cert.Kernel17Ideal.Gen.facts)
    (hReference17Ideal := Cert.Reference17Ideal.Gen.facts) := by
  intro m0 g0 m1 g1 _ hagree
  choose g hg using fun c : Dev Cert.Kernel17Ideal.nD => exists_ue2 .f32 (m0 ((c.tc : Thread Cert.Kernel17Ideal.nD Cert.Kernel17Ideal.τ).loc Cert.Kernel17Ideal.main_arg0))
  choose g' hg' using fun c : Dev Cert.Kernel17Ideal.nD => exists_ue2 .f32 (m0 ((c.tc : Thread Cert.Kernel17Ideal.nD Cert.Kernel17Ideal.τ).loc Cert.Kernel17Ideal.main_arg1))
  choose w hw using fun c : Dev Cert.Kernel17Ideal.nD => exists_ue2 .f32 (m0 ((c.tc : Thread Cert.Kernel17Ideal.nD Cert.Kernel17Ideal.τ).loc Cert.Kernel17Ideal.main_arg2))
  choose w' hw' using fun c : Dev Cert.Kernel17Ideal.nD => exists_ue2 .f32 (m0 ((c.tc : Thread Cert.Kernel17Ideal.nD Cert.Kernel17Ideal.τ).loc Cert.Kernel17Ideal.main_arg3))
  choose p hp using fun c : Dev Cert.Kernel17Ideal.nD => exists_ue2 .f32 (m0 ((c.tc : Thread Cert.Kernel17Ideal.nD Cert.Kernel17Ideal.τ).loc Cert.Kernel17Ideal.main_arg4))
  choose p' hp' using fun c : Dev Cert.Kernel17Ideal.nD => exists_ue2 .f32 (m0 ((c.tc : Thread Cert.Kernel17Ideal.nD Cert.Kernel17Ideal.τ).loc Cert.Kernel17Ideal.main_arg5))
  choose q hq using fun c : Dev Cert.Kernel17Ideal.nD => exists_ue2 .f32 (m0 ((c.tc : Thread Cert.Kernel17Ideal.nD Cert.Kernel17Ideal.τ).loc Cert.Kernel17Ideal.main_arg6))
  choose q' hq' using fun c : Dev Cert.Kernel17Ideal.nD => exists_ue2 .f32 (m0 ((c.tc : Thread Cert.Kernel17Ideal.nD Cert.Kernel17Ideal.τ).loc Cert.Kernel17Ideal.main_arg7))
  exact ⟨_, _, _, _, _, _, Cert.VecsK.run m0 g0 g g' w w' p p' q q' hg hg' hw hw' hp hp' hq hq',
    Cert.VecsR.run m1 g1 g g' w w' p p' q q'
      (fun c => (hagree c).1.trans (hg c))
      (fun c => (hagree c).2.1.trans (hg' c))
      (fun c => (hagree c).2.2.1.trans (hw c))
      (fun c => (hagree c).2.2.2.1.trans (hw' c))
      (fun c => (hagree c).2.2.2.2.1.trans (hp c))
      (fun c => (hagree c).2.2.2.2.2.1.trans (hp' c))
      (fun c => (hagree c).2.2.2.2.2.2.1.trans (hq c))
      (fun c => (hagree c).2.2.2.2.2.2.2.trans (hq' c))⟩
end Cert.Vecs
-- ==== Proof.SlabsK.lean ====
module
public import proofs.«01_k».proof.Proof.Gen.Kernel18Ideal.Value
public import proofs.«01_k».proof.Proof.AdamMath
@[expose] public section
set_option maxRecDepth 16384
noncomputable section
namespace Cert.SlabsK
open Idealize.ShloMosaic Idealize.ShloMosaic.TcCoe Idealize.SL.Sem
open Cert.Kernel18Ideal Cert.Kernel18Ideal.Gen Cert.Lift Cert.AdamMath

section value
variable (s : Fin 8 → Fin 24 → Fin 1024 → EReal) (s' : Fin 8 → Fin 1024 → Fin 128 → EReal) (w : Fin 24 → Fin 1024 → EReal) (w' : Fin 1024 → Fin 128 → EReal) (p : Fin 24 → Fin 1024 → EReal) (p' : Fin 1024 → Fin 128 → EReal) (q : Fin 24 → Fin 1024 → EReal) (q' : Fin 1024 → Fin 128 → EReal)
theorem k0 : Value.G8 (F := Ideal) (ue3 .f32 s) (ue3 .f32 s') (ue2 .f32 w) (ue2 .f32 w') (ue2 .f32 p) (ue2 .f32 p') (ue2 .f32 q) (ue2 .f32 q')
    = ue2 .f32 (fun i j => su s i j) := by
  funext i
  pointwise [Value.G8, k0_pay2, ue3_apply, ue2_apply]
  exact congrArg (fun g : EReal => g) (su_eq s (i 0) (i 1))
theorem k1 : Value.G9 (F := Ideal) (ue3 .f32 s) (ue3 .f32 s') (ue2 .f32 w) (ue2 .f32 w') (ue2 .f32 p) (ue2 .f32 p') (ue2 .f32 q) (ue2 .f32 q')
    = ue2 .f32 (fun i j => de (w i j) (su s i j) (p i j) (q i j)) := by
  have e : k0_pay10 (F := Ideal) (ue3 .f32 s) (ue3 .f32 s') (ue2 .f32 w) (ue2 .f32 w') (ue2 .f32 p) (ue2 .f32 p') (ue2 .f32 q) (ue2 .f32 q') = ue2 .f32 (su s) := k0 s s' w w' p p' q q'
  rw [Value.G9, e]
  funext i
  pointwise [Value.G9, k0_pay5, ue3_apply, ue2_apply]
  rfl
theorem k2 : Value.G10 (F := Ideal) (ue3 .f32 s) (ue3 .f32 s') (ue2 .f32 w) (ue2 .f32 w') (ue2 .f32 p) (ue2 .f32 p') (ue2 .f32 q) (ue2 .f32 q')
    = ue2 .f32 (fun i j => mo (su s i j) (p i j)) := by
  have e : k0_pay10 (F := Ideal) (ue3 .f32 s) (ue3 .f32 s') (ue2 .f32 w) (ue2 .f32 w') (ue2 .f32 p) (ue2 .f32 p') (ue2 .f32 q) (ue2 .f32 q') = ue2 .f32 (su s) := k0 s s' w w' p p' q q'
  rw [Value.G10, e]
  funext i
  pointwise [Value.G10, k0_pay3, ue3_apply, ue2_apply]
  rfl
theorem k3 : Value.G11 (F := Ideal) (ue3 .f32 s) (ue3 .f32 s') (ue2 .f32 w) (ue2 .f32 w') (ue2 .f32 p) (ue2 .f32 p') (ue2 .f32 q) (ue2 .f32 q')
    = ue2 .f32 (fun i j => ve (su s i j) (q i j)) := by
  have e : k0_pay10 (F := Ideal) (ue3 .f32 s) (ue3 .f32 s') (ue2 .f32 w) (ue2 .f32 w') (ue2 .f32 p) (ue2 .f32 p') (ue2 .f32 q) (ue2 .f32 q') = ue2 .f32 (su s) := k0 s s' w w' p p' q q'
  rw [Value.G11, e]
  funext i
  pointwise [Value.G11, k0_pay4, ue3_apply, ue2_apply]
  rfl
theorem k4 : Value.G12 (F := Ideal) (ue3 .f32 s) (ue3 .f32 s') (ue2 .f32 w) (ue2 .f32 w') (ue2 .f32 p) (ue2 .f32 p') (ue2 .f32 q) (ue2 .f32 q')
    = ue2 .f32 (fun i j => su s' i j) := by
  funext i
  pointwise [Value.G12, k0_pay7, k0_pay11, k0_pay6, ue3_apply, ue2_apply]
  exact congrArg (fun g : EReal => g) (su_eq s' (i 0) (i 1))
theorem k5 : Value.G13 (F := Ideal) (ue3 .f32 s) (ue3 .f32 s') (ue2 .f32 w) (ue2 .f32 w') (ue2 .f32 p) (ue2 .f32 p') (ue2 .f32 q) (ue2 .f32 q')
    = ue2 .f32 (fun i j => de (w' i j) (su s' i j) (p' i j) (q' i j)) := by
  funext i
  pointwise [Value.G13, k0_pay1, k0_pay12, k0_pay13, k0_pay8, k0_pay9, k0_pay7, k0_pay11, k0_pay6, ue3_apply, ue2_apply]
  exact congrArg (fun g : EReal => de (w' (i 0) (i 1)) g (p' (i 0) (i 1)) (q' (i 0) (i 1))) (su_eq s' (i 0) (i 1))
theorem k6 : Value.G14 (F := Ideal) (ue3 .f32 s) (ue3 .f32 s') (ue2 .f32 w) (ue2 .f32 w') (ue2 .f32 p) (ue2 .f32 p') (ue2 .f32 q) (ue2 .f32 q')
    = ue2 .f32 (fun i j => mo (su s' i j) (p' i j)) := by
  funext i
  pointwise [Value.G14, k0_pay12, k0_pay8, k0_pay7, k0_pay11, k0_pay6, ue3_apply, ue2_apply]
  exact congrArg (fun g : EReal => mo g (p' (i 0) (i 1))) (su_eq s' (i 0) (i 1))
theorem k7 : Value.G15 (F := Ideal) (ue3 .f32 s) (ue3 .f32 s') (ue2 .f32 w) (ue2 .f32 w') (ue2 .f32 p) (ue2 .f32 p') (ue2 .f32 q) (ue2 .f32 q')
    = ue2 .f32 (fun i j => ve (su s' i j) (q' i j)) := by
  funext i
  pointwise [Value.G15, k0_pay13, k0_pay9, k0_pay7, k0_pay11, k0_pay6, ue3_apply, ue2_apply]
  exact congrArg (fun g : EReal => ve g (q' (i 0) (i 1))) (su_eq s' (i 0) (i 1))
end value

/-- The run from any arguments. -/
theorem run (m : (ℓ : Loc nD τ sig) → Buf (Elt Ideal) ℓ) (ρ : Dev nD → PrngReg)
    (s : Dev nD → Fin 8 → Fin 24 → Fin 1024 → EReal) (s' : Dev nD → Fin 8 → Fin 1024 → Fin 128 → EReal) (w : Dev nD → Fin 24 → Fin 1024 → EReal) (w' : Dev nD → Fin 1024 → Fin 128 → EReal) (p : Dev nD → Fin 24 → Fin 1024 → EReal) (p' : Dev nD → Fin 1024 → Fin 128 → EReal) (q : Dev nD → Fin 24 → Fin 1024 → EReal) (q' : Dev nD → Fin 1024 → Fin 128 → EReal)
    (hs : ∀ c : Dev nD, m ((c : Thread nD τ).loc main_arg0) = ue3 .f32 (s c))
    (hs' : ∀ c : Dev nD, m ((c : Thread nD τ).loc main_arg1) = ue3 .f32 (s' c))
    (hw : ∀ c : Dev nD, m ((c : Thread nD τ).loc main_arg2) = ue2 .f32 (w c))
    (hw' : ∀ c : Dev nD, m ((c : Thread nD τ).loc main_arg3) = ue2 .f32 (w' c))
    (hp : ∀ c : Dev nD, m ((c : Thread nD τ).loc main_arg4) = ue2 .f32 (p c))
    (hp' : ∀ c : Dev nD, m ((c : Thread nD τ).loc main_arg5) = ue2 .f32 (p' c))
    (hq : ∀ c : Dev nD, m ((c : Thread nD τ).loc main_arg6) = ue2 .f32 (q c))
    (hq' : ∀ c : Dev nD, m ((c : Thread nD τ).loc main_arg7) = ue2 .f32 (q' c)) :
    θ_run defs (onTc (τ := τ) (main (F := Ideal))) ⟨m, fun _ => 0, ρ⟩ fun r => ∀ c : Dev nD,
      r.2.mem ((c : Thread nD τ).loc main_v0_0) = ue2 .f32 (fun i j => su (s c) i j)
      ∧ r.2.mem ((c : Thread nD τ).loc main_v0_1) = ue2 .f32 (fun i j => de (w c i j) (su (s c) i j) (p c i j) (q c i j))
      ∧ r.2.mem ((c : Thread nD τ).loc main_v0_2) = ue2 .f32 (fun i j => mo (su (s c) i j) (p c i j))
      ∧ r.2.mem ((c : Thread nD τ).loc main_v0_3) = ue2 .f32 (fun i j => ve (su (s c) i j) (q c i j))
      ∧ r.2.mem ((c : Thread nD τ).loc main_v0_4) = ue2 .f32 (fun i j => su (s' c) i j)
      ∧ r.2.mem ((c : Thread nD τ).loc main_v0_5) = ue2 .f32 (fun i j => de (w' c i j) (su (s' c) i j) (p' c i j) (q' c i j))
      ∧ r.2.mem ((c : Thread nD τ).loc main_v0_6) = ue2 .f32 (fun i j => mo (su (s' c) i j) (p' c i j))
      ∧ r.2.mem ((c : Thread nD τ).loc main_v0_7) = ue2 .f32 (fun i j => ve (su (s' c) i j) (q' c i j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (by rw [hs c, hs' c, hw c, hw' c, hp c, hp' c, hq c, hq' c]; exact k0 _ _ _ _ _ _ _ _ ),
      (h c).2.1.trans (by rw [hs c, hs' c, hw c, hw' c, hp c, hp' c, hq c, hq' c]; exact k1 _ _ _ _ _ _ _ _ ),
      (h c).2.2.1.trans (by rw [hs c, hs' c, hw c, hw' c, hp c, hp' c, hq c, hq' c]; exact k2 _ _ _ _ _ _ _ _ ),
      (h c).2.2.2.1.trans (by rw [hs c, hs' c, hw c, hw' c, hp c, hp' c, hq c, hq' c]; exact k3 _ _ _ _ _ _ _ _ ),
      (h c).2.2.2.2.1.trans (by rw [hs c, hs' c, hw c, hw' c, hp c, hp' c, hq c, hq' c]; exact k4 _ _ _ _ _ _ _ _ ),
      (h c).2.2.2.2.2.1.trans (by rw [hs c, hs' c, hw c, hw' c, hp c, hp' c, hq c, hq' c]; exact k5 _ _ _ _ _ _ _ _ ),
      (h c).2.2.2.2.2.2.1.trans (by rw [hs c, hs' c, hw c, hw' c, hp c, hp' c, hq c, hq' c]; exact k6 _ _ _ _ _ _ _ _ ),
      (h c).2.2.2.2.2.2.2.1.trans (by rw [hs c, hs' c, hw c, hw' c, hp c, hp' c, hq c, hq' c]; exact k7 _ _ _ _ _ _ _ _ ),
      (h c).2.2.2.2.2.2.2.2⟩) (Cert.Kernel18Ideal.Value.run m ρ)
end Cert.SlabsK
-- ==== Proof.SlabsR.lean ====
module
public import proofs.«01_k».proof.Proof.Gen.Reference18Ideal.Run
public import proofs.«01_k».proof.Proof.AdamMath
@[expose] public section
set_option maxRecDepth 16384
noncomputable section
namespace Cert.SlabsR
open Idealize.ShloMosaic Idealize.ShloMosaic.TcCoe Idealize.SL.Sem
open Cert.Reference18Ideal Cert.Reference18Ideal.Gen Cert.Lift Cert.AdamMath

theorem sum (s : Fin 8 → Fin 24 → Fin 1024 → EReal) : Host.reduceAdd (F := Ideal) (ue3 .f32 s) (constant S_ .f32 0x00000000#32) reducesTo_S8x24x1024_S24x1024_d0 h_S_ = ue2 .f32 (su s) := by
  funext i
  pointwise [ue3_apply, ue2_apply]
  rfl
theorem sumw (s : Fin 8 → Fin 1024 → Fin 128 → EReal) : Host.reduceAdd (F := Ideal) (ue3 .f32 s) (constant S_ .f32 0x00000000#32) reducesTo_S8x1024x128_S1024x128_d0 h_S_ = ue2 .f32 (su s) := by
  funext i
  pointwise [ue3_apply, ue2_apply]
  rfl
/-- The run from any arguments. -/
theorem run (m : (ℓ : Loc nD τ sig) → Buf (Elt Ideal) ℓ) (ρ : Dev nD → PrngReg)
    (s : Dev nD → Fin 8 → Fin 24 → Fin 1024 → EReal) (s' : Dev nD → Fin 8 → Fin 1024 → Fin 128 → EReal) (w : Dev nD → Fin 24 → Fin 1024 → EReal) (w' : Dev nD → Fin 1024 → Fin 128 → EReal) (p : Dev nD → Fin 24 → Fin 1024 → EReal) (p' : Dev nD → Fin 1024 → Fin 128 → EReal) (q : Dev nD → Fin 24 → Fin 1024 → EReal) (q' : Dev nD → Fin 1024 → Fin 128 → EReal)
    (hs : ∀ c : Dev nD, m ((c.tc : Thread nD τ).loc main_arg0) = ue3 .f32 (s c))
    (hs' : ∀ c : Dev nD, m ((c.tc : Thread nD τ).loc main_arg1) = ue3 .f32 (s' c))
    (hw : ∀ c : Dev nD, m ((c.tc : Thread nD τ).loc main_arg2) = ue2 .f32 (w c))
    (hw' : ∀ c : Dev nD, m ((c.tc : Thread nD τ).loc main_arg3) = ue2 .f32 (w' c))
    (hp : ∀ c : Dev nD, m ((c.tc : Thread nD τ).loc main_arg4) = ue2 .f32 (p c))
    (hp' : ∀ c : Dev nD, m ((c.tc : Thread nD τ).loc main_arg5) = ue2 .f32 (p' c))
    (hq : ∀ c : Dev nD, m ((c.tc : Thread nD τ).loc main_arg6) = ue2 .f32 (q c))
    (hq' : ∀ c : Dev nD, m ((c.tc : Thread nD τ).loc main_arg7) = ue2 .f32 (q' c)) :
    θ_run defs (onTc (τ := τ) (main (F := Ideal))) ⟨m, fun _ => 0, ρ⟩ fun r => ∀ c : Dev nD,
      r.2.mem ((c.tc : Thread nD τ).loc main_v0) = ue2 .f32 (fun i j => su (s c) i j)
      ∧ r.2.mem ((c.tc : Thread nD τ).loc main_v25) = ue2 .f32 (fun i j => de (w c i j) (su (s c) i j) (p c i j) (q c i j))
      ∧ r.2.mem ((c.tc : Thread nD τ).loc main_v6) = ue2 .f32 (fun i j => mo (su (s c) i j) (p c i j))
      ∧ r.2.mem ((c.tc : Thread nD τ).loc main_v12) = ue2 .f32 (fun i j => ve (su (s c) i j) (q c i j))
      ∧ r.2.mem ((c.tc : Thread nD τ).loc main_v1) = ue2 .f32 (fun i j => su (s' c) i j)
      ∧ r.2.mem ((c.tc : Thread nD τ).loc main_v49) = ue2 .f32 (fun i j => de (w' c i j) (su (s' c) i j) (p' c i j) (q' c i j))
      ∧ r.2.mem ((c.tc : Thread nD τ).loc main_v30) = ue2 .f32 (fun i j => mo (su (s' c) i j) (p' c i j))
      ∧ r.2.mem ((c.tc : Thread nD τ).loc main_v36) = ue2 .f32 (fun i j => ve (su (s' c) i j) (q' c i j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (by
        rw [hs c]
        funext i
        pointwise [sum, ue2_apply]),
      (h c).2.1.trans (by
        rw [hw c, hs c, hp c, hq c]
        funext i
        pointwise [sum, ue2_apply]
        rfl),
      (h c).2.2.1.trans (by
        rw [hs c, hp c]
        funext i
        pointwise [sum, ue2_apply]
        rfl),
      (h c).2.2.2.1.trans (by
        rw [hs c, hq c]
        funext i
        pointwise [sum, ue2_apply]
        rfl),
      (h c).2.2.2.2.1.trans (by
        rw [hs' c]
        funext i
        pointwise [sumw, ue2_apply]),
      (h c).2.2.2.2.2.1.trans (by
        rw [hw' c, hs' c, hp' c, hq' c]
        funext i
        pointwise [sumw, ue2_apply]
        rfl),
      (h c).2.2.2.2.2.2.1.trans (by
        rw [hs' c, hp' c]
        funext i
        pointwise [sumw, ue2_apply]
        rfl),
      (h c).2.2.2.2.2.2.2.1.trans (by
        rw [hs' c, hq' c]
        funext i
        pointwise [sumw, ue2_apply]
        rfl),
      (h c).2.2.2.2.2.2.2.2⟩) (Cert.Reference18Ideal.Value.run m ρ)
end Cert.SlabsR
-- ==== Proof.Slabs.lean ====
module
public import proofs.«01_k».proof.Defs
public import proofs.«01_k».proof.Proof.Gen.Kernel18
public import proofs.«01_k».proof.Proof.Gen.Kernel18.Frame
public import proofs.«01_k».proof.Proof.SlabsK
public import proofs.«01_k».proof.Proof.SlabsR
public import Idealize.ShloMosaic.Adequacy
public import Idealize.ShloMosaic.Init
public import Idealize.ShloMosaic.Lib.Quiescent
@[expose] public section
set_option maxRecDepth 16384
noncomputable section
namespace Cert.Slabs
open Idealize.ShloMosaic Idealize.ShloMosaic.TcCoe Idealize.SL.Sem Cert.Lift

theorem frame_kernel : Cert.quiescent_Kernel18 (hKernel18 := Cert.Kernel18.Gen.facts) := fun m ρ _ => Cert.Kernel18.Gen.frame m ρ
theorem frame_ideal : Cert.quiescent_Kernel18Ideal (hKernel18Ideal := Cert.Kernel18Ideal.Gen.facts) :=
  fun m ρ _ => Cert.Kernel18Ideal.Gen.frame m ρ
theorem frame_reference : Cert.quiescent_Reference18Ideal (hReference18Ideal := Cert.Reference18Ideal.Gen.facts) :=
  fun m ρ _ => (θ_run Cert.Reference18Ideal.defs _ _).mono
    (fun r h => ⟨fun c => (h c).2.2.2.2.2.2.2.2, sem_eq_zero_of_no_sems (by decide) r.2⟩) (Cert.Reference18Ideal.Value.run m ρ)

/-- The sums over the devices and the updates they give are the reference's. -/
theorem algebraic : Cert.algebraic_Kernel18Ideal_Reference18Ideal (hKernel18Ideal := Cert.Kernel18Ideal.Gen.facts)
    (hReference18Ideal := Cert.Reference18Ideal.Gen.facts) := by
  intro m0 g0 m1 g1 _ hagree
  choose s hs using fun c : Dev Cert.Kernel18Ideal.nD => exists_ue3 .f32 (m0 ((c.tc : Thread Cert.Kernel18Ideal.nD Cert.Kernel18Ideal.τ).loc Cert.Kernel18Ideal.main_arg0))
  choose s' hs' using fun c : Dev Cert.Kernel18Ideal.nD => exists_ue3 .f32 (m0 ((c.tc : Thread Cert.Kernel18Ideal.nD Cert.Kernel18Ideal.τ).loc Cert.Kernel18Ideal.main_arg1))
  choose w hw using fun c : Dev Cert.Kernel18Ideal.nD => exists_ue2 .f32 (m0 ((c.tc : Thread Cert.Kernel18Ideal.nD Cert.Kernel18Ideal.τ).loc Cert.Kernel18Ideal.main_arg2))
  choose w' hw' using fun c : Dev Cert.Kernel18Ideal.nD => exists_ue2 .f32 (m0 ((c.tc : Thread Cert.Kernel18Ideal.nD Cert.Kernel18Ideal.τ).loc Cert.Kernel18Ideal.main_arg3))
  choose p hp using fun c : Dev Cert.Kernel18Ideal.nD => exists_ue2 .f32 (m0 ((c.tc : Thread Cert.Kernel18Ideal.nD Cert.Kernel18Ideal.τ).loc Cert.Kernel18Ideal.main_arg4))
  choose p' hp' using fun c : Dev Cert.Kernel18Ideal.nD => exists_ue2 .f32 (m0 ((c.tc : Thread Cert.Kernel18Ideal.nD Cert.Kernel18Ideal.τ).loc Cert.Kernel18Ideal.main_arg5))
  choose q hq using fun c : Dev Cert.Kernel18Ideal.nD => exists_ue2 .f32 (m0 ((c.tc : Thread Cert.Kernel18Ideal.nD Cert.Kernel18Ideal.τ).loc Cert.Kernel18Ideal.main_arg6))
  choose q' hq' using fun c : Dev Cert.Kernel18Ideal.nD => exists_ue2 .f32 (m0 ((c.tc : Thread Cert.Kernel18Ideal.nD Cert.Kernel18Ideal.τ).loc Cert.Kernel18Ideal.main_arg7))
  exact ⟨_, _, _, _, _, _, _, _, Cert.SlabsK.run m0 g0 s s' w w' p p' q q' hs hs' hw hw' hp hp' hq hq',
    Cert.SlabsR.run m1 g1 s s' w w' p p' q q'
      (fun c => (hagree c).1.trans (hs c))
      (fun c => (hagree c).2.1.trans (hs' c))
      (fun c => (hagree c).2.2.1.trans (hw c))
      (fun c => (hagree c).2.2.2.1.trans (hw' c))
      (fun c => (hagree c).2.2.2.2.1.trans (hp c))
      (fun c => (hagree c).2.2.2.2.2.1.trans (hp' c))
      (fun c => (hagree c).2.2.2.2.2.2.1.trans (hq c))
      (fun c => (hagree c).2.2.2.2.2.2.2.trans (hq' c))⟩
end Cert.Slabs
-- ==== Proof.BigK.lean ====
module
public import proofs.«01_k».proof.Proof.Gen.Kernel19Ideal.Value
public import proofs.«01_k».proof.Proof.AdamMath
@[expose] public section
set_option maxRecDepth 16384
noncomputable section
namespace Cert.BigK
open Idealize.ShloMosaic Idealize.ShloMosaic.TcCoe Idealize.SL.Sem
open Idealize.ShloMosaic.Pipeline (Dat)
open Cert.Kernel19Ideal Cert.Kernel19Ideal.Gen Cert.Lift Cert.AdamMath

theorem idx : ∀ t : Fin cfg0.N, win0_0.index t = ![0, 0, t.val] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ t.val < 2 :=
  (by decide +kernel : ∀ t : Fin grid0.N, _)
theorem lt2 (t : Fin cfg0.N) : t.val < 2 := (idx t).2.2.2.2.2.2.2.2
/-- A grid point's block of five hundred and twelve columns. -/
def col (t : Fin cfg0.N) (j : Fin 512) : Fin 1024 := ⟨512 * t.val + j.val, by have := lt2 t; omega⟩

variable (m : (ℓ : Loc nD τ sig) → Buf (Elt Ideal) ℓ) (c : Dev nD) (s : Fin 8 → Fin 640 → Fin 1024 → EReal) (w p q : Fin 1 → Fin 1024 → Fin 640 → EReal)
theorem in0 (hs : m ((c : Thread nD τ).loc main_arg0) = ue3 .f32 s) (t : Fin cfg0.N) : iblk m c 0 t = ue3 .bf16 fun d i j => s d i (col t j) := by
  have h : V m c main_v0 = ue3 .bf16 s := by
    funext i
    entry_read
    rw [hs]
    pointwise [ue3_apply]
  funext y
  blk_simp [iblk]
  rw [h, ue3_apply, ue3_apply]
  have key : ∀ {a a' : Fin 8} {b b' : Fin 640} {d d' : Fin 1024}, a = a' → b = b' → d = d' → s a b d = s a' b' d' := by
    rintro _ _ _ _ _ _ rfl rfl rfl; rfl
  refine key (Fin.ext ?_) (Fin.ext ?_) (Fin.ext ?_) <;> blk_simp [idx t, col] <;> (try simp only [col]) <;> try omega
theorem in1 (hw : m ((c : Thread nD τ).loc main_arg1) = ue3 .f32 w) (t : Fin cfg0.N) : iblk m c 1 t = ue3 .f32 fun a j i => w a (col t j) i := by
  have h : V m c main_arg1 = ue3 .f32 w := hw
  funext y
  blk_simp [iblk]
  rw [h, ue3_apply, ue3_apply]
  have key : ∀ {a a' : Fin 1} {b b' : Fin 1024} {d d' : Fin 640}, a = a' → b = b' → d = d' → w a b d = w a' b' d' := by
    rintro _ _ _ _ _ _ rfl rfl rfl; rfl
  refine key (Fin.ext ?_) (Fin.ext ?_) (Fin.ext ?_) <;> blk_simp [idx t, col] <;> (try simp only [col]) <;> try omega
theorem in2 (hp : m ((c : Thread nD τ).loc main_arg2) = ue3 .f32 p) (t : Fin cfg0.N) : iblk m c 2 t = ue3 .f32 fun a j i => p a (col t j) i := by
  have h : V m c main_arg2 = ue3 .f32 p := hp
  funext y
  blk_simp [iblk]
  rw [h, ue3_apply, ue3_apply]
  have key : ∀ {a a' : Fin 1} {b b' : Fin 1024} {d d' : Fin 640}, a = a' → b = b' → d = d' → p a b d = p a' b' d' := by
    rintro _ _ _ _ _ _ rfl rfl rfl; rfl
  refine key (Fin.ext ?_) (Fin.ext ?_) (Fin.ext ?_) <;> blk_simp [idx t, col] <;> (try simp only [col]) <;> try omega
theorem in3 (hq : m ((c : Thread nD τ).loc main_arg3) = ue3 .f32 q) (t : Fin cfg0.N) : iblk m c 3 t = ue3 .f32 fun a j i => q a (col t j) i := by
  have h : V m c main_arg3 = ue3 .f32 q := hq
  funext y
  blk_simp [iblk]
  rw [h, ue3_apply, ue3_apply]
  have key : ∀ {a a' : Fin 1} {b b' : Fin 1024} {d d' : Fin 640}, a = a' → b = b' → d = d' → q a b d = q a' b' d' := by
    rintro _ _ _ _ _ _ rfl rfl rfl; rfl
  refine key (Fin.ext ?_) (Fin.ext ?_) (Fin.ext ?_) <;> blk_simp [idx t, col] <;> (try simp only [col]) <;> try omega
/-- The sum the scratch holds. -/
theorem acc (x : Fin 8 → Fin 640 → Fin 512 → EReal) (i : Fin 640) (j : Fin 512) :
    x 0 i j + x 1 i j + x 2 i j + x 3 i j + x 4 i j + x 5 i j + x 6 i j + x 7 i j = su x i j := su_eq x i j
section point
variable (hs : m ((c : Thread nD τ).loc main_arg0) = ue3 .f32 s) (hw : m ((c : Thread nD τ).loc main_arg1) = ue3 .f32 w)
  (hp : m ((c : Thread nD τ).loc main_arg2) = ue3 .f32 p) (hq : m ((c : Thread nD τ).loc main_arg3) = ue3 .f32 q)
include hs hw hp hq
theorem at0 (t : Fin cfg0.N) (y : S1x512x640.Idx) : (outsAt0 m c t).1 y = su s (y 2) (col t (y 1)) := by
  unfold outsAt0 out0_A_4
  dsimp only
  frame_out
  rw [in0 m c s hs]
  pointwise [k0_pay6, k0_pay5, k0_pay4, ue3_apply]
  exact congrArg (fun g : EReal => g) (su_eq s (y 2) (col t (y 1)))
theorem at1 (t : Fin cfg0.N) (y : S1x512x640.Idx) : (outsAt0 m c t).2.1 y = de (w (y 0) (col t (y 1)) (y 2)) (su s (y 2) (col t (y 1))) (p (y 0) (col t (y 1)) (y 2)) (q (y 0) (col t (y 1)) (y 2)) := by
  unfold outsAt0 out0_A_5
  dsimp only
  frame_out
  rw [in0 m c s hs, in1 m c w hw, in2 m c p hp, in3 m c q hq]
  pointwise [k0_pay1, k0_pay7, k0_pay10, k0_pay9, k0_pay8, k0_pay5, k0_pay4, ue3_apply]
  exact congrArg (fun g : EReal => de (w (y 0) (col t (y 1)) (y 2)) g (p (y 0) (col t (y 1)) (y 2)) (q (y 0) (col t (y 1)) (y 2))) (su_eq s (y 2) (col t (y 1)))
theorem at2 (t : Fin cfg0.N) (y : S1x512x640.Idx) : (outsAt0 m c t).2.2.1 y = mo (su s (y 2) (col t (y 1))) (p (y 0) (col t (y 1)) (y 2)) := by
  unfold outsAt0 out0_A_6
  dsimp only
  frame_out
  rw [in0 m c s hs, in2 m c p hp]
  pointwise [k0_pay2, k0_pay8, k0_pay5, k0_pay4, ue3_apply]
  exact congrArg (fun g : EReal => mo g (p (y 0) (col t (y 1)) (y 2))) (su_eq s (y 2) (col t (y 1)))
theorem at3 (t : Fin cfg0.N) (y : S1x512x640.Idx) : (outsAt0 m c t).2.2.2 y = ve (su s (y 2) (col t (y 1))) (q (y 0) (col t (y 1)) (y 2)) := by
  unfold outsAt0 out0_A_7
  dsimp only
  frame_out
  rw [in0 m c s hs, in3 m c q hq]
  pointwise [k0_pay3, k0_pay9, k0_pay5, k0_pay4, ue3_apply]
  exact congrArg (fun g : EReal => ve g (q (y 0) (col t (y 1)) (y 2))) (su_eq s (y 2) (col t (y 1)))
theorem arr0 : (dats m 0 c).arrAt 4 cfg0.N = ue3 .f32 (fun a j i => su s i j) := by
  refine (dats m 0 c).arrAt_eq_of_covers 4 _ (by decide +kernel) fun t _ y => ?_
  have ht := lt2 t
  blk_simp
  have key : su s (y 2) (col t (y 1)) = ue3 .f32 (fun a j i => su s i j) (((cfg0.win 4).blk t).view.emb y) := by
    rw [ue3_apply]
    have h : ∀ {a a' : Fin 1} {b b' : Fin 1024} {d d' : Fin 640}, a = a' → b = b' → d = d' → su s d b = su s d' b' := by
      rintro _ _ _ _ _ _ rfl rfl rfl; rfl
    refine h (a := (0 : Fin 1)) rfl (Fin.ext ?_) (Fin.ext ?_) <;> blk_simp [idx t] <;> (try simp only [col]) <;> try omega
  refine Eq.trans ?_ key
  rw [after0_4]
  exact at0 m c s w p q hs hw hp hq t y
theorem arr1 : (dats m 0 c).arrAt 5 cfg0.N = ue3 .f32 (fun a j i => de (w a j i) (su s i j) (p a j i) (q a j i)) := by
  refine (dats m 0 c).arrAt_eq_of_covers 5 _ (by decide +kernel) fun t _ y => ?_
  have ht := lt2 t
  blk_simp
  have key : de (w (y 0) (col t (y 1)) (y 2)) (su s (y 2) (col t (y 1))) (p (y 0) (col t (y 1)) (y 2)) (q (y 0) (col t (y 1)) (y 2)) = ue3 .f32 (fun a j i => de (w a j i) (su s i j) (p a j i) (q a j i)) (((cfg0.win 5).blk t).view.emb y) := by
    rw [ue3_apply]
    have h : ∀ {a a' : Fin 1} {b b' : Fin 1024} {d d' : Fin 640}, a = a' → b = b' → d = d' → de (w a b d) (su s d b) (p a b d) (q a b d) = de (w a' b' d') (su s d' b') (p a' b' d') (q a' b' d') := by
      rintro _ _ _ _ _ _ rfl rfl rfl; rfl
    refine h (Fin.ext ?_) (Fin.ext ?_) (Fin.ext ?_) <;> blk_simp [idx t] <;> (try simp only [col]) <;> try omega
  refine Eq.trans ?_ key
  rw [after0_5]
  exact at1 m c s w p q hs hw hp hq t y
theorem arr2 : (dats m 0 c).arrAt 6 cfg0.N = ue3 .f32 (fun a j i => mo (su s i j) (p a j i)) := by
  refine (dats m 0 c).arrAt_eq_of_covers 6 _ (by decide +kernel) fun t _ y => ?_
  have ht := lt2 t
  blk_simp
  have key : mo (su s (y 2) (col t (y 1))) (p (y 0) (col t (y 1)) (y 2)) = ue3 .f32 (fun a j i => mo (su s i j) (p a j i)) (((cfg0.win 6).blk t).view.emb y) := by
    rw [ue3_apply]
    have h : ∀ {a a' : Fin 1} {b b' : Fin 1024} {d d' : Fin 640}, a = a' → b = b' → d = d' → mo (su s d b) (p a b d) = mo (su s d' b') (p a' b' d') := by
      rintro _ _ _ _ _ _ rfl rfl rfl; rfl
    refine h (Fin.ext ?_) (Fin.ext ?_) (Fin.ext ?_) <;> blk_simp [idx t] <;> (try simp only [col]) <;> try omega
  refine Eq.trans ?_ key
  rw [after0_6]
  exact at2 m c s w p q hs hw hp hq t y
theorem arr3 : (dats m 0 c).arrAt 7 cfg0.N = ue3 .f32 (fun a j i => ve (su s i j) (q a j i)) := by
  refine (dats m 0 c).arrAt_eq_of_covers 7 _ (by decide +kernel) fun t _ y => ?_
  have ht := lt2 t
  blk_simp
  have key : ve (su s (y 2) (col t (y 1))) (q (y 0) (col t (y 1)) (y 2)) = ue3 .f32 (fun a j i => ve (su s i j) (q a j i)) (((cfg0.win 7).blk t).view.emb y) := by
    rw [ue3_apply]
    have h : ∀ {a a' : Fin 1} {b b' : Fin 1024} {d d' : Fin 640}, a = a' → b = b' → d = d' → ve (su s d b) (q a b d) = ve (su s d' b') (q a' b' d') := by
      rintro _ _ _ _ _ _ rfl rfl rfl; rfl
    refine h (Fin.ext ?_) (Fin.ext ?_) (Fin.ext ?_) <;> blk_simp [idx t] <;> (try simp only [col]) <;> try omega
  refine Eq.trans ?_ key
  rw [after0_7]
  exact at3 m c s w p q hs hw hp hq t y
end point
/-- The run from any arguments. -/
theorem run (ρ : Dev nD → PrngReg) (s : Dev nD → Fin 8 → Fin 640 → Fin 1024 → EReal) (w p q : Dev nD → Fin 1 → Fin 1024 → Fin 640 → EReal)
    (hs : ∀ c : Dev nD, m ((c.tc : Thread nD τ).loc main_arg0) = ue3 .f32 (s c))
    (hw : ∀ c : Dev nD, m ((c.tc : Thread nD τ).loc main_arg1) = ue3 .f32 (w c))
    (hp : ∀ c : Dev nD, m ((c.tc : Thread nD τ).loc main_arg2) = ue3 .f32 (p c))
    (hq : ∀ c : Dev nD, m ((c.tc : Thread nD τ).loc main_arg3) = ue3 .f32 (q c)) :
    θ_run defs (onTc (τ := τ) (main (F := Ideal))) ⟨m, fun _ => 0, ρ⟩ fun r => ∀ c : Dev nD,
      r.2.mem ((c.tc : Thread nD τ).loc main_v1_0) = ue3 .f32 (fun a j i => su (s c) i j)
      ∧ r.2.mem ((c.tc : Thread nD τ).loc main_v1_1) = ue3 .f32 (fun a j i => de (w c a j i) (su (s c) i j) (p c a j i) (q c a j i))
      ∧ r.2.mem ((c.tc : Thread nD τ).loc main_v1_2) = ue3 .f32 (fun a j i => mo (su (s c) i j) (p c a j i))
      ∧ r.2.mem ((c.tc : Thread nD τ).loc main_v1_3) = ue3 .f32 (fun a j i => ve (su (s c) i j) (q c a j i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr0 m c (s c) (w c) (p c) (q c) (hs c) (hw c) (hp c) (hq c)),
      (h c).2.1.trans (arr1 m c (s c) (w c) (p c) (q c) (hs c) (hw c) (hp c) (hq c)),
      (h c).2.2.1.trans (arr2 m c (s c) (w c) (p c) (q c) (hs c) (hw c) (hp c) (hq c)),
      (h c).2.2.2.1.trans (arr3 m c (s c) (w c) (p c) (q c) (hs c) (hw c) (hp c) (hq c)),
      (h c).2.2.2.2⟩) (Cert.Kernel19Ideal.Value.run_blocks m ρ)
end Cert.BigK
-- ==== Proof.BigR.lean ====
module
public import proofs.«01_k».proof.Proof.Gen.Reference19Ideal.Run
public import proofs.«01_k».proof.Proof.AdamMath
@[expose] public section
set_option maxRecDepth 16384
noncomputable section
namespace Cert.BigR
open Idealize.ShloMosaic Idealize.ShloMosaic.TcCoe Idealize.SL.Sem
open Cert.Reference19Ideal Cert.Reference19Ideal.Gen Cert.Lift Cert.AdamMath

/-- The sum over the devices, transposed. -/
theorem sum (s : Fin 8 → Fin 640 → Fin 1024 → EReal) :
    (broadcastInDim S1x1024x640 ![1, 2] bcast_S1024x640_S1x1024x640_1_2 (transpose S1024x640 [1, 0] (Host.reduceAdd (F := Ideal) (extf .f32 (truncf .bf16 (ue3 .f32 s) bitsLt_bf16_f32) bitsLt_bf16_f32) (constant S_ .f32 0x00000000#32) reducesTo_S8x640x1024_S640x1024_d0 h_S_) transposes_S640x1024_S1024x640_1_0) : FVec Ideal S1x1024x640 .f32)
      = ue3 .f32 (fun a j i => su s i j) := by
  funext i
  pointwise [ue3_apply]
  rfl
/-- The run from any arguments. -/
theorem run (m : (ℓ : Loc nD τ sig) → Buf (Elt Ideal) ℓ) (ρ : Dev nD → PrngReg)
    (s : Dev nD → Fin 8 → Fin 640 → Fin 1024 → EReal) (w p q : Dev nD → Fin 1 → Fin 1024 → Fin 640 → EReal)
    (hs : ∀ c : Dev nD, m ((c.tc : Thread nD τ).loc main_arg0) = ue3 .f32 (s c))
    (hw : ∀ c : Dev nD, m ((c.tc : Thread nD τ).loc main_arg1) = ue3 .f32 (w c))
    (hp : ∀ c : Dev nD, m ((c.tc : Thread nD τ).loc main_arg2) = ue3 .f32 (p c))
    (hq : ∀ c : Dev nD, m ((c.tc : Thread nD τ).loc main_arg3) = ue3 .f32 (q c)) :
    θ_run defs (onTc (τ := τ) (main (F := Ideal))) ⟨m, fun _ => 0, ρ⟩ fun r => ∀ c : Dev nD,
      r.2.mem ((c.tc : Thread nD τ).loc main_v4) = ue3 .f32 (fun a j i => su (s c) i j)
      ∧ r.2.mem ((c.tc : Thread nD τ).loc main_v28) = ue3 .f32 (fun a j i => de (w c a j i) (su (s c) i j) (p c a j i) (q c a j i))
      ∧ r.2.mem ((c.tc : Thread nD τ).loc main_v9) = ue3 .f32 (fun a j i => mo (su (s c) i j) (p c a j i))
      ∧ r.2.mem ((c.tc : Thread nD τ).loc main_v15) = ue3 .f32 (fun a j i => ve (su (s c) i j) (q c a j i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
        rw [hs c, sum]),
      (h c).2.1.trans (by
        rw [hw c, hp c, hq c, hs c, sum]
        funext y
        pointwise [ue3_apply]
        rfl),
      (h c).2.2.1.trans (by
        rw [hp c, hs c, sum]
        funext y
        pointwise [ue3_apply]
        rfl),
      (h c).2.2.2.1.trans (by
        rw [hq c, hs c, sum]
        funext y
        pointwise [ue3_apply]
        rfl),
      (h c).2.2.2.2⟩) (Cert.Reference19Ideal.Value.run m ρ)
end Cert.BigR
-- ==== Proof.Big.lean ====
module
public import proofs.«01_k».proof.Defs
public import proofs.«01_k».proof.Proof.Gen.Kernel19
public import proofs.«01_k».proof.Proof.Gen.Kernel19.Frame
public import proofs.«01_k».proof.Proof.BigK
public import proofs.«01_k».proof.Proof.BigR
public import Idealize.ShloMosaic.Adequacy
public import Idealize.ShloMosaic.Init
public import Idealize.ShloMosaic.Lib.Quiescent
@[expose] public section
set_option maxRecDepth 16384
noncomputable section
namespace Cert.Big
open Idealize.ShloMosaic Idealize.ShloMosaic.TcCoe Idealize.SL.Sem Cert.Lift

theorem frame_kernel : Cert.quiescent_Kernel19 (hKernel19 := Cert.Kernel19.Gen.facts) := fun m ρ _ => Cert.Kernel19.Gen.frame m ρ
theorem frame_ideal : Cert.quiescent_Kernel19Ideal (hKernel19Ideal := Cert.Kernel19Ideal.Gen.facts) :=
  fun m ρ _ => Cert.Kernel19Ideal.Gen.frame m ρ
theorem frame_reference : Cert.quiescent_Reference19Ideal (hReference19Ideal := Cert.Reference19Ideal.Gen.facts) :=
  fun m ρ _ => (θ_run Cert.Reference19Ideal.defs _ _).mono
    (fun r h => ⟨fun c => (h c).2.2.2.2, sem_eq_zero_of_no_sems (by decide) r.2⟩) (Cert.Reference19Ideal.Value.run m ρ)

/-- The sum over the devices and the update of the transposed weight are the reference's. -/
theorem algebraic : Cert.algebraic_Kernel19Ideal_Reference19Ideal (hKernel19Ideal := Cert.Kernel19Ideal.Gen.facts)
    (hReference19Ideal := Cert.Reference19Ideal.Gen.facts) := by
  intro m0 g0 m1 g1 _ hagree
  choose s hs using fun c : Dev Cert.Kernel19Ideal.nD => exists_ue3 .f32 (m0 ((c.tc : Thread Cert.Kernel19Ideal.nD Cert.Kernel19Ideal.τ).loc Cert.Kernel19Ideal.main_arg0))
  choose w hw using fun c : Dev Cert.Kernel19Ideal.nD => exists_ue3 .f32 (m0 ((c.tc : Thread Cert.Kernel19Ideal.nD Cert.Kernel19Ideal.τ).loc Cert.Kernel19Ideal.main_arg1))
  choose p hp using fun c : Dev Cert.Kernel19Ideal.nD => exists_ue3 .f32 (m0 ((c.tc : Thread Cert.Kernel19Ideal.nD Cert.Kernel19Ideal.τ).loc Cert.Kernel19Ideal.main_arg2))
  choose q hq using fun c : Dev Cert.Kernel19Ideal.nD => exists_ue3 .f32 (m0 ((c.tc : Thread Cert.Kernel19Ideal.nD Cert.Kernel19Ideal.τ).loc Cert.Kernel19Ideal.main_arg3))
  exact ⟨_, _, _, _, Cert.BigK.run m0 g0 s w p q hs hw hp hq,
    Cert.BigR.run m1 g1 s w p q
      (fun c => (hagree c).1.trans (hs c))
      (fun c => (hagree c).2.1.trans (hw c))
      (fun c => (hagree c).2.2.1.trans (hp c))
      (fun c => (hagree c).2.2.2.trans (hq c))⟩
end Cert.Big
-- ==== Proof.PackMath.lean ====
module
public import proofs.«01_k».proof.Proof.Lift
@[expose] public section
noncomputable section
/-! The slab of the small gradients: which array's which entry lies at which row and column. -/
namespace Cert.PackMath
/-- The fourteen arrays that the slab is packed from. -/
structure Parts where
  /-- The memory norm's gradient. -/
  x0 : Fin 1 → Fin 1024 → EReal
  /-- The lower bounds' gradient. -/
  x1 : Fin 3 → Fin 1024 → EReal
  /-- The first feed-forward's norm at layer 0. -/
  x2 : Fin 1 → Fin 1024 → EReal
  /-- The first feed-forward's norm at layer 1. -/
  x3 : Fin 1 → Fin 1024 → EReal
  /-- The mixers' norm at layer 0. -/
  x4 : Fin 1 → Fin 1024 → EReal
  /-- The mixers' norm at layer 1. -/
  x5 : Fin 1 → Fin 1024 → EReal
  /-- The recurrence's norm. -/
  x6 : Fin 1 → Fin 128 → EReal
  /-- The gate's scale. -/
  x7 : Fin 1 → Fin 2048 → EReal
  /-- The gate's shift. -/
  x8 : Fin 1 → Fin 2048 → EReal
  /-- The gate's bias. -/
  x9 : Fin 8 → Fin 128 → EReal
  /-- The second feed-forward's norm at layer 0. -/
  x10 : Fin 1 → Fin 1024 → EReal
  /-- The second feed-forward's norm at layer 1. -/
  x11 : Fin 1 → Fin 1024 → EReal
  /-- The final norm. -/
  x12 : Fin 1 → Fin 1024 → EReal
  /-- The loss. -/
  x13 : Fin 1 → Fin 128 → EReal

/-- A narrow row widened by zeros. -/
def wide (x : Fin 1 → Fin 128 → EReal) (j : Fin 1024) : EReal := if h : j.val < 128 then x 0 ⟨j.val, h⟩ else 0
/-- Row `r` of the two that a row of two thousand and forty-eight columns makes. -/
def half (x : Fin 1 → Fin 2048 → EReal) (r : ℕ) (j : Fin 1024) : EReal := x 0 (Fin.ofNat 2048 (1024 * r + j.val))
/-- Eight rows as one. -/
def long (x : Fin 8 → Fin 128 → EReal) (j : Fin 1024) : EReal := x (Fin.ofNat 8 (j.val / 128)) (Fin.ofNat 128 (j.val % 128))
/-- The slab at a row and a column. -/
def slab (P : Parts) (r : Fin 24) (j : Fin 1024) : EReal :=
  if r.val = 0 then P.x0 0 j else if r.val < 4 then P.x1 (Fin.ofNat 3 (r.val - 1)) j
  else if r.val = 4 then P.x2 0 j else if r.val = 5 then P.x3 0 j else if r.val = 6 then P.x4 0 j else if r.val = 7 then P.x5 0 j
  else if r.val = 8 then wide P.x6 j else if r.val < 11 then half P.x7 (r.val - 9) j else if r.val < 13 then half P.x8 (r.val - 11) j
  else if r.val = 13 then long P.x9 j else if r.val = 14 then P.x10 0 j else if r.val = 15 then P.x11 0 j
  else if r.val = 16 then P.x12 0 j else if r.val = 17 then wide P.x13 j else 0

variable (P : Parts) (r : Fin 24) (j : Fin 1024)
section whole
variable (a : Fin 1) (b : Fin 1024) (hb : b.val = j.val)
include hb
theorem r0 (hr : r.val = 0) : P.x0 a b = slab P r j := by
  obtain rfl := Fin.ext hb; obtain rfl := Subsingleton.elim a 0; simp [slab, hr]
theorem r2 (hr : r.val = 4) : P.x2 a b = slab P r j := by
  obtain rfl := Fin.ext hb; obtain rfl := Subsingleton.elim a 0; simp [slab, hr]
theorem r3 (hr : r.val = 5) : P.x3 a b = slab P r j := by
  obtain rfl := Fin.ext hb; obtain rfl := Subsingleton.elim a 0; simp [slab, hr]
theorem r4 (hr : r.val = 6) : P.x4 a b = slab P r j := by
  obtain rfl := Fin.ext hb; obtain rfl := Subsingleton.elim a 0; simp [slab, hr]
theorem r5 (hr : r.val = 7) : P.x5 a b = slab P r j := by
  obtain rfl := Fin.ext hb; obtain rfl := Subsingleton.elim a 0; simp [slab, hr]
theorem r10 (hr : r.val = 14) : P.x10 a b = slab P r j := by
  obtain rfl := Fin.ext hb; obtain rfl := Subsingleton.elim a 0; simp [slab, hr]
theorem r11 (hr : r.val = 15) : P.x11 a b = slab P r j := by
  obtain rfl := Fin.ext hb; obtain rfl := Subsingleton.elim a 0; simp [slab, hr]
theorem r12 (hr : r.val = 16) : P.x12 a b = slab P r j := by
  obtain rfl := Fin.ext hb; obtain rfl := Subsingleton.elim a 0; simp [slab, hr]
theorem r1 (a : Fin 3) (hr : r.val = a.val + 1) : P.x1 a b = slab P r j := by
  obtain rfl := Fin.ext hb
  have := a.isLt
  have e : Fin.ofNat 3 (r.val - 1) = a := Fin.ext (by simp only [Fin.val_ofNat]; omega)
  rw [slab, if_neg (by omega), if_pos (by omega), e]
end whole
section narrow
variable (a : Fin 1) (b : Fin 128) (hb : b.val = j.val)
include hb
theorem wide_in (x : Fin 1 → Fin 128 → EReal) : x a b = wide x j := by
  obtain rfl := Subsingleton.elim a 0
  rw [wide, dif_pos (by omega)]
  exact congrArg _ (Fin.ext hb)
theorem r6 (hr : r.val = 8) : P.x6 a b = slab P r j := by rw [wide_in j a b hb P.x6]; simp [slab, hr]
theorem r13 (hr : r.val = 17) : P.x13 a b = slab P r j := by rw [wide_in j a b hb P.x13]; simp [slab, hr]
end narrow
section wider
variable (a : Fin 1) (b : Fin 2048)
theorem half_in (x : Fin 1 → Fin 2048 → EReal) (n : ℕ) (hb : b.val = 1024 * n + j.val) : x a b = half x n j := by
  obtain rfl := Subsingleton.elim a 0
  have := b.isLt
  rw [half]
  exact congrArg _ (Fin.ext (by simp only [Fin.val_ofNat]; omega))
theorem r7 (n : ℕ) (hn : n < 2) (hr : r.val = 9 + n) (hb : b.val = 1024 * n + j.val) : P.x7 a b = slab P r j := by
  rw [half_in j a b P.x7 n hb, slab]
  iterate 7 rw [if_neg (by omega)]
  rw [if_pos (by omega), show r.val - 9 = n by omega]
theorem r8 (n : ℕ) (hn : n < 2) (hr : r.val = 11 + n) (hb : b.val = 1024 * n + j.val) : P.x8 a b = slab P r j := by
  rw [half_in j a b P.x8 n hb, slab]
  iterate 8 rw [if_neg (by omega)]
  rw [if_pos (by omega), show r.val - 11 = n by omega]
end wider
theorem r9 (a : Fin 8) (b : Fin 128) (hb : j.val = 128 * a.val + b.val) (hr : r.val = 13) : P.x9 a b = slab P r j := by
  have ha := a.isLt
  have hbb := b.isLt
  have e : slab P r j = long P.x9 j := by simp [slab, hr]
  rw [e, long]
  exact congrArg₂ P.x9 (Fin.ext (by simp only [Fin.val_ofNat]; omega)) (Fin.ext (by simp only [Fin.val_ofNat]; omega))
/-- Outside the arrays' entries the slab is zero. -/
theorem zero (h : 18 ≤ r.val ∨ (r.val = 8 ∨ r.val = 17) ∧ 128 ≤ j.val) : 0 = slab P r j := by
  rcases h with h | ⟨h | h, h'⟩
  · rw [slab]
    iterate 14 rw [if_neg (by omega)]
  · simp [slab, h, wide]; omega
  · simp [slab, h, wide]; omega
end Cert.PackMath
-- ==== Proof.PackK.lean ====
module
public import proofs.«01_k».proof.Proof.Gen.Kernel20Ideal.Value
public import proofs.«01_k».proof.Proof.PackMath
public import Idealize.ShloMosaic.Lib.Pipeline.ReadBack
@[expose] public section
set_option maxRecDepth 16384
noncomputable section
namespace Cert.PackK
open Idealize.ShloMosaic Idealize.ShloMosaic.TcCoe Idealize.SL.Sem
open Idealize.ShloMosaic.Pipeline (Dat)
open Cert.Kernel20Ideal Cert.Kernel20Ideal.Gen Cert.Lift Cert.PackMath

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)
theorem idx2 {a b : ℕ} {i j : Shape.Idx ⟨2, ![a, b]⟩} (h0 : (i 0).val = (j 0).val) (h1 : (i 1).val = (j 1).val) : i = j := by
  funext d
  fin_cases d
  · exact Fin.ext h0
  · exact Fin.ext h1
/-- A buffer's content where the last piece stored holds the index, and where it does not: `Q` says that it does. -/
theorem step {Val : EltTy → Type} [∀ e, Nonempty (Val e)] {e : EltTy} {n k : ℕ} {off size : Fin 2 → ℕ} (inb : ∀ a, off a + size a ≤ (⟨2, ![n, k]⟩ : Shape).size a)
    (w : (Rect.unit (s := ⟨2, ![n, k]⟩) off size inb).shape.Idx → Val e) (L : List (View.Piece Val ⟨2, ![n, k]⟩ e)) (y : Shape.Idx ⟨2, ![n, k]⟩) (v : Val e) (Q : Prop)
    (hQ : Q → (off 0 ≤ (y 0).val ∧ (y 0).val < off 0 + size 0) ∧ off 1 ≤ (y 1).val ∧ (y 1).val < off 1 + size 1)
    (h : View.TileAt (S := ⟨2, ![n, k]⟩) y off size w v) (h' : ¬ Q → View.canon L y = v) :
    View.canon ((⟨Rect.unit (s := ⟨2, ![n, k]⟩) off size inb, w⟩ : View.Piece Val ⟨2, ![n, k]⟩ e) :: L) y = v := by
  by_cases hm : y ∈ (Rect.unit (s := ⟨2, ![n, k]⟩) off size inb).set
  · obtain ⟨x, rfl⟩ := (Rect.unit (s := ⟨2, ![n, k]⟩) off size inb).exists_idx_of_mem hm
    refine (View.canon_cons_emb _ w L x).trans (h x fun a => ?_)
    exact Rect.idx_unit_val off size inb x a
  · rw [View.canon_cons_of_not_mem _ _ hm]
    refine h' fun q => hm (Rect.mem_set_unit.mpr fun a => ?_)
    obtain ⟨q0, q1⟩ := hQ q
    fin_cases a
    · exact q0
    · exact q1
/-- A load of a block of an array, at an index. -/
theorem ld2 {n k : ℕ} (X : Fin n → Fin k → EReal) {off size : Fin 2 → ℕ} (inb : ∀ a, off a + size a ≤ (⟨2, ![n, k]⟩ : Shape).size a)
    (x : (Rect.unit (s := ⟨2, ![n, k]⟩) off size inb).shape.Idx) (a : Fin n) (b : Fin k) (ha : a.val = off 0 + (x 0).val) (hb : b.val = off 1 + (x 1).val) :
    View.ld (Val := Elt Ideal) (e' := .f32) (ue2 .f32 X) (Rect.unit (s := ⟨2, ![n, k]⟩) off size inb) x = X a b := by
  refine (View.ld_unit_apply_of _ off size inb x (ix2 a b) fun d => ?_).trans rfl
  fin_cases d
  · exact ha
  · exact hb
/-- What is left of the rows and columns. -/
theorem rest {r c : ℕ} (n17 : ¬ (r = 17 ∧ c < 128)) (n16 : ¬ r = 16) (n15 : ¬ r = 15) (n14 : ¬ r = 14) (n13 : r ≠ 13) (n12 : ¬ r = 12) (n11 : ¬ r = 11)
    (n10 : ¬ r = 10) (n9 : ¬ r = 9) (n8 : ¬ (r = 8 ∧ c < 128)) (n7 : ¬ r = 7) (n6 : ¬ r = 6) (n5 : ¬ r = 5) (n4 : ¬ r = 4) (n1 : ¬ (1 ≤ r ∧ r < 4)) (n0 : ¬ r = 0) :
    18 ≤ r ∨ (r = 8 ∨ r = 17) ∧ 128 ≤ c := by
  by_cases h : r < 18
  · interval_cases r <;> omega
  · exact .inl (by omega)
variable (m : (ℓ : Loc nD τ sig) → Buf (Elt Ideal) ℓ) (c : Dev nD) (P : Parts)
theorem in0 (h : m ((c : Thread nD τ).loc main_arg0) = ue2 .f32 P.x0) (t : Fin cfg0.N) : iblk m c 0 t = ue2 .f32 P.x0 := by
  refine Eq.trans (funext fun y => ?_) h
  blk_simp [iblk]
  refine congrArg (m ((c : Thread nD τ).loc main_arg0)) (idx2 ?_ ?_) <;> blk_simp [idx t] <;> (try omega)
theorem in1 (h : m ((c : Thread nD τ).loc main_arg1) = ue2 .f32 P.x1) (t : Fin cfg0.N) : iblk m c 1 t = ue2 .f32 P.x1 := by
  refine Eq.trans (funext fun y => ?_) h
  blk_simp [iblk]
  refine congrArg (m ((c : Thread nD τ).loc main_arg1)) (idx2 ?_ ?_) <;> blk_simp [idx t] <;> (try omega)
theorem in2 (h : m ((c : Thread nD τ).loc main_arg2) = ue2 .f32 P.x2) (t : Fin cfg0.N) : iblk m c 2 t = ue2 .f32 P.x2 := by
  refine Eq.trans (funext fun y => ?_) h
  blk_simp [iblk]
  refine congrArg (m ((c : Thread nD τ).loc main_arg2)) (idx2 ?_ ?_) <;> blk_simp [idx t] <;> (try omega)
theorem in3 (h : m ((c : Thread nD τ).loc main_arg3) = ue2 .f32 P.x3) (t : Fin cfg0.N) : iblk m c 3 t = ue2 .f32 P.x3 := by
  refine Eq.trans (funext fun y => ?_) h
  blk_simp [iblk]
  refine congrArg (m ((c : Thread nD τ).loc main_arg3)) (idx2 ?_ ?_) <;> blk_simp [idx t] <;> (try omega)
theorem in4 (h : m ((c : Thread nD τ).loc main_arg4) = ue2 .f32 P.x4) (t : Fin cfg0.N) : iblk m c 4 t = ue2 .f32 P.x4 := by
  refine Eq.trans (funext fun y => ?_) h
  blk_simp [iblk]
  refine congrArg (m ((c : Thread nD τ).loc main_arg4)) (idx2 ?_ ?_) <;> blk_simp [idx t] <;> (try omega)
theorem in5 (h : m ((c : Thread nD τ).loc main_arg5) = ue2 .f32 P.x5) (t : Fin cfg0.N) : iblk m c 5 t = ue2 .f32 P.x5 := by
  refine Eq.trans (funext fun y => ?_) h
  blk_simp [iblk]
  refine congrArg (m ((c : Thread nD τ).loc main_arg5)) (idx2 ?_ ?_) <;> blk_simp [idx t] <;> (try omega)
theorem in6 (h : m ((c : Thread nD τ).loc main_arg6) = ue2 .f32 P.x6) (t : Fin cfg0.N) : iblk m c 6 t = ue2 .f32 P.x6 := by
  refine Eq.trans (funext fun y => ?_) h
  blk_simp [iblk]
  refine congrArg (m ((c : Thread nD τ).loc main_arg6)) (idx2 ?_ ?_) <;> blk_simp [idx t] <;> (try omega)
theorem in7 (h : m ((c : Thread nD τ).loc main_arg7) = ue2 .f32 P.x7) (t : Fin cfg0.N) : iblk m c 7 t = ue2 .f32 P.x7 := by
  refine Eq.trans (funext fun y => ?_) h
  blk_simp [iblk]
  refine congrArg (m ((c : Thread nD τ).loc main_arg7)) (idx2 ?_ ?_) <;> blk_simp [idx t] <;> (try omega)
theorem in8 (h : m ((c : Thread nD τ).loc main_arg8) = ue2 .f32 P.x8) (t : Fin cfg0.N) : iblk m c 8 t = ue2 .f32 P.x8 := by
  refine Eq.trans (funext fun y => ?_) h
  blk_simp [iblk]
  refine congrArg (m ((c : Thread nD τ).loc main_arg8)) (idx2 ?_ ?_) <;> blk_simp [idx t] <;> (try omega)
theorem in9 (h : m ((c : Thread nD τ).loc main_arg9) = ue2 .f32 P.x9) (t : Fin cfg0.N) : iblk m c 9 t = ue2 .f32 P.x9 := by
  refine Eq.trans (funext fun y => ?_) h
  blk_simp [iblk]
  refine congrArg (m ((c : Thread nD τ).loc main_arg9)) (idx2 ?_ ?_) <;> blk_simp [idx t] <;> (try omega)
theorem in10 (h : m ((c : Thread nD τ).loc main_arg10) = ue2 .f32 P.x10) (t : Fin cfg0.N) : iblk m c 10 t = ue2 .f32 P.x10 := by
  refine Eq.trans (funext fun y => ?_) h
  blk_simp [iblk]
  refine congrArg (m ((c : Thread nD τ).loc main_arg10)) (idx2 ?_ ?_) <;> blk_simp [idx t] <;> (try omega)
theorem in11 (h : m ((c : Thread nD τ).loc main_arg11) = ue2 .f32 P.x11) (t : Fin cfg0.N) : iblk m c 11 t = ue2 .f32 P.x11 := by
  refine Eq.trans (funext fun y => ?_) h
  blk_simp [iblk]
  refine congrArg (m ((c : Thread nD τ).loc main_arg11)) (idx2 ?_ ?_) <;> blk_simp [idx t] <;> (try omega)
theorem in12 (h : m ((c : Thread nD τ).loc main_arg12) = ue2 .f32 P.x12) (t : Fin cfg0.N) : iblk m c 12 t = ue2 .f32 P.x12 := by
  refine Eq.trans (funext fun y => ?_) h
  blk_simp [iblk]
  refine congrArg (m ((c : Thread nD τ).loc main_arg12)) (idx2 ?_ ?_) <;> blk_simp [idx t] <;> (try omega)
theorem in13 (h : m ((c : Thread nD τ).loc main_arg13) = ue2 .f32 P.x13) (t : Fin cfg0.N) : iblk m c 13 t = ue2 .f32 P.x13 := by
  refine Eq.trans (funext fun y => ?_) h
  blk_simp [iblk]
  refine congrArg (m ((c : Thread nD τ).loc main_arg13)) (idx2 ?_ ?_) <;> blk_simp [idx t] <;> (try omega)
section point
set_option maxHeartbeats 1600000
variable
  (h0 : m ((c : Thread nD τ).loc main_arg0) = ue2 .f32 P.x0)
  (h1 : m ((c : Thread nD τ).loc main_arg1) = ue2 .f32 P.x1)
  (h2 : m ((c : Thread nD τ).loc main_arg2) = ue2 .f32 P.x2)
  (h3 : m ((c : Thread nD τ).loc main_arg3) = ue2 .f32 P.x3)
  (h4 : m ((c : Thread nD τ).loc main_arg4) = ue2 .f32 P.x4)
  (h5 : m ((c : Thread nD τ).loc main_arg5) = ue2 .f32 P.x5)
  (h6 : m ((c : Thread nD τ).loc main_arg6) = ue2 .f32 P.x6)
  (h7 : m ((c : Thread nD τ).loc main_arg7) = ue2 .f32 P.x7)
  (h8 : m ((c : Thread nD τ).loc main_arg8) = ue2 .f32 P.x8)
  (h9 : m ((c : Thread nD τ).loc main_arg9) = ue2 .f32 P.x9)
  (h10 : m ((c : Thread nD τ).loc main_arg10) = ue2 .f32 P.x10)
  (h11 : m ((c : Thread nD τ).loc main_arg11) = ue2 .f32 P.x11)
  (h12 : m ((c : Thread nD τ).loc main_arg12) = ue2 .f32 P.x12)
  (h13 : m ((c : Thread nD τ).loc main_arg13) = ue2 .f32 P.x13)
include h0 h1 h2 h3 h4 h5 h6 h7 h8 h9 h10 h11 h12 h13
theorem at0 (t : Fin cfg0.N) (y : S24x1024.Idx) : outsAt0 m c t y = ue2 .f32 (slab P) y := by
  unfold outsAt0 out0_A_14
  dsimp only
  frame_out
  rw [in0 m c P h0, in1 m c P h1, in2 m c P h2, in3 m c P h3, in4 m c P h4, in5 m c P h5, in6 m c P h6, in7 m c P h7, in8 m c P h8, in9 m c P h9, in10 m c P h10, in11 m c P h11, in12 m c P h12, in13 m c P h13]
  clear h0 h1 h2 h3 h4 h5 h6 h7 h8 h9 h10 h11 h12 h13
  simp only [read_unread_whole]
  have y0 : (y 0).val < 24 := (y 0).isLt
  have y1 : (y 1).val < 1024 := (y 1).isLt
  refine step _ _ _ y _ ((y 0).val = 17 ∧ (y 1).val < 128) (fun q => by simp only [Matrix.cons_val]; omega) ?_ fun n17 => ?_
  · tile_intro x h
    exact r13 P _ _ _ _ h1.symm (by omega)
  refine step _ _ _ y _ ((y 0).val = 16) (fun q => by simp only [Matrix.cons_val]; omega) ?_ fun n16 => ?_
  · tile_intro x h
    exact r12 P _ _ _ _ h1.symm (by omega)
  refine step _ _ _ y _ ((y 0).val = 15) (fun q => by simp only [Matrix.cons_val]; omega) ?_ fun n15 => ?_
  · tile_intro x h
    exact r11 P _ _ _ _ h1.symm (by omega)
  refine step _ _ _ y _ ((y 0).val = 14) (fun q => by simp only [Matrix.cons_val]; omega) ?_ fun n14 => ?_
  · tile_intro x h
    exact r10 P _ _ _ _ h1.symm (by omega)
  refine step _ _ _ y _ ((y 0).val = 13 ∧ 896 ≤ (y 1).val ∧ (y 1).val < 1024) (fun q => by simp only [Matrix.cons_val]; omega) ?_ fun m7 => ?_
  · tile_intro x h
    exact (ld2 P.x9 _ x ⟨7, by decide⟩ ⟨(x 1).val, x1_lt⟩ (by show 7 = 7 + (x 0).val; omega) (Nat.zero_add _).symm).trans (r9 P _ _ _ _ (by dsimp only; omega) (by omega))
  refine step _ _ _ y _ ((y 0).val = 13 ∧ 768 ≤ (y 1).val ∧ (y 1).val < 896) (fun q => by simp only [Matrix.cons_val]; omega) ?_ fun m6 => ?_
  · tile_intro x h
    exact (ld2 P.x9 _ x ⟨6, by decide⟩ ⟨(x 1).val, x1_lt⟩ (by show 6 = 6 + (x 0).val; omega) (Nat.zero_add _).symm).trans (r9 P _ _ _ _ (by dsimp only; omega) (by omega))
  refine step _ _ _ y _ ((y 0).val = 13 ∧ 640 ≤ (y 1).val ∧ (y 1).val < 768) (fun q => by simp only [Matrix.cons_val]; omega) ?_ fun m5 => ?_
  · tile_intro x h
    exact (ld2 P.x9 _ x ⟨5, by decide⟩ ⟨(x 1).val, x1_lt⟩ (by show 5 = 5 + (x 0).val; omega) (Nat.zero_add _).symm).trans (r9 P _ _ _ _ (by dsimp only; omega) (by omega))
  refine step _ _ _ y _ ((y 0).val = 13 ∧ 512 ≤ (y 1).val ∧ (y 1).val < 640) (fun q => by simp only [Matrix.cons_val]; omega) ?_ fun m4 => ?_
  · tile_intro x h
    exact (ld2 P.x9 _ x ⟨4, by decide⟩ ⟨(x 1).val, x1_lt⟩ (by show 4 = 4 + (x 0).val; omega) (Nat.zero_add _).symm).trans (r9 P _ _ _ _ (by dsimp only; omega) (by omega))
  refine step _ _ _ y _ ((y 0).val = 13 ∧ 384 ≤ (y 1).val ∧ (y 1).val < 512) (fun q => by simp only [Matrix.cons_val]; omega) ?_ fun m3 => ?_
  · tile_intro x h
    exact (ld2 P.x9 _ x ⟨3, by decide⟩ ⟨(x 1).val, x1_lt⟩ (by show 3 = 3 + (x 0).val; omega) (Nat.zero_add _).symm).trans (r9 P _ _ _ _ (by dsimp only; omega) (by omega))
  refine step _ _ _ y _ ((y 0).val = 13 ∧ 256 ≤ (y 1).val ∧ (y 1).val < 384) (fun q => by simp only [Matrix.cons_val]; omega) ?_ fun m2 => ?_
  · tile_intro x h
    exact (ld2 P.x9 _ x ⟨2, by decide⟩ ⟨(x 1).val, x1_lt⟩ (by show 2 = 2 + (x 0).val; omega) (Nat.zero_add _).symm).trans (r9 P _ _ _ _ (by dsimp only; omega) (by omega))
  refine step _ _ _ y _ ((y 0).val = 13 ∧ 128 ≤ (y 1).val ∧ (y 1).val < 256) (fun q => by simp only [Matrix.cons_val]; omega) ?_ fun m1 => ?_
  · tile_intro x h
    exact (ld2 P.x9 _ x ⟨1, by decide⟩ ⟨(x 1).val, x1_lt⟩ (by show 1 = 1 + (x 0).val; omega) (Nat.zero_add _).symm).trans (r9 P _ _ _ _ (by dsimp only; omega) (by omega))
  refine step _ _ _ y _ ((y 0).val = 13 ∧ 0 ≤ (y 1).val ∧ (y 1).val < 128) (fun q => by simp only [Matrix.cons_val]; omega) ?_ fun m0 => ?_
  · tile_intro x h
    exact (ld2 P.x9 _ x ⟨0, by decide⟩ ⟨(x 1).val, x1_lt⟩ (by show 0 = 0 + (x 0).val; omega) (Nat.zero_add _).symm).trans (r9 P _ _ _ _ (by dsimp only; omega) (by omega))
  have n13 : (y 0).val ≠ 13 := by omega
  clear m7 m6 m5 m4 m3 m2 m1 m0
  refine step _ _ _ y _ ((y 0).val = 12) (fun q => by simp only [Matrix.cons_val]; omega) ?_ fun n12 => ?_
  · tile_intro x h
    exact (ld2 P.x8 _ x 0 ⟨1024 + (x 1).val, by omega⟩ (by show 0 = 0 + (x 0).val; omega) rfl).trans (r8 P _ _ _ _ 1 (by decide) (by omega) (by dsimp only; omega))
  refine step _ _ _ y _ ((y 0).val = 11) (fun q => by simp only [Matrix.cons_val]; omega) ?_ fun n11 => ?_
  · tile_intro x h
    exact (ld2 P.x8 _ x 0 ⟨0 + (x 1).val, by omega⟩ (by show 0 = 0 + (x 0).val; omega) rfl).trans (r8 P _ _ _ _ 0 (by decide) (by omega) (by dsimp only; omega))
  refine step _ _ _ y _ ((y 0).val = 10) (fun q => by simp only [Matrix.cons_val]; omega) ?_ fun n10 => ?_
  · tile_intro x h
    exact (ld2 P.x7 _ x 0 ⟨1024 + (x 1).val, by omega⟩ (by show 0 = 0 + (x 0).val; omega) rfl).trans (r7 P _ _ _ _ 1 (by decide) (by omega) (by dsimp only; omega))
  refine step _ _ _ y _ ((y 0).val = 9) (fun q => by simp only [Matrix.cons_val]; omega) ?_ fun n9 => ?_
  · tile_intro x h
    exact (ld2 P.x7 _ x 0 ⟨0 + (x 1).val, by omega⟩ (by show 0 = 0 + (x 0).val; omega) rfl).trans (r7 P _ _ _ _ 0 (by decide) (by omega) (by dsimp only; omega))
  refine step _ _ _ y _ ((y 0).val = 8 ∧ (y 1).val < 128) (fun q => by simp only [Matrix.cons_val]; omega) ?_ fun n8 => ?_
  · tile_intro x h
    exact r6 P _ _ _ _ h1.symm (by omega)
  refine step _ _ _ y _ ((y 0).val = 7) (fun q => by simp only [Matrix.cons_val]; omega) ?_ fun n7 => ?_
  · tile_intro x h
    exact r5 P _ _ _ _ h1.symm (by omega)
  refine step _ _ _ y _ ((y 0).val = 6) (fun q => by simp only [Matrix.cons_val]; omega) ?_ fun n6 => ?_
  · tile_intro x h
    exact r4 P _ _ _ _ h1.symm (by omega)
  refine step _ _ _ y _ ((y 0).val = 5) (fun q => by simp only [Matrix.cons_val]; omega) ?_ fun n5 => ?_
  · tile_intro x h
    exact r3 P _ _ _ _ h1.symm (by omega)
  refine step _ _ _ y _ ((y 0).val = 4) (fun q => by simp only [Matrix.cons_val]; omega) ?_ fun n4 => ?_
  · tile_intro x h
    exact r2 P _ _ _ _ h1.symm (by omega)
  refine step _ _ _ y _ (1 ≤ (y 0).val ∧ (y 0).val < 4) (fun q => by simp only [Matrix.cons_val]; omega) ?_ fun n1 => ?_
  · tile_intro x h
    exact r1 P _ _ _ h1.symm _ (by omega)
  refine step _ _ _ y _ ((y 0).val = 0) (fun q => by simp only [Matrix.cons_val]; omega) ?_ fun n0 => ?_
  · tile_intro x h
    exact r0 P _ _ _ _ h1.symm (by omega)
  refine step _ _ _ y _ (True) (fun q => by simp only [Matrix.cons_val]; omega) ?_ fun nn => ?_
  · tile_intro x h
    pointwise [k0_pay1]
    exact zero P _ _ (rest n17 n16 n15 n14 n13 n12 n11 n10 n9 n8 n7 n6 n5 n4 n1 n0)
  exact absurd trivial nn
theorem arr0 : (dats m 0 c).arrAt 14 cfg0.N = ue2 .f32 (slab P) := by
  refine (dats m 0 c).arrAt_eq_of_covers 14 _ (by decide +kernel) fun t _ y => ?_
  blk_simp
  have key : ue2 .f32 (slab P) y = ue2 .f32 (slab P) (((cfg0.win 14).blk t).view.emb y) := by
    refine congrArg (ue2 .f32 (slab P)) (idx2 ?_ ?_) <;> blk_simp [idx t] <;> (try omega)
  refine Eq.trans ?_ key
  rw [after0_14]
  exact at0 m c P h0 h1 h2 h3 h4 h5 h6 h7 h8 h9 h10 h11 h12 h13 t y
end point
/-- The run from any arguments. -/
theorem run (m : (ℓ : Loc nD τ sig) → Buf (Elt Ideal) ℓ) (ρ : Dev nD → PrngReg) (P : Dev nD → Parts)
    (h0 : ∀ c : Dev nD, m ((c.tc : Thread nD τ).loc main_arg0) = ue2 .f32 (P c).x0)
    (h1 : ∀ c : Dev nD, m ((c.tc : Thread nD τ).loc main_arg1) = ue2 .f32 (P c).x1)
    (h2 : ∀ c : Dev nD, m ((c.tc : Thread nD τ).loc main_arg2) = ue2 .f32 (P c).x2)
    (h3 : ∀ c : Dev nD, m ((c.tc : Thread nD τ).loc main_arg3) = ue2 .f32 (P c).x3)
    (h4 : ∀ c : Dev nD, m ((c.tc : Thread nD τ).loc main_arg4) = ue2 .f32 (P c).x4)
    (h5 : ∀ c : Dev nD, m ((c.tc : Thread nD τ).loc main_arg5) = ue2 .f32 (P c).x5)
    (h6 : ∀ c : Dev nD, m ((c.tc : Thread nD τ).loc main_arg6) = ue2 .f32 (P c).x6)
    (h7 : ∀ c : Dev nD, m ((c.tc : Thread nD τ).loc main_arg7) = ue2 .f32 (P c).x7)
    (h8 : ∀ c : Dev nD, m ((c.tc : Thread nD τ).loc main_arg8) = ue2 .f32 (P c).x8)
    (h9 : ∀ c : Dev nD, m ((c.tc : Thread nD τ).loc main_arg9) = ue2 .f32 (P c).x9)
    (h10 : ∀ c : Dev nD, m ((c.tc : Thread nD τ).loc main_arg10) = ue2 .f32 (P c).x10)
    (h11 : ∀ c : Dev nD, m ((c.tc : Thread nD τ).loc main_arg11) = ue2 .f32 (P c).x11)
    (h12 : ∀ c : Dev nD, m ((c.tc : Thread nD τ).loc main_arg12) = ue2 .f32 (P c).x12)
    (h13 : ∀ c : Dev nD, m ((c.tc : Thread nD τ).loc main_arg13) = ue2 .f32 (P c).x13) :
    θ_run defs (onTc (τ := τ) (main (F := Ideal))) ⟨m, fun _ => 0, ρ⟩ fun r => ∀ c : Dev nD,
      r.2.mem ((c.tc : Thread nD τ).loc main_v0) = ue2 .f32 (slab (P c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (arr0 m c (P c) (h0 c) (h1 c) (h2 c) (h3 c) (h4 c) (h5 c) (h6 c) (h7 c) (h8 c) (h9 c) (h10 c) (h11 c) (h12 c) (h13 c)), (h c).2⟩) (Value.run_blocks m ρ)
end Cert.PackK
-- ==== Proof.PackR.lean ====
module
public import proofs.«01_k».proof.Proof.Gen.Reference20Ideal.Run
public import proofs.«01_k».proof.Proof.Gen.Reference20Ideal.Read
public import proofs.«01_k».proof.Proof.PackMath
@[expose] public section
set_option maxRecDepth 16384
noncomputable section
namespace Cert.PackR
open Idealize.ShloMosaic Idealize.ShloMosaic.TcCoe Idealize.SL.Sem
open Cert.Reference20Ideal Cert.Reference20Ideal.Gen Cert.Reference20Ideal.Read Cert.Lift Cert.PackMath

/-- The array is the slab's rows from row `o`. -/
def At (P : Parts) (o : ℕ) {n : ℕ} (A : FVec Ideal ⟨2, ![n, 1024]⟩ .f32) : Prop :=
  ∀ i : Shape.Idx ⟨2, ![n, 1024]⟩, o + n ≤ 24 → A i = slab P (Fin.ofNat 24 (o + (i 0).val)) (i 1)
theorem ofNat_val {o n : ℕ} (h : o + n ≤ 24) (a : Fin n) : (Fin.ofNat 24 (o + a.val)).val = o + a.val := by
  have := a.isLt
  rw [Fin.val_ofNat, Nat.mod_eq_of_lt (by omega)]
theorem one {o : ℕ} (h : o + 1 ≤ 24) (a : Fin 1) : (Fin.ofNat 24 (o + a.val)).val = o := (ofNat_val h a).trans (by have := a.isLt; omega)
/-- Two such arrays below each other. -/
theorem stage (P : Parts) {n k m : ℕ} (A : FVec Ideal ⟨2, ![n, 1024]⟩ .f32) (B : FVec Ideal ⟨2, ![k, 1024]⟩ .f32)
    (hc : Shape.Concatenates [⟨2, ![n, 1024]⟩, ⟨2, ![k, 1024]⟩] ⟨2, ![m, 1024]⟩ 0) (hm : m = n + k) (hA : At P 0 A) (hB : At P n B) :
    At P 0 (concatenate ⟨2, ![m, 1024]⟩ 0 [⟨⟨2, ![n, 1024]⟩, A⟩, ⟨⟨2, ![k, 1024]⟩, B⟩] hc) := by
  subst hm
  intro i hl
  by_cases h : (i 0).val < n
  · refine (concatenate_pair_apply_left 0 A B hc i rfl (ix2 ⟨(i 0).val, h⟩ (i 1)) ?_).trans (hA _ (by omega))
    intro b; fin_cases b <;> rfl
  · have hk : (i 0).val - n < k := by have h2 : (i 0).val < n + k := (i 0).isLt; omega
    refine (concatenate_pair_apply_right 0 A B hc i rfl rfl (ix2 ⟨(i 0).val - n, hk⟩ (i 1)) ?_ ?_).trans ((hB _ (by omega)).trans ?_)
    · intro b hb; fin_cases b
      · exact absurd rfl hb
      · rfl
    · show (i 0).val - n + n = (i 0).val
      omega
    · refine congrArg (fun r : ℕ => slab P (Fin.ofNat 24 r) (i 1)) ?_
      show n + ((i 0).val - n) = 0 + (i 0).val
      omega
section leaves
variable (P : Parts)
theorem l0 : At P 0 (ue2 .f32 P.x0) := fun i h => r0 P _ _ _ _ rfl (one h (i 0))
theorem l1 : At P 1 (ue2 .f32 P.x1) := fun i h => r1 P _ _ _ rfl _ ((ofNat_val h (i 0)).trans (Nat.add_comm _ _))
theorem l2 : At P 4 (ue2 .f32 P.x2) := fun i h => r2 P _ _ _ _ rfl (one h (i 0))
theorem l3 : At P 5 (ue2 .f32 P.x3) := fun i h => r3 P _ _ _ _ rfl (one h (i 0))
theorem l4 : At P 6 (ue2 .f32 P.x4) := fun i h => r4 P _ _ _ _ rfl (one h (i 0))
theorem l5 : At P 7 (ue2 .f32 P.x5) := fun i h => r5 P _ _ _ _ rfl (one h (i 0))
theorem l10 : At P 14 (ue2 .f32 P.x10) := fun i h => r10 P _ _ _ _ rfl (one h (i 0))
theorem l11 : At P 15 (ue2 .f32 P.x11) := fun i h => r11 P _ _ _ _ rfl (one h (i 0))
theorem l12 : At P 16 (ue2 .f32 P.x12) := fun i h => r12 P _ _ _ _ rfl (one h (i 0))
theorem l6 : At P 8 (n := 1) (val_main_v1 (F := Ideal) (ue2 .f32 P.x6)) := fun i h => by
  have h0 := ofNat_val h (i 0)
  have h1 : (i 0).val < 1 := (i 0).isLt
  pointwise [val_main_v1, val_main_v0, val_main_cst, ue2_apply]
  split_ifs
  · exact r6 P _ _ _ _ rfl rfl
  · exact zero P _ _ (.inr ⟨.inl rfl, by rename_i hh; exact Nat.le_of_not_lt hh⟩)
theorem l13 : At P 17 (n := 1) (val_main_v6 (F := Ideal) (ue2 .f32 P.x13)) := fun i h => by
  have h0 := ofNat_val h (i 0)
  have h1 : (i 0).val < 1 := (i 0).isLt
  pointwise [val_main_v6, val_main_v5, val_main_cst, val_main_cst_0, val_main_cst_1, ue2_apply]
  split_ifs
  · exact r13 P _ _ _ _ rfl rfl
  · exact zero P _ _ (.inr ⟨.inr rfl, by rename_i hh; exact Nat.le_of_not_lt hh⟩)
theorem l7 : At P 9 (n := 2) (val_main_v2 (F := Ideal) (ue2 .f32 P.x7)) := fun i h => by
  have h0 := ofNat_val h (i 0)
  have h1 : (i 0).val < 2 := (i 0).isLt
  pointwise [val_main_v2, ue2_apply]
  exact r7 P _ _ _ _ (i 0).val h1 h0 (by dsimp only; omega)
theorem l8 : At P 11 (n := 2) (val_main_v3 (F := Ideal) (ue2 .f32 P.x8)) := fun i h => by
  have h0 := ofNat_val h (i 0)
  have h1 : (i 0).val < 2 := (i 0).isLt
  pointwise [val_main_v3, ue2_apply]
  exact r8 P _ _ _ _ (i 0).val h1 h0 (by dsimp only; omega)
theorem l9 : At P 13 (n := 1) (val_main_v4 (F := Ideal) (ue2 .f32 P.x9)) := fun i h => by
  have h0 := ofNat_val h (i 0)
  have h1 : (i 0).val < 1 := (i 0).isLt
  pointwise [val_main_v4, ue2_apply]
  exact r9 P _ _ _ _ (by dsimp only; omega) rfl
theorem l14 : At P 18 (n := 6) (val_main_v7 (F := Ideal)) := fun i h => by
  have h0 := ofNat_val h (i 0)
  pointwise [val_main_v7, val_main_cst, val_main_cst_0, val_main_cst_1]
  exact zero P _ _ (.inl (by rw [h0]; omega))
end leaves
/-- The rows below each other are the slab. -/
theorem val (P : Parts) : (val_main_v21 (F := Ideal) (ue2 .f32 P.x0) (ue2 .f32 P.x1) (ue2 .f32 P.x2) (ue2 .f32 P.x3) (ue2 .f32 P.x4) (ue2 .f32 P.x5)
    (ue2 .f32 P.x6) (ue2 .f32 P.x7) (ue2 .f32 P.x8) (ue2 .f32 P.x9) (ue2 .f32 P.x10) (ue2 .f32 P.x11) (ue2 .f32 P.x12) (ue2 .f32 P.x13) : FVec Ideal S24x1024 .f32)
      = ue2 .f32 (slab P) := by
  have h := stage P _ _ concatenates_S1x1024_S3x1024_S4x1024_d0 rfl (l0 P) (l1 P)
  have h := stage P _ _ concatenates_S4x1024_S1x1024_S5x1024_d0 rfl h (l2 P)
  have h := stage P _ _ concatenates_S5x1024_S1x1024_S6x1024_d0 rfl h (l3 P)
  have h := stage P _ _ concatenates_S6x1024_S1x1024_S7x1024_d0 rfl h (l4 P)
  have h := stage P _ _ concatenates_S7x1024_S1x1024_S8x1024_d0 rfl h (l5 P)
  have h := stage P _ _ concatenates_S8x1024_S1x1024_S9x1024_d0 rfl h (l6 P)
  have h := stage P _ _ concatenates_S9x1024_S2x1024_S11x1024_d0 rfl h (l7 P)
  have h := stage P _ _ concatenates_S11x1024_S2x1024_S13x1024_d0 rfl h (l8 P)
  have h := stage P _ _ concatenates_S13x1024_S1x1024_S14x1024_d0 rfl h (l9 P)
  have h := stage P _ _ concatenates_S14x1024_S1x1024_S15x1024_d0 rfl h (l10 P)
  have h := stage P _ _ concatenates_S15x1024_S1x1024_S16x1024_d0 rfl h (l11 P)
  have h := stage P _ _ concatenates_S16x1024_S1x1024_S17x1024_d0 rfl h (l12 P)
  have h := stage P _ _ concatenates_S17x1024_S1x1024_S18x1024_d0 rfl h (l13 P)
  have h := stage P _ _ concatenates_S18x1024_S6x1024_S24x1024_d0 rfl h (l14 P)
  funext i
  refine (h i (by omega)).trans (congrArg (fun r => slab P r (i 1)) (Fin.ext ?_))
  exact (ofNat_val (n := 24) (by omega) (i 0)).trans (Nat.zero_add _)
/-- The run from any arguments. -/
theorem run (m : (ℓ : Loc nD τ sig) → Buf (Elt Ideal) ℓ) (ρ : Dev nD → PrngReg) (P : Dev nD → Parts)
    (h0 : ∀ c : Dev nD, m ((c.tc : Thread nD τ).loc main_arg0) = ue2 .f32 (P c).x0)
    (h1 : ∀ c : Dev nD, m ((c.tc : Thread nD τ).loc main_arg1) = ue2 .f32 (P c).x1)
    (h2 : ∀ c : Dev nD, m ((c.tc : Thread nD τ).loc main_arg2) = ue2 .f32 (P c).x2)
    (h3 : ∀ c : Dev nD, m ((c.tc : Thread nD τ).loc main_arg3) = ue2 .f32 (P c).x3)
    (h4 : ∀ c : Dev nD, m ((c.tc : Thread nD τ).loc main_arg4) = ue2 .f32 (P c).x4)
    (h5 : ∀ c : Dev nD, m ((c.tc : Thread nD τ).loc main_arg5) = ue2 .f32 (P c).x5)
    (h6 : ∀ c : Dev nD, m ((c.tc : Thread nD τ).loc main_arg6) = ue2 .f32 (P c).x6)
    (h7 : ∀ c : Dev nD, m ((c.tc : Thread nD τ).loc main_arg7) = ue2 .f32 (P c).x7)
    (h8 : ∀ c : Dev nD, m ((c.tc : Thread nD τ).loc main_arg8) = ue2 .f32 (P c).x8)
    (h9 : ∀ c : Dev nD, m ((c.tc : Thread nD τ).loc main_arg9) = ue2 .f32 (P c).x9)
    (h10 : ∀ c : Dev nD, m ((c.tc : Thread nD τ).loc main_arg10) = ue2 .f32 (P c).x10)
    (h11 : ∀ c : Dev nD, m ((c.tc : Thread nD τ).loc main_arg11) = ue2 .f32 (P c).x11)
    (h12 : ∀ c : Dev nD, m ((c.tc : Thread nD τ).loc main_arg12) = ue2 .f32 (P c).x12)
    (h13 : ∀ c : Dev nD, m ((c.tc : Thread nD τ).loc main_arg13) = ue2 .f32 (P c).x13) :
    θ_run defs (onTc (τ := τ) (main (F := Ideal))) ⟨m, fun _ => 0, ρ⟩ fun r => ∀ c : Dev nD,
      r.2.mem ((c.tc : Thread nD τ).loc main_v21) = ue2 .f32 (slab (P c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1.trans (val_main_v21_eq _ _ _ _ _ _ _ _ _ _ _ _ _ _)).trans (by
        rw [h0 c, h1 c, h2 c, h3 c, h4 c, h5 c, h6 c, h7 c, h8 c, h9 c, h10 c, h11 c, h12 c, h13 c]
        exact val (P c)),
      (h c).2⟩) (Cert.Reference20Ideal.Value.run m ρ)
end Cert.PackR
-- ==== Proof.Pack.lean ====
module
public import proofs.«01_k».proof.Defs
public import proofs.«01_k».proof.Proof.Gen.Kernel20
public import proofs.«01_k».proof.Proof.Gen.Kernel20.Frame
public import proofs.«01_k».proof.Proof.PackK
public import proofs.«01_k».proof.Proof.PackR
public import Idealize.ShloMosaic.Adequacy
public import Idealize.ShloMosaic.Init
public import Idealize.ShloMosaic.Lib.Quiescent
@[expose] public section
set_option maxRecDepth 16384
noncomputable section
namespace Cert.Pack
open Idealize.ShloMosaic Idealize.ShloMosaic.TcCoe Idealize.SL.Sem Cert.Lift

theorem frame_kernel : Cert.quiescent_Kernel20 (hKernel20 := Cert.Kernel20.Gen.facts) := fun m ρ _ => Cert.Kernel20.Gen.frame m ρ
theorem frame_ideal : Cert.quiescent_Kernel20Ideal (hKernel20Ideal := Cert.Kernel20Ideal.Gen.facts) :=
  fun m ρ _ => Cert.Kernel20Ideal.Gen.frame m ρ
theorem frame_reference : Cert.quiescent_Reference20Ideal (hReference20Ideal := Cert.Reference20Ideal.Gen.facts) :=
  fun m ρ _ => (θ_run Cert.Reference20Ideal.defs _ _).mono
    (fun r h => ⟨fun c => (h c).2, sem_eq_zero_of_no_sems (by decide) r.2⟩) (Cert.Reference20Ideal.Value.run m ρ)

/-- For any arguments the slab that the kernel packs is the rows of the reference, the narrow ones widened by zeros. -/
theorem algebraic : Cert.algebraic_Kernel20Ideal_Reference20Ideal (hKernel20Ideal := Cert.Kernel20Ideal.Gen.facts)
    (hReference20Ideal := Cert.Reference20Ideal.Gen.facts) := by
  intro m0 g0 m1 g1 _ hagree
  choose x0 hx0 using fun c : Dev Cert.Kernel20Ideal.nD => exists_ue2 .f32 (m0 ((c.tc : Thread Cert.Kernel20Ideal.nD Cert.Kernel20Ideal.τ).loc Cert.Kernel20Ideal.main_arg0))
  choose x1 hx1 using fun c : Dev Cert.Kernel20Ideal.nD => exists_ue2 .f32 (m0 ((c.tc : Thread Cert.Kernel20Ideal.nD Cert.Kernel20Ideal.τ).loc Cert.Kernel20Ideal.main_arg1))
  choose x2 hx2 using fun c : Dev Cert.Kernel20Ideal.nD => exists_ue2 .f32 (m0 ((c.tc : Thread Cert.Kernel20Ideal.nD Cert.Kernel20Ideal.τ).loc Cert.Kernel20Ideal.main_arg2))
  choose x3 hx3 using fun c : Dev Cert.Kernel20Ideal.nD => exists_ue2 .f32 (m0 ((c.tc : Thread Cert.Kernel20Ideal.nD Cert.Kernel20Ideal.τ).loc Cert.Kernel20Ideal.main_arg3))
  choose x4 hx4 using fun c : Dev Cert.Kernel20Ideal.nD => exists_ue2 .f32 (m0 ((c.tc : Thread Cert.Kernel20Ideal.nD Cert.Kernel20Ideal.τ).loc Cert.Kernel20Ideal.main_arg4))
  choose x5 hx5 using fun c : Dev Cert.Kernel20Ideal.nD => exists_ue2 .f32 (m0 ((c.tc : Thread Cert.Kernel20Ideal.nD Cert.Kernel20Ideal.τ).loc Cert.Kernel20Ideal.main_arg5))
  choose x6 hx6 using fun c : Dev Cert.Kernel20Ideal.nD => exists_ue2 .f32 (m0 ((c.tc : Thread Cert.Kernel20Ideal.nD Cert.Kernel20Ideal.τ).loc Cert.Kernel20Ideal.main_arg6))
  choose x7 hx7 using fun c : Dev Cert.Kernel20Ideal.nD => exists_ue2 .f32 (m0 ((c.tc : Thread Cert.Kernel20Ideal.nD Cert.Kernel20Ideal.τ).loc Cert.Kernel20Ideal.main_arg7))
  choose x8 hx8 using fun c : Dev Cert.Kernel20Ideal.nD => exists_ue2 .f32 (m0 ((c.tc : Thread Cert.Kernel20Ideal.nD Cert.Kernel20Ideal.τ).loc Cert.Kernel20Ideal.main_arg8))
  choose x9 hx9 using fun c : Dev Cert.Kernel20Ideal.nD => exists_ue2 .f32 (m0 ((c.tc : Thread Cert.Kernel20Ideal.nD Cert.Kernel20Ideal.τ).loc Cert.Kernel20Ideal.main_arg9))
  choose x10 hx10 using fun c : Dev Cert.Kernel20Ideal.nD => exists_ue2 .f32 (m0 ((c.tc : Thread Cert.Kernel20Ideal.nD Cert.Kernel20Ideal.τ).loc Cert.Kernel20Ideal.main_arg10))
  choose x11 hx11 using fun c : Dev Cert.Kernel20Ideal.nD => exists_ue2 .f32 (m0 ((c.tc : Thread Cert.Kernel20Ideal.nD Cert.Kernel20Ideal.τ).loc Cert.Kernel20Ideal.main_arg11))
  choose x12 hx12 using fun c : Dev Cert.Kernel20Ideal.nD => exists_ue2 .f32 (m0 ((c.tc : Thread Cert.Kernel20Ideal.nD Cert.Kernel20Ideal.τ).loc Cert.Kernel20Ideal.main_arg12))
  choose x13 hx13 using fun c : Dev Cert.Kernel20Ideal.nD => exists_ue2 .f32 (m0 ((c.tc : Thread Cert.Kernel20Ideal.nD Cert.Kernel20Ideal.τ).loc Cert.Kernel20Ideal.main_arg13))
  exact ⟨_, Cert.PackK.run m0 g0 (fun c => ⟨x0 c, x1 c, x2 c, x3 c, x4 c, x5 c, x6 c, x7 c, x8 c, x9 c, x10 c, x11 c, x12 c, x13 c⟩) hx0 hx1 hx2 hx3 hx4 hx5 hx6 hx7 hx8 hx9 hx10 hx11 hx12 hx13,
    Cert.PackR.run m1 g1 (fun c => ⟨x0 c, x1 c, x2 c, x3 c, x4 c, x5 c, x6 c, x7 c, x8 c, x9 c, x10 c, x11 c, x12 c, x13 c⟩)
      (fun c => (hagree c).1.trans (hx0 c))
      (fun c => (hagree c).2.1.trans (hx1 c))
      (fun c => (hagree c).2.2.1.trans (hx2 c))
      (fun c => (hagree c).2.2.2.1.trans (hx3 c))
      (fun c => (hagree c).2.2.2.2.1.trans (hx4 c))
      (fun c => (hagree c).2.2.2.2.2.1.trans (hx5 c))
      (fun c => (hagree c).2.2.2.2.2.2.1.trans (hx6 c))
      (fun c => (hagree c).2.2.2.2.2.2.2.1.trans (hx7 c))
      (fun c => (hagree c).2.2.2.2.2.2.2.2.1.trans (hx8 c))
      (fun c => (hagree c).2.2.2.2.2.2.2.2.2.1.trans (hx9 c))
      (fun c => (hagree c).2.2.2.2.2.2.2.2.2.2.1.trans (hx10 c))
      (fun c => (hagree c).2.2.2.2.2.2.2.2.2.2.2.1.trans (hx11 c))
      (fun c => (hagree c).2.2.2.2.2.2.2.2.2.2.2.2.1.trans (hx12 c))
      (fun c => (hagree c).2.2.2.2.2.2.2.2.2.2.2.2.2.trans (hx13 c))⟩
end Cert.Pack
-- ==== Proof.lean ====
module
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite12
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Step
public import proofs.«01_k».proof.Proof.Gen.Pre_finite14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Loss
public import proofs.«01_k».proof.Proof.Norm2
public import proofs.«01_k».proof.Proof.Norm3
public import proofs.«01_k».proof.Proof.Ffn
public import proofs.«01_k».proof.Proof.Attn
public import proofs.«01_k».proof.Proof.Attn1
public import proofs.«01_k».proof.Proof.AttnF
public import proofs.«01_k».proof.Proof.Gate
public import proofs.«01_k».proof.Proof.GateF
public import proofs.«01_k».proof.Proof.FfnF
public import proofs.«01_k».proof.Proof.RmsF
public import proofs.«01_k».proof.Proof.Hgrn
public import proofs.«01_k».proof.Proof.Mm
public import proofs.«01_k».proof.Proof.Planes
public import proofs.«01_k».proof.Proof.Vecs
public import proofs.«01_k».proof.Proof.Slabs
public import proofs.«01_k».proof.Proof.Big
public import proofs.«01_k».proof.Proof.Pack
public import Idealize.ShloMosaic.Adequacy
public import Idealize.ShloMosaic.Init

@[expose] public section

noncomputable section

namespace Cert.Proof

open Idealize.ShloMosaic Idealize.SL.Sem

/-- Every claim of the statement. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel6.Gen.facts, Cert.Kernel6Ideal.Gen.facts, Cert.Reference6Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite2.Gen.facts, Cert.Pre_finite3.Gen.facts, Cert.Pre_finite4.Gen.facts, Cert.Pre_finite5.Gen.facts, Cert.Pre_finite8.Gen.facts, Cert.Pre_finite9.Gen.facts, Cert.Pre_finite6.Gen.facts, Cert.Pre_finite10.Gen.facts, Cert.Pre_finite11.Gen.facts, Cert.Pre_finite12.Gen.facts, Cert.Pre_finite14.Gen.facts,
    Cert.Loss.frame_kernel,
    Cert.Loss.frame_ideal,
    Cert.Loss.frame_ideal_pre,
    Cert.Loss.frame_reference,
    Cert.Loss.frame_reference_pre,
    Cert.Norm2.frame_kernel,
    Cert.Norm2.frame_ideal,
    Cert.Norm2.frame_ideal_pre,
    Cert.Norm2.frame_reference,
    Cert.Norm2.frame_reference_pre,
    Cert.Norm3.frame_kernel,
    Cert.Norm3.frame_ideal,
    Cert.Norm3.frame_ideal_pre,
    Cert.Norm3.frame_reference,
    Cert.Norm3.frame_reference_pre,
    Cert.Ffn.frame_kernel,
    Cert.Ffn.frame_ideal,
    Cert.Ffn.frame_ideal_pre,
    Cert.Ffn.frame_reference,
    Cert.Ffn.frame_reference_pre,
    Cert.Attn.frame_kernel,
    Cert.Attn.frame_ideal,
    Cert.Attn.frame_ideal_pre,
    Cert.Attn.frame_reference,
    Cert.Attn.frame_reference_pre,
    Cert.Attn1.frame_kernel,
    Cert.Attn1.frame_ideal,
    Cert.Attn1.frame_ideal_pre,
    Cert.Attn1.frame_reference,
    Cert.Attn1.frame_reference_pre,
    Cert.AttnF.frame_kernel,
    Cert.AttnF.frame_ideal,
    Cert.AttnF.frame_ideal_pre,
    Cert.AttnF.frame_reference,
    Cert.AttnF.frame_reference_pre,
    Cert.Gate.frame_kernel,
    Cert.Gate.frame_ideal,
    Cert.Gate.frame_ideal_pre,
    Cert.Gate.frame_reference,
    Cert.Gate.frame_reference_pre,
    Cert.GateF.frame_kernel,
    Cert.GateF.frame_ideal,
    Cert.GateF.frame_ideal_pre,
    Cert.GateF.frame_reference,
    Cert.GateF.frame_reference_pre,
    Cert.FfnF.frame_kernel,
    Cert.FfnF.frame_ideal,
    Cert.FfnF.frame_ideal_pre,
    Cert.FfnF.frame_reference,
    Cert.FfnF.frame_reference_pre,
    Cert.RmsF.frame_kernel,
    Cert.RmsF.frame_ideal,
    Cert.RmsF.frame_ideal_pre,
    Cert.RmsF.frame_reference,
    Cert.RmsF.frame_reference_pre,
    Cert.Hgrn.frame_kernel,
    Cert.Hgrn.frame_ideal,
    Cert.Hgrn.frame_ideal_pre,
    Cert.Hgrn.frame_reference,
    Cert.Hgrn.frame_reference_pre,
    Cert.Mm.frame_kernel,
    Cert.Mm.frame_ideal,
    Cert.Mm.frame_reference,
    Cert.Planes.frame_kernel,
    Cert.Planes.frame_ideal,
    Cert.Planes.frame_reference,
    Cert.Vecs.frame_kernel,
    Cert.Vecs.frame_ideal,
    Cert.Vecs.frame_reference,
    Cert.Slabs.frame_kernel,
    Cert.Slabs.frame_ideal,
    Cert.Slabs.frame_reference,
    Cert.Big.frame_kernel,
    Cert.Big.frame_ideal,
    Cert.Big.frame_reference,
    Cert.Pack.frame_kernel,
    Cert.Pack.frame_ideal,
    Cert.Pack.frame_reference,
    trivial,
    Cert.Loss.algebraic,
    trivial,
    Cert.Norm2.algebraic,
    trivial,
    Cert.Norm3.algebraic,
    trivial,
    Cert.Ffn.algebraic,
    trivial,
    Cert.Attn.algebraic,
    trivial,
    Cert.Attn1.algebraic,
    trivial,
    Cert.AttnF.algebraic,
    Cert.Gate.preserve,
    Cert.Gate.algebraic,
    Cert.GateF.preserve,
    Cert.GateF.algebraic,
    trivial,
    Cert.FfnF.algebraic,
    trivial,
    Cert.RmsF.algebraic,
    trivial,
    Cert.Hgrn.algebraic,
    trivial,
    Cert.Mm.algebraic,
    trivial,
    Cert.Planes.algebraic,
    trivial,
    Cert.Vecs.algebraic,
    trivial,
    Cert.Slabs.algebraic,
    trivial,
    Cert.Big.algebraic,
    trivial,
    Cert.Pack.algebraic⟩

end Cert.Proof

end
